-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_PrepKernel (m : (ℓ : Loc Cert.PrepKernel.nD Cert.PrepKernel.τ Cert.PrepKernel.sig) → Buf (Elt Bits) ℓ) : Prop :=
  True

def Pre_PrepKernelIdeal (m : (ℓ : Loc Cert.PrepKernelIdeal.nD Cert.PrepKernelIdeal.τ Cert.PrepKernelIdeal.sig) → Buf (Elt Ideal) ℓ) : Prop :=
  True

def Pre_PrepKernelIdeal_finite_prep [hPre_finite_prep : Cert.Pre_finite_prep.Facts] (m : (ℓ : Loc Cert.PrepKernelIdeal.nD Cert.PrepKernelIdeal.τ Cert.PrepKernelIdeal.sig) → Buf (Elt Ideal) ℓ) : Prop :=
  ∀ c : Dev Cert.PrepKernelIdeal.nD,
    (Cert.Pre_finite_prep.fn (F := Ideal) (m ((c.tc : Thread Cert.PrepKernelIdeal.nD Cert.PrepKernelIdeal.τ).loc Cert.PrepKernelIdeal.main_arg0)) (m ((c.tc : Thread Cert.PrepKernelIdeal.nD Cert.PrepKernelIdeal.τ).loc Cert.PrepKernelIdeal.main_arg1)) (m ((c.tc : Thread Cert.PrepKernelIdeal.nD Cert.PrepKernelIdeal.τ).loc Cert.PrepKernelIdeal.main_arg2)) (m ((c.tc : Thread Cert.PrepKernelIdeal.nD Cert.PrepKernelIdeal.τ).loc Cert.PrepKernelIdeal.main_arg3)) (m ((c.tc : Thread Cert.PrepKernelIdeal.nD Cert.PrepKernelIdeal.τ).loc Cert.PrepKernelIdeal.main_arg4)) (m ((c.tc : Thread Cert.PrepKernelIdeal.nD Cert.PrepKernelIdeal.τ).loc Cert.PrepKernelIdeal.main_arg5))) = (fun _ => 1#1)

def Pre_PrepReferenceIdeal (m : (ℓ : Loc Cert.PrepReferenceIdeal.nD Cert.PrepReferenceIdeal.τ Cert.PrepReferenceIdeal.sig) → Buf (Elt Ideal) ℓ) : Prop :=
  True

def Pre_PrepReferenceIdeal_finite_prep [hPre_finite_prep : Cert.Pre_finite_prep.Facts] (m : (ℓ : Loc Cert.PrepReferenceIdeal.nD Cert.PrepReferenceIdeal.τ Cert.PrepReferenceIdeal.sig) → Buf (Elt Ideal) ℓ) : Prop :=
  ∀ c : Dev Cert.PrepReferenceIdeal.nD,
    (Cert.Pre_finite_prep.fn (F := Ideal) (m ((c.tc : Thread Cert.PrepReferenceIdeal.nD Cert.PrepReferenceIdeal.τ).loc Cert.PrepReferenceIdeal.main_arg0)) (m ((c.tc : Thread Cert.PrepReferenceIdeal.nD Cert.PrepReferenceIdeal.τ).loc Cert.PrepReferenceIdeal.main_arg1)) (m ((c.tc : Thread Cert.PrepReferenceIdeal.nD Cert.PrepReferenceIdeal.τ).loc Cert.PrepReferenceIdeal.main_arg2)) (m ((c.tc : Thread Cert.PrepReferenceIdeal.nD Cert.PrepReferenceIdeal.τ).loc Cert.PrepReferenceIdeal.main_arg3)) (m ((c.tc : Thread Cert.PrepReferenceIdeal.nD Cert.PrepReferenceIdeal.τ).loc Cert.PrepReferenceIdeal.main_arg4)) (m ((c.tc : Thread Cert.PrepReferenceIdeal.nD Cert.PrepReferenceIdeal.τ).loc Cert.PrepReferenceIdeal.main_arg5))) = (fun _ => 1#1)

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InKernelIdeal_finite_in [hPre_finite_in : Cert.Pre_finite_in.Facts] (m : (ℓ : Loc Cert.InKernelIdeal.nD Cert.InKernelIdeal.τ Cert.InKernelIdeal.sig) → Buf (Elt Ideal) ℓ) : Prop :=
  ∀ c : Dev Cert.InKernelIdeal.nD,
    (Cert.Pre_finite_in.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4)) (m ((c.tc : Thread Cert.InKernelIdeal.nD Cert.InKernelIdeal.τ).loc Cert.InKernelIdeal.main_arg5))) = (fun _ => 1#1)

def Pre_InReferenceIdeal (m : (ℓ : Loc Cert.InReferenceIdeal.nD Cert.InReferenceIdeal.τ Cert.InReferenceIdeal.sig) → Buf (Elt Ideal) ℓ) : Prop :=
  True

def Pre_InReferenceIdeal_finite_in [hPre_finite_in : Cert.Pre_finite_in.Facts] (m : (ℓ : Loc Cert.InReferenceIdeal.nD Cert.InReferenceIdeal.τ Cert.InReferenceIdeal.sig) → Buf (Elt Ideal) ℓ) : Prop :=
  ∀ c : Dev Cert.InReferenceIdeal.nD,
    (Cert.Pre_finite_in.fn (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg4)) (m ((c.tc : Thread Cert.InReferenceIdeal.nD Cert.InReferenceIdeal.τ).loc Cert.InReferenceIdeal.main_arg5))) = (fun _ => 1#1)

def Pre_MidKernel (m : (ℓ : Loc Cert.MidKernel.nD Cert.MidKernel.τ Cert.MidKernel.sig) → Buf (Elt Bits) ℓ) : Prop :=
  True

def Pre_MidKernelIdeal (m : (ℓ : Loc Cert.MidKernelIdeal.nD Cert.MidKernelIdeal.τ Cert.MidKernelIdeal.sig) → Buf (Elt Ideal) ℓ) : Prop :=
  True

def Pre_MidKernelIdeal_finite_mid [hPre_finite_mid : Cert.Pre_finite_mid.Facts] (m : (ℓ : Loc Cert.MidKernelIdeal.nD Cert.MidKernelIdeal.τ Cert.MidKernelIdeal.sig) → Buf (Elt Ideal) ℓ) : Prop :=
  ∀ c : Dev Cert.MidKernelIdeal.nD,
    (Cert.Pre_finite_mid.fn (F := Ideal) (m ((c.tc : Thread Cert.MidKernelIdeal.nD Cert.MidKernelIdeal.τ).loc Cert.MidKernelIdeal.main_arg0)) (m ((c.tc : Thread Cert.MidKernelIdeal.nD Cert.MidKernelIdeal.τ).loc Cert.MidKernelIdeal.main_arg1)) (m ((c.tc : Thread Cert.MidKernelIdeal.nD Cert.MidKernelIdeal.τ).loc Cert.MidKernelIdeal.main_arg2)) (m ((c.tc : Thread Cert.MidKernelIdeal.nD Cert.MidKernelIdeal.τ).loc Cert.MidKernelIdeal.main_arg3)) (m ((c.tc : Thread Cert.MidKernelIdeal.nD Cert.MidKernelIdeal.τ).loc Cert.MidKernelIdeal.main_arg4)) (m ((c.tc : Thread Cert.MidKernelIdeal.nD Cert.MidKernelIdeal.τ).loc Cert.MidKernelIdeal.main_arg5)) (m ((c.tc : Thread Cert.MidKernelIdeal.nD Cert.MidKernelIdeal.τ).loc Cert.MidKernelIdeal.main_arg6)) (m ((c.tc : Thread Cert.MidKernelIdeal.nD Cert.MidKernelIdeal.τ).loc Cert.MidKernelIdeal.main_arg7)) (m ((c.tc : Thread Cert.MidKernelIdeal.nD Cert.MidKernelIdeal.τ).loc Cert.MidKernelIdeal.main_arg8)) (m ((c.tc : Thread Cert.MidKernelIdeal.nD Cert.MidKernelIdeal.τ).loc Cert.MidKernelIdeal.main_arg9))) = (fun _ => 1#1)

def Pre_MidReferenceIdeal (m : (ℓ : Loc Cert.MidReferenceIdeal.nD Cert.MidReferenceIdeal.τ Cert.MidReferenceIdeal.sig) → Buf (Elt Ideal) ℓ) : Prop :=
  True

def Pre_MidReferenceIdeal_finite_mid [hPre_finite_mid : Cert.Pre_finite_mid.Facts] (m : (ℓ : Loc Cert.MidReferenceIdeal.nD Cert.MidReferenceIdeal.τ Cert.MidReferenceIdeal.sig) → Buf (Elt Ideal) ℓ) : Prop :=
  ∀ c : Dev Cert.MidReferenceIdeal.nD,
    (Cert.Pre_finite_mid.fn (F := Ideal) (m ((c.tc : Thread Cert.MidReferenceIdeal.nD Cert.MidReferenceIdeal.τ).loc Cert.MidReferenceIdeal.main_arg0)) (m ((c.tc : Thread Cert.MidReferenceIdeal.nD Cert.MidReferenceIdeal.τ).loc Cert.MidReferenceIdeal.main_arg1)) (m ((c.tc : Thread Cert.MidReferenceIdeal.nD Cert.MidReferenceIdeal.τ).loc Cert.MidReferenceIdeal.main_arg2)) (m ((c.tc : Thread Cert.MidReferenceIdeal.nD Cert.MidReferenceIdeal.τ).loc Cert.MidReferenceIdeal.main_arg3)) (m ((c.tc : Thread Cert.MidReferenceIdeal.nD Cert.MidReferenceIdeal.τ).loc Cert.MidReferenceIdeal.main_arg4)) (m ((c.tc : Thread Cert.MidReferenceIdeal.nD Cert.MidReferenceIdeal.τ).loc Cert.MidReferenceIdeal.main_arg5)) (m ((c.tc : Thread Cert.MidReferenceIdeal.nD Cert.MidReferenceIdeal.τ).loc Cert.MidReferenceIdeal.main_arg6)) (m ((c.tc : Thread Cert.MidReferenceIdeal.nD Cert.MidReferenceIdeal.τ).loc Cert.MidReferenceIdeal.main_arg7)) (m ((c.tc : Thread Cert.MidReferenceIdeal.nD Cert.MidReferenceIdeal.τ).loc Cert.MidReferenceIdeal.main_arg8)) (m ((c.tc : Thread Cert.MidReferenceIdeal.nD Cert.MidReferenceIdeal.τ).loc Cert.MidReferenceIdeal.main_arg9))) = (fun _ => 1#1)

def Pre_AttKernel (m : (ℓ : Loc Cert.AttKernel.nD Cert.AttKernel.τ Cert.AttKernel.sig) → Buf (Elt Bits) ℓ) : Prop :=
  True

def Pre_AttKernelIdeal (m : (ℓ : Loc Cert.AttKernelIdeal.nD Cert.AttKernelIdeal.τ Cert.AttKernelIdeal.sig) → Buf (Elt Ideal) ℓ) : Prop :=
  True

def Pre_AttKernelIdeal_finite_att [hPre_finite_att : Cert.Pre_finite_att.Facts] (m : (ℓ : Loc Cert.AttKernelIdeal.nD Cert.AttKernelIdeal.τ Cert.AttKernelIdeal.sig) → Buf (Elt Ideal) ℓ) : Prop :=
  ∀ c : Dev Cert.AttKernelIdeal.nD,
    (Cert.Pre_finite_att.fn (F := Ideal) (m ((c.tc : Thread Cert.AttKernelIdeal.nD Cert.AttKernelIdeal.τ).loc Cert.AttKernelIdeal.main_arg0)) (m ((c.tc : Thread Cert.AttKernelIdeal.nD Cert.AttKernelIdeal.τ).loc Cert.AttKernelIdeal.main_arg1)) (m ((c.tc : Thread Cert.AttKernelIdeal.nD Cert.AttKernelIdeal.τ).loc Cert.AttKernelIdeal.main_arg2)) (m ((c.tc : Thread Cert.AttKernelIdeal.nD Cert.AttKernelIdeal.τ).loc Cert.AttKernelIdeal.main_arg3))) = (fun _ => 1#1)

def Pre_AttReferenceIdeal (m : (ℓ : Loc Cert.AttReferenceIdeal.nD Cert.AttReferenceIdeal.τ Cert.AttReferenceIdeal.sig) → Buf (Elt Ideal) ℓ) : Prop :=
  True

def Pre_AttReferenceIdeal_finite_att [hPre_finite_att : Cert.Pre_finite_att.Facts] (m : (ℓ : Loc Cert.AttReferenceIdeal.nD Cert.AttReferenceIdeal.τ Cert.AttReferenceIdeal.sig) → Buf (Elt Ideal) ℓ) : Prop :=
  ∀ c : Dev Cert.AttReferenceIdeal.nD,
    (Cert.Pre_finite_att.fn (F := Ideal) (m ((c.tc : Thread Cert.AttReferenceIdeal.nD Cert.AttReferenceIdeal.τ).loc Cert.AttReferenceIdeal.main_arg0)) (m ((c.tc : Thread Cert.AttReferenceIdeal.nD Cert.AttReferenceIdeal.τ).loc Cert.AttReferenceIdeal.main_arg1)) (m ((c.tc : Thread Cert.AttReferenceIdeal.nD Cert.AttReferenceIdeal.τ).loc Cert.AttReferenceIdeal.main_arg2)) (m ((c.tc : Thread Cert.AttReferenceIdeal.nD Cert.AttReferenceIdeal.τ).loc Cert.AttReferenceIdeal.main_arg3))) = (fun _ => 1#1)

def Pre_FwdKernel (m : (ℓ : Loc Cert.FwdKernel.nD Cert.FwdKernel.τ Cert.FwdKernel.sig) → Buf (Elt Bits) ℓ) : Prop :=
  True

def Pre_FwdKernelIdeal (m : (ℓ : Loc Cert.FwdKernelIdeal.nD Cert.FwdKernelIdeal.τ Cert.FwdKernelIdeal.sig) → Buf (Elt Ideal) ℓ) : Prop :=
  True

def Pre_FwdReferenceIdeal (m : (ℓ : Loc Cert.FwdReferenceIdeal.nD Cert.FwdReferenceIdeal.τ Cert.FwdReferenceIdeal.sig) → Buf (Elt Ideal) ℓ) : Prop :=
  True

def Pre_OptKernel (m : (ℓ : Loc Cert.OptKernel.nD Cert.OptKernel.τ Cert.OptKernel.sig) → Buf (Elt Bits) ℓ) : Prop :=
  True

def Pre_OptKernelIdeal (m : (ℓ : Loc Cert.OptKernelIdeal.nD Cert.OptKernelIdeal.τ Cert.OptKernelIdeal.sig) → Buf (Elt Ideal) ℓ) : Prop :=
  True

def Pre_OptReferenceIdeal (m : (ℓ : Loc Cert.OptReferenceIdeal.nD Cert.OptReferenceIdeal.τ Cert.OptReferenceIdeal.sig) → Buf (Elt Ideal) ℓ) : Prop :=
  True

def Pre_MmKernel (m : (ℓ : Loc Cert.MmKernel.nD Cert.MmKernel.τ Cert.MmKernel.sig) → Buf (Elt Bits) ℓ) : Prop :=
  True

def Pre_MmKernelIdeal (m : (ℓ : Loc Cert.MmKernelIdeal.nD Cert.MmKernelIdeal.τ Cert.MmKernelIdeal.sig) → Buf (Elt Ideal) ℓ) : Prop :=
  True

def Pre_MmReferenceIdeal (m : (ℓ : Loc Cert.MmReferenceIdeal.nD Cert.MmReferenceIdeal.τ Cert.MmReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_PrepKernel [hPrepKernel : Cert.PrepKernel.Facts] : Prop :=
  ∀ (m : (ℓ : Loc Cert.PrepKernel.nD Cert.PrepKernel.τ Cert.PrepKernel.sig) → Buf (Elt Bits) ℓ) (g : Dev Cert.PrepKernel.nD → PrngReg), Pre_PrepKernel m →
    θ_run (Cert.PrepKernel.defs (F := Bits)) (onTc (τ := Cert.PrepKernel.τ) (Cert.PrepKernel.main (F := Bits))) ⟨m, fun _ => 0, g⟩ (fun r => (∀ c : Dev Cert.PrepKernel.nD,
      r.2.mem ((c.tc : Thread Cert.PrepKernel.nD Cert.PrepKernel.τ).loc Cert.PrepKernel.main_arg0) = m ((c.tc : Thread Cert.PrepKernel.nD Cert.PrepKernel.τ).loc Cert.PrepKernel.main_arg0)
      ∧ r.2.mem ((c.tc : Thread Cert.PrepKernel.nD Cert.PrepKernel.τ).loc Cert.PrepKernel.main_arg1) = m ((c.tc : Thread Cert.PrepKernel.nD Cert.PrepKernel.τ).loc Cert.PrepKernel.main_arg1)
      ∧ r.2.mem ((c.tc : Thread Cert.PrepKernel.nD Cert.PrepKernel.τ).loc Cert.PrepKernel.main_arg2) = m ((c.tc : Thread Cert.PrepKernel.nD Cert.PrepKernel.τ).loc Cert.PrepKernel.main_arg2)
      ∧ r.2.mem ((c.tc : Thread Cert.PrepKernel.nD Cert.PrepKernel.τ).loc Cert.PrepKernel.main_arg3) = m ((c.tc : Thread Cert.PrepKernel.nD Cert.PrepKernel.τ).loc Cert.PrepKernel.main_arg3)
      ∧ r.2.mem ((c.tc : Thread Cert.PrepKernel.nD Cert.PrepKernel.τ).loc Cert.PrepKernel.main_arg4) = m ((c.tc : Thread Cert.PrepKernel.nD Cert.PrepKernel.τ).loc Cert.PrepKernel.main_arg4)
      ∧ r.2.mem ((c.tc : Thread Cert.PrepKernel.nD Cert.PrepKernel.τ).loc Cert.PrepKernel.main_arg5) = m ((c.tc : Thread Cert.PrepKernel.nD Cert.PrepKernel.τ).loc Cert.PrepKernel.main_arg5))
      ∧ r.2.sem = fun _ => 0)

def quiescent_PrepKernelIdeal [hPrepKernelIdeal : Cert.PrepKernelIdeal.Facts] : Prop :=
  ∀ (m : (ℓ : Loc Cert.PrepKernelIdeal.nD Cert.PrepKernelIdeal.τ Cert.PrepKernelIdeal.sig) → Buf (Elt Ideal) ℓ) (g : Dev Cert.PrepKernelIdeal.nD → PrngReg), Pre_PrepKernelIdeal m →
    θ_run (Cert.PrepKernelIdeal.defs (F := Ideal)) (onTc (τ := Cert.PrepKernelIdeal.τ) (Cert.PrepKernelIdeal.main (F := Ideal))) ⟨m, fun _ => 0, g⟩ (fun r => (∀ c : Dev Cert.PrepKernelIdeal.nD,
      r.2.mem ((c.tc : Thread Cert.PrepKernelIdeal.nD Cert.PrepKernelIdeal.τ).loc Cert.PrepKernelIdeal.main_arg0) = m ((c.tc : Thread Cert.PrepKernelIdeal.nD Cert.PrepKernelIdeal.τ).loc Cert.PrepKernelIdeal.main_arg0)
      ∧ r.2.mem ((c.tc : Thread Cert.PrepKernelIdeal.nD Cert.PrepKernelIdeal.τ).loc Cert.PrepKernelIdeal.main_arg1) = m ((c.tc : Thread Cert.PrepKernelIdeal.nD Cert.PrepKernelIdeal.τ).loc Cert.PrepKernelIdeal.main_arg1)
      ∧ r.2.mem ((c.tc : Thread Cert.PrepKernelIdeal.nD Cert.PrepKernelIdeal.τ).loc Cert.PrepKernelIdeal.main_arg2) = m ((c.tc : Thread Cert.PrepKernelIdeal.nD Cert.PrepKernelIdeal.τ).loc Cert.PrepKernelIdeal.main_arg2)
      ∧ r.2.mem ((c.tc : Thread Cert.PrepKernelIdeal.nD Cert.PrepKernelIdeal.τ).loc Cert.PrepKernelIdeal.main_arg3) = m ((c.tc : Thread Cert.PrepKernelIdeal.nD Cert.PrepKernelIdeal.τ).loc Cert.PrepKernelIdeal.main_arg3)
      ∧ r.2.mem ((c.tc : Thread Cert.PrepKernelIdeal.nD Cert.PrepKernelIdeal.τ).loc Cert.PrepKernelIdeal.main_arg4) = m ((c.tc : Thread Cert.PrepKernelIdeal.nD Cert.PrepKernelIdeal.τ).loc Cert.PrepKernelIdeal.main_arg4)
      ∧ r.2.mem ((c.tc : Thread Cert.PrepKernelIdeal.nD Cert.PrepKernelIdeal.τ).loc Cert.PrepKernelIdeal.main_arg5) = m ((c.tc : Thread Cert.PrepKernelIdeal.nD Cert.PrepKernelIdeal.τ).loc Cert.PrepKernelIdeal.main_arg5))
      ∧ r.2.sem = fun _ => 0)

def quiescent_PrepKernelIdeal_pre_finite_prep [hPrepKernelIdeal : Cert.PrepKernelIdeal.Facts] [hPre_finite_prep : Cert.Pre_finite_prep.Facts] : Prop :=
  ∀ (m : (ℓ : Loc Cert.PrepKernelIdeal.nD Cert.PrepKernelIdeal.τ Cert.PrepKernelIdeal.sig) → Buf (Elt Ideal) ℓ) (g : Dev Cert.PrepKernelIdeal.nD → PrngReg), Pre_PrepKernelIdeal_finite_prep m →
    θ_run (Cert.PrepKernelIdeal.defs (F := Ideal)) (onTc (τ := Cert.PrepKernelIdeal.τ) (Cert.PrepKernelIdeal.main (F := Ideal))) ⟨m, fun _ => 0, g⟩ (fun r => (∀ c : Dev Cert.PrepKernelIdeal.nD,
      r.2.mem ((c.tc : Thread Cert.PrepKernelIdeal.nD Cert.PrepKernelIdeal.τ).loc Cert.PrepKernelIdeal.main_arg0) = m ((c.tc : Thread Cert.PrepKernelIdeal.nD Cert.PrepKernelIdeal.τ).loc Cert.PrepKernelIdeal.main_arg0)
      ∧ r.2.mem ((c.tc : Thread Cert.PrepKernelIdeal.nD Cert.PrepKernelIdeal.τ).loc Cert.PrepKernelIdeal.main_arg1) = m ((c.tc : Thread Cert.PrepKernelIdeal.nD Cert.PrepKernelIdeal.τ).loc Cert.PrepKernelIdeal.main_arg1)
      ∧ r.2.mem ((c.tc : Thread Cert.PrepKernelIdeal.nD Cert.PrepKernelIdeal.τ).loc Cert.PrepKernelIdeal.main_arg2) = m ((c.tc : Thread Cert.PrepKernelIdeal.nD Cert.PrepKernelIdeal.τ).loc Cert.PrepKernelIdeal.main_arg2)
      ∧ r.2.mem ((c.tc : Thread Cert.PrepKernelIdeal.nD Cert.PrepKernelIdeal.τ).loc Cert.PrepKernelIdeal.main_arg3) = m ((c.tc : Thread Cert.PrepKernelIdeal.nD Cert.PrepKernelIdeal.τ).loc Cert.PrepKernelIdeal.main_arg3)
      ∧ r.2.mem ((c.tc : Thread Cert.PrepKernelIdeal.nD Cert.PrepKernelIdeal.τ).loc Cert.PrepKernelIdeal.main_arg4) = m ((c.tc : Thread Cert.PrepKernelIdeal.nD Cert.PrepKernelIdeal.τ).loc Cert.PrepKernelIdeal.main_arg4)
      ∧ r.2.mem ((c.tc : Thread Cert.PrepKernelIdeal.nD Cert.PrepKernelIdeal.τ).loc Cert.PrepKernelIdeal.main_arg5) = m ((c.tc : Thread Cert.PrepKernelIdeal.nD Cert.PrepKernelIdeal.τ).loc Cert.PrepKernelIdeal.main_arg5))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3)
      ∧ r.2.mem ((c.tc : Thread Cert.PrepReferenceIdeal.nD Cert.PrepReferenceIdeal.τ).loc Cert.PrepReferenceIdeal.main_arg4) = m ((c.tc : Thread Cert.PrepReferenceIdeal.nD Cert.PrepReferenceIdeal.τ).loc Cert.PrepReferenceIdeal.main_arg4)
      ∧ r.2.mem ((c.tc : Thread Cert.PrepReferenceIdeal.nD Cert.PrepReferenceIdeal.τ).loc Cert.PrepReferenceIdeal.main_arg5) = m ((c.tc : Thread Cert.PrepReferenceIdeal.nD Cert.PrepReferenceIdeal.τ).loc Cert.PrepReferenceIdeal.main_arg5))
      ∧ r.2.sem = fun _ => 0)

def quiescent_PrepReferenceIdeal_pre_finite_prep [hPrepReferenceIdeal : Cert.PrepReferenceIdeal.Facts] [hPre_finite_prep : Cert.Pre_finite_prep.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal_finite_prep m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3)
      ∧ r.2.mem ((c.tc : Thread Cert.PrepReferenceIdeal.nD Cert.PrepReferenceIdeal.τ).loc Cert.PrepReferenceIdeal.main_arg4) = m ((c.tc : Thread Cert.PrepReferenceIdeal.nD Cert.PrepReferenceIdeal.τ).loc Cert.PrepReferenceIdeal.main_arg4)
      ∧ r.2.mem ((c.tc : Thread Cert.PrepReferenceIdeal.nD Cert.PrepReferenceIdeal.τ).loc Cert.PrepReferenceIdeal.main_arg5) = m ((c.tc : Thread Cert.PrepReferenceIdeal.nD Cert.PrepReferenceIdeal.τ).loc Cert.PrepReferenceIdeal.main_arg5))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3)
      ∧ r.2.mem ((c.tc : Thread Cert.InKernel.nD Cert.InKernel.τ).loc Cert.InKernel.main_arg4) = m ((c.tc : Thread Cert.InKernel.nD Cert.InKernel.τ).loc Cert.InKernel.main_arg4)
      ∧ r.2.mem ((c.tc : Thread Cert.InKernel.nD Cert.InKernel.τ).loc Cert.InKernel.main_arg5) = m ((c.tc : Thread Cert.InKernel.nD Cert.InKernel.τ).loc Cert.InKernel.main_arg5))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
      ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5))
      ∧ r.2.sem = fun _ => 0)

def quiescent_InKernelIdeal_pre_finite_in [hInKernelIdeal : Cert.InKernelIdeal.Facts] [hPre_finite_in : Cert.Pre_finite_in.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal_finite_in m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
      ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4)
      ∧ r.2.mem ((c.tc : Thread Cert.InReferenceIdeal.nD Cert.InReferenceIdeal.τ).loc Cert.InReferenceIdeal.main_arg5) = m ((c.tc : Thread Cert.InReferenceIdeal.nD Cert.InReferenceIdeal.τ).loc Cert.InReferenceIdeal.main_arg5))
      ∧ r.2.sem = fun _ => 0)

def quiescent_InReferenceIdeal_pre_finite_in [hInReferenceIdeal : Cert.InReferenceIdeal.Facts] [hPre_finite_in : Cert.Pre_finite_in.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal_finite_in m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4)
      ∧ r.2.mem ((c.tc : Thread Cert.InReferenceIdeal.nD Cert.InReferenceIdeal.τ).loc Cert.InReferenceIdeal.main_arg5) = m ((c.tc : Thread Cert.InReferenceIdeal.nD Cert.InReferenceIdeal.τ).loc Cert.InReferenceIdeal.main_arg5))
      ∧ r.2.sem = fun _ => 0)

def quiescent_MidKernel [hMidKernel : Cert.MidKernel.Facts] : Prop :=
  ∀ (m : (ℓ : Loc Cert.MidKernel.nD Cert.MidKernel.τ Cert.MidKernel.sig) → Buf (Elt Bits) ℓ) (g : Dev Cert.MidKernel.nD → PrngReg), Pre_MidKernel m →
    θ_run (Cert.MidKernel.defs (F := Bits)) (onTc (τ := Cert.MidKernel.τ) (Cert.MidKernel.main (F := Bits))) ⟨m, fun _ => 0, g⟩ (fun r => (∀ c : Dev Cert.MidKernel.nD,
      r.2.mem ((c.tc : Thread Cert.MidKernel.nD Cert.MidKernel.τ).loc Cert.MidKernel.main_arg0) = m ((c.tc : Thread Cert.MidKernel.nD Cert.MidKernel.τ).loc Cert.MidKernel.main_arg0)
      ∧ r.2.mem ((c.tc : Thread Cert.MidKernel.nD Cert.MidKernel.τ).loc Cert.MidKernel.main_arg1) = m ((c.tc : Thread Cert.MidKernel.nD Cert.MidKernel.τ).loc Cert.MidKernel.main_arg1)
      ∧ r.2.mem ((c.tc : Thread Cert.MidKernel.nD Cert.MidKernel.τ).loc Cert.MidKernel.main_arg2) = m ((c.tc : Thread Cert.MidKernel.nD Cert.MidKernel.τ).loc Cert.MidKernel.main_arg2)
      ∧ r.2.mem ((c.tc : Thread Cert.MidKernel.nD Cert.MidKernel.τ).loc Cert.MidKernel.main_arg3) = m ((c.tc : Thread Cert.MidKernel.nD Cert.MidKernel.τ).loc Cert.MidKernel.main_arg3)
      ∧ r.2.mem ((c.tc : Thread Cert.MidKernel.nD Cert.MidKernel.τ).loc Cert.MidKernel.main_arg4) = m ((c.tc : Thread Cert.MidKernel.nD Cert.MidKernel.τ).loc Cert.MidKernel.main_arg4)
      ∧ r.2.mem ((c.tc : Thread Cert.MidKernel.nD Cert.MidKernel.τ).loc Cert.MidKernel.main_arg5) = m ((c.tc : Thread Cert.MidKernel.nD Cert.MidKernel.τ).loc Cert.MidKernel.main_arg5)
      ∧ r.2.mem ((c.tc : Thread Cert.MidKernel.nD Cert.MidKernel.τ).loc Cert.MidKernel.main_arg6) = m ((c.tc : Thread Cert.MidKernel.nD Cert.MidKernel.τ).loc Cert.MidKernel.main_arg6)
      ∧ r.2.mem ((c.tc : Thread Cert.MidKernel.nD Cert.MidKernel.τ).loc Cert.MidKernel.main_arg7) = m ((c.tc : Thread Cert.MidKernel.nD Cert.MidKernel.τ).loc Cert.MidKernel.main_arg7)
      ∧ r.2.mem ((c.tc : Thread Cert.MidKernel.nD Cert.MidKernel.τ).loc Cert.MidKernel.main_arg8) = m ((c.tc : Thread Cert.MidKernel.nD Cert.MidKernel.τ).loc Cert.MidKernel.main_arg8)
      ∧ r.2.mem ((c.tc : Thread Cert.MidKernel.nD Cert.MidKernel.τ).loc Cert.MidKernel.main_arg9) = m ((c.tc : Thread Cert.MidKernel.nD Cert.MidKernel.τ).loc Cert.MidKernel.main_arg9))
      ∧ r.2.sem = fun _ => 0)

def quiescent_MidKernelIdeal [hMidKernelIdeal : Cert.MidKernelIdeal.Facts] : Prop :=
  ∀ (m : (ℓ : Loc Cert.MidKernelIdeal.nD Cert.MidKernelIdeal.τ Cert.MidKernelIdeal.sig) → Buf (Elt Ideal) ℓ) (g : Dev Cert.MidKernelIdeal.nD → PrngReg), Pre_MidKernelIdeal m →
    θ_run (Cert.MidKernelIdeal.defs (F := Ideal)) (onTc (τ := Cert.MidKernelIdeal.τ) (Cert.MidKernelIdeal.main (F := Ideal))) ⟨m, fun _ => 0, g⟩ (fun r => (∀ c : Dev Cert.MidKernelIdeal.nD,
      r.2.mem ((c.tc : Thread Cert.MidKernelIdeal.nD Cert.MidKernelIdeal.τ).loc Cert.MidKernelIdeal.main_arg0) = m ((c.tc : Thread Cert.MidKernelIdeal.nD Cert.MidKernelIdeal.τ).loc Cert.MidKernelIdeal.main_arg0)
      ∧ r.2.mem ((c.tc : Thread Cert.MidKernelIdeal.nD Cert.MidKernelIdeal.τ).loc Cert.MidKernelIdeal.main_arg1) = m ((c.tc : Thread Cert.MidKernelIdeal.nD Cert.MidKernelIdeal.τ).loc Cert.MidKernelIdeal.main_arg1)
      ∧ r.2.mem ((c.tc : Thread Cert.MidKernelIdeal.nD Cert.MidKernelIdeal.τ).loc Cert.MidKernelIdeal.main_arg2) = m ((c.tc : Thread Cert.MidKernelIdeal.nD Cert.MidKernelIdeal.τ).loc Cert.MidKernelIdeal.main_arg2)
      ∧ r.2.mem ((c.tc : Thread Cert.MidKernelIdeal.nD Cert.MidKernelIdeal.τ).loc Cert.MidKernelIdeal.main_arg3) = m ((c.tc : Thread Cert.MidKernelIdeal.nD Cert.MidKernelIdeal.τ).loc Cert.MidKernelIdeal.main_arg3)
      ∧ r.2.mem ((c.tc : Thread Cert.MidKernelIdeal.nD Cert.MidKernelIdeal.τ).loc Cert.MidKernelIdeal.main_arg4) = m ((c.tc : Thread Cert.MidKernelIdeal.nD Cert.MidKernelIdeal.τ).loc Cert.MidKernelIdeal.main_arg4)
      ∧ r.2.mem ((c.tc : Thread Cert.MidKernelIdeal.nD Cert.MidKernelIdeal.τ).loc Cert.MidKernelIdeal.main_arg5) = m ((c.tc : Thread Cert.MidKernelIdeal.nD Cert.MidKernelIdeal.τ).loc Cert.MidKernelIdeal.main_arg5)
      ∧ r.2.mem ((c.tc : Thread Cert.MidKernelIdeal.nD Cert.MidKernelIdeal.τ).loc Cert.MidKernelIdeal.main_arg6) = m ((c.tc : Thread Cert.MidKernelIdeal.nD Cert.MidKernelIdeal.τ).loc Cert.MidKernelIdeal.main_arg6)
      ∧ r.2.mem ((c.tc : Thread Cert.MidKernelIdeal.nD Cert.MidKernelIdeal.τ).loc Cert.MidKernelIdeal.main_arg7) = m ((c.tc : Thread Cert.MidKernelIdeal.nD Cert.MidKernelIdeal.τ).loc Cert.MidKernelIdeal.main_arg7)
      ∧ r.2.mem ((c.tc : Thread Cert.MidKernelIdeal.nD Cert.MidKernelIdeal.τ).loc Cert.MidKernelIdeal.main_arg8) = m ((c.tc : Thread Cert.MidKernelIdeal.nD Cert.MidKernelIdeal.τ).loc Cert.MidKernelIdeal.main_arg8)
      ∧ r.2.mem ((c.tc : Thread Cert.MidKernelIdeal.nD Cert.MidKernelIdeal.τ).loc Cert.MidKernelIdeal.main_arg9) = m ((c.tc : Thread Cert.MidKernelIdeal.nD Cert.MidKernelIdeal.τ).loc Cert.MidKernelIdeal.main_arg9))
      ∧ r.2.sem = fun _ => 0)

def quiescent_MidKernelIdeal_pre_finite_mid [hMidKernelIdeal : Cert.MidKernelIdeal.Facts] [hPre_finite_mid : Cert.Pre_finite_mid.Facts] : Prop :=
  ∀ (m : (ℓ : Loc Cert.MidKernelIdeal.nD Cert.MidKernelIdeal.τ Cert.MidKernelIdeal.sig) → Buf (Elt Ideal) ℓ) (g : Dev Cert.MidKernelIdeal.nD → PrngReg), Pre_MidKernelIdeal_finite_mid m →
    θ_run (Cert.MidKernelIdeal.defs (F := Ideal)) (onTc (τ := Cert.MidKernelIdeal.τ) (Cert.MidKernelIdeal.main (F := Ideal))) ⟨m, fun _ => 0, g⟩ (fun r => (∀ c : Dev Cert.MidKernelIdeal.nD,
      r.2.mem ((c.tc : Thread Cert.MidKernelIdeal.nD Cert.MidKernelIdeal.τ).loc Cert.MidKernelIdeal.main_arg0) = m ((c.tc : Thread Cert.MidKernelIdeal.nD Cert.MidKernelIdeal.τ).loc Cert.MidKernelIdeal.main_arg0)
      ∧ r.2.mem ((c.tc : Thread Cert.MidKernelIdeal.nD Cert.MidKernelIdeal.τ).loc Cert.MidKernelIdeal.main_arg1) = m ((c.tc : Thread Cert.MidKernelIdeal.nD Cert.MidKernelIdeal.τ).loc Cert.MidKernelIdeal.main_arg1)
      ∧ r.2.mem ((c.tc : Thread Cert.MidKernelIdeal.nD Cert.MidKernelIdeal.τ).loc Cert.MidKernelIdeal.main_arg2) = m ((c.tc : Thread Cert.MidKernelIdeal.nD Cert.MidKernelIdeal.τ).loc Cert.MidKernelIdeal.main_arg2)
      ∧ r.2.mem ((c.tc : Thread Cert.MidKernelIdeal.nD Cert.MidKernelIdeal.τ).loc Cert.MidKernelIdeal.main_arg3) = m ((c.tc : Thread Cert.MidKernelIdeal.nD Cert.MidKernelIdeal.τ).loc Cert.MidKernelIdeal.main_arg3)
      ∧ r.2.mem ((c.tc : Thread Cert.MidKernelIdeal.nD Cert.MidKernelIdeal.τ).loc Cert.MidKernelIdeal.main_arg4) = m ((c.tc : Thread Cert.MidKernelIdeal.nD Cert.MidKernelIdeal.τ).loc Cert.MidKernelIdeal.main_arg4)
      ∧ r.2.mem ((c.tc : Thread Cert.MidKernelIdeal.nD Cert.MidKernelIdeal.τ).loc Cert.MidKernelIdeal.main_arg5) = m ((c.tc : Thread Cert.MidKernelIdeal.nD Cert.MidKernelIdeal.τ).loc Cert.MidKernelIdeal.main_arg5)
      ∧ r.2.mem ((c.tc : Thread Cert.MidKernelIdeal.nD Cert.MidKernelIdeal.τ).loc Cert.MidKernelIdeal.main_arg6) = m ((c.tc : Thread Cert.MidKernelIdeal.nD Cert.MidKernelIdeal.τ).loc Cert.MidKernelIdeal.main_arg6)
      ∧ r.2.mem ((c.tc : Thread Cert.MidKernelIdeal.nD Cert.MidKernelIdeal.τ).loc Cert.MidKernelIdeal.main_arg7) = m ((c.tc : Thread Cert.MidKernelIdeal.nD Cert.MidKernelIdeal.τ).loc Cert.MidKernelIdeal.main_arg7)
      ∧ r.2.mem ((c.tc : Thread Cert.MidKernelIdeal.nD Cert.MidKernelIdeal.τ).loc Cert.MidKernelIdeal.main_arg8) = m ((c.tc : Thread Cert.MidKernelIdeal.nD Cert.MidKernelIdeal.τ).loc Cert.MidKernelIdeal.main_arg8)
      ∧ r.2.mem ((c.tc : Thread Cert.MidKernelIdeal.nD Cert.MidKernelIdeal.τ).loc Cert.MidKernelIdeal.main_arg9) = m ((c.tc : Thread Cert.MidKernelIdeal.nD Cert.MidKernelIdeal.τ).loc Cert.MidKernelIdeal.main_arg9))
      ∧ r.2.sem = fun _ => 0)

def quiescent_MidReferenceIdeal [hMidReferenceIdeal : Cert.MidReferenceIdeal.Facts] : Prop :=
  ∀ (m : (ℓ : Loc Cert.MidReferenceIdeal.nD Cert.MidReferenceIdeal.τ Cert.MidReferenceIdeal.sig) → Buf (Elt Ideal) ℓ) (g : Dev Cert.MidReferenceIdeal.nD → PrngReg), Pre_MidReferenceIdeal m →
    θ_run (Cert.MidReferenceIdeal.defs (F := Ideal)) (onTc (τ := Cert.MidReferenceIdeal.τ) (Cert.MidReferenceIdeal.main (F := Ideal))) ⟨m, fun _ => 0, g⟩ (fun r => (∀ c : Dev Cert.MidReferenceIdeal.nD,
      r.2.mem ((c.tc : Thread Cert.MidReferenceIdeal.nD Cert.MidReferenceIdeal.τ).loc Cert.MidReferenceIdeal.main_arg0) = m ((c.tc : Thread Cert.MidReferenceIdeal.nD Cert.MidReferenceIdeal.τ).loc Cert.MidReferenceIdeal.main_arg0)
      ∧ r.2.mem ((c.tc : Thread Cert.MidReferenceIdeal.nD Cert.MidReferenceIdeal.τ).loc Cert.MidReferenceIdeal.main_arg1) = m ((c.tc : Thread Cert.MidReferenceIdeal.nD Cert.MidReferenceIdeal.τ).loc Cert.MidReferenceIdeal.main_arg1)
      ∧ r.2.mem ((c.tc : Thread Cert.MidReferenceIdeal.nD Cert.MidReferenceIdeal.τ).loc Cert.MidReferenceIdeal.main_arg2) = m ((c.tc : Thread Cert.MidReferenceIdeal.nD Cert.MidReferenceIdeal.τ).loc Cert.MidReferenceIdeal.main_arg2)
      ∧ r.2.mem ((c.tc : Thread Cert.MidReferenceIdeal.nD Cert.MidReferenceIdeal.τ).loc Cert.MidReferenceIdeal.main_arg3) = m ((c.tc : Thread Cert.MidReferenceIdeal.nD Cert.MidReferenceIdeal.τ).loc Cert.MidReferenceIdeal.main_arg3)
      ∧ r.2.mem ((c.tc : Thread Cert.MidReferenceIdeal.nD Cert.MidReferenceIdeal.τ).loc Cert.MidReferenceIdeal.main_arg4) = m ((c.tc : Thread Cert.MidReferenceIdeal.nD Cert.MidReferenceIdeal.τ).loc Cert.MidReferenceIdeal.main_arg4)
      ∧ r.2.mem ((c.tc : Thread Cert.MidReferenceIdeal.nD Cert.MidReferenceIdeal.τ).loc Cert.MidReferenceIdeal.main_arg5) = m ((c.tc : Thread Cert.MidReferenceIdeal.nD Cert.MidReferenceIdeal.τ).loc Cert.MidReferenceIdeal.main_arg5)
      ∧ r.2.mem ((c.tc : Thread Cert.MidReferenceIdeal.nD Cert.MidReferenceIdeal.τ).loc Cert.MidReferenceIdeal.main_arg6) = m ((c.tc : Thread Cert.MidReferenceIdeal.nD Cert.MidReferenceIdeal.τ).loc Cert.MidReferenceIdeal.main_arg6)
      ∧ r.2.mem ((c.tc : Thread Cert.MidReferenceIdeal.nD Cert.MidReferenceIdeal.τ).loc Cert.MidReferenceIdeal.main_arg7) = m ((c.tc : Thread Cert.MidReferenceIdeal.nD Cert.MidReferenceIdeal.τ).loc Cert.MidReferenceIdeal.main_arg7)
      ∧ r.2.mem ((c.tc : Thread Cert.MidReferenceIdeal.nD Cert.MidReferenceIdeal.τ).loc Cert.MidReferenceIdeal.main_arg8) = m ((c.tc : Thread Cert.MidReferenceIdeal.nD Cert.MidReferenceIdeal.τ).loc Cert.MidReferenceIdeal.main_arg8)
      ∧ r.2.mem ((c.tc : Thread Cert.MidReferenceIdeal.nD Cert.MidReferenceIdeal.τ).loc Cert.MidReferenceIdeal.main_arg9) = m ((c.tc : Thread Cert.MidReferenceIdeal.nD Cert.MidReferenceIdeal.τ).loc Cert.MidReferenceIdeal.main_arg9))
      ∧ r.2.sem = fun _ => 0)

def quiescent_MidReferenceIdeal_pre_finite_mid [hMidReferenceIdeal : Cert.MidReferenceIdeal.Facts] [hPre_finite_mid : Cert.Pre_finite_mid.Facts] : Prop :=
  ∀ (m : (ℓ : Loc Cert.MidReferenceIdeal.nD Cert.MidReferenceIdeal.τ Cert.MidReferenceIdeal.sig) → Buf (Elt Ideal) ℓ) (g : Dev Cert.MidReferenceIdeal.nD → PrngReg), Pre_MidReferenceIdeal_finite_mid m →
    θ_run (Cert.MidReferenceIdeal.defs (F := Ideal)) (onTc (τ := Cert.MidReferenceIdeal.τ) (Cert.MidReferenceIdeal.main (F := Ideal))) ⟨m, fun _ => 0, g⟩ (fun r => (∀ c : Dev Cert.MidReferenceIdeal.nD,
      r.2.mem ((c.tc : Thread Cert.MidReferenceIdeal.nD Cert.MidReferenceIdeal.τ).loc Cert.MidReferenceIdeal.main_arg0) = m ((c.tc : Thread Cert.MidReferenceIdeal.nD Cert.MidReferenceIdeal.τ).loc Cert.MidReferenceIdeal.main_arg0)
      ∧ r.2.mem ((c.tc : Thread Cert.MidReferenceIdeal.nD Cert.MidReferenceIdeal.τ).loc Cert.MidReferenceIdeal.main_arg1) = m ((c.tc : Thread Cert.MidReferenceIdeal.nD Cert.MidReferenceIdeal.τ).loc Cert.MidReferenceIdeal.main_arg1)
      ∧ r.2.mem ((c.tc : Thread Cert.MidReferenceIdeal.nD Cert.MidReferenceIdeal.τ).loc Cert.MidReferenceIdeal.main_arg2) = m ((c.tc : Thread Cert.MidReferenceIdeal.nD Cert.MidReferenceIdeal.τ).loc Cert.MidReferenceIdeal.main_arg2)
      ∧ r.2.mem ((c.tc : Thread Cert.MidReferenceIdeal.nD Cert.MidReferenceIdeal.τ).loc Cert.MidReferenceIdeal.main_arg3) = m ((c.tc : Thread Cert.MidReferenceIdeal.nD Cert.MidReferenceIdeal.τ).loc Cert.MidReferenceIdeal.main_arg3)
      ∧ r.2.mem ((c.tc : Thread Cert.MidReferenceIdeal.nD Cert.MidReferenceIdeal.τ).loc Cert.MidReferenceIdeal.main_arg4) = m ((c.tc : Thread Cert.MidReferenceIdeal.nD Cert.MidReferenceIdeal.τ).loc Cert.MidReferenceIdeal.main_arg4)
      ∧ r.2.mem ((c.tc : Thread Cert.MidReferenceIdeal.nD Cert.MidReferenceIdeal.τ).loc Cert.MidReferenceIdeal.main_arg5) = m ((c.tc : Thread Cert.MidReferenceIdeal.nD Cert.MidReferenceIdeal.τ).loc Cert.MidReferenceIdeal.main_arg5)
      ∧ r.2.mem ((c.tc : Thread Cert.MidReferenceIdeal.nD Cert.MidReferenceIdeal.τ).loc Cert.MidReferenceIdeal.main_arg6) = m ((c.tc : Thread Cert.MidReferenceIdeal.nD Cert.MidReferenceIdeal.τ).loc Cert.MidReferenceIdeal.main_arg6)
      ∧ r.2.mem ((c.tc : Thread Cert.MidReferenceIdeal.nD Cert.MidReferenceIdeal.τ).loc Cert.MidReferenceIdeal.main_arg7) = m ((c.tc : Thread Cert.MidReferenceIdeal.nD Cert.MidReferenceIdeal.τ).loc Cert.MidReferenceIdeal.main_arg7)
      ∧ r.2.mem ((c.tc : Thread Cert.MidReferenceIdeal.nD Cert.MidReferenceIdeal.τ).loc Cert.MidReferenceIdeal.main_arg8) = m ((c.tc : Thread Cert.MidReferenceIdeal.nD Cert.MidReferenceIdeal.τ).loc Cert.MidReferenceIdeal.main_arg8)
      ∧ r.2.mem ((c.tc : Thread Cert.MidReferenceIdeal.nD Cert.MidReferenceIdeal.τ).loc Cert.MidReferenceIdeal.main_arg9) = m ((c.tc : Thread Cert.MidReferenceIdeal.nD Cert.MidReferenceIdeal.τ).loc Cert.MidReferenceIdeal.main_arg9))
      ∧ r.2.sem = fun _ => 0)

def quiescent_AttKernel [hAttKernel : Cert.AttKernel.Facts] : Prop :=
  ∀ (m : (ℓ : Loc Cert.AttKernel.nD Cert.AttKernel.τ Cert.AttKernel.sig) → Buf (Elt Bits) ℓ) (g : Dev Cert.AttKernel.nD → PrngReg), Pre_AttKernel m →
    θ_run (Cert.AttKernel.defs (F := Bits)) (onTc (τ := Cert.AttKernel.τ) (Cert.AttKernel.main (F := Bits))) ⟨m, fun _ => 0, g⟩ (fun r => (∀ c : Dev Cert.AttKernel.nD,
      r.2.mem ((c.tc : Thread Cert.AttKernel.nD Cert.AttKernel.τ).loc Cert.AttKernel.main_arg0) = m ((c.tc : Thread Cert.AttKernel.nD Cert.AttKernel.τ).loc Cert.AttKernel.main_arg0)
      ∧ r.2.mem ((c.tc : Thread Cert.AttKernel.nD Cert.AttKernel.τ).loc Cert.AttKernel.main_arg1) = m ((c.tc : Thread Cert.AttKernel.nD Cert.AttKernel.τ).loc Cert.AttKernel.main_arg1)
      ∧ r.2.mem ((c.tc : Thread Cert.AttKernel.nD Cert.AttKernel.τ).loc Cert.AttKernel.main_arg2) = m ((c.tc : Thread Cert.AttKernel.nD Cert.AttKernel.τ).loc Cert.AttKernel.main_arg2)
      ∧ r.2.mem ((c.tc : Thread Cert.AttKernel.nD Cert.AttKernel.τ).loc Cert.AttKernel.main_arg3) = m ((c.tc : Thread Cert.AttKernel.nD Cert.AttKernel.τ).loc Cert.AttKernel.main_arg3))
      ∧ r.2.sem = fun _ => 0)

def quiescent_AttKernelIdeal [hAttKernelIdeal : Cert.AttKernelIdeal.Facts] : Prop :=
  ∀ (m : (ℓ : Loc Cert.AttKernelIdeal.nD Cert.AttKernelIdeal.τ Cert.AttKernelIdeal.sig) → Buf (Elt Ideal) ℓ) (g : Dev Cert.AttKernelIdeal.nD → PrngReg), Pre_AttKernelIdeal m →
    θ_run (Cert.AttKernelIdeal.defs (F := Ideal)) (onTc (τ := Cert.AttKernelIdeal.τ) (Cert.AttKernelIdeal.main (F := Ideal))) ⟨m, fun _ => 0, g⟩ (fun r => (∀ c : Dev Cert.AttKernelIdeal.nD,
      r.2.mem ((c.tc : Thread Cert.AttKernelIdeal.nD Cert.AttKernelIdeal.τ).loc Cert.AttKernelIdeal.main_arg0) = m ((c.tc : Thread Cert.AttKernelIdeal.nD Cert.AttKernelIdeal.τ).loc Cert.AttKernelIdeal.main_arg0)
      ∧ r.2.mem ((c.tc : Thread Cert.AttKernelIdeal.nD Cert.AttKernelIdeal.τ).loc Cert.AttKernelIdeal.main_arg1) = m ((c.tc : Thread Cert.AttKernelIdeal.nD Cert.AttKernelIdeal.τ).loc Cert.AttKernelIdeal.main_arg1)
      ∧ r.2.mem ((c.tc : Thread Cert.AttKernelIdeal.nD Cert.AttKernelIdeal.τ).loc Cert.AttKernelIdeal.main_arg2) = m ((c.tc : Thread Cert.AttKernelIdeal.nD Cert.AttKernelIdeal.τ).loc Cert.AttKernelIdeal.main_arg2)
      ∧ r.2.mem ((c.tc : Thread Cert.AttKernelIdeal.nD Cert.AttKernelIdeal.τ).loc Cert.AttKernelIdeal.main_arg3) = m ((c.tc : Thread Cert.AttKernelIdeal.nD Cert.AttKernelIdeal.τ).loc Cert.AttKernelIdeal.main_arg3))
      ∧ r.2.sem = fun _ => 0)

def quiescent_AttKernelIdeal_pre_finite_att [hAttKernelIdeal : Cert.AttKernelIdeal.Facts] [hPre_finite_att : Cert.Pre_finite_att.Facts] : Prop :=
  ∀ (m : (ℓ : Loc Cert.AttKernelIdeal.nD Cert.AttKernelIdeal.τ Cert.AttKernelIdeal.sig) → Buf (Elt Ideal) ℓ) (g : Dev Cert.AttKernelIdeal.nD → PrngReg), Pre_AttKernelIdeal_finite_att m →
    θ_run (Cert.AttKernelIdeal.defs (F := Ideal)) (onTc (τ := Cert.AttKernelIdeal.τ) (Cert.AttKernelIdeal.main (F := Ideal))) ⟨m, fun _ => 0, g⟩ (fun r => (∀ c : Dev Cert.AttKernelIdeal.nD,
      r.2.mem ((c.tc : Thread Cert.AttKernelIdeal.nD Cert.AttKernelIdeal.τ).loc Cert.AttKernelIdeal.main_arg0) = m ((c.tc : Thread Cert.AttKernelIdeal.nD Cert.AttKernelIdeal.τ).loc Cert.AttKernelIdeal.main_arg0)
      ∧ r.2.mem ((c.tc : Thread Cert.AttKernelIdeal.nD Cert.AttKernelIdeal.τ).loc Cert.AttKernelIdeal.main_arg1) = m ((c.tc : Thread Cert.AttKernelIdeal.nD Cert.AttKernelIdeal.τ).loc Cert.AttKernelIdeal.main_arg1)
      ∧ r.2.mem ((c.tc : Thread Cert.AttKernelIdeal.nD Cert.AttKernelIdeal.τ).loc Cert.AttKernelIdeal.main_arg2) = m ((c.tc : Thread Cert.AttKernelIdeal.nD Cert.AttKernelIdeal.τ).loc Cert.AttKernelIdeal.main_arg2)
      ∧ r.2.mem ((c.tc : Thread Cert.AttKernelIdeal.nD Cert.AttKernelIdeal.τ).loc Cert.AttKernelIdeal.main_arg3) = m ((c.tc : Thread Cert.AttKernelIdeal.nD Cert.AttKernelIdeal.τ).loc Cert.AttKernelIdeal.main_arg3))
      ∧ r.2.sem = fun _ => 0)

def quiescent_AttReferenceIdeal [hAttReferenceIdeal : Cert.AttReferenceIdeal.Facts] : Prop :=
  ∀ (m : (ℓ : Loc Cert.AttReferenceIdeal.nD Cert.AttReferenceIdeal.τ Cert.AttReferenceIdeal.sig) → Buf (Elt Ideal) ℓ) (g : Dev Cert.AttReferenceIdeal.nD → PrngReg), Pre_AttReferenceIdeal m →
    θ_run (Cert.AttReferenceIdeal.defs (F := Ideal)) (onTc (τ := Cert.AttReferenceIdeal.τ) (Cert.AttReferenceIdeal.main (F := Ideal))) ⟨m, fun _ => 0, g⟩ (fun r => (∀ c : Dev Cert.AttReferenceIdeal.nD,
      r.2.mem ((c.tc : Thread Cert.AttReferenceIdeal.nD Cert.AttReferenceIdeal.τ).loc Cert.AttReferenceIdeal.main_arg0) = m ((c.tc : Thread Cert.AttReferenceIdeal.nD Cert.AttReferenceIdeal.τ).loc Cert.AttReferenceIdeal.main_arg0)
      ∧ r.2.mem ((c.tc : Thread Cert.AttReferenceIdeal.nD Cert.AttReferenceIdeal.τ).loc Cert.AttReferenceIdeal.main_arg1) = m ((c.tc : Thread Cert.AttReferenceIdeal.nD Cert.AttReferenceIdeal.τ).loc Cert.AttReferenceIdeal.main_arg1)
      ∧ r.2.mem ((c.tc : Thread Cert.AttReferenceIdeal.nD Cert.AttReferenceIdeal.τ).loc Cert.AttReferenceIdeal.main_arg2) = m ((c.tc : Thread Cert.AttReferenceIdeal.nD Cert.AttReferenceIdeal.τ).loc Cert.AttReferenceIdeal.main_arg2)
      ∧ r.2.mem ((c.tc : Thread Cert.AttReferenceIdeal.nD Cert.AttReferenceIdeal.τ).loc Cert.AttReferenceIdeal.main_arg3) = m ((c.tc : Thread Cert.AttReferenceIdeal.nD Cert.AttReferenceIdeal.τ).loc Cert.AttReferenceIdeal.main_arg3))
      ∧ r.2.sem = fun _ => 0)

def quiescent_AttReferenceIdeal_pre_finite_att [hAttReferenceIdeal : Cert.AttReferenceIdeal.Facts] [hPre_finite_att : Cert.Pre_finite_att.Facts] : Prop :=
  ∀ (m : (ℓ : Loc Cert.AttReferenceIdeal.nD Cert.AttReferenceIdeal.τ Cert.AttReferenceIdeal.sig) → Buf (Elt Ideal) ℓ) (g : Dev Cert.AttReferenceIdeal.nD → PrngReg), Pre_AttReferenceIdeal_finite_att m →
    θ_run (Cert.AttReferenceIdeal.defs (F := Ideal)) (onTc (τ := Cert.AttReferenceIdeal.τ) (Cert.AttReferenceIdeal.main (F := Ideal))) ⟨m, fun _ => 0, g⟩ (fun r => (∀ c : Dev Cert.AttReferenceIdeal.nD,
      r.2.mem ((c.tc : Thread Cert.AttReferenceIdeal.nD Cert.AttReferenceIdeal.τ).loc Cert.AttReferenceIdeal.main_arg0) = m ((c.tc : Thread Cert.AttReferenceIdeal.nD Cert.AttReferenceIdeal.τ).loc Cert.AttReferenceIdeal.main_arg0)
      ∧ r.2.mem ((c.tc : Thread Cert.AttReferenceIdeal.nD Cert.AttReferenceIdeal.τ).loc Cert.AttReferenceIdeal.main_arg1) = m ((c.tc : Thread Cert.AttReferenceIdeal.nD Cert.AttReferenceIdeal.τ).loc Cert.AttReferenceIdeal.main_arg1)
      ∧ r.2.mem ((c.tc : Thread Cert.AttReferenceIdeal.nD Cert.AttReferenceIdeal.τ).loc Cert.AttReferenceIdeal.main_arg2) = m ((c.tc : Thread Cert.AttReferenceIdeal.nD Cert.AttReferenceIdeal.τ).loc Cert.AttReferenceIdeal.main_arg2)
      ∧ r.2.mem ((c.tc : Thread Cert.AttReferenceIdeal.nD Cert.AttReferenceIdeal.τ).loc Cert.AttReferenceIdeal.main_arg3) = m ((c.tc : Thread Cert.AttReferenceIdeal.nD Cert.AttReferenceIdeal.τ).loc Cert.AttReferenceIdeal.main_arg3))
      ∧ r.2.sem = fun _ => 0)

def quiescent_FwdKernel [hFwdKernel : Cert.FwdKernel.Facts] : Prop :=
  ∀ (m : (ℓ : Loc Cert.FwdKernel.nD Cert.FwdKernel.τ Cert.FwdKernel.sig) → Buf (Elt Bits) ℓ) (g : Dev Cert.FwdKernel.nD → PrngReg), Pre_FwdKernel m →
    θ_run (Cert.FwdKernel.defs (F := Bits)) (onTc (τ := Cert.FwdKernel.τ) (Cert.FwdKernel.main (F := Bits))) ⟨m, fun _ => 0, g⟩ (fun r => (∀ c : Dev Cert.FwdKernel.nD,
      r.2.mem ((c.tc : Thread Cert.FwdKernel.nD Cert.FwdKernel.τ).loc Cert.FwdKernel.main_arg0) = m ((c.tc : Thread Cert.FwdKernel.nD Cert.FwdKernel.τ).loc Cert.FwdKernel.main_arg0)
      ∧ r.2.mem ((c.tc : Thread Cert.FwdKernel.nD Cert.FwdKernel.τ).loc Cert.FwdKernel.main_arg1) = m ((c.tc : Thread Cert.FwdKernel.nD Cert.FwdKernel.τ).loc Cert.FwdKernel.main_arg1)
      ∧ r.2.mem ((c.tc : Thread Cert.FwdKernel.nD Cert.FwdKernel.τ).loc Cert.FwdKernel.main_arg2) = m ((c.tc : Thread Cert.FwdKernel.nD Cert.FwdKernel.τ).loc Cert.FwdKernel.main_arg2)
      ∧ r.2.mem ((c.tc : Thread Cert.FwdKernel.nD Cert.FwdKernel.τ).loc Cert.FwdKernel.main_arg3) = m ((c.tc : Thread Cert.FwdKernel.nD Cert.FwdKernel.τ).loc Cert.FwdKernel.main_arg3))
      ∧ r.2.sem = fun _ => 0)

def quiescent_FwdKernelIdeal [hFwdKernelIdeal : Cert.FwdKernelIdeal.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg), Pre_FwdKernelIdeal m →
    θ_run (Cert.FwdKernelIdeal.defs (F := Ideal)) (onTc (τ := Cert.FwdKernelIdeal.τ) (Cert.FwdKernelIdeal.main (F := Ideal))) ⟨m, fun _ => 0, g⟩ (fun r => (∀ c : Dev Cert.FwdKernelIdeal.nD,
      r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
      ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
      ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2)
      ∧ r.2.mem ((c.tc : Thread Cert.FwdKernelIdeal.nD Cert.FwdKernelIdeal.τ).loc Cert.FwdKernelIdeal.main_arg3) = m ((c.tc : Thread Cert.FwdKernelIdeal.nD Cert.FwdKernelIdeal.τ).loc Cert.FwdKernelIdeal.main_arg3))
      ∧ r.2.sem = fun _ => 0)

def quiescent_FwdReferenceIdeal [hFwdReferenceIdeal : Cert.FwdReferenceIdeal.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2)
      ∧ r.2.mem ((c.tc : Thread Cert.FwdReferenceIdeal.nD Cert.FwdReferenceIdeal.τ).loc Cert.FwdReferenceIdeal.main_arg3) = m ((c.tc : Thread Cert.FwdReferenceIdeal.nD Cert.FwdReferenceIdeal.τ).loc Cert.FwdReferenceIdeal.main_arg3))
      ∧ r.2.sem = fun _ => 0)

def quiescent_OptKernel [hOptKernel : Cert.OptKernel.Facts] : Prop :=
  ∀ (m : (ℓ : Loc Cert.OptKernel.nD Cert.OptKernel.τ Cert.OptKernel.sig) → Buf (Elt Bits) ℓ) (g : Dev Cert.OptKernel.nD → PrngReg), Pre_OptKernel m →
    θ_run (Cert.OptKernel.defs (F := Bits)) (onTc (τ := Cert.OptKernel.τ) (Cert.OptKernel.main (F := Bits))) ⟨m, fun _ => 0, g⟩ (fun r => (∀ c : Dev Cert.OptKernel.nD,
      r.2.mem ((c.tc : Thread Cert.OptKernel.nD Cert.OptKernel.τ).loc Cert.OptKernel.main_arg0) = m ((c.tc : Thread Cert.OptKernel.nD Cert.OptKernel.τ).loc Cert.OptKernel.main_arg0)
      ∧ r.2.mem ((c.tc : Thread Cert.OptKernel.nD Cert.OptKernel.τ).loc Cert.OptKernel.main_arg1) = m ((c.tc : Thread Cert.OptKernel.nD Cert.OptKernel.τ).loc Cert.OptKernel.main_arg1)
      ∧ r.2.mem ((c.tc : Thread Cert.OptKernel.nD Cert.OptKernel.τ).loc Cert.OptKernel.main_arg2) = m ((c.tc : Thread Cert.OptKernel.nD Cert.OptKernel.τ).loc Cert.OptKernel.main_arg2)
      ∧ r.2.mem ((c.tc : Thread Cert.OptKernel.nD Cert.OptKernel.τ).loc Cert.OptKernel.main_arg3) = m ((c.tc : Thread Cert.OptKernel.nD Cert.OptKernel.τ).loc Cert.OptKernel.main_arg3))
      ∧ r.2.sem = fun _ => 0)

def quiescent_OptKernelIdeal [hOptKernelIdeal : Cert.OptKernelIdeal.Facts] : Prop :=
  ∀ (m : (ℓ : Loc Cert.OptKernelIdeal.nD Cert.OptKernelIdeal.τ Cert.OptKernelIdeal.sig) → Buf (Elt Ideal) ℓ) (g : Dev Cert.OptKernelIdeal.nD → PrngReg), Pre_OptKernelIdeal m →
    θ_run (Cert.OptKernelIdeal.defs (F := Ideal)) (onTc (τ := Cert.OptKernelIdeal.τ) (Cert.OptKernelIdeal.main (F := Ideal))) ⟨m, fun _ => 0, g⟩ (fun r => (∀ c : Dev Cert.OptKernelIdeal.nD,
      r.2.mem ((c.tc : Thread Cert.OptKernelIdeal.nD Cert.OptKernelIdeal.τ).loc Cert.OptKernelIdeal.main_arg0) = m ((c.tc : Thread Cert.OptKernelIdeal.nD Cert.OptKernelIdeal.τ).loc Cert.OptKernelIdeal.main_arg0)
      ∧ r.2.mem ((c.tc : Thread Cert.OptKernelIdeal.nD Cert.OptKernelIdeal.τ).loc Cert.OptKernelIdeal.main_arg1) = m ((c.tc : Thread Cert.OptKernelIdeal.nD Cert.OptKernelIdeal.τ).loc Cert.OptKernelIdeal.main_arg1)
      ∧ r.2.mem ((c.tc : Thread Cert.OptKernelIdeal.nD Cert.OptKernelIdeal.τ).loc Cert.OptKernelIdeal.main_arg2) = m ((c.tc : Thread Cert.OptKernelIdeal.nD Cert.OptKernelIdeal.τ).loc Cert.OptKernelIdeal.main_arg2)
      ∧ r.2.mem ((c.tc : Thread Cert.OptKernelIdeal.nD Cert.OptKernelIdeal.τ).loc Cert.OptKernelIdeal.main_arg3) = m ((c.tc : Thread Cert.OptKernelIdeal.nD Cert.OptKernelIdeal.τ).loc Cert.OptKernelIdeal.main_arg3))
      ∧ r.2.sem = fun _ => 0)

def quiescent_OptReferenceIdeal [hOptReferenceIdeal : Cert.OptReferenceIdeal.Facts] : Prop :=
  ∀ (m : (ℓ : Loc Cert.OptReferenceIdeal.nD Cert.OptReferenceIdeal.τ Cert.OptReferenceIdeal.sig) → Buf (Elt Ideal) ℓ) (g : Dev Cert.OptReferenceIdeal.nD → PrngReg), Pre_OptReferenceIdeal m →
    θ_run (Cert.OptReferenceIdeal.defs (F := Ideal)) (onTc (τ := Cert.OptReferenceIdeal.τ) (Cert.OptReferenceIdeal.main (F := Ideal))) ⟨m, fun _ => 0, g⟩ (fun r => (∀ c : Dev Cert.OptReferenceIdeal.nD,
      r.2.mem ((c.tc : Thread Cert.OptReferenceIdeal.nD Cert.OptReferenceIdeal.τ).loc Cert.OptReferenceIdeal.main_arg0) = m ((c.tc : Thread Cert.OptReferenceIdeal.nD Cert.OptReferenceIdeal.τ).loc Cert.OptReferenceIdeal.main_arg0)
      ∧ r.2.mem ((c.tc : Thread Cert.OptReferenceIdeal.nD Cert.OptReferenceIdeal.τ).loc Cert.OptReferenceIdeal.main_arg1) = m ((c.tc : Thread Cert.OptReferenceIdeal.nD Cert.OptReferenceIdeal.τ).loc Cert.OptReferenceIdeal.main_arg1)
      ∧ r.2.mem ((c.tc : Thread Cert.OptReferenceIdeal.nD Cert.OptReferenceIdeal.τ).loc Cert.OptReferenceIdeal.main_arg2) = m ((c.tc : Thread Cert.OptReferenceIdeal.nD Cert.OptReferenceIdeal.τ).loc Cert.OptReferenceIdeal.main_arg2)
      ∧ r.2.mem ((c.tc : Thread Cert.OptReferenceIdeal.nD Cert.OptReferenceIdeal.τ).loc Cert.OptReferenceIdeal.main_arg3) = m ((c.tc : Thread Cert.OptReferenceIdeal.nD Cert.OptReferenceIdeal.τ).loc Cert.OptReferenceIdeal.main_arg3))
      ∧ r.2.sem = fun _ => 0)

def quiescent_MmKernel [hMmKernel : Cert.MmKernel.Facts] : Prop :=
  ∀ (m : (ℓ : Loc Cert.MmKernel.nD Cert.MmKernel.τ Cert.MmKernel.sig) → Buf (Elt Bits) ℓ) (g : Dev Cert.MmKernel.nD → PrngReg), Pre_MmKernel m →
    θ_run (Cert.MmKernel.defs (F := Bits)) (onTc (τ := Cert.MmKernel.τ) (Cert.MmKernel.main (F := Bits))) ⟨m, fun _ => 0, g⟩ (fun r => (∀ c : Dev Cert.MmKernel.nD,
      r.2.mem ((c.tc : Thread Cert.MmKernel.nD Cert.MmKernel.τ).loc Cert.MmKernel.main_arg0) = m ((c.tc : Thread Cert.MmKernel.nD Cert.MmKernel.τ).loc Cert.MmKernel.main_arg0)
      ∧ r.2.mem ((c.tc : Thread Cert.MmKernel.nD Cert.MmKernel.τ).loc Cert.MmKernel.main_arg1) = m ((c.tc : Thread Cert.MmKernel.nD Cert.MmKernel.τ).loc Cert.MmKernel.main_arg1))
      ∧ r.2.sem = fun _ => 0)

def quiescent_MmKernelIdeal [hMmKernelIdeal : Cert.MmKernelIdeal.Facts] : Prop :=
  ∀ (m : (ℓ : Loc Cert.MmKernelIdeal.nD Cert.MmKernelIdeal.τ Cert.MmKernelIdeal.sig) → Buf (Elt Ideal) ℓ) (g : Dev Cert.MmKernelIdeal.nD → PrngReg), Pre_MmKernelIdeal m →
    θ_run (Cert.MmKernelIdeal.defs (F := Ideal)) (onTc (τ := Cert.MmKernelIdeal.τ) (Cert.MmKernelIdeal.main (F := Ideal))) ⟨m, fun _ => 0, g⟩ (fun r => (∀ c : Dev Cert.MmKernelIdeal.nD,
      r.2.mem ((c.tc : Thread Cert.MmKernelIdeal.nD Cert.MmKernelIdeal.τ).loc Cert.MmKernelIdeal.main_arg0) = m ((c.tc : Thread Cert.MmKernelIdeal.nD Cert.MmKernelIdeal.τ).loc Cert.MmKernelIdeal.main_arg0)
      ∧ r.2.mem ((c.tc : Thread Cert.MmKernelIdeal.nD Cert.MmKernelIdeal.τ).loc Cert.MmKernelIdeal.main_arg1) = m ((c.tc : Thread Cert.MmKernelIdeal.nD Cert.MmKernelIdeal.τ).loc Cert.MmKernelIdeal.main_arg1))
      ∧ r.2.sem = fun _ => 0)

def quiescent_MmReferenceIdeal [hMmReferenceIdeal : Cert.MmReferenceIdeal.Facts] : Prop :=
  ∀ (m : (ℓ : Loc Cert.MmReferenceIdeal.nD Cert.MmReferenceIdeal.τ Cert.MmReferenceIdeal.sig) → Buf (Elt Ideal) ℓ) (g : Dev Cert.MmReferenceIdeal.nD → PrngReg), Pre_MmReferenceIdeal m →
    θ_run (Cert.MmReferenceIdeal.defs (F := Ideal)) (onTc (τ := Cert.MmReferenceIdeal.τ) (Cert.MmReferenceIdeal.main (F := Ideal))) ⟨m, fun _ => 0, g⟩ (fun r => (∀ c : Dev Cert.MmReferenceIdeal.nD,
      r.2.mem ((c.tc : Thread Cert.MmReferenceIdeal.nD Cert.MmReferenceIdeal.τ).loc Cert.MmReferenceIdeal.main_arg0) = m ((c.tc : Thread Cert.MmReferenceIdeal.nD Cert.MmReferenceIdeal.τ).loc Cert.MmReferenceIdeal.main_arg0)
      ∧ r.2.mem ((c.tc : Thread Cert.MmReferenceIdeal.nD Cert.MmReferenceIdeal.τ).loc Cert.MmReferenceIdeal.main_arg1) = m ((c.tc : Thread Cert.MmReferenceIdeal.nD Cert.MmReferenceIdeal.τ).loc Cert.MmReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_PrepKernel_PrepKernelIdeal : Prop :=
  IdealRules.named_const.Statement Cert.PrepKernelIdeal.κ "ln2" .f32 0x3F317218#32 ((Real.log 2 : ℝ) : EReal)

def algebraic_PrepKernelIdeal_PrepReferenceIdeal_pre_finite_prep [hPrepKernelIdeal : Cert.PrepKernelIdeal.Facts] [hPrepReferenceIdeal : Cert.PrepReferenceIdeal.Facts] [hPre_finite_prep : Cert.Pre_finite_prep.Facts] : Prop :=
  ∀ (m : (ℓ : Loc Cert.PrepKernelIdeal.nD Cert.PrepKernelIdeal.τ Cert.PrepKernelIdeal.sig) → Buf (Elt Ideal) ℓ) (g : Dev Cert.PrepKernelIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepKernelIdeal_finite_prep m →
    (∀ c : Dev Cert.PrepKernelIdeal.nD,
      m' ((c.tc : Thread Cert.PrepReferenceIdeal.nD Cert.PrepReferenceIdeal.τ).loc Cert.PrepReferenceIdeal.main_arg0) = m ((c.tc : Thread Cert.PrepKernelIdeal.nD Cert.PrepKernelIdeal.τ).loc Cert.PrepKernelIdeal.main_arg0)
      ∧ m' ((c.tc : Thread Cert.PrepReferenceIdeal.nD Cert.PrepReferenceIdeal.τ).loc Cert.PrepReferenceIdeal.main_arg1) = m ((c.tc : Thread Cert.PrepKernelIdeal.nD Cert.PrepKernelIdeal.τ).loc Cert.PrepKernelIdeal.main_arg1)
      ∧ m' ((c.tc : Thread Cert.PrepReferenceIdeal.nD Cert.PrepReferenceIdeal.τ).loc Cert.PrepReferenceIdeal.main_arg2) = m ((c.tc : Thread Cert.PrepKernelIdeal.nD Cert.PrepKernelIdeal.τ).loc Cert.PrepKernelIdeal.main_arg2)
      ∧ m' ((c.tc : Thread Cert.PrepReferenceIdeal.nD Cert.PrepReferenceIdeal.τ).loc Cert.PrepReferenceIdeal.main_arg3) = m ((c.tc : Thread Cert.PrepKernelIdeal.nD Cert.PrepKernelIdeal.τ).loc Cert.PrepKernelIdeal.main_arg3)
      ∧ m' ((c.tc : Thread Cert.PrepReferenceIdeal.nD Cert.PrepReferenceIdeal.τ).loc Cert.PrepReferenceIdeal.main_arg4) = m ((c.tc : Thread Cert.PrepKernelIdeal.nD Cert.PrepKernelIdeal.τ).loc Cert.PrepKernelIdeal.main_arg4)
      ∧ m' ((c.tc : Thread Cert.PrepReferenceIdeal.nD Cert.PrepReferenceIdeal.τ).loc Cert.PrepReferenceIdeal.main_arg5) = m ((c.tc : Thread Cert.PrepKernelIdeal.nD Cert.PrepKernelIdeal.τ).loc Cert.PrepKernelIdeal.main_arg5)) →
    ∃ (v0 : (c : Dev Cert.PrepKernelIdeal.nD) → Buf (Elt Ideal) ((c.tc : Thread Cert.PrepKernelIdeal.nD Cert.PrepKernelIdeal.τ).loc Cert.PrepKernelIdeal.main_v75_0)) (v1 : (c : Dev Cert.PrepKernelIdeal.nD) → Buf (Elt Ideal) ((c.tc : Thread Cert.PrepKernelIdeal.nD Cert.PrepKernelIdeal.τ).loc Cert.PrepKernelIdeal.main_v75_1)),
      θ_run (Cert.PrepKernelIdeal.defs (F := Ideal)) (onTc (τ := Cert.PrepKernelIdeal.τ) (Cert.PrepKernelIdeal.main (F := Ideal))) ⟨m, fun _ => 0, g⟩ (fun r => ∀ c : Dev Cert.PrepKernelIdeal.nD,
          r.2.mem ((c.tc : Thread Cert.PrepKernelIdeal.nD Cert.PrepKernelIdeal.τ).loc Cert.PrepKernelIdeal.main_v75_0) = v0 c
          ∧ r.2.mem ((c.tc : Thread Cert.PrepKernelIdeal.nD Cert.PrepKernelIdeal.τ).loc Cert.PrepKernelIdeal.main_v75_1) = v1 c
          ∧ r.2.mem ((c.tc : Thread Cert.PrepKernelIdeal.nD Cert.PrepKernelIdeal.τ).loc Cert.PrepKernelIdeal.main_arg0) = m ((c.tc : Thread Cert.PrepKernelIdeal.nD Cert.PrepKernelIdeal.τ).loc Cert.PrepKernelIdeal.main_arg0)
          ∧ r.2.mem ((c.tc : Thread Cert.PrepKernelIdeal.nD Cert.PrepKernelIdeal.τ).loc Cert.PrepKernelIdeal.main_arg1) = m ((c.tc : Thread Cert.PrepKernelIdeal.nD Cert.PrepKernelIdeal.τ).loc Cert.PrepKernelIdeal.main_arg1)
          ∧ r.2.mem ((c.tc : Thread Cert.PrepKernelIdeal.nD Cert.PrepKernelIdeal.τ).loc Cert.PrepKernelIdeal.main_arg2) = m ((c.tc : Thread Cert.PrepKernelIdeal.nD Cert.PrepKernelIdeal.τ).loc Cert.PrepKernelIdeal.main_arg2)
          ∧ r.2.mem ((c.tc : Thread Cert.PrepKernelIdeal.nD Cert.PrepKernelIdeal.τ).loc Cert.PrepKernelIdeal.main_arg3) = m ((c.tc : Thread Cert.PrepKernelIdeal.nD Cert.PrepKernelIdeal.τ).loc Cert.PrepKernelIdeal.main_arg3)
          ∧ r.2.mem ((c.tc : Thread Cert.PrepKernelIdeal.nD Cert.PrepKernelIdeal.τ).loc Cert.PrepKernelIdeal.main_arg4) = m ((c.tc : Thread Cert.PrepKernelIdeal.nD Cert.PrepKernelIdeal.τ).loc Cert.PrepKernelIdeal.main_arg4)
          ∧ r.2.mem ((c.tc : Thread Cert.PrepKernelIdeal.nD Cert.PrepKernelIdeal.τ).loc Cert.PrepKernelIdeal.main_arg5) = m ((c.tc : Thread Cert.PrepKernelIdeal.nD Cert.PrepKernelIdeal.τ).loc Cert.PrepKernelIdeal.main_arg5))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v294) = v0 c
          ∧ r.2.mem ((c.tc : Thread Cert.PrepReferenceIdeal.nD Cert.PrepReferenceIdeal.τ).loc Cert.PrepReferenceIdeal.main_v292) = v1 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1)
          ∧ r.2.mem ((c.tc : Thread Cert.PrepReferenceIdeal.nD Cert.PrepReferenceIdeal.τ).loc Cert.PrepReferenceIdeal.main_arg2) = m' ((c.tc : Thread Cert.PrepReferenceIdeal.nD Cert.PrepReferenceIdeal.τ).loc Cert.PrepReferenceIdeal.main_arg2)
          ∧ r.2.mem ((c.tc : Thread Cert.PrepReferenceIdeal.nD Cert.PrepReferenceIdeal.τ).loc Cert.PrepReferenceIdeal.main_arg3) = m' ((c.tc : Thread Cert.PrepReferenceIdeal.nD Cert.PrepReferenceIdeal.τ).loc Cert.PrepReferenceIdeal.main_arg3)
          ∧ r.2.mem ((c.tc : Thread Cert.PrepReferenceIdeal.nD Cert.PrepReferenceIdeal.τ).loc Cert.PrepReferenceIdeal.main_arg4) = m' ((c.tc : Thread Cert.PrepReferenceIdeal.nD Cert.PrepReferenceIdeal.τ).loc Cert.PrepReferenceIdeal.main_arg4)
          ∧ r.2.mem ((c.tc : Thread Cert.PrepReferenceIdeal.nD Cert.PrepReferenceIdeal.τ).loc Cert.PrepReferenceIdeal.main_arg5) = m' ((c.tc : Thread Cert.PrepReferenceIdeal.nD Cert.PrepReferenceIdeal.τ).loc Cert.PrepReferenceIdeal.main_arg5))

def preserves_InKernel_InKernelIdeal : Prop :=
  True

def algebraic_InKernelIdeal_InReferenceIdeal_pre_finite_in [hInKernelIdeal : Cert.InKernelIdeal.Facts] [hInReferenceIdeal : Cert.InReferenceIdeal.Facts] [hPre_finite_in : Cert.Pre_finite_in.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal_finite_in m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)
      ∧ m' ((c.tc : Thread Cert.InReferenceIdeal.nD Cert.InReferenceIdeal.τ).loc Cert.InReferenceIdeal.main_arg4) = m ((c.tc : Thread Cert.InKernelIdeal.nD Cert.InKernelIdeal.τ).loc Cert.InKernelIdeal.main_arg4)
      ∧ m' ((c.tc : Thread Cert.InReferenceIdeal.nD Cert.InReferenceIdeal.τ).loc Cert.InReferenceIdeal.main_arg5) = m ((c.tc : Thread Cert.InKernelIdeal.nD Cert.InKernelIdeal.τ).loc Cert.InKernelIdeal.main_arg5)) →
    ∃ (v0 : (c : Dev Cert.InKernelIdeal.nD) → Buf (Elt Ideal) ((c.tc : Thread Cert.InKernelIdeal.nD Cert.InKernelIdeal.τ).loc Cert.InKernelIdeal.main_v28_0)) (v1 : (c : Dev Cert.InKernelIdeal.nD) → Buf (Elt Ideal) ((c.tc : Thread Cert.InKernelIdeal.nD Cert.InKernelIdeal.τ).loc Cert.InKernelIdeal.main_v28_1)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v28_0) = v0 c
          ∧ r.2.mem ((c.tc : Thread Cert.InKernelIdeal.nD Cert.InKernelIdeal.τ).loc Cert.InKernelIdeal.main_v28_1) = v1 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
          ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
          ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v58) = v0 c
          ∧ r.2.mem ((c.tc : Thread Cert.InReferenceIdeal.nD Cert.InReferenceIdeal.τ).loc Cert.InReferenceIdeal.main_v63) = v1 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4)
          ∧ r.2.mem ((c.tc : Thread Cert.InReferenceIdeal.nD Cert.InReferenceIdeal.τ).loc Cert.InReferenceIdeal.main_arg5) = m' ((c.tc : Thread Cert.InReferenceIdeal.nD Cert.InReferenceIdeal.τ).loc Cert.InReferenceIdeal.main_arg5))

def preserves_MidKernel_MidKernelIdeal : Prop :=
  True

def algebraic_MidKernelIdeal_MidReferenceIdeal_pre_finite_mid [hMidKernelIdeal : Cert.MidKernelIdeal.Facts] [hMidReferenceIdeal : Cert.MidReferenceIdeal.Facts] [hPre_finite_mid : Cert.Pre_finite_mid.Facts] : Prop :=
  ∀ (m : (ℓ : Loc Cert.MidKernelIdeal.nD Cert.MidKernelIdeal.τ Cert.MidKernelIdeal.sig) → Buf (Elt Ideal) ℓ) (g : Dev Cert.MidKernelIdeal.nD → PrngReg)
    (m' : (ℓ : Loc Cert.MidReferenceIdeal.nD Cert.MidReferenceIdeal.τ Cert.MidReferenceIdeal.sig) → Buf (Elt Ideal) ℓ) (g' : Dev Cert.MidReferenceIdeal.nD → PrngReg), Pre_MidKernelIdeal_finite_mid m →
    (∀ c : Dev Cert.MidKernelIdeal.nD,
      m' ((c.tc : Thread Cert.MidReferenceIdeal.nD Cert.MidReferenceIdeal.τ).loc Cert.MidReferenceIdeal.main_arg0) = m ((c.tc : Thread Cert.MidKernelIdeal.nD Cert.MidKernelIdeal.τ).loc Cert.MidKernelIdeal.main_arg0)
      ∧ m' ((c.tc : Thread Cert.MidReferenceIdeal.nD Cert.MidReferenceIdeal.τ).loc Cert.MidReferenceIdeal.main_arg1) = m ((c.tc : Thread Cert.MidKernelIdeal.nD Cert.MidKernelIdeal.τ).loc Cert.MidKernelIdeal.main_arg1)
      ∧ m' ((c.tc : Thread Cert.MidReferenceIdeal.nD Cert.MidReferenceIdeal.τ).loc Cert.MidReferenceIdeal.main_arg2) = m ((c.tc : Thread Cert.MidKernelIdeal.nD Cert.MidKernelIdeal.τ).loc Cert.MidKernelIdeal.main_arg2)
      ∧ m' ((c.tc : Thread Cert.MidReferenceIdeal.nD Cert.MidReferenceIdeal.τ).loc Cert.MidReferenceIdeal.main_arg3) = m ((c.tc : Thread Cert.MidKernelIdeal.nD Cert.MidKernelIdeal.τ).loc Cert.MidKernelIdeal.main_arg3)
      ∧ m' ((c.tc : Thread Cert.MidReferenceIdeal.nD Cert.MidReferenceIdeal.τ).loc Cert.MidReferenceIdeal.main_arg4) = m ((c.tc : Thread Cert.MidKernelIdeal.nD Cert.MidKernelIdeal.τ).loc Cert.MidKernelIdeal.main_arg4)
      ∧ m' ((c.tc : Thread Cert.MidReferenceIdeal.nD Cert.MidReferenceIdeal.τ).loc Cert.MidReferenceIdeal.main_arg5) = m ((c.tc : Thread Cert.MidKernelIdeal.nD Cert.MidKernelIdeal.τ).loc Cert.MidKernelIdeal.main_arg5)
      ∧ m' ((c.tc : Thread Cert.MidReferenceIdeal.nD Cert.MidReferenceIdeal.τ).loc Cert.MidReferenceIdeal.main_arg6) = m ((c.tc : Thread Cert.MidKernelIdeal.nD Cert.MidKernelIdeal.τ).loc Cert.MidKernelIdeal.main_arg6)
      ∧ m' ((c.tc : Thread Cert.MidReferenceIdeal.nD Cert.MidReferenceIdeal.τ).loc Cert.MidReferenceIdeal.main_arg7) = m ((c.tc : Thread Cert.MidKernelIdeal.nD Cert.MidKernelIdeal.τ).loc Cert.MidKernelIdeal.main_arg7)
      ∧ m' ((c.tc : Thread Cert.MidReferenceIdeal.nD Cert.MidReferenceIdeal.τ).loc Cert.MidReferenceIdeal.main_arg8) = m ((c.tc : Thread Cert.MidKernelIdeal.nD Cert.MidKernelIdeal.τ).loc Cert.MidKernelIdeal.main_arg8)
      ∧ m' ((c.tc : Thread Cert.MidReferenceIdeal.nD Cert.MidReferenceIdeal.τ).loc Cert.MidReferenceIdeal.main_arg9) = m ((c.tc : Thread Cert.MidKernelIdeal.nD Cert.MidKernelIdeal.τ).loc Cert.MidKernelIdeal.main_arg9)) →
    ∃ (v0 : (c : Dev Cert.MidKernelIdeal.nD) → Buf (Elt Ideal) ((c.tc : Thread Cert.MidKernelIdeal.nD Cert.MidKernelIdeal.τ).loc Cert.MidKernelIdeal.main_v17_0)) (v1 : (c : Dev Cert.MidKernelIdeal.nD) → Buf (Elt Ideal) ((c.tc : Thread Cert.MidKernelIdeal.nD Cert.MidKernelIdeal.τ).loc Cert.MidKernelIdeal.main_v17_1)) (v2 : (c : Dev Cert.MidKernelIdeal.nD) → Buf (Elt Ideal) ((c.tc : Thread Cert.MidKernelIdeal.nD Cert.MidKernelIdeal.τ).loc Cert.MidKernelIdeal.main_v17_2)) (v3 : (c : Dev Cert.MidKernelIdeal.nD) → Buf (Elt Ideal) ((c.tc : Thread Cert.MidKernelIdeal.nD Cert.MidKernelIdeal.τ).loc Cert.MidKernelIdeal.main_v17_3)) (v4 : (c : Dev Cert.MidKernelIdeal.nD) → Buf (Elt Ideal) ((c.tc : Thread Cert.MidKernelIdeal.nD Cert.MidKernelIdeal.τ).loc Cert.MidKernelIdeal.main_v17_4)) (v5 : (c : Dev Cert.MidKernelIdeal.nD) → Buf (Elt Ideal) ((c.tc : Thread Cert.MidKernelIdeal.nD Cert.MidKernelIdeal.τ).loc Cert.MidKernelIdeal.main_v17_5)) (v6 : (c : Dev Cert.MidKernelIdeal.nD) → Buf (Elt Ideal) ((c.tc : Thread Cert.MidKernelIdeal.nD Cert.MidKernelIdeal.τ).loc Cert.MidKernelIdeal.main_v17_6)) (v7 : (c : Dev Cert.MidKernelIdeal.nD) → Buf (Elt Ideal) ((c.tc : Thread Cert.MidKernelIdeal.nD Cert.MidKernelIdeal.τ).loc Cert.MidKernelIdeal.main_v17_7)) (v8 : (c : Dev Cert.MidKernelIdeal.nD) → Buf (Elt Ideal) ((c.tc : Thread Cert.MidKernelIdeal.nD Cert.MidKernelIdeal.τ).loc Cert.MidKernelIdeal.main_v17_8)) (v9 : (c : Dev Cert.MidKernelIdeal.nD) → Buf (Elt Ideal) ((c.tc : Thread Cert.MidKernelIdeal.nD Cert.MidKernelIdeal.τ).loc Cert.MidKernelIdeal.main_v17_9)),
      θ_run (Cert.MidKernelIdeal.defs (F := Ideal)) (onTc (τ := Cert.MidKernelIdeal.τ) (Cert.MidKernelIdeal.main (F := Ideal))) ⟨m, fun _ => 0, g⟩ (fun r => ∀ c : Dev Cert.MidKernelIdeal.nD,
          r.2.mem ((c.tc : Thread Cert.MidKernelIdeal.nD Cert.MidKernelIdeal.τ).loc Cert.MidKernelIdeal.main_v17_0) = v0 c
          ∧ r.2.mem ((c.tc : Thread Cert.MidKernelIdeal.nD Cert.MidKernelIdeal.τ).loc Cert.MidKernelIdeal.main_v17_1) = v1 c
          ∧ r.2.mem ((c.tc : Thread Cert.MidKernelIdeal.nD Cert.MidKernelIdeal.τ).loc Cert.MidKernelIdeal.main_v17_2) = v2 c
          ∧ r.2.mem ((c.tc : Thread Cert.MidKernelIdeal.nD Cert.MidKernelIdeal.τ).loc Cert.MidKernelIdeal.main_v17_3) = v3 c
          ∧ r.2.mem ((c.tc : Thread Cert.MidKernelIdeal.nD Cert.MidKernelIdeal.τ).loc Cert.MidKernelIdeal.main_v17_4) = v4 c
          ∧ r.2.mem ((c.tc : Thread Cert.MidKernelIdeal.nD Cert.MidKernelIdeal.τ).loc Cert.MidKernelIdeal.main_v17_5) = v5 c
          ∧ r.2.mem ((c.tc : Thread Cert.MidKernelIdeal.nD Cert.MidKernelIdeal.τ).loc Cert.MidKernelIdeal.main_v17_6) = v6 c
          ∧ r.2.mem ((c.tc : Thread Cert.MidKernelIdeal.nD Cert.MidKernelIdeal.τ).loc Cert.MidKernelIdeal.main_v17_7) = v7 c
          ∧ r.2.mem ((c.tc : Thread Cert.MidKernelIdeal.nD Cert.MidKernelIdeal.τ).loc Cert.MidKernelIdeal.main_v17_8) = v8 c
          ∧ r.2.mem ((c.tc : Thread Cert.MidKernelIdeal.nD Cert.MidKernelIdeal.τ).loc Cert.MidKernelIdeal.main_v17_9) = v9 c
          ∧ r.2.mem ((c.tc : Thread Cert.MidKernelIdeal.nD Cert.MidKernelIdeal.τ).loc Cert.MidKernelIdeal.main_arg0) = m ((c.tc : Thread Cert.MidKernelIdeal.nD Cert.MidKernelIdeal.τ).loc Cert.MidKernelIdeal.main_arg0)
          ∧ r.2.mem ((c.tc : Thread Cert.MidKernelIdeal.nD Cert.MidKernelIdeal.τ).loc Cert.MidKernelIdeal.main_arg1) = m ((c.tc : Thread Cert.MidKernelIdeal.nD Cert.MidKernelIdeal.τ).loc Cert.MidKernelIdeal.main_arg1)
          ∧ r.2.mem ((c.tc : Thread Cert.MidKernelIdeal.nD Cert.MidKernelIdeal.τ).loc Cert.MidKernelIdeal.main_arg2) = m ((c.tc : Thread Cert.MidKernelIdeal.nD Cert.MidKernelIdeal.τ).loc Cert.MidKernelIdeal.main_arg2)
          ∧ r.2.mem ((c.tc : Thread Cert.MidKernelIdeal.nD Cert.MidKernelIdeal.τ).loc Cert.MidKernelIdeal.main_arg3) = m ((c.tc : Thread Cert.MidKernelIdeal.nD Cert.MidKernelIdeal.τ).loc Cert.MidKernelIdeal.main_arg3)
          ∧ r.2.mem ((c.tc : Thread Cert.MidKernelIdeal.nD Cert.MidKernelIdeal.τ).loc Cert.MidKernelIdeal.main_arg4) = m ((c.tc : Thread Cert.MidKernelIdeal.nD Cert.MidKernelIdeal.τ).loc Cert.MidKernelIdeal.main_arg4)
          ∧ r.2.mem ((c.tc : Thread Cert.MidKernelIdeal.nD Cert.MidKernelIdeal.τ).loc Cert.MidKernelIdeal.main_arg5) = m ((c.tc : Thread Cert.MidKernelIdeal.nD Cert.MidKernelIdeal.τ).loc Cert.MidKernelIdeal.main_arg5)
          ∧ r.2.mem ((c.tc : Thread Cert.MidKernelIdeal.nD Cert.MidKernelIdeal.τ).loc Cert.MidKernelIdeal.main_arg6) = m ((c.tc : Thread Cert.MidKernelIdeal.nD Cert.MidKernelIdeal.τ).loc Cert.MidKernelIdeal.main_arg6)
          ∧ r.2.mem ((c.tc : Thread Cert.MidKernelIdeal.nD Cert.MidKernelIdeal.τ).loc Cert.MidKernelIdeal.main_arg7) = m ((c.tc : Thread Cert.MidKernelIdeal.nD Cert.MidKernelIdeal.τ).loc Cert.MidKernelIdeal.main_arg7)
          ∧ r.2.mem ((c.tc : Thread Cert.MidKernelIdeal.nD Cert.MidKernelIdeal.τ).loc Cert.MidKernelIdeal.main_arg8) = m ((c.tc : Thread Cert.MidKernelIdeal.nD Cert.MidKernelIdeal.τ).loc Cert.MidKernelIdeal.main_arg8)
          ∧ r.2.mem ((c.tc : Thread Cert.MidKernelIdeal.nD Cert.MidKernelIdeal.τ).loc Cert.MidKernelIdeal.main_arg9) = m ((c.tc : Thread Cert.MidKernelIdeal.nD Cert.MidKernelIdeal.τ).loc Cert.MidKernelIdeal.main_arg9))
      ∧ θ_run (Cert.MidReferenceIdeal.defs (F := Ideal)) (onTc (τ := Cert.MidReferenceIdeal.τ) (Cert.MidReferenceIdeal.main (F := Ideal))) ⟨m', fun _ => 0, g'⟩ (fun r => ∀ c : Dev Cert.MidReferenceIdeal.nD,
          r.2.mem ((c.tc : Thread Cert.MidReferenceIdeal.nD Cert.MidReferenceIdeal.τ).loc Cert.MidReferenceIdeal.main_v56) = v0 c
          ∧ r.2.mem ((c.tc : Thread Cert.MidReferenceIdeal.nD Cert.MidReferenceIdeal.τ).loc Cert.MidReferenceIdeal.main_v104) = v1 c
          ∧ r.2.mem ((c.tc : Thread Cert.MidReferenceIdeal.nD Cert.MidReferenceIdeal.τ).loc Cert.MidReferenceIdeal.main_v106) = v2 c
          ∧ r.2.mem ((c.tc : Thread Cert.MidReferenceIdeal.nD Cert.MidReferenceIdeal.τ).loc Cert.MidReferenceIdeal.main_v90) = v3 c
          ∧ r.2.mem ((c.tc : Thread Cert.MidReferenceIdeal.nD Cert.MidReferenceIdeal.τ).loc Cert.MidReferenceIdeal.main_v107) = v4 c
          ∧ r.2.mem ((c.tc : Thread Cert.MidReferenceIdeal.nD Cert.MidReferenceIdeal.τ).loc Cert.MidReferenceIdeal.main_v108) = v5 c
          ∧ r.2.mem ((c.tc : Thread Cert.MidReferenceIdeal.nD Cert.MidReferenceIdeal.τ).loc Cert.MidReferenceIdeal.main_v109) = v6 c
          ∧ r.2.mem ((c.tc : Thread Cert.MidReferenceIdeal.nD Cert.MidReferenceIdeal.τ).loc Cert.MidReferenceIdeal.main_v110) = v7 c
          ∧ r.2.mem ((c.tc : Thread Cert.MidReferenceIdeal.nD Cert.MidReferenceIdeal.τ).loc Cert.MidReferenceIdeal.main_v111) = v8 c
          ∧ r.2.mem ((c.tc : Thread Cert.MidReferenceIdeal.nD Cert.MidReferenceIdeal.τ).loc Cert.MidReferenceIdeal.main_v101) = v9 c
          ∧ r.2.mem ((c.tc : Thread Cert.MidReferenceIdeal.nD Cert.MidReferenceIdeal.τ).loc Cert.MidReferenceIdeal.main_arg0) = m' ((c.tc : Thread Cert.MidReferenceIdeal.nD Cert.MidReferenceIdeal.τ).loc Cert.MidReferenceIdeal.main_arg0)
          ∧ r.2.mem ((c.tc : Thread Cert.MidReferenceIdeal.nD Cert.MidReferenceIdeal.τ).loc Cert.MidReferenceIdeal.main_arg1) = m' ((c.tc : Thread Cert.MidReferenceIdeal.nD Cert.MidReferenceIdeal.τ).loc Cert.MidReferenceIdeal.main_arg1)
          ∧ r.2.mem ((c.tc : Thread Cert.MidReferenceIdeal.nD Cert.MidReferenceIdeal.τ).loc Cert.MidReferenceIdeal.main_arg2) = m' ((c.tc : Thread Cert.MidReferenceIdeal.nD Cert.MidReferenceIdeal.τ).loc Cert.MidReferenceIdeal.main_arg2)
          ∧ r.2.mem ((c.tc : Thread Cert.MidReferenceIdeal.nD Cert.MidReferenceIdeal.τ).loc Cert.MidReferenceIdeal.main_arg3) = m' ((c.tc : Thread Cert.MidReferenceIdeal.nD Cert.MidReferenceIdeal.τ).loc Cert.MidReferenceIdeal.main_arg3)
          ∧ r.2.mem ((c.tc : Thread Cert.MidReferenceIdeal.nD Cert.MidReferenceIdeal.τ).loc Cert.MidReferenceIdeal.main_arg4) = m' ((c.tc : Thread Cert.MidReferenceIdeal.nD Cert.MidReferenceIdeal.τ).loc Cert.MidReferenceIdeal.main_arg4)
          ∧ r.2.mem ((c.tc : Thread Cert.MidReferenceIdeal.nD Cert.MidReferenceIdeal.τ).loc Cert.MidReferenceIdeal.main_arg5) = m' ((c.tc : Thread Cert.MidReferenceIdeal.nD Cert.MidReferenceIdeal.τ).loc Cert.MidReferenceIdeal.main_arg5)
          ∧ r.2.mem ((c.tc : Thread Cert.MidReferenceIdeal.nD Cert.MidReferenceIdeal.τ).loc Cert.MidReferenceIdeal.main_arg6) = m' ((c.tc : Thread Cert.MidReferenceIdeal.nD Cert.MidReferenceIdeal.τ).loc Cert.MidReferenceIdeal.main_arg6)
          ∧ r.2.mem ((c.tc : Thread Cert.MidReferenceIdeal.nD Cert.MidReferenceIdeal.τ).loc Cert.MidReferenceIdeal.main_arg7) = m' ((c.tc : Thread Cert.MidReferenceIdeal.nD Cert.MidReferenceIdeal.τ).loc Cert.MidReferenceIdeal.main_arg7)
          ∧ r.2.mem ((c.tc : Thread Cert.MidReferenceIdeal.nD Cert.MidReferenceIdeal.τ).loc Cert.MidReferenceIdeal.main_arg8) = m' ((c.tc : Thread Cert.MidReferenceIdeal.nD Cert.MidReferenceIdeal.τ).loc Cert.MidReferenceIdeal.main_arg8)
          ∧ r.2.mem ((c.tc : Thread Cert.MidReferenceIdeal.nD Cert.MidReferenceIdeal.τ).loc Cert.MidReferenceIdeal.main_arg9) = m' ((c.tc : Thread Cert.MidReferenceIdeal.nD Cert.MidReferenceIdeal.τ).loc Cert.MidReferenceIdeal.main_arg9))

def preserves_AttKernel_AttKernelIdeal : Prop :=
  True

def algebraic_AttKernelIdeal_AttReferenceIdeal_pre_finite_att [hAttKernelIdeal : Cert.AttKernelIdeal.Facts] [hAttReferenceIdeal : Cert.AttReferenceIdeal.Facts] [hPre_finite_att : Cert.Pre_finite_att.Facts] : Prop :=
  ∀ (m : (ℓ : Loc Cert.AttKernelIdeal.nD Cert.AttKernelIdeal.τ Cert.AttKernelIdeal.sig) → Buf (Elt Ideal) ℓ) (g : Dev Cert.AttKernelIdeal.nD → PrngReg)
    (m' : (ℓ : Loc Cert.AttReferenceIdeal.nD Cert.AttReferenceIdeal.τ Cert.AttReferenceIdeal.sig) → Buf (Elt Ideal) ℓ) (g' : Dev Cert.AttReferenceIdeal.nD → PrngReg), Pre_AttKernelIdeal_finite_att m →
    (∀ c : Dev Cert.AttKernelIdeal.nD,
      m' ((c.tc : Thread Cert.AttReferenceIdeal.nD Cert.AttReferenceIdeal.τ).loc Cert.AttReferenceIdeal.main_arg0) = m ((c.tc : Thread Cert.AttKernelIdeal.nD Cert.AttKernelIdeal.τ).loc Cert.AttKernelIdeal.main_arg0)
      ∧ m' ((c.tc : Thread Cert.AttReferenceIdeal.nD Cert.AttReferenceIdeal.τ).loc Cert.AttReferenceIdeal.main_arg1) = m ((c.tc : Thread Cert.AttKernelIdeal.nD Cert.AttKernelIdeal.τ).loc Cert.AttKernelIdeal.main_arg1)
      ∧ m' ((c.tc : Thread Cert.AttReferenceIdeal.nD Cert.AttReferenceIdeal.τ).loc Cert.AttReferenceIdeal.main_arg2) = m ((c.tc : Thread Cert.AttKernelIdeal.nD Cert.AttKernelIdeal.τ).loc Cert.AttKernelIdeal.main_arg2)
      ∧ m' ((c.tc : Thread Cert.AttReferenceIdeal.nD Cert.AttReferenceIdeal.τ).loc Cert.AttReferenceIdeal.main_arg3) = m ((c.tc : Thread Cert.AttKernelIdeal.nD Cert.AttKernelIdeal.τ).loc Cert.AttKernelIdeal.main_arg3)) →
    ∃ (v0 : (c : Dev Cert.AttKernelIdeal.nD) → Buf (Elt Ideal) ((c.tc : Thread Cert.AttKernelIdeal.nD Cert.AttKernelIdeal.τ).loc Cert.AttKernelIdeal.main_v39_0)) (v1 : (c : Dev Cert.AttKernelIdeal.nD) → Buf (Elt Ideal) ((c.tc : Thread Cert.AttKernelIdeal.nD Cert.AttKernelIdeal.τ).loc Cert.AttKernelIdeal.main_v39_1)) (v2 : (c : Dev Cert.AttKernelIdeal.nD) → Buf (Elt Ideal) ((c.tc : Thread Cert.AttKernelIdeal.nD Cert.AttKernelIdeal.τ).loc Cert.AttKernelIdeal.main_v39_2)),
      θ_run (Cert.AttKernelIdeal.defs (F := Ideal)) (onTc (τ := Cert.AttKernelIdeal.τ) (Cert.AttKernelIdeal.main (F := Ideal))) ⟨m, fun _ => 0, g⟩ (fun r => ∀ c : Dev Cert.AttKernelIdeal.nD,
          r.2.mem ((c.tc : Thread Cert.AttKernelIdeal.nD Cert.AttKernelIdeal.τ).loc Cert.AttKernelIdeal.main_v39_0) = v0 c
          ∧ r.2.mem ((c.tc : Thread Cert.AttKernelIdeal.nD Cert.AttKernelIdeal.τ).loc Cert.AttKernelIdeal.main_v39_1) = v1 c
          ∧ r.2.mem ((c.tc : Thread Cert.AttKernelIdeal.nD Cert.AttKernelIdeal.τ).loc Cert.AttKernelIdeal.main_v39_2) = v2 c
          ∧ r.2.mem ((c.tc : Thread Cert.AttKernelIdeal.nD Cert.AttKernelIdeal.τ).loc Cert.AttKernelIdeal.main_arg0) = m ((c.tc : Thread Cert.AttKernelIdeal.nD Cert.AttKernelIdeal.τ).loc Cert.AttKernelIdeal.main_arg0)
          ∧ r.2.mem ((c.tc : Thread Cert.AttKernelIdeal.nD Cert.AttKernelIdeal.τ).loc Cert.AttKernelIdeal.main_arg1) = m ((c.tc : Thread Cert.AttKernelIdeal.nD Cert.AttKernelIdeal.τ).loc Cert.AttKernelIdeal.main_arg1)
          ∧ r.2.mem ((c.tc : Thread Cert.AttKernelIdeal.nD Cert.AttKernelIdeal.τ).loc Cert.AttKernelIdeal.main_arg2) = m ((c.tc : Thread Cert.AttKernelIdeal.nD Cert.AttKernelIdeal.τ).loc Cert.AttKernelIdeal.main_arg2)
          ∧ r.2.mem ((c.tc : Thread Cert.AttKernelIdeal.nD Cert.AttKernelIdeal.τ).loc Cert.AttKernelIdeal.main_arg3) = m ((c.tc : Thread Cert.AttKernelIdeal.nD Cert.AttKernelIdeal.τ).loc Cert.AttKernelIdeal.main_arg3))
      ∧ θ_run (Cert.AttReferenceIdeal.defs (F := Ideal)) (onTc (τ := Cert.AttReferenceIdeal.τ) (Cert.AttReferenceIdeal.main (F := Ideal))) ⟨m', fun _ => 0, g'⟩ (fun r => ∀ c : Dev Cert.AttReferenceIdeal.nD,
          r.2.mem ((c.tc : Thread Cert.AttReferenceIdeal.nD Cert.AttReferenceIdeal.τ).loc Cert.AttReferenceIdeal.main_v62) = v0 c
          ∧ r.2.mem ((c.tc : Thread Cert.AttReferenceIdeal.nD Cert.AttReferenceIdeal.τ).loc Cert.AttReferenceIdeal.main_v68) = v1 c
          ∧ r.2.mem ((c.tc : Thread Cert.AttReferenceIdeal.nD Cert.AttReferenceIdeal.τ).loc Cert.AttReferenceIdeal.main_v70) = v2 c
          ∧ r.2.mem ((c.tc : Thread Cert.AttReferenceIdeal.nD Cert.AttReferenceIdeal.τ).loc Cert.AttReferenceIdeal.main_arg0) = m' ((c.tc : Thread Cert.AttReferenceIdeal.nD Cert.AttReferenceIdeal.τ).loc Cert.AttReferenceIdeal.main_arg0)
          ∧ r.2.mem ((c.tc : Thread Cert.AttReferenceIdeal.nD Cert.AttReferenceIdeal.τ).loc Cert.AttReferenceIdeal.main_arg1) = m' ((c.tc : Thread Cert.AttReferenceIdeal.nD Cert.AttReferenceIdeal.τ).loc Cert.AttReferenceIdeal.main_arg1)
          ∧ r.2.mem ((c.tc : Thread Cert.AttReferenceIdeal.nD Cert.AttReferenceIdeal.τ).loc Cert.AttReferenceIdeal.main_arg2) = m' ((c.tc : Thread Cert.AttReferenceIdeal.nD Cert.AttReferenceIdeal.τ).loc Cert.AttReferenceIdeal.main_arg2)
          ∧ r.2.mem ((c.tc : Thread Cert.AttReferenceIdeal.nD Cert.AttReferenceIdeal.τ).loc Cert.AttReferenceIdeal.main_arg3) = m' ((c.tc : Thread Cert.AttReferenceIdeal.nD Cert.AttReferenceIdeal.τ).loc Cert.AttReferenceIdeal.main_arg3))

def preserves_FwdKernel_FwdKernelIdeal : Prop :=
  True

def algebraic_FwdKernelIdeal_FwdReferenceIdeal [hFwdKernelIdeal : Cert.FwdKernelIdeal.Facts] [hFwdReferenceIdeal : Cert.FwdReferenceIdeal.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg)
    (m' : (ℓ : Loc Cert.FwdReferenceIdeal.nD Cert.FwdReferenceIdeal.τ Cert.FwdReferenceIdeal.sig) → Buf (Elt Ideal) ℓ) (g' : Dev Cert.FwdReferenceIdeal.nD → PrngReg), Pre_FwdKernelIdeal m →
    (∀ c : Dev Cert.FwdKernelIdeal.nD,
      m' ((c.tc : Thread Cert.FwdReferenceIdeal.nD Cert.FwdReferenceIdeal.τ).loc Cert.FwdReferenceIdeal.main_arg0) = m ((c.tc : Thread Cert.FwdKernelIdeal.nD Cert.FwdKernelIdeal.τ).loc Cert.FwdKernelIdeal.main_arg0)
      ∧ m' ((c.tc : Thread Cert.FwdReferenceIdeal.nD Cert.FwdReferenceIdeal.τ).loc Cert.FwdReferenceIdeal.main_arg1) = m ((c.tc : Thread Cert.FwdKernelIdeal.nD Cert.FwdKernelIdeal.τ).loc Cert.FwdKernelIdeal.main_arg1)
      ∧ m' ((c.tc : Thread Cert.FwdReferenceIdeal.nD Cert.FwdReferenceIdeal.τ).loc Cert.FwdReferenceIdeal.main_arg2) = m ((c.tc : Thread Cert.FwdKernelIdeal.nD Cert.FwdKernelIdeal.τ).loc Cert.FwdKernelIdeal.main_arg2)
      ∧ m' ((c.tc : Thread Cert.FwdReferenceIdeal.nD Cert.FwdReferenceIdeal.τ).loc Cert.FwdReferenceIdeal.main_arg3) = m ((c.tc : Thread Cert.FwdKernelIdeal.nD Cert.FwdKernelIdeal.τ).loc Cert.FwdKernelIdeal.main_arg3)) →
    ∃ (v0 : (c : Dev Cert.FwdKernelIdeal.nD) → Buf (Elt Ideal) ((c.tc : Thread Cert.FwdKernelIdeal.nD Cert.FwdKernelIdeal.τ).loc Cert.FwdKernelIdeal.main_v13_0)) (v1 : (c : Dev Cert.FwdKernelIdeal.nD) → Buf (Elt Ideal) ((c.tc : Thread Cert.FwdKernelIdeal.nD Cert.FwdKernelIdeal.τ).loc Cert.FwdKernelIdeal.main_v13_1)),
      θ_run (Cert.FwdKernelIdeal.defs (F := Ideal)) (onTc (τ := Cert.FwdKernelIdeal.τ) (Cert.FwdKernelIdeal.main (F := Ideal))) ⟨m, fun _ => 0, g⟩ (fun r => ∀ c : Dev Cert.FwdKernelIdeal.nD,
          r.2.mem ((c.tc : Thread Cert.FwdKernelIdeal.nD Cert.FwdKernelIdeal.τ).loc Cert.FwdKernelIdeal.main_v13_0) = v0 c
          ∧ r.2.mem ((c.tc : Thread Cert.FwdKernelIdeal.nD Cert.FwdKernelIdeal.τ).loc Cert.FwdKernelIdeal.main_v13_1) = v1 c
          ∧ r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
          ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
          ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2)
          ∧ r.2.mem ((c.tc : Thread Cert.FwdKernelIdeal.nD Cert.FwdKernelIdeal.τ).loc Cert.FwdKernelIdeal.main_arg3) = m ((c.tc : Thread Cert.FwdKernelIdeal.nD Cert.FwdKernelIdeal.τ).loc Cert.FwdKernelIdeal.main_arg3))
      ∧ θ_run (Cert.FwdReferenceIdeal.defs (F := Ideal)) (onTc (τ := Cert.FwdReferenceIdeal.τ) (Cert.FwdReferenceIdeal.main (F := Ideal))) ⟨m', fun _ => 0, g'⟩ (fun r => ∀ c : Dev Cert.FwdReferenceIdeal.nD,
          r.2.mem ((c.tc : Thread Cert.FwdReferenceIdeal.nD Cert.FwdReferenceIdeal.τ).loc Cert.FwdReferenceIdeal.main_v35) = v0 c
          ∧ r.2.mem ((c.tc : Thread Cert.FwdReferenceIdeal.nD Cert.FwdReferenceIdeal.τ).loc Cert.FwdReferenceIdeal.main_v36) = v1 c
          ∧ r.2.mem ((c.tc : Thread Cert.FwdReferenceIdeal.nD Cert.FwdReferenceIdeal.τ).loc Cert.FwdReferenceIdeal.main_arg0) = m' ((c.tc : Thread Cert.FwdReferenceIdeal.nD Cert.FwdReferenceIdeal.τ).loc Cert.FwdReferenceIdeal.main_arg0)
          ∧ r.2.mem ((c.tc : Thread Cert.FwdReferenceIdeal.nD Cert.FwdReferenceIdeal.τ).loc Cert.FwdReferenceIdeal.main_arg1) = m' ((c.tc : Thread Cert.FwdReferenceIdeal.nD Cert.FwdReferenceIdeal.τ).loc Cert.FwdReferenceIdeal.main_arg1)
          ∧ r.2.mem ((c.tc : Thread Cert.FwdReferenceIdeal.nD Cert.FwdReferenceIdeal.τ).loc Cert.FwdReferenceIdeal.main_arg2) = m' ((c.tc : Thread Cert.FwdReferenceIdeal.nD Cert.FwdReferenceIdeal.τ).loc Cert.FwdReferenceIdeal.main_arg2)
          ∧ r.2.mem ((c.tc : Thread Cert.FwdReferenceIdeal.nD Cert.FwdReferenceIdeal.τ).loc Cert.FwdReferenceIdeal.main_arg3) = m' ((c.tc : Thread Cert.FwdReferenceIdeal.nD Cert.FwdReferenceIdeal.τ).loc Cert.FwdReferenceIdeal.main_arg3))

def preserves_OptKernel_OptKernelIdeal : Prop :=
  True

def algebraic_OptKernelIdeal_OptReferenceIdeal [hOptKernelIdeal : Cert.OptKernelIdeal.Facts] [hOptReferenceIdeal : Cert.OptReferenceIdeal.Facts] : Prop :=
  ∀ (m : (ℓ : Loc Cert.OptKernelIdeal.nD Cert.OptKernelIdeal.τ Cert.OptKernelIdeal.sig) → Buf (Elt Ideal) ℓ) (g : Dev Cert.OptKernelIdeal.nD → PrngReg)
    (m' : (ℓ : Loc Cert.OptReferenceIdeal.nD Cert.OptReferenceIdeal.τ Cert.OptReferenceIdeal.sig) → Buf (Elt Ideal) ℓ) (g' : Dev Cert.OptReferenceIdeal.nD → PrngReg), Pre_OptKernelIdeal m →
    (∀ c : Dev Cert.OptKernelIdeal.nD,
      m' ((c.tc : Thread Cert.OptReferenceIdeal.nD Cert.OptReferenceIdeal.τ).loc Cert.OptReferenceIdeal.main_arg0) = m ((c.tc : Thread Cert.OptKernelIdeal.nD Cert.OptKernelIdeal.τ).loc Cert.OptKernelIdeal.main_arg0)
      ∧ m' ((c.tc : Thread Cert.OptReferenceIdeal.nD Cert.OptReferenceIdeal.τ).loc Cert.OptReferenceIdeal.main_arg1) = m ((c.tc : Thread Cert.OptKernelIdeal.nD Cert.OptKernelIdeal.τ).loc Cert.OptKernelIdeal.main_arg1)
      ∧ m' ((c.tc : Thread Cert.OptReferenceIdeal.nD Cert.OptReferenceIdeal.τ).loc Cert.OptReferenceIdeal.main_arg2) = m ((c.tc : Thread Cert.OptKernelIdeal.nD Cert.OptKernelIdeal.τ).loc Cert.OptKernelIdeal.main_arg2)
      ∧ m' ((c.tc : Thread Cert.OptReferenceIdeal.nD Cert.OptReferenceIdeal.τ).loc Cert.OptReferenceIdeal.main_arg3) = m ((c.tc : Thread Cert.OptKernelIdeal.nD Cert.OptKernelIdeal.τ).loc Cert.OptKernelIdeal.main_arg3)) →
    ∃ (v0 : (c : Dev Cert.OptKernelIdeal.nD) → Buf (Elt Ideal) ((c.tc : Thread Cert.OptKernelIdeal.nD Cert.OptKernelIdeal.τ).loc Cert.OptKernelIdeal.main_v1_0)) (v1 : (c : Dev Cert.OptKernelIdeal.nD) → Buf (Elt Ideal) ((c.tc : Thread Cert.OptKernelIdeal.nD Cert.OptKernelIdeal.τ).loc Cert.OptKernelIdeal.main_v1_1)) (v2 : (c : Dev Cert.OptKernelIdeal.nD) → Buf (Elt Ideal) ((c.tc : Thread Cert.OptKernelIdeal.nD Cert.OptKernelIdeal.τ).loc Cert.OptKernelIdeal.main_v1_2)) (v3 : (c : Dev Cert.OptKernelIdeal.nD) → Buf (Elt Ideal) ((c.tc : Thread Cert.OptKernelIdeal.nD Cert.OptKernelIdeal.τ).loc Cert.OptKernelIdeal.main_v1_3)),
      θ_run (Cert.OptKernelIdeal.defs (F := Ideal)) (onTc (τ := Cert.OptKernelIdeal.τ) (Cert.OptKernelIdeal.main (F := Ideal))) ⟨m, fun _ => 0, g⟩ (fun r => ∀ c : Dev Cert.OptKernelIdeal.nD,
          r.2.mem ((c.tc : Thread Cert.OptKernelIdeal.nD Cert.OptKernelIdeal.τ).loc Cert.OptKernelIdeal.main_v1_0) = v0 c
          ∧ r.2.mem ((c.tc : Thread Cert.OptKernelIdeal.nD Cert.OptKernelIdeal.τ).loc Cert.OptKernelIdeal.main_v1_1) = v1 c
          ∧ r.2.mem ((c.tc : Thread Cert.OptKernelIdeal.nD Cert.OptKernelIdeal.τ).loc Cert.OptKernelIdeal.main_v1_2) = v2 c
          ∧ r.2.mem ((c.tc : Thread Cert.OptKernelIdeal.nD Cert.OptKernelIdeal.τ).loc Cert.OptKernelIdeal.main_v1_3) = v3 c
          ∧ r.2.mem ((c.tc : Thread Cert.OptKernelIdeal.nD Cert.OptKernelIdeal.τ).loc Cert.OptKernelIdeal.main_arg0) = m ((c.tc : Thread Cert.OptKernelIdeal.nD Cert.OptKernelIdeal.τ).loc Cert.OptKernelIdeal.main_arg0)
          ∧ r.2.mem ((c.tc : Thread Cert.OptKernelIdeal.nD Cert.OptKernelIdeal.τ).loc Cert.OptKernelIdeal.main_arg1) = m ((c.tc : Thread Cert.OptKernelIdeal.nD Cert.OptKernelIdeal.τ).loc Cert.OptKernelIdeal.main_arg1)
          ∧ r.2.mem ((c.tc : Thread Cert.OptKernelIdeal.nD Cert.OptKernelIdeal.τ).loc Cert.OptKernelIdeal.main_arg2) = m ((c.tc : Thread Cert.OptKernelIdeal.nD Cert.OptKernelIdeal.τ).loc Cert.OptKernelIdeal.main_arg2)
          ∧ r.2.mem ((c.tc : Thread Cert.OptKernelIdeal.nD Cert.OptKernelIdeal.τ).loc Cert.OptKernelIdeal.main_arg3) = m ((c.tc : Thread Cert.OptKernelIdeal.nD Cert.OptKernelIdeal.τ).loc Cert.OptKernelIdeal.main_arg3))
      ∧ θ_run (Cert.OptReferenceIdeal.defs (F := Ideal)) (onTc (τ := Cert.OptReferenceIdeal.τ) (Cert.OptReferenceIdeal.main (F := Ideal))) ⟨m', fun _ => 0, g'⟩ (fun r => ∀ c : Dev Cert.OptReferenceIdeal.nD,
          r.2.mem ((c.tc : Thread Cert.OptReferenceIdeal.nD Cert.OptReferenceIdeal.τ).loc Cert.OptReferenceIdeal.main_v0) = v0 c
          ∧ r.2.mem ((c.tc : Thread Cert.OptReferenceIdeal.nD Cert.OptReferenceIdeal.τ).loc Cert.OptReferenceIdeal.main_v24) = v1 c
          ∧ r.2.mem ((c.tc : Thread Cert.OptReferenceIdeal.nD Cert.OptReferenceIdeal.τ).loc Cert.OptReferenceIdeal.main_v5) = v2 c
          ∧ r.2.mem ((c.tc : Thread Cert.OptReferenceIdeal.nD Cert.OptReferenceIdeal.τ).loc Cert.OptReferenceIdeal.main_v11) = v3 c
          ∧ r.2.mem ((c.tc : Thread Cert.OptReferenceIdeal.nD Cert.OptReferenceIdeal.τ).loc Cert.OptReferenceIdeal.main_arg0) = m' ((c.tc : Thread Cert.OptReferenceIdeal.nD Cert.OptReferenceIdeal.τ).loc Cert.OptReferenceIdeal.main_arg0)
          ∧ r.2.mem ((c.tc : Thread Cert.OptReferenceIdeal.nD Cert.OptReferenceIdeal.τ).loc Cert.OptReferenceIdeal.main_arg1) = m' ((c.tc : Thread Cert.OptReferenceIdeal.nD Cert.OptReferenceIdeal.τ).loc Cert.OptReferenceIdeal.main_arg1)
          ∧ r.2.mem ((c.tc : Thread Cert.OptReferenceIdeal.nD Cert.OptReferenceIdeal.τ).loc Cert.OptReferenceIdeal.main_arg2) = m' ((c.tc : Thread Cert.OptReferenceIdeal.nD Cert.OptReferenceIdeal.τ).loc Cert.OptReferenceIdeal.main_arg2)
          ∧ r.2.mem ((c.tc : Thread Cert.OptReferenceIdeal.nD Cert.OptReferenceIdeal.τ).loc Cert.OptReferenceIdeal.main_arg3) = m' ((c.tc : Thread Cert.OptReferenceIdeal.nD Cert.OptReferenceIdeal.τ).loc Cert.OptReferenceIdeal.main_arg3))

def preserves_MmKernel_MmKernelIdeal : Prop :=
  True

def algebraic_MmKernelIdeal_MmReferenceIdeal [hMmKernelIdeal : Cert.MmKernelIdeal.Facts] [hMmReferenceIdeal : Cert.MmReferenceIdeal.Facts] : Prop :=
  ∀ (m : (ℓ : Loc Cert.MmKernelIdeal.nD Cert.MmKernelIdeal.τ Cert.MmKernelIdeal.sig) → Buf (Elt Ideal) ℓ) (g : Dev Cert.MmKernelIdeal.nD → PrngReg)
    (m' : (ℓ : Loc Cert.MmReferenceIdeal.nD Cert.MmReferenceIdeal.τ Cert.MmReferenceIdeal.sig) → Buf (Elt Ideal) ℓ) (g' : Dev Cert.MmReferenceIdeal.nD → PrngReg), Pre_MmKernelIdeal m →
    (∀ c : Dev Cert.MmKernelIdeal.nD,
      m' ((c.tc : Thread Cert.MmReferenceIdeal.nD Cert.MmReferenceIdeal.τ).loc Cert.MmReferenceIdeal.main_arg0) = m ((c.tc : Thread Cert.MmKernelIdeal.nD Cert.MmKernelIdeal.τ).loc Cert.MmKernelIdeal.main_arg0)
      ∧ m' ((c.tc : Thread Cert.MmReferenceIdeal.nD Cert.MmReferenceIdeal.τ).loc Cert.MmReferenceIdeal.main_arg1) = m ((c.tc : Thread Cert.MmKernelIdeal.nD Cert.MmKernelIdeal.τ).loc Cert.MmKernelIdeal.main_arg1)) →
    ∃ (v0 : (c : Dev Cert.MmKernelIdeal.nD) → Buf (Elt Ideal) ((c.tc : Thread Cert.MmKernelIdeal.nD Cert.MmKernelIdeal.τ).loc Cert.MmKernelIdeal.main_v2)),
      θ_run (Cert.MmKernelIdeal.defs (F := Ideal)) (onTc (τ := Cert.MmKernelIdeal.τ) (Cert.MmKernelIdeal.main (F := Ideal))) ⟨m, fun _ => 0, g⟩ (fun r => ∀ c : Dev Cert.MmKernelIdeal.nD,
          r.2.mem ((c.tc : Thread Cert.MmKernelIdeal.nD Cert.MmKernelIdeal.τ).loc Cert.MmKernelIdeal.main_v2) = v0 c
          ∧ r.2.mem ((c.tc : Thread Cert.MmKernelIdeal.nD Cert.MmKernelIdeal.τ).loc Cert.MmKernelIdeal.main_arg0) = m ((c.tc : Thread Cert.MmKernelIdeal.nD Cert.MmKernelIdeal.τ).loc Cert.MmKernelIdeal.main_arg0)
          ∧ r.2.mem ((c.tc : Thread Cert.MmKernelIdeal.nD Cert.MmKernelIdeal.τ).loc Cert.MmKernelIdeal.main_arg1) = m ((c.tc : Thread Cert.MmKernelIdeal.nD Cert.MmKernelIdeal.τ).loc Cert.MmKernelIdeal.main_arg1))
      ∧ θ_run (Cert.MmReferenceIdeal.defs (F := Ideal)) (onTc (τ := Cert.MmReferenceIdeal.τ) (Cert.MmReferenceIdeal.main (F := Ideal))) ⟨m', fun _ => 0, g'⟩ (fun r => ∀ c : Dev Cert.MmReferenceIdeal.nD,
          r.2.mem ((c.tc : Thread Cert.MmReferenceIdeal.nD Cert.MmReferenceIdeal.τ).loc Cert.MmReferenceIdeal.main_v2) = v0 c
          ∧ r.2.mem ((c.tc : Thread Cert.MmReferenceIdeal.nD Cert.MmReferenceIdeal.τ).loc Cert.MmReferenceIdeal.main_arg0) = m' ((c.tc : Thread Cert.MmReferenceIdeal.nD Cert.MmReferenceIdeal.τ).loc Cert.MmReferenceIdeal.main_arg0)
          ∧ r.2.mem ((c.tc : Thread Cert.MmReferenceIdeal.nD Cert.MmReferenceIdeal.τ).loc Cert.MmReferenceIdeal.main_arg1) = m' ((c.tc : Thread Cert.MmReferenceIdeal.nD Cert.MmReferenceIdeal.τ).loc Cert.MmReferenceIdeal.main_arg1))

def Claim : Prop :=
  ∃ (hKernel : Cert.Kernel.Facts) (hKernelIdeal : Cert.KernelIdeal.Facts) (hReferenceIdeal : Cert.ReferenceIdeal.Facts) (hPrepKernel : Cert.PrepKernel.Facts) (hPrepKernelIdeal : Cert.PrepKernelIdeal.Facts) (hPrepReferenceIdeal : Cert.PrepReferenceIdeal.Facts) (hInKernel : Cert.InKernel.Facts) (hInKernelIdeal : Cert.InKernelIdeal.Facts) (hInReferenceIdeal : Cert.InReferenceIdeal.Facts) (hMidKernel : Cert.MidKernel.Facts) (hMidKernelIdeal : Cert.MidKernelIdeal.Facts) (hMidReferenceIdeal : Cert.MidReferenceIdeal.Facts) (hAttKernel : Cert.AttKernel.Facts) (hAttKernelIdeal : Cert.AttKernelIdeal.Facts) (hAttReferenceIdeal : Cert.AttReferenceIdeal.Facts) (hFwdKernel : Cert.FwdKernel.Facts) (hFwdKernelIdeal : Cert.FwdKernelIdeal.Facts) (hFwdReferenceIdeal : Cert.FwdReferenceIdeal.Facts) (hOptKernel : Cert.OptKernel.Facts) (hOptKernelIdeal : Cert.OptKernelIdeal.Facts) (hOptReferenceIdeal : Cert.OptReferenceIdeal.Facts) (hMmKernel : Cert.MmKernel.Facts) (hMmKernelIdeal : Cert.MmKernelIdeal.Facts) (hMmReferenceIdeal : Cert.MmReferenceIdeal.Facts) (hPre_finite_prep : Cert.Pre_finite_prep.Facts) (hPre_finite_in : Cert.Pre_finite_in.Facts) (hPre_finite_mid : Cert.Pre_finite_mid.Facts) (hPre_finite_att : Cert.Pre_finite_att.Facts),
    quiescent_Kernel (hKernel := hKernel)
    ∧ quiescent_KernelIdeal (hKernelIdeal := hKernelIdeal)
    ∧ quiescent_ReferenceIdeal (hReferenceIdeal := hReferenceIdeal)
    ∧ quiescent_PrepKernel (hPrepKernel := hPrepKernel)
    ∧ quiescent_PrepKernelIdeal (hPrepKernelIdeal := hPrepKernelIdeal)
    ∧ quiescent_PrepKernelIdeal_pre_finite_prep (hPrepKernelIdeal := hPrepKernelIdeal) (hPre_finite_prep := hPre_finite_prep)
    ∧ quiescent_PrepReferenceIdeal (hPrepReferenceIdeal := hPrepReferenceIdeal)
    ∧ quiescent_PrepReferenceIdeal_pre_finite_prep (hPrepReferenceIdeal := hPrepReferenceIdeal) (hPre_finite_prep := hPre_finite_prep)
    ∧ quiescent_InKernel (hInKernel := hInKernel)
    ∧ quiescent_InKernelIdeal (hInKernelIdeal := hInKernelIdeal)
    ∧ quiescent_InKernelIdeal_pre_finite_in (hInKernelIdeal := hInKernelIdeal) (hPre_finite_in := hPre_finite_in)
    ∧ quiescent_InReferenceIdeal (hInReferenceIdeal := hInReferenceIdeal)
    ∧ quiescent_InReferenceIdeal_pre_finite_in (hInReferenceIdeal := hInReferenceIdeal) (hPre_finite_in := hPre_finite_in)
    ∧ quiescent_MidKernel (hMidKernel := hMidKernel)
    ∧ quiescent_MidKernelIdeal (hMidKernelIdeal := hMidKernelIdeal)
    ∧ quiescent_MidKernelIdeal_pre_finite_mid (hMidKernelIdeal := hMidKernelIdeal) (hPre_finite_mid := hPre_finite_mid)
    ∧ quiescent_MidReferenceIdeal (hMidReferenceIdeal := hMidReferenceIdeal)
    ∧ quiescent_MidReferenceIdeal_pre_finite_mid (hMidReferenceIdeal := hMidReferenceIdeal) (hPre_finite_mid := hPre_finite_mid)
    ∧ quiescent_AttKernel (hAttKernel := hAttKernel)
    ∧ quiescent_AttKernelIdeal (hAttKernelIdeal := hAttKernelIdeal)
    ∧ quiescent_AttKernelIdeal_pre_finite_att (hAttKernelIdeal := hAttKernelIdeal) (hPre_finite_att := hPre_finite_att)
    ∧ quiescent_AttReferenceIdeal (hAttReferenceIdeal := hAttReferenceIdeal)
    ∧ quiescent_AttReferenceIdeal_pre_finite_att (hAttReferenceIdeal := hAttReferenceIdeal) (hPre_finite_att := hPre_finite_att)
    ∧ quiescent_FwdKernel (hFwdKernel := hFwdKernel)
    ∧ quiescent_FwdKernelIdeal (hFwdKernelIdeal := hFwdKernelIdeal)
    ∧ quiescent_FwdReferenceIdeal (hFwdReferenceIdeal := hFwdReferenceIdeal)
    ∧ quiescent_OptKernel (hOptKernel := hOptKernel)
    ∧ quiescent_OptKernelIdeal (hOptKernelIdeal := hOptKernelIdeal)
    ∧ quiescent_OptReferenceIdeal (hOptReferenceIdeal := hOptReferenceIdeal)
    ∧ quiescent_MmKernel (hMmKernel := hMmKernel)
    ∧ quiescent_MmKernelIdeal (hMmKernelIdeal := hMmKernelIdeal)
    ∧ quiescent_MmReferenceIdeal (hMmReferenceIdeal := hMmReferenceIdeal)
    ∧ preserves_Kernel_KernelIdeal
    ∧ algebraic_KernelIdeal_ReferenceIdeal (hKernelIdeal := hKernelIdeal) (hReferenceIdeal := hReferenceIdeal)
    ∧ preserves_PrepKernel_PrepKernelIdeal
    ∧ algebraic_PrepKernelIdeal_PrepReferenceIdeal_pre_finite_prep (hPrepKernelIdeal := hPrepKernelIdeal) (hPrepReferenceIdeal := hPrepReferenceIdeal) (hPre_finite_prep := hPre_finite_prep)
    ∧ preserves_InKernel_InKernelIdeal
    ∧ algebraic_InKernelIdeal_InReferenceIdeal_pre_finite_in (hInKernelIdeal := hInKernelIdeal) (hInReferenceIdeal := hInReferenceIdeal) (hPre_finite_in := hPre_finite_in)
    ∧ preserves_MidKernel_MidKernelIdeal
    ∧ algebraic_MidKernelIdeal_MidReferenceIdeal_pre_finite_mid (hMidKernelIdeal := hMidKernelIdeal) (hMidReferenceIdeal := hMidReferenceIdeal) (hPre_finite_mid := hPre_finite_mid)
    ∧ preserves_AttKernel_AttKernelIdeal
    ∧ algebraic_AttKernelIdeal_AttReferenceIdeal_pre_finite_att (hAttKernelIdeal := hAttKernelIdeal) (hAttReferenceIdeal := hAttReferenceIdeal) (hPre_finite_att := hPre_finite_att)
    ∧ preserves_FwdKernel_FwdKernelIdeal
    ∧ algebraic_FwdKernelIdeal_FwdReferenceIdeal (hFwdKernelIdeal := hFwdKernelIdeal) (hFwdReferenceIdeal := hFwdReferenceIdeal)
    ∧ preserves_OptKernel_OptKernelIdeal
    ∧ algebraic_OptKernelIdeal_OptReferenceIdeal (hOptKernelIdeal := hOptKernelIdeal) (hOptReferenceIdeal := hOptReferenceIdeal)
    ∧ preserves_MmKernel_MmKernelIdeal
    ∧ algebraic_MmKernelIdeal_MmReferenceIdeal (hMmKernelIdeal := hMmKernelIdeal) (hMmReferenceIdeal := hMmReferenceIdeal)
-- ==== Pre_finite_att.lean ====
abbrev S4096x512 : Shape := ⟨2, ![4096, 512]⟩
abbrev S4096x128 : Shape := ⟨2, ![4096, 128]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_

variable [Facts]

def fn_part1 {F : FTy → Type} [FloatOps F] (main_v14 : IVec S_ 1) (main_v15 : FVec F S4096x512 .f32) (main_cst_5 : FVec F S_ .f32) : IVec S_ 1 :=
  let main_v16 : FVec F S4096x512 .f32 := broadcastInDim S4096x512 ![] bcast_S_S4096x512 main_cst_5
  let main_v17 : IVec S4096x512 1 := cmpf .olt main_v15 main_v16
  let main_c_6 : IVec S_ 1 := constantI S_ 1 1#1
  let main_v18 : IVec S_ 1 := (fun x v => Host.reduce IntOp.andi x v reducesTo_S4096x512_S_d0_1 h_S_) main_v17 main_c_6
  let main_v19 : IVec S_ 1 := andi main_v14 main_v18
  main_v19

def fn {F : FTy → Type} [FloatOps F] (main_arg0 : FVec F S4096x512 .f32) (main_arg1 : FVec F S4096x128 .f32) (main_arg2 : FVec F S4096x128 .f32) (main_arg3 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_c_0 : IVec S_ 1 := constantI S_ 1 1#1
  let main_v4 : IVec S_ 1 := andi main_c_0 main_v3
  let main_v5 : FVec F S4096x128 .f32 := Host.absf main_arg1
  let main_cst_1 : FVec F S_ .f32 := constant S_ .f32 0x7F800000#32
  let main_v6 : FVec F S4096x128 .f32 := broadcastInDim S4096x128 ![] bcast_S_S4096x128 main_cst_1
  let main_v7 : IVec S4096x128 1 := cmpf .olt main_v5 main_v6
  let main_c_2 : IVec S_ 1 := constantI S_ 1 1#1
  let main_v8 : IVec S_ 1 := (fun x v => Host.reduce IntOp.andi x v reducesTo_S4096x128_S_d0_1 h_S_) main_v7 main_c_2
  let main_v9 : IVec S_ 1 := andi main_v4 main_v8
  let main_v10 : FVec F S4096x128 .f32 := Host.absf main_arg2
  let main_cst_3 : FVec F S_ .f32 := constant S_ .f32 0x7F800000#32
  let main_v11 : FVec F S4096x128 .f32 := broadcastInDim S4096x128 ![] bcast_S_S4096x128 main_cst_3
  let main_v12 : IVec S4096x128 1 := cmpf .olt main_v10 main_v11
  let main_c_4 : IVec S_ 1 := constantI S_ 1 1#1
  let main_v13 : IVec S_ 1 := (fun x v => Host.reduce IntOp.andi x v reducesTo_S4096x128_S_d0_1 h_S_) main_v12 main_c_4
  let main_v14 : IVec S_ 1 := andi main_v9 main_v13
  let main_v15 : FVec F S4096x512 .f32 := Host.absf main_arg3
  let main_cst_5 : FVec F S_ .f32 := constant S_ .f32 0x7F800000#32
  fn_part1 (F := F) main_v14 main_v15 main_cst_5
-- ==== Pre_finite_in.lean ====
abbrev S4096x1024 : Shape := ⟨2, ![4096, 1024]⟩
abbrev S3072 : Shape := ⟨1, ![3072]⟩
abbrev S1024 : Shape := ⟨1, ![1024]⟩
abbrev S1024x4864 : Shape := ⟨2, ![1024, 4864]⟩
abbrev S4096x4864 : Shape := ⟨2, ![4096, 4864]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S3072 : S_.BroadcastsInDim S3072 (![] : Fin 0 → Fin S3072.rank)
  reducesTo_S3072_S_d0 : S3072.ReducesTo [0] S_
  bcast_S_S1024 : S_.BroadcastsInDim S1024 (![] : Fin 0 → Fin S1024.rank)
  reducesTo_S1024_S_d0 : S1024.ReducesTo [0] S_
  bcast_S_S1024x4864 : S_.BroadcastsInDim S1024x4864 (![] : Fin 0 → Fin S1024x4864.rank)
  reducesTo_S1024x4864_S_d0_1 : S1024x4864.ReducesTo [0, 1] S_
  bcast_S_S4096x4864 : S_.BroadcastsInDim S4096x4864 (![] : Fin 0 → Fin S4096x4864.rank)
  reducesTo_S4096x4864_S_d0_1 : S4096x4864.ReducesTo [0, 1] S_

variable [Facts]

def fn_part1 {F : FTy → Type} [FloatOps F] (main_arg4 : FVec F S4096x4864 .f32) (main_v14 : IVec S_ 1) (main_v15 : FVec F S1024x4864 .f32) (main_cst_5 : FVec F S_ .f32) : IVec S_ 1 :=
  let main_v16 : FVec F S1024x4864 .f32 := broadcastInDim S1024x4864 ![] bcast_S_S1024x4864 main_cst_5
  let main_v17 : IVec S1024x4864 1 := cmpf .olt main_v15 main_v16
  let main_c_6 : IVec S_ 1 := constantI S_ 1 1#1
  let main_v18 : IVec S_ 1 := (fun x v => Host.reduce IntOp.andi x v reducesTo_S1024x4864_S_d0_1 h_S_) main_v17 main_c_6
  let main_v19 : IVec S_ 1 := andi main_v14 main_v18
  let main_v20 : FVec F S4096x4864 .f32 := Host.absf main_arg4
  let main_cst_7 : FVec F S_ .f32 := constant S_ .f32 0x7F800000#32
  let main_v21 : FVec F S4096x4864 .f32 := broadcastInDim S4096x4864 ![] bcast_S_S4096x4864 main_cst_7
  let main_v22 : IVec S4096x4864 1 := cmpf .olt main_v20 main_v21
  let main_c_8 : IVec S_ 1 := constantI S_ 1 1#1
  let main_v23 : IVec S_ 1 := (fun x v => Host.reduce IntOp.andi x v reducesTo_S4096x4864_S_d0_1 h_S_) main_v22 main_c_8
  let main_v24 : IVec S_ 1 := andi main_v19 main_v23
  main_v24

def fn {F : FTy → Type} [FloatOps F] (main_arg0 : FVec F S4096x1024 .f32) (main_arg1 : FVec F S3072 .f32) (main_arg2 : FVec F S1024 .f32) (main_arg3 : FVec F S1024x4864 .f32) (main_arg4 : FVec F S4096x4864 .f32) (main_arg5 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_c_0 : IVec S_ 1 := constantI S_ 1 1#1
  let main_v4 : IVec S_ 1 := andi main_c_0 main_v3
  let main_v5 : FVec F S3072 .f32 := Host.absf main_arg1
  let main_cst_1 : FVec F S_ .f32 := constant S_ .f32 0x7F800000#32
  let main_v6 : FVec F S3072 .f32 := broadcastInDim S3072 ![] bcast_S_S3072 main_cst_1
  let main_v7 : IVec S3072 1 := cmpf .olt main_v5 main_v6
  let main_c_2 : IVec S_ 1 := constantI S_ 1 1#1
  let main_v8 : IVec S_ 1 := (fun x v => Host.reduce IntOp.andi x v reducesTo_S3072_S_d0 h_S_) main_v7 main_c_2
  let main_v9 : IVec S_ 1 := andi main_v4 main_v8
  let main_v10 : FVec F S1024 .f32 := Host.absf main_arg2
  let main_cst_3 : FVec F S_ .f32 := constant S_ .f32 0x7F800000#32
  let main_v11 : FVec F S1024 .f32 := broadcastInDim S1024 ![] bcast_S_S1024 main_cst_3
  let main_v12 : IVec S1024 1 := cmpf .olt main_v10 main_v11
  let main_c_4 : IVec S_ 1 := constantI S_ 1 1#1
  let main_v13 : IVec S_ 1 := (fun x v => Host.reduce IntOp.andi x v reducesTo_S1024_S_d0 h_S_) main_v12 main_c_4
  let main_v14 : IVec S_ 1 := andi main_v9 main_v13
  let main_v15 : FVec F S1024x4864 .f32 := Host.absf main_arg3
  let main_cst_5 : FVec F S_ .f32 := constant S_ .f32 0x7F800000#32
  fn_part1 (F := F) main_arg4 main_v14 main_v15 main_cst_5
-- ==== Pre_finite_mid.lean ====
abbrev S4096x1024 : Shape := ⟨2, ![4096, 1024]⟩
abbrev S3072 : Shape := ⟨1, ![3072]⟩
abbrev S1024 : Shape := ⟨1, ![1024]⟩
abbrev S4096x512 : Shape := ⟨2, ![4096, 512]⟩
abbrev S4096x4864 : Shape := ⟨2, ![4096, 4864]⟩
abbrev S512x1024 : Shape := ⟨2, ![512, 1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S3072 : S_.BroadcastsInDim S3072 (![] : Fin 0 → Fin S3072.rank)
  reducesTo_S3072_S_d0 : S3072.ReducesTo [0] S_
  bcast_S_S1024 : S_.BroadcastsInDim S1024 (![] : Fin 0 → Fin S1024.rank)
  reducesTo_S1024_S_d0 : S1024.ReducesTo [0] S_
  bcast_S_S4096x512 : S_.BroadcastsInDim S4096x512 (![] : Fin 0 → Fin S4096x512.rank)
  reducesTo_S4096x512_S_d0_1 : S4096x512.ReducesTo [0, 1] S_
  bcast_S_S4096x4864 : S_.BroadcastsInDim S4096x4864 (![] : Fin 0 → Fin S4096x4864.rank)
  reducesTo_S4096x4864_S_d0_1 : S4096x4864.ReducesTo [0, 1] S_
  bcast_S_S512x1024 : S_.BroadcastsInDim S512x1024 (![] : Fin 0 → Fin S512x1024.rank)
  reducesTo_S512x1024_S_d0_1 : S512x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg7 : FVec F S512x1024 .f32) (main_arg8 : FVec F S512x1024 .f32) (main_arg9 : FVec F S1024x1024 .f32) (main_v29 : IVec S_ 1) (main_v32 : IVec S4096x512 1) (main_c_12 : IVec S_ 1) : IVec S_ 1 :=
  let main_v33 : IVec S_ 1 := (fun x v => Host.reduce IntOp.andi x v reducesTo_S4096x512_S_d0_1 h_S_) main_v32 main_c_12
  let main_v34 : IVec S_ 1 := andi main_v29 main_v33
  let main_v35 : FVec F S512x1024 .f32 := Host.absf main_arg7
  let main_cst_13 : FVec F S_ .f32 := constant S_ .f32 0x7F800000#32
  let main_v36 : FVec F S512x1024 .f32 := broadcastInDim S512x1024 ![] bcast_S_S512x1024 main_cst_13
  let main_v37 : IVec S512x1024 1 := cmpf .olt main_v35 main_v36
  let main_c_14 : IVec S_ 1 := constantI S_ 1 1#1
  let main_v38 : IVec S_ 1 := (fun x v => Host.reduce IntOp.andi x v reducesTo_S512x1024_S_d0_1 h_S_) main_v37 main_c_14
  let main_v39 : IVec S_ 1 := andi main_v34 main_v38
  let main_v40 : FVec F S512x1024 .f32 := Host.absf main_arg8
  let main_cst_15 : FVec F S_ .f32 := constant S_ .f32 0x7F800000#32
  let main_v41 : FVec F S512x1024 .f32 := broadcastInDim S512x1024 ![] bcast_S_S512x1024 main_cst_15
  let main_v42 : IVec S512x1024 1 := cmpf .olt main_v40 main_v41
  let main_c_16 : IVec S_ 1 := constantI S_ 1 1#1
  let main_v43 : IVec S_ 1 := (fun x v => Host.reduce IntOp.andi x v reducesTo_S512x1024_S_d0_1 h_S_) main_v42 main_c_16
  let main_v44 : IVec S_ 1 := andi main_v39 main_v43
  let main_v45 : FVec F S1024x1024 .f32 := Host.absf main_arg9
  let main_cst_17 : FVec F S_ .f32 := constant S_ .f32 0x7F800000#32
  let main_v46 : FVec F S1024x1024 .f32 := broadcastInDim S1024x1024 ![] bcast_S_S1024x1024 main_cst_17
  let main_v47 : IVec S1024x1024 1 := cmpf .olt main_v45 main_v46
  let main_c_18 : IVec S_ 1 := constantI S_ 1 1#1
  let main_v48 : IVec S_ 1 := (fun x v => Host.reduce IntOp.andi x v reducesTo_S1024x1024_S_d0_1 h_S_) main_v47 main_c_18
  let main_v49 : IVec S_ 1 := andi main_v44 main_v48
  main_v49

def fn_part1 {F : FTy → Type} [FloatOps F] (main_arg4 : FVec F S4096x512 .f32) (main_arg5 : FVec F S4096x4864 .f32) (main_arg6 : FVec F S4096x512 .f32) (main_arg7 : FVec F S512x1024 .f32) (main_arg8 : FVec F S512x1024 .f32) (main_arg9 : FVec F S1024x1024 .f32) (main_v14 : IVec S_ 1) (main_v15 : FVec F S1024 .f32) (main_cst_5 : FVec F S_ .f32) : IVec S_ 1 :=
  let main_v16 : FVec F S1024 .f32 := broadcastInDim S1024 ![] bcast_S_S1024 main_cst_5
  let main_v17 : IVec S1024 1 := cmpf .olt main_v15 main_v16
  let main_c_6 : IVec S_ 1 := constantI S_ 1 1#1
  let main_v18 : IVec S_ 1 := (fun x v => Host.reduce IntOp.andi x v reducesTo_S1024_S_d0 h_S_) main_v17 main_c_6
  let main_v19 : IVec S_ 1 := andi main_v14 main_v18
  let main_v20 : FVec F S4096x512 .f32 := Host.absf main_arg4
  let main_cst_7 : FVec F S_ .f32 := constant S_ .f32 0x7F800000#32
  let main_v21 : FVec F S4096x512 .f32 := broadcastInDim S4096x512 ![] bcast_S_S4096x512 main_cst_7
  let main_v22 : IVec S4096x512 1 := cmpf .olt main_v20 main_v21
  let main_c_8 : IVec S_ 1 := constantI S_ 1 1#1
  let main_v23 : IVec S_ 1 := (fun x v => Host.reduce IntOp.andi x v reducesTo_S4096x512_S_d0_1 h_S_) main_v22 main_c_8
  let main_v24 : IVec S_ 1 := andi main_v19 main_v23
  let main_v25 : FVec F S4096x4864 .f32 := Host.absf main_arg5
  let main_cst_9 : FVec F S_ .f32 := constant S_ .f32 0x7F800000#32
  let main_v26 : FVec F S4096x4864 .f32 := broadcastInDim S4096x4864 ![] bcast_S_S4096x4864 main_cst_9
  let main_v27 : IVec S4096x4864 1 := cmpf .olt main_v25 main_v26
  let main_c_10 : IVec S_ 1 := constantI S_ 1 1#1
  let main_v28 : IVec S_ 1 := (fun x v => Host.reduce IntOp.andi x v reducesTo_S4096x4864_S_d0_1 h_S_) main_v27 main_c_10
  let main_v29 : IVec S_ 1 := andi main_v24 main_v28
  let main_v30 : FVec F S4096x512 .f32 := Host.absf main_arg6
  let main_cst_11 : FVec F S_ .f32 := constant S_ .f32 0x7F800000#32
  let main_v31 : FVec F S4096x512 .f32 := broadcastInDim S4096x512 ![] bcast_S_S4096x512 main_cst_11
  let main_v32 : IVec S4096x512 1 := cmpf .olt main_v30 main_v31
  let main_c_12 : IVec S_ 1 := constantI S_ 1 1#1
  fn_part2 (F := F) main_arg7 main_arg8 main_arg9 main_v29 main_v32 main_c_12

def fn {F : FTy → Type} [FloatOps F] (main_arg0 : FVec F S4096x1024 .f32) (main_arg1 : FVec F S4096x1024 .f32) (main_arg2 : FVec F S3072 .f32) (main_arg3 : FVec F S1024 .f32) (main_arg4 : FVec F S4096x512 .f32) (main_arg5 : FVec F S4096x4864 .f32) (main_arg6 : FVec F S4096x512 .f32) (main_arg7 : FVec F S512x1024 .f32) (main_arg8 : FVec F S512x1024 .f32) (main_arg9 : FVec F S1024x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_c_0 : IVec S_ 1 := constantI S_ 1 1#1
  let main_v4 : IVec S_ 1 := andi main_c_0 main_v3
  let main_v5 : FVec F S4096x1024 .f32 := Host.absf main_arg1
  let main_cst_1 : FVec F S_ .f32 := constant S_ .f32 0x7F800000#32
  let main_v6 : FVec F S4096x1024 .f32 := broadcastInDim S4096x1024 ![] bcast_S_S4096x1024 main_cst_1
  let main_v7 : IVec S4096x1024 1 := cmpf .olt main_v5 main_v6
  let main_c_2 : IVec S_ 1 := constantI S_ 1 1#1
  let main_v8 : IVec S_ 1 := (fun x v => Host.reduce IntOp.andi x v reducesTo_S4096x1024_S_d0_1 h_S_) main_v7 main_c_2
  let main_v9 : IVec S_ 1 := andi main_v4 main_v8
  let main_v10 : FVec F S3072 .f32 := Host.absf main_arg2
  let main_cst_3 : FVec F S_ .f32 := constant S_ .f32 0x7F800000#32
  let main_v11 : FVec F S3072 .f32 := broadcastInDim S3072 ![] bcast_S_S3072 main_cst_3
  let main_v12 : IVec S3072 1 := cmpf .olt main_v10 main_v11
  let main_c_4 : IVec S_ 1 := constantI S_ 1 1#1
  let main_v13 : IVec S_ 1 := (fun x v => Host.reduce IntOp.andi x v reducesTo_S3072_S_d0 h_S_) main_v12 main_c_4
  let main_v14 : IVec S_ 1 := andi main_v9 main_v13
  let main_v15 : FVec F S1024 .f32 := Host.absf main_arg3
  let main_cst_5 : FVec F S_ .f32 := constant S_ .f32 0x7F800000#32
  fn_part1 (F := F) main_arg4 main_arg5 main_arg6 main_arg7 main_arg8 main_arg9 main_v14 main_v15 main_cst_5
-- ==== Pre_finite_prep.lean ====
abbrev S4096x4864 : Shape := ⟨2, ![4096, 4864]⟩
abbrev S64 : Shape := ⟨1, ![64]⟩
abbrev S4096x512 : Shape := ⟨2, ![4096, 512]⟩
abbrev S4096x128 : Shape := ⟨2, ![4096, 128]⟩
abbrev S_ : Shape := ⟨0, ![]⟩

class Facts : Prop where
  bcast_S_S4096x4864 : S_.BroadcastsInDim S4096x4864 (![] : Fin 0 → Fin S4096x4864.rank)
  reducesTo_S4096x4864_S_d0_1 : S4096x4864.ReducesTo [0, 1] S_
  h_S_ : 0 < S_.numel
  bcast_S_S64 : S_.BroadcastsInDim S64 (![] : Fin 0 → Fin S64.rank)
  reducesTo_S64_S_d0 : S64.ReducesTo [0] S_
  bcast_S_S4096x512 : S_.BroadcastsInDim S4096x512 (![] : Fin 0 → Fin S4096x512.rank)
  reducesTo_S4096x512_S_d0_1 : S4096x512.ReducesTo [0, 1] S_
  bcast_S_S4096x128 : S_.BroadcastsInDim S4096x128 (![] : Fin 0 → Fin S4096x128.rank)
  reducesTo_S4096x128_S_d0_1 : S4096x128.ReducesTo [0, 1] S_

variable [Facts]

def fn_part1 {F : FTy → Type} [FloatOps F] (main_arg4 : FVec F S4096x128 .f32) (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  let main_v19 : FVec F S4096x128 .f32 := Host.absf main_arg4
  let main_cst_6 : FVec F S_ .f32 := constant S_ .f32 0x7F800000#32
  let main_v20 : FVec F S4096x128 .f32 := broadcastInDim S4096x128 ![] bcast_S_S4096x128 main_cst_6
  let main_v21 : IVec S4096x128 1 := cmpf .olt main_v19 main_v20
  let main_c_7 : IVec S_ 1 := constantI S_ 1 1#1
  let main_v22 : IVec S_ 1 := (fun x v => Host.reduce IntOp.andi x v reducesTo_S4096x128_S_d0_1 h_S_) main_v21 main_c_7
  let main_v23 : IVec S_ 1 := andi main_v18 main_v22
  main_v23

def fn {F : FTy → Type} [FloatOps F] (main_arg0 : FVec F S4096x4864 .f32) (main_arg1 : FVec F S64 .f32) (main_arg2 : FVec F S64 .f32) (main_arg3 : FVec F S4096x512 .f32) (main_arg4 : FVec F S4096x128 .f32) (main_arg5 : FVec F S4096x128 .f32) : IVec S_ 1 :=
  let main_v0 : FVec F S4096x4864 .f32 := Host.absf main_arg0
  let main_cst : FVec F S_ .f32 := constant S_ .f32 0x7F800000#32
  let main_v1 : FVec F S4096x4864 .f32 := broadcastInDim S4096x4864 ![] bcast_S_S4096x4864 main_cst
  let main_v2 : IVec S4096x4864 1 := cmpf .olt main_v0 main_v1
  let main_c : IVec S_ 1 := constantI S_ 1 1#1
  let main_v3 : IVec S_ 1 := (fun x v => Host.reduce IntOp.andi x v reducesTo_S4096x4864_S_d0_1 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S4096x512 .f32 := Host.absf main_arg3
  let main_cst_4 : FVec F S_ .f32 := constant S_ .f32 0x7F800000#32
  let main_v15 : FVec F S4096x512 .f32 := broadcastInDim S4096x512 ![] bcast_S_S4096x512 main_cst_4
  let main_v16 : IVec S4096x512 1 := cmpf .olt main_v14 main_v15
  fn_part1 (F := F) main_arg4 main_v13 main_v16
-- ==== Kernel.lean ====
abbrev S4096x256 : Shape := ⟨2, ![4096, 256]⟩
abbrev S4096x512 : Shape := ⟨2, ![4096, 512]⟩
abbrev S64 : Shape := ⟨1, ![64]⟩
abbrev S64x64 : Shape := ⟨2, ![64, 64]⟩
abbrev S4096 : Shape := ⟨1, ![4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S4096x768 : Shape := ⟨2, ![4096, 768]⟩
abbrev S512x256 : Shape := ⟨2, ![512, 256]⟩
abbrev S512x512 : Shape := ⟨2, ![512, 512]⟩
abbrev S512x128 : Shape := ⟨2, ![512, 128]⟩
abbrev S512x768 : Shape := ⟨2, ![512, 768]⟩

abbrev nBuf : Space → Nat
  | .hbm => 57
  | .vmem => 18
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S64, .i32⟩
  | .hbm, ⟨7, _⟩ => ⟨S64, .i32⟩
  | .hbm, ⟨8, _⟩ => ⟨S64x64, .i32⟩
  | .hbm, ⟨9, _⟩ => ⟨S64x64, .i32⟩
  | .hbm, ⟨10, _⟩ => ⟨S4096, .i32⟩
  | .hbm, ⟨11, _⟩ => ⟨S4096, .f32⟩
  | .hbm, ⟨12, _⟩ => ⟨S4096, .i32⟩
  | .hbm, ⟨13, _⟩ => ⟨S4096, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S4096x1, .f32⟩
  | .hbm, ⟨29, _⟩ => ⟨S1x16, .f32⟩
  | .hbm, ⟨30, _⟩ => ⟨S4096x16, .f32⟩
  | .hbm, ⟨31, _⟩ => ⟨S4096x16, .f32⟩
  | .hbm, ⟨32, _⟩ => ⟨S4096x16, .f32⟩
  | .hbm, ⟨33, _⟩ => ⟨S4096x1, .f32⟩
  | .hbm, ⟨34, _⟩ => ⟨S1x16, .f32⟩
  | .hbm, ⟨35, _⟩ => ⟨S4096x16, .f32⟩
  | .hbm, ⟨36, _⟩ => ⟨S4096x16, .f32⟩
  | .hbm, ⟨37, _⟩ => ⟨S4096x16, .f32⟩
  | .hbm, ⟨38, _⟩ => ⟨S4096x16, .f32⟩
  | .hbm, ⟨39, _⟩ => ⟨S4096x16, .f32⟩
  | .hbm, ⟨40, _⟩ => ⟨S4096x16, .f32⟩
  | .hbm, ⟨41, _⟩ => ⟨S4096x16, .f32⟩
  | .hbm, ⟨42, _⟩ => ⟨S4096x64, .f32⟩
  | .hbm, ⟨43, _⟩ => ⟨S4096x16, .f32⟩
  | .hbm, ⟨44, _⟩ => ⟨S4096x16, .f32⟩
  | .hbm, ⟨45, _⟩ => ⟨S4096x16, .f32⟩
  | .hbm, ⟨46, _⟩ => ⟨S4096x16, .f32⟩
  | .hbm, ⟨47, _⟩ => ⟨S4096x16, .f32⟩
  | .hbm, ⟨48, _⟩ => ⟨S4096x16, .f32⟩
  | .hbm, ⟨49, _⟩ => ⟨S4096x64, .f32⟩
  | .hbm, ⟨50, _⟩ => ⟨S1x4096x1x64, .f32⟩
  | .hbm, ⟨51, _⟩ => ⟨S1x4096x2x64, .f32⟩
  | .hbm, ⟨52, _⟩ => ⟨S4096x128, .f32⟩
  | .hbm, ⟨53, _⟩ => ⟨S1x4096x1x64, .f32⟩
  | .hbm, ⟨54, _⟩ => ⟨S1x4096x2x64, .f32⟩
  | .hbm, ⟨55, _⟩ => ⟨S4096x128, .f32⟩
  | .hbm, ⟨56, _⟩ => ⟨S4096x768, .bf16⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x768, .bf16⟩
  | .local _ .vmem, ⟨17, _⟩ => ⟨S512x768, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S4096x256 : Shape := ⟨2, ![4096, 256]⟩
abbrev S4096x512 : Shape := ⟨2, ![4096, 512]⟩
abbrev S_ : Shape := ⟨0, ![]⟩
abbrev S4096x4x64 : Shape := ⟨3, ![4096, 4, 64]⟩
abbrev S64 : Shape := ⟨1, ![64]⟩
abbrev S64x64 : Shape := ⟨2, ![64, 64]⟩
abbrev S4096 : Shape := ⟨1, ![4096]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x4x32 : Shape := ⟨3, ![4096, 4, 32]⟩
abbrev S4096x4x16 : Shape := ⟨3, ![4096, 4, 16]⟩
abbrev S4096x1x16 : Shape := ⟨3, ![4096, 1, 16]⟩
abbrev S4096x768 : Shape := ⟨2, ![4096, 768]⟩

abbrev nBuf : Space → Nat
  | .hbm => 126
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S_, .f32⟩
  | .hbm, ⟨7, _⟩ => ⟨S4096x256, .f32⟩
  | .hbm, ⟨8, _⟩ => ⟨S_, .f32⟩
  | .hbm, ⟨9, _⟩ => ⟨S4096x512, .f32⟩
  | .hbm, ⟨10, _⟩ => ⟨S4096x4x64, .f32⟩
  | .hbm, ⟨11, _⟩ => ⟨S64, .i32⟩
  | .hbm, ⟨12, _⟩ => ⟨S64, .i32⟩
  | .hbm, ⟨13, _⟩ => ⟨S64x64, .i32⟩
  | .hbm, ⟨14, _⟩ => ⟨S64x64, .i32⟩
  | .hbm, ⟨15, _⟩ => ⟨S4096, .i32⟩
  | .hbm, ⟨16, _⟩ => ⟨S4096, .f32⟩
  | .hbm, ⟨17, _⟩ => ⟨S4096, .i32⟩
  | .hbm, ⟨18, _⟩ => ⟨S4096, .f32⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S16, .f32⟩
  | .hbm, ⟨30, _⟩ => ⟨S_, .f32⟩
  | .hbm, ⟨31, _⟩ => ⟨S16, .f32⟩
  | .hbm, ⟨32, _⟩ => ⟨S16, .f32⟩
  | .hbm, ⟨33, _⟩ => ⟨S4096x1, .f32⟩
  | .hbm, ⟨34, _⟩ => ⟨S1x16, .f32⟩
  | .hbm, ⟨35, _⟩ => ⟨S4096x16, .f32⟩
  | .hbm, ⟨36, _⟩ => ⟨S4096x16, .f32⟩
  | .hbm, ⟨37, _⟩ => ⟨S4096x16, .f32⟩
  | .hbm, ⟨38, _⟩ => ⟨S4096x1, .f32⟩
  | .hbm, ⟨39, _⟩ => ⟨S1x16, .f32⟩
  | .hbm, ⟨40, _⟩ => ⟨S4096x16, .f32⟩
  | .hbm, ⟨41, _⟩ => ⟨S4096x16, .f32⟩
  | .hbm, ⟨42, _⟩ => ⟨S4096x16, .f32⟩
  | .hbm, ⟨43, _⟩ => ⟨S4096x16, .f32⟩
  | .hbm, ⟨44, _⟩ => ⟨S4096x16, .f32⟩
  | .hbm, ⟨45, _⟩ => ⟨S4096x16, .f32⟩
  | .hbm, ⟨46, _⟩ => ⟨S4096x16, .f32⟩
  | .hbm, ⟨47, _⟩ => ⟨S4096x4x32, .f32⟩
  | .hbm, ⟨48, _⟩ => ⟨S4096x4x32, .f32⟩
  | .hbm, ⟨49, _⟩ => ⟨S4096x4x16, .f32⟩
  | .hbm, ⟨50, _⟩ => ⟨S4096x4x16, .f32⟩
  | .hbm, ⟨51, _⟩ => ⟨S4096x1x16, .f32⟩
  | .hbm, ⟨52, _⟩ => ⟨S4096x1x16, .f32⟩
  | .hbm, ⟨53, _⟩ => ⟨S4096x4x16, .f32⟩
  | .hbm, ⟨54, _⟩ => ⟨S4096x4x16, .f32⟩
  | .hbm, ⟨55, _⟩ => ⟨S4096x4x16, .f32⟩
  | .hbm, ⟨56, _⟩ => ⟨S4096x4x16, .f32⟩
  | .hbm, ⟨57, _⟩ => ⟨S4096x4x16, .f32⟩
  | .hbm, ⟨58, _⟩ => ⟨S4096x4x16, .f32⟩
  | .hbm, ⟨59, _⟩ => ⟨S4096x4x16, .f32⟩
  | .hbm, ⟨60, _⟩ => ⟨S4096x4x16, .f32⟩
  | .hbm, ⟨61, _⟩ => ⟨S4096x4x16, .f32⟩
  | .hbm, ⟨62, _⟩ => ⟨S4096x4x16, .f32⟩
  | .hbm, ⟨63, _⟩ => ⟨S4096x4x32, .f32⟩
  | .hbm, ⟨64, _⟩ => ⟨S4096x4x16, .f32⟩
  | .hbm, ⟨65, _⟩ => ⟨S4096x4x16, .f32⟩
  | .hbm, ⟨66, _⟩ => ⟨S4096x1x16, .f32⟩
  | .hbm, ⟨67, _⟩ => ⟨S4096x1x16, .f32⟩
  | .hbm, ⟨68, _⟩ => ⟨S4096x4x16, .f32⟩
  | .hbm, ⟨69, _⟩ => ⟨S4096x4x16, .f32⟩
  | .hbm, ⟨70, _⟩ => ⟨S4096x4x16, .f32⟩
  | .hbm, ⟨71, _⟩ => ⟨S4096x4x16, .f32⟩
  | .hbm, ⟨72, _⟩ => ⟨S4096x4x16, .f32⟩
  | .hbm, ⟨73, _⟩ => ⟨S4096x4x16, .f32⟩
  | .hbm, ⟨74, _⟩ => ⟨S4096x4x16, .f32⟩
  | .hbm, ⟨75, _⟩ => ⟨S4096x4x16, .f32⟩
  | .hbm, ⟨76, _⟩ => ⟨S4096x4x16, .f32⟩
  | .hbm, ⟨77, _⟩ => ⟨S4096x4x16, .f32⟩
  | .hbm, ⟨78, _⟩ => ⟨S4096x4x32, .f32⟩
  | .hbm, ⟨79, _⟩ => ⟨S4096x4x64, .f32⟩
  | .hbm, ⟨80, _⟩ => ⟨S_, .f32⟩
  | .hbm, ⟨81, _⟩ => ⟨S4096x4x64, .f32⟩
  | .hbm, ⟨82, _⟩ => ⟨S4096x4x64, .f32⟩
  | .hbm, ⟨83, _⟩ => ⟨S4096x256, .f32⟩
  | .hbm, ⟨84, _⟩ => ⟨S4096x256, .f32⟩
  | .hbm, ⟨85, _⟩ => ⟨S4096x256, .f32⟩
  | .hbm, ⟨86, _⟩ => ⟨S4096x512, .f32⟩
  | .hbm, ⟨87, _⟩ => ⟨S4096x512, .f32⟩
  | .hbm, ⟨88, _⟩ => ⟨S4096x4x64, .f32⟩
  | .hbm, ⟨89, _⟩ => ⟨S_, .f32⟩
  | .hbm, ⟨90, _⟩ => ⟨S4096x4x64, .f32⟩
  | .hbm, ⟨91, _⟩ => ⟨S4096x4x64, .f32⟩
  | .hbm, ⟨92, _⟩ => ⟨S4096x4x32, .f32⟩
  | .hbm, ⟨93, _⟩ => ⟨S4096x4x32, .f32⟩
  | .hbm, ⟨94, _⟩ => ⟨S4096x4x16, .f32⟩
  | .hbm, ⟨95, _⟩ => ⟨S4096x4x16, .f32⟩
  | .hbm, ⟨96, _⟩ => ⟨S4096x4x16, .f32⟩
  | .hbm, ⟨97, _⟩ => ⟨S4096x4x16, .f32⟩
  | .hbm, ⟨98, _⟩ => ⟨S4096x4x16, .f32⟩
  | .hbm, ⟨99, _⟩ => ⟨S4096x4x16, .f32⟩
  | .hbm, ⟨100, _⟩ => ⟨S4096x4x16, .f32⟩
  | .hbm, ⟨101, _⟩ => ⟨S4096x4x16, .f32⟩
  | .hbm, ⟨102, _⟩ => ⟨S4096x4x16, .f32⟩
  | .hbm, ⟨103, _⟩ => ⟨S4096x4x16, .f32⟩
  | .hbm, ⟨104, _⟩ => ⟨S4096x4x16, .f32⟩
  | .hbm, ⟨105, _⟩ => ⟨S4096x4x16, .f32⟩
  | .hbm, ⟨106, _⟩ => ⟨S4096x4x16, .f32⟩
  | .hbm, ⟨107, _⟩ => ⟨S4096x4x32, .f32⟩
  | .hbm, ⟨108, _⟩ => ⟨S4096x4x16, .f32⟩
  | .hbm, ⟨109, _⟩ => ⟨S4096x4x16, .f32⟩
  | .hbm, ⟨110, _⟩ => ⟨S4096x4x16, .f32⟩
  | .hbm, ⟨111, _⟩ => ⟨S4096x4x16, .f32⟩
  | .hbm, ⟨112, _⟩ => ⟨S4096x4x16, .f32⟩
  | .hbm, ⟨113, _⟩ => ⟨S4096x4x16, .f32⟩
  | .hbm, ⟨114, _⟩ => ⟨S4096x4x16, .f32⟩
  | .hbm, ⟨115, _⟩ => ⟨S4096x4x16, .f32⟩
  | .hbm, ⟨116, _⟩ => ⟨S4096x4x16, .f32⟩
  | .hbm, ⟨117, _⟩ => ⟨S4096x4x16, .f32⟩
  | .hbm, ⟨118, _⟩ => ⟨S4096x4x16, .f32⟩
  | .hbm, ⟨119, _⟩ => ⟨S4096x4x16, .f32⟩
  | .hbm, ⟨120, _⟩ => ⟨S4096x4x16, .f32⟩
  | .hbm, ⟨121, _⟩ => ⟨S4096x4x32, .f32⟩
  | .hbm, ⟨122, _⟩ => ⟨S4096x4x64, .f32⟩
  | .hbm, ⟨123, _⟩ => ⟨S4096x256, .f32⟩
  | .hbm, ⟨124, _⟩ => ⟨S4096x768, .f32⟩
  | .hbm, ⟨125, _⟩ => ⟨S4096x768, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_cst_5 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_cst_6 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩

abbrev nD : Nat := 1
abbrev τ : Topo := Topo.v7x

variable {F : FTy → Type} [FloatOps F]
-- ==== PrepKernel.lean ====
abbrev S4096x4864 : Shape := ⟨2, ![4096, 4864]⟩
abbrev S64 : Shape := ⟨1, ![64]⟩
abbrev S4096x512 : Shape := ⟨2, ![4096, 512]⟩
abbrev S4096x128 : Shape := ⟨2, ![4096, 128]⟩
abbrev S64x64 : Shape := ⟨2, ![64, 64]⟩
abbrev S4096 : Shape := ⟨1, ![4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S1x64 : Shape := ⟨2, ![1, 64]⟩
abbrev S1x1x1x64 : Shape := ⟨4, ![1, 1, 1, 64]⟩
abbrev S1x1x2x64 : Shape := ⟨4, ![1, 1, 2, 64]⟩
abbrev S1x128 : Shape := ⟨2, ![1, 128]⟩
abbrev S4096x8x64 : Shape := ⟨3, ![4096, 8, 64]⟩
abbrev S8x64x4096 : Shape := ⟨3, ![8, 64, 4096]⟩
abbrev S4096x2x64 : Shape := ⟨3, ![4096, 2, 64]⟩
abbrev S2x64x4096 : Shape := ⟨3, ![2, 64, 4096]⟩
abbrev S4096x2048 : Shape := ⟨2, ![4096, 2048]⟩
abbrev S4096x256 : Shape := ⟨2, ![4096, 256]⟩
abbrev S4096x768 : Shape := ⟨2, ![4096, 768]⟩
abbrev S8x128 : Shape := ⟨2, ![8, 128]⟩
abbrev S8x64x512 : Shape := ⟨3, ![8, 64, 512]⟩
abbrev S2x64x512 : Shape := ⟨3, ![2, 64, 512]⟩
abbrev S512x512 : Shape := ⟨2, ![512, 512]⟩
abbrev S512x128 : Shape := ⟨2, ![512, 128]⟩
abbrev S512x768 : Shape := ⟨2, ![512, 768]⟩
abbrev S1x64x512 : Shape := ⟨3, ![1, 64, 512]⟩
abbrev S64x512 : Shape := ⟨2, ![64, 512]⟩
abbrev S128x512 : Shape := ⟨2, ![128, 512]⟩
abbrev S512 : Shape := ⟨1, ![512]⟩
abbrev S512x1 : Shape := ⟨2, ![512, 1]⟩
abbrev S128 : Shape := ⟨1, ![128]⟩

abbrev nBuf : Space → Nat
  | .hbm => 88
  | .vmem => 19
  | .smem => 0
  | _ => 0

abbrev bufTy : (tb : Table) → Fin (tcTables nBuf tb) → BufTy
  | .hbm, ⟨0, _⟩ => ⟨S4096x4864, .f32⟩
  | .hbm, ⟨1, _⟩ => ⟨S64, .f32⟩
  | .hbm, ⟨2, _⟩ => ⟨S64, .f32⟩
  | .hbm, ⟨3, _⟩ => ⟨S4096x512, .f32⟩
  | .hbm, ⟨4, _⟩ => ⟨S4096x128, .f32⟩
  | .hbm, ⟨5, _⟩ => ⟨S4096x128, .f32⟩
  | .hbm, ⟨6, _⟩ => ⟨S64, .i32⟩
  | .hbm, ⟨7, _⟩ => ⟨S64, .i32⟩
  | .hbm, ⟨8, _⟩ => ⟨S64x64, .i32⟩
  | .hbm, ⟨9, _⟩ => ⟨S64x64, .i32⟩
  | .hbm, ⟨10, _⟩ => ⟨S4096, .i32⟩
  | .hbm, ⟨11, _⟩ => ⟨S4096, .f32⟩
  | .hbm, ⟨12, _⟩ => ⟨S4096, .i32⟩
  | .hbm, ⟨13, _⟩ => ⟨S4096, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S4096x1, .f32⟩
  | .hbm, ⟨29, _⟩ => ⟨S1x16, .f32⟩
  | .hbm, ⟨30, _⟩ => ⟨S4096x16, .f32⟩
  | .hbm, ⟨31, _⟩ => ⟨S4096x16, .f32⟩
  | .hbm, ⟨32, _⟩ => ⟨S4096x16, .f32⟩
  | .hbm, ⟨33, _⟩ => ⟨S4096x1, .f32⟩
  | .hbm, ⟨34, _⟩ => ⟨S1x16, .f32⟩
  | .hbm, ⟨35, _⟩ => ⟨S4096x16, .f32⟩
  | .hbm, ⟨36, _⟩ => ⟨S4096x16, .f32⟩
  | .hbm, ⟨37, _⟩ => ⟨S4096x16, .f32⟩
  | .hbm, ⟨38, _⟩ => ⟨S4096x16, .f32⟩
  | .hbm, ⟨39, _⟩ => ⟨S4096x16, .f32⟩
  | .hbm, ⟨40, _⟩ => ⟨S4096x16, .f32⟩
  | .hbm, ⟨41, _⟩ => ⟨S4096x16, .f32⟩
  | .hbm, ⟨42, _⟩ => ⟨S4096x64, .f32⟩
  | .hbm, ⟨43, _⟩ => ⟨S4096x16, .f32⟩
  | .hbm, ⟨44, _⟩ => ⟨S4096x16, .f32⟩
  | .hbm, ⟨45, _⟩ => ⟨S4096x16, .f32⟩
  | .hbm, ⟨46, _⟩ => ⟨S4096x16, .f32⟩
  | .hbm, ⟨47, _⟩ => ⟨S4096x16, .f32⟩
  | .hbm, ⟨48, _⟩ => ⟨S4096x16, .f32⟩
  | .hbm, ⟨49, _⟩ => ⟨S4096x64, .f32⟩
  | .hbm, ⟨50, _⟩ => ⟨S1x4096x1x64, .f32⟩
  | .hbm, ⟨51, _⟩ => ⟨S1x4096x2x64, .f32⟩
  | .hbm, ⟨52, _⟩ => ⟨S4096x128, .f32⟩
  | .hbm, ⟨53, _⟩ => ⟨S1x4096x1x64, .f32⟩
  | .hbm, ⟨54, _⟩ => ⟨S1x4096x2x64, .f32⟩
  | .hbm, ⟨55, _⟩ => ⟨S4096x128, .f32⟩
  | .hbm, ⟨56, _⟩ => ⟨S1x64, .f32⟩
  | .hbm, ⟨57, _⟩ => ⟨S1x1x1x64, .f32⟩
  | .hbm, ⟨58, _⟩ => ⟨S1x1x2x64, .f32⟩
  | .hbm, ⟨59, _⟩ => ⟨S1x128, .f32⟩
  | .hbm, ⟨60, _⟩ => ⟨S1x64, .f32⟩
  | .hbm, ⟨61, _⟩ => ⟨S1x1x1x64, .f32⟩
  | .hbm, ⟨62, _⟩ => ⟨S1x1x2x64, .f32⟩
  | .hbm, ⟨63, _⟩ => ⟨S1x128, .f32⟩
  | .hbm, ⟨64, _⟩ => ⟨S4096x8x64, .f32⟩
  | .hbm, ⟨65, _⟩ => ⟨S8x64x4096, .f32⟩
  | .hbm, ⟨66, _⟩ => ⟨S4096x2x64, .f32⟩
  | .hbm, ⟨67, _⟩ => ⟨S2x64x4096, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S2x64x4096, .f32⟩
  | .hbm, ⟨72, _⟩ => ⟨S2x64x4096, .f32⟩
  | .hbm, ⟨73, _⟩ => ⟨S4096x2x64, .f32⟩
  | .hbm, ⟨74, _⟩ => ⟨S2x64x4096, .f32⟩
  | .hbm, ⟨75, _⟩ => ⟨S4096x2048, .f32⟩
  | .hbm, ⟨76, _⟩ => ⟨S4096x512, .f32⟩
  | .hbm, ⟨77, _⟩ => ⟨S4096x512, .f32⟩
  | .hbm, ⟨78, _⟩ => ⟨S4096x128, .f32⟩
  | .hbm, ⟨79, _⟩ => ⟨S4096x128, .f32⟩
  | .hbm, ⟨80, _⟩ => ⟨S4096x256, .f32⟩
  | .hbm, ⟨81, _⟩ => ⟨S4096x512, .f32⟩
  | .hbm, ⟨82, _⟩ => ⟨S4096x512, .f32⟩
  | .hbm, ⟨83, _⟩ => ⟨S4096x256, .f32⟩
  | .hbm, ⟨84, _⟩ => ⟨S4096x4864, .f32⟩
  | .hbm, ⟨85, _⟩ => ⟨S4096x4864, .bf16⟩
  | .hbm, ⟨86, _⟩ => ⟨S4096x768, .bf16⟩
  | .hbm, ⟨87, _⟩ => ⟨S8x128, .f32⟩
  | .local _ .vmem, ⟨0, _⟩ => ⟨S8x64x512, .f32⟩
  | .local _ .vmem, ⟨1, _⟩ => ⟨S8x64x512, .f32⟩
  | .local _ .vmem, ⟨2, _⟩ => ⟨S2x64x512, .f32⟩
  | .local _ .vmem, ⟨3, _⟩ => ⟨S2x64x512, .f32⟩
  | .local _ .vmem, ⟨4, _⟩ => ⟨S2x64x512, .f32⟩
  | .local _ .vmem, ⟨5, _⟩ => ⟨S2x64x512, .f32⟩
  | .local _ .vmem, ⟨6, _⟩ => ⟨S512x512, .bf16⟩
  | .local _ .vmem, ⟨7, _⟩ => ⟨S512x512, .bf16⟩
  | .local _ .vmem, ⟨8, _⟩ => ⟨S512x128, .bf16⟩
  | .local _ .vmem, ⟨9, _⟩ => ⟨S512x128, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S1x128, .f32⟩
  | .local _ .vmem, ⟨15, _⟩ => ⟨S1x128, .f32⟩
  | .local _ .vmem, ⟨16, _⟩ => ⟨S512x768, .bf16⟩
  | .local _ .vmem, ⟨17, _⟩ => ⟨S512x768, .bf16⟩
  | .local _ .vmem, ⟨18, _⟩ => ⟨S8x128, .f32⟩
  | _, _ => ⟨S4096x4864, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_cst_3 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75_0 : Ref sig .tc := ⟨.hbm, 86, rfl⟩
abbrev main_v75_1 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c24_i32 : BitVec 32 := 24#32
  let c0_i32 : BitVec 32 := 0#32
  ![arg0.toNat, c24_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== PrepKernelIdeal.lean ====
variable {F : FTy → Type} [FloatOps F] [Named F]
def κ : String → Option EReal := fun
  | "ln2" => some ((Real.log 2 : ℝ) : EReal)
  | _ => none
-- ==== PrepReferenceIdeal.lean ====
abbrev S4096x4864 : Shape := ⟨2, ![4096, 4864]⟩
abbrev S64 : Shape := ⟨1, ![64]⟩
abbrev S4096x512 : Shape := ⟨2, ![4096, 512]⟩
abbrev S4096x128 : Shape := ⟨2, ![4096, 128]⟩
abbrev S1x64 : Shape := ⟨2, ![1, 64]⟩
abbrev S1x1x1x64 : Shape := ⟨4, ![1, 1, 1, 64]⟩
abbrev S8x1x1x64 : Shape := ⟨4, ![8, 1, 1, 64]⟩
abbrev S8x64 : Shape := ⟨2, ![8, 64]⟩
abbrev S2x1x1x64 : Shape := ⟨4, ![2, 1, 1, 64]⟩
abbrev S2x64 : Shape := ⟨2, ![2, 64]⟩
abbrev S4096x8x64 : Shape := ⟨3, ![4096, 8, 64]⟩
abbrev S_ : Shape := ⟨0, ![]⟩
abbrev S4096x8 : Shape := ⟨2, ![4096, 8]⟩
abbrev S4096x8x1 : Shape := ⟨3, ![4096, 8, 1]⟩
abbrev S1x8x64 : Shape := ⟨3, ![1, 8, 64]⟩
abbrev S64x64 : Shape := ⟨2, ![64, 64]⟩
abbrev S4096 : Shape := ⟨1, ![4096]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x8x32 : Shape := ⟨3, ![4096, 8, 32]⟩
abbrev S4096x8x16 : Shape := ⟨3, ![4096, 8, 16]⟩
abbrev S4096x1x16 : Shape := ⟨3, ![4096, 1, 16]⟩
abbrev S4096x2x64 : Shape := ⟨3, ![4096, 2, 64]⟩
abbrev S4096x2 : Shape := ⟨2, ![4096, 2]⟩
abbrev S4096x2x1 : Shape := ⟨3, ![4096, 2, 1]⟩
abbrev S1x2x64 : Shape := ⟨3, ![1, 2, 64]⟩
abbrev S4096x2x32 : Shape := ⟨3, ![4096, 2, 32]⟩
abbrev S4096x2x16 : Shape := ⟨3, ![4096, 2, 16]⟩
abbrev S4x128 : Shape := ⟨2, ![4, 128]⟩
abbrev S128 : Shape := ⟨1, ![128]⟩
abbrev S1x128 : Shape := ⟨2, ![1, 128]⟩
abbrev S6x128 : Shape := ⟨2, ![6, 128]⟩
abbrev S8x128 : Shape := ⟨2, ![8, 128]⟩
abbrev S4096x768 : Shape := ⟨2, ![4096, 768]⟩

abbrev nBuf : Space → Nat
  | .hbm => 331
  | .vmem => 0
  | .smem => 0
  | _ => 0

abbrev hbmTy0_0 (i : Nat) : BufTy := match i % 128 with
  | 0 => ⟨S4096x4864, .f32⟩
  | 1 => ⟨S64, .f32⟩
  | 2 => ⟨S64, .f32⟩
  | 3 => ⟨S4096x512, .f32⟩
  | 4 => ⟨S4096x128, .f32⟩
  | 5 => ⟨S4096x128, .f32⟩
  | 6 => ⟨S1x64, .f32⟩
  | 7 => ⟨S1x1x1x64, .f32⟩
  | 8 => ⟨S8x1x1x64, .f32⟩
  | 9 => ⟨S8x64, .f32⟩
  | 10 => ⟨S1x64, .f32⟩
  | 11 => ⟨S1x1x1x64, .f32⟩
  | 12 => ⟨S2x1x1x64, .f32⟩
  | 13 => ⟨S2x64, .f32⟩
  | 14 => ⟨S4096x512, .f32⟩
  | 15 => ⟨S4096x128, .f32⟩
  | 16 => ⟨S4096x128, .f32⟩
  | 17 => ⟨S4096x8x64, .f32⟩
  | 18 => ⟨S4096x8x64, .f32⟩
  | 19 => ⟨S_, .f32⟩
  | 20 => ⟨S4096x8, .f32⟩
  | 21 => ⟨S4096x8x1, .f32⟩
  | 22 => ⟨S_, .f32⟩
  | 23 => ⟨S4096x8x1, .f32⟩
  | 24 => ⟨S4096x8x1, .f32⟩
  | 25 => ⟨S_, .f32⟩
  | 26 => ⟨S4096x8x1, .f32⟩
  | 27 => ⟨S4096x8x1, .f32⟩
  | 28 => ⟨S4096x8x1, .f32⟩
  | 29 => ⟨S4096x8x1, .f32⟩
  | 30 => ⟨S_, .f32⟩
  | 31 => ⟨S4096x8x1, .f32⟩
  | 32 => ⟨S4096x8x1, .f32⟩
  | 33 => ⟨S4096x8x64, .f32⟩
  | 34 => ⟨S4096x8x64, .f32⟩
  | 35 => ⟨S1x8x64, .f32⟩
  | 36 => ⟨S4096x8x64, .f32⟩
  | 37 => ⟨S4096x8x64, .f32⟩
  | 38 => ⟨S64, .i32⟩
  | 39 => ⟨S64, .i32⟩
  | 40 => ⟨S64x64, .i32⟩
  | 41 => ⟨S64x64, .i32⟩
  | 42 => ⟨S4096, .i32⟩
  | 43 => ⟨S4096, .f32⟩
  | 44 => ⟨S4096, .i32⟩
  | 45 => ⟨S4096, .f32⟩
  | 46 => ⟨S16, .f32⟩
  | 47 => ⟨S_, .f32⟩
  | 48 => ⟨S16, .f32⟩
  | 49 => ⟨S16, .f32⟩
  | 50 => ⟨S_, .f32⟩
  | 51 => ⟨S16, .f32⟩
  | 52 => ⟨S16, .f32⟩
  | 53 => ⟨S16, .f32⟩
  | 54 => ⟨S_, .f32⟩
  | 55 => ⟨S16, .f32⟩
  | 56 => ⟨S16, .f32⟩
  | 57 => ⟨S_, .f32⟩
  | 58 => ⟨S16, .f32⟩
  | 59 => ⟨S16, .f32⟩
  | 60 => ⟨S4096x1, .f32⟩
  | 61 => ⟨S1x16, .f32⟩
  | 62 => ⟨S4096x16, .f32⟩
  | 63 => ⟨S4096x16, .f32⟩
  | 64 => ⟨S4096x16, .f32⟩
  | 65 => ⟨S4096x1, .f32⟩
  | 66 => ⟨S1x16, .f32⟩
  | 67 => ⟨S4096x16, .f32⟩
  | 68 => ⟨S4096x16, .f32⟩
  | 69 => ⟨S4096x16, .f32⟩
  | 70 => ⟨S4096x16, .f32⟩
  | 71 => ⟨S4096x16, .f32⟩
  | 72 => ⟨S4096x16, .f32⟩
  | 73 => ⟨S4096x16, .f32⟩
  | 74 => ⟨S4096x8x32, .f32⟩
  | 75 => ⟨S4096x8x32, .f32⟩
  | 76 => ⟨S4096x8x16, .f32⟩
  | 77 => ⟨S4096x8x16, .f32⟩
  | 78 => ⟨S4096x1x16, .f32⟩
  | 79 => ⟨S4096x1x16, .f32⟩
  | 80 => ⟨S4096x8x16, .f32⟩
  | 81 => ⟨S4096x8x16, .f32⟩
  | 82 => ⟨S4096x8x16, .f32⟩
  | 83 => ⟨S4096x8x16, .f32⟩
  | 84 => ⟨S4096x8x16, .f32⟩
  | 85 => ⟨S4096x8x16, .f32⟩
  | 86 => ⟨S4096x8x16, .f32⟩
  | 87 => ⟨S4096x8x16, .f32⟩
  | 88 => ⟨S4096x8x16, .f32⟩
  | 89 => ⟨S4096x8x16, .f32⟩
  | 90 => ⟨S4096x8x32, .f32⟩
  | 91 => ⟨S4096x8x16, .f32⟩
  | 92 => ⟨S4096x8x16, .f32⟩
  | 93 => ⟨S4096x1x16, .f32⟩
  | 94 => ⟨S4096x1x16, .f32⟩
  | 95 => ⟨S4096x8x16, .f32⟩
  | 96 => ⟨S4096x8x16, .f32⟩
  | 97 => ⟨S4096x8x16, .f32⟩
  | 98 => ⟨S4096x8x16, .f32⟩
  | 99 => ⟨S4096x8x16, .f32⟩
  | 100 => ⟨S4096x8x16, .f32⟩
  | 101 => ⟨S4096x8x16, .f32⟩
  | 102 => ⟨S4096x8x16, .f32⟩
  | 103 => ⟨S4096x8x16, .f32⟩
  | 104 => ⟨S4096x8x16, .f32⟩
  | 105 => ⟨S4096x8x32, .f32⟩
  | 106 => ⟨S4096x8x64, .f32⟩
  | 107 => ⟨S_, .f32⟩
  | 108 => ⟨S4096x8x64, .f32⟩
  | 109 => ⟨S4096x8x64, .f32⟩
  | 110 => ⟨S4096x2x64, .f32⟩
  | 111 => ⟨S4096x2x64, .f32⟩
  | 112 => ⟨S_, .f32⟩
  | 113 => ⟨S4096x2, .f32⟩
  | 114 => ⟨S4096x2x1, .f32⟩
  | 115 => ⟨S_, .f32⟩
  | 116 => ⟨S4096x2x1, .f32⟩
  | 117 => ⟨S4096x2x1, .f32⟩
  | 118 => ⟨S_, .f32⟩
  | 119 => ⟨S4096x2x1, .f32⟩
  | 120 => ⟨S4096x2x1, .f32⟩
  | 121 => ⟨S4096x2x1, .f32⟩
  | 122 => ⟨S4096x2x1, .f32⟩
  | 123 => ⟨S_, .f32⟩
  | 124 => ⟨S4096x2x1, .f32⟩
  | 125 => ⟨S4096x2x1, .f32⟩
  | 126 => ⟨S4096x2x64, .f32⟩
  | 127 => ⟨S4096x2x64, .f32⟩
  | _ => ⟨S4096x4864, .f32⟩

abbrev hbmTy0_1 (i : Nat) : BufTy := match i % 128 with
  | 0 => ⟨S1x2x64, .f32⟩
  | 1 => ⟨S4096x2x64, .f32⟩
  | 2 => ⟨S4096x2x64, .f32⟩
  | 3 => ⟨S64, .i32⟩
  | 4 => ⟨S64, .i32⟩
  | 5 => ⟨S64x64, .i32⟩
  | 6 => ⟨S64x64, .i32⟩
  | 7 => ⟨S4096, .i32⟩
  | 8 => ⟨S4096, .f32⟩
  | 9 => ⟨S4096, .i32⟩
  | 10 => ⟨S4096, .f32⟩
  | 11 => ⟨S16, .f32⟩
  | 12 => ⟨S_, .f32⟩
  | 13 => ⟨S16, .f32⟩
  | 14 => ⟨S16, .f32⟩
  | 15 => ⟨S_, .f32⟩
  | 16 => ⟨S16, .f32⟩
  | 17 => ⟨S16, .f32⟩
  | 18 => ⟨S16, .f32⟩
  | 19 => ⟨S_, .f32⟩
  | 20 => ⟨S16, .f32⟩
  | 21 => ⟨S16, .f32⟩
  | 22 => ⟨S_, .f32⟩
  | 23 => ⟨S16, .f32⟩
  | 24 => ⟨S16, .f32⟩
  | 25 => ⟨S4096x1, .f32⟩
  | 26 => ⟨S1x16, .f32⟩
  | 27 => ⟨S4096x16, .f32⟩
  | 28 => ⟨S4096x16, .f32⟩
  | 29 => ⟨S4096x16, .f32⟩
  | 30 => ⟨S4096x1, .f32⟩
  | 31 => ⟨S1x16, .f32⟩
  | 32 => ⟨S4096x16, .f32⟩
  | 33 => ⟨S4096x16, .f32⟩
  | 34 => ⟨S4096x16, .f32⟩
  | 35 => ⟨S4096x16, .f32⟩
  | 36 => ⟨S4096x16, .f32⟩
  | 37 => ⟨S4096x16, .f32⟩
  | 38 => ⟨S4096x16, .f32⟩
  | 39 => ⟨S4096x2x32, .f32⟩
  | 40 => ⟨S4096x2x32, .f32⟩
  | 41 => ⟨S4096x2x16, .f32⟩
  | 42 => ⟨S4096x2x16, .f32⟩
  | 43 => ⟨S4096x1x16, .f32⟩
  | 44 => ⟨S4096x1x16, .f32⟩
  | 45 => ⟨S4096x2x16, .f32⟩
  | 46 => ⟨S4096x2x16, .f32⟩
  | 47 => ⟨S4096x2x16, .f32⟩
  | 48 => ⟨S4096x2x16, .f32⟩
  | 49 => ⟨S4096x2x16, .f32⟩
  | 50 => ⟨S4096x2x16, .f32⟩
  | 51 => ⟨S4096x2x16, .f32⟩
  | 52 => ⟨S4096x2x16, .f32⟩
  | 53 => ⟨S4096x2x16, .f32⟩
  | 54 => ⟨S4096x2x16, .f32⟩
  | 55 => ⟨S4096x2x32, .f32⟩
  | 56 => ⟨S4096x2x16, .f32⟩
  | 57 => ⟨S4096x2x16, .f32⟩
  | 58 => ⟨S4096x1x16, .f32⟩
  | 59 => ⟨S4096x1x16, .f32⟩
  | 60 => ⟨S4096x2x16, .f32⟩
  | 61 => ⟨S4096x2x16, .f32⟩
  | 62 => ⟨S4096x2x16, .f32⟩
  | 63 => ⟨S4096x2x16, .f32⟩
  | 64 => ⟨S4096x2x16, .f32⟩
  | 65 => ⟨S4096x2x16, .f32⟩
  | 66 => ⟨S4096x2x16, .f32⟩
  | 67 => ⟨S4096x2x16, .f32⟩
  | 68 => ⟨S4096x2x16, .f32⟩
  | 69 => ⟨S4096x2x16, .f32⟩
  | 70 => ⟨S4096x2x32, .f32⟩
  | 71 => ⟨S4096x2x64, .f32⟩
  | 72 => ⟨S4096x512, .f32⟩
  | 73 => ⟨S4096x128, .f32⟩
  | 74 => ⟨S4096x2x64, .f32⟩
  | 75 => ⟨S4096x8x64, .f32⟩
  | 76 => ⟨S4096x2x32, .f32⟩
  | 77 => ⟨S4096x2x32, .f32⟩
  | 78 => ⟨S4096x2x16, .f32⟩
  | 79 => ⟨S4096x2x16, .f32⟩
  | 80 => ⟨S4096x2x16, .f32⟩
  | 81 => ⟨S4096x2x16, .f32⟩
  | 82 => ⟨S4096x2x16, .f32⟩
  | 83 => ⟨S4096x2x16, .f32⟩
  | 84 => ⟨S4096x2x16, .f32⟩
  | 85 => ⟨S4096x2x16, .f32⟩
  | 86 => ⟨S4096x2x16, .f32⟩
  | 87 => ⟨S4096x2x16, .f32⟩
  | 88 => ⟨S4096x2x16, .f32⟩
  | 89 => ⟨S4096x2x16, .f32⟩
  | 90 => ⟨S4096x2x16, .f32⟩
  | 91 => ⟨S4096x2x32, .f32⟩
  | 92 => ⟨S4096x2x16, .f32⟩
  | 93 => ⟨S4096x2x16, .f32⟩
  | 94 => ⟨S4096x2x16, .f32⟩
  | 95 => ⟨S4096x2x16, .f32⟩
  | 96 => ⟨S4096x2x16, .f32⟩
  | 97 => ⟨S4096x2x16, .f32⟩
  | 98 => ⟨S4096x2x16, .f32⟩
  | 99 => ⟨S4096x2x16, .f32⟩
  | 100 => ⟨S4096x2x16, .f32⟩
  | 101 => ⟨S4096x2x16, .f32⟩
  | 102 => ⟨S4096x2x16, .f32⟩
  | 103 => ⟨S4096x2x16, .f32⟩
  | 104 => ⟨S4096x2x16, .f32⟩
  | 105 => ⟨S4096x2x32, .f32⟩
  | 106 => ⟨S4096x2x64, .f32⟩
  | 107 => ⟨S4096x2x64, .f32⟩
  | 108 => ⟨S_, .f32⟩
  | 109 => ⟨S2x64, .f32⟩
  | 110 => ⟨S1x2x64, .f32⟩
  | 111 => ⟨S4096x2x64, .f32⟩
  | 112 => ⟨S4096x2x64, .f32⟩
  | 113 => ⟨S_, .f32⟩
  | 114 => ⟨S2x64, .f32⟩
  | 115 => ⟨S4096x2x64, .f32⟩
  | 116 => ⟨S_, .f32⟩
  | 117 => ⟨S4096x2, .f32⟩
  | 118 => ⟨S4096x2x1, .f32⟩
  | 119 => ⟨S4096x2x64, .f32⟩
  | 120 => ⟨S4096x2x64, .f32⟩
  | 121 => ⟨S4096x2x1, .f32⟩
  | 122 => ⟨S_, .f32⟩
  | 123 => ⟨S4096x2x1, .f32⟩
  | 124 => ⟨S4096x2x1, .f32⟩
  | 125 => ⟨S_, .f32⟩
  | 126 => ⟨S4096x2, .f32⟩
  | 127 => ⟨S4096x2x64, .f32⟩
  | _ => ⟨S4096x4864, .f32⟩

abbrev hbmTy0_2 (i : Nat) : BufTy := match i % 128 with
  | 0 => ⟨S4096x2x64, .f32⟩
  | 1 => ⟨S4096x2x64, .f32⟩
  | 2 => ⟨S4096x2x64, .f32⟩
  | 3 => ⟨S4096x2x64, .f32⟩
  | 4 => ⟨S4096x128, .f32⟩
  | 5 => ⟨S_, .f32⟩
  | 6 => ⟨S4096x8x64, .f32⟩
  | 7 => ⟨S4096x8x64, .f32⟩
  | 8 => ⟨S4096x8x32, .f32⟩
  | 9 => ⟨S4096x8x32, .f32⟩
  | 10 => ⟨S4096x8x16, .f32⟩
  | 11 => ⟨S4096x8x16, .f32⟩
  | 12 => ⟨S4096x8x16, .f32⟩
  | 13 => ⟨S4096x8x16, .f32⟩
  | 14 => ⟨S4096x8x16, .f32⟩
  | 15 => ⟨S4096x8x16, .f32⟩
  | 16 => ⟨S4096x8x16, .f32⟩
  | 17 => ⟨S4096x8x16, .f32⟩
  | 18 => ⟨S4096x8x16, .f32⟩
  | 19 => ⟨S4096x8x16, .f32⟩
  | 20 => ⟨S4096x8x16, .f32⟩
  | 21 => ⟨S4096x8x16, .f32⟩
  | 22 => ⟨S4096x8x16, .f32⟩
  | 23 => ⟨S4096x8x32, .f32⟩
  | 24 => ⟨S4096x8x16, .f32⟩
  | 25 => ⟨S4096x8x16, .f32⟩
  | 26 => ⟨S4096x8x16, .f32⟩
  | 27 => ⟨S4096x8x16, .f32⟩
  | 28 => ⟨S4096x8x16, .f32⟩
  | 29 => ⟨S4096x8x16, .f32⟩
  | 30 => ⟨S4096x8x16, .f32⟩
  | 31 => ⟨S4096x8x16, .f32⟩
  | 32 => ⟨S4096x8x16, .f32⟩
  | 33 => ⟨S4096x8x16, .f32⟩
  | 34 => ⟨S4096x8x16, .f32⟩
  | 35 => ⟨S4096x8x16, .f32⟩
  | 36 => ⟨S4096x8x16, .f32⟩
  | 37 => ⟨S4096x8x32, .f32⟩
  | 38 => ⟨S4096x8x64, .f32⟩
  | 39 => ⟨S4096x8x64, .f32⟩
  | 40 => ⟨S_, .f32⟩
  | 41 => ⟨S8x64, .f32⟩
  | 42 => ⟨S1x8x64, .f32⟩
  | 43 => ⟨S4096x8x64, .f32⟩
  | 44 => ⟨S4096x8x64, .f32⟩
  | 45 => ⟨S_, .f32⟩
  | 46 => ⟨S8x64, .f32⟩
  | 47 => ⟨S4096x8x64, .f32⟩
  | 48 => ⟨S_, .f32⟩
  | 49 => ⟨S4096x8, .f32⟩
  | 50 => ⟨S4096x8x1, .f32⟩
  | 51 => ⟨S4096x8x64, .f32⟩
  | 52 => ⟨S4096x8x64, .f32⟩
  | 53 => ⟨S4096x8x1, .f32⟩
  | 54 => ⟨S_, .f32⟩
  | 55 => ⟨S4096x8x1, .f32⟩
  | 56 => ⟨S4096x8x1, .f32⟩
  | 57 => ⟨S_, .f32⟩
  | 58 => ⟨S4096x8, .f32⟩
  | 59 => ⟨S4096x8x64, .f32⟩
  | 60 => ⟨S4096x8x64, .f32⟩
  | 61 => ⟨S4096x8x64, .f32⟩
  | 62 => ⟨S4096x8x64, .f32⟩
  | 63 => ⟨S4096x8x64, .f32⟩
  | 64 => ⟨S4096x512, .f32⟩
  | 65 => ⟨S4x128, .f32⟩
  | 66 => ⟨S_, .f32⟩
  | 67 => ⟨S128, .f32⟩
  | 68 => ⟨S1x128, .f32⟩
  | 69 => ⟨S1x128, .f32⟩
  | 70 => ⟨S_, .f32⟩
  | 71 => ⟨S6x128, .f32⟩
  | 72 => ⟨S8x128, .f32⟩
  | 73 => ⟨S4096x768, .f32⟩
  | 74 => ⟨S4096x768, .bf16⟩
  | _ => ⟨S4096x4864, .f32⟩

abbrev hbmTy (i : Nat) : BufTy := match i / 128 with
  | 0 => hbmTy0_0 i
  | 1 => hbmTy0_1 i
  | 2 => hbmTy0_2 i
  | _ => ⟨S4096x4864, .f32⟩

abbrev bufTy : (tb : Table) → Fin (tcTables nBuf tb) → BufTy
  | .hbm, ⟨i, _⟩ => hbmTy i
  | _, _ => ⟨S4096x4864, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_cst_7 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_cst_8 : Ref sig .tc := ⟨.hbm, 112, rfl⟩
abbrev main_v97 : Ref sig .tc := ⟨.hbm, 113, rfl⟩
abbrev main_v98 : Ref sig .tc := ⟨.hbm, 114, rfl⟩
abbrev main_cst_9 : Ref sig .tc := ⟨.hbm, 115, rfl⟩
abbrev main_v99 : Ref sig .tc := ⟨.hbm, 116, rfl⟩
abbrev main_v100 : Ref sig .tc := ⟨.hbm, 117, rfl⟩
abbrev main_cst_10 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_cst_11 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_cst_12 : Ref sig .tc := ⟨.hbm, 140, rfl⟩
abbrev main_v121 : Ref sig .tc := ⟨.hbm, 141, rfl⟩
abbrev main_v122 : Ref sig .tc := ⟨.hbm, 142, rfl⟩
abbrev main_cst_13 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_cst_14 : Ref sig .tc := ⟨.hbm, 147, rfl⟩
abbrev main_v126 : Ref sig .tc := ⟨.hbm, 148, rfl⟩
abbrev main_v127 : Ref sig .tc := ⟨.hbm, 149, rfl⟩
abbrev main_cst_15 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_v164 : Ref sig .tc := ⟨.hbm, 187, rfl⟩
abbrev main_v165 : Ref sig .tc := ⟨.hbm, 188, rfl⟩
abbrev main_v166 : Ref sig .tc := ⟨.hbm, 189, rfl⟩
abbrev main_v167 : Ref sig .tc := ⟨.hbm, 190, rfl⟩
abbrev main_v168 : Ref sig .tc := ⟨.hbm, 191, rfl⟩
abbrev main_v169 : Ref sig .tc := ⟨.hbm, 192, rfl⟩
abbrev main_v170 : Ref sig .tc := ⟨.hbm, 193, rfl⟩
abbrev main_v171 : Ref sig .tc := ⟨.hbm, 194, rfl⟩
abbrev main_v172 : Ref sig .tc := ⟨.hbm, 195, rfl⟩
abbrev main_v173 : Ref sig .tc := ⟨.hbm, 196, rfl⟩
abbrev main_v174 : Ref sig .tc := ⟨.hbm, 197, rfl⟩
abbrev main_v175 : Ref sig .tc := ⟨.hbm, 198, rfl⟩
abbrev main_v176 : Ref sig .tc := ⟨.hbm, 199, rfl⟩
abbrev main_v177 : Ref sig .tc := ⟨.hbm, 200, rfl⟩
abbrev main_v178 : Ref sig .tc := ⟨.hbm, 201, rfl⟩
abbrev main_v179 : Ref sig .tc := ⟨.hbm, 202, rfl⟩
abbrev main_v180 : Ref sig .tc := ⟨.hbm, 203, rfl⟩
abbrev main_v181 : Ref sig .tc := ⟨.hbm, 204, rfl⟩
abbrev main_v182 : Ref sig .tc := ⟨.hbm, 205, rfl⟩
abbrev main_v183 : Ref sig .tc := ⟨.hbm, 206, rfl⟩
abbrev main_v184 : Ref sig .tc := ⟨.hbm, 207, rfl⟩
abbrev main_v185 : Ref sig .tc := ⟨.hbm, 208, rfl⟩
abbrev main_v186 : Ref sig .tc := ⟨.hbm, 209, rfl⟩
abbrev main_v187 : Ref sig .tc := ⟨.hbm, 210, rfl⟩
abbrev main_v188 : Ref sig .tc := ⟨.hbm, 211, rfl⟩
abbrev main_v189 : Ref sig .tc := ⟨.hbm, 212, rfl⟩
abbrev main_v190 : Ref sig .tc := ⟨.hbm, 213, rfl⟩
abbrev main_v191 : Ref sig .tc := ⟨.hbm, 214, rfl⟩
abbrev main_v192 : Ref sig .tc := ⟨.hbm, 215, rfl⟩
abbrev main_v193 : Ref sig .tc := ⟨.hbm, 216, rfl⟩
abbrev main_v194 : Ref sig .tc := ⟨.hbm, 217, rfl⟩
abbrev main_v195 : Ref sig .tc := ⟨.hbm, 218, rfl⟩
abbrev main_v196 : Ref sig .tc := ⟨.hbm, 219, rfl⟩
abbrev main_v197 : Ref sig .tc := ⟨.hbm, 220, rfl⟩
abbrev main_v198 : Ref sig .tc := ⟨.hbm, 221, rfl⟩
abbrev main_v199 : Ref sig .tc := ⟨.hbm, 222, rfl⟩
abbrev main_v200 : Ref sig .tc := ⟨.hbm, 223, rfl⟩
abbrev main_v201 : Ref sig .tc := ⟨.hbm, 224, rfl⟩
abbrev main_v202 : Ref sig .tc := ⟨.hbm, 225, rfl⟩
abbrev main_v203 : Ref sig .tc := ⟨.hbm, 226, rfl⟩
abbrev main_v204 : Ref sig .tc := ⟨.hbm, 227, rfl⟩
abbrev main_v205 : Ref sig .tc := ⟨.hbm, 228, rfl⟩
abbrev main_v206 : Ref sig .tc := ⟨.hbm, 229, rfl⟩
abbrev main_v207 : Ref sig .tc := ⟨.hbm, 230, rfl⟩
abbrev main_v208 : Ref sig .tc := ⟨.hbm, 231, rfl⟩
abbrev main_v209 : Ref sig .tc := ⟨.hbm, 232, rfl⟩
abbrev main_v210 : Ref sig .tc := ⟨.hbm, 233, rfl⟩
abbrev main_v211 : Ref sig .tc := ⟨.hbm, 234, rfl⟩
abbrev main_v212 : Ref sig .tc := ⟨.hbm, 235, rfl⟩
abbrev main_cst_16 : Ref sig .tc := ⟨.hbm, 236, rfl⟩
abbrev main_v213 : Ref sig .tc := ⟨.hbm, 237, rfl⟩
abbrev main_v214 : Ref sig .tc := ⟨.hbm, 238, rfl⟩
abbrev main_v215 : Ref sig .tc := ⟨.hbm, 239, rfl⟩
abbrev main_v216 : Ref sig .tc := ⟨.hbm, 240, rfl⟩
abbrev main_cst_17 : Ref sig .tc := ⟨.hbm, 241, rfl⟩
abbrev main_v217 : Ref sig .tc := ⟨.hbm, 242, rfl⟩
abbrev main_v218 : Ref sig .tc := ⟨.hbm, 243, rfl⟩
abbrev main_cst_18 : Ref sig .tc := ⟨.hbm, 244, rfl⟩
abbrev main_v219 : Ref sig .tc := ⟨.hbm, 245, rfl⟩
abbrev main_v220 : Ref sig .tc := ⟨.hbm, 246, rfl⟩
abbrev main_v221 : Ref sig .tc := ⟨.hbm, 247, rfl⟩
abbrev main_v222 : Ref sig .tc := ⟨.hbm, 248, rfl⟩
abbrev main_v223 : Ref sig .tc := ⟨.hbm, 249, rfl⟩
abbrev main_cst_19 : Ref sig .tc := ⟨.hbm, 250, rfl⟩
abbrev main_v224 : Ref sig .tc := ⟨.hbm, 251, rfl⟩
abbrev main_v225 : Ref sig .tc := ⟨.hbm, 252, rfl⟩
abbrev main_cst_20 : Ref sig .tc := ⟨.hbm, 253, rfl⟩
abbrev main_v226 : Ref sig .tc := ⟨.hbm, 254, rfl⟩
abbrev main_v227 : Ref sig .tc := ⟨.hbm, 255, rfl⟩
abbrev main_v228 : Ref sig .tc := ⟨.hbm, 256, rfl⟩
abbrev main_v229 : Ref sig .tc := ⟨.hbm, 257, rfl⟩
abbrev main_v230 : Ref sig .tc := ⟨.hbm, 258, rfl⟩
abbrev main_v231 : Ref sig .tc := ⟨.hbm, 259, rfl⟩
abbrev main_v232 : Ref sig .tc := ⟨.hbm, 260, rfl⟩
abbrev main_cst_21 : Ref sig .tc := ⟨.hbm, 261, rfl⟩
abbrev main_v233 : Ref sig .tc := ⟨.hbm, 262, rfl⟩
abbrev main_v234 : Ref sig .tc := ⟨.hbm, 263, rfl⟩
abbrev main_v235 : Ref sig .tc := ⟨.hbm, 264, rfl⟩
abbrev main_v236 : Ref sig .tc := ⟨.hbm, 265, rfl⟩
abbrev main_v237 : Ref sig .tc := ⟨.hbm, 266, rfl⟩
abbrev main_v238 : Ref sig .tc := ⟨.hbm, 267, rfl⟩
abbrev main_v239 : Ref sig .tc := ⟨.hbm, 268, rfl⟩
abbrev main_v240 : Ref sig .tc := ⟨.hbm, 269, rfl⟩
abbrev main_v241 : Ref sig .tc := ⟨.hbm, 270, rfl⟩
abbrev main_v242 : Ref sig .tc := ⟨.hbm, 271, rfl⟩
abbrev main_v243 : Ref sig .tc := ⟨.hbm, 272, rfl⟩
abbrev main_v244 : Ref sig .tc := ⟨.hbm, 273, rfl⟩
abbrev main_v245 : Ref sig .tc := ⟨.hbm, 274, rfl⟩
abbrev main_v246 : Ref sig .tc := ⟨.hbm, 275, rfl⟩
abbrev main_v247 : Ref sig .tc := ⟨.hbm, 276, rfl⟩
abbrev main_v248 : Ref sig .tc := ⟨.hbm, 277, rfl⟩
abbrev main_v249 : Ref sig .tc := ⟨.hbm, 278, rfl⟩
abbrev main_v250 : Ref sig .tc := ⟨.hbm, 279, rfl⟩
abbrev main_v251 : Ref sig .tc := ⟨.hbm, 280, rfl⟩
abbrev main_v252 : Ref sig .tc := ⟨.hbm, 281, rfl⟩
abbrev main_v253 : Ref sig .tc := ⟨.hbm, 282, rfl⟩
abbrev main_v254 : Ref sig .tc := ⟨.hbm, 283, rfl⟩
abbrev main_v255 : Ref sig .tc := ⟨.hbm, 284, rfl⟩
abbrev main_v256 : Ref sig .tc := ⟨.hbm, 285, rfl⟩
abbrev main_v257 : Ref sig .tc := ⟨.hbm, 286, rfl⟩
abbrev main_v258 : Ref sig .tc := ⟨.hbm, 287, rfl⟩
abbrev main_v259 : Ref sig .tc := ⟨.hbm, 288, rfl⟩
abbrev main_v260 : Ref sig .tc := ⟨.hbm, 289, rfl⟩
abbrev main_v261 : Ref sig .tc := ⟨.hbm, 290, rfl⟩
abbrev main_v262 : Ref sig .tc := ⟨.hbm, 291, rfl⟩
abbrev main_v263 : Ref sig .tc := ⟨.hbm, 292, rfl⟩
abbrev main_v264 : Ref sig .tc := ⟨.hbm, 293, rfl⟩
abbrev main_v265 : Ref sig .tc := ⟨.hbm, 294, rfl⟩
abbrev main_v266 : Ref sig .tc := ⟨.hbm, 295, rfl⟩
abbrev main_cst_22 : Ref sig .tc := ⟨.hbm, 296, rfl⟩
abbrev main_v267 : Ref sig .tc := ⟨.hbm, 297, rfl⟩
abbrev main_v268 : Ref sig .tc := ⟨.hbm, 298, rfl⟩
abbrev main_v269 : Ref sig .tc := ⟨.hbm, 299, rfl⟩
abbrev main_v270 : Ref sig .tc := ⟨.hbm, 300, rfl⟩
abbrev main_cst_23 : Ref sig .tc := ⟨.hbm, 301, rfl⟩
abbrev main_v271 : Ref sig .tc := ⟨.hbm, 302, rfl⟩
abbrev main_v272 : Ref sig .tc := ⟨.hbm, 303, rfl⟩
abbrev main_cst_24 : Ref sig .tc := ⟨.hbm, 304, rfl⟩
abbrev main_v273 : Ref sig .tc := ⟨.hbm, 305, rfl⟩
abbrev main_v274 : Ref sig .tc := ⟨.hbm, 306, rfl⟩
abbrev main_v275 : Ref sig .tc := ⟨.hbm, 307, rfl⟩
abbrev main_v276 : Ref sig .tc := ⟨.hbm, 308, rfl⟩
abbrev main_v277 : Ref sig .tc := ⟨.hbm, 309, rfl⟩
abbrev main_cst_25 : Ref sig .tc := ⟨.hbm, 310, rfl⟩
abbrev main_v278 : Ref sig .tc := ⟨.hbm, 311, rfl⟩
abbrev main_v279 : Ref sig .tc := ⟨.hbm, 312, rfl⟩
abbrev main_cst_26 : Ref sig .tc := ⟨.hbm, 313, rfl⟩
abbrev main_v280 : Ref sig .tc := ⟨.hbm, 314, rfl⟩
abbrev main_v281 : Ref sig .tc := ⟨.hbm, 315, rfl⟩
abbrev main_v282 : Ref sig .tc := ⟨.hbm, 316, rfl⟩
abbrev main_v283 : Ref sig .tc := ⟨.hbm, 317, rfl⟩
abbrev main_v284 : Ref sig .tc := ⟨.hbm, 318, rfl⟩
abbrev main_v285 : Ref sig .tc := ⟨.hbm, 319, rfl⟩
abbrev main_v286 : Ref sig .tc := ⟨.hbm, 320, rfl⟩
abbrev main_v287 : Ref sig .tc := ⟨.hbm, 321, rfl⟩
abbrev main_cst_27 : Ref sig .tc := ⟨.hbm, 322, rfl⟩
abbrev main_v288 : Ref sig .tc := ⟨.hbm, 323, rfl⟩
abbrev main_v289 : Ref sig .tc := ⟨.hbm, 324, rfl⟩
abbrev main_v290 : Ref sig .tc := ⟨.hbm, 325, rfl⟩
abbrev main_cst_28 : Ref sig .tc := ⟨.hbm, 326, rfl⟩
abbrev main_v291 : Ref sig .tc := ⟨.hbm, 327, rfl⟩
abbrev main_v292 : Ref sig .tc := ⟨.hbm, 328, rfl⟩
abbrev main_v293 : Ref sig .tc := ⟨.hbm, 329, rfl⟩
abbrev main_v294 : Ref sig .tc := ⟨.hbm, 330, rfl⟩

abbrev nD : Nat := 1
abbrev τ : Topo := Topo.v7x

variable {F : FTy → Type} [FloatOps F]
-- ==== InKernel.lean ====
abbrev S4096x1024 : Shape := ⟨2, ![4096, 1024]⟩
abbrev S3072 : Shape := ⟨1, ![3072]⟩
abbrev S1024 : Shape := ⟨1, ![1024]⟩
abbrev S1024x4864 : Shape := ⟨2, ![1024, 4864]⟩
abbrev S4096x4864 : Shape := ⟨2, ![4096, 4864]⟩
abbrev S4096x2048 : Shape := ⟨2, ![4096, 2048]⟩
abbrev S4096x512 : Shape := ⟨2, ![4096, 512]⟩
abbrev S4096x128 : Shape := ⟨2, ![4096, 128]⟩
abbrev S4096x256 : Shape := ⟨2, ![4096, 256]⟩
abbrev S1024x2048 : Shape := ⟨2, ![1024, 2048]⟩
abbrev S1024x512 : Shape := ⟨2, ![1024, 512]⟩
abbrev S1024x128 : Shape := ⟨2, ![1024, 128]⟩
abbrev S1024x256 : Shape := ⟨2, ![1024, 256]⟩
abbrev S4096x2560 : Shape := ⟨2, ![4096, 2560]⟩
abbrev S4096x768 : Shape := ⟨2, ![4096, 768]⟩
abbrev S3x1024 : Shape := ⟨2, ![3, 1024]⟩
abbrev S1x1024 : Shape := ⟨2, ![1, 1024]⟩
abbrev S8x1024 : Shape := ⟨2, ![8, 1024]⟩
abbrev S256x2560 : Shape := ⟨2, ![256, 2560]⟩
abbrev S256x768 : Shape := ⟨2, ![256, 768]⟩
abbrev S256x1024 : Shape := ⟨2, ![256, 1024]⟩
abbrev S1024x2560 : Shape := ⟨2, ![1024, 2560]⟩
abbrev S1024x768 : Shape := ⟨2, ![1024, 768]⟩
abbrev S256 : Shape := ⟨1, ![256]⟩
abbrev S256x1 : Shape := ⟨2, ![256, 1]⟩

abbrev nBuf : Space → Nat
  | .hbm => 36
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S3072, .f32⟩
  | .hbm, ⟨2, _⟩ => ⟨S1024, .f32⟩
  | .hbm, ⟨3, _⟩ => ⟨S1024x4864, .f32⟩
  | .hbm, ⟨4, _⟩ => ⟨S4096x4864, .f32⟩
  | .hbm, ⟨5, _⟩ => ⟨S4096x1024, .f32⟩
  | .hbm, ⟨6, _⟩ => ⟨S4096x2048, .f32⟩
  | .hbm, ⟨7, _⟩ => ⟨S4096x512, .f32⟩
  | .hbm, ⟨8, _⟩ => ⟨S4096x512, .f32⟩
  | .hbm, ⟨9, _⟩ => ⟨S4096x128, .f32⟩
  | .hbm, ⟨10, _⟩ => ⟨S4096x128, .f32⟩
  | .hbm, ⟨11, _⟩ => ⟨S4096x256, .f32⟩
  | .hbm, ⟨12, _⟩ => ⟨S4096x512, .f32⟩
  | .hbm, ⟨13, _⟩ => ⟨S4096x512, .f32⟩
  | .hbm, ⟨14, _⟩ => ⟨S4096x256, .f32⟩
  | .hbm, ⟨15, _⟩ => ⟨S4096x4864, .f32⟩
  | .hbm, ⟨16, _⟩ => ⟨S4096x4864, .bf16⟩
  | .hbm, ⟨17, _⟩ => ⟨S1024x2048, .f32⟩
  | .hbm, ⟨18, _⟩ => ⟨S1024x512, .f32⟩
  | .hbm, ⟨19, _⟩ => ⟨S1024x512, .f32⟩
  | .hbm, ⟨20, _⟩ => ⟨S1024x128, .f32⟩
  | .hbm, ⟨21, _⟩ => ⟨S1024x128, .f32⟩
  | .hbm, ⟨22, _⟩ => ⟨S1024x256, .f32⟩
  | .hbm, ⟨23, _⟩ => ⟨S1024x512, .f32⟩
  | .hbm, ⟨24, _⟩ => ⟨S1024x512, .f32⟩
  | .hbm, ⟨25, _⟩ => ⟨S1024x256, .f32⟩
  | .hbm, ⟨26, _⟩ => ⟨S1024x4864, .f32⟩
  | .hbm, ⟨27, _⟩ => ⟨S1024x4864, .bf16⟩
  | .hbm, ⟨28, _⟩ => ⟨S4096x2560, .bf16⟩
  | .hbm, ⟨29, _⟩ => ⟨S4096x768, .bf16⟩
  | .hbm, ⟨30, _⟩ => ⟨S4096x768, .bf16⟩
  | .hbm, ⟨31, _⟩ => ⟨S4096x768, .bf16⟩
  | .hbm, ⟨32, _⟩ => ⟨S3x1024, .f32⟩
  | .hbm, ⟨33, _⟩ => ⟨S1x1024, .f32⟩
  | .hbm, ⟨34, _⟩ => ⟨S4096x1024, .f32⟩
  | .hbm, ⟨35, _⟩ => ⟨S8x1024, .f32⟩
  | .local _ .vmem, ⟨0, _⟩ => ⟨S256x2560, .bf16⟩
  | .local _ .vmem, ⟨1, _⟩ => ⟨S256x2560, .bf16⟩
  | .local _ .vmem, ⟨2, _⟩ => ⟨S256x768, .bf16⟩
  | .local _ .vmem, ⟨3, _⟩ => ⟨S256x768, .bf16⟩
  | .local _ .vmem, ⟨4, _⟩ => ⟨S256x768, .bf16⟩
  | .local _ .vmem, ⟨5, _⟩ => ⟨S256x768, .bf16⟩
  | .local _ .vmem, ⟨6, _⟩ => ⟨S256x768, .bf16⟩
  | .local _ .vmem, ⟨7, _⟩ => ⟨S256x768, .bf16⟩
  | .local _ .vmem, ⟨8, _⟩ => ⟨S1024x4864, .bf16⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S3x1024, .f32⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | .local _ .vmem, ⟨17, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28_0 : Ref sig .tc := ⟨.hbm, 34, rfl⟩
abbrev main_v28_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x4864 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== InReferenceIdeal.lean ====
abbrev S4096x1024 : Shape := ⟨2, ![4096, 1024]⟩
abbrev S3072 : Shape := ⟨1, ![3072]⟩
abbrev S1024 : Shape := ⟨1, ![1024]⟩
abbrev S1024x4864 : Shape := ⟨2, ![1024, 4864]⟩
abbrev S4096x4864 : Shape := ⟨2, ![4096, 4864]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S5x1024 : Shape := ⟨2, ![5, 1024]⟩
abbrev S8x1024 : Shape := ⟨2, ![8, 1024]⟩

abbrev nBuf : Space → Nat
  | .hbm => 85
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S3072, .f32⟩
  | .hbm, ⟨2, _⟩ => ⟨S1024, .f32⟩
  | .hbm, ⟨3, _⟩ => ⟨S1024x4864, .f32⟩
  | .hbm, ⟨4, _⟩ => ⟨S4096x4864, .f32⟩
  | .hbm, ⟨5, _⟩ => ⟨S4096x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x4864, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S_, .f32⟩
  | .hbm, ⟨44, _⟩ => ⟨S1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S4096x1024, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1, .f32⟩
  | .hbm, ⟨69, _⟩ => ⟨S_, .f32⟩
  | .hbm, ⟨70, _⟩ => ⟨S4096x1, .f32⟩
  | .hbm, ⟨71, _⟩ => ⟨S4096x1, .f32⟩
  | .hbm, ⟨72, _⟩ => ⟨S_, .f32⟩
  | .hbm, ⟨73, _⟩ => ⟨S4096, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S1x1024, .f32⟩
  | .hbm, ⟨80, _⟩ => ⟨S1x1024, .f32⟩
  | .hbm, ⟨81, _⟩ => ⟨S1x1024, .f32⟩
  | .hbm, ⟨82, _⟩ => ⟨S_, .f32⟩
  | .hbm, ⟨83, _⟩ => ⟨S5x1024, .f32⟩
  | .hbm, ⟨84, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_v52 : Ref sig .tc := ⟨.hbm, 71, rfl⟩
abbrev main_cst_12 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_13 : Ref sig .tc := ⟨.hbm, 82, rfl⟩
abbrev main_v62 : Ref sig .tc := ⟨.hbm, 83, rfl⟩
abbrev main_v63 : Ref sig .tc := ⟨.hbm, 84, rfl⟩

abbrev nD : Nat := 1
abbrev τ : Topo := Topo.v7x

variable {F : FTy → Type} [FloatOps F]
-- ==== MidKernel.lean ====
abbrev S4096x1024 : Shape := ⟨2, ![4096, 1024]⟩
abbrev S3072 : Shape := ⟨1, ![3072]⟩
abbrev S1024 : Shape := ⟨1, ![1024]⟩
abbrev S4096x512 : Shape := ⟨2, ![4096, 512]⟩
abbrev S4096x4864 : Shape := ⟨2, ![4096, 4864]⟩
abbrev S512x1024 : Shape := ⟨2, ![512, 1024]⟩
abbrev S1024x1024 : Shape := ⟨2, ![1024, 1024]⟩
abbrev S3x1024 : Shape := ⟨2, ![3, 1024]⟩
abbrev S1x1024 : Shape := ⟨2, ![1, 1024]⟩
abbrev S4096x2048 : Shape := ⟨2, ![4096, 2048]⟩
abbrev S4096x128 : Shape := ⟨2, ![4096, 128]⟩
abbrev S4096x256 : Shape := ⟨2, ![4096, 256]⟩
abbrev S8x64x4096 : Shape := ⟨3, ![8, 64, 4096]⟩
abbrev S4096x2560 : Shape := ⟨2, ![4096, 2560]⟩
abbrev S8x1024 : Shape := ⟨2, ![8, 1024]⟩
abbrev S256x1024 : Shape := ⟨2, ![256, 1024]⟩
abbrev S256x512 : Shape := ⟨2, ![256, 512]⟩
abbrev S256x2048 : Shape := ⟨2, ![256, 2048]⟩
abbrev S8x64x256 : Shape := ⟨3, ![8, 64, 256]⟩
abbrev S256x2560 : Shape := ⟨2, ![256, 2560]⟩
abbrev S256 : Shape := ⟨1, ![256]⟩
abbrev S256x1 : Shape := ⟨2, ![256, 1]⟩
abbrev S256x128 : Shape := ⟨2, ![256, 128]⟩
abbrev S128x256 : Shape := ⟨2, ![128, 256]⟩
abbrev S64x256 : Shape := ⟨2, ![64, 256]⟩
abbrev S1x64x256 : Shape := ⟨3, ![1, 64, 256]⟩

abbrev nBuf : Space → Nat
  | .hbm => 37
  | .vmem => 36
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S3072, .f32⟩
  | .hbm, ⟨3, _⟩ => ⟨S1024, .f32⟩
  | .hbm, ⟨4, _⟩ => ⟨S4096x512, .f32⟩
  | .hbm, ⟨5, _⟩ => ⟨S4096x4864, .f32⟩
  | .hbm, ⟨6, _⟩ => ⟨S4096x512, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S3x1024, .f32⟩
  | .hbm, ⟨11, _⟩ => ⟨S1x1024, .f32⟩
  | .hbm, ⟨12, _⟩ => ⟨S4096x2048, .f32⟩
  | .hbm, ⟨13, _⟩ => ⟨S4096x512, .f32⟩
  | .hbm, ⟨14, _⟩ => ⟨S4096x512, .f32⟩
  | .hbm, ⟨15, _⟩ => ⟨S4096x128, .f32⟩
  | .hbm, ⟨16, _⟩ => ⟨S4096x128, .f32⟩
  | .hbm, ⟨17, _⟩ => ⟨S4096x256, .f32⟩
  | .hbm, ⟨18, _⟩ => ⟨S4096x512, .f32⟩
  | .hbm, ⟨19, _⟩ => ⟨S4096x512, .f32⟩
  | .hbm, ⟨20, _⟩ => ⟨S4096x256, .f32⟩
  | .hbm, ⟨21, _⟩ => ⟨S4096x4864, .f32⟩
  | .hbm, ⟨22, _⟩ => ⟨S4096x4864, .bf16⟩
  | .hbm, ⟨23, _⟩ => ⟨S4096x512, .bf16⟩
  | .hbm, ⟨24, _⟩ => ⟨S512x1024, .bf16⟩
  | .hbm, ⟨25, _⟩ => ⟨S512x1024, .bf16⟩
  | .hbm, ⟨26, _⟩ => ⟨S1024x1024, .bf16⟩
  | .hbm, ⟨27, _⟩ => ⟨S4096x1024, .f32⟩
  | .hbm, ⟨28, _⟩ => ⟨S8x64x4096, .bf16⟩
  | .hbm, ⟨29, _⟩ => ⟨S4096x2560, .bf16⟩
  | .hbm, ⟨30, _⟩ => ⟨S4096x512, .f32⟩
  | .hbm, ⟨31, _⟩ => ⟨S4096x1024, .bf16⟩
  | .hbm, ⟨32, _⟩ => ⟨S4096x1024, .bf16⟩
  | .hbm, ⟨33, _⟩ => ⟨S4096x512, .bf16⟩
  | .hbm, ⟨34, _⟩ => ⟨S4096x1024, .bf16⟩
  | .hbm, ⟨35, _⟩ => ⟨S4096x1024, .bf16⟩
  | .hbm, ⟨36, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S3x1024, .f32⟩
  | .local _ .vmem, ⟨5, _⟩ => ⟨S1x1024, .f32⟩
  | .local _ .vmem, ⟨6, _⟩ => ⟨S256x512, .f32⟩
  | .local _ .vmem, ⟨7, _⟩ => ⟨S256x512, .f32⟩
  | .local _ .vmem, ⟨8, _⟩ => ⟨S256x512, .bf16⟩
  | .local _ .vmem, ⟨9, _⟩ => ⟨S256x512, .bf16⟩
  | .local _ .vmem, ⟨10, _⟩ => ⟨S256x2048, .bf16⟩
  | .local _ .vmem, ⟨11, _⟩ => ⟨S256x2048, .bf16⟩
  | .local _ .vmem, ⟨12, _⟩ => ⟨S256x512, .bf16⟩
  | .local _ .vmem, ⟨13, _⟩ => ⟨S256x512, .bf16⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S256x1024, .f32⟩
  | .local _ .vmem, ⟨18, _⟩ => ⟨S256x1024, .f32⟩
  | .local _ .vmem, ⟨19, _⟩ => ⟨S8x64x256, .bf16⟩
  | .local _ .vmem, ⟨20, _⟩ => ⟨S8x64x256, .bf16⟩
  | .local _ .vmem, ⟨21, _⟩ => ⟨S256x2560, .bf16⟩
  | .local _ .vmem, ⟨22, _⟩ => ⟨S256x2560, .bf16⟩
  | .local _ .vmem, ⟨23, _⟩ => ⟨S256x512, .f32⟩
  | .local _ .vmem, ⟨24, _⟩ => ⟨S256x512, .f32⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x512, .bf16⟩
  | .local _ .vmem, ⟨30, _⟩ => ⟨S256x512, .bf16⟩
  | .local _ .vmem, ⟨31, _⟩ => ⟨S256x1024, .bf16⟩
  | .local _ .vmem, ⟨32, _⟩ => ⟨S256x1024, .bf16⟩
  | .local _ .vmem, ⟨33, _⟩ => ⟨S256x1024, .bf16⟩
  | .local _ .vmem, ⟨34, _⟩ => ⟨S256x1024, .bf16⟩
  | .local _ .vmem, ⟨35, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17_0 : Ref sig .tc := ⟨.hbm, 27, rfl⟩
abbrev main_v17_1 : Ref sig .tc := ⟨.hbm, 28, rfl⟩
abbrev main_v17_2 : Ref sig .tc := ⟨.hbm, 29, rfl⟩
abbrev main_v17_3 : Ref sig .tc := ⟨.hbm, 30, rfl⟩
abbrev main_v17_4 : Ref sig .tc := ⟨.hbm, 31, rfl⟩
abbrev main_v17_5 : Ref sig .tc := ⟨.hbm, 32, rfl⟩
abbrev main_v17_6 : Ref sig .tc := ⟨.hbm, 33, rfl⟩
abbrev main_v17_7 : Ref sig .tc := ⟨.hbm, 34, rfl⟩
abbrev main_v17_8 : Ref sig .tc := ⟨.hbm, 35, rfl⟩
abbrev main_v17_9 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x64x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2560 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S8x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== MidReferenceIdeal.lean ====
abbrev S4096x1024 : Shape := ⟨2, ![4096, 1024]⟩
abbrev S3072 : Shape := ⟨1, ![3072]⟩
abbrev S1024 : Shape := ⟨1, ![1024]⟩
abbrev S4096x512 : Shape := ⟨2, ![4096, 512]⟩
abbrev S4096x4864 : Shape := ⟨2, ![4096, 4864]⟩
abbrev S512x1024 : Shape := ⟨2, ![512, 1024]⟩
abbrev S1024x1024 : Shape := ⟨2, ![1024, 1024]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S5x1024 : Shape := ⟨2, ![5, 1024]⟩
abbrev S8x1024 : Shape := ⟨2, ![8, 1024]⟩
abbrev S4096x8x64 : Shape := ⟨3, ![4096, 8, 64]⟩
abbrev S8x64x4096 : Shape := ⟨3, ![8, 64, 4096]⟩
abbrev S4096x2560 : Shape := ⟨2, ![4096, 2560]⟩

abbrev nBuf : Space → Nat
  | .hbm => 161
  | .vmem => 0
  | .smem => 0
  | _ => 0

abbrev hbmTy0_0 (i : Nat) : BufTy := match i % 128 with
  | 0 => ⟨S4096x1024, .f32⟩
  | 1 => ⟨S4096x1024, .f32⟩
  | 2 => ⟨S3072, .f32⟩
  | 3 => ⟨S1024, .f32⟩
  | 4 => ⟨S4096x512, .f32⟩
  | 5 => ⟨S4096x4864, .f32⟩
  | 6 => ⟨S4096x512, .f32⟩
  | 7 => ⟨S512x1024, .f32⟩
  | 8 => ⟨S512x1024, .f32⟩
  | 9 => ⟨S1024x1024, .f32⟩
  | 10 => ⟨S1024, .f32⟩
  | 11 => ⟨S4096x512, .f32⟩
  | 12 => ⟨S4096x2048, .f32⟩
  | 13 => ⟨S4096x512, .f32⟩
  | 14 => ⟨S4096x512, .f32⟩
  | 15 => ⟨S_, .f32⟩
  | 16 => ⟨S4096x512, .f32⟩
  | 17 => ⟨S4096x512, .f32⟩
  | 18 => ⟨S_, .f32⟩
  | 19 => ⟨S4096x512, .f32⟩
  | 20 => ⟨S4096x512, .f32⟩
  | 21 => ⟨S_, .f32⟩
  | 22 => ⟨S4096x512, .f32⟩
  | 23 => ⟨S4096x512, .f32⟩
  | 24 => ⟨S4096x512, .f32⟩
  | 25 => ⟨S4096x512, .f32⟩
  | 26 => ⟨S4096x512, .f32⟩
  | 27 => ⟨S4096x1024, .f32⟩
  | 28 => ⟨S4096x1024, .f32⟩
  | 29 => ⟨S4096x2048, .f32⟩
  | 30 => ⟨S4096x2048, .f32⟩
  | 31 => ⟨S_, .f32⟩
  | 32 => ⟨S4096x2048, .f32⟩
  | 33 => ⟨S4096x2048, .f32⟩
  | 34 => ⟨S_, .f32⟩
  | 35 => ⟨S4096x2048, .f32⟩
  | 36 => ⟨S4096x2048, .f32⟩
  | 37 => ⟨S_, .f32⟩
  | 38 => ⟨S4096x2048, .f32⟩
  | 39 => ⟨S4096x2048, .f32⟩
  | 40 => ⟨S4096x2048, .f32⟩
  | 41 => ⟨S4096x1024, .f32⟩
  | 42 => ⟨S4096x1024, .f32⟩
  | 43 => ⟨S4096x1024, .f32⟩
  | 44 => ⟨S4096x1024, .f32⟩
  | 45 => ⟨S4096x1024, .f32⟩
  | 46 => ⟨S4096x1024, .f32⟩
  | 47 => ⟨S4096x1024, .f32⟩
  | 48 => ⟨S_, .f32⟩
  | 49 => ⟨S4096, .f32⟩
  | 50 => ⟨S4096x1, .f32⟩
  | 51 => ⟨S_, .f32⟩
  | 52 => ⟨S4096x1, .f32⟩
  | 53 => ⟨S4096x1, .f32⟩
  | 54 => ⟨S_, .f32⟩
  | 55 => ⟨S4096x1, .f32⟩
  | 56 => ⟨S4096x1, .f32⟩
  | 57 => ⟨S4096x1, .f32⟩
  | 58 => ⟨S4096x1, .f32⟩
  | 59 => ⟨S_, .f32⟩
  | 60 => ⟨S4096x1, .f32⟩
  | 61 => ⟨S4096x1, .f32⟩
  | 62 => ⟨S4096x1024, .f32⟩
  | 63 => ⟨S4096x1024, .f32⟩
  | 64 => ⟨S1x1024, .f32⟩
  | 65 => ⟨S4096x1024, .f32⟩
  | 66 => ⟨S4096x1024, .f32⟩
  | 67 => ⟨S1x1024, .f32⟩
  | 68 => ⟨S4096x1024, .f32⟩
  | 69 => ⟨S4096x1024, .f32⟩
  | 70 => ⟨S4096x1024, .f32⟩
  | 71 => ⟨S4096x1024, .f32⟩
  | 72 => ⟨S4096x1024, .f32⟩
  | 73 => ⟨S_, .f32⟩
  | 74 => ⟨S4096x1024, .f32⟩
  | 75 => ⟨S4096x1024, .f32⟩
  | 76 => ⟨S_, .f32⟩
  | 77 => ⟨S4096, .f32⟩
  | 78 => ⟨S_, .f32⟩
  | 79 => ⟨S4096, .f32⟩
  | 80 => ⟨S4096, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S4096, .f32⟩
  | 89 => ⟨S_, .f32⟩
  | 90 => ⟨S4096, .f32⟩
  | 91 => ⟨S4096, .f32⟩
  | 92 => ⟨S4096x1024, .f32⟩
  | 93 => ⟨S4096x1024, .f32⟩
  | 94 => ⟨S4096x1024, .f32⟩
  | 95 => ⟨S4096x1024, .f32⟩
  | 96 => ⟨S4096x1024, .f32⟩
  | 97 => ⟨S_, .f32⟩
  | 98 => ⟨S1024, .f32⟩
  | 99 => ⟨S1x1024, .f32⟩
  | 100 => ⟨S_, .f32⟩
  | 101 => ⟨S1024, .f32⟩
  | 102 => ⟨S4096x1024, .f32⟩
  | 103 => ⟨S_, .f32⟩
  | 104 => ⟨S1024, .f32⟩
  | 105 => ⟨S1x1024, .f32⟩
  | 106 => ⟨S4096x1024, .f32⟩
  | 107 => ⟨S4096x1024, .f32⟩
  | 108 => ⟨S_, .f32⟩
  | 109 => ⟨S1024, .f32⟩
  | 110 => ⟨S4096x1024, .f32⟩
  | 111 => ⟨S_, .f32⟩
  | 112 => ⟨S4096, .f32⟩
  | 113 => ⟨S4096x1, .f32⟩
  | 114 => ⟨S4096x1024, .f32⟩
  | 115 => ⟨S4096x1024, .f32⟩
  | 116 => ⟨S4096x1, .f32⟩
  | 117 => ⟨S_, .f32⟩
  | 118 => ⟨S4096x1, .f32⟩
  | 119 => ⟨S4096x1, .f32⟩
  | 120 => ⟨S_, .f32⟩
  | 121 => ⟨S4096, .f32⟩
  | 122 => ⟨S4096x1024, .f32⟩
  | 123 => ⟨S4096x1024, .f32⟩
  | 124 => ⟨S4096x1024, .f32⟩
  | 125 => ⟨S4096x1024, .f32⟩
  | 126 => ⟨S4096x1024, .f32⟩
  | 127 => ⟨S4096x1024, .f32⟩
  | _ => ⟨S4096x1024, .f32⟩

abbrev hbmTy0_1 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S4096x2048, .f32⟩
  | 5 => ⟨S4096x2048, .f32⟩
  | 6 => ⟨S4096x512, .f32⟩
  | 7 => ⟨S4096x512, .f32⟩
  | 8 => ⟨S4096x512, .f32⟩
  | 9 => ⟨S4096x512, .f32⟩
  | 10 => ⟨S4096x512, .f32⟩
  | 11 => ⟨S4096x512, .f32⟩
  | 12 => ⟨S4096x512, .f32⟩
  | 13 => ⟨S4096x512, .f32⟩
  | 14 => ⟨S1x1024, .f32⟩
  | 15 => ⟨S1x1024, .f32⟩
  | 16 => ⟨S4096x1024, .f32⟩
  | 17 => ⟨S_, .f32⟩
  | 18 => ⟨S1024, .f32⟩
  | 19 => ⟨S1x1024, .f32⟩
  | 20 => ⟨S_, .f32⟩
  | 21 => ⟨S5x1024, .f32⟩
  | 22 => ⟨S8x1024, .f32⟩
  | 23 => ⟨S4096x8x64, .f32⟩
  | 24 => ⟨S8x64x4096, .f32⟩
  | 25 => ⟨S8x64x4096, .bf16⟩
  | 26 => ⟨S4096x2560, .f32⟩
  | 27 => ⟨S4096x2560, .bf16⟩
  | 28 => ⟨S4096x1024, .bf16⟩
  | 29 => ⟨S4096x1024, .bf16⟩
  | 30 => ⟨S4096x512, .bf16⟩
  | 31 => ⟨S4096x1024, .bf16⟩
  | 32 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_v3_2 : Ref sig .tc := ⟨.hbm, 20, rfl⟩
abbrev main_call0_cst_1 : Ref sig .tc := ⟨.hbm, 21, rfl⟩
abbrev main_call0_v6 : Ref sig .tc := ⟨.hbm, 22, rfl⟩
abbrev main_call0_v7 : Ref sig .tc := ⟨.hbm, 23, rfl⟩
abbrev main_v3_1 : Ref sig .tc := ⟨.hbm, 24, rfl⟩
abbrev main_v3_0 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_cst : Ref sig .tc := ⟨.hbm, 31, rfl⟩
abbrev main_v9 : Ref sig .tc := ⟨.hbm, 32, rfl⟩
abbrev main_v10 : Ref sig .tc := ⟨.hbm, 33, rfl⟩
abbrev main_cst_0 : Ref sig .tc := ⟨.hbm, 34, rfl⟩
abbrev main_v11 : Ref sig .tc := ⟨.hbm, 35, rfl⟩
abbrev main_v12 : Ref sig .tc := ⟨.hbm, 36, rfl⟩
abbrev main_cst_1 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_2 : Ref sig .tc := ⟨.hbm, 48, rfl⟩
abbrev main_v23 : Ref sig .tc := ⟨.hbm, 49, rfl⟩
abbrev main_v24 : Ref sig .tc := ⟨.hbm, 50, rfl⟩
abbrev main_cst_3 : Ref sig .tc := ⟨.hbm, 51, rfl⟩
abbrev main_v25 : Ref sig .tc := ⟨.hbm, 52, rfl⟩
abbrev main_v26 : Ref sig .tc := ⟨.hbm, 53, rfl⟩
abbrev main_cst_4 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_5 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_6 : Ref sig .tc := ⟨.hbm, 73, rfl⟩
abbrev main_v44 : Ref sig .tc := ⟨.hbm, 74, rfl⟩
abbrev main_v45 : Ref sig .tc := ⟨.hbm, 75, rfl⟩
abbrev main_cst_7 : Ref sig .tc := ⟨.hbm, 76, rfl⟩
abbrev main_v46 : Ref sig .tc := ⟨.hbm, 77, rfl⟩
abbrev main_cst_8 : Ref sig .tc := ⟨.hbm, 78, rfl⟩
abbrev main_v47 : Ref sig .tc := ⟨.hbm, 79, rfl⟩
abbrev main_v48 : Ref sig .tc := ⟨.hbm, 80, rfl⟩
abbrev main_cst_9 : Ref sig .tc := ⟨.hbm, 81, rfl⟩
abbrev main_v49 : Ref sig .tc := ⟨.hbm, 82, rfl⟩
abbrev main_cst_10 : Ref sig .tc := ⟨.hbm, 83, rfl⟩
abbrev main_v50 : Ref sig .tc := ⟨.hbm, 84, rfl⟩
abbrev main_cst_11 : Ref sig .tc := ⟨.hbm, 85, rfl⟩
abbrev main_cst_12 : Ref sig .tc := ⟨.hbm, 86, rfl⟩
abbrev main_v51 : Ref sig .tc := ⟨.hbm, 87, rfl⟩
abbrev main_v52 : Ref sig .tc := ⟨.hbm, 88, rfl⟩
abbrev main_cst_13 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_14 : Ref sig .tc := ⟨.hbm, 97, rfl⟩
abbrev main_v60 : Ref sig .tc := ⟨.hbm, 98, rfl⟩
abbrev main_v61 : Ref sig .tc := ⟨.hbm, 99, rfl⟩
abbrev main_cst_15 : Ref sig .tc := ⟨.hbm, 100, rfl⟩
abbrev main_v62 : Ref sig .tc := ⟨.hbm, 101, rfl⟩
abbrev main_v63 : Ref sig .tc := ⟨.hbm, 102, rfl⟩
abbrev main_cst_16 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_cst_17 : Ref sig .tc := ⟨.hbm, 108, rfl⟩
abbrev main_v68 : Ref sig .tc := ⟨.hbm, 109, rfl⟩
abbrev main_v69 : Ref sig .tc := ⟨.hbm, 110, rfl⟩
abbrev main_cst_18 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_cst_19 : Ref sig .tc := ⟨.hbm, 117, rfl⟩
abbrev main_v75 : Ref sig .tc := ⟨.hbm, 118, rfl⟩
abbrev main_v76 : Ref sig .tc := ⟨.hbm, 119, rfl⟩
abbrev main_cst_20 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_call1_v0 : Ref sig .tc := ⟨.hbm, 138, rfl⟩
abbrev main_call1_v1 : Ref sig .tc := ⟨.hbm, 139, rfl⟩
abbrev main_call1_v2 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_cst_21 : Ref sig .tc := ⟨.hbm, 145, rfl⟩
abbrev main_v98 : Ref sig .tc := ⟨.hbm, 146, rfl⟩
abbrev main_v99 : Ref sig .tc := ⟨.hbm, 147, rfl⟩
abbrev main_cst_22 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩

abbrev nD : Nat := 1
abbrev τ : Topo := Topo.v7x

variable {F : FTy → Type} [FloatOps F]
-- ==== AttKernel.lean ====
abbrev S4096x512 : Shape := ⟨2, ![4096, 512]⟩
abbrev S4096x128 : Shape := ⟨2, ![4096, 128]⟩
abbrev S4096x2x4x64 : Shape := ⟨4, ![4096, 2, 4, 64]⟩
abbrev S4096x2x64 : Shape := ⟨3, ![4096, 2, 64]⟩
abbrev S2x4096x4096x4 : Shape := ⟨4, ![2, 4096, 4096, 4]⟩
abbrev S2x4x4096x4096 : Shape := ⟨4, ![2, 4, 4096, 4096]⟩
abbrev S_ : Shape := ⟨0, ![]⟩
abbrev S2x4x4096 : Shape := ⟨3, ![2, 4, 4096]⟩
abbrev S2x4x4096x1 : Shape := ⟨4, ![2, 4, 4096, 1]⟩
abbrev S2x64x4x4096 : Shape := ⟨4, ![2, 64, 4, 4096]⟩
abbrev S2x4x64x4096 : Shape := ⟨4, ![2, 4, 64, 4096]⟩
abbrev S8x64x4096 : Shape := ⟨3, ![8, 64, 4096]⟩
abbrev S4096x8x64 : Shape := ⟨3, ![4096, 8, 64]⟩
abbrev S2x4096x64 : Shape := ⟨3, ![2, 4096, 64]⟩
abbrev S2x64x4096 : Shape := ⟨3, ![2, 64, 4096]⟩
abbrev S8x64x1024 : Shape := ⟨3, ![8, 64, 1024]⟩
abbrev S2x1024x64 : Shape := ⟨3, ![2, 1024, 64]⟩
abbrev S2x64x1024 : Shape := ⟨3, ![2, 64, 1024]⟩
abbrev S2x4x1024 : Shape := ⟨3, ![2, 4, 1024]⟩
abbrev S1x1024x64 : Shape := ⟨3, ![1, 1024, 64]⟩
abbrev S1024x64 : Shape := ⟨2, ![1024, 64]⟩
abbrev S1x64x1024 : Shape := ⟨3, ![1, 64, 1024]⟩
abbrev S64x1024 : Shape := ⟨2, ![64, 1024]⟩
abbrev S1024x1024 : Shape := ⟨2, ![1024, 1024]⟩
abbrev S1024 : Shape := ⟨1, ![1024]⟩
abbrev S1x1024 : Shape := ⟨2, ![1, 1024]⟩
abbrev S1x1x1024 : Shape := ⟨3, ![1, 1, 1024]⟩

abbrev nBuf : Space → Nat
  | .hbm => 50
  | .vmem => 19
  | .smem => 0
  | _ => 0

abbrev bufTy : (tb : Table) → Fin (tcTables nBuf tb) → BufTy
  | .hbm, ⟨0, _⟩ => ⟨S4096x512, .f32⟩
  | .hbm, ⟨1, _⟩ => ⟨S4096x128, .f32⟩
  | .hbm, ⟨2, _⟩ => ⟨S4096x128, .f32⟩
  | .hbm, ⟨3, _⟩ => ⟨S4096x512, .f32⟩
  | .hbm, ⟨4, _⟩ => ⟨S4096x2x4x64, .f32⟩
  | .hbm, ⟨5, _⟩ => ⟨S4096x2x64, .f32⟩
  | .hbm, ⟨6, _⟩ => ⟨S4096x2x64, .f32⟩
  | .hbm, ⟨7, _⟩ => ⟨S2x4096x4096x4, .f32⟩
  | .hbm, ⟨8, _⟩ => ⟨S2x4x4096x4096, .f32⟩
  | .hbm, ⟨9, _⟩ => ⟨S_, .f32⟩
  | .hbm, ⟨10, _⟩ => ⟨S2x4x4096, .f32⟩
  | .hbm, ⟨11, _⟩ => ⟨S2x4x4096x1, .f32⟩
  | .hbm, ⟨12, _⟩ => ⟨S2x4x4096x4096, .f32⟩
  | .hbm, ⟨13, _⟩ => ⟨S2x4x4096x4096, .f32⟩
  | .hbm, ⟨14, _⟩ => ⟨S2x4x4096x4096, .f32⟩
  | .hbm, ⟨15, _⟩ => ⟨S_, .f32⟩
  | .hbm, ⟨16, _⟩ => ⟨S2x4x4096, .f32⟩
  | .hbm, ⟨17, _⟩ => ⟨S2x4x4096x1, .f32⟩
  | .hbm, ⟨18, _⟩ => ⟨S2x4x4096x4096, .f32⟩
  | .hbm, ⟨19, _⟩ => ⟨S2x4x4096x4096, .f32⟩
  | .hbm, ⟨20, _⟩ => ⟨S2x64x4x4096, .f32⟩
  | .hbm, ⟨21, _⟩ => ⟨S2x4x64x4096, .f32⟩
  | .hbm, ⟨22, _⟩ => ⟨S8x64x4096, .f32⟩
  | .hbm, ⟨23, _⟩ => ⟨S2x4x4096x1, .f32⟩
  | .hbm, ⟨24, _⟩ => ⟨S2x4x4096x1, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S2x4x4096x1, .f32⟩
  | .hbm, ⟨29, _⟩ => ⟨S2x4x4096x1, .f32⟩
  | .hbm, ⟨30, _⟩ => ⟨S2x4x4096, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S4096x2x4x64, .f32⟩
  | .hbm, ⟨35, _⟩ => ⟨S4096x2x4x64, .f32⟩
  | .hbm, ⟨36, _⟩ => ⟨S4096x8x64, .f32⟩
  | .hbm, ⟨37, _⟩ => ⟨S8x64x4096, .f32⟩
  | .hbm, ⟨38, _⟩ => ⟨S8x64x4096, .bf16⟩
  | .hbm, ⟨39, _⟩ => ⟨S4096x8x64, .f32⟩
  | .hbm, ⟨40, _⟩ => ⟨S8x64x4096, .f32⟩
  | .hbm, ⟨41, _⟩ => ⟨S8x64x4096, .bf16⟩
  | .hbm, ⟨42, _⟩ => ⟨S2x4096x64, .f32⟩
  | .hbm, ⟨43, _⟩ => ⟨S2x4096x64, .bf16⟩
  | .hbm, ⟨44, _⟩ => ⟨S2x4096x64, .f32⟩
  | .hbm, ⟨45, _⟩ => ⟨S2x4096x64, .bf16⟩
  | .hbm, ⟨46, _⟩ => ⟨S2x64x4096, .bf16⟩
  | .hbm, ⟨47, _⟩ => ⟨S8x64x4096, .f32⟩
  | .hbm, ⟨48, _⟩ => ⟨S2x64x4096, .f32⟩
  | .hbm, ⟨49, _⟩ => ⟨S2x64x4096, .f32⟩
  | .local _ .vmem, ⟨0, _⟩ => ⟨S8x64x1024, .bf16⟩
  | .local _ .vmem, ⟨1, _⟩ => ⟨S8x64x1024, .bf16⟩
  | .local _ .vmem, ⟨2, _⟩ => ⟨S2x1024x64, .bf16⟩
  | .local _ .vmem, ⟨3, _⟩ => ⟨S2x1024x64, .bf16⟩
  | .local _ .vmem, ⟨4, _⟩ => ⟨S2x64x1024, .bf16⟩
  | .local _ .vmem, ⟨5, _⟩ => ⟨S2x64x1024, .bf16⟩
  | .local _ .vmem, ⟨6, _⟩ => ⟨S2x1024x64, .bf16⟩
  | .local _ .vmem, ⟨7, _⟩ => ⟨S2x1024x64, .bf16⟩
  | .local _ .vmem, ⟨8, _⟩ => ⟨S8x64x1024, .bf16⟩
  | .local _ .vmem, ⟨9, _⟩ => ⟨S8x64x1024, .bf16⟩
  | .local _ .vmem, ⟨10, _⟩ => ⟨S8x64x1024, .f32⟩
  | .local _ .vmem, ⟨11, _⟩ => ⟨S8x64x1024, .f32⟩
  | .local _ .vmem, ⟨12, _⟩ => ⟨S2x4x1024, .f32⟩
  | .local _ .vmem, ⟨13, _⟩ => ⟨S2x4x1024, .f32⟩
  | .local _ .vmem, ⟨14, _⟩ => ⟨S8x64x4096, .f32⟩
  | .local _ .vmem, ⟨15, _⟩ => ⟨S2x64x1024, .f32⟩
  | .local _ .vmem, ⟨16, _⟩ => ⟨S2x64x1024, .f32⟩
  | .local _ .vmem, ⟨17, _⟩ => ⟨S2x64x1024, .f32⟩
  | .local _ .vmem, ⟨18, _⟩ => ⟨S2x64x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39_0 : Ref sig .tc := ⟨.hbm, 47, rfl⟩
abbrev main_v39_1 : Ref sig .tc := ⟨.hbm, 48, rfl⟩
abbrev main_v39_2 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_cond3 (i : grid0.Coords) : BitVec 1 :=
  let arg0 : BitVec 32 := BitVec.ofNat 32 (i 0).val
  let c0_i32_258 : BitVec 32 := 0#32
  let v300 : BitVec 1 := Scalar.cmpi .eq arg0 c0_i32_258
  let v301 : BitVec 32 := Scalar.extui v300
  let c0_i32_259 : BitVec 32 := 0#32
  let v302 : BitVec 1 := Scalar.cmpi .ne v301 c0_i32_259
  v302

def k0_off1 (i : grid0.Coords) : Fin 3 → Nat :=
  let c0_262 : Index := 0#32
  let c0_263 : Index := 0#32
  let arg1 : BitVec 32 := BitVec.ofNat 32 (i 1).val
  let c1024_i32 : BitVec 32 := 1024#32
  let v0 : BitVec 32 := Scalar.muli arg1 c1024_i32
  let v1 : BitVec 32 := v0
  let v306 : Index := Scalar.indexCast v1
  ![0, 0, v306.toNat]
def k0_off2 (i : grid0.Coords) : Fin 3 → Nat :=
  let c1_264 : Index := 1#32
  let c0_265 : Index := 0#32
  let arg1 : BitVec 32 := BitVec.ofNat 32 (i 1).val
  let c1024_i32 : BitVec 32 := 1024#32
  let v0 : BitVec 32 := Scalar.muli arg1 c1024_i32
  let v1 : BitVec 32 := v0
  let v310 : Index := Scalar.indexCast v1
  ![1, 0, v310.toNat]
def k0_off3 (i : grid0.Coords) : Fin 3 → Nat :=
  let c2_266 : Index := 2#32
  let c0_267 : Index := 0#32
  let arg1 : BitVec 32 := BitVec.ofNat 32 (i 1).val
  let c1024_i32 : BitVec 32 := 1024#32
  let v0 : BitVec 32 := Scalar.muli arg1 c1024_i32
  let v1 : BitVec 32 := v0
  let v314 : Index := Scalar.indexCast v1
  ![2, 0, v314.toNat]
def k0_off4 (i : grid0.Coords) : Fin 3 → Nat :=
  let c3_268 : Index := 3#32
  let c0_269 : Index := 0#32
  let arg1 : BitVec 32 := BitVec.ofNat 32 (i 1).val
  let c1024_i32 : BitVec 32 := 1024#32
  let v0 : BitVec 32 := Scalar.muli arg1 c1024_i32
  let v1 : BitVec 32 := v0
  let v318 : Index := Scalar.indexCast v1
  ![3, 0, v318.toNat]
def k0_off5 (i : grid0.Coords) : Fin 3 → Nat :=
  let c4_270 : Index := 4#32
  let c0_271 : Index := 0#32
  let arg1 : BitVec 32 := BitVec.ofNat 32 (i 1).val
  let c1024_i32 : BitVec 32 := 1024#32
  let v0 : BitVec 32 := Scalar.muli arg1 c1024_i32
  let v1 : BitVec 32 := v0
  let v322 : Index := Scalar.indexCast v1
  ![4, 0, v322.toNat]
def k0_off6 (i : grid0.Coords) : Fin 3 → Nat :=
  let c5_272 : Index := 5#32
  let c0_273 : Index := 0#32
  let arg1 : BitVec 32 := BitVec.ofNat 32 (i 1).val
  let c1024_i32 : BitVec 32 := 1024#32
  let v0 : BitVec 32 := Scalar.muli arg1 c1024_i32
  let v1 : BitVec 32 := v0
  let v326 : Index := Scalar.indexCast v1
  ![5, 0, v326.toNat]
def k0_off7 (i : grid0.Coords) : Fin 3 → Nat :=
  let c6_274 : Index := 6#32
  let c0_275 : Index := 0#32
  let arg1 : BitVec 32 := BitVec.ofNat 32 (i 1).val
  let c1024_i32 : BitVec 32 := 1024#32
  let v0 : BitVec 32 := Scalar.muli arg1 c1024_i32
  let v1 : BitVec 32 := v0
  let v330 : Index := Scalar.indexCast v1
  ![6, 0, v330.toNat]
def k0_off8 (i : grid0.Coords) : Fin 3 → Nat :=
  let c7_276 : Index := 7#32
  let c0_277 : Index := 0#32
  let arg1 : BitVec 32 := BitVec.ofNat 32 (i 1).val
  let c1024_i32 : BitVec 32 := 1024#32
  let v0 : BitVec 32 := Scalar.muli arg1 c1024_i32
  let v1 : BitVec 32 := v0
  let v334 : Index := Scalar.indexCast v1
  ![7, 0, v334.toNat]
def k0_cond4 (i : grid0.Coords) : BitVec 1 :=
  let arg0 : BitVec 32 := BitVec.ofNat 32 (i 0).val
  let c0_i32_260 : BitVec 32 := 0#32
  let v303 : BitVec 1 := Scalar.cmpi .sgt arg0 c0_i32_260
  let v304 : BitVec 32 := Scalar.extui v303
  let c0_i32_261 : BitVec 32 := 0#32
  let v305 : BitVec 1 := Scalar.cmpi .ne v304 c0_i32_261
  v305

def k0_off9 (i : grid0.Coords) : Fin 3 → Nat :=
  let c0_262 : Index := 0#32
  let c0_263 : Index := 0#32
  let arg1 : BitVec 32 := BitVec.ofNat 32 (i 1).val
  let c1024_i32 : BitVec 32 := 1024#32
  let v0 : BitVec 32 := Scalar.muli arg1 c1024_i32
  let v1 : BitVec 32 := v0
  let v306 : Index := Scalar.indexCast v1
  ![0, 0, v306.toNat]
def k0_off10 (i : grid0.Coords) : Fin 3 → Nat :=
  let c1_266 : Index := 1#32
  let c0_267 : Index := 0#32
  let arg1 : BitVec 32 := BitVec.ofNat 32 (i 1).val
  let c1024_i32 : BitVec 32 := 1024#32
  let v0 : BitVec 32 := Scalar.muli arg1 c1024_i32
  let v1 : BitVec 32 := v0
  let v314 : Index := Scalar.indexCast v1
  ![1, 0, v314.toNat]
def k0_off11 (i : grid0.Coords) : Fin 3 → Nat :=
  let c2_270 : Index := 2#32
  let c0_271 : Index := 0#32
  let arg1 : BitVec 32 := BitVec.ofNat 32 (i 1).val
  let c1024_i32 : BitVec 32 := 1024#32
  let v0 : BitVec 32 := Scalar.muli arg1 c1024_i32
  let v1 : BitVec 32 := v0
  let v322 : Index := Scalar.indexCast v1
  ![2, 0, v322.toNat]
def k0_off12 (i : grid0.Coords) : Fin 3 → Nat :=
  let c3_274 : Index := 3#32
  let c0_275 : Index := 0#32
  let arg1 : BitVec 32 := BitVec.ofNat 32 (i 1).val
  let c1024_i32 : BitVec 32 := 1024#32
  let v0 : BitVec 32 := Scalar.muli arg1 c1024_i32
  let v1 : BitVec 32 := v0
  let v330 : Index := Scalar.indexCast v1
  ![3, 0, v330.toNat]
def k0_off13 (i : grid0.Coords) : Fin 3 → Nat :=
  let c4_278 : Index := 4#32
  let c0_279 : Index := 0#32
  let arg1 : BitVec 32 := BitVec.ofNat 32 (i 1).val
  let c1024_i32 : BitVec 32 := 1024#32
  let v0 : BitVec 32 := Scalar.muli arg1 c1024_i32
  let v1 : BitVec 32 := v0
  let v338 : Index := Scalar.indexCast v1
  ![4, 0, v338.toNat]
def k0_off14 (i : grid0.Coords) : Fin 3 → Nat :=
  let c5_282 : Index := 5#32
  let c0_283 : Index := 0#32
  let arg1 : BitVec 32 := BitVec.ofNat 32 (i 1).val
  let c1024_i32 : BitVec 32 := 1024#32
  let v0 : BitVec 32 := Scalar.muli arg1 c1024_i32
  let v1 : BitVec 32 := v0
  let v346 : Index := Scalar.indexCast v1
  ![5, 0, v346.toNat]
def k0_off15 (i : grid0.Coords) : Fin 3 → Nat :=
  let c6_286 : Index := 6#32
  let c0_287 : Index := 0#32
  let arg1 : BitVec 32 := BitVec.ofNat 32 (i 1).val
  let c1024_i32 : BitVec 32 := 1024#32
  let v0 : BitVec 32 := Scalar.muli arg1 c1024_i32
  let v1 : BitVec 32 := v0
  let v354 : Index := Scalar.indexCast v1
  ![6, 0, v354.toNat]
def k0_off16 (i : grid0.Coords) : Fin 3 → Nat :=
  let c7_290 : Index := 7#32
  let c0_291 : Index := 0#32
  let arg1 : BitVec 32 := BitVec.ofNat 32 (i 1).val
  let c1024_i32 : BitVec 32 := 1024#32
  let v0 : BitVec 32 := Scalar.muli arg1 c1024_i32
  let v1 : BitVec 32 := v0
  let v362 : Index := Scalar.indexCast v1
  ![7, 0, v362.toNat]
def k0_cond1 (i : grid0.Coords) : BitVec 1 :=
  let arg1 : BitVec 32 := BitVec.ofNat 32 (i 1).val
  let c0_i32 : BitVec 32 := 0#32
  let v294 : BitVec 1 := Scalar.cmpi .eq arg1 c0_i32
  let v295 : BitVec 32 := Scalar.extui v294
  let c0_i32_255 : BitVec 32 := 0#32
  let v296 : BitVec 1 := Scalar.cmpi .ne v295 c0_i32_255
  v296

def k0_cond2 (i : grid0.Coords) : BitVec 1 :=
  let arg1 : BitVec 32 := BitVec.ofNat 32 (i 1).val
  let c0_i32_256 : BitVec 32 := 0#32
  let v297 : BitVec 1 := Scalar.cmpi .sgt arg1 c0_i32_256
  let v298 : BitVec 32 := Scalar.extui v297
  let c0_i32_257 : BitVec 32 := 0#32
  let v299 : BitVec 1 := Scalar.cmpi .ne v298 c0_i32_257
  v299

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S8x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2x1024x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1024x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x64x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S8x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2x4x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S8x64x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S2x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2x64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== AttReferenceIdeal.lean ====
abbrev S4096x512 : Shape := ⟨2, ![4096, 512]⟩
abbrev S4096x128 : Shape := ⟨2, ![4096, 128]⟩
abbrev S4096x2x4x64 : Shape := ⟨4, ![4096, 2, 4, 64]⟩
abbrev S4096x2x64 : Shape := ⟨3, ![4096, 2, 64]⟩
abbrev S2x4096x4096x4 : Shape := ⟨4, ![2, 4096, 4096, 4]⟩
abbrev S2x4x4096x4096 : Shape := ⟨4, ![2, 4, 4096, 4096]⟩
abbrev S_ : Shape := ⟨0, ![]⟩
abbrev S2x4x4096 : Shape := ⟨3, ![2, 4, 4096]⟩
abbrev S2x4x4096x1 : Shape := ⟨4, ![2, 4, 4096, 1]⟩
abbrev S2x64x4x4096 : Shape := ⟨4, ![2, 64, 4, 4096]⟩
abbrev S2x64x4096 : Shape := ⟨3, ![2, 64, 4096]⟩
abbrev S2x4096x4x64 : Shape := ⟨4, ![2, 4096, 4, 64]⟩
abbrev S2x4096x64 : Shape := ⟨3, ![2, 4096, 64]⟩
abbrev S4096x8x64 : Shape := ⟨3, ![4096, 8, 64]⟩
abbrev S8x64x4096 : Shape := ⟨3, ![8, 64, 4096]⟩

abbrev nBuf : Space → Nat
  | .hbm => 88
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x128, .f32⟩
  | .hbm, ⟨2, _⟩ => ⟨S4096x128, .f32⟩
  | .hbm, ⟨3, _⟩ => ⟨S4096x512, .f32⟩
  | .hbm, ⟨4, _⟩ => ⟨S4096x2x4x64, .f32⟩
  | .hbm, ⟨5, _⟩ => ⟨S4096x2x64, .f32⟩
  | .hbm, ⟨6, _⟩ => ⟨S4096x2x64, .f32⟩
  | .hbm, ⟨7, _⟩ => ⟨S2x4096x4096x4, .f32⟩
  | .hbm, ⟨8, _⟩ => ⟨S2x4x4096x4096, .f32⟩
  | .hbm, ⟨9, _⟩ => ⟨S_, .f32⟩
  | .hbm, ⟨10, _⟩ => ⟨S2x4x4096, .f32⟩
  | .hbm, ⟨11, _⟩ => ⟨S2x4x4096x1, .f32⟩
  | .hbm, ⟨12, _⟩ => ⟨S2x4x4096x4096, .f32⟩
  | .hbm, ⟨13, _⟩ => ⟨S2x4x4096x4096, .i1⟩
  | .hbm, ⟨14, _⟩ => ⟨S2x4x4096x4096, .f32⟩
  | .hbm, ⟨15, _⟩ => ⟨S_, .f32⟩
  | .hbm, ⟨16, _⟩ => ⟨S2x4x4096, .f32⟩
  | .hbm, ⟨17, _⟩ => ⟨S_, .f32⟩
  | .hbm, ⟨18, _⟩ => ⟨S2x4x4096, .f32⟩
  | .hbm, ⟨19, _⟩ => ⟨S2x4x4096, .f32⟩
  | .hbm, ⟨20, _⟩ => ⟨S_, .f32⟩
  | .hbm, ⟨21, _⟩ => ⟨S2x4x4096, .f32⟩
  | .hbm, ⟨22, _⟩ => ⟨S2x4x4096, .i1⟩
  | .hbm, ⟨23, _⟩ => ⟨S_, .f32⟩
  | .hbm, ⟨24, _⟩ => ⟨S2x4x4096, .f32⟩
  | .hbm, ⟨25, _⟩ => ⟨S2x4x4096, .i1⟩
  | .hbm, ⟨26, _⟩ => ⟨S_, .f32⟩
  | .hbm, ⟨27, _⟩ => ⟨S2x4x4096, .f32⟩
  | .hbm, ⟨28, _⟩ => ⟨S_, .f32⟩
  | .hbm, ⟨29, _⟩ => ⟨S2x4x4096, .f32⟩
  | .hbm, ⟨30, _⟩ => ⟨S_, .f32⟩
  | .hbm, ⟨31, _⟩ => ⟨S2x4x4096, .f32⟩
  | .hbm, ⟨32, _⟩ => ⟨S2x4x4096, .f32⟩
  | .hbm, ⟨33, _⟩ => ⟨S2x4x4096, .f32⟩
  | .hbm, ⟨34, _⟩ => ⟨S2x4x4096x1, .f32⟩
  | .hbm, ⟨35, _⟩ => ⟨S2x4x4096x4096, .f32⟩
  | .hbm, ⟨36, _⟩ => ⟨S2x4x4096x4096, .f32⟩
  | .hbm, ⟨37, _⟩ => ⟨S2x4x4096x4096, .f32⟩
  | .hbm, ⟨38, _⟩ => ⟨S_, .f32⟩
  | .hbm, ⟨39, _⟩ => ⟨S2x4x4096, .f32⟩
  | .hbm, ⟨40, _⟩ => ⟨S2x4x4096x1, .f32⟩
  | .hbm, ⟨41, _⟩ => ⟨S2x4x4096x4096, .f32⟩
  | .hbm, ⟨42, _⟩ => ⟨S2x4x4096x4096, .f32⟩
  | .hbm, ⟨43, _⟩ => ⟨S2x4x4096x1, .f32⟩
  | .hbm, ⟨44, _⟩ => ⟨S_, .f32⟩
  | .hbm, ⟨45, _⟩ => ⟨S2x4x4096x1, .f32⟩
  | .hbm, ⟨46, _⟩ => ⟨S2x4x4096x1, .f32⟩
  | .hbm, ⟨47, _⟩ => ⟨S2x64x4x4096, .f32⟩
  | .hbm, ⟨48, _⟩ => ⟨S4096x2x4x64, .f32⟩
  | .hbm, ⟨49, _⟩ => ⟨S4096x512, .f32⟩
  | .hbm, ⟨50, _⟩ => ⟨S4096x2x4x64, .f32⟩
  | .hbm, ⟨51, _⟩ => ⟨S2x64x4x4096, .f32⟩
  | .hbm, ⟨52, _⟩ => ⟨S2x4x4096x4096, .f32⟩
  | .hbm, ⟨53, _⟩ => ⟨S2x64x4096, .f32⟩
  | .hbm, ⟨54, _⟩ => ⟨S4096x2x64, .f32⟩
  | .hbm, ⟨55, _⟩ => ⟨S2x4x4096x4096, .f32⟩
  | .hbm, ⟨56, _⟩ => ⟨S2x4x4096x4096, .f32⟩
  | .hbm, ⟨57, _⟩ => ⟨S2x4x4096x4096, .f32⟩
  | .hbm, ⟨58, _⟩ => ⟨S_, .f32⟩
  | .hbm, ⟨59, _⟩ => ⟨S2x4x4096, .f32⟩
  | .hbm, ⟨60, _⟩ => ⟨S2x4x4096x1, .f32⟩
  | .hbm, ⟨61, _⟩ => ⟨S2x4x4096x1, .f32⟩
  | .hbm, ⟨62, _⟩ => ⟨S2x4x4096x4096, .f32⟩
  | .hbm, ⟨63, _⟩ => ⟨S2x4x4096x4096, .f32⟩
  | .hbm, ⟨64, _⟩ => ⟨S_, .f32⟩
  | .hbm, ⟨65, _⟩ => ⟨S2x4x4096, .f32⟩
  | .hbm, ⟨66, _⟩ => ⟨S2x4x4096x4096, .f32⟩
  | .hbm, ⟨67, _⟩ => ⟨S2x4x4096x4096, .f32⟩
  | .hbm, ⟨68, _⟩ => ⟨S2x4x4096x4096, .f32⟩
  | .hbm, ⟨69, _⟩ => ⟨S2x4096x4096x4, .f32⟩
  | .hbm, ⟨70, _⟩ => ⟨S2x4096x4x64, .f32⟩
  | .hbm, ⟨71, _⟩ => ⟨S4096x2x4x64, .f32⟩
  | .hbm, ⟨72, _⟩ => ⟨S2x4096x64, .f32⟩
  | .hbm, ⟨73, _⟩ => ⟨S4096x2x64, .f32⟩
  | .hbm, ⟨74, _⟩ => ⟨S4096x128, .f32⟩
  | .hbm, ⟨75, _⟩ => ⟨S4096x128, .f32⟩
  | .hbm, ⟨76, _⟩ => ⟨S4096x512, .f32⟩
  | .hbm, ⟨77, _⟩ => ⟨S4096x8x64, .f32⟩
  | .hbm, ⟨78, _⟩ => ⟨S8x64x4096, .f32⟩
  | .hbm, ⟨79, _⟩ => ⟨S4096x2x64, .f32⟩
  | .hbm, ⟨80, _⟩ => ⟨S2x64x4096, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S2x64x4096, .f32⟩
  | .hbm, ⟨85, _⟩ => ⟨S2x64x4096, .f32⟩
  | .hbm, ⟨86, _⟩ => ⟨S4096x2x64, .f32⟩
  | .hbm, ⟨87, _⟩ => ⟨S2x64x4096, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_9 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_11 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩

abbrev nD : Nat := 1
abbrev τ : Topo := Topo.v7x

variable {F : FTy → Type} [FloatOps F]
-- ==== FwdKernel.lean ====
abbrev S4096x1024 : Shape := ⟨2, ![4096, 1024]⟩
abbrev S3072 : Shape := ⟨1, ![3072]⟩
abbrev S1024 : Shape := ⟨1, ![1024]⟩
abbrev S1024x4864 : Shape := ⟨2, ![1024, 4864]⟩
abbrev S3x1024 : Shape := ⟨2, ![3, 1024]⟩
abbrev S1x1024 : Shape := ⟨2, ![1, 1024]⟩
abbrev S1024x2048 : Shape := ⟨2, ![1024, 2048]⟩
abbrev S1024x512 : Shape := ⟨2, ![1024, 512]⟩
abbrev S1024x128 : Shape := ⟨2, ![1024, 128]⟩
abbrev S1024x256 : Shape := ⟨2, ![1024, 256]⟩
abbrev S4096x4864 : Shape := ⟨2, ![4096, 4864]⟩
abbrev S512x1024 : Shape := ⟨2, ![512, 1024]⟩
abbrev S512x4864 : Shape := ⟨2, ![512, 4864]⟩
abbrev S512 : Shape := ⟨1, ![512]⟩
abbrev S512x1 : Shape := ⟨2, ![512, 1]⟩

abbrev nBuf : Space → Nat
  | .hbm => 19
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S3072, .f32⟩
  | .hbm, ⟨2, _⟩ => ⟨S1024, .f32⟩
  | .hbm, ⟨3, _⟩ => ⟨S1024x4864, .f32⟩
  | .hbm, ⟨4, _⟩ => ⟨S3x1024, .f32⟩
  | .hbm, ⟨5, _⟩ => ⟨S1x1024, .f32⟩
  | .hbm, ⟨6, _⟩ => ⟨S1024x2048, .f32⟩
  | .hbm, ⟨7, _⟩ => ⟨S1024x512, .f32⟩
  | .hbm, ⟨8, _⟩ => ⟨S1024x512, .f32⟩
  | .hbm, ⟨9, _⟩ => ⟨S1024x128, .f32⟩
  | .hbm, ⟨10, _⟩ => ⟨S1024x128, .f32⟩
  | .hbm, ⟨11, _⟩ => ⟨S1024x256, .f32⟩
  | .hbm, ⟨12, _⟩ => ⟨S1024x512, .f32⟩
  | .hbm, ⟨13, _⟩ => ⟨S1024x512, .f32⟩
  | .hbm, ⟨14, _⟩ => ⟨S1024x256, .f32⟩
  | .hbm, ⟨15, _⟩ => ⟨S1024x4864, .f32⟩
  | .hbm, ⟨16, _⟩ => ⟨S1024x4864, .bf16⟩
  | .hbm, ⟨17, _⟩ => ⟨S4096x4864, .bf16⟩
  | .hbm, ⟨18, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S3x1024, .f32⟩
  | .local _ .vmem, ⟨3, _⟩ => ⟨S1x1024, .f32⟩
  | .local _ .vmem, ⟨4, _⟩ => ⟨S1024x4864, .bf16⟩
  | .local _ .vmem, ⟨5, _⟩ => ⟨S512x4864, .bf16⟩
  | .local _ .vmem, ⟨6, _⟩ => ⟨S512x4864, .bf16⟩
  | .local _ .vmem, ⟨7, _⟩ => ⟨S512x1024, .bf16⟩
  | .local _ .vmem, ⟨8, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13_0 : Ref sig .tc := ⟨.hbm, 17, rfl⟩
abbrev main_v13_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4864 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4864 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FwdReferenceIdeal.lean ====
abbrev S4096x1024 : Shape := ⟨2, ![4096, 1024]⟩
abbrev S3072 : Shape := ⟨1, ![3072]⟩
abbrev S1024 : Shape := ⟨1, ![1024]⟩
abbrev S1024x4864 : Shape := ⟨2, ![1024, 4864]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4864 : Shape := ⟨2, ![4096, 4864]⟩
abbrev S4096x512 : Shape := ⟨2, ![4096, 512]⟩
abbrev S4096x128 : Shape := ⟨2, ![4096, 128]⟩
abbrev S4096x256 : Shape := ⟨2, ![4096, 256]⟩
abbrev S4096x2048 : Shape := ⟨2, ![4096, 2048]⟩

abbrev nBuf : Space → Nat
  | .hbm => 45
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S3072, .f32⟩
  | .hbm, ⟨2, _⟩ => ⟨S1024, .f32⟩
  | .hbm, ⟨3, _⟩ => ⟨S1024x4864, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x4864, .f32⟩
  | .hbm, ⟨33, _⟩ => ⟨S4096x512, .f32⟩
  | .hbm, ⟨34, _⟩ => ⟨S4096x128, .f32⟩
  | .hbm, ⟨35, _⟩ => ⟨S4096x128, .f32⟩
  | .hbm, ⟨36, _⟩ => ⟨S4096x512, .f32⟩
  | .hbm, ⟨37, _⟩ => ⟨S4096x256, .f32⟩
  | .hbm, ⟨38, _⟩ => ⟨S4096x256, .f32⟩
  | .hbm, ⟨39, _⟩ => ⟨S4096x512, .f32⟩
  | .hbm, ⟨40, _⟩ => ⟨S4096x512, .f32⟩
  | .hbm, ⟨41, _⟩ => ⟨S4096x2048, .f32⟩
  | .hbm, ⟨42, _⟩ => ⟨S4096x4864, .f32⟩
  | .hbm, ⟨43, _⟩ => ⟨S4096x4864, .bf16⟩
  | .hbm, ⟨44, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩

abbrev nD : Nat := 1
abbrev τ : Topo := Topo.v7x

variable {F : FTy → Type} [FloatOps F]
-- ==== OptKernel.lean ====
abbrev S8x1024x608 : Shape := ⟨3, ![8, 1024, 608]⟩
abbrev S1024x608 : Shape := ⟨2, ![1024, 608]⟩
abbrev S8x256x608 : Shape := ⟨3, ![8, 256, 608]⟩
abbrev S256x608 : Shape := ⟨2, ![256, 608]⟩
abbrev S1x256x608 : Shape := ⟨3, ![1, 256, 608]⟩

abbrev nBuf : Space → Nat
  | .hbm => 9
  | .vmem => 16
  | .smem => 0
  | _ => 0

abbrev bufTy : (tb : Table) → Fin (tcTables nBuf tb) → BufTy
  | .hbm, ⟨0, _⟩ => ⟨S8x1024x608, .f32⟩
  | .hbm, ⟨1, _⟩ => ⟨S1024x608, .f32⟩
  | .hbm, ⟨2, _⟩ => ⟨S1024x608, .f32⟩
  | .hbm, ⟨3, _⟩ => ⟨S1024x608, .f32⟩
  | .hbm, ⟨4, _⟩ => ⟨S8x1024x608, .bf16⟩
  | .hbm, ⟨5, _⟩ => ⟨S1024x608, .f32⟩
  | .hbm, ⟨6, _⟩ => ⟨S1024x608, .f32⟩
  | .hbm, ⟨7, _⟩ => ⟨S1024x608, .f32⟩
  | .hbm, ⟨8, _⟩ => ⟨S1024x608, .f32⟩
  | .local _ .vmem, ⟨0, _⟩ => ⟨S8x256x608, .bf16⟩
  | .local _ .vmem, ⟨1, _⟩ => ⟨S8x256x608, .bf16⟩
  | .local _ .vmem, ⟨2, _⟩ => ⟨S256x608, .f32⟩
  | .local _ .vmem, ⟨3, _⟩ => ⟨S256x608, .f32⟩
  | .local _ .vmem, ⟨4, _⟩ => ⟨S256x608, .f32⟩
  | .local _ .vmem, ⟨5, _⟩ => ⟨S256x608, .f32⟩
  | .local _ .vmem, ⟨6, _⟩ => ⟨S256x608, .f32⟩
  | .local _ .vmem, ⟨7, _⟩ => ⟨S256x608, .f32⟩
  | .local _ .vmem, ⟨8, _⟩ => ⟨S256x608, .f32⟩
  | .local _ .vmem, ⟨9, _⟩ => ⟨S256x608, .f32⟩
  | .local _ .vmem, ⟨10, _⟩ => ⟨S256x608, .f32⟩
  | .local _ .vmem, ⟨11, _⟩ => ⟨S256x608, .f32⟩
  | .local _ .vmem, ⟨12, _⟩ => ⟨S256x608, .f32⟩
  | .local _ .vmem, ⟨13, _⟩ => ⟨S256x608, .f32⟩
  | .local _ .vmem, ⟨14, _⟩ => ⟨S256x608, .f32⟩
  | .local _ .vmem, ⟨15, _⟩ => ⟨S256x608, .f32⟩
  | _, _ => ⟨S8x1024x608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x608 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x608 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x608 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x608 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x608 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x608 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x608 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OptReferenceIdeal.lean ====
abbrev S8x1024x608 : Shape := ⟨3, ![8, 1024, 608]⟩
abbrev S1024x608 : Shape := ⟨2, ![1024, 608]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1024x608, .f32⟩
  | .hbm, ⟨1, _⟩ => ⟨S1024x608, .f32⟩
  | .hbm, ⟨2, _⟩ => ⟨S1024x608, .f32⟩
  | .hbm, ⟨3, _⟩ => ⟨S1024x608, .f32⟩
  | .hbm, ⟨4, _⟩ => ⟨S_, .f32⟩
  | .hbm, ⟨5, _⟩ => ⟨S1024x608, .f32⟩
  | .hbm, ⟨6, _⟩ => ⟨S_, .f32⟩
  | .hbm, ⟨7, _⟩ => ⟨S1024x608, .f32⟩
  | .hbm, ⟨8, _⟩ => ⟨S1024x608, .f32⟩
  | .hbm, ⟨9, _⟩ => ⟨S_, .f32⟩
  | .hbm, ⟨10, _⟩ => ⟨S1024x608, .f32⟩
  | .hbm, ⟨11, _⟩ => ⟨S1024x608, .f32⟩
  | .hbm, ⟨12, _⟩ => ⟨S1024x608, .f32⟩
  | .hbm, ⟨13, _⟩ => ⟨S_, .f32⟩
  | .hbm, ⟨14, _⟩ => ⟨S1024x608, .f32⟩
  | .hbm, ⟨15, _⟩ => ⟨S1024x608, .f32⟩
  | .hbm, ⟨16, _⟩ => ⟨S1024x608, .f32⟩
  | .hbm, ⟨17, _⟩ => ⟨S_, .f32⟩
  | .hbm, ⟨18, _⟩ => ⟨S1024x608, .f32⟩
  | .hbm, ⟨19, _⟩ => ⟨S1024x608, .f32⟩
  | .hbm, ⟨20, _⟩ => ⟨S1024x608, .f32⟩
  | .hbm, ⟨21, _⟩ => ⟨S_, .f32⟩
  | .hbm, ⟨22, _⟩ => ⟨S1024x608, .f32⟩
  | .hbm, ⟨23, _⟩ => ⟨S1024x608, .f32⟩
  | .hbm, ⟨24, _⟩ => ⟨S_, .f32⟩
  | .hbm, ⟨25, _⟩ => ⟨S1024x608, .f32⟩
  | .hbm, ⟨26, _⟩ => ⟨S1024x608, .f32⟩
  | .hbm, ⟨27, _⟩ => ⟨S1024x608, .f32⟩
  | .hbm, ⟨28, _⟩ => ⟨S_, .f32⟩
  | .hbm, ⟨29, _⟩ => ⟨S1024x608, .f32⟩
  | .hbm, ⟨30, _⟩ => ⟨S1024x608, .f32⟩
  | .hbm, ⟨31, _⟩ => ⟨S1024x608, .f32⟩
  | .hbm, ⟨32, _⟩ => ⟨S_, .f32⟩
  | .hbm, ⟨33, _⟩ => ⟨S1024x608, .f32⟩
  | .hbm, ⟨34, _⟩ => ⟨S1024x608, .f32⟩
  | .hbm, ⟨35, _⟩ => ⟨S1024x608, .f32⟩
  | .hbm, ⟨36, _⟩ => ⟨S_, .f32⟩
  | .hbm, ⟨37, _⟩ => ⟨S1024x608, .f32⟩
  | .hbm, ⟨38, _⟩ => ⟨S1024x608, .f32⟩
  | _, _ => ⟨S8x1024x608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== MmKernel.lean ====
abbrev S4096x1024 : Shape := ⟨2, ![4096, 1024]⟩
abbrev S4096x2560 : Shape := ⟨2, ![4096, 2560]⟩
abbrev S1024x2560 : Shape := ⟨2, ![1024, 2560]⟩
abbrev S4096x640 : Shape := ⟨2, ![4096, 640]⟩
abbrev S1024x640 : Shape := ⟨2, ![1024, 640]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x2560, .f32⟩
  | .hbm, ⟨2, _⟩ => ⟨S4096x1024, .bf16⟩
  | .hbm, ⟨3, _⟩ => ⟨S4096x2560, .bf16⟩
  | .hbm, ⟨4, _⟩ => ⟨S1024x2560, .bf16⟩
  | .local _ .vmem, ⟨0, _⟩ => ⟨S4096x1024, .bf16⟩
  | .local _ .vmem, ⟨1, _⟩ => ⟨S4096x640, .bf16⟩
  | .local _ .vmem, ⟨2, _⟩ => ⟨S4096x640, .bf16⟩
  | .local _ .vmem, ⟨3, _⟩ => ⟨S1024x640, .bf16⟩
  | .local _ .vmem, ⟨4, _⟩ => ⟨S1024x640, .bf16⟩
  | .local _ .vmem, ⟨5, _⟩ => ⟨S1024x640, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def k0_cond3 (i : grid0.Coords) : BitVec 1 :=
  let arg1 : BitVec 32 := BitVec.ofNat 32 (i 1).val
  let c0_i32_3 : BitVec 32 := 0#32
  let v6 : BitVec 1 := Scalar.cmpi .eq arg1 c0_i32_3
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S4096x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== MmReferenceIdeal.lean ====
abbrev S4096x1024 : Shape := ⟨2, ![4096, 1024]⟩
abbrev S4096x2560 : Shape := ⟨2, ![4096, 2560]⟩
abbrev S1024x4096 : Shape := ⟨2, ![1024, 4096]⟩
abbrev S1024x2560 : Shape := ⟨2, ![1024, 2560]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2560, .f32⟩
  | .hbm, ⟨2, _⟩ => ⟨S1024x4096, .f32⟩
  | .hbm, ⟨3, _⟩ => ⟨S1024x2560, .f32⟩
  | .hbm, ⟨4, _⟩ => ⟨S1024x2560, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Rope.lean ====
/- The angles of the axial rotary embedding, and its transpose written once for rows of any width. -/
module

public import Idealize.ShloMosaic.Lib.Pointwise
public import Idealize.ShloMosaic.Lib.Pipeline.ValueKit
public import Idealize.ShloMosaic.Lib.Claim

@[expose] public section

noncomputable section

open Idealize.ShloMosaic Idealize.ShloMosaic.TcCoe Idealize.SL.Sem

namespace Cert.Rope

/-- Position `r` times the inverse frequency number `l`. -/
def angle (r l : ℕ) : EReal :=
  FloatOps.sitofp (F := Ideal) FTy.f32 (BitVec.ofNat 32 r) *
    Ideal.pow (Ideal.ofBits FTy.f32 1176256512#32)
      (Ideal.div (-(Ideal.ofBits FTy.f32 1073741824#32 * FloatOps.sitofp (F := Ideal) FTy.f32 (BitVec.ofNat 32 l)))
        (Ideal.ofBits FTy.f32 1107296256#32))

/-- The angle of token `n` at lane `j`: the first 32 lanes of a head turn by the row, the last 32 by the column. -/
def ang (n j : ℕ) : EReal := if j % 64 < 32 then angle (n / 64) (j % 16) else angle (n % 64) (j % 16)

/-- The lane that lane `j` is rotated with. -/
def mate {k : ℕ} (j : Fin (32 * k)) : Fin (32 * k) :=
  ⟨if j.val % 32 < 16 then j.val + 16 else j.val - 16, by have := j.isLt; split <;> omega⟩

/-- Row `x` of token `n` back through the embedding. -/
def ropeT {k : ℕ} (x : Fin (32 * k) → EReal) (n : ℕ) (j : Fin (32 * k)) : EReal :=
  x j * Ideal.cos (ang n j) +
    (if j.val % 32 < 16 then x (mate j) * Ideal.sin (ang n j) else -x (mate j) * Ideal.sin (ang n j))

theorem ropeT_lo {k : ℕ} (x : Fin (32 * k) → EReal) (n : ℕ) (j : Fin (32 * k)) (h : j.val % 32 < 16)
    (hj : j.val + 16 < 32 * k) :
    ropeT x n j = x j * Ideal.cos (ang n j) + x ⟨j.val + 16, hj⟩ * Ideal.sin (ang n j) := by
  have e : mate j = ⟨j.val + 16, hj⟩ := Fin.ext (by simp only [mate, if_pos h])
  rw [ropeT, if_pos h, e]

theorem ropeT_hi {k : ℕ} (x : Fin (32 * k) → EReal) (n : ℕ) (j : Fin (32 * k)) (h : ¬ j.val % 32 < 16)
    (hj : j.val - 16 < 32 * k) :
    ropeT x n j = x j * Ideal.cos (ang n j) + -x ⟨j.val - 16, hj⟩ * Ideal.sin (ang n j) := by
  have e : mate j = ⟨j.val - 16, hj⟩ := Fin.ext (by simp only [mate, if_neg h])
  rw [ropeT, if_neg h, e]

/-- The transpose at a lane of the first half, spelled by its two lanes. -/
theorem ropeT_of_lo {k : ℕ} (x : Fin (32 * k) → EReal) (n : ℕ) (j : Fin (32 * k)) (d e : Fin (32 * k)) (g : EReal)
    (h : j.val % 32 < 16) (hd : d.val = j.val + 16) (he : e.val = j.val) (hg : ang n j = g) :
    x d * Ideal.sin g + x e * Ideal.cos g = ropeT x n j := by
  obtain rfl : e = j := Fin.ext he
  rw [ropeT_lo x n e h (hd ▸ d.isLt), hg, add_comm]
  exact congrArg (fun q => x e * Ideal.cos g + x q * Ideal.sin g) (Fin.ext hd)

/-- The transpose at a lane of the second half, spelled by its two lanes. -/
theorem ropeT_of_hi {k : ℕ} (x : Fin (32 * k) → EReal) (n : ℕ) (j : Fin (32 * k)) (d e : Fin (32 * k)) (g : EReal)
    (h : ¬ j.val % 32 < 16) (hd : d.val = j.val - 16) (he : e.val = j.val) (hg : ang n j = g) :
    x e * Ideal.cos g + -x d * Ideal.sin g = ropeT x n j := by
  obtain rfl : e = j := Fin.ext he
  rw [ropeT_hi x n e h (hd ▸ d.isLt), hg]
  exact congrArg (fun q => x e * Ideal.cos g + -x q * Ideal.sin g) (Fin.ext hd)

theorem ang_row {n j l : ℕ} (h : j % 64 < 32) (hl : j % 16 = l) : ang n j = angle (n / 64) l := by
  rw [ang, if_pos h, hl]

theorem ang_col {n j l : ℕ} (h : ¬ j % 64 < 32) (hl : j % 16 = l) : ang n j = angle (n % 64) l := by
  rw [ang, if_neg h, hl]

theorem add_scaled {a b c : EReal} (h0 : 0 ≤ c) (ht : c ≠ ⊤) : (a + b) * c = a * c + b * c := by
  rw [mul_comm, EReal.left_distrib_of_nonneg_of_ne_top h0 ht, mul_comm c, mul_comm c]

/-- A lane of the first half, scaled after the rotation or before. -/
theorem rot_lo {a b u v c : EReal} (h0 : 0 ≤ c) (ht : c ≠ ⊤) : (a * u - b * -v) * c = a * c * u + b * c * v := by
  rw [mul_neg, sub_eq_add_neg, neg_neg, add_scaled h0 ht, mul_right_comm, mul_right_comm b]

/-- A lane of the second half, scaled after the rotation or before. -/
theorem rot_hi {a b u v c : EReal} (h0 : 0 ≤ c) (ht : c ≠ ⊤) : (a * u - b * v) * c = a * c * u + -(b * c) * v := by
  rw [sub_eq_add_neg, ← neg_mul, add_scaled h0 ht, mul_right_comm, mul_right_comm (-b), neg_mul b]

/-- The lane mask of the embedding on 128 lanes: one in the first half of every group of 32. -/
theorem lane_mask {α : Type} (l : Fin 128) (a b : α) :
    Scalar.select
        (IntOp.cmpi CmpIPredicate.slt
          (Scalar.select
            (IntOp.andi
              (IntOp.xori
                (IntOp.cmpi CmpIPredicate.slt
                  (IntOp.remsi ArithUnit.vector (BitVec.ofNat 32 l.val)
                    (Scalar.select (Scalar.cmpi CmpIPredicate.eq 32#32 0#32) 1#32 32#32)) 0#32)
                (Scalar.cmpi CmpIPredicate.slt (Scalar.select (Scalar.cmpi CmpIPredicate.eq 32#32 0#32) 1#32 32#32) 0#32))
              (IntOp.cmpi CmpIPredicate.ne
                (IntOp.remsi ArithUnit.vector (BitVec.ofNat 32 l.val)
                  (Scalar.select (Scalar.cmpi CmpIPredicate.eq 32#32 0#32) 1#32 32#32)) 0#32))
            (IntOp.addi
              (IntOp.remsi ArithUnit.vector (BitVec.ofNat 32 l.val)
                (Scalar.select (Scalar.cmpi CmpIPredicate.eq 32#32 0#32) 1#32 32#32))
              (Scalar.select (Scalar.cmpi CmpIPredicate.eq 32#32 0#32) 1#32 32#32))
            (IntOp.remsi ArithUnit.vector (BitVec.ofNat 32 l.val)
              (Scalar.select (Scalar.cmpi CmpIPredicate.eq 32#32 0#32) 1#32 32#32))) 16#32) a b =
      if l.val % 32 < 16 then a else b := by
  have h : ∀ l : Fin 128,
        (IntOp.cmpi CmpIPredicate.slt
          (Scalar.select
            (IntOp.andi
              (IntOp.xori
                (IntOp.cmpi CmpIPredicate.slt
                  (IntOp.remsi ArithUnit.vector (BitVec.ofNat 32 l.val)
                    (Scalar.select (Scalar.cmpi CmpIPredicate.eq 32#32 0#32) 1#32 32#32)) 0#32)
                (Scalar.cmpi CmpIPredicate.slt (Scalar.select (Scalar.cmpi CmpIPredicate.eq 32#32 0#32) 1#32 32#32) 0#32))
              (IntOp.cmpi CmpIPredicate.ne
                (IntOp.remsi ArithUnit.vector (BitVec.ofNat 32 l.val)
                  (Scalar.select (Scalar.cmpi CmpIPredicate.eq 32#32 0#32) 1#32 32#32)) 0#32))
            (IntOp.addi
              (IntOp.remsi ArithUnit.vector (BitVec.ofNat 32 l.val)
                (Scalar.select (Scalar.cmpi CmpIPredicate.eq 32#32 0#32) 1#32 32#32))
              (Scalar.select (Scalar.cmpi CmpIPredicate.eq 32#32 0#32) 1#32 32#32))
            (IntOp.remsi ArithUnit.vector (BitVec.ofNat 32 l.val)
              (Scalar.select (Scalar.cmpi CmpIPredicate.eq 32#32 0#32) 1#32 32#32))) 16#32) =
      if l.val % 32 < 16 then 1#1 else 0#1 := by decide +kernel
  rw [h]
  split <;> rfl

end Cert.Rope

end
-- ==== Proof.FinKernel.lean ====
/- The kernel of the last step of the retention's backward pass, block by block: its result in terms of its arguments. -/
module
public import proofs.«01_k».proof.Proof.Gen.KernelIdeal.Value
public import proofs.«01_k».proof.Proof.Rope
public import Idealize.ShloMosaic.Lib.StableHlo.ReadAt

@[expose] public section
set_option maxRecDepth 16384
noncomputable section
open Idealize.ShloMosaic Idealize.ShloMosaic.TcCoe Idealize.SL.Sem
open Idealize.ShloMosaic.Pipeline (Dat)

namespace Cert.FinValue

open Cert.KernelIdeal Cert.KernelIdeal.Gen

/-- The three pieces of k's gradient at token `n`, added and scaled. -/
abbrev sum3s (a b c : Fin 4096 → Fin 256 → EReal) (n : Fin 4096) (j : Fin 256) : EReal :=
  (a n j + b n j + c n j) * Ideal.ofBits FTy.f32 1040187392#32

/-- The gradients of v, then of k, in terms of the six pieces. -/
def spec (a b c : Fin 4096 → Fin 256 → EReal) (u v w : Fin 4096 → Fin 512 → EReal) (n : Fin 4096) (j : Fin 768) : EReal :=
  if h : j.val < 512 then u n ⟨j.val, h⟩ + v n ⟨j.val, h⟩ + w n ⟨j.val, h⟩
  else Rope.ropeT (k := 8) (sum3s a b c n) n.val ⟨j.val - 512, by omega⟩

section
variable (a b c : Fin 4096 → Fin 256 → EReal) (u v w : Fin 4096 → Fin 512 → EReal) (n : Fin 4096) (j : Fin 768)

theorem spec_v (q : Fin 512) (h : j.val = q.val) : spec a b c u v w n j = u n q + v n q + w n q := by
  have hq := q.isLt
  obtain rfl : j = ⟨q.val, by clear h; omega⟩ := Fin.ext h
  exact dif_pos q.isLt

theorem spec_k (q : Fin 256) (h : j.val = 512 + q.val) :
    spec a b c u v w n j = Rope.ropeT (k := 8) (sum3s a b c n) n.val q := by
  have hq := q.isLt
  obtain rfl : j = ⟨512 + q.val, by clear h; omega⟩ := Fin.ext h
  refine (dif_neg (by show ¬ 512 + q.val < 512; omega)).trans ?_
  exact congrArg _ (Fin.ext (Nat.add_sub_cancel_left 512 q.val))

end

theorem scale_eq : Ideal.ofBits FTy.f32 1040187392#32 = (((1 : ℝ) / 8 : ℝ) : EReal) := by
  simp [Ideal.ofBits, Ideal.ieee, -EReal.coe_mul]; norm_num

theorem scale_nonneg : 0 ≤ Ideal.ofBits FTy.f32 1040187392#32 := by
  rw [scale_eq]; exact_mod_cast (by norm_num : (0 : ℝ) ≤ 1 / 8)

theorem scale_ne_top : Ideal.ofBits FTy.f32 1040187392#32 ≠ ⊤ := by
  rw [scale_eq]; exact EReal.coe_ne_top _

variable (m : (ℓ : Loc nD τ sig) → Buf (Elt Ideal) ℓ)

set_option maxHeartbeats 2000000 in
theorem cosK (c : Dev nD) (n : Fin 4096) (l : Fin 128) :
    (V m c main_v42 : FVec Ideal S4096x128 .f32) (ix2 n l) = Ideal.cos (Rope.ang n l) := by
  unfold V
  after_reads_at
  have h1 := n.isLt
  split_ifs <;> after_reads_at
  all_goals first
    | contradiction
    | rw [Rope.ang, if_pos (by omega), Rope.angle, show l.val % 64 = l.val % 16 by omega]
    | rw [Rope.ang, if_pos (by omega), Rope.angle, show l.val % 64 - 16 = l.val % 16 by omega]
    | rw [Rope.ang, if_neg (by omega), Rope.angle, show l.val % 64 - 16 - 16 = l.val % 16 by omega]
    | rw [Rope.ang, if_neg (by omega), Rope.angle, show l.val % 64 - 16 - 16 - 16 = l.val % 16 by omega]

set_option maxHeartbeats 2000000 in
theorem sinK_lo (c : Dev nD) (n : Fin 4096) (l : Fin 128) (h : l.val % 32 < 16) :
    (V m c main_v45 : FVec Ideal S4096x128 .f32) (ix2 n l) = -Ideal.sin (Rope.ang n l) := by
  unfold V
  after_reads_at
  have h1 := n.isLt
  split_ifs
  all_goals first
    | (exfalso; omega)
    | (after_reads_at; rw [Rope.ang, if_pos (by omega), Rope.angle, show l.val % 64 = l.val % 16 by omega])
    | (after_reads_at; rw [Rope.ang, if_neg (by omega), Rope.angle, show l.val % 64 - 16 - 16 = l.val % 16 by omega])

set_option maxHeartbeats 2000000 in
theorem sinK_hi (c : Dev nD) (n : Fin 4096) (l : Fin 128) (h : ¬ l.val % 32 < 16) :
    (V m c main_v45 : FVec Ideal S4096x128 .f32) (ix2 n l) = Ideal.sin (Rope.ang n l) := by
  unfold V
  after_reads_at
  have h1 := n.isLt
  split_ifs
  all_goals first
    | (exfalso; omega)
    | (after_reads_at; rw [Rope.ang, if_pos (by omega), Rope.angle, show l.val % 64 - 16 = l.val % 16 by omega])
    | (after_reads_at; rw [Rope.ang, if_neg (by omega), Rope.angle, show l.val % 64 - 16 - 16 - 16 = l.val % 16 by omega])

theorem sin7 (c : Dev nD) (n : Fin 4096) (l : Fin 128) : (V m c main_v45 : FVec Ideal S4096x128 .f32) (ix2 n l) =
    if l.val % 32 < 16 then -Ideal.sin (Rope.ang n l) else Ideal.sin (Rope.ang n l) := by
  split
  · exact sinK_lo m c n l ‹_›
  · exact sinK_hi m c n l ‹_›

theorem idx : ∀ t : Fin cfg0.N, win0_0.index t = ![t.val, 0] ∧ win0_1.index t = ![t.val, 0] ∧ win0_2.index t = ![t.val, 0] ∧
    win0_3.index t = ![t.val, 0] ∧ win0_4.index t = ![t.val, 0] ∧ win0_5.index t = ![t.val, 0] ∧
    win0_6.index t = ![t.val, 0] ∧ win0_7.index t = ![t.val, 0] ∧ win0_8.index t = ![t.val, 0] :=
  (by decide +kernel : ∀ t : Fin grid0.N, _)

/-- Row `x` of block `t`. -/
def row (t : Fin cfg0.N) (x : Fin 512) : Fin 4096 :=
  ⟨t.val * 512 + x.val, by have h : t.val < 8 := N_0 ▸ t.isLt; omega⟩

theorem rd0 (c : Dev nD) (t : Fin cfg0.N) (x : Fin 512) (j : Fin 256) :
    iblk m c 0 t (ix2 x j) = (m ((c : Thread nD τ).loc main_arg0) : FVec Ideal S4096x256 .f32) (ix2 (row t x) j) := by
  simp only [iblk]
  rw [V_main_arg0]
  refine congrArg (m _) ?_
  unfold row
  blk_ext [idx t]

theorem rd1 (c : Dev nD) (t : Fin cfg0.N) (x : Fin 512) (j : Fin 256) :
    iblk m c 1 t (ix2 x j) = (m ((c : Thread nD τ).loc main_arg1) : FVec Ideal S4096x256 .f32) (ix2 (row t x) j) := by
  simp only [iblk]
  rw [V_main_arg1]
  refine congrArg (m _) ?_
  unfold row
  blk_ext [idx t]

theorem rd2 (c : Dev nD) (t : Fin cfg0.N) (x : Fin 512) (j : Fin 256) :
    iblk m c 2 t (ix2 x j) = (m ((c : Thread nD τ).loc main_arg2) : FVec Ideal S4096x256 .f32) (ix2 (row t x) j) := by
  simp only [iblk]
  rw [V_main_arg2]
  refine congrArg (m _) ?_
  unfold row
  blk_ext [idx t]

theorem rd3 (c : Dev nD) (t : Fin cfg0.N) (x : Fin 512) (j : Fin 512) :
    iblk m c 3 t (ix2 x j) = (m ((c : Thread nD τ).loc main_arg3) : FVec Ideal S4096x512 .f32) (ix2 (row t x) j) := by
  simp only [iblk]
  rw [V_main_arg3]
  refine congrArg (m _) ?_
  unfold row
  blk_ext [idx t]

theorem rd4 (c : Dev nD) (t : Fin cfg0.N) (x : Fin 512) (j : Fin 512) :
    iblk m c 4 t (ix2 x j) = (m ((c : Thread nD τ).loc main_arg4) : FVec Ideal S4096x512 .f32) (ix2 (row t x) j) := by
  simp only [iblk]
  rw [V_main_arg4]
  refine congrArg (m _) ?_
  unfold row
  blk_ext [idx t]

theorem rd5 (c : Dev nD) (t : Fin cfg0.N) (x : Fin 512) (j : Fin 512) :
    iblk m c 5 t (ix2 x j) = (m ((c : Thread nD τ).loc main_arg5) : FVec Ideal S4096x512 .f32) (ix2 (row t x) j) := by
  simp only [iblk]
  rw [V_main_arg5]
  refine congrArg (m _) ?_
  unfold row
  blk_ext [idx t]

theorem rd6 (c : Dev nD) (t : Fin cfg0.N) (x : Fin 512) (j : Fin 128) :
    iblk m c 6 t (ix2 x j) = Ideal.cos (Rope.ang (row t x) j) := by
  rw [← cosK m c]
  simp only [iblk]
  refine congrArg (V m c main_v42) ?_
  unfold row
  blk_ext [idx t]

theorem rd7 (c : Dev nD) (t : Fin cfg0.N) (x : Fin 512) (j : Fin 128) :
    iblk m c 7 t (ix2 x j) = (V m c main_v45 : FVec Ideal S4096x128 .f32) (ix2 (row t x) j) := by
  simp only [iblk]
  refine congrArg (V m c main_v45) ?_
  unfold row
  blk_ext [idx t]

theorem out_at (t : Fin cfg0.N) (x : Fin 512) (j : Fin 768) :
    ((cfg0.win 8).blk t).view.emb (ix2 x j) = ix2 (row t x) j := by
  unfold row
  blk_ext [idx t]

/-- An array of two axes by its coordinates. -/
abbrev at2 {a b : ℕ} (x : (⟨2, ![a, b]⟩ : Shape).Idx → EReal) (n : Fin a) (j : Fin b) : EReal := x (ix2 n j)

/-- The result in terms of the program's arguments. -/
abbrev G (c : Dev nD) (n : Fin 4096) (j : Fin 768) : EReal :=
  spec (at2 (m ((c : Thread nD τ).loc main_arg0) : FVec Ideal S4096x256 .f32)) (at2 (m ((c : Thread nD τ).loc main_arg1) : FVec Ideal S4096x256 .f32)) (at2 (m ((c : Thread nD τ).loc main_arg2) : FVec Ideal S4096x256 .f32))
    (at2 (m ((c : Thread nD τ).loc main_arg3) : FVec Ideal S4096x512 .f32)) (at2 (m ((c : Thread nD τ).loc main_arg4) : FVec Ideal S4096x512 .f32)) (at2 (m ((c : Thread nD τ).loc main_arg5) : FVec Ideal S4096x512 .f32)) n j

/-- The rotated lanes of one head pair: the store at column `512 + o`, whose lane is `l`. -/
theorem lanes (a : Fin 256 → EReal) (n : ℕ) (o : ℕ) (ho : o = 0 ∨ o = 128) (l : Fin 128) (j : Fin 256) (hj : j.val = o + l.val)
    (up dn : Fin 256) (hu : up.val = o + (l.val + 128 - 112) % 128) (hd : dn.val = o + (l.val + 128 - 16) % 128) (s : EReal)
    (hs : s = if l.val % 32 < 16 then -Ideal.sin (Rope.ang n l) else Ideal.sin (Rope.ang n l)) :
    (a j * Ideal.cos (Rope.ang n l) - (if l.val % 32 < 16 then a up else a dn) * s) * Ideal.ofBits FTy.f32 1040187392#32 =
      Rope.ropeT (k := 8) (fun j => a j * Ideal.ofBits FTy.f32 1040187392#32) n j := by
  have hl := l.isLt
  have e : Rope.ang n l.val = Rope.ang n j.val := by
    have h1 : l.val % 64 = j.val % 64 := by omega
    have h2 : l.val % 16 = j.val % 16 := by omega
    simp only [Rope.ang, h1, h2]
  by_cases h : l.val % 32 < 16
  · rw [hs, if_pos h, if_pos h, Rope.rot_lo scale_nonneg scale_ne_top,
      Rope.ropeT_lo (k := 8) _ _ _ (by omega) (by omega), e]
    have e2 : up = ⟨j.val + 16, by omega⟩ := Fin.ext (by show up.val = j.val + 16; omega)
    have e3 := congrArg a e2
    rw [e3]
  · rw [hs, if_neg h, if_neg h, Rope.rot_hi scale_nonneg scale_ne_top,
      Rope.ropeT_hi (k := 8) _ _ _ (by omega) (by omega), e]
    have e2 : dn = ⟨j.val - 16, by omega⟩ := Fin.ext (by show dn.val = j.val - 16; omega)
    have e3 := congrArg a e2
    rw [e3]

set_option maxHeartbeats 2000000 in
/-- One block of the result. -/
theorem point (c : Dev nD) (t : Fin cfg0.N) (y : S512x768.Idx) :
    outsAt0 m c t y = G m c ((((cfg0.win 8).blk t).view.emb y) 0) ((((cfg0.win 8).blk t).view.emb y) 1) := by
  unfold outsAt0
  frame_out
  canon_tiles x h using View.cover_of_tiledBy _ ![512, 128] (by sl_kernel_rfl) y
  all_goals idx_vars x
  all_goals idx_vars y
  all_goals open_payloads
  all_goals pointwise
  all_goals try simp only [Rope.lane_mask]
  all_goals simp only [rd0, rd1, rd2, rd3, rd4, rd5, rd6, rd7]
  all_goals obtain rfl : x0 = y0 := Fin.ext h0.symm
  all_goals change _ = G m c ((((cfg0.win 8).blk t).view.emb (ix2 x0 y1)) 0) ((((cfg0.win 8).blk t).view.emb (ix2 x0 y1)) 1)
  all_goals rw [out_at]
  all_goals change _ = G m c (row t x0) y1
  · refine (lanes (fun j => at2 (m ((c : Thread nD τ).loc main_arg0) : FVec Ideal S4096x256 .f32) (row t x0) j +
        at2 (m ((c : Thread nD τ).loc main_arg1) : FVec Ideal S4096x256 .f32) (row t x0) j +
        at2 (m ((c : Thread nD τ).loc main_arg2) : FVec Ideal S4096x256 .f32) (row t x0) j) _ 128 (Or.inr rfl) x1 ⟨128 + x1.val, by omega⟩ rfl
      ⟨128 + (x1.val + 128 - 112) % 128, by omega⟩ ⟨128 + (x1.val + 128 - 16) % 128, by omega⟩ rfl rfl _
      (sin7 m c _ _)).trans ?_
    exact (spec_k _ _ _ _ _ _ _ _ _ (by show y1.val = 512 + (128 + x1.val); omega)).symm
  · refine (lanes (fun j => at2 (m ((c : Thread nD τ).loc main_arg0) : FVec Ideal S4096x256 .f32) (row t x0) j +
        at2 (m ((c : Thread nD τ).loc main_arg1) : FVec Ideal S4096x256 .f32) (row t x0) j +
        at2 (m ((c : Thread nD τ).loc main_arg2) : FVec Ideal S4096x256 .f32) (row t x0) j) _ 0 (Or.inl rfl) x1 ⟨x1.val, by omega⟩ (Nat.zero_add _).symm
      ⟨(x1.val + 128 - 112) % 128, by omega⟩ ⟨(x1.val + 128 - 16) % 128, by omega⟩ (Nat.zero_add _).symm
      (Nat.zero_add _).symm _ (sin7 m c _ _)).trans ?_
    exact (spec_k _ _ _ _ _ _ _ _ _ (by show y1.val = 512 + x1.val; omega)).symm
  · rw [G, spec_v _ _ _ _ _ _ (row t x0) y1 x1 h1]

/-- The whole result. -/
theorem final (c : Dev nD) : (dats m 0 c).arrAt 8 (cfgs 0).N = (fun i => G m c (i 0) (i 1) : FVec Ideal S4096x768 .bf16) := by
  refine (dats m 0 c).arrAt_eq_of_covers 8 _ (by decide +kernel) fun t hf y => ?_
  blk_simp
  rw [after0_8]
  exact point m c t y

end Cert.FinValue

end
-- ==== Proof.FinReference.lean ====
/- The reference of the last step of the retention's backward pass: the same function of its arguments. -/
module
public import proofs.«01_k».proof.Proof.Gen.ReferenceIdeal.Read
public import proofs.«01_k».proof.Proof.FinKernel
public import Idealize.ShloMosaic.Lib.StableHlo.ReadAt

@[expose] public section
set_option maxRecDepth 16384
noncomputable section
open Idealize.ShloMosaic Idealize.ShloMosaic.TcCoe Idealize.SL.Sem
open Idealize.ShloMosaic.Pipeline (Dat)

namespace Cert.FinValue

open Cert.ReferenceIdeal Cert.ReferenceIdeal.Read

set_option maxHeartbeats 2000000 in
theorem cosRow (n : Fin 4096) (l : Fin 16) : (val_main_v31 (F := Ideal)) (ix2 n l) = Ideal.cos (Rope.angle (n.val / 64) l.val) := by
  have h1 := n.isLt
  pointwise [val_main_v31, val_main_cst, val_main_cst_0, val_main_v3, val_main_v4, val_main_v5, val_main_v6, val_main_v7, val_main_v8,
    val_main_v9, val_main_v10, val_main_v11, val_main_cst_1, val_main_v12, val_main_v13, val_main_cst_2,
    val_main_v14, val_main_v15, val_main_v16, val_main_cst_3, val_main_v17, val_main_v18, val_main_cst_4,
    val_main_v19, val_main_v20, val_main_v21, val_main_v22, val_main_v23, val_main_v24, val_main_v25,
    val_main_v26, val_main_v27, val_main_v28, val_main_v29, val_main_v30, val_main_cst_5, val_main_cst_6]
  rw [Rope.angle]

set_option maxHeartbeats 2000000 in
theorem sinRow (n : Fin 4096) (l : Fin 16) : (val_main_v32 (F := Ideal)) (ix2 n l) = Ideal.sin (Rope.angle (n.val / 64) l.val) := by
  have h1 := n.isLt
  pointwise [val_main_v32, val_main_cst, val_main_cst_0, val_main_v3, val_main_v4, val_main_v5, val_main_v6, val_main_v7, val_main_v8,
    val_main_v9, val_main_v10, val_main_v11, val_main_cst_1, val_main_v12, val_main_v13, val_main_cst_2,
    val_main_v14, val_main_v15, val_main_v16, val_main_cst_3, val_main_v17, val_main_v18, val_main_cst_4,
    val_main_v19, val_main_v20, val_main_v21, val_main_v22, val_main_v23, val_main_v24, val_main_v25,
    val_main_v26, val_main_v27, val_main_v28, val_main_v29, val_main_v30, val_main_cst_5, val_main_cst_6]
  rw [Rope.angle]

set_option maxHeartbeats 2000000 in
theorem cosCol (n : Fin 4096) (l : Fin 16) : (val_main_v33 (F := Ideal)) (ix2 n l) = Ideal.cos (Rope.angle (n.val % 64) l.val) := by
  have h1 := n.isLt
  pointwise [val_main_v33, val_main_cst, val_main_cst_0, val_main_v3, val_main_v4, val_main_v5, val_main_v6, val_main_v7, val_main_v8,
    val_main_v9, val_main_v10, val_main_v11, val_main_cst_1, val_main_v12, val_main_v13, val_main_cst_2,
    val_main_v14, val_main_v15, val_main_v16, val_main_cst_3, val_main_v17, val_main_v18, val_main_cst_4,
    val_main_v19, val_main_v20, val_main_v21, val_main_v22, val_main_v23, val_main_v24, val_main_v25,
    val_main_v26, val_main_v27, val_main_v28, val_main_v29, val_main_v30, val_main_cst_5, val_main_cst_6]
  rw [Rope.angle]

set_option maxHeartbeats 2000000 in
theorem sinCol (n : Fin 4096) (l : Fin 16) : (val_main_v34 (F := Ideal)) (ix2 n l) = Ideal.sin (Rope.angle (n.val % 64) l.val) := by
  have h1 := n.isLt
  pointwise [val_main_v34, val_main_cst, val_main_cst_0, val_main_v3, val_main_v4, val_main_v5, val_main_v6, val_main_v7, val_main_v8,
    val_main_v9, val_main_v10, val_main_v11, val_main_cst_1, val_main_v12, val_main_v13, val_main_cst_2,
    val_main_v14, val_main_v15, val_main_v16, val_main_cst_3, val_main_v17, val_main_v18, val_main_cst_4,
    val_main_v19, val_main_v20, val_main_v21, val_main_v22, val_main_v23, val_main_v24, val_main_v25,
    val_main_v26, val_main_v27, val_main_v28, val_main_v29, val_main_v30, val_main_cst_5, val_main_cst_6]
  rw [Rope.angle]

set_option maxHeartbeats 2000000 in
theorem ref_at (a b c : FVec Ideal S4096x256 .f32) (u v w : FVec Ideal S4096x512 .f32) (n : Fin 4096) (j : Fin 768) :
    (val_main_v111 (F := Ideal) a b c u v w : FVec Ideal S4096x768 .bf16) (ix2 n j) = spec (at2 a) (at2 b) (at2 c) (at2 u) (at2 v) (at2 w) n j := by
  have hn := n.isLt
  have hj := j.isLt
  pointwise [val_main_cst, val_main_cst_0, val_main_cst_1, val_main_cst_2, val_main_cst_3, val_main_cst_4, val_main_v35,
    val_main_v36, val_main_v37, val_main_v38, val_main_v39, val_main_v40, val_main_v41, val_main_v42,
    val_main_v43, val_main_v44, val_main_v45, val_main_v46, val_main_v47, val_main_v48, val_main_v49,
    val_main_v50, val_main_v51, val_main_v52, val_main_v53, val_main_v54, val_main_v55, val_main_v56,
    val_main_v57, val_main_v58, val_main_v59, val_main_v60, val_main_v61, val_main_v62, val_main_v63,
    val_main_v64, val_main_v65, val_main_v66, val_main_v67, val_main_cst_5, val_main_v68, val_main_v69,
    val_main_v70, val_main_v71, val_main_v72, val_main_v73, val_main_v74, val_main_v75, val_main_cst_6,
    val_main_v76, val_main_v77, val_main_v78, val_main_v79, val_main_v80, val_main_v81, val_main_v82,
    val_main_v83, val_main_v84, val_main_v85, val_main_v86, val_main_v87, val_main_v88, val_main_v89,
    val_main_v90, val_main_v91, val_main_v92, val_main_v93, val_main_v94, val_main_v95, val_main_v96,
    val_main_v97, val_main_v98, val_main_v99, val_main_v100, val_main_v101, val_main_v102, val_main_v103,
    val_main_v104, val_main_v105, val_main_v106, val_main_v107, val_main_v108, val_main_v109, val_main_v110,
    val_main_v111]
  simp only [cosRow, sinRow, cosCol, sinCol]
  by_cases h : j.val < 512
  · simp only [h, ↓reduceDIte]
    rw [spec_v _ _ _ _ _ _ n j ⟨j.val, h⟩ rfl]
  simp only [h, ↓reduceDIte]
  refine Eq.trans ?_ (spec_k _ _ _ _ _ _ n j ⟨j.val - 512, by omega⟩ (by show j.val = 512 + (j.val - 512); omega)).symm
  by_cases h1 : (j.val - 512) % 64 < 32
  · simp only [h1, ↓reduceDIte]
    by_cases h2 : (j.val - 512) % 64 < 16
    · simp only [h2, ↓reduceDIte]
      exact Rope.ropeT_of_lo (k := 8) (sum3s (at2 a) (at2 b) (at2 c) n) n.val ⟨j.val - 512, by omega⟩
        ⟨(j.val - 512) / 64 * 64 + (16 + ((j.val - 512) % 64)), by omega⟩ ⟨(j.val - 512) / 64 * 64 + ((j.val - 512) % 64), by omega⟩
        (Rope.angle (n.val / 64) ((j.val - 512) % 64)) (by show (j.val - 512) % 32 < 16; omega) (by
          show (j.val - 512) / 64 * 64 + (16 + ((j.val - 512) % 64)) = j.val - 512 + 16; omega)
        (by
          show (j.val - 512) / 64 * 64 + ((j.val - 512) % 64) = j.val - 512; omega)
        (Rope.ang_row (by show (j.val - 512) % 64 < 32; omega) (by show (j.val - 512) % 16 = _; omega))
    · simp only [h2, ↓reduceDIte]
      exact Rope.ropeT_of_hi (k := 8) (sum3s (at2 a) (at2 b) (at2 c) n) n.val ⟨j.val - 512, by omega⟩
        ⟨(j.val - 512) / 64 * 64 + (((j.val - 512) % 64 - 16)), by omega⟩ ⟨(j.val - 512) / 64 * 64 + (16 + ((j.val - 512) % 64 - 16)), by omega⟩
        (Rope.angle (n.val / 64) ((j.val - 512) % 64 - 16)) (by show ¬ (j.val - 512) % 32 < 16; omega) (by
          show (j.val - 512) / 64 * 64 + (((j.val - 512) % 64 - 16)) = j.val - 512 - 16; omega)
        (by
          show (j.val - 512) / 64 * 64 + (16 + ((j.val - 512) % 64 - 16)) = j.val - 512; omega)
        (Rope.ang_row (by show (j.val - 512) % 64 < 32; omega) (by show (j.val - 512) % 16 = _; omega))
  · simp only [h1, ↓reduceDIte]
    by_cases h2 : (j.val - 512) % 64 - 32 < 16
    · simp only [h2, ↓reduceDIte]
      exact Rope.ropeT_of_lo (k := 8) (sum3s (at2 a) (at2 b) (at2 c) n) n.val ⟨j.val - 512, by omega⟩
        ⟨(j.val - 512) / 64 * 64 + (32 + (16 + ((j.val - 512) % 64 - 32))), by omega⟩ ⟨(j.val - 512) / 64 * 64 + (32 + ((j.val - 512) % 64 - 32)), by omega⟩
        (Rope.angle (n.val % 64) ((j.val - 512) % 64 - 32)) (by show (j.val - 512) % 32 < 16; omega) (by
          show (j.val - 512) / 64 * 64 + (32 + (16 + ((j.val - 512) % 64 - 32))) = j.val - 512 + 16; omega)
        (by
          show (j.val - 512) / 64 * 64 + (32 + ((j.val - 512) % 64 - 32)) = j.val - 512; omega)
        (Rope.ang_col (by show ¬ (j.val - 512) % 64 < 32; omega) (by show (j.val - 512) % 16 = _; omega))
    · simp only [h2, ↓reduceDIte]
      exact Rope.ropeT_of_hi (k := 8) (sum3s (at2 a) (at2 b) (at2 c) n) n.val ⟨j.val - 512, by omega⟩
        ⟨(j.val - 512) / 64 * 64 + (32 + ((j.val - 512) % 64 - 32 - 16)), by omega⟩ ⟨(j.val - 512) / 64 * 64 + (32 + (16 + ((j.val - 512) % 64 - 32 - 16))), by omega⟩
        (Rope.angle (n.val % 64) ((j.val - 512) % 64 - 32 - 16)) (by show ¬ (j.val - 512) % 32 < 16; omega) (by
          show (j.val - 512) / 64 * 64 + (32 + ((j.val - 512) % 64 - 32 - 16)) = j.val - 512 - 16; omega)
        (by
          show (j.val - 512) / 64 * 64 + (32 + (16 + ((j.val - 512) % 64 - 32 - 16))) = j.val - 512; omega)
        (Rope.ang_col (by show ¬ (j.val - 512) % 64 < 32; omega) (by show (j.val - 512) % 16 = _; omega))

end Cert.FinValue

end
-- ==== Proof.FinClaim.lean ====
/- The claims about the last step of the retention's backward pass. -/
module

public import proofs.«01_k».proof.Defs
public import proofs.«01_k».proof.Proof.Gen.Kernel.Frame
public import proofs.«01_k».proof.Proof.FinReference

@[expose] public section

set_option maxRecDepth 16384

noncomputable section

open Idealize.ShloMosaic Idealize.ShloMosaic.TcCoe Idealize.SL.Sem

namespace Cert.FinClaim

theorem frame_kernel : Cert.quiescent_Kernel := fun m ρ _ => Cert.Kernel.Gen.frame m ρ

theorem frame_kernelIdeal : Cert.quiescent_KernelIdeal := fun m ρ _ => Cert.KernelIdeal.Gen.frame m ρ

theorem frame_reference : Cert.quiescent_ReferenceIdeal := by
  intro m ρ _
  exact (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The reference's result, written with the kernel's shapes. -/
theorem ref_eq (a b c : FVec Ideal Cert.KernelIdeal.S4096x256 .f32) (u v w : FVec Ideal Cert.KernelIdeal.S4096x512 .f32) :
    (Cert.ReferenceIdeal.Read.val_main_v111 (F := Ideal) a b c u v w : FVec Ideal Cert.KernelIdeal.S4096x768 .bf16) =
      fun i => FinValue.spec (FinValue.at2 a) (FinValue.at2 b) (FinValue.at2 c) (FinValue.at2 u) (FinValue.at2 v)
        (FinValue.at2 w) (i 0) (i 1) := by
  funext i
  idx_vars i
  exact FinValue.ref_at a b c u v w i0 i1

theorem value : Cert.algebraic_KernelIdeal_ReferenceIdeal := by
  pair_intro
  · run_from Cert.KernelIdeal.Gen.run_main m g
  · run_from Cert.ReferenceIdeal.Value.run m' g'
    obtain ⟨h0, h1, h2, h3, h4, h5⟩ := hagree c
    rw [Cert.ReferenceIdeal.Read.val_main_v111_eq, FinValue.final, h0, h1, h2, h3, h4, h5]
    exact ref_eq _ _ _ _ _ _

end Cert.FinClaim

end
-- ==== Proof.PrepFrames.lean ====
/- The frames of the backward call of the norms and the embedding of the attention. -/
module

public import proofs.«01_k».proof.Defs
public import proofs.«01_k».proof.Proof.Gen.PrepKernel.Frame
public import proofs.«01_k».proof.Proof.Gen.PrepKernelIdeal.Frame
public import proofs.«01_k».proof.Proof.Gen.PrepReferenceIdeal.Run

@[expose] public section

set_option maxRecDepth 16384

noncomputable section

open Idealize.ShloMosaic Idealize.ShloMosaic.TcCoe Idealize.SL.Sem

namespace Cert.PrepFrames

theorem kernel : Cert.quiescent_PrepKernel := fun m ρ _ => Cert.PrepKernel.Gen.frame m ρ

theorem kernelIdeal : Cert.quiescent_PrepKernelIdeal := fun m ρ _ => Cert.PrepKernelIdeal.Gen.frame m ρ

theorem reference : Cert.quiescent_PrepReferenceIdeal := by
  intro m ρ _
  exact (θ_run Cert.PrepReferenceIdeal.defs _ _).mono
    (fun r h => ⟨fun c => (h c).2.2, Idealize.ShloMosaic.sem_eq_zero_of_no_sems (by decide) r.2⟩)
    (Cert.PrepReferenceIdeal.Value.run (F := Ideal) m ρ)

end Cert.PrepFrames

end
-- ==== Proof.HeadNorm.lean ====
/- The norm of one head behind the embedding, and the way back: two heads of 64 lanes lie side by side on 128 lanes. -/
module

public import proofs.«01_k».proof.Proof.Rope

@[expose] public section

set_option maxRecDepth 16384

noncomputable section

open Idealize.ShloMosaic Idealize.ShloMosaic.TcCoe Idealize.SL.Sem

namespace Cert.HeadNorm

/-- The lane mask of the embedding on 128 lanes. -/
theorem mask32 {α : Type} (l : Fin 128) (a b : α) :
    Scalar.select
        (IntOp.cmpi CmpIPredicate.slt
          (Scalar.select
            (IntOp.andi
              (IntOp.xori (IntOp.cmpi CmpIPredicate.slt (IntOp.remsi ArithUnit.vector (BitVec.ofNat 32 l.val) 32#32) 0#32) 0#1)
              (IntOp.cmpi CmpIPredicate.ne (IntOp.remsi ArithUnit.vector (BitVec.ofNat 32 l.val) 32#32) 0#32))
            (IntOp.addi (IntOp.remsi ArithUnit.vector (BitVec.ofNat 32 l.val) 32#32) 32#32)
            (IntOp.remsi ArithUnit.vector (BitVec.ofNat 32 l.val) 32#32)) 16#32) a b =
      if l.val % 32 < 16 then a else b := by
  have h : ∀ l : Fin 128,
        (IntOp.cmpi CmpIPredicate.slt
          (Scalar.select
            (IntOp.andi
              (IntOp.xori (IntOp.cmpi CmpIPredicate.slt (IntOp.remsi ArithUnit.vector (BitVec.ofNat 32 l.val) 32#32) 0#32) 0#1)
              (IntOp.cmpi CmpIPredicate.ne (IntOp.remsi ArithUnit.vector (BitVec.ofNat 32 l.val) 32#32) 0#32))
            (IntOp.addi (IntOp.remsi ArithUnit.vector (BitVec.ofNat 32 l.val) 32#32) 32#32)
            (IntOp.remsi ArithUnit.vector (BitVec.ofNat 32 l.val) 32#32)) 16#32) =
      if l.val % 32 < 16 then 1#1 else 0#1 := by decide +kernel
  rw [h]
  split <;> rfl

/-- The mask of the first of the two heads. -/
theorem mask64 {α : Type} (l : Fin 128) (a b : α) :
    Scalar.select (IntOp.cmpi CmpIPredicate.slt (BitVec.ofNat 32 l.val) 64#32) a b = if l.val < 64 then a else b := by
  have h : ∀ l : Fin 128, IntOp.cmpi CmpIPredicate.slt (BitVec.ofNat 32 l.val) 64#32 = if l.val < 64 then 1#1 else 0#1 := by
    decide +kernel
  rw [h]
  split <;> rfl

/-- One sixty-fourth. -/
abbrev c64 : EReal := Ideal.ofBits FTy.f32 1015021568#32

/-- The norm's epsilon. -/
abbrev eps : EReal := Ideal.ofBits FTy.f32 897988541#32

/-- The mean of the 64 lanes of the head that lane `l` belongs to. -/
def mean (a : Fin 128 → EReal) (l : Fin 128) : EReal :=
  (if l.val < 64 then ∑ x : Fin 128, (if x.val < 64 then a x else 0) else ∑ x : Fin 128, (if x.val < 64 then 0 else a x)) * c64

/-- One over the root mean square of that head. -/
def inv (x : Fin 128 → EReal) (l : Fin 128) : EReal := Ideal.rsqrt (mean (fun i => x i * x i) l + eps)

/-- The lanes turned back by the tables `c` and `s`. -/
def turn (d c s : Fin 128 → EReal) (l : Fin 128) : EReal :=
  d l * c l - (if l.val % 32 < 16 then d ⟨(l.val + 128 - 112) % 128, by omega⟩ else d ⟨(l.val + 128 - 16) % 128, by omega⟩) * s l

/-- Back through the norm of two heads. -/
def back (u x g : Fin 128 → EReal) (l : Fin 128) : EReal :=
  inv x l * (u l * g l - x l * inv x l * mean (fun i => u i * g i * (x i * inv x i)) l)

/-- The gradient of the gain, one token's part. -/
def gain (u x : Fin 128 → EReal) (l : Fin 128) : EReal := u l * (x l * inv x l)

/-- The head of lane `l`, by itself. -/
def half {α : Type} (a : Fin 128 → α) (l : Fin 128) (e : Fin 64) : α := a ⟨l.val / 64 * 64 + e.val, by omega⟩

/-- One over the root mean square of one head. -/
def inv1 (x : Fin 64 → EReal) : EReal := Ideal.rsqrt ((∑ e, x e * x e) * c64 + eps)

/-- Back through the norm of one head. -/
def nb (u x g : Fin 64 → EReal) (e : Fin 64) : EReal :=
  inv1 x * (u e * g e - x e * inv1 x * ((∑ i, u i * g i * (x i * inv1 x)) * c64))

/-- The gradient of the gain of one head. -/
def ng (u x : Fin 64 → EReal) (e : Fin 64) : EReal := u e * (x e * inv1 x)

theorem sum_lo (a : Fin 128 → EReal) : (∑ x : Fin 128, if x.val < 64 then a x else 0) = ∑ e : Fin 64, a ⟨e.val, by omega⟩ := by
  rw [show (∑ x : Fin 128, if x.val < 64 then a x else 0) = ∑ x : Fin (64 + 64), (if x.val < 64 then a x else 0) from rfl,
    Fin.sum_univ_add]
  rw [Finset.sum_eq_zero (s := Finset.univ) (f := fun i : Fin 64 => if (Fin.natAdd 64 i).val < 64 then a (Fin.natAdd 64 i) else 0)
    (fun i _ => if_neg (by show ¬ 64 + i.val < 64; omega)), add_zero]
  exact Finset.sum_congr rfl fun e _ => if_pos e.isLt

theorem sum_hi (a : Fin 128 → EReal) : (∑ x : Fin 128, if x.val < 64 then 0 else a x) = ∑ e : Fin 64, a ⟨64 + e.val, by omega⟩ := by
  rw [show (∑ x : Fin 128, if x.val < 64 then 0 else a x) = ∑ x : Fin (64 + 64), (if x.val < 64 then 0 else a x) from rfl,
    Fin.sum_univ_add]
  rw [Finset.sum_eq_zero (s := Finset.univ) (f := fun i : Fin 64 => if (Fin.castAdd 64 i).val < 64 then 0 else a (Fin.castAdd 64 i))
    (fun i _ => if_pos i.isLt), zero_add]
  exact Finset.sum_congr rfl fun e _ => if_neg (by show ¬ 64 + e.val < 64; omega)

theorem mean_eq (a : Fin 128 → EReal) (l : Fin 128) : mean a l = (∑ e, half a l e) * c64 := by
  unfold mean half
  split
  · rw [sum_lo]
    refine congrArg (· * c64) (Finset.sum_congr rfl fun e _ => congrArg a (Fin.ext ?_))
    show e.val = l.val / 64 * 64 + e.val
    omega
  · rw [sum_hi]
    refine congrArg (· * c64) (Finset.sum_congr rfl fun e _ => congrArg a (Fin.ext ?_))
    show 64 + e.val = l.val / 64 * 64 + e.val
    omega

theorem inv_eq (x : Fin 128 → EReal) (l : Fin 128) : inv x l = inv1 (half x l) := by
  rw [inv, mean_eq]
  rfl

theorem half_lane {α : Type} (a : Fin 128 → α) (l : Fin 128) (e : Fin 64) (p) :
    half a ⟨l.val / 64 * 64 + e.val, p⟩ = half a l := by
  funext i
  refine congrArg a (Fin.ext ?_)
  show (l.val / 64 * 64 + e.val) / 64 * 64 + i.val = l.val / 64 * 64 + i.val
  omega

theorem half_self {α : Type} (a : Fin 128 → α) (l : Fin 128) : half a l ⟨l.val % 64, by omega⟩ = a l :=
  congrArg a (Fin.ext (by show l.val / 64 * 64 + l.val % 64 = l.val; omega))

theorem back_eq (u x g : Fin 128 → EReal) (l : Fin 128) :
    back u x g l = nb (half u l) (half x l) (half g l) ⟨l.val % 64, by omega⟩ := by
  rw [back, nb, half_self, half_self, half_self, mean_eq, inv_eq]
  refine congrArg (fun s => _ * (_ - _ * (s * c64))) (Finset.sum_congr rfl fun e _ => ?_)
  show u _ * g _ * (x _ * inv x ⟨l.val / 64 * 64 + e.val, _⟩) = _
  rw [inv_eq, half_lane]
  rfl

theorem gain_eq (u x : Fin 128 → EReal) (l : Fin 128) : gain u x l = ng (half u l) (half x l) ⟨l.val % 64, by omega⟩ := by
  rw [gain, ng, half_self, half_self, inv_eq]

/-- The turned lanes are the embedding's transpose, head by head. -/
theorem turn_eq (d c s : Fin 128 → EReal) (n : ℕ) (hc : ∀ l, c l = Ideal.cos (Rope.ang n l.val))
    (hs : ∀ l, s l = if l.val % 32 < 16 then -Ideal.sin (Rope.ang n l.val) else Ideal.sin (Rope.ang n l.val)) (l : Fin 128) :
    half (turn d c s) l = Rope.ropeT (k := 2) (half d l) n := by
  funext e
  have h0 := l.isLt
  have h2 := e.isLt
  have ha : Rope.ang n (l.val / 64 * 64 + e.val) = Rope.ang n e.val := by
    unfold Rope.ang
    rw [show (l.val / 64 * 64 + e.val) % 64 = e.val % 64 by omega, show (l.val / 64 * 64 + e.val) % 16 = e.val % 16 by omega]
  unfold half turn
  rw [hc, hs]
  show d _ * Ideal.cos (Rope.ang n (l.val / 64 * 64 + e.val)) - _ = _
  rw [ha]
  by_cases h : e.val % 32 < 16
  · rw [if_pos (show (l.val / 64 * 64 + e.val) % 32 < 16 by omega), if_pos (show (l.val / 64 * 64 + e.val) % 32 < 16 by omega),
      Rope.ropeT_lo (k := 2) _ n e h (by omega), mul_neg, sub_eq_add_neg, neg_neg]
    refine congrArg (fun q => _ + d q * _) (Fin.ext ?_)
    show (l.val / 64 * 64 + e.val + 128 - 112) % 128 = l.val / 64 * 64 + (e.val + 16)
    omega
  · rw [if_neg (show ¬ (l.val / 64 * 64 + e.val) % 32 < 16 by omega), if_neg (show ¬ (l.val / 64 * 64 + e.val) % 32 < 16 by omega),
      Rope.ropeT_hi (k := 2) _ n e h (by omega), sub_eq_add_neg, ← neg_mul]
    refine congrArg (fun q => _ + -d q * _) (Fin.ext ?_)
    show (l.val / 64 * 64 + e.val + 128 - 16) % 128 = l.val / 64 * 64 + (e.val - 16)
    omega

theorem coe_sum {n : ℕ} (f : Fin n → ℝ) : (∑ i, (f i : EReal)) = ((∑ i, f i : ℝ) : EReal) :=
  (map_sum (⟨⟨Real.toEReal, rfl⟩, EReal.coe_add⟩ : ℝ →+ EReal) f Finset.univ).symm

theorem c64_coe : c64 = ((1 / 64 : ℝ) : EReal) := by
  simp [c64, Ideal.ofBits, Ideal.ieee, -EReal.coe_mul]; norm_num

theorem eps_coe : ∃ e : ℝ, 0 < e ∧ eps = (e : EReal) := by
  refine ⟨_, ?_, by simp [eps, Ideal.ofBits, Ideal.ieee, -EReal.coe_mul]; rfl⟩
  norm_num

/-- Back through the norm of one head, as the derivative is written. -/
def nbR (u x g : Fin 64 → EReal) (e : Fin 64) : EReal :=
  let M := Ideal.div (∑ i, x i * x i) (Ideal.ofBits FTy.f32 1115684864#32) + eps
  let r := Ideal.rsqrt M
  let q := Ideal.div ((∑ i, x i * (u i * g i)) * (Ideal.ofBits FTy.f32 3204448256#32 * Ideal.div r M)) (Ideal.ofBits FTy.f32 1115684864#32)
  u e * g e * r + x e * q + q * x e

theorem c64' : Ideal.ofBits FTy.f32 1115684864#32 = ((64 : ℝ) : EReal) := by
  simp [Ideal.ofBits, Ideal.ieee, -EReal.coe_mul]; norm_num

theorem chalf : Ideal.ofBits FTy.f32 3204448256#32 = ((-(1 / 2) : ℝ) : EReal) := by
  simp [Ideal.ofBits, Ideal.ieee, -EReal.coe_mul]; norm_num

/-- The norm's root mean square is a positive real. -/
theorem inv1_coe (x : Fin 64 → ℝ) : ∃ M r : ℝ, 0 < M ∧ r * r = 1 / M ∧
    Ideal.div (∑ i, (x i : EReal) * x i) (Ideal.ofBits FTy.f32 1115684864#32) + eps = (M : EReal) ∧
    inv1 (fun i => (x i : EReal)) = (r : EReal) ∧ Ideal.rsqrt (M : EReal) = (r : EReal) := by
  obtain ⟨e, he, h⟩ := eps_coe
  have hs : 0 ≤ ∑ i, x i * x i := Finset.sum_nonneg fun i _ => mul_self_nonneg _
  have hM : 0 < (∑ i, x i * x i) * (1 / 64) + e := by positivity
  have hr : Ideal.rsqrt (((∑ i, x i * x i) * (1 / 64) + e : ℝ) : EReal) = (((√((∑ i, x i * x i) * (1 / 64) + e))⁻¹ : ℝ) : EReal) := by
    rw [Ideal.rsqrt_coe, if_neg (not_lt.2 hM.le), if_neg hM.ne']
  refine ⟨(∑ i, x i * x i) * (1 / 64) + e, (√((∑ i, x i * x i) * (1 / 64) + e))⁻¹, hM, ?_, ?_, ?_, hr⟩
  · rw [← mul_inv, Real.mul_self_sqrt hM.le]; exact (one_div _).symm
  · rw [c64', Ideal.div_coe (by norm_num), h]
    simp only [← EReal.coe_mul, coe_sum, ← EReal.coe_add]
  · rw [inv1, c64_coe, h]
    simp only [← EReal.coe_mul, coe_sum, ← EReal.coe_add]
    exact hr

theorem nb_eq (u x g : Fin 64 → ℝ) (e : Fin 64) :
    nbR (fun i => (u i : EReal)) (fun i => (x i : EReal)) (fun i => (g i : EReal)) e =
      nb (fun i => (u i : EReal)) (fun i => (x i : EReal)) (fun i => (g i : EReal)) e := by
  obtain ⟨M, r, hM, hrr, h1, h2, h3⟩ := inv1_coe x
  unfold nbR nb
  simp only [h1, h2, h3]
  simp only [c64', chalf, c64_coe, Ideal.div_coe hM.ne', Ideal.div_coe (show (64 : ℝ) ≠ 0 by norm_num), ← EReal.coe_mul, coe_sum, ← EReal.coe_add,
    ← EReal.coe_sub]
  congr 1
  have e1 : ∑ i, x i * (u i * g i) = ∑ i, u i * g i * x i := Finset.sum_congr rfl fun i _ => by ring
  have e2 : ∑ i, u i * g i * (x i * r) = (∑ i, u i * g i * x i) * r := by
    rw [Finset.sum_mul]; exact Finset.sum_congr rfl fun i _ => by ring
  rw [e1, e2, ← hrr]
  ring

/-- An angle is a real number. -/
theorem angle_real (r l : ℕ) : ∃ a : ℝ, Rope.angle r l = (a : EReal) := by
  have h4 : Ideal.ofBits FTy.f32 1176256512#32 = ((10000 : ℝ) : EReal) := by
    simp [Ideal.ofBits, Ideal.ieee, -EReal.coe_mul]; norm_num
  have h2 : Ideal.ofBits FTy.f32 1073741824#32 = ((2 : ℝ) : EReal) := by
    simp [Ideal.ofBits, Ideal.ieee, -EReal.coe_mul]; norm_num
  have h3 : Ideal.ofBits FTy.f32 1107296256#32 = ((32 : ℝ) : EReal) := by
    simp [Ideal.ofBits, Ideal.ieee, -EReal.coe_mul]; norm_num
  have hs : ∀ k : ℕ, ∃ a : ℝ, FloatOps.sitofp (F := Ideal) FTy.f32 (BitVec.ofNat 32 k) = (a : EReal) := fun k => ⟨_, rfl⟩
  obtain ⟨a, ha⟩ := hs r
  obtain ⟨b, hb⟩ := hs l
  rw [Rope.angle, ha, hb, h4, h2, h3]
  simp only [← EReal.coe_mul, ← EReal.coe_neg, Ideal.div_coe (show (32 : ℝ) ≠ 0 by norm_num), Ideal.pow_coe_coe]
  exact ⟨_, rfl⟩

theorem ang_real (n l : ℕ) : ∃ a : ℝ, Rope.ang n l = (a : EReal) := by
  unfold Rope.ang
  split <;> exact angle_real _ _

/-- The transpose of the embedding keeps reals. -/
theorem ropeT_real {k : ℕ} (d : Fin (32 * k) → ℝ) (n : ℕ) :
    ∃ u : Fin (32 * k) → ℝ, Rope.ropeT (fun i => (d i : EReal)) n = fun i => (u i : EReal) := by
  have h : ∀ j : Fin (32 * k), ∃ u : ℝ, Rope.ropeT (fun i => (d i : EReal)) n j = (u : EReal) := fun j => by
    obtain ⟨a, ha⟩ := ang_real n j.val
    unfold Rope.ropeT
    rw [ha]
    simp only [Ideal.sin_coe, Ideal.cos_coe, ← EReal.coe_mul, ← EReal.coe_neg]
    split <;> exact ⟨_, (EReal.coe_add _ _).symm⟩
  choose u hu using h
  exact ⟨u, funext hu⟩

/-- The gradient behind the norm at lane `j` of a row of `k` heads: `d` what comes back to the heads, `x` the heads, `g` the gain. -/
def dx {k : ℕ} (d x : Fin (64 * k) → EReal) (g : Fin 64 → EReal) (n : ℕ) (j : Fin (64 * k)) : EReal :=
  nb (Rope.ropeT (k := 2) (fun e => d ⟨j.val / 64 * 64 + e.val, by have := j.isLt; have := e.isLt; omega⟩) n)
    (fun e => x ⟨j.val / 64 * 64 + e.val, by have := j.isLt; have := e.isLt; omega⟩) g ⟨j.val % 64, by omega⟩

/-- The token's part of the gain's gradient at lane `j`. -/
def gx {k : ℕ} (d x : Fin (64 * k) → EReal) (n : ℕ) (j : Fin (64 * k)) : EReal :=
  ng (Rope.ropeT (k := 2) (fun e => d ⟨j.val / 64 * 64 + e.val, by have := j.isLt; have := e.isLt; omega⟩) n)
    (fun e => x ⟨j.val / 64 * 64 + e.val, by have := j.isLt; have := e.isLt; omega⟩) ⟨j.val % 64, by omega⟩

section pair

variable {k : ℕ} (d x : Fin (64 * k) → EReal) (g : Fin 64 → EReal) (n o : ℕ) (ho : o % 128 = 0) (h : o + 128 ≤ 64 * k)
  (D C S X G : Fin 128 → EReal) (hD : ∀ (l : Fin 128) (q : o + l.val < 64 * k), D l = d ⟨o + l.val, q⟩)
  (hC : ∀ l, C l = Ideal.cos (Rope.ang n l.val))
  (hS : ∀ l, S l = if l.val % 32 < 16 then -Ideal.sin (Rope.ang n l.val) else Ideal.sin (Rope.ang n l.val))
  (hX : ∀ (l : Fin 128) (q : o + l.val < 64 * k), X l = x ⟨o + l.val, q⟩)
  (hG : ∀ (l : Fin 128) (q : l.val % 64 < 64), G l = g ⟨l.val % 64, q⟩) (l : Fin 128)

include ho h in
theorem half_pair {a : Fin (64 * k) → EReal} {A : Fin 128 → EReal} (hA : ∀ (l : Fin 128) (q : o + l.val < 64 * k), A l = a ⟨o + l.val, q⟩) :
    half A l = fun e => a ⟨(o + l.val) / 64 * 64 + e.val, by have := e.isLt; omega⟩ := by
  funext e
  rw [half, hA _ (by show o + (l.val / 64 * 64 + e.val) < 64 * k; omega)]
  exact congrArg a (Fin.ext (by show o + (l.val / 64 * 64 + e.val) = (o + l.val) / 64 * 64 + e.val; omega))

include ho h hD hC hS hX hG in
/-- Two neighbouring heads, lane by lane. -/
theorem pair_dx : back (turn D C S) X G l = dx d x g n ⟨o + l.val, by omega⟩ := by
  have hg : half G l = g := by
    funext e
    rw [half, hG _ (by omega)]
    exact congrArg g (Fin.ext (by show (l.val / 64 * 64 + e.val) % 64 = e.val; omega))
  rw [back_eq, turn_eq D C S n hC hS, hg, half_pair o ho h l hD,
    half_pair o ho h l hX]
  exact congrArg (nb _ _ g) (Fin.ext (by show l.val % 64 = (o + l.val) % 64; omega))

include ho h hD hC hS hX in
theorem pair_gx : gain (turn D C S) X l = gx d x n ⟨o + l.val, by omega⟩ := by
  rw [gain_eq, turn_eq D C S n hC hS, half_pair o ho h l hD,
    half_pair o ho h l hX]
  exact congrArg (ng _ _) (Fin.ext (by show l.val % 64 = (o + l.val) % 64; omega))

end pair

end Cert.HeadNorm

end
-- ==== Proof.PrepKernel.lean ====
/- The kernel that goes back through the norms and the rotary embedding of q and k, block by block. -/
module
public import proofs.«01_k».proof.Proof.Gen.PrepKernelIdeal.Value
public import proofs.«01_k».proof.Proof.FinKernel
public import proofs.«01_k».proof.Proof.HeadNorm
public import Idealize.ShloMosaic.Lib.StableHlo.ReadAt

@[expose] public section
set_option maxRecDepth 16384
noncomputable section
open Idealize.ShloMosaic Idealize.ShloMosaic.TcCoe Idealize.SL.Sem
open Idealize.ShloMosaic.Pipeline (Dat)

namespace Cert.PrepValue

open Cert.PrepKernelIdeal Cert.PrepKernelIdeal.Gen

variable (m : (ℓ : Loc nD τ sig) → Buf (Elt Ideal) ℓ)

set_option maxHeartbeats 2000000 in
theorem cosK (c : Dev nD) (n : Fin 4096) (l : Fin 128) :
    (V m c main_v42 : FVec Ideal S4096x128 .f32) (ix2 n l) = Ideal.cos (Rope.ang n l) := by
  unfold V
  after_reads_at
  have h1 := n.isLt
  split_ifs <;> after_reads_at
  all_goals first
    | contradiction
    | rw [Rope.ang, if_pos (by omega), Rope.angle, show l.val % 64 = l.val % 16 by omega]
    | rw [Rope.ang, if_pos (by omega), Rope.angle, show l.val % 64 - 16 = l.val % 16 by omega]
    | rw [Rope.ang, if_neg (by omega), Rope.angle, show l.val % 64 - 16 - 16 = l.val % 16 by omega]
    | rw [Rope.ang, if_neg (by omega), Rope.angle, show l.val % 64 - 16 - 16 - 16 = l.val % 16 by omega]

set_option maxHeartbeats 2000000 in
theorem sinK_lo (c : Dev nD) (n : Fin 4096) (l : Fin 128) (h : l.val % 32 < 16) :
    (V m c main_v45 : FVec Ideal S4096x128 .f32) (ix2 n l) = -Ideal.sin (Rope.ang n l) := by
  unfold V
  after_reads_at
  have h1 := n.isLt
  split_ifs
  all_goals first
    | (exfalso; omega)
    | (after_reads_at; rw [Rope.ang, if_pos (by omega), Rope.angle, show l.val % 64 = l.val % 16 by omega])
    | (after_reads_at; rw [Rope.ang, if_neg (by omega), Rope.angle, show l.val % 64 - 16 - 16 = l.val % 16 by omega])

set_option maxHeartbeats 2000000 in
theorem sinK_hi (c : Dev nD) (n : Fin 4096) (l : Fin 128) (h : ¬ l.val % 32 < 16) :
    (V m c main_v45 : FVec Ideal S4096x128 .f32) (ix2 n l) = Ideal.sin (Rope.ang n l) := by
  unfold V
  after_reads_at
  have h1 := n.isLt
  split_ifs
  all_goals first
    | (exfalso; omega)
    | (after_reads_at; rw [Rope.ang, if_pos (by omega), Rope.angle, show l.val % 64 - 16 = l.val % 16 by omega])
    | (after_reads_at; rw [Rope.ang, if_neg (by omega), Rope.angle, show l.val % 64 - 16 - 16 - 16 = l.val % 16 by omega])

theorem sin7 (c : Dev nD) (n : Fin 4096) (l : Fin 128) : (V m c main_v45 : FVec Ideal S4096x128 .f32) (ix2 n l) =
    if l.val % 32 < 16 then -Ideal.sin (Rope.ang n l) else Ideal.sin (Rope.ang n l) := by
  split
  · exact sinK_lo m c n l ‹_›
  · exact sinK_hi m c n l ‹_›

set_option maxHeartbeats 2000000 in
theorem gainQ (c : Dev nD) (l : Fin 128) : (V m c main_v49 : FVec Ideal S1x128 .f32) (ix2 (0 : Fin 1) l) =
    (m ((c : Thread nD τ).loc main_arg1) : FVec Ideal S64 .f32) (ix1 ⟨l.val % 64, by omega⟩) := by
  unfold V
  after_reads_at

set_option maxHeartbeats 2000000 in
theorem gainK (c : Dev nD) (l : Fin 128) : (V m c main_v53 : FVec Ideal S1x128 .f32) (ix2 (0 : Fin 1) l) =
    (m ((c : Thread nD τ).loc main_arg2) : FVec Ideal S64 .f32) (ix1 ⟨l.val % 64, by omega⟩) := by
  unfold V
  after_reads_at

set_option maxHeartbeats 2000000 in
theorem dqK (c : Dev nD) (h : Fin 8) (d : Fin 64) (n : Fin 4096) : (V m c main_v55 : FVec Ideal S8x64x4096 .f32) (ix3 h d n) =
    (m ((c : Thread nD τ).loc main_arg3) : FVec Ideal S4096x512 .f32) (ix2 n ⟨h.val * 64 + d.val, by omega⟩) := by
  unfold V
  after_reads_at

set_option maxHeartbeats 2000000 in
theorem dkK (c : Dev nD) (h : Fin 2) (d : Fin 64) (n : Fin 4096) : (V m c main_v61 : FVec Ideal S2x64x4096 .f32) (ix3 h d n) =
    Ideal.div ((m ((c : Thread nD τ).loc main_arg4) : FVec Ideal S4096x128 .f32) (ix2 n ⟨h.val * 64 + d.val, by omega⟩))
      (Ideal.log (Ideal.ofBits FTy.f32 1073741824#32)) := by
  unfold V
  after_reads_at
  rfl

set_option maxHeartbeats 2000000 in
theorem dvK (c : Dev nD) (h : Fin 2) (d : Fin 64) (n : Fin 4096) : (V m c main_v63 : FVec Ideal S2x64x4096 .f32) (ix3 h d n) =
    (m ((c : Thread nD τ).loc main_arg5) : FVec Ideal S4096x128 .f32) (ix2 n ⟨h.val * 64 + d.val, by omega⟩) := by
  unfold V
  after_reads_at

theorem projQ (c : Dev nD) (n : Fin 4096) (l : Fin 512) :
    (V m c main_v74 : FVec Ideal S4096x4864 .bf16) (ix2 n ⟨2560 + l.val, by omega⟩) =
    (m ((c : Thread nD τ).loc main_arg0) : FVec Ideal S4096x4864 .f32) (ix2 n ⟨l.val, by omega⟩) := by
  have h1 : ¬ 2560 + l.val < 2048 := by omega
  have h2 : ¬ 2560 + l.val - 2048 < 512 := by omega
  have h3 : 2560 + l.val - 2048 - 512 < 512 := by omega
  have e : 2560 + l.val - 2048 - 512 = l.val := by omega
  unfold V
  after_reads_at
  simp only [h1, h2, h3, ↓reduceDIte, ↓reduceIte]
  after_reads_at
  simp only [e]

theorem projK (c : Dev nD) (n : Fin 4096) (l : Fin 128) :
    (V m c main_v74 : FVec Ideal S4096x4864 .bf16) (ix2 n ⟨3072 + l.val, by omega⟩) =
    (m ((c : Thread nD τ).loc main_arg0) : FVec Ideal S4096x4864 .f32) (ix2 n ⟨512 + l.val, by omega⟩) := by
  have h1 : ¬ 3072 + l.val < 2048 := by omega
  have h2 : ¬ 3072 + l.val - 2048 < 512 := by omega
  have h3 : ¬ 3072 + l.val - 2048 - 512 < 512 := by omega
  have h4 : 3072 + l.val - 2048 - 512 - 512 < 128 := by omega
  have e : 3072 + l.val - 2048 - 512 - 512 = l.val := by omega
  unfold V
  after_reads_at
  simp only [h1, h2, h3, h4, ↓reduceDIte, ↓reduceIte]
  after_reads_at
  simp only [e]

theorem idx : ∀ t : Fin cfg0.N, win0_0.index t = ![0, 0, t.val] ∧ win0_1.index t = ![0, 0, t.val] ∧ win0_2.index t = ![0, 0, t.val] ∧
    win0_3.index t = ![t.val, 5] ∧ win0_4.index t = ![t.val, 24] ∧ win0_5.index t = ![t.val, 0] ∧
    win0_6.index t = ![t.val, 0] ∧ win0_7.index t = ![0, 0] ∧ win0_8.index t = ![0, 0] ∧ win0_9.index t = ![t.val, 0] ∧ win0_10.index t = ![0, 0] :=
  (by decide +kernel : ∀ t : Fin grid0.N, _)

/-- Row `x` of block `t`. -/
def row (t : Fin cfg0.N) (x : Fin 512) : Fin 4096 :=
  ⟨t.val * 512 + x.val, by have h : t.val < 8 := N_0 ▸ t.isLt; omega⟩

theorem rd0 (c : Dev nD) (t : Fin cfg0.N) (h : Fin 8) (d : Fin 64) (x : Fin 512) :
    iblk m c 0 t (ix3 h d x) = (V m c main_v55 : FVec Ideal S8x64x4096 .f32) (ix3 h d (row t x)) := by
  simp only [iblk]
  refine congrArg (V m c main_v55) ?_
  unfold row
  blk_ext [idx t]

theorem rd1 (c : Dev nD) (t : Fin cfg0.N) (h : Fin 2) (d : Fin 64) (x : Fin 512) :
    iblk m c 1 t (ix3 h d x) = (V m c main_v61 : FVec Ideal S2x64x4096 .f32) (ix3 h d (row t x)) := by
  simp only [iblk]
  refine congrArg (V m c main_v61) ?_
  unfold row
  blk_ext [idx t]

theorem rd2 (c : Dev nD) (t : Fin cfg0.N) (h : Fin 2) (d : Fin 64) (x : Fin 512) :
    iblk m c 2 t (ix3 h d x) = (V m c main_v63 : FVec Ideal S2x64x4096 .f32) (ix3 h d (row t x)) := by
  simp only [iblk]
  refine congrArg (V m c main_v63) ?_
  unfold row
  blk_ext [idx t]

theorem rd3 (c : Dev nD) (t : Fin cfg0.N) (x : Fin 512) (j : Fin 512) :
    X0_3 m c t (ix2 x j) = (V m c main_v74 : FVec Ideal S4096x4864 .bf16) (ix2 (row t x) ⟨2560 + j.val, by omega⟩) := by
  unfold X0_3 Pipeline.Window.fill
  rw [dif_pos (moved0_3 t _)]
  simp only [iblk]
  refine congrArg (V m c main_v74) ?_
  unfold row
  blk_ext [idx t]

theorem rd4 (c : Dev nD) (t : Fin cfg0.N) (x : Fin 512) (j : Fin 128) :
    iblk m c 4 t (ix2 x j) = (V m c main_v74 : FVec Ideal S4096x4864 .bf16) (ix2 (row t x) ⟨3072 + j.val, by omega⟩) := by
  simp only [iblk]
  refine congrArg (V m c main_v74) ?_
  unfold row
  blk_ext [idx t]

theorem rd5 (c : Dev nD) (t : Fin cfg0.N) (x : Fin 512) (j : Fin 128) :
    iblk m c 5 t (ix2 x j) = (V m c main_v42 : FVec Ideal S4096x128 .f32) (ix2 (row t x) j) := by
  simp only [iblk]
  refine congrArg (V m c main_v42) ?_
  unfold row
  blk_ext [idx t]

theorem rd6 (c : Dev nD) (t : Fin cfg0.N) (x : Fin 512) (j : Fin 128) :
    iblk m c 6 t (ix2 x j) = (V m c main_v45 : FVec Ideal S4096x128 .f32) (ix2 (row t x) j) := by
  simp only [iblk]
  refine congrArg (V m c main_v45) ?_
  unfold row
  blk_ext [idx t]

theorem rd7 (c : Dev nD) (t : Fin cfg0.N) (x : Fin 1) (j : Fin 128) :
    iblk m c 7 t (ix2 x j) = (V m c main_v49 : FVec Ideal S1x128 .f32) (ix2 x j) := by
  simp only [iblk]
  refine congrArg (V m c main_v49) ?_
  blk_ext [idx t]

theorem rd8 (c : Dev nD) (t : Fin cfg0.N) (x : Fin 1) (j : Fin 128) :
    iblk m c 8 t (ix2 x j) = (V m c main_v53 : FVec Ideal S1x128 .f32) (ix2 x j) := by
  simp only [iblk]
  refine congrArg (V m c main_v53) ?_
  blk_ext [idx t]

theorem out_at (t : Fin cfg0.N) (x : Fin 512) (j : Fin 768) :
    ((cfg0.win 9).blk t).view.emb (ix2 x j) = ix2 (row t x) j := by
  unfold row
  blk_ext [idx t]

/-- The gradient of two neighbouring heads, one row a token: 64 lanes of the first, then 64 of the second. -/
def cot (a b : FVec Ideal S1x64x512 .f32) : FVec Ideal S512x128 .f32 :=
  fun i => if h : (i 1).val < 64 then a (ix3 (0 : Fin 1) ⟨(i 1).val, h⟩ (i 0)) else b (ix3 (0 : Fin 1) ⟨(i 1).val - 64, by have := (i 1).isLt; change (i 1).val < 128 at this; omega⟩ (i 0))

/-- … as the kernel stacks and transposes it. -/
theorem cot_eq (a b : FVec Ideal S1x64x512 .f32) (p1 p2 p3 p4) :
    transpose S512x128 [1, 0] (concatenate S128x512 0 [⟨S64x512, shapeCast S64x512 a p1⟩, ⟨S64x512, shapeCast S64x512 b p2⟩] p3) p4 =
      cot a b := by
  funext i
  idx_vars i
  unfold cot
  pointwise

theorem cot_eq8 (W : S8x64x512.Idx → Elt Ideal .f32) (o1 o2 : Fin 3 → ℕ) (i1 i2 p1 p2 p3 p4) :
    transpose S512x128 [1, 0] (concatenate S128x512 0 [⟨S64x512, shapeCast S64x512 (View.ld W (Rect.unit o1 ![1, 64, 512] i1)) p1⟩,
      ⟨S64x512, shapeCast S64x512 (View.ld W (Rect.unit o2 ![1, 64, 512] i2)) p2⟩] p3) p4 =
      cot (View.ld W (Rect.unit o1 ![1, 64, 512] i1)) (View.ld W (Rect.unit o2 ![1, 64, 512] i2)) := by
  exact cot_eq _ _ _ _ _ _

theorem cot_eq2 (W : S2x64x512.Idx → Elt Ideal .f32) (o1 o2 : Fin 3 → ℕ) (i1 i2 p1 p2 p3 p4) :
    transpose S512x128 [1, 0] (concatenate S128x512 0 [⟨S64x512, shapeCast S64x512 (View.ld W (Rect.unit o1 ![1, 64, 512] i1)) p1⟩,
      ⟨S64x512, shapeCast S64x512 (View.ld W (Rect.unit o2 ![1, 64, 512] i2)) p2⟩] p3) p4 =
      cot (View.ld W (Rect.unit o1 ![1, 64, 512] i1)) (View.ld W (Rect.unit o2 ![1, 64, 512] i2)) := by
  exact cot_eq _ _ _ _ _ _

theorem pay68 (a b : FVec Ideal S1x64x512 .f32) : (k0_pay68 a b : FVec Ideal S512x128 .bf16) = cot a b := by
  unfold k0_pay68
  exact cot_eq a b shapeCasts_S1x64x512_S64x512 shapeCasts_S1x64x512_S64x512 concatenates_S64x512_S64x512_S128x512_d0
    transposes_S128x512_p1_0_S512x128

theorem pay56 (a b : FVec Ideal S1x64x512 .f32) :
    (k0_pay56 a b : FVec Ideal S512x128 .f32) = fun i => cot a b i * ((Real.log 2 : ℝ) : EReal) := by
  unfold k0_pay56
  funext i
  rw [cot_eq]
  exact congrArg (cot a b i * ·) (IdealRules.named_const.ideal_named_scalar _ _ _ _ rfl)

end Cert.PrepValue

end
-- ==== Proof.PrepPoint.lean ====
/- What the kernel leaves in each block of its gradient: the norm's gradient of two heads at a time. -/
module

public import proofs.«01_k».proof.Proof.PrepKernel

@[expose] public section

set_option maxRecDepth 16384

noncomputable section

open Idealize.ShloMosaic Idealize.ShloMosaic.TcCoe Idealize.SL.Sem
open Idealize.ShloMosaic.Pipeline (Dat)

namespace Cert.PrepValue

open Cert.PrepKernelIdeal Cert.PrepKernelIdeal.Gen HeadNorm

/-- One eighth. -/
abbrev c8 : EReal := Ideal.ofBits FTy.f32 1040187392#32

section spec

variable (p : Fin 4096 → Fin 4864 → EReal) (qg kg : Fin 64 → EReal) (cq : Fin 4096 → Fin 512 → EReal) (ck cv : Fin 4096 → Fin 128 → EReal)

/-- What comes back to the heads of q. -/
def dq (n : Fin 4096) (j : Fin 512) : EReal := cq n j * c8

/-- The heads of q before the norm. -/
def xq (n : Fin 4096) (j : Fin 512) : EReal := p n ⟨j.val, by omega⟩

/-- The heads of k before the norm. -/
def xk (n : Fin 4096) (j : Fin 128) : EReal := p n ⟨512 + j.val, by omega⟩

/-- The gradient of the attention's part of the projection. -/
def specD (n : Fin 4096) (j : Fin 768) : EReal :=
  if h : j.val < 512 then dx (k := 8) (dq cq n) (xq p n) qg n.val ⟨j.val, h⟩
  else if h' : j.val < 640 then dx (k := 2) (ck n) (xk p n) kg n.val ⟨j.val - 512, by show j.val - 512 < 128; omega⟩
  else cv n ⟨j.val - 640, by omega⟩

/-- The gradients of the two gains, the even heads' and the odd heads' side by side. -/
def specS (j : Fin 8) (l : Fin 128) : EReal :=
  if j.val = 0 then ∑ n : Fin 4096, ∑ b : Fin 4, gx (k := 8) (dq cq n) (xq p n) n.val ⟨b.val * 128 + l.val, by show _ < 512; omega⟩
  else if j.val = 1 then ∑ n : Fin 4096, gx (k := 2) (ck n) (xk p n) n.val l
  else 0

end spec

variable (m : (ℓ : Loc nD τ sig) → Buf (Elt Ideal) ℓ)

/-- The arguments. -/
abbrev aP (c : Dev nD) : Fin 4096 → Fin 4864 → EReal := FinValue.at2 (m ((c : Thread nD τ).loc main_arg0) : FVec Ideal S4096x4864 .f32)
abbrev aQg (c : Dev nD) (e : Fin 64) : EReal := (m ((c : Thread nD τ).loc main_arg1) : FVec Ideal S64 .f32) (ix1 e)
abbrev aKg (c : Dev nD) (e : Fin 64) : EReal := (m ((c : Thread nD τ).loc main_arg2) : FVec Ideal S64 .f32) (ix1 e)
abbrev aQ (c : Dev nD) : Fin 4096 → Fin 512 → EReal := FinValue.at2 (m ((c : Thread nD τ).loc main_arg3) : FVec Ideal S4096x512 .f32)
abbrev aK (c : Dev nD) : Fin 4096 → Fin 128 → EReal := FinValue.at2 (m ((c : Thread nD τ).loc main_arg4) : FVec Ideal S4096x128 .f32)
abbrev aV (c : Dev nD) : Fin 4096 → Fin 128 → EReal := FinValue.at2 (m ((c : Thread nD τ).loc main_arg5) : FVec Ideal S4096x128 .f32)

/-- Two heads' cotangents, as the kernel stacks them. -/
theorem cotQ (c : Dev nD) (t : Fin cfg0.N) (a : ℕ) (ha : a + 1 < 8) (i1 i2) (x : Fin 512) (l : Fin 128) :
    cot (View.ld (iblk m c 0 t) (Rect.unit (s := S8x64x512) ![a, 0, 0] ![1, 64, 512] i1))
        (View.ld (iblk m c 0 t) (Rect.unit (s := S8x64x512) ![a + 1, 0, 0] ![1, 64, 512] i2)) (ix2 x l) =
      aQ m c (row t x) ⟨a * 64 + l.val, by omega⟩ := by
  have e1 : ∀ (b : ℕ) (hb : b < 8) (i) (d : Fin 64), View.ld (iblk m c 0 t) (Rect.unit (s := S8x64x512) ![b, 0, 0] ![1, 64, 512] i) (ix3 (0 : Fin 1) d x) =
      aQ m c (row t x) ⟨b * 64 + d.val, by omega⟩ := fun b hb i d => by
    refine Eq.trans ?_ ((rd0 m c t ⟨b, hb⟩ d x).trans (dqK m c ⟨b, hb⟩ d (row t x)))
    pointwise
  unfold cot
  split
  · exact e1 a (by omega) i1 ⟨l.val, ‹_›⟩
  · refine (e1 (a + 1) ha i2 ⟨l.val - 64, by omega⟩).trans (congrArg (aQ m c (row t x)) (Fin.ext ?_))
    show (a + 1) * 64 + (l.val - 64) = a * 64 + l.val
    have : ¬ l.val < 64 := ‹_›
    omega

theorem cotK (c : Dev nD) (t : Fin cfg0.N) (i1 i2) (x : Fin 512) (l : Fin 128) :
    cot (View.ld (iblk m c 1 t) (Rect.unit (s := S2x64x512) ![0, 0, 0] ![1, 64, 512] i1))
        (View.ld (iblk m c 1 t) (Rect.unit (s := S2x64x512) ![1, 0, 0] ![1, 64, 512] i2)) (ix2 x l) =
      Ideal.div (aK m c (row t x) l) (Ideal.log (Ideal.ofBits FTy.f32 1073741824#32)) := by
  have e1 : ∀ (b : ℕ) (hb : b < 2) (i) (d : Fin 64), View.ld (iblk m c 1 t) (Rect.unit (s := S2x64x512) ![b, 0, 0] ![1, 64, 512] i) (ix3 (0 : Fin 1) d x) =
      Ideal.div (aK m c (row t x) ⟨b * 64 + d.val, by omega⟩) (Ideal.log (Ideal.ofBits FTy.f32 1073741824#32)) := fun b hb i d => by
    refine Eq.trans ?_ ((rd1 m c t ⟨b, hb⟩ d x).trans (dkK m c ⟨b, hb⟩ d (row t x)))
    pointwise
  unfold cot
  split
  · refine (e1 0 (by omega) i1 ⟨l.val, ‹_›⟩).trans (congrArg (fun q => Ideal.div (aK m c (row t x) q) _) (Fin.ext ?_))
    show 0 * 64 + l.val = l.val
    omega
  · refine (e1 1 (by omega) i2 ⟨l.val - 64, by omega⟩).trans (congrArg (fun q => Ideal.div (aK m c (row t x) q) _) (Fin.ext ?_))
    have : ¬ l.val < 64 := ‹_›
    show 1 * 64 + (l.val - 64) = l.val
    omega

theorem cotV (c : Dev nD) (t : Fin cfg0.N) (i1 i2) (x : Fin 512) (l : Fin 128) :
    cot (View.ld (iblk m c 2 t) (Rect.unit (s := S2x64x512) ![0, 0, 0] ![1, 64, 512] i1))
        (View.ld (iblk m c 2 t) (Rect.unit (s := S2x64x512) ![1, 0, 0] ![1, 64, 512] i2)) (ix2 x l) =
      aV m c (row t x) l := by
  have e1 : ∀ (b : ℕ) (hb : b < 2) (i) (d : Fin 64), View.ld (iblk m c 2 t) (Rect.unit (s := S2x64x512) ![b, 0, 0] ![1, 64, 512] i) (ix3 (0 : Fin 1) d x) =
      aV m c (row t x) ⟨b * 64 + d.val, by omega⟩ := fun b hb i d => by
    refine Eq.trans ?_ ((rd2 m c t ⟨b, hb⟩ d x).trans (dvK m c ⟨b, hb⟩ d (row t x)))
    pointwise
  unfold cot
  split
  · refine (e1 0 (by omega) i1 ⟨l.val, ‹_›⟩).trans (congrArg (aV m c (row t x)) (Fin.ext ?_))
    show 0 * 64 + l.val = l.val
    omega
  · refine (e1 1 (by omega) i2 ⟨l.val - 64, by omega⟩).trans (congrArg (aV m c (row t x)) (Fin.ext ?_))
    have : ¬ l.val < 64 := ‹_›
    show 1 * 64 + (l.val - 64) = l.val
    omega

/-- The scale taken out of the gradient of k on the host and put back in the kernel. -/
theorem ln2_back (a : ℝ) : Ideal.div (a : EReal) (Ideal.log (Ideal.ofBits FTy.f32 1073741824#32)) * ((Real.log 2 : ℝ) : EReal) = (a : EReal) := by
  have h2 : Ideal.ofBits FTy.f32 1073741824#32 = ((2 : ℝ) : EReal) := by
    simp [Ideal.ofBits, Ideal.ieee, -EReal.coe_mul]; norm_num
  have h : Real.log 2 ≠ 0 := (Real.log_pos (by norm_num)).ne'
  rw [h2, Ideal.log_coe, if_neg (by norm_num), Ideal.div_coe h, ← EReal.coe_mul, ← EReal.coe_mul]
  congr 1
  field_simp

end Cert.PrepValue

end
-- ==== Proof.PrepVec.lean ====
/- The kernel's vector operations on two heads, 128 lanes a token, read lane by lane. -/
module

public import proofs.«01_k».proof.Proof.PrepPoint

@[expose] public section

set_option maxRecDepth 16384

noncomputable section

open Idealize.ShloMosaic Idealize.ShloMosaic.TcCoe Idealize.SL.Sem
open Idealize.ShloMosaic.Pipeline (Dat)

namespace Cert.PrepValue

open Cert.PrepKernelIdeal Cert.PrepKernelIdeal.Gen HeadNorm

/-- Lanes of the first head. -/
def firstV : IVec S512x128 1 := cmpi .slt (iota .tc S512x128 32 [1] iota_S512x128_d1_w32) (broadcast S512x128 64#32)

/-- The sum of each row, in every lane. -/
def sumV (v : FVec Ideal S512x128 .f32) : FVec Ideal S512x128 .f32 :=
  broadcastTo S512x128 (shapeCast S512x1 (shapeCast S512x1 (multiReduction .add [1] S512 v 0#32 reduces_S512x128_S512 (.inl rfl) rfl)
    shapeCasts_S512_S512x1) shapeCasts_S512x1_S512x1) broadcasts_S512x1_S512x128

/-- The mean of each head, in every lane of it. -/
def meanV (v : FVec Ideal S512x128 .f32) : FVec Ideal S512x128 .f32 :=
  mulf (select firstV (sumV (select firstV v (broadcast S512x128 (Scalar.ofBits .f32 0#32))))
    (sumV (select firstV (broadcast S512x128 (Scalar.ofBits .f32 0#32)) v))) (broadcast S512x128 (Scalar.ofBits .f32 0x3C800000#32))

theorem sumV_at (v : FVec Ideal S512x128 .f32) (x : Fin 512) (l : Fin 128) : sumV v (ix2 x l) = ∑ i : Fin 128, v (ix2 x i) := by
  unfold sumV
  pointwise

theorem firstV_at {α : Type} (a b : S512x128.Idx → α) (x : Fin 512) (l : Fin 128) :
    select firstV a b (ix2 x l) = if l.val < 64 then a (ix2 x l) else b (ix2 x l) := by
  have e : firstV (ix2 x l) = IntOp.cmpi CmpIPredicate.slt (BitVec.ofNat 32 l.val) 64#32 := by
    unfold firstV
    pointwise
  show Scalar.select (firstV (ix2 x l)) (a (ix2 x l)) (b (ix2 x l)) = _
  rw [e, mask64]

theorem meanV_at (v : FVec Ideal S512x128 .f32) (x : Fin 512) (l : Fin 128) : meanV v (ix2 x l) = mean (fun i => v (ix2 x i)) l := by
  have z : (broadcast S512x128 (Scalar.ofBits (F := Ideal) .f32 0#32) : FVec Ideal S512x128 .f32) = fun _ => 0 := by
    funext i
    pointwise
  unfold meanV mean
  refine congrArg (· * c64) ?_
  rw [firstV_at, sumV_at, sumV_at]
  simp only [firstV_at, z]

/-- One over the root mean square. -/
def invV (X : FVec Ideal S512x128 .f32) : FVec Ideal S512x128 .f32 :=
  rsqrt (addf (meanV (mulf X X)) (broadcast S512x128 (Scalar.ofBits .f32 0x358637BD#32)))

theorem invV_at (X : FVec Ideal S512x128 .f32) (x : Fin 512) (l : Fin 128) : invV X (ix2 x l) = inv (fun i => X (ix2 x i)) l := by
  show Ideal.rsqrt (meanV (mulf X X) (ix2 x l) + eps) = _
  rw [meanV_at]
  rfl

/-- Lanes in the first half of a half head. -/
def lowV : IVec S512x128 1 :=
  have v44 : IVec S512x128 32 := iota .tc S512x128 32 [1] iota_S512x128_d1_w32
  let v45 : BitVec 1 := Scalar.cmpi .eq 32#32 0#32
  let v46 : BitVec 32 := Scalar.select v45 1#32 32#32
  have v48 : IVec S512x128 32 := remsi v44 (broadcast S512x128 v46)
  have v50 : IVec S512x128 1 := cmpi .ne v48 (broadcast S512x128 0#32)
  have v52 : IVec S512x128 1 := cmpi .slt v48 (broadcast S512x128 0#32)
  have v55 : IVec S512x128 1 := broadcastTo S512x128 (broadcast S512x128 (Scalar.cmpi .slt v46 0#32)) broadcasts_S512x128_S512x128
  cmpi .slt (select (andi (xori v52 v55) v50) (addi v48 (broadcast S512x128 v46)) v48) (broadcast S512x128 16#32)

theorem lowV_at {α : Type} (a b : S512x128.Idx → α) (x : Fin 512) (l : Fin 128) :
    select lowV a b (ix2 x l) = if l.val % 32 < 16 then a (ix2 x l) else b (ix2 x l) := by
  show Scalar.select (lowV (ix2 x l)) (a (ix2 x l)) (b (ix2 x l)) = _
  rw [← HeadNorm.mask32]
  refine congrArg (fun k => Scalar.select k _ _) ?_
  unfold lowV
  pointwise
  rfl

/-- The lanes turned back by the tables. -/
def turnV (D C S : FVec Ideal S512x128 .f32) : FVec Ideal S512x128 .f32 :=
  subf (mulf D C) (mulf (select lowV (dynamicRotate 1 112#32 none D rotates_S512x128_d1) (dynamicRotate 1 16#32 none D rotates_S512x128_d1)) S)

theorem turnV_at (D C S : FVec Ideal S512x128 .f32) (x : Fin 512) (l : Fin 128) :
    turnV D C S (ix2 x l) = turn (fun i => D (ix2 x i)) (fun i => C (ix2 x i)) (fun i => S (ix2 x i)) l := by
  have r : ∀ (k : BitVec 32), dynamicRotate 1 k none D rotates_S512x128_d1 (ix2 x l) = D (ix2 x ⟨(l.val + 128 - k.toNat % 128) % 128, by omega⟩) := fun k => by
    pointwise
  show D (ix2 x l) * C (ix2 x l) - select lowV _ _ (ix2 x l) * S (ix2 x l) = _
  rw [lowV_at, r, r]
  rfl

/-- Back through the norm. -/
def backV (U X : FVec Ideal S512x128 .f32) (g : FVec Ideal S1x128 .f32) : FVec Ideal S512x128 .f32 :=
  mulf (invV X) (subf (mulf U (broadcastTo S512x128 g broadcasts_S1x128_S512x128)) (mulf (mulf X (invV X))
    (meanV (mulf (mulf U (broadcastTo S512x128 g broadcasts_S1x128_S512x128)) (mulf X (invV X))))))

theorem backV_at (U X : FVec Ideal S512x128 .f32) (g : FVec Ideal S1x128 .f32) (x : Fin 512) (l : Fin 128) :
    backV U X g (ix2 x l) = back (fun i => U (ix2 x i)) (fun i => X (ix2 x i)) (fun i => g (ix2 (0 : Fin 1) i)) l := by
  have hg : ∀ l : Fin 128, broadcastTo S512x128 g broadcasts_S1x128_S512x128 (ix2 x l) = g (ix2 (0 : Fin 1) l) := fun l => by pointwise
  show invV X (ix2 x l) * (U (ix2 x l) * broadcastTo S512x128 g broadcasts_S1x128_S512x128 (ix2 x l) - X (ix2 x l) * invV X (ix2 x l) * meanV _ (ix2 x l)) = _
  rw [meanV_at, invV_at, hg, back]
  have e : (fun i : Fin 128 => mulf (mulf U (broadcastTo S512x128 g broadcasts_S1x128_S512x128)) (mulf X (invV X)) (ix2 x i)) =
      fun i => U (ix2 x i) * g (ix2 (0 : Fin 1) i) * (X (ix2 x i) * inv (fun i => X (ix2 x i)) i) := funext fun i => by
    show U (ix2 x i) * broadcastTo S512x128 g broadcasts_S1x128_S512x128 (ix2 x i) * (X (ix2 x i) * invV X (ix2 x i)) = _
    rw [hg, invV_at]
  rw [e]

/-- The gain's gradient. -/
def gainV (U X : FVec Ideal S512x128 .f32) : FVec Ideal S512x128 .f32 := mulf U (mulf X (invV X))

theorem gainV_at (U X : FVec Ideal S512x128 .f32) (x : Fin 512) (l : Fin 128) :
    gainV U X (ix2 x l) = gain (fun i => U (ix2 x i)) (fun i => X (ix2 x i)) l := by
  show U (ix2 x l) * (X (ix2 x l) * invV X (ix2 x l)) = _
  rw [invV_at, gain]

end Cert.PrepValue

end
-- ==== Proof.PrepBlock.lean ====
/- What the kernel leaves in each block of the projection's gradient. -/
module
public import proofs.«01_k».proof.Proof.PrepVec
@[expose] public section
set_option maxRecDepth 16384
noncomputable section
open Idealize.ShloMosaic Idealize.ShloMosaic.TcCoe Idealize.SL.Sem
open Idealize.ShloMosaic.Pipeline (Dat)
namespace Cert.PrepValue
open Cert.PrepKernelIdeal Cert.PrepKernelIdeal.Gen HeadNorm
variable (m : (ℓ : Loc nD τ sig) → Buf (Elt Ideal) ℓ)
/-- One pair of q's heads in block `t`. -/
theorem pieceQ (c : Dev nD) (t : Fin cfg0.N) (a : ℕ) (ha : a + 1 < 8) (h2 : a % 2 = 0) (x : Fin 512) (l : Fin 128)
    (D C S X G : Fin 128 → EReal) (hD : ∀ l : Fin 128, D l = aQ m c (row t x) ⟨a * 64 + l.val, by omega⟩)
    (hC : ∀ l, C l = iblk m c 5 t (ix2 x l)) (hS : ∀ l, S l = iblk m c 6 t (ix2 x l))
    (hX : ∀ l : Fin 128, X l = X0_3 m c t (ix2 x ⟨a * 64 + l.val, by omega⟩)) (hG : ∀ l, G l = iblk m c 7 t (ix2 (0 : Fin 1) l)) :
    back (turn (fun i => D i * c8) C S) X G l =
      specD (aP m c) (aQg m c) (aKg m c) (aQ m c) (aK m c) (aV m c) (row t x) ⟨a * 64 + l.val, by omega⟩ := by
  rw [specD, dif_pos (by show a * 64 + l.val < 512; omega)]
  refine pair_dx (k := 8) (dq (aQ m c) (row t x)) (xq (aP m c) (row t x)) (aQg m c) (row t x).val (a * 64) (by omega) (by omega) _ C S X G
    ?_ ?_ ?_ ?_ ?_ l
  · intro l _; exact congrArg (· * c8) (hD l)
  · intro l; rw [hC, rd5, cosK]
  · intro l; rw [hS, rd6, sin7]
  · intro l _; rw [hX, rd3]; exact projQ m c (row t x) ⟨a * 64 + l.val, by omega⟩
  · intro l _; rw [hG, rd7]; exact gainQ m c l

theorem pieceK (c : Dev nD) (hk : ∀ n j, ∃ r : ℝ, aK m c n j = (r : EReal)) (t : Fin cfg0.N) (x : Fin 512) (l : Fin 128)
    (D C S X G : Fin 128 → EReal) (hD : ∀ l : Fin 128, D l = Ideal.div (aK m c (row t x) l) (Ideal.log (Ideal.ofBits FTy.f32 1073741824#32)))
    (hC : ∀ l, C l = iblk m c 5 t (ix2 x l)) (hS : ∀ l, S l = iblk m c 6 t (ix2 x l))
    (hX : ∀ l : Fin 128, X l = iblk m c 4 t (ix2 x l)) (hG : ∀ l, G l = iblk m c 8 t (ix2 (0 : Fin 1) l)) :
    back (turn (fun i => D i * ((Real.log 2 : ℝ) : EReal)) C S) X G l =
      specD (aP m c) (aQg m c) (aKg m c) (aQ m c) (aK m c) (aV m c) (row t x) ⟨512 + l.val, by omega⟩ := by
  rw [specD, dif_neg (by show ¬ 512 + l.val < 512; omega), dif_pos (by show 512 + l.val < 640; omega)]
  refine (pair_dx (k := 2) (aK m c (row t x)) (xk (aP m c) (row t x)) (aKg m c) (row t x).val 0 (by omega) (by omega) _ C S X G
    ?_ ?_ ?_ ?_ ?_ l).trans (congrArg (dx (k := 2) _ _ _ _) (Fin.ext (by show 0 + l.val = 512 + l.val - 512; omega)))
  · intro l _
    obtain ⟨r, hr⟩ := hk (row t x) l
    rw [hD, hr, ln2_back, ← hr]
    exact congrArg (aK m c (row t x)) (Fin.ext (by show l.val = 0 + l.val; omega))
  · intro l; rw [hC, rd5, cosK]
  · intro l; rw [hS, rd6, sin7]
  · intro l _; rw [hX, rd4]; refine (projK m c (row t x) l).trans (congrArg (aP m c (row t x)) (Fin.ext ?_)); show 512 + l.val = 512 + (0 + l.val); omega
  · intro l _; rw [hG, rd8]; exact gainK m c l

theorem ldX (X : S512x512.Idx → Elt Ideal .bf16) (o : ℕ) (i3) (ho : o + 128 ≤ 512) (x : Fin 512) (l : Fin 128) :
    extf FTy.f32 (shapeCast S512x128 (View.ld X (Rect.unit (s := S512x512) ![0, o] ![512, 128] i3) : S512x128.Idx → Elt Ideal .bf16) shapeCasts_S512x128_S512x128 : FVec Ideal S512x128 .bf16) bitsLt_bf16_f32 (ix2 x l) =
      X (ix2 x ⟨o + l.val, by omega⟩) := by
  pointwise

/-- One pair of q's heads, as the kernel's vectors. -/
theorem blockQ (c : Dev nD) (t : Fin cfg0.N) (a a' o : ℕ) (ha : a + 1 < 8) (h2 : a % 2 = 0) (ha' : a' = a + 1) (ho : o = a * 64) (x : Fin 512) (l : Fin 128) (y1 : Fin 768) (hy : y1.val = o + l.val)
    (W : S8x64x512.Idx → Elt Ideal .f32) (hW : W = iblk m c 0 t) (X : S512x512.Idx → Elt Ideal .bf16) (hX : X = X0_3 m c t) (i1 i2 i3) :
    backV (turnV (mulf (transpose S512x128 [1, 0] (concatenate S128x512 0 [⟨S64x512, shapeCast S64x512 (View.ld W (Rect.unit (s := S8x64x512) ![a, 0, 0] ![1, 64, 512] i1) : FVec Ideal S1x64x512 .f32) shapeCasts_S1x64x512_S64x512⟩,
          ⟨S64x512, shapeCast S64x512 (View.ld W (Rect.unit (s := S8x64x512) ![a', 0, 0] ![1, 64, 512] i2) : FVec Ideal S1x64x512 .f32) shapeCasts_S1x64x512_S64x512⟩] concatenates_S64x512_S64x512_S128x512_d0) transposes_S128x512_p1_0_S512x128)
        (broadcast S512x128 (Scalar.ofBits .f32 1040187392#32))) (shapeCast S512x128 (iblk m c 5 t : FVec Ideal S512x128 .f32) shapeCasts_S512x128_S512x128) (shapeCast S512x128 (iblk m c 6 t : FVec Ideal S512x128 .f32) shapeCasts_S512x128_S512x128))
      (extf FTy.f32 (shapeCast S512x128 (View.ld X (Rect.unit (s := S512x512) ![0, o] ![512, 128] i3) : FVec Ideal S512x128 .bf16) shapeCasts_S512x128_S512x128) bitsLt_bf16_f32) (shapeCast S1x128 (iblk m c 7 t : FVec Ideal S1x128 .f32) shapeCasts_S1x128_S1x128) (ix2 x l) =
      specD (aP m c) (aQg m c) (aKg m c) (aQ m c) (aK m c) (aV m c) (row t x) y1 := by
  subst ho ha'
  have e : y1 = ⟨a * 64 + l.val, by clear hy; omega⟩ := Fin.ext hy
  subst e
  rw [cot_eq8, backV_at]
  have e := fun i => turnV_at (mulf (cot (View.ld W (Rect.unit (s := S8x64x512) ![a, 0, 0] ![1, 64, 512] i1)) (View.ld W (Rect.unit (s := S8x64x512) ![a + 1, 0, 0] ![1, 64, 512] i2)))
        (broadcast S512x128 (Scalar.ofBits .f32 1040187392#32))) (shapeCast S512x128 (iblk m c 5 t : FVec Ideal S512x128 .f32) shapeCasts_S512x128_S512x128) (shapeCast S512x128 (iblk m c 6 t : FVec Ideal S512x128 .f32) shapeCasts_S512x128_S512x128) x i
  simp only [e]
  refine pieceQ m c t a ha h2 x l (fun i => cot (View.ld W (Rect.unit (s := S8x64x512) ![a, 0, 0] ![1, 64, 512] i1)) (View.ld W (Rect.unit (s := S8x64x512) ![a + 1, 0, 0] ![1, 64, 512] i2)) (ix2 x i)) _ _ _ _ ?_ ?_ ?_ ?_ ?_
  · intro l; rw [hW]; exact cotQ m c t a ha i1 i2 x l
  · intro l; exact congrFun (shapeCast_id _ _) _
  · intro l; exact congrFun (shapeCast_id _ _) _
  · intro l
    rw [← hX]
    exact ldX X (a * 64) i3 (by omega) x l
  · intro l; exact congrFun (shapeCast_id _ _) _

theorem blockK (c : Dev nD) (hk : ∀ n j, ∃ r : ℝ, aK m c n j = (r : EReal)) (t : Fin cfg0.N) (x : Fin 512) (l : Fin 128) (y1 : Fin 768) (hy : y1.val = 512 + l.val)
    (W : S2x64x512.Idx → Elt Ideal .f32) (hW : W = iblk m c 1 t) (i1 i2) :
    backV (turnV (k0_pay56 (View.ld W (Rect.unit (s := S2x64x512) ![0, 0, 0] ![1, 64, 512] i1)) (View.ld W (Rect.unit (s := S2x64x512) ![1, 0, 0] ![1, 64, 512] i2)))
        (shapeCast S512x128 (iblk m c 5 t : FVec Ideal S512x128 .f32) shapeCasts_S512x128_S512x128) (shapeCast S512x128 (iblk m c 6 t : FVec Ideal S512x128 .f32) shapeCasts_S512x128_S512x128))
      (extf FTy.f32 (shapeCast S512x128 (iblk m c 4 t : FVec Ideal S512x128 .bf16) shapeCasts_S512x128_S512x128) bitsLt_bf16_f32) (shapeCast S1x128 (iblk m c 8 t : FVec Ideal S1x128 .f32) shapeCasts_S1x128_S1x128) (ix2 x l) =
      specD (aP m c) (aQg m c) (aKg m c) (aQ m c) (aK m c) (aV m c) (row t x) y1 := by
  have e : y1 = ⟨512 + l.val, by clear hy; omega⟩ := Fin.ext hy
  subst e
  rw [backV_at, pay56]
  simp only [turnV_at]
  refine pieceK m c hk t x l (fun i => cot (View.ld W (Rect.unit (s := S2x64x512) ![0, 0, 0] ![1, 64, 512] i1)) (View.ld W (Rect.unit (s := S2x64x512) ![1, 0, 0] ![1, 64, 512] i2)) (ix2 x i)) _ _ _ _ ?_ ?_ ?_ ?_ ?_
  · intro l; rw [hW]; exact cotK m c t i1 i2 x l
  · intro l; exact congrFun (shapeCast_id _ _) _
  · intro l; exact congrFun (shapeCast_id _ _) _
  · intro l; exact congrFun (shapeCast_id (iblk m c 4 t : FVec Ideal S512x128 .bf16) _) _
  · intro l; exact congrFun (shapeCast_id _ _) _

set_option maxHeartbeats 2000000 in
theorem point (c : Dev nD) (hk : ∀ n j, ∃ r : ℝ, aK m c n j = (r : EReal)) (t : Fin cfg0.N) (y : S512x768.Idx) :
    (outsAt0 m c t.val t.isLt).1 y = specD (aP m c) (aQg m c) (aKg m c) (aQ m c) (aK m c) (aV m c) (row t (y 0)) (y 1) := by
  by_cases h0 : t.val % 8 = 0
  on_goal 1 => rw [outsAt0_A m c t h0]
  on_goal 2 => rw [outsAt0_B m c t h0]
  all_goals
    frame_out
    canon_tiles x h using View.cover_of_tiledBy _ ![512, 128] (by sl_kernel_rfl) y
    all_goals idx_vars x
    all_goals idx_vars y
    all_goals (have e : y0 = x0 := Fin.ext h0; subst e)
    case piece0 =>
      (have e : y1 = ⟨640 + x1.val, by clear * - x1; omega⟩ := Fin.ext (by assumption); subst e)
      erw [pay68, cotV]
      rw [specD, dif_neg (by show ¬ 640 + x1.val < 512; omega), dif_neg (by show ¬ 640 + x1.val < 640; omega)]
      exact congrArg (aV m c (row t y0)) (Fin.ext (by show x1.val = 640 + x1.val - 640; omega))
    case piece1 =>
      open_payloads
      change backV (turnV (mulf _ _) _ _) _ _ (ix2 _ _) = _
      try rw [Memref.IsWhole.read_unread]
      exact blockK m c hk t y0 x1 y1 h1 _ rfl _ _
    all_goals
      open_payloads
      change backV (turnV (mulf _ _) _ _) _ _ (ix2 _ _) = _
      rw [Memref.IsWhole.read_unread]
    case piece2 => exact blockQ m c t 6 7 384 (by decide) (by decide) rfl rfl y0 x1 y1 h1 _ rfl _ rfl _ _ _
    case piece3 => exact blockQ m c t 4 5 256 (by decide) (by decide) rfl rfl y0 x1 y1 h1 _ rfl _ rfl _ _ _
    case piece4 => exact blockQ m c t 2 3 128 (by decide) (by decide) rfl rfl y0 x1 y1 h1 _ rfl _ rfl _ _ _
    case piece5 => exact blockQ m c t 0 1 0 (by decide) (by decide) rfl rfl y0 x1 y1 (h1.trans (Nat.zero_add _).symm) _ rfl _ rfl _ _ _
end Cert.PrepValue
end
-- ==== Proof.Rows.lean ====
/- The rows of a block of sums, which a kernel stores one after another. -/
module

public import proofs.«01_k».proof.Proof.HeadNorm
public import Idealize.ShloMosaic.Lib.WritesUnit
public import Idealize.ShloMosaic.Lib.Pipeline.Value
public import Idealize.ShloMosaic.Lib.ValueIdx

@[expose] public section

set_option maxRecDepth 16384

noncomputable section

open Idealize.ShloMosaic Idealize.ShloMosaic.TcCoe Idealize.SL.Sem

namespace Cert.Rows

/-- Eight rows of `w` lanes. -/
abbrev S8 (w : ℕ) : Shape := ⟨2, ![8, w]⟩

variable {w : ℕ}

/-- One row, stored last. -/
theorem canonRow (r : ℕ) (inb : ∀ a : Fin 2, (![r, 0] : Fin 2 → ℕ) a + (![1, w] : Fin 2 → ℕ) a ≤ (S8 w).size a)
    (v : (Rect.unit (s := S8 w) ![r, 0] ![1, w] inb).shape.Idx → Elt Ideal .f32) (L : List (View.Piece (Elt Ideal) (S8 w) .f32)) (j : Fin 8) (l : Fin w) :
    View.canon (⟨Rect.unit (s := S8 w) ![r, 0] ![1, w] inb, v⟩ :: L) (ix2 j l) =
      if j.val = r then v (ix2 (0 : Fin 1) l) else View.canon L (ix2 j l) := by
  split
  · have e : (Rect.unit (s := S8 w) ![r, 0] ![1, w] inb).emb (ix2 (0 : Fin 1) l) = ix2 j l := by
      funext a
      refine Fin.ext ?_
      match a with
      | 0 => show r + 1 * 0 = j.val; omega
      | 1 => show 0 + 1 * l.val = l.val; omega
    rw [← e, View.canon_cons_emb]
  · refine View.canon_cons_of_not_mem _ _ ?_
    rw [Rect.mem_set_unit]
    intro hall
    have := hall 0
    change r ≤ j.val ∧ j.val < r + 1 at this
    omega

theorem viewRow {sig : RefSig} {κ : Kind} {sp : Space} {v : View sig κ sp (S8 w) .f32} (f : v.ty.Contents (Elt Ideal)) (r : ℕ) (inb : ∀ a : Fin 2, (![r, 0] : Fin 2 → ℕ) a + (![1, w] : Fin 2 → ℕ) a ≤ (S8 w).size a)
    (u : (Rect.unit (s := S8 w) ![r, 0] ![1, w] inb).shape.Idx → Elt Ideal .f32) (L : List (View.Piece (Elt Ideal) (S8 w) .f32)) (j : Fin 8) (l : Fin w) :
    v.read (Elt Ideal) (v.writes (Elt Ideal) f (⟨Rect.unit (s := S8 w) ![r, 0] ![1, w] inb, u⟩ :: L)) (ix2 j l) =
      if j.val = r then u (ix2 (0 : Fin 1) l) else v.read (Elt Ideal) (v.writes (Elt Ideal) f L) (ix2 j l) := by
  split
  · refine View.read_writes_cons_rows_of_mem v f inb u L (ix2 j l) (ix2 (0 : Fin 1) l) rfl ?_ rfl
    show j.val = r + 0; omega
  · refine View.read_writes_cons_rows_of_not_mem v f inb u L (ix2 j l) rfl rfl ?_
    show j.val < r ∨ r + 1 ≤ j.val; omega

/-- The row a load sees under the stores before it. -/
theorem readRow {sig : RefSig} {κ : Kind} {sp : Space} {v : View sig κ sp (S8 w) .f32} (r : ℕ) (inb : ∀ a : Fin 2, (![r, 0] : Fin 2 → ℕ) a + (![1, w] : Fin 2 → ℕ) a ≤ (S8 w).size a)
    (hr : r < 8) (L : List (View.Piece (Elt Ideal) (S8 w) .f32)) (l : Fin w) :
    v.readCov L (Rect.unit (s := S8 w) ![r, 0] ![1, w] inb).toLoadRect (ix2 (0 : Fin 1) l) = View.canon L (ix2 ⟨r, hr⟩ l) := by
  rw [View.readCov_eq_canon']
  refine congrArg (View.canon L) ?_
  funext a
  refine Fin.ext ?_
  match a with
  | 0 => show r + 1 * 0 = r; omega
  | 1 => show 0 + 1 * l.val = l.val; omega

theorem ldRow (X : (S8 w).Idx → Elt Ideal .f32) (r : ℕ) (inb : ∀ a : Fin 2, (![r, 0] : Fin 2 → ℕ) a + (![1, w] : Fin 2 → ℕ) a ≤ (S8 w).size a)
    (hr : r < 8) (l : Fin w) :
    View.ld X (Rect.unit (s := S8 w) ![r, 0] ![1, w] inb) (ix2 (0 : Fin 1) l) = X (ix2 ⟨r, hr⟩ l) := by
  refine congrArg X ?_
  funext a
  refine Fin.ext ?_
  match a with
  | 0 => show r + 1 * 0 = r; omega
  | 1 => show 0 + 1 * l.val = l.val; omega

end Cert.Rows

end
-- ==== Proof.PrepRows.lean ====
/- The rows of the gains' gradient, as the kernel stores them one after another. -/
module
public import proofs.«01_k».proof.Proof.PrepBlock
public import proofs.«01_k».proof.Proof.Rows
@[expose] public section
set_option maxRecDepth 16384
noncomputable section
open Idealize.ShloMosaic Idealize.ShloMosaic.TcCoe Idealize.SL.Sem
open Idealize.ShloMosaic.Pipeline (Dat)
namespace Cert.PrepValue
open Cert.PrepKernelIdeal Cert.PrepKernelIdeal.Gen HeadNorm
open Rows (canonRow viewRow readRow ldRow)

/-- A row with the sums of a block added to it. -/
theorem addRow (a : FVec Ideal S1x128 .f32) (b : FVec Ideal S128 .f32) (p1 p2) (l : Fin 128) :
    addf (shapeCast S1x128 a p1) (shapeCast S1x128 b p2) (ix2 (0 : Fin 1) l) = a (ix2 (0 : Fin 1) l) + b (ix1 l) := by
  pointwise

variable (m : (ℓ : Loc nD τ sig) → Buf (Elt Ideal) ℓ)

/-- The first point: each row starts at zero. -/
theorem rowsA (c : Dev nD) (t : Fin cfg0.N) (j : Fin 8) (l : Fin 128) (s0 s1 s2 s3 s4 : FVec Ideal S128 .f32)
   (z : S8x128.Idx → Elt Ideal .f32) (i8 i0 i1 p1 p2) :
  let v := (ms0_10 t).view
  let R0 := Rect.unit (s := S8x128) ![0, 0] ![1, 128] i0
  let R1 := Rect.unit (s := S8x128) ![1, 0] ![1, 128] i1
  let L0 : List (View.Piece (Elt Ideal) S8x128 .f32) := [⟨Rect.unit (s := S8x128) ![0, 0] ![8, 128] i8, z⟩]
  let L1 : List (View.Piece (Elt Ideal) S8x128 .f32) := ⟨R0, addf (shapeCast S1x128 (v.readCov L0 R0.toLoadRect) p1) (shapeCast S1x128 s0 p2)⟩ :: L0
  let L2 : List (View.Piece (Elt Ideal) S8x128 .f32) := ⟨R0, addf (shapeCast S1x128 (v.readCov L1 R0.toLoadRect) p1) (shapeCast S1x128 s1 p2)⟩ :: L1
  let L3 : List (View.Piece (Elt Ideal) S8x128 .f32) := ⟨R0, addf (shapeCast S1x128 (v.readCov L2 R0.toLoadRect) p1) (shapeCast S1x128 s2 p2)⟩ :: L2
  let L4 : List (View.Piece (Elt Ideal) S8x128 .f32) := ⟨R0, addf (shapeCast S1x128 (v.readCov L3 R0.toLoadRect) p1) (shapeCast S1x128 s3 p2)⟩ :: L3
  View.canon (⟨R1, addf (shapeCast S1x128 (v.readCov L4 R1.toLoadRect) p1) (shapeCast S1x128 s4 p2)⟩ :: L4) (ix2 j l) =
    if j.val = 1 then z (ix2 (1 : Fin 8) l) + s4 (ix1 l) else if j.val = 0 then z (ix2 (0 : Fin 8) l) + s0 (ix1 l) + s1 (ix1 l) + s2 (ix1 l) + s3 (ix1 l) else z (ix2 j l) := by
  intro v R0 R1 L0 L1 L2 L3 L4
  have h0 : ∀ j : Fin 8, View.canon L0 (ix2 j l) = z (ix2 j l) := fun j => by
    rw [View.canon_cons_unit_lit (S := S8x128) i8 z [] (by decide)]
  have r0 : ∀ (L : List (View.Piece (Elt Ideal) S8x128 .f32)), v.readCov L R0.toLoadRect (ix2 (0 : Fin 1) l) = View.canon L (ix2 (0 : Fin 8) l) :=
    fun L => readRow 0 i0 (by decide) L l
  have r1 : ∀ (L : List (View.Piece (Elt Ideal) S8x128 .f32)), v.readCov L R1.toLoadRect (ix2 (0 : Fin 1) l) = View.canon L (ix2 (1 : Fin 8) l) :=
    fun L => readRow 1 i1 (by decide) L l
  have add : ∀ (L : List (View.Piece (Elt Ideal) S8x128 .f32)) (s : FVec Ideal S128 .f32) (j : Fin 8),
      View.canon (⟨R0, addf (shapeCast S1x128 (v.readCov L R0.toLoadRect) p1) (shapeCast S1x128 s p2)⟩ :: L) (ix2 j l) =
        if j.val = 0 then View.canon L (ix2 (0 : Fin 8) l) + s (ix1 l) else View.canon L (ix2 j l) := fun L s j => by
    refine (canonRow 0 i0 _ L j l).trans ?_
    split
    · exact (addRow _ _ _ _ _).trans (congrArg (· + _) (r0 L))
    · rfl
  have h1 := add L0 s0
  have h2 := add L1 s1
  have h3 := add L2 s2
  have h4 := add L3 s3
  refine (canonRow 1 i1 _ L4 j l).trans ?_
  split
  · refine (addRow _ _ _ _ _).trans (congrArg (· + _) ((r1 L4).trans ?_))
    rw [h4, if_neg (by decide), h3, if_neg (by decide), h2, if_neg (by decide), h1, if_neg (by decide), h0]
  · rw [h4]
    split
    · rw [h3, if_pos (by decide), h2, if_pos (by decide), h1, if_pos (by decide), h0]
    · rw [h3, if_neg ‹_›, h2, if_neg ‹_›, h1, if_neg ‹_›, h0]

/-- A later point: each row goes on from what the point before left. -/
theorem rowsB (c : Dev nD) (t : Fin cfg0.N) (j : Fin 8) (l : Fin 128) (s0 s1 s2 s3 s4 : FVec Ideal S128 .f32)
   (z : S8x128.Idx → Elt Ideal .f32) (f : (ms0_10 t).view.ty.Contents (Elt Ideal)) (hf : (ms0_10 t).view.read (Elt Ideal) f = z) (i0 i1 p1 p2) :
  let v := (ms0_10 t).view
  let R0 := Rect.unit (s := S8x128) ![0, 0] ![1, 128] i0
  let R1 := Rect.unit (s := S8x128) ![1, 0] ![1, 128] i1
  let L1 : List (View.Piece (Elt Ideal) S8x128 .f32) := [⟨R0, addf (shapeCast S1x128 (View.ld z R0) p1) (shapeCast S1x128 s0 p2)⟩]
  let L2 : List (View.Piece (Elt Ideal) S8x128 .f32) := ⟨R0, addf (shapeCast S1x128 (v.readCov L1 R0.toLoadRect) p1) (shapeCast S1x128 s1 p2)⟩ :: L1
  let L3 : List (View.Piece (Elt Ideal) S8x128 .f32) := ⟨R0, addf (shapeCast S1x128 (v.readCov L2 R0.toLoadRect) p1) (shapeCast S1x128 s2 p2)⟩ :: L2
  let L4 : List (View.Piece (Elt Ideal) S8x128 .f32) := ⟨R0, addf (shapeCast S1x128 (v.readCov L3 R0.toLoadRect) p1) (shapeCast S1x128 s3 p2)⟩ :: L3
  v.read (Elt Ideal) (v.writes (Elt Ideal) f (⟨R1, addf (shapeCast S1x128 (View.ld z R1) p1) (shapeCast S1x128 s4 p2)⟩ :: L4)) (ix2 j l) =
    if j.val = 1 then z (ix2 (1 : Fin 8) l) + s4 (ix1 l) else if j.val = 0 then z (ix2 (0 : Fin 8) l) + s0 (ix1 l) + s1 (ix1 l) + s2 (ix1 l) + s3 (ix1 l) else z (ix2 j l) := by
  intro v R0 R1 L1 L2 L3 L4
  have top : ∀ (w : R0.shape.Idx → Elt Ideal .f32) (L : List (View.Piece (Elt Ideal) S8x128 .f32)) (s : FVec Ideal S128 .f32),
      addf (shapeCast S1x128 (v.readCov (⟨R0, w⟩ :: L) R0.toLoadRect) p1) (shapeCast S1x128 s p2) (ix2 (0 : Fin 1) l) = w (ix2 (0 : Fin 1) l) + s (ix1 l) := fun w L s =>
    (addRow _ _ _ _ _).trans (congrArg (· + _) (congrFun (View.readCov_cons_toLoadRect v R0 w L) _))
  refine (viewRow f 1 i1 _ L4 j l).trans ?_
  split
  · exact (addRow _ _ _ _ _).trans (congrArg (· + _) (ldRow z 1 i1 (by decide) l))
  · refine (viewRow f 0 i0 _ L3 j l).trans ?_
    split
    · refine (top _ L2 s3).trans (congrArg (· + _) ((top _ L1 s2).trans (congrArg (· + _) ((top _ [] s1).trans (congrArg (· + _) ?_)))))
      exact (addRow _ _ _ _ _).trans (congrArg (· + _) (ldRow z 0 i0 (by decide) l))
    · refine (viewRow f 0 i0 _ L2 j l).trans ?_
      rw [if_neg ‹_›]
      refine (viewRow f 0 i0 _ L1 j l).trans ?_
      rw [if_neg ‹_›]
      refine (viewRow f 0 i0 _ [] j l).trans ?_
      rw [if_neg ‹_›]
      exact congrFun hf _
end Cert.PrepValue
end
-- ==== Proof.PrepSums.lean ====
/- The two results of the kernel, whole. -/
module
public import proofs.«01_k».proof.Proof.PrepRows
@[expose] public section
set_option maxRecDepth 16384
noncomputable section
open Idealize.ShloMosaic Idealize.ShloMosaic.TcCoe Idealize.SL.Sem
open Idealize.ShloMosaic.Pipeline (Dat)
namespace Cert.PrepValue
open Cert.PrepKernelIdeal Cert.PrepKernelIdeal.Gen HeadNorm
variable (m : (ℓ : Loc nD τ sig) → Buf (Elt Ideal) ℓ)

/-- A sum down the rows of a block. -/
theorem colsum (v : FVec Ideal S512x128 .f32) (p1 p2 p3) (l : Fin 128) :
    multiReduction .add [0] S128 v 0#32 p1 p2 p3 (ix1 l) = ∑ x : Fin 512, v (ix2 x l) := by
  pointwise

/-- The part of the sums block `t` adds. -/
def part (c : Dev nD) (t : Fin cfg0.N) (j : Fin 8) (l : Fin 128) : EReal :=
  if j.val = 1 then ∑ x : Fin 512, gx (k := 2) (aK m c (row t x)) (xk (aP m c) (row t x)) (row t x).val l
  else if j.val = 0 then ∑ b : Fin 4, ∑ x : Fin 512, gx (k := 8) (dq (aQ m c) (row t x)) (xq (aP m c) (row t x)) (row t x).val ⟨b.val * 128 + l.val, by show _ < 512; omega⟩
  else 0

theorem partQ (c : Dev nD) (t : Fin cfg0.N) (b : ℕ) (hb : b < 4) (x : Fin 512) (l : Fin 128)
    (D C S X : Fin 128 → EReal) (hD : ∀ l : Fin 128, D l = aQ m c (row t x) ⟨2 * b * 64 + l.val, by omega⟩)
    (hC : ∀ l, C l = iblk m c 5 t (ix2 x l)) (hS : ∀ l, S l = iblk m c 6 t (ix2 x l))
    (hX : ∀ l : Fin 128, X l = X0_3 m c t (ix2 x ⟨2 * b * 64 + l.val, by omega⟩)) :
    gain (turn (fun i => D i * c8) C S) X l =
      gx (k := 8) (dq (aQ m c) (row t x)) (xq (aP m c) (row t x)) (row t x).val ⟨b * 128 + l.val, by show _ < 512; omega⟩ := by
  refine (pair_gx (k := 8) (dq (aQ m c) (row t x)) (xq (aP m c) (row t x)) (row t x).val (2 * b * 64) (by omega) (by omega) _ C S X
    ?_ ?_ ?_ ?_ l).trans (congrArg (gx (k := 8) _ _ _) (Fin.ext (by show 2 * b * 64 + l.val = b * 128 + l.val; omega)))
  · intro l _; exact congrArg (· * c8) (hD l)
  · intro l; rw [hC, rd5, cosK]
  · intro l; rw [hS, rd6, sin7]
  · intro l _; rw [hX, rd3]; exact projQ m c (row t x) ⟨2 * b * 64 + l.val, by omega⟩

theorem partK (c : Dev nD) (hk : ∀ n j, ∃ r : ℝ, aK m c n j = (r : EReal)) (t : Fin cfg0.N) (x : Fin 512) (l : Fin 128)
    (D C S X : Fin 128 → EReal) (hD : ∀ l : Fin 128, D l = Ideal.div (aK m c (row t x) l) (Ideal.log (Ideal.ofBits FTy.f32 1073741824#32)))
    (hC : ∀ l, C l = iblk m c 5 t (ix2 x l)) (hS : ∀ l, S l = iblk m c 6 t (ix2 x l))
    (hX : ∀ l : Fin 128, X l = iblk m c 4 t (ix2 x l)) :
    gain (turn (fun i => D i * ((Real.log 2 : ℝ) : EReal)) C S) X l =
      gx (k := 2) (aK m c (row t x)) (xk (aP m c) (row t x)) (row t x).val l := by
  refine (pair_gx (k := 2) (aK m c (row t x)) (xk (aP m c) (row t x)) (row t x).val 0 (by omega) (by omega) _ C S X
    ?_ ?_ ?_ ?_ l).trans (congrArg (gx (k := 2) _ _ _) (Fin.ext (by show 0 + l.val = l.val; omega)))
  · intro l _
    obtain ⟨r, hr⟩ := hk (row t x) l
    rw [hD, hr, ln2_back, ← hr]
    exact congrArg (aK m c (row t x)) (Fin.ext (by show l.val = 0 + l.val; omega))
  · intro l; rw [hC, rd5, cosK]
  · intro l; rw [hS, rd6, sin7]
  · intro l _; rw [hX, rd4]; refine (projK m c (row t x) l).trans (congrArg (aP m c (row t x)) (Fin.ext ?_)); show 512 + l.val = 512 + (0 + l.val); omega

/-- A block's sums over two of q's heads, as the kernel's vectors. -/
theorem sumQ (c : Dev nD) (t : Fin cfg0.N) (b a a' o : ℕ) (hb : b < 4) (ha : a = 2 * b) (ha' : a' = 2 * b + 1) (ho : o = 2 * b * 64) (l : Fin 128)
    (W : S8x64x512.Idx → Elt Ideal .f32) (hW : W = iblk m c 0 t) (X : S512x512.Idx → Elt Ideal .bf16) (hX : X = X0_3 m c t) (i1 i2 i3 p1 p2 p3) :
    multiReduction .add [0] S128 (gainV (turnV (mulf (transpose S512x128 [1, 0] (concatenate S128x512 0 [⟨S64x512, shapeCast S64x512 (View.ld W (Rect.unit (s := S8x64x512) ![a, 0, 0] ![1, 64, 512] i1) : FVec Ideal S1x64x512 .f32) shapeCasts_S1x64x512_S64x512⟩,
          ⟨S64x512, shapeCast S64x512 (View.ld W (Rect.unit (s := S8x64x512) ![a', 0, 0] ![1, 64, 512] i2) : FVec Ideal S1x64x512 .f32) shapeCasts_S1x64x512_S64x512⟩] concatenates_S64x512_S64x512_S128x512_d0) transposes_S128x512_p1_0_S512x128)
        (broadcast S512x128 (Scalar.ofBits .f32 1040187392#32))) (shapeCast S512x128 (iblk m c 5 t : FVec Ideal S512x128 .f32) shapeCasts_S512x128_S512x128) (shapeCast S512x128 (iblk m c 6 t : FVec Ideal S512x128 .f32) shapeCasts_S512x128_S512x128))
      (extf FTy.f32 (shapeCast S512x128 (View.ld X (Rect.unit (s := S512x512) ![0, o] ![512, 128] i3) : FVec Ideal S512x128 .bf16) shapeCasts_S512x128_S512x128) bitsLt_bf16_f32)) 0#32 p1 p2 p3 (ix1 l) =
      ∑ x : Fin 512, gx (k := 8) (dq (aQ m c) (row t x)) (xq (aP m c) (row t x)) (row t x).val ⟨b * 128 + l.val, by show _ < 512; omega⟩ := by
  subst ho ha' ha
  rw [cot_eq8, colsum]
  refine Finset.sum_congr rfl fun x _ => ?_
  rw [gainV_at]
  simp only [turnV_at]
  refine partQ m c t b hb x l (fun i => cot (View.ld W (Rect.unit (s := S8x64x512) ![2 * b, 0, 0] ![1, 64, 512] i1)) (View.ld W (Rect.unit (s := S8x64x512) ![2 * b + 1, 0, 0] ![1, 64, 512] i2)) (ix2 x i)) _ _ _ ?_ ?_ ?_ ?_
  · intro l; rw [hW]; exact cotQ m c t (2 * b) (by omega) i1 i2 x l
  · intro l; exact congrFun (shapeCast_id _ _) _
  · intro l; exact congrFun (shapeCast_id _ _) _
  · intro l
    rw [← hX]
    exact ldX X (2 * b * 64) i3 (by omega) x l

theorem sumK (c : Dev nD) (hk : ∀ n j, ∃ r : ℝ, aK m c n j = (r : EReal)) (t : Fin cfg0.N) (l : Fin 128)
    (W : S2x64x512.Idx → Elt Ideal .f32) (hW : W = iblk m c 1 t) (i1 i2 p1 p2 p3) :
    multiReduction .add [0] S128 (gainV (turnV (k0_pay56 (View.ld W (Rect.unit (s := S2x64x512) ![0, 0, 0] ![1, 64, 512] i1)) (View.ld W (Rect.unit (s := S2x64x512) ![1, 0, 0] ![1, 64, 512] i2)))
        (shapeCast S512x128 (iblk m c 5 t : FVec Ideal S512x128 .f32) shapeCasts_S512x128_S512x128) (shapeCast S512x128 (iblk m c 6 t : FVec Ideal S512x128 .f32) shapeCasts_S512x128_S512x128))
      (extf FTy.f32 (shapeCast S512x128 (iblk m c 4 t : FVec Ideal S512x128 .bf16) shapeCasts_S512x128_S512x128) bitsLt_bf16_f32)) 0#32 p1 p2 p3 (ix1 l) =
      ∑ x : Fin 512, gx (k := 2) (aK m c (row t x)) (xk (aP m c) (row t x)) (row t x).val l := by
  rw [pay56, colsum]
  refine Finset.sum_congr rfl fun x _ => ?_
  rw [gainV_at]
  simp only [turnV_at]
  refine partK m c hk t x l (fun i => cot (View.ld W (Rect.unit (s := S2x64x512) ![0, 0, 0] ![1, 64, 512] i1)) (View.ld W (Rect.unit (s := S2x64x512) ![1, 0, 0] ![1, 64, 512] i2)) (ix2 x i)) _ _ _ ?_ ?_ ?_ ?_
  · intro l; rw [hW]; exact cotK m c t i1 i2 x l
  · intro l; exact congrFun (shapeCast_id _ _) _
  · intro l; exact congrFun (shapeCast_id _ _) _
  · intro l; exact congrFun (shapeCast_id (iblk m c 4 t : FVec Ideal S512x128 .bf16) _) _

/-- What the rows hold after the sums of a block are added to `z`. -/
theorem addPart (c : Dev nD) (t : Fin cfg0.N) (j : Fin 8) (l : Fin 128) (z : Fin 8 → EReal) (s4 s0 s1 s2 s3 : EReal)
    (h4 : s4 = ∑ x : Fin 512, gx (k := 2) (aK m c (row t x)) (xk (aP m c) (row t x)) (row t x).val l)
    (h0 : s0 = ∑ x : Fin 512, gx (k := 8) (dq (aQ m c) (row t x)) (xq (aP m c) (row t x)) (row t x).val ⟨0 * 128 + l.val, by show _ < 512; omega⟩)
    (h1 : s1 = ∑ x : Fin 512, gx (k := 8) (dq (aQ m c) (row t x)) (xq (aP m c) (row t x)) (row t x).val ⟨1 * 128 + l.val, by show _ < 512; omega⟩)
    (h2 : s2 = ∑ x : Fin 512, gx (k := 8) (dq (aQ m c) (row t x)) (xq (aP m c) (row t x)) (row t x).val ⟨2 * 128 + l.val, by show _ < 512; omega⟩)
    (h3 : s3 = ∑ x : Fin 512, gx (k := 8) (dq (aQ m c) (row t x)) (xq (aP m c) (row t x)) (row t x).val ⟨3 * 128 + l.val, by show _ < 512; omega⟩) :
    (if j.val = 1 then z 1 + s4 else if j.val = 0 then z 0 + s0 + s1 + s2 + s3 else z j) = z j + part m c t j l := by
  unfold part
  split
  · rw [h4, show j = 1 from Fin.ext ‹_›]
  split
  · rw [h0, h1, h2, h3, show j = 0 from Fin.ext ‹_›, Fin.sum_univ_four, ← add_assoc, ← add_assoc, ← add_assoc]
    rfl
  · rw [add_zero]

set_option maxHeartbeats 4000000 in
theorem sumsA (c : Dev nD) (hk : ∀ n j, ∃ r : ℝ, aK m c n j = (r : EReal)) (t : Fin cfg0.N) (h0 : t.val % 8 = 0) (j : Fin 8) (l : Fin 128) :
    (outsAt0 m c t.val t.isLt).2 (ix2 j l) = 0 + part m c t j l := by
  have hz : ∀ i, (broadcast S8x128 (Scalar.ofBits (F := Ideal) .f32 0#32) : FVec Ideal S8x128 .f32) i = 0 := fun i => by pointwise
  rw [outsAt0_A m c t h0]
  frame_out
  open_payloads
  refine (rowsA c t j l _ _ _ _ _ _ _ _ _ _ _).trans ?_
  refine (addPart m c t j l (fun j => (broadcast S8x128 (Scalar.ofBits (F := Ideal) .f32 0#32) : FVec Ideal S8x128 .f32) (ix2 j l)) _ _ _ _ _ ?_ ?_ ?_ ?_ ?_).trans ?_
  on_goal 6 => exact congrArg (· + _) (hz _)
  all_goals
    change multiReduction .add [0] S128 (gainV (turnV (mulf _ _) _ _) _) _ _ _ _ (ix1 l) = _
    try rw [Memref.IsWhole.read_unread]
  · exact sumK m c hk t l _ rfl _ _ _ _ _
  · exact sumQ m c t 0 0 1 0 (by decide) rfl rfl rfl l _ rfl _ rfl _ _ _ _ _ _
  · exact sumQ m c t 1 2 3 128 (by decide) rfl rfl rfl l _ rfl _ rfl _ _ _ _ _ _
  · exact sumQ m c t 2 4 5 256 (by decide) rfl rfl rfl l _ rfl _ rfl _ _ _ _ _ _
  · exact sumQ m c t 3 6 7 384 (by decide) rfl rfl rfl l _ rfl _ rfl _ _ _ _ _ _

set_option maxHeartbeats 4000000 in
theorem sumsB (c : Dev nD) (hk : ∀ n j, ∃ r : ℝ, aK m c n j = (r : EReal)) (t : Fin cfg0.N) (h0 : ¬ t.val % 8 = 0) (j : Fin 8) (l : Fin 128) :
    (outsAt0 m c t.val t.isLt).2 (ix2 j l) = (outsAt0 m c (t.val - 1) (by omega)).2 (ix2 j l) + part m c t j l := by
  rw [outsAt0_B m c t h0]
  frame_out
  open_payloads
  generalize (outsAt0 m c (t.val - 1) _).2 = z
  refine (rowsB c t j l _ _ _ _ _ z _ (Memref.IsWhole.read_unread _ _) _ _ _ _).trans ?_
  refine addPart m c t j l (fun j => z (ix2 j l)) _ _ _ _ _ ?_ ?_ ?_ ?_ ?_
  all_goals
    change multiReduction .add [0] S128 (gainV (turnV (mulf _ _) _ _) _) _ _ _ _ (ix1 l) = _
    try rw [Memref.IsWhole.read_unread]
  · exact sumK m c hk t l _ rfl _ _ _ _ _
  · exact sumQ m c t 0 0 1 0 (by decide) rfl rfl rfl l _ rfl _ rfl _ _ _ _ _ _
  · exact sumQ m c t 1 2 3 128 (by decide) rfl rfl rfl l _ rfl _ rfl _ _ _ _ _ _
  · exact sumQ m c t 2 4 5 256 (by decide) rfl rfl rfl l _ rfl _ rfl _ _ _ _ _ _
  · exact sumQ m c t 3 6 7 384 (by decide) rfl rfl rfl l _ rfl _ rfl _ _ _ _ _ _
end Cert.PrepValue
end
-- ==== Proof.PrepFinal.lean ====
/- The whole results of the kernel. -/
module
public import proofs.«01_k».proof.Proof.PrepSums
@[expose] public section
set_option maxRecDepth 16384
noncomputable section
open Idealize.ShloMosaic Idealize.ShloMosaic.TcCoe Idealize.SL.Sem
open Idealize.ShloMosaic.Pipeline (Dat)
namespace Cert.PrepValue
open Cert.PrepKernelIdeal Cert.PrepKernelIdeal.Gen HeadNorm
variable (m : (ℓ : Loc nD τ sig) → Buf (Elt Ideal) ℓ)

/-- The gradient of the projection. -/
abbrev GD (c : Dev nD) : Fin 4096 → Fin 768 → EReal := specD (aP m c) (aQg m c) (aKg m c) (aQ m c) (aK m c) (aV m c)

/-- The gradients of the gains. -/
abbrev GS (c : Dev nD) : Fin 8 → Fin 128 → EReal := specS (aP m c) (aQ m c) (aK m c)

theorem final9 (c : Dev nD) (hk : ∀ n j, ∃ r : ℝ, aK m c n j = (r : EReal)) :
    (dats m 0 c).arrAt 9 (cfgs 0).N = (fun i => GD m c (i 0) (i 1) : FVec Ideal S4096x768 .bf16) := by
  refine (dats m 0 c).arrAt_eq_of_covers 9 _ (by decide +kernel) fun t hf y => ?_
  blk_simp
  rw [after0_9]
  refine (point m c hk t y).trans ?_
  idx_vars y
  show _ = GD m c ((((cfg0.win 9).blk t).view.emb (ix2 y0 y1)) 0) ((((cfg0.win 9).blk t).view.emb (ix2 y0 y1)) 1)
  rw [out_at]
  rfl

/-- Blocks of 512 rows are the 4096 rows. -/
theorem sum_rows (F : Fin 4096 → EReal) : ∑ t : Fin cfg0.N, ∑ x : Fin 512, F (row t x) = ∑ n : Fin 4096, F n :=
  Fin.sum_mul_add_congr (fun _ _ _ => rfl) (by show 4096 = grid0.N * 512; rw [N_0])

theorem sums (c : Dev nD) (j : Fin 8) (l : Fin 128) : ∑ t : Fin cfg0.N, part m c t j l = GS m c j l := by
  unfold part GS specS
  by_cases h : j.val = 1
  · have h' : ¬ j.val = 0 := by omega
    simp only [h, h', ↓reduceIte]
    exact sum_rows (fun n => gx (k := 2) (aK m c n) (xk (aP m c) n) n.val l)
  by_cases h' : j.val = 0
  · simp only [if_neg h, if_pos h']
    rw [Finset.sum_comm]
    rw [Finset.sum_comm (s := (Finset.univ : Finset (Fin 4096)))]
    exact Finset.sum_congr rfl fun b _ => sum_rows (fun n => gx (k := 8) (dq (aQ m c) n) (xq (aP m c) n) n.val ⟨b.val * 128 + l.val, by show _ < 512; omega⟩)
  · simp only [if_neg h, if_neg h']
    exact Finset.sum_const_zero

theorem final10 (c : Dev nD) (hk : ∀ n j, ∃ r : ℝ, aK m c n j = (r : EReal)) :
    (dats m 0 c).arrAt 10 (cfgs 0).N = (fun i => GS m c (i 0) (i 1) : FVec Ideal S8x128 .f32) := by
  refine (dats m 0 c).arrAt_eq_of_after_last 10 t0_7 (by decide +kernel) _ fun j => ?_
  blk_simp
  rw [after0_10]
  rw [Pipeline.eq_sum_fin_of_reset_step_apply_last (fun n h => (outsAt0 m c n h).2) 8 (fun _ => 0)
    (fun t j => part m c t (j 0) (j 1)) (fun t h j => by idx_vars j; exact sumsA m c hk t h _ _)
    (fun t h j => by idx_vars j; exact sumsB m c hk t h _ _) (le_of_eq N_0) t0_7 rfl j, zero_add]
  exact sums m c _ _
end Cert.PrepValue
end
-- ==== Proof.PrepReference.lean ====
/- The reference of the retrieval of q and k: its rotation tables, and the cotangents turned back by them. -/
module

public import proofs.«01_k».proof.Proof.Gen.PrepReferenceIdeal.Read
public import proofs.«01_k».proof.Proof.PrepFinal
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.PrepRef

open Cert.PrepReferenceIdeal Cert.PrepReferenceIdeal.Read HeadNorm
open FinValue (at2)
open PrepValue (c8 dq xq xk)

/-- The embedding's transpose on one head, as the derivative of its concatenations is written. -/
theorem rope_ref (d : Fin 64 → EReal) (n : ℕ) (e : Fin 64) :
    (if h1 : e.val < 32 then
      if h2 : e.val < 16 then
        d ⟨16 + e.val, by omega⟩ * Ideal.sin (Rope.angle (n / 64) e.val) + d ⟨e.val, e.isLt⟩ * Ideal.cos (Rope.angle (n / 64) e.val)
      else
        d ⟨16 + (e.val - 16), by omega⟩ * Ideal.cos (Rope.angle (n / 64) (e.val - 16)) +
          -d ⟨e.val - 16, by omega⟩ * Ideal.sin (Rope.angle (n / 64) (e.val - 16))
    else
      if h2 : e.val - 32 < 16 then
        d ⟨32 + (16 + (e.val - 32)), by omega⟩ * Ideal.sin (Rope.angle (n % 64) (e.val - 32)) +
          d ⟨32 + (e.val - 32), by omega⟩ * Ideal.cos (Rope.angle (n % 64) (e.val - 32))
      else
        d ⟨32 + (16 + (e.val - 32 - 16)), by omega⟩ * Ideal.cos (Rope.angle (n % 64) (e.val - 32 - 16)) +
          -d ⟨32 + (e.val - 32 - 16), by omega⟩ * Ideal.sin (Rope.angle (n % 64) (e.val - 32 - 16))) =
      Rope.ropeT (k := 2) d n e := by
  have he := e.isLt
  split
  · split
    · exact Rope.ropeT_of_lo (k := 2) d n e _ _ _ (by omega) (by show 16 + e.val = _; omega) rfl
        (Rope.ang_row (by omega) (by omega))
    · exact Rope.ropeT_of_hi (k := 2) d n e _ _ _ (by omega) (by show e.val - 16 = _; omega) (by show 16 + (e.val - 16) = _; omega)
        (Rope.ang_row (by omega) (by omega))
  · split
    · exact Rope.ropeT_of_lo (k := 2) d n e _ _ _ (by omega) (by show 32 + (16 + (e.val - 32)) = _; omega)
        (by show 32 + (e.val - 32) = _; omega) (Rope.ang_col (by omega) (by omega))
    · exact Rope.ropeT_of_hi (k := 2) d n e _ _ _ (by omega) (by show 32 + (e.val - 32 - 16) = _; omega)
        (by show 32 + (16 + (e.val - 32 - 16)) = _; omega) (Rope.ang_col (by omega) (by omega))

theorem cosRowQ (n : Fin 4096) (i : Fin 16) (z : Fin 1) : (val_main_v64 (F := Ideal)) (ix3 n z i) = Ideal.cos (Rope.angle (n.val / 64) i.val) := by
  have hn := n.isLt
  pointwise [val_main_cst, val_main_cst_0, val_main_cst_1, val_main_cst_2, val_main_cst_3, val_main_cst_4, val_main_cst_5, val_main_cst_6,
    val_main_cst_7, val_main_cst_8, val_main_cst_9, val_main_cst_10, val_main_cst_11, val_main_cst_12, val_main_cst_13,
    val_main_cst_14, val_main_cst_15, val_main_cst_16, val_main_cst_17, val_main_cst_18, val_main_cst_19, val_main_cst_20,
    val_main_cst_21, val_main_cst_22, val_main_cst_23, val_main_cst_24, val_main_cst_25, val_main_cst_26, val_main_cst_27,
    val_main_cst_28, val_main_v26, val_main_v27, val_main_v28, val_main_v29, val_main_v30, val_main_v31, val_main_v32,
    val_main_v33, val_main_v34, val_main_v35, val_main_v36, val_main_v37, val_main_v38, val_main_v39, val_main_v40, val_main_v41,
    val_main_v42, val_main_v43, val_main_v44, val_main_v45, val_main_v46, val_main_v47, val_main_v48, val_main_v49, val_main_v50,
    val_main_v51, val_main_v52, val_main_v53, val_main_v54, val_main_v55, val_main_v56, val_main_v57, val_main_v58, val_main_v59,
    val_main_v60, val_main_v61, val_main_v62, val_main_v63, val_main_v64]
  rw [Rope.angle]

theorem sinRowQ (n : Fin 4096) (i : Fin 16) (z : Fin 1) : (val_main_v65 (F := Ideal)) (ix3 n z i) = Ideal.sin (Rope.angle (n.val / 64) i.val) := by
  have hn := n.isLt
  pointwise [val_main_cst, val_main_cst_0, val_main_cst_1, val_main_cst_2, val_main_cst_3, val_main_cst_4, val_main_cst_5, val_main_cst_6,
    val_main_cst_7, val_main_cst_8, val_main_cst_9, val_main_cst_10, val_main_cst_11, val_main_cst_12, val_main_cst_13,
    val_main_cst_14, val_main_cst_15, val_main_cst_16, val_main_cst_17, val_main_cst_18, val_main_cst_19, val_main_cst_20,
    val_main_cst_21, val_main_cst_22, val_main_cst_23, val_main_cst_24, val_main_cst_25, val_main_cst_26, val_main_cst_27,
    val_main_cst_28, val_main_v26, val_main_v27, val_main_v28, val_main_v29, val_main_v30, val_main_v31, val_main_v32,
    val_main_v33, val_main_v34, val_main_v35, val_main_v36, val_main_v37, val_main_v38, val_main_v39, val_main_v40, val_main_v41,
    val_main_v42, val_main_v43, val_main_v44, val_main_v45, val_main_v46, val_main_v47, val_main_v48, val_main_v49, val_main_v50,
    val_main_v51, val_main_v52, val_main_v53, val_main_v54, val_main_v55, val_main_v56, val_main_v57, val_main_v58, val_main_v59,
    val_main_v60, val_main_v61, val_main_v62, val_main_v63, val_main_v64, val_main_v65]
  rw [Rope.angle]

theorem cosColQ (n : Fin 4096) (i : Fin 16) (z : Fin 1) : (val_main_v79 (F := Ideal)) (ix3 n z i) = Ideal.cos (Rope.angle (n.val % 64) i.val) := by
  have hn := n.isLt
  pointwise [val_main_cst, val_main_cst_0, val_main_cst_1, val_main_cst_2, val_main_cst_3, val_main_cst_4, val_main_cst_5, val_main_cst_6,
    val_main_cst_7, val_main_cst_8, val_main_cst_9, val_main_cst_10, val_main_cst_11, val_main_cst_12, val_main_cst_13,
    val_main_cst_14, val_main_cst_15, val_main_cst_16, val_main_cst_17, val_main_cst_18, val_main_cst_19, val_main_cst_20,
    val_main_cst_21, val_main_cst_22, val_main_cst_23, val_main_cst_24, val_main_cst_25, val_main_cst_26, val_main_cst_27,
    val_main_cst_28, val_main_v26, val_main_v27, val_main_v28, val_main_v29, val_main_v30, val_main_v31, val_main_v32,
    val_main_v33, val_main_v34, val_main_v35, val_main_v36, val_main_v37, val_main_v38, val_main_v39, val_main_v40, val_main_v41,
    val_main_v42, val_main_v43, val_main_v44, val_main_v45, val_main_v46, val_main_v47, val_main_v48, val_main_v49, val_main_v50,
    val_main_v51, val_main_v52, val_main_v53, val_main_v54, val_main_v55, val_main_v56, val_main_v57, val_main_v58, val_main_v59,
    val_main_v60, val_main_v61, val_main_v62, val_main_v63, val_main_v64, val_main_v65, val_main_v66, val_main_v67, val_main_v68,
    val_main_v69, val_main_v70, val_main_v71, val_main_v72, val_main_v73, val_main_v74, val_main_v75, val_main_v76, val_main_v77,
    val_main_v78, val_main_v79]
  rw [Rope.angle]

theorem sinColQ (n : Fin 4096) (i : Fin 16) (z : Fin 1) : (val_main_v80 (F := Ideal)) (ix3 n z i) = Ideal.sin (Rope.angle (n.val % 64) i.val) := by
  have hn := n.isLt
  pointwise [val_main_cst, val_main_cst_0, val_main_cst_1, val_main_cst_2, val_main_cst_3, val_main_cst_4, val_main_cst_5, val_main_cst_6,
    val_main_cst_7, val_main_cst_8, val_main_cst_9, val_main_cst_10, val_main_cst_11, val_main_cst_12, val_main_cst_13,
    val_main_cst_14, val_main_cst_15, val_main_cst_16, val_main_cst_17, val_main_cst_18, val_main_cst_19, val_main_cst_20,
    val_main_cst_21, val_main_cst_22, val_main_cst_23, val_main_cst_24, val_main_cst_25, val_main_cst_26, val_main_cst_27,
    val_main_cst_28, val_main_v26, val_main_v27, val_main_v28, val_main_v29, val_main_v30, val_main_v31, val_main_v32,
    val_main_v33, val_main_v34, val_main_v35, val_main_v36, val_main_v37, val_main_v38, val_main_v39, val_main_v40, val_main_v41,
    val_main_v42, val_main_v43, val_main_v44, val_main_v45, val_main_v46, val_main_v47, val_main_v48, val_main_v49, val_main_v50,
    val_main_v51, val_main_v52, val_main_v53, val_main_v54, val_main_v55, val_main_v56, val_main_v57, val_main_v58, val_main_v59,
    val_main_v60, val_main_v61, val_main_v62, val_main_v63, val_main_v64, val_main_v65, val_main_v66, val_main_v67, val_main_v68,
    val_main_v69, val_main_v70, val_main_v71, val_main_v72, val_main_v73, val_main_v74, val_main_v75, val_main_v76, val_main_v77,
    val_main_v78, val_main_v79, val_main_v80]
  rw [Rope.angle]

theorem cosRowK (n : Fin 4096) (i : Fin 16) (z : Fin 1) : (val_main_v148 (F := Ideal)) (ix3 n z i) = Ideal.cos (Rope.angle (n.val / 64) i.val) := by
  have hn := n.isLt
  pointwise [val_main_cst, val_main_cst_0, val_main_cst_1, val_main_cst_2, val_main_cst_3, val_main_cst_4, val_main_cst_5, val_main_cst_6,
    val_main_cst_7, val_main_cst_8, val_main_cst_9, val_main_cst_10, val_main_cst_11, val_main_cst_12, val_main_cst_13,
    val_main_cst_14, val_main_cst_15, val_main_cst_16, val_main_cst_17, val_main_cst_18, val_main_cst_19, val_main_cst_20,
    val_main_cst_21, val_main_cst_22, val_main_cst_23, val_main_cst_24, val_main_cst_25, val_main_cst_26, val_main_cst_27,
    val_main_cst_28, val_main_v110, val_main_v111, val_main_v112, val_main_v113, val_main_v114, val_main_v115, val_main_v116,
    val_main_v117, val_main_v118, val_main_v119, val_main_v120, val_main_v121, val_main_v122, val_main_v123, val_main_v124,
    val_main_v125, val_main_v126, val_main_v127, val_main_v128, val_main_v129, val_main_v130, val_main_v131, val_main_v132,
    val_main_v133, val_main_v134, val_main_v135, val_main_v136, val_main_v137, val_main_v138, val_main_v139, val_main_v140,
    val_main_v141, val_main_v142, val_main_v143, val_main_v144, val_main_v145, val_main_v146, val_main_v147, val_main_v148]
  rw [Rope.angle]

theorem sinRowK (n : Fin 4096) (i : Fin 16) (z : Fin 1) : (val_main_v149 (F := Ideal)) (ix3 n z i) = Ideal.sin (Rope.angle (n.val / 64) i.val) := by
  have hn := n.isLt
  pointwise [val_main_cst, val_main_cst_0, val_main_cst_1, val_main_cst_2, val_main_cst_3, val_main_cst_4, val_main_cst_5, val_main_cst_6,
    val_main_cst_7, val_main_cst_8, val_main_cst_9, val_main_cst_10, val_main_cst_11, val_main_cst_12, val_main_cst_13,
    val_main_cst_14, val_main_cst_15, val_main_cst_16, val_main_cst_17, val_main_cst_18, val_main_cst_19, val_main_cst_20,
    val_main_cst_21, val_main_cst_22, val_main_cst_23, val_main_cst_24, val_main_cst_25, val_main_cst_26, val_main_cst_27,
    val_main_cst_28, val_main_v110, val_main_v111, val_main_v112, val_main_v113, val_main_v114, val_main_v115, val_main_v116,
    val_main_v117, val_main_v118, val_main_v119, val_main_v120, val_main_v121, val_main_v122, val_main_v123, val_main_v124,
    val_main_v125, val_main_v126, val_main_v127, val_main_v128, val_main_v129, val_main_v130, val_main_v131, val_main_v132,
    val_main_v133, val_main_v134, val_main_v135, val_main_v136, val_main_v137, val_main_v138, val_main_v139, val_main_v140,
    val_main_v141, val_main_v142, val_main_v143, val_main_v144, val_main_v145, val_main_v146, val_main_v147, val_main_v148,
    val_main_v149]
  rw [Rope.angle]

theorem cosColK (n : Fin 4096) (i : Fin 16) (z : Fin 1) : (val_main_v163 (F := Ideal)) (ix3 n z i) = Ideal.cos (Rope.angle (n.val % 64) i.val) := by
  have hn := n.isLt
  pointwise [val_main_cst, val_main_cst_0, val_main_cst_1, val_main_cst_2, val_main_cst_3, val_main_cst_4, val_main_cst_5, val_main_cst_6,
    val_main_cst_7, val_main_cst_8, val_main_cst_9, val_main_cst_10, val_main_cst_11, val_main_cst_12, val_main_cst_13,
    val_main_cst_14, val_main_cst_15, val_main_cst_16, val_main_cst_17, val_main_cst_18, val_main_cst_19, val_main_cst_20,
    val_main_cst_21, val_main_cst_22, val_main_cst_23, val_main_cst_24, val_main_cst_25, val_main_cst_26, val_main_cst_27,
    val_main_cst_28, val_main_v110, val_main_v111, val_main_v112, val_main_v113, val_main_v114, val_main_v115, val_main_v116,
    val_main_v117, val_main_v118, val_main_v119, val_main_v120, val_main_v121, val_main_v122, val_main_v123, val_main_v124,
    val_main_v125, val_main_v126, val_main_v127, val_main_v128, val_main_v129, val_main_v130, val_main_v131, val_main_v132,
    val_main_v133, val_main_v134, val_main_v135, val_main_v136, val_main_v137, val_main_v138, val_main_v139, val_main_v140,
    val_main_v141, val_main_v142, val_main_v143, val_main_v144, val_main_v145, val_main_v146, val_main_v147, val_main_v148,
    val_main_v149, val_main_v150, val_main_v151, val_main_v152, val_main_v153, val_main_v154, val_main_v155, val_main_v156,
    val_main_v157, val_main_v158, val_main_v159, val_main_v160, val_main_v161, val_main_v162, val_main_v163]
  rw [Rope.angle]

theorem sinColK (n : Fin 4096) (i : Fin 16) (z : Fin 1) : (val_main_v164 (F := Ideal)) (ix3 n z i) = Ideal.sin (Rope.angle (n.val % 64) i.val) := by
  have hn := n.isLt
  pointwise [val_main_cst, val_main_cst_0, val_main_cst_1, val_main_cst_2, val_main_cst_3, val_main_cst_4, val_main_cst_5, val_main_cst_6,
    val_main_cst_7, val_main_cst_8, val_main_cst_9, val_main_cst_10, val_main_cst_11, val_main_cst_12, val_main_cst_13,
    val_main_cst_14, val_main_cst_15, val_main_cst_16, val_main_cst_17, val_main_cst_18, val_main_cst_19, val_main_cst_20,
    val_main_cst_21, val_main_cst_22, val_main_cst_23, val_main_cst_24, val_main_cst_25, val_main_cst_26, val_main_cst_27,
    val_main_cst_28, val_main_v110, val_main_v111, val_main_v112, val_main_v113, val_main_v114, val_main_v115, val_main_v116,
    val_main_v117, val_main_v118, val_main_v119, val_main_v120, val_main_v121, val_main_v122, val_main_v123, val_main_v124,
    val_main_v125, val_main_v126, val_main_v127, val_main_v128, val_main_v129, val_main_v130, val_main_v131, val_main_v132,
    val_main_v133, val_main_v134, val_main_v135, val_main_v136, val_main_v137, val_main_v138, val_main_v139, val_main_v140,
    val_main_v141, val_main_v142, val_main_v143, val_main_v144, val_main_v145, val_main_v146, val_main_v147, val_main_v148,
    val_main_v149, val_main_v150, val_main_v151, val_main_v152, val_main_v153, val_main_v154, val_main_v155, val_main_v156,
    val_main_v157, val_main_v158, val_main_v159, val_main_v160, val_main_v161, val_main_v162, val_main_v163, val_main_v164]
  rw [Rope.angle]

/-- What comes back to the heads of q, turned back. -/
theorem rotQ (x3 : FVec Ideal S4096x512 .f32) (n : Fin 4096) (h : Fin 8) (e : Fin 64) :
    (val_main_v265 (F := Ideal) x3) (ix3 n h e) =
      Rope.ropeT (k := 2) (fun e => dq (at2 x3) n ⟨h.val * 64 + e.val, by omega⟩) n.val e := by
  refine Eq.trans ?_ (rope_ref (fun e => dq (at2 x3) n ⟨h.val * 64 + e.val, by omega⟩) n.val e)
  pointwise [val_main_cst, val_main_cst_0, val_main_cst_1, val_main_cst_2, val_main_cst_3, val_main_cst_4, val_main_cst_5, val_main_cst_6,
    val_main_cst_7, val_main_cst_8, val_main_cst_9, val_main_cst_10, val_main_cst_11, val_main_cst_12, val_main_cst_13,
    val_main_cst_14, val_main_cst_15, val_main_cst_16, val_main_cst_17, val_main_cst_18, val_main_cst_19, val_main_cst_20,
    val_main_cst_21, val_main_cst_22, val_main_cst_23, val_main_cst_24, val_main_cst_25, val_main_cst_26, val_main_cst_27,
    val_main_cst_28, val_main_v180, val_main_v233, val_main_v234, val_main_v235, val_main_v236, val_main_v237, val_main_v238,
    val_main_v239, val_main_v240, val_main_v241, val_main_v242, val_main_v243, val_main_v244, val_main_v245, val_main_v246,
    val_main_v247, val_main_v248, val_main_v249, val_main_v250, val_main_v251, val_main_v252, val_main_v253, val_main_v254,
    val_main_v255, val_main_v256, val_main_v257, val_main_v258, val_main_v259, val_main_v260, val_main_v261, val_main_v262,
    val_main_v263, val_main_v264, val_main_v265]
  simp only [cosRowQ, sinRowQ, cosColQ, sinColQ]
  rfl

/-- What comes back to the heads of k, turned back. -/
theorem rotK (x4 : FVec Ideal S4096x128 .f32) (n : Fin 4096) (h : Fin 2) (e : Fin 64) :
    (val_main_v211 (F := Ideal) x4) (ix3 n h e) =
      Rope.ropeT (k := 2) (fun e => at2 x4 n ⟨h.val * 64 + e.val, by omega⟩) n.val e := by
  refine Eq.trans ?_ (rope_ref (fun e => at2 x4 n ⟨h.val * 64 + e.val, by omega⟩) n.val e)
  pointwise [val_main_cst, val_main_cst_0, val_main_cst_1, val_main_cst_2, val_main_cst_3, val_main_cst_4, val_main_cst_5, val_main_cst_6,
    val_main_cst_7, val_main_cst_8, val_main_cst_9, val_main_cst_10, val_main_cst_11, val_main_cst_12, val_main_cst_13,
    val_main_cst_14, val_main_cst_15, val_main_cst_16, val_main_cst_17, val_main_cst_18, val_main_cst_19, val_main_cst_20,
    val_main_cst_21, val_main_cst_22, val_main_cst_23, val_main_cst_24, val_main_cst_25, val_main_cst_26, val_main_cst_27,
    val_main_cst_28, val_main_v179, val_main_v181, val_main_v182, val_main_v183, val_main_v184, val_main_v185, val_main_v186,
    val_main_v187, val_main_v188, val_main_v189, val_main_v190, val_main_v191, val_main_v192, val_main_v193, val_main_v194,
    val_main_v195, val_main_v196, val_main_v197, val_main_v198, val_main_v199, val_main_v200, val_main_v201, val_main_v202,
    val_main_v203, val_main_v204, val_main_v205, val_main_v206, val_main_v207, val_main_v208, val_main_v209, val_main_v210,
    val_main_v211]
  simp only [cosRowK, sinRowK, cosColK, sinColK]

end Cert.PrepRef

end
-- ==== Proof.PrepNorms.lean ====
/- The reference of the retrieval of q and k: the norm's gradient head by head, and its two results. -/
module

public import proofs.«01_k».proof.Proof.Gen.PrepReferenceIdeal.Read
public import proofs.«01_k».proof.Proof.PrepReference
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.PrepRef

open Cert.PrepReferenceIdeal Cert.PrepReferenceIdeal.Read HeadNorm
open FinValue (at2)
open PrepValue (c8 dq xq xk)

/-- The mean square of one head of q and the epsilon. -/
theorem meanQ (x0 : FVec Ideal S4096x4864 .f32) (n : Fin 4096) (h : Fin 8) (z : Fin 1) :
    (val_main_v18 (F := Ideal) x0) (ix3 n h z) =
      Ideal.div (∑ i : Fin 64, xq (at2 x0) n ⟨h.val * 64 + i.val, by omega⟩ * xq (at2 x0) n ⟨h.val * 64 + i.val, by omega⟩)
        (Ideal.ofBits FTy.f32 1115684864#32) + eps := by
  pointwise [val_main_cst, val_main_cst_0, val_main_cst_1, val_main_cst_2, val_main_cst_3, val_main_cst_4, val_main_cst_5, val_main_cst_6,
    val_main_cst_7, val_main_cst_8, val_main_cst_9, val_main_cst_10, val_main_cst_11, val_main_cst_12, val_main_cst_13,
    val_main_cst_14, val_main_cst_15, val_main_cst_16, val_main_cst_17, val_main_cst_18, val_main_cst_19, val_main_cst_20,
    val_main_cst_21, val_main_cst_22, val_main_cst_23, val_main_cst_24, val_main_cst_25, val_main_cst_26, val_main_cst_27,
    val_main_cst_28, val_main_v1, val_main_v2, val_main_v3, val_main_v4, val_main_v5, val_main_v6, val_main_v7, val_main_v8,
    val_main_v9, val_main_v10, val_main_v11, val_main_v12, val_main_v13, val_main_v14, val_main_v15, val_main_v16, val_main_v17,
    val_main_v18]
  rfl

/-- The gradient behind the norm of one head of q. -/
theorem normQ (x0 : FVec Ideal S4096x4864 .f32) (x1 : FVec Ideal S64 .f32) (x3 : FVec Ideal S4096x512 .f32) (n : Fin 4096) (h : Fin 8) (e : Fin 64) :
    (val_main_v285 (F := Ideal) x0 x1 x3) (ix3 n h e) =
      nbR (Rope.ropeT (k := 2) (fun e => dq (at2 x3) n ⟨h.val * 64 + e.val, by omega⟩) n.val)
        (fun e => xq (at2 x0) n ⟨h.val * 64 + e.val, by omega⟩) (fun e => x1 (ix1 e)) e := by
  pointwise [val_main_cst, val_main_cst_0, val_main_cst_1, val_main_cst_2, val_main_cst_3, val_main_cst_4, val_main_cst_5, val_main_cst_6,
    val_main_cst_7, val_main_cst_8, val_main_cst_9, val_main_cst_10, val_main_cst_11, val_main_cst_12, val_main_cst_13,
    val_main_cst_14, val_main_cst_15, val_main_cst_16, val_main_cst_17, val_main_cst_18, val_main_cst_19, val_main_cst_20,
    val_main_cst_21, val_main_cst_22, val_main_cst_23, val_main_cst_24, val_main_cst_25, val_main_cst_26, val_main_cst_27,
    val_main_cst_28, val_main_v0, val_main_v1, val_main_v2, val_main_v3, val_main_v4, val_main_v5, val_main_v6, val_main_v7,
    val_main_v8, val_main_v9, val_main_v10, val_main_v11, val_main_v19, val_main_v20, val_main_v21, val_main_v22, val_main_v23,
    val_main_v24, val_main_v25, val_main_v266, val_main_v267, val_main_v268, val_main_v269, val_main_v270, val_main_v271,
    val_main_v272, val_main_v273, val_main_v274, val_main_v275, val_main_v276, val_main_v277, val_main_v278, val_main_v279,
    val_main_v280, val_main_v281, val_main_v282, val_main_v283, val_main_v284, val_main_v285]
  simp only [rotQ, meanQ, Finset.univ_unique, Finset.sum_singleton]
  rfl

/-- The gradient behind the norm of one head of k. -/
theorem normK (x0 : FVec Ideal S4096x4864 .f32) (x2 : FVec Ideal S64 .f32) (x4 : FVec Ideal S4096x128 .f32) (n : Fin 4096) (h : Fin 2) (e : Fin 64) :
    (val_main_v231 (F := Ideal) x0 x2 x4) (ix3 n h e) =
      nbR (Rope.ropeT (k := 2) (fun e => at2 x4 n ⟨h.val * 64 + e.val, by omega⟩) n.val)
        (fun e => xk (at2 x0) n ⟨h.val * 64 + e.val, by omega⟩) (fun e => x2 (ix1 e)) e := by
  pointwise [val_main_cst, val_main_cst_0, val_main_cst_1, val_main_cst_2, val_main_cst_3, val_main_cst_4, val_main_cst_5, val_main_cst_6,
    val_main_cst_7, val_main_cst_8, val_main_cst_9, val_main_cst_10, val_main_cst_11, val_main_cst_12, val_main_cst_13,
    val_main_cst_14, val_main_cst_15, val_main_cst_16, val_main_cst_17, val_main_cst_18, val_main_cst_19, val_main_cst_20,
    val_main_cst_21, val_main_cst_22, val_main_cst_23, val_main_cst_24, val_main_cst_25, val_main_cst_26, val_main_cst_27,
    val_main_cst_28, val_main_v1, val_main_v2, val_main_v3, val_main_v4, val_main_v5, val_main_v6, val_main_v7, val_main_v8,
    val_main_v9, val_main_v10, val_main_v95, val_main_v96, val_main_v97, val_main_v98, val_main_v99, val_main_v100,
    val_main_v101, val_main_v102, val_main_v103, val_main_v104, val_main_v105, val_main_v106, val_main_v107, val_main_v108,
    val_main_v109, val_main_v212, val_main_v213, val_main_v214, val_main_v215, val_main_v216, val_main_v217, val_main_v218,
    val_main_v219, val_main_v220, val_main_v221, val_main_v222, val_main_v223, val_main_v224, val_main_v225, val_main_v226,
    val_main_v227, val_main_v228, val_main_v229, val_main_v230, val_main_v231]
  simp only [rotK, Finset.univ_unique, Finset.sum_singleton]
  rfl

theorem div64 (a : EReal) : Ideal.div a (Ideal.ofBits FTy.f32 1115684864#32) = a * c64 := by
  rw [c64', Ideal.div_coe (by norm_num), c64_coe]

/-- The gradients of the two gains. -/
theorem sums (x0 : FVec Ideal S4096x4864 .f32) (x3 : FVec Ideal S4096x512 .f32) (x4 : FVec Ideal S4096x128 .f32) (j : Fin 8) (l : Fin 128) :
    (val_main_v292 (F := Ideal) x0 x3 x4 : FVec Ideal S8x128 .f32) (ix2 j l) = PrepValue.specS (at2 x0) (at2 x3) (at2 x4) j l := by
  have hl := l.isLt
  unfold PrepValue.specS
  pointwise [val_main_cst, val_main_cst_0, val_main_cst_1, val_main_cst_2, val_main_cst_3, val_main_cst_4, val_main_cst_5, val_main_cst_6,
    val_main_cst_7, val_main_cst_8, val_main_cst_9, val_main_cst_10, val_main_cst_11, val_main_cst_12, val_main_cst_13,
    val_main_cst_14, val_main_cst_15, val_main_cst_16, val_main_cst_17, val_main_cst_18, val_main_cst_19, val_main_cst_20,
    val_main_cst_21, val_main_cst_22, val_main_cst_23, val_main_cst_24, val_main_cst_25, val_main_cst_26, val_main_cst_27,
    val_main_cst_28, val_main_v0, val_main_v1, val_main_v2, val_main_v3, val_main_v4, val_main_v5, val_main_v6, val_main_v7,
    val_main_v8, val_main_v9, val_main_v10, val_main_v11, val_main_v19, val_main_v20, val_main_v21, val_main_v22, val_main_v23,
    val_main_v24, val_main_v25, val_main_v95, val_main_v96, val_main_v97, val_main_v98, val_main_v99, val_main_v100,
    val_main_v101, val_main_v102, val_main_v103, val_main_v104, val_main_v105, val_main_v106, val_main_v107, val_main_v108,
    val_main_v109, val_main_v212, val_main_v213, val_main_v214, val_main_v215, val_main_v216, val_main_v217, val_main_v266,
    val_main_v267, val_main_v268, val_main_v271, val_main_v287, val_main_v288, val_main_v289, val_main_v290, val_main_v291,
    val_main_v292]
  simp only [rotQ, rotK, meanQ, div64, Finset.univ_unique, Finset.sum_singleton]
  by_cases h0 : j.val = 0
  · rw [dif_pos (by omega), if_pos h0, Finset.sum_comm]
    refine Finset.sum_congr rfl fun n _ => Finset.sum_congr rfl fun b _ => ?_
    rw [mul_comm]
    have e1 : (b.val * 2 + l.val / 64) * 64 = (b.val * 128 + l.val) / 64 * 64 := by omega
    have e2 : (b.val * 128 + l.val) / 64 * 64 + l.val % 64 = (b.val * 128 + l.val) := by omega
    have e3 : (b.val * 128 + l.val) % 64 = l.val % 64 := by omega
    unfold gx ng inv1
    simp only [e1, e2, e3]
    rfl
  rw [dif_neg (by omega), if_neg h0]
  by_cases h1 : j.val = 1
  · rw [dif_pos (by omega), if_pos h1]
    refine Finset.sum_congr rfl fun n _ => ?_
    rw [mul_comm]
    have e2 : l.val / 64 * 64 + l.val % 64 = l.val := by omega
    unfold gx ng inv1
    simp only [e2]
    rfl
  rw [dif_neg (by omega), if_neg h1]

/-- Of real arguments both ways of writing the gradient behind the norm agree. -/
theorem nb_real (d x g : Fin 64 → EReal) (n : ℕ) (e : Fin 64) (hd : ∀ i, ∃ r : ℝ, d i = (r : EReal)) (hx : ∀ i, ∃ r : ℝ, x i = (r : EReal))
    (hg : ∀ i, ∃ r : ℝ, g i = (r : EReal)) : nbR (Rope.ropeT (k := 2) d n) x g e = nb (Rope.ropeT (k := 2) d n) x g e := by
  choose d' hd using hd
  choose x' hx using hx
  choose g' hg using hg
  obtain rfl : d = fun i => (d' i : EReal) := funext hd
  obtain rfl : x = fun i => (x' i : EReal) := funext hx
  obtain rfl : g = fun i => (g' i : EReal) := funext hg
  obtain ⟨u, hu⟩ := ropeT_real (k := 2) d' n
  rw [show Rope.ropeT (k := 2) (fun i : Fin 64 => (d' i : EReal)) n = fun i => (u i : EReal) from hu]
  exact nb_eq u x' g' e

theorem c8_real : ∃ r : ℝ, c8 = (r : EReal) :=
  ⟨_, by simp [c8, Ideal.ofBits, Ideal.ieee, -EReal.coe_mul]; rfl⟩

/-- The gradient of the attention's part of the projection, of real arguments. -/
theorem grad (x0 : FVec Ideal S4096x4864 .f32) (x1 x2 : FVec Ideal S64 .f32) (x3 : FVec Ideal S4096x512 .f32) (x4 x5 : FVec Ideal S4096x128 .f32)
    (h0 : ∀ n j, ∃ r : ℝ, at2 x0 n j = (r : EReal)) (h1 : ∀ e, ∃ r : ℝ, x1 (ix1 e) = (r : EReal)) (h2 : ∀ e, ∃ r : ℝ, x2 (ix1 e) = (r : EReal))
    (h3 : ∀ n j, ∃ r : ℝ, at2 x3 n j = (r : EReal)) (h4 : ∀ n j, ∃ r : ℝ, at2 x4 n j = (r : EReal)) (n : Fin 4096) (j : Fin 768) :
    (val_main_v294 (F := Ideal) x0 x1 x2 x3 x4 x5 : FVec Ideal S4096x768 .bf16) (ix2 n j) =
      PrepValue.specD (at2 x0) (fun e => x1 (ix1 e)) (fun e => x2 (ix1 e)) (at2 x3) (at2 x4) (at2 x5) n j := by
  have hj := j.isLt
  have hq : ∀ j, ∃ r : ℝ, dq (at2 x3) n j = (r : EReal) := fun j => by
    obtain ⟨a, ha⟩ := h3 n j
    obtain ⟨b, hb⟩ := c8_real
    exact ⟨a * b, by rw [dq, ha, hb, ← EReal.coe_mul]⟩
  unfold PrepValue.specD
  pointwise [val_main_v232, val_main_v286, val_main_v293, val_main_v294]
  by_cases h : j.val < 512
  · rw [dif_pos h, dif_pos h, normQ]
    exact nb_real _ _ _ n.val _ (fun _ => hq _) (fun _ => h0 _ _) h1
  rw [dif_neg h, dif_neg h]
  by_cases h' : j.val < 640
  · rw [dif_pos (show j.val - 512 < 128 by omega), dif_pos h', normK]
    exact nb_real _ _ _ n.val _ (fun _ => h4 _ _) (fun _ => h0 _ _) h2
  rw [dif_neg (show ¬ j.val - 512 < 128 by omega), dif_neg h']
  exact congrArg (fun q => x5 (ix2 n q)) (Fin.ext (by show j.val - 512 - 128 = j.val - 640; omega))

end Cert.PrepRef

end
-- ==== Proof.Finite.lean ====
/- A precondition read back: an array whose entries all have absolute value below infinity holds real numbers. -/
module

public import Idealize.ShloMosaic.Lib.ReduceAll
public import Idealize.ShloMosaic.Lib.StableHlo.ReadAt
public import proofs.«01_k».proof.Proof.Rope

@[expose] public section

noncomputable section

open Idealize.ShloMosaic Idealize.ShloMosaic.TcCoe

namespace Cert.Finite

theorem real_of_lt (a : EReal)
    (e : FloatOps.cmpf (F := Ideal) (φ := .f32) .olt (FloatOps.absf (F := Ideal) (φ := .f32) a) (Ideal.ofBits .f32 0x7F800000#32) = 1#1) :
    ∃ r : ℝ, a = (r : EReal) := by
  have ht : Ideal.ofBits .f32 0x7F800000#32 = (⊤ : EReal) := by simp [Ideal.ofBits, Ideal.ieee]
  rw [ht] at e
  induction a with
  | bot => exact absurd e (by simp [FloatOps.cmpf, FloatOps.absf, Ideal.cmp])
  | top => exact absurd e (by simp [FloatOps.cmpf, FloatOps.absf, Ideal.cmp])
  | coe r => exact ⟨r, rfl⟩

abbrev S0 : Shape := ⟨0, ![]⟩

theorem split {c d : IVec S0 1} (h : andi c d = fun _ => 1#1) : (c = fun _ => 1#1) ∧ d = fun _ => 1#1 :=
  ⟨funext fun i => (IntOp.andi_eq_one.1 (congrFun h i)).1, funext fun i => (IntOp.andi_eq_one.1 (congrFun h i)).2⟩

theorem all_real {s : Shape} {axes : List (Fin s.rank)} (a : FVec Ideal s .f32) (hb : S0.BroadcastsInDim s (![] : Fin 0 → Fin s.rank))
    (hr : s.ReducesTo axes S0) (hu : 0 < S0.numel)
    (e : Host.reduce IntOp.andi (cmpf .olt (Host.absf a) (broadcastInDim s ![] hb (constant (F := Ideal) S0 .f32 0x7F800000#32)))
      (constantI S0 1 1#1) hr hu = fun _ => 1#1) (i : s.Idx) : ∃ r : ℝ, a i = (r : EReal) := by
  have : Subsingleton S0.Idx := ⟨fun a b => funext fun q => q.elim0⟩
  exact real_of_lt _ (Host.reduce_andi_all _ _ _ _ (fun q => q.elim0) (congrFun e _) i)

end Cert.Finite

end
-- ==== Proof.PrepClaim.lean ====
/- The backward call of the norms and the embedding of the attention computes the derivative, of real arguments. -/
module

public import proofs.«01_k».proof.Defs
public import proofs.«01_k».proof.Proof.Gen.Pre_finite_prep
public import proofs.«01_k».proof.Proof.Gen.PrepKernelIdeal.Value
public import proofs.«01_k».proof.Proof.Gen.PrepReferenceIdeal.Run
public import proofs.«01_k».proof.Proof.PrepFinal
public import proofs.«01_k».proof.Proof.PrepNorms
public import proofs.«01_k».proof.Proof.Finite

@[expose] public section

set_option maxRecDepth 16384

noncomputable section

open Idealize.ShloMosaic Idealize.ShloMosaic.TcCoe Idealize.SL.Sem

namespace Cert.PrepClaim

open FinValue (at2)

/-- What the precondition says of the arguments. -/
theorem finite (x0 : FVec Ideal Cert.PrepKernelIdeal.S4096x4864 .f32) (x1 x2 : FVec Ideal Cert.PrepKernelIdeal.S64 .f32)
    (x3 : FVec Ideal Cert.PrepKernelIdeal.S4096x512 .f32) (x4 x5 : FVec Ideal Cert.PrepKernelIdeal.S4096x128 .f32)
    (h : Cert.Pre_finite_prep.fn (F := Ideal) x0 x1 x2 x3 x4 x5 = fun _ => 1#1) :
    ((∀ i, ∃ r : ℝ, x0 i = (r : EReal)) ∧ (∀ i, ∃ r : ℝ, x1 i = (r : EReal)) ∧ (∀ i, ∃ r : ℝ, x2 i = (r : EReal))) ∧
      (∀ i, ∃ r : ℝ, x3 i = (r : EReal)) ∧ ∀ i, ∃ r : ℝ, x4 i = (r : EReal) := by
  simp only [Cert.Pre_finite_prep.fn, Cert.Pre_finite_prep.fn_part1] at h
  obtain ⟨h, h4⟩ := Finite.split h
  obtain ⟨h, h3⟩ := Finite.split h
  obtain ⟨h, h2⟩ := Finite.split h
  obtain ⟨h0, h1⟩ := Finite.split h
  exact ⟨⟨Finite.all_real x0 _ _ _ h0, Finite.all_real x1 _ _ _ h1, Finite.all_real x2 _ _ _ h2⟩,
    Finite.all_real x3 _ _ _ h3, Finite.all_real x4 _ _ _ h4⟩

/-- The reference's gradient, written with the kernel's shapes. -/
theorem grad_eq (x0 : FVec Ideal Cert.PrepKernelIdeal.S4096x4864 .f32) (x1 x2 : FVec Ideal Cert.PrepKernelIdeal.S64 .f32)
    (x3 : FVec Ideal Cert.PrepKernelIdeal.S4096x512 .f32) (x4 x5 : FVec Ideal Cert.PrepKernelIdeal.S4096x128 .f32)
    (h : Cert.Pre_finite_prep.fn (F := Ideal) x0 x1 x2 x3 x4 x5 = fun _ => 1#1) :
    (Cert.PrepReferenceIdeal.Read.val_main_v294 (F := Ideal) x0 x1 x2 x3 x4 x5 : FVec Ideal Cert.PrepKernelIdeal.S4096x768 .bf16) =
      fun i => PrepValue.specD (at2 x0) (fun e => x1 (ix1 e)) (fun e => x2 (ix1 e)) (at2 x3) (at2 x4) (at2 x5) (i 0) (i 1) := by
  obtain ⟨⟨h0, h1, h2⟩, h3, h4⟩ := finite _ _ _ _ _ _ h
  funext i
  idx_vars i
  exact PrepRef.grad x0 x1 x2 x3 x4 x5 (fun _ _ => h0 _) (fun _ => h1 _) (fun _ => h2 _) (fun _ _ => h3 _) (fun _ _ => h4 _) i0 i1

/-- The reference's gradients of the gains, written with the kernel's shapes. -/
theorem sums_eq (x0 : FVec Ideal Cert.PrepKernelIdeal.S4096x4864 .f32)
    (x3 : FVec Ideal Cert.PrepKernelIdeal.S4096x512 .f32) (x4 : FVec Ideal Cert.PrepKernelIdeal.S4096x128 .f32) :
    (Cert.PrepReferenceIdeal.Read.val_main_v292 (F := Ideal) x0 x3 x4 : FVec Ideal Cert.PrepKernelIdeal.S8x128 .f32) =
      fun i => PrepValue.specS (at2 x0) (at2 x3) (at2 x4) (i 0) (i 1) := by
  funext i
  idx_vars i
  exact PrepRef.sums x0 x3 x4 i0 i1

set_option maxHeartbeats 4000000 in
theorem value : Cert.algebraic_PrepKernelIdeal_PrepReferenceIdeal_pre_finite_prep := by
  pair_intro
  · run_from Cert.PrepKernelIdeal.Gen.run_main m g
  · run_from Cert.PrepReferenceIdeal.Value.run m' g'
    all_goals obtain ⟨h0, h1, h2, h3, h4, h5⟩ := hagree c
    all_goals have hp := hpre c
    all_goals have hk := (finite _ _ _ _ _ _ hp).2.2
    · rw [Cert.PrepReferenceIdeal.Read.val_main_v294_eq, PrepValue.final9 m c (fun _ _ => hk _),
        show StableHlo.launchContents m' c (Proc.tc.devRef Cert.PrepReferenceIdeal.main_arg0) = _ from h0,
        show StableHlo.launchContents m' c (Proc.tc.devRef Cert.PrepReferenceIdeal.main_arg1) = _ from h1,
        show StableHlo.launchContents m' c (Proc.tc.devRef Cert.PrepReferenceIdeal.main_arg2) = _ from h2,
        show StableHlo.launchContents m' c (Proc.tc.devRef Cert.PrepReferenceIdeal.main_arg3) = _ from h3,
        show StableHlo.launchContents m' c (Proc.tc.devRef Cert.PrepReferenceIdeal.main_arg4) = _ from h4,
        show StableHlo.launchContents m' c (Proc.tc.devRef Cert.PrepReferenceIdeal.main_arg5) = _ from h5]
      exact grad_eq _ _ _ _ _ _ hp
    · rw [Cert.PrepReferenceIdeal.Read.val_main_v292_eq, PrepValue.final10 m c (fun _ _ => hk _),
        show StableHlo.launchContents m' c (Proc.tc.devRef Cert.PrepReferenceIdeal.main_arg0) = _ from h0,
        show StableHlo.launchContents m' c (Proc.tc.devRef Cert.PrepReferenceIdeal.main_arg3) = _ from h3,
        show StableHlo.launchContents m' c (Proc.tc.devRef Cert.PrepReferenceIdeal.main_arg4) = _ from h4]
      exact sums_eq _ _ _

end Cert.PrepClaim

end
-- ==== Proof.InFrames.lean ====
/- The frames of the backward call of the input norm. -/
module

public import proofs.«01_k».proof.Defs
public import proofs.«01_k».proof.Proof.Gen.InKernel.Frame
public import proofs.«01_k».proof.Proof.Gen.InKernelIdeal.Frame
public import proofs.«01_k».proof.Proof.Gen.InReferenceIdeal.Run

@[expose] public section

set_option maxRecDepth 16384

noncomputable section

open Idealize.ShloMosaic Idealize.ShloMosaic.TcCoe Idealize.SL.Sem

namespace Cert.InFrames

theorem kernel : Cert.quiescent_InKernel := fun m ρ _ => Cert.InKernel.Gen.frame m ρ

theorem kernelIdeal : Cert.quiescent_InKernelIdeal := fun m ρ _ => Cert.InKernelIdeal.Gen.frame m ρ

theorem reference : Cert.quiescent_InReferenceIdeal := by
  intro m ρ _
  exact (θ_run Cert.InReferenceIdeal.defs _ _).mono
    (fun r h => ⟨fun c => (h c).2.2, Idealize.ShloMosaic.sem_eq_zero_of_no_sems (by decide) r.2⟩)
    (Cert.InReferenceIdeal.Value.run (F := Ideal) m ρ)

end Cert.InFrames

end
-- ==== Proof.InKernel.lean ====
/- The kernel that goes back through the input projection: its operands and the windows of a block. -/
module

public import proofs.«01_k».proof.Proof.Gen.InKernelIdeal.Value
public import proofs.«01_k».proof.Proof.FinKernel
public import proofs.«01_k».proof.Proof.HeadNorm
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.InValue

open Cert.InKernelIdeal Cert.InKernelIdeal.Gen
open FinValue (at2)

/-- The column of the projection that the kernel keeps at position `j`. -/
def colN (j : ℕ) : ℕ :=
  if j < 2048 then 2816 + j
  else if j < 2560 then j - 2048 + 768
  else if j < 3072 then j - 2560
  else if j < 3200 then j - 3072 + 512
  else if j < 3328 then j - 3200 + 640
  else if j < 3584 then j - 3328 + 1280
  else if j < 4096 then j - 3584 + 2304
  else if j < 4608 then j - 4096 + 1792
  else j - 4608 + 1536

def col (j : Fin 4864) : Fin 4864 := ⟨colN j.val, by have := j.isLt; unfold colN; split_ifs <;> omega⟩

set_option maxHeartbeats 4000000 in
/-- Every column is kept once. -/
theorem col_bij : Function.Bijective col := by
  rw [Finite.injective_iff_bijective.symm]
  intro a b h
  have h1 : colN a.val = colN b.val := congrArg Fin.val h
  have ha := a.isLt
  have hb := b.isLt
  refine Fin.ext ?_
  unfold colN at h1
  split_ifs at h1 <;> omega

variable (m : (ℓ : Loc nD τ sig) → Buf (Elt Ideal) ℓ)

/-- The arguments. -/
abbrev aX (c : Dev nD) : Fin 4096 → Fin 1024 → EReal := at2 (m ((c : Thread nD τ).loc main_arg0) : FVec Ideal S4096x1024 .f32)
abbrev aM (c : Dev nD) (e : Fin 3072) : EReal := (m ((c : Thread nD τ).loc main_arg1) : FVec Ideal S3072 .f32) (ix1 e)
abbrev aG (c : Dev nD) (e : Fin 1024) : EReal := (m ((c : Thread nD τ).loc main_arg2) : FVec Ideal S1024 .f32) (ix1 e)
abbrev aW (c : Dev nD) : Fin 1024 → Fin 4864 → EReal := at2 (m ((c : Thread nD τ).loc main_arg3) : FVec Ideal S1024x4864 .f32)
abbrev aD (c : Dev nD) : Fin 4096 → Fin 4864 → EReal := at2 (m ((c : Thread nD τ).loc main_arg4) : FVec Ideal S4096x4864 .f32)
abbrev aO (c : Dev nD) : Fin 4096 → Fin 1024 → EReal := at2 (m ((c : Thread nD τ).loc main_arg5) : FVec Ideal S4096x1024 .f32)

/-! The kept columns, of the weight and of the four pieces of the gradient. -/

set_option maxHeartbeats 4000000 in
theorem colsW (c : Dev nD) (n : Fin 1024) (j : Fin 4864) :
    (V m c main_v21 : FVec Ideal S1024x4864 .bf16) (ix2 n j) = aW m c n (col j) := by
  have hj := j.isLt
  unfold V
  after_reads_at
  split_ifs <;> after_reads_at
  all_goals refine congrArg (fun q => (m ((c : Thread nD τ).loc main_arg3) : FVec Ideal S1024x4864 .f32) (ix2 n q)) (Fin.ext ?_)
  all_goals
    show (_ : ℕ) = colN _
    unfold colN
    dsimp only
    split_ifs <;> omega

set_option maxHeartbeats 4000000 in
theorem cols0 (c : Dev nD) (n : Fin 4096) (j : Fin 2560) :
    (V m c main_v22 : FVec Ideal S4096x2560 .bf16) (ix2 n j) = aD m c n (col ⟨j.val, by omega⟩) := by
  have hj := j.isLt
  unfold V
  after_reads_at
  split_ifs <;> after_reads_at
  all_goals refine congrArg (fun q => (m ((c : Thread nD τ).loc main_arg4) : FVec Ideal S4096x4864 .f32) (ix2 n q)) (Fin.ext ?_)
  all_goals
    show (_ : ℕ) = colN _
    unfold colN
    dsimp only
    split_ifs <;> omega

set_option maxHeartbeats 4000000 in
theorem cols1 (c : Dev nD) (n : Fin 4096) (j : Fin 768) :
    (V m c main_v23 : FVec Ideal S4096x768 .bf16) (ix2 n j) = aD m c n (col ⟨2560 + j.val, by omega⟩) := by
  have hj := j.isLt
  unfold V
  after_reads_at
  split_ifs <;> after_reads_at
  all_goals refine congrArg (fun q => (m ((c : Thread nD τ).loc main_arg4) : FVec Ideal S4096x4864 .f32) (ix2 n q)) (Fin.ext ?_)
  all_goals
    show (_ : ℕ) = colN _
    unfold colN
    dsimp only
    split_ifs <;> omega

set_option maxHeartbeats 4000000 in
theorem cols2 (c : Dev nD) (n : Fin 4096) (j : Fin 768) :
    (V m c main_v24 : FVec Ideal S4096x768 .bf16) (ix2 n j) = aD m c n (col ⟨3328 + j.val, by omega⟩) := by
  have hj := j.isLt
  unfold V
  after_reads_at
  split_ifs <;> after_reads_at
  all_goals refine congrArg (fun q => (m ((c : Thread nD τ).loc main_arg4) : FVec Ideal S4096x4864 .f32) (ix2 n q)) (Fin.ext ?_)
  all_goals
    show (_ : ℕ) = colN _
    unfold colN
    dsimp only
    split_ifs <;> omega

set_option maxHeartbeats 4000000 in
theorem cols3 (c : Dev nD) (n : Fin 4096) (j : Fin 768) :
    (V m c main_v25 : FVec Ideal S4096x768 .bf16) (ix2 n j) = aD m c n (col ⟨4096 + j.val, by omega⟩) := by
  have hj := j.isLt
  unfold V
  after_reads_at
  split_ifs <;> after_reads_at
  all_goals refine congrArg (fun q => (m ((c : Thread nD τ).loc main_arg4) : FVec Ideal S4096x4864 .f32) (ix2 n q)) (Fin.ext ?_)
  all_goals
    show (_ : ℕ) = colN _
    unfold colN
    dsimp only
    split_ifs <;> omega

theorem modR (c : Dev nD) (e : Fin 1024) : (V m c main_v26 : FVec Ideal S3x1024 .f32) (ix2 (1 : Fin 3) e) = aM m c ⟨1024 + e.val, by omega⟩ := by
  unfold V
  after_reads_at

theorem gainR (c : Dev nD) (e : Fin 1024) : (V m c main_v27 : FVec Ideal S1x1024 .f32) (ix2 (0 : Fin 1) e) = aG m c e := by
  unfold V
  after_reads_at

end Cert.InValue

end
-- ==== Proof.RowNorm.lean ====
/- The norm of a row of 1024 lanes, and the way back through it. -/
module

public import proofs.«01_k».proof.Proof.HeadNorm

@[expose] public section

set_option maxRecDepth 16384

noncomputable section

open Idealize.ShloMosaic Idealize.ShloMosaic.TcCoe Idealize.SL.Sem

namespace Cert.RowNorm

open HeadNorm (eps eps_coe chalf coe_sum)

/-- The number of lanes. -/
abbrev c1024 : EReal := Ideal.ofBits FTy.f32 1149239296#32

/-- The mean square of a row, with the epsilon. -/
def ms (x : Fin 1024 → EReal) : EReal := Ideal.div (∑ k, x k * x k) c1024 + eps

/-- One over its root. -/
def rr (x : Fin 1024 → EReal) : EReal := Ideal.rsqrt (ms x)

/-- What comes back through the norm, added to `o`. -/
def nb (o : EReal) (u x : Fin 1024 → EReal) (e : Fin 1024) : EReal :=
  o + rr x * (u e - x e * rr x * Ideal.div (∑ k, u k * (x k * rr x)) c1024)

/-- The same as the derivative is written. -/
def nbR (o : EReal) (u x : Fin 1024 → EReal) (e : Fin 1024) : EReal :=
  let q := Ideal.div ((∑ i, x i * u i) * (Ideal.ofBits FTy.f32 3204448256#32 * Ideal.div (rr x) (ms x))) c1024
  o + u e * rr x + x e * q + q * x e

theorem c1024_coe : c1024 = ((1024 : ℝ) : EReal) := by
  simp [c1024, Ideal.ofBits, Ideal.ieee, -EReal.coe_mul]; norm_num

/-- The root mean square is a positive real. -/
theorem rr_coe (x : Fin 1024 → ℝ) : ∃ M r : ℝ, 0 < M ∧ r * r = 1 / M ∧ ms (fun i => (x i : EReal)) = (M : EReal) ∧
    rr (fun i => (x i : EReal)) = (r : EReal) := by
  obtain ⟨e, he, h⟩ := eps_coe
  have hs : 0 ≤ ∑ i, x i * x i := Finset.sum_nonneg fun i _ => mul_self_nonneg _
  have hM : 0 < (∑ i, x i * x i) * (1 / 1024) + e := by positivity
  have hm : ms (fun i => (x i : EReal)) = (((∑ i, x i * x i) * (1 / 1024) + e : ℝ) : EReal) := by
    rw [ms, c1024_coe, Ideal.div_coe (by norm_num), h]
    simp only [← EReal.coe_mul, coe_sum, ← EReal.coe_add]
  refine ⟨_, (√((∑ i, x i * x i) * (1 / 1024) + e))⁻¹, hM, ?_, hm, ?_⟩
  · rw [← mul_inv, Real.mul_self_sqrt hM.le]; exact (one_div _).symm
  · rw [rr, hm, Ideal.rsqrt_coe, if_neg (not_lt.2 hM.le), if_neg hM.ne']

theorem nb_eq (o : EReal) (u x : Fin 1024 → ℝ) (e : Fin 1024) :
    nbR o (fun i => (u i : EReal)) (fun i => (x i : EReal)) e = nb o (fun i => (u i : EReal)) (fun i => (x i : EReal)) e := by
  obtain ⟨M, r, hM, hrr, h1, h2⟩ := rr_coe x
  unfold nbR nb
  simp only [h1, h2]
  simp only [c1024_coe, chalf, Ideal.div_coe hM.ne', Ideal.div_coe (show (1024 : ℝ) ≠ 0 by norm_num), ← EReal.coe_mul, coe_sum, ← EReal.coe_sub]
  rw [add_assoc, add_assoc]
  simp only [← EReal.coe_add]
  congr 2
  have e1 : ∑ i, x i * u i = ∑ i, u i * x i := Finset.sum_congr rfl fun i _ => by ring
  have e2 : ∑ i, u i * (x i * r) = (∑ i, u i * x i) * r := by
    rw [Finset.sum_mul]; exact Finset.sum_congr rfl fun i _ => by ring
  rw [e1, e2, ← hrr]
  ring

/-- Of real rows both ways of writing it agree. -/
theorem nb_real (o : EReal) (u x : Fin 1024 → EReal) (e : Fin 1024) (hu : ∀ i, ∃ r : ℝ, u i = (r : EReal))
    (hx : ∀ i, ∃ r : ℝ, x i = (r : EReal)) : nbR o u x e = nb o u x e := by
  choose u' hu using hu
  choose x' hx using hx
  obtain rfl : u = fun i => (u' i : EReal) := funext hu
  obtain rfl : x = fun i => (x' i : EReal) := funext hx
  exact nb_eq o u' x' e

theorem rr_real (x : Fin 1024 → EReal) (hx : ∀ i, ∃ r : ℝ, x i = (r : EReal)) : ∃ r : ℝ, rr x = (r : EReal) := by
  choose x' hx using hx
  obtain rfl : x = fun i => (x' i : EReal) := funext hx
  obtain ⟨M, r, -, -, -, h⟩ := rr_coe x'
  exact ⟨r, h⟩

/-! Sums and products of reals are reals. -/

theorem mul_real {a b : EReal} (ha : ∃ r : ℝ, a = (r : EReal)) (hb : ∃ r : ℝ, b = (r : EReal)) : ∃ r : ℝ, a * b = (r : EReal) := by
  obtain ⟨r, rfl⟩ := ha
  obtain ⟨s, rfl⟩ := hb
  exact ⟨r * s, (EReal.coe_mul _ _).symm⟩

theorem add_real {a b : EReal} (ha : ∃ r : ℝ, a = (r : EReal)) (hb : ∃ r : ℝ, b = (r : EReal)) : ∃ r : ℝ, a + b = (r : EReal) := by
  obtain ⟨r, rfl⟩ := ha
  obtain ⟨s, rfl⟩ := hb
  exact ⟨r + s, (EReal.coe_add _ _).symm⟩

theorem sum_real {n : ℕ} (f : Fin n → EReal) (hf : ∀ i, ∃ r : ℝ, f i = (r : EReal)) : ∃ r : ℝ, ∑ i, f i = (r : EReal) := by
  choose f' hf using hf
  obtain rfl : f = fun i => (f' i : EReal) := funext hf
  exact ⟨_, coe_sum f'⟩

/-- A real factor is taken out of a sum of reals. -/
theorem sum_mul_real {n : ℕ} (f : Fin n → EReal) (c : EReal) (hf : ∀ i, ∃ r : ℝ, f i = (r : EReal)) (hc : ∃ r : ℝ, c = (r : EReal)) :
    (∑ i, f i) * c = ∑ i, f i * c := by
  choose f' hf using hf
  obtain rfl : f = fun i => (f' i : EReal) := funext hf
  obtain ⟨c', rfl⟩ := hc
  simp only [← EReal.coe_mul, coe_sum]
  rw [Finset.sum_mul]

end Cert.RowNorm

end
-- ==== Proof.InSpec.lean ====
/- The way back through the input projection and the modulated norm before it, as mathematics. -/
module

public import proofs.«01_k».proof.Proof.RowNorm

@[expose] public section

set_option maxRecDepth 16384

noncomputable section

open Idealize.ShloMosaic Idealize.ShloMosaic.TcCoe Idealize.SL.Sem

namespace Cert.InSpec

open RowNorm

variable (x : Fin 4096 → Fin 1024 → EReal) (mod : Fin 3072 → EReal) (g : Fin 1024 → EReal) (w : Fin 1024 → Fin 4864 → EReal)
  (p : Fin 4096 → Fin 4864 → EReal) (o : Fin 4096 → Fin 1024 → EReal)

/-- What comes back to the input of the projection. -/
def dh (n : Fin 4096) (d : Fin 1024) : EReal := ∑ j, p n j * w d j

/-- One plus the modulation's scale. -/
def s1 (d : Fin 1024) : EReal := 1 + mod ⟨1024 + d.val, by omega⟩

/-- The gradient of the layer's input. -/
def dx (n : Fin 4096) (d : Fin 1024) : EReal := nb (o n d) (fun k => dh w p n k * (g k * s1 mod k)) (x n) d

/-- The gradients of the shift, the scale and the gain, one token's part. -/
def tok (n : Fin 4096) (j : ℕ) (d : Fin 1024) : EReal :=
  if j = 0 then dh w p n d else if j = 1 then dh w p n d * (x n d * rr (x n) * g d)
  else if j = 2 then dh w p n d * (x n d * rr (x n)) * s1 mod d else 0

/-- The three gradients, one to a row. -/
def sums (j : Fin 8) (d : Fin 1024) : EReal := ∑ n : Fin 4096, tok x mod g w p n j.val d

theorem dh_real (hw : ∀ d j, ∃ r : ℝ, w d j = (r : EReal)) (hp : ∀ n j, ∃ r : ℝ, p n j = (r : EReal)) (n : Fin 4096) (d : Fin 1024) :
    ∃ r : ℝ, dh w p n d = (r : EReal) := sum_real _ fun j => mul_real (hp n j) (hw d j)

theorem s1_real (hm : ∀ e, ∃ r : ℝ, mod e = (r : EReal)) (d : Fin 1024) : ∃ r : ℝ, s1 mod d = (r : EReal) :=
  add_real ⟨1, EReal.coe_one.symm⟩ (hm _)

end Cert.InSpec

end
-- ==== Proof.InWindows.lean ====
/- The windows of a block, and what the vectors of the body hold. -/
module

public import proofs.«01_k».proof.Proof.InKernel
public import proofs.«01_k».proof.Proof.InSpec

@[expose] public section

set_option maxRecDepth 16384

noncomputable section

open Idealize.ShloMosaic Idealize.ShloMosaic.TcCoe Idealize.SL.Sem
open Idealize.ShloMosaic.Pipeline (Dat)

namespace Cert.InValue

open Cert.InKernelIdeal Cert.InKernelIdeal.Gen
open FinValue (at2)
open HeadNorm (eps)
open RowNorm (c1024)

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧
    win0_3.index t = ![t.val, 0] ∧ win0_4.index t = ![0, 0] ∧ win0_5.index t = ![t.val, 0] ∧ win0_6.index t = ![t.val, 0] ∧
    win0_7.index t = ![0, 0] ∧ win0_8.index t = ![0, 0] ∧ win0_9.index t = ![t.val, 0] ∧ win0_10.index t = ![0, 0] :=
  (by decide +kernel : ∀ t : Fin grid0.N, _)

/-- Row `x` of block `t`. -/
def row (t : Fin cfg0.N) (x : Fin 256) : Fin 4096 :=
  ⟨t.val * 256 + x.val, by have h : t.val < 16 := N_0 ▸ t.isLt; omega⟩

theorem rd0 (c : Dev nD) (t : Fin cfg0.N) (x : Fin 256) (j : Fin 2560) :
    iblk m c 0 t (ix2 x j) = (V m c main_v22 : FVec Ideal S4096x2560 .bf16) (ix2 (row t x) j) := by
  simp only [iblk]
  refine congrArg (V m c main_v22) ?_
  unfold row
  blk_ext [idx t]

theorem rd1 (c : Dev nD) (t : Fin cfg0.N) (x : Fin 256) (j : Fin 768) :
    iblk m c 1 t (ix2 x j) = (V m c main_v23 : FVec Ideal S4096x768 .bf16) (ix2 (row t x) j) := by
  simp only [iblk]
  refine congrArg (V m c main_v23) ?_
  unfold row
  blk_ext [idx t]

theorem rd2 (c : Dev nD) (t : Fin cfg0.N) (x : Fin 256) (j : Fin 768) :
    iblk m c 2 t (ix2 x j) = (V m c main_v24 : FVec Ideal S4096x768 .bf16) (ix2 (row t x) j) := by
  simp only [iblk]
  refine congrArg (V m c main_v24) ?_
  unfold row
  blk_ext [idx t]

theorem rd3 (c : Dev nD) (t : Fin cfg0.N) (x : Fin 256) (j : Fin 768) :
    iblk m c 3 t (ix2 x j) = (V m c main_v25 : FVec Ideal S4096x768 .bf16) (ix2 (row t x) j) := by
  simp only [iblk]
  refine congrArg (V m c main_v25) ?_
  unfold row
  blk_ext [idx t]

theorem rd4 (c : Dev nD) (t : Fin cfg0.N) (x : Fin 1024) (j : Fin 4864) :
    iblk m c 4 t (ix2 x j) = (V m c main_v21 : FVec Ideal S1024x4864 .bf16) (ix2 x j) := by
  simp only [iblk]
  refine congrArg (V m c main_v21) ?_
  blk_ext [idx t]

theorem rd5 (c : Dev nD) (t : Fin cfg0.N) (x : Fin 256) (j : Fin 1024) :
    iblk m c 5 t (ix2 x j) = (V m c main_arg0 : FVec Ideal S4096x1024 .f32) (ix2 (row t x) j) := by
  simp only [iblk]
  refine congrArg (V m c main_arg0) ?_
  unfold row
  blk_ext [idx t]

theorem rd6 (c : Dev nD) (t : Fin cfg0.N) (x : Fin 256) (j : Fin 1024) :
    iblk m c 6 t (ix2 x j) = (V m c main_arg5 : FVec Ideal S4096x1024 .f32) (ix2 (row t x) j) := by
  simp only [iblk]
  refine congrArg (V m c main_arg5) ?_
  unfold row
  blk_ext [idx t]

theorem rd7 (c : Dev nD) (t : Fin cfg0.N) (x : Fin 3) (j : Fin 1024) :
    iblk m c 7 t (ix2 x j) = (V m c main_v26 : FVec Ideal S3x1024 .f32) (ix2 x j) := by
  simp only [iblk]
  refine congrArg (V m c main_v26) ?_
  blk_ext [idx t]

theorem rd8 (c : Dev nD) (t : Fin cfg0.N) (x : Fin 1) (j : Fin 1024) :
    iblk m c 8 t (ix2 x j) = (V m c main_v27 : FVec Ideal S1x1024 .f32) (ix2 x j) := by
  simp only [iblk]
  refine congrArg (V m c main_v27) ?_
  blk_ext [idx t]

end Cert.InValue

end
-- ==== Proof.InVec.lean ====
/- What the vectors of the body hold. -/
module

public import proofs.«01_k».proof.Proof.Gen.InKernelIdeal.Value
public import proofs.«01_k».proof.Proof.FinKernel
public import proofs.«01_k».proof.Proof.InSpec
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.InValue

open Cert.InKernelIdeal Cert.InKernelIdeal.Gen
open FinValue (at2)
open HeadNorm (eps)
open RowNorm (c1024)

/-! The vectors of the body, one element at a time. -/

theorem pay3_at (a b c d e f g h) (x : Fin 256) (j : Fin 1024) : k0_pay3 (F := Ideal) a b c d e f g h (ix2 x j) =
    (∑ k : Fin 2560, a (ix2 x k) * b (ix2 j k)) + (∑ k : Fin 768, c (ix2 x k) * d (ix2 j k)) +
      (∑ k : Fin 768, e (ix2 x k) * f (ix2 j k)) + ∑ k : Fin 768, g (ix2 x k) * h (ix2 j k) := by
  pointwise [k0_pay3]

theorem pay4_at (v) (x : Fin 256) : k0_pay4 (F := Ideal) v (ix2 x (0 : Fin 1)) =
    Ideal.div (∑ k : Fin 1024, v (ix2 x k) * v (ix2 x k)) c1024 := by
  pointwise [k0_pay4]

theorem pay5_at (v) (x : Fin 256) : k0_pay5 (F := Ideal) v (ix2 x (0 : Fin 1)) = Ideal.rsqrt (v (ix2 x (0 : Fin 1)) + eps) := by
  pointwise [k0_pay5]

theorem pay6_at (a v) (x : Fin 256) (j : Fin 1024) : k0_pay6 (F := Ideal) a v (ix2 x j) =
    a (ix2 x j) * Ideal.rsqrt (v (ix2 x (0 : Fin 1)) + eps) := by
  pointwise [k0_pay6, k0_pay5]

theorem pay12_at (a v) (x : Fin 256) (j : Fin 1024) : k0_pay12 (F := Ideal) a v (ix2 x j) =
    a (ix2 (0 : Fin 1) j) * (1 + v (ix2 (0 : Fin 1) j)) := by
  pointwise [k0_pay12, k0_pay7, k0_pay8]

theorem pay1_at (a b c d e) (x : Fin 256) (j : Fin 1024) : k0_pay1 (F := Ideal) a b c d e (ix2 x j) =
    e (ix2 x j) + b (ix2 x (0 : Fin 1)) * (a (ix2 x j) * d (ix2 x j) -
      c (ix2 x j) * Ideal.div (∑ k : Fin 1024, a (ix2 x k) * d (ix2 x k) * c (ix2 x k)) c1024) := by
  pointwise [k0_pay1]

theorem pay9_at (a v) (j : Fin 1024) : k0_pay9 (F := Ideal) a v (ix2 (0 : Fin 1) j) =
    v (ix2 (0 : Fin 1) j) + ∑ x : Fin 256, a (ix2 x j) := by
  pointwise [k0_pay9]

theorem pay10_at (a b c d v) (j : Fin 1024) : k0_pay10 (F := Ideal) a b c d v (ix2 (0 : Fin 1) j) =
    v (ix2 (0 : Fin 1) j) + ∑ x : Fin 256, a (ix2 x j) * (k0_pay6 (F := Ideal) b c (ix2 x j) * d (ix2 (0 : Fin 1) j)) := by
  pointwise [k0_pay10, k0_pay7]

theorem pay11_at (a b c d v) (j : Fin 1024) : k0_pay11 (F := Ideal) a b c d v (ix2 (0 : Fin 1) j) =
    v (ix2 (0 : Fin 1) j) + (∑ x : Fin 256, a (ix2 x j) * k0_pay6 (F := Ideal) b c (ix2 x j)) * (1 + d (ix2 (0 : Fin 1) j)) := by
  pointwise [k0_pay11, k0_pay8]

end Cert.InValue

end
-- ==== Proof.InPoint.lean ====
/- What the kernel leaves in each block of the gradient of the layer's input. -/
module

public import proofs.«01_k».proof.Proof.InWindows
public import proofs.«01_k».proof.Proof.InVec
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.InValue

open Cert.InKernelIdeal Cert.InKernelIdeal.Gen
open FinValue (at2)
open HeadNorm (eps)
open RowNorm (c1024)

variable (m : (ℓ : Loc nD τ sig) → Buf (Elt Ideal) ℓ)

/-- The four pieces of the kept columns are all columns. -/
theorem pieces (f : Fin 4864 → EReal) :
    (∑ k : Fin 2560, f (col ⟨k.val, by omega⟩)) + (∑ k : Fin 768, f (col ⟨2560 + k.val, by omega⟩)) +
      (∑ k : Fin 768, f (col ⟨3328 + k.val, by omega⟩)) + (∑ k : Fin 768, f (col ⟨4096 + k.val, by omega⟩)) = ∑ j, f j := by
  rw [← Function.Bijective.sum_comp col_bij f, show (∑ j : Fin 4864, f (col j)) = ∑ j : Fin (2560 + 768 + 768 + 768), f (col j) from rfl,
    Fin.sum_univ_add, Fin.sum_univ_add, Fin.sum_univ_add]
  rfl

theorem ldW (X : S1024x4864.Idx → Elt Ideal .bf16) (o k : ℕ) (h : o + k ≤ 4864) (i) (n : Fin 1024) (j : Fin k) :
    View.ld X (Rect.unit (s := S1024x4864) ![0, o] ![1024, k] i) (ix2 n j) = X (ix2 n ⟨o + j.val, by omega⟩) := by
  refine congrArg X ?_
  funext a
  refine Fin.ext ?_
  match a with
  | 0 => show 0 + 1 * n.val = n.val; omega
  | 1 => show o + 1 * j.val = o + j.val; omega

/-- What comes back to the input of the projection, in block `t`. -/
theorem dhB (c : Dev nD) (t : Fin cfg0.N) (i0 i1 i2 i3) (x : Fin 256) (j : Fin 1024) :
    k0_pay3 (F := Ideal) (iblk m c 0 t) (View.ld (iblk m c 4 t) (Rect.unit (s := S1024x4864) ![0, 0] ![1024, 2560] i0))
      (iblk m c 1 t) (View.ld (iblk m c 4 t) (Rect.unit (s := S1024x4864) ![0, 2560] ![1024, 768] i1))
      (iblk m c 2 t) (View.ld (iblk m c 4 t) (Rect.unit (s := S1024x4864) ![0, 3328] ![1024, 768] i2))
      (iblk m c 3 t) (View.ld (iblk m c 4 t) (Rect.unit (s := S1024x4864) ![0, 4096] ![1024, 768] i3)) (ix2 x j) =
      InSpec.dh (aW m c) (aD m c) (row t x) j := by
  rw [pay3_at, InSpec.dh, ← pieces]
  have e : ∀ (o k : ℕ) (h : o + k ≤ 4864) (i) (q : Fin k), View.ld (iblk m c 4 t) (Rect.unit (s := S1024x4864) ![0, o] ![1024, k] i) (ix2 j q) =
      aW m c j (col ⟨o + q.val, by omega⟩) := fun o k h i q => (ldW _ o k h i j q).trans ((rd4 m c t _ _).trans (colsW m c _ _))
  refine congrArg₂ (· + ·) (congrArg₂ (· + ·) (congrArg₂ (· + ·) ?_ ?_) ?_) ?_
  all_goals refine Finset.sum_congr rfl fun k _ => ?_
  · rw [rd0, cols0]
    exact congrArg (_ * ·) ((e 0 2560 (by decide) _ k).trans (congrArg (fun q => aW m c j (col q)) (Fin.ext (Nat.zero_add _))))
  · rw [rd1, cols1]
    exact congrArg (_ * ·) (e 2560 768 (by decide) _ k)
  · rw [rd2, cols2]
    exact congrArg (_ * ·) (e 3328 768 (by decide) _ k)
  · rw [rd3, cols3]
    exact congrArg (_ * ·) (e 4096 768 (by decide) _ k)

/-- The mean square of a row of block `t`. -/
theorem msB (c : Dev nD) (t : Fin cfg0.N) (x : Fin 256) : k0_pay4 (F := Ideal) (iblk m c 5 t) (ix2 x (0 : Fin 1)) + eps = RowNorm.ms (aX m c (row t x)) := by
  rw [pay4_at, RowNorm.ms]
  simp only [rd5]
  rfl

theorem xrB (c : Dev nD) (t : Fin cfg0.N) (x : Fin 256) (j : Fin 1024) :
    k0_pay6 (F := Ideal) (iblk m c 5 t) (k0_pay4 (iblk m c 5 t)) (ix2 x j) = aX m c (row t x) j * RowNorm.rr (aX m c (row t x)) := by
  rw [pay6_at, msB, rd5]
  rfl

theorem gainB (c : Dev nD) (t : Fin cfg0.N) (j : Fin 1024) : iblk m c 8 t (ix2 (0 : Fin 1) j) = aG m c j :=
  (rd8 m c t 0 j).trans (gainR m c j)

theorem scaleB (c : Dev nD) (t : Fin cfg0.N) (i) (j : Fin 1024) :
    (1 : EReal) + (View.ld (iblk m c 7 t) (Rect.unit (s := S3x1024) ![1, 0] ![1, 1024] i) (ix2 (0 : Fin 1) j) : EReal) = InSpec.s1 (aM m c) j := by
  refine congrArg (fun q : EReal => 1 + q) (Eq.trans ?_ ((rd7 m c t 1 j).trans (modR m c j)))
  refine congrArg (iblk m c 7 t) ?_
  funext a
  refine Fin.ext ?_
  match a with
  | 0 => rfl
  | 1 => show 0 + 1 * j.val = j.val; omega

theorem gsB (c : Dev nD) (t : Fin cfg0.N) (i) (x : Fin 256) (j : Fin 1024) :
    k0_pay12 (F := Ideal) (iblk m c 8 t) (View.ld (iblk m c 7 t) (Rect.unit (s := S3x1024) ![1, 0] ![1, 1024] i)) (ix2 x j) =
      aG m c j * InSpec.s1 (aM m c) j :=
  (pay12_at _ _ x j).trans (congrArg₂ (· * ·) (gainB m c t j) (scaleB m c t i j))

theorem point (c : Dev nD) (t : Fin cfg0.N) (y : S256x1024.Idx) :
    (outsAt0 m c t.val t.isLt).1 y = InSpec.dx (aX m c) (aM m c) (aG m c) (aW m c) (aD m c) (aO m c) (row t (y 0)) (y 1) := by
  idx_vars y
  show _ = InSpec.dx (aX m c) (aM m c) (aG m c) (aW m c) (aD m c) (aO m c) (row t y0) y1
  by_cases h0 : t.val % 16 = 0
  on_goal 1 => rw [outsAt0_A m c t h0]
  on_goal 2 => rw [outsAt0_B m c t h0]
  all_goals
    frame_out
    rw [pay1_at, pay5_at, msB, rd6, InSpec.dx, RowNorm.nb]
    simp only [dhB, xrB, gsB]
    rfl

/-- The part of the sums block `t` adds. -/
def part (c : Dev nD) (t : Fin cfg0.N) (j : Fin 8) (l : Fin 1024) : EReal :=
  ∑ x : Fin 256, InSpec.tok (aX m c) (aM m c) (aG m c) (aW m c) (aD m c) (row t x) j.val l

/-- The three rows that the sums of a block are added to. -/
theorem addPart (c : Dev nD) (hw : ∀ n j, ∃ r : ℝ, aW m c n j = (r : EReal)) (hd : ∀ n j, ∃ r : ℝ, aD m c n j = (r : EReal))
    (hx : ∀ n j, ∃ r : ℝ, aX m c n j = (r : EReal)) (hm : ∀ e, ∃ r : ℝ, aM m c e = (r : EReal))
    (t : Fin cfg0.N) (j : Fin 8) (l : Fin 1024) (z : Fin 8 → EReal) (D : S256x1024.Idx → EReal)
    (hD : ∀ x k, D (ix2 x k) = InSpec.dh (aW m c) (aD m c) (row t x) k) (i) (v0 v1 v2 : S1x1024.Idx → EReal)
    (h0 : j.val = 0 → v0 (ix2 (0 : Fin 1) l) = z 0) (h1 : j.val = 1 → v1 (ix2 (0 : Fin 1) l) = z 1) (h2 : j.val = 2 → v2 (ix2 (0 : Fin 1) l) = z 2) :
    (if j.val = 2 then k0_pay11 (F := Ideal) D (iblk m c 5 t) (k0_pay4 (iblk m c 5 t))
        (View.ld (iblk m c 7 t) (Rect.unit (s := S3x1024) ![1, 0] ![1, 1024] i)) v2 (ix2 (0 : Fin 1) l)
      else if j.val = 1 then k0_pay10 (F := Ideal) D (iblk m c 5 t) (k0_pay4 (iblk m c 5 t)) (iblk m c 8 t) v1 (ix2 (0 : Fin 1) l)
      else if j.val = 0 then k0_pay9 (F := Ideal) D v0 (ix2 (0 : Fin 1) l) else z j) = z j + part m c t j l := by
  have hr : ∀ n, ∃ r : ℝ, RowNorm.rr (aX m c n) = (r : EReal) := fun n => RowNorm.rr_real _ fun k => hx n k
  unfold part InSpec.tok
  split
  · rw [pay11_at, scaleB, h2 ‹_›, show j = 2 from Fin.ext ‹_›]
    simp only [hD, xrB]
    rw [RowNorm.sum_mul_real _ _ (fun x => RowNorm.mul_real (InSpec.dh_real _ _ hw hd _ _) (RowNorm.mul_real (hx _ _) (hr _))) (InSpec.s1_real _ hm l)]
    rfl
  split
  · rw [pay10_at, gainB, h1 ‹_›, show j = 1 from Fin.ext ‹_›]
    simp only [hD, xrB]
    rfl
  split
  · rw [pay9_at, h0 ‹_›, show j = 0 from Fin.ext ‹_›]
    simp only [hD]
  · rw [Finset.sum_const_zero, add_zero]

theorem sumsA (c : Dev nD) (hw : ∀ n j, ∃ r : ℝ, aW m c n j = (r : EReal)) (hd : ∀ n j, ∃ r : ℝ, aD m c n j = (r : EReal))
    (hx : ∀ n j, ∃ r : ℝ, aX m c n j = (r : EReal)) (hm : ∀ e, ∃ r : ℝ, aM m c e = (r : EReal))
    (t : Fin cfg0.N) (h0 : t.val % 16 = 0) (j : Fin 8) (l : Fin 1024) :
    (outsAt0 m c t.val t.isLt).2 (ix2 j l) = 0 + part m c t j l := by
  have hz : ∀ i, k0_pay2 (F := Ideal) i = 0 := fun i => by pointwise [k0_pay2]
  rw [outsAt0_A m c t h0]
  frame_out
  refine (Rows.canonRow 2 _ _ _ j l).trans ?_
  rw [Rows.canonRow 1, Rows.canonRow 0, View.canon_cons_unit_lit (S := S8x1024) inb_S8x1024_S8x1024_0_0 _ [] (by decide), hz]
  refine addPart m c hw hd hx hm t j l (fun _ => 0) _ (fun x k => dhB m c t _ _ _ _ x k) _ _ _ _ ?_ ?_ ?_
  · intro _
    refine (Rows.readRow 0 _ (by decide) _ l).trans ?_
    rw [View.canon_cons_unit_lit (S := S8x1024) inb_S8x1024_S8x1024_0_0 _ [] (by decide), hz]
  · intro _
    refine (Rows.readRow 1 _ (by decide) _ l).trans ?_
    rw [Rows.canonRow 0, if_neg (by decide), View.canon_cons_unit_lit (S := S8x1024) inb_S8x1024_S8x1024_0_0 _ [] (by decide), hz]
  · intro _
    refine (Rows.readRow 2 _ (by decide) _ l).trans ?_
    rw [Rows.canonRow 1, if_neg (by decide), Rows.canonRow 0, if_neg (by decide),
      View.canon_cons_unit_lit (S := S8x1024) inb_S8x1024_S8x1024_0_0 _ [] (by decide), hz]

theorem sumsB (c : Dev nD) (hw : ∀ n j, ∃ r : ℝ, aW m c n j = (r : EReal)) (hd : ∀ n j, ∃ r : ℝ, aD m c n j = (r : EReal))
    (hx : ∀ n j, ∃ r : ℝ, aX m c n j = (r : EReal)) (hm : ∀ e, ∃ r : ℝ, aM m c e = (r : EReal))
    (t : Fin cfg0.N) (h0 : ¬ t.val % 16 = 0) (j : Fin 8) (l : Fin 1024) :
    (outsAt0 m c t.val t.isLt).2 (ix2 j l) = (outsAt0 m c (t.val - 1) (by omega)).2 (ix2 j l) + part m c t j l := by
  rw [outsAt0_B m c t h0]
  frame_out
  generalize (outsAt0 m c (t.val - 1) _).2 = z
  refine (Rows.viewRow _ 2 _ _ _ j l).trans ?_
  rw [Rows.viewRow _ 1, Rows.viewRow _ 0]
  refine Eq.trans (if_congr Iff.rfl rfl (if_congr Iff.rfl rfl (if_congr Iff.rfl rfl (congrFun (Memref.IsWhole.read_unread _ _) (ix2 j l))))) ?_
  exact addPart m c hw hd hx hm t j l (fun j => z (ix2 j l)) _ (fun x k => dhB m c t _ _ _ _ x k) _ _ _ _
    (fun _ => Rows.ldRow z 0 inb_S8x1024_S1x1024_0_0 (by decide) l) (fun _ => Rows.ldRow z 1 inb_S8x1024_S1x1024_1_0 (by decide) l)
    (fun _ => Rows.ldRow z 2 inb_S8x1024_S1x1024_2_0 (by decide) l)

/-- The two results. -/
abbrev GX (c : Dev nD) : Fin 4096 → Fin 1024 → EReal := InSpec.dx (aX m c) (aM m c) (aG m c) (aW m c) (aD m c) (aO m c)
abbrev GS (c : Dev nD) : Fin 8 → Fin 1024 → EReal := InSpec.sums (aX m c) (aM m c) (aG m c) (aW m c) (aD m c)

theorem final9 (c : Dev nD) : (dats m 0 c).arrAt 9 (cfgs 0).N = (fun i => GX m c (i 0) (i 1) : FVec Ideal S4096x1024 .f32) := by
  refine (dats m 0 c).arrAt_eq_of_covers 9 _ (by decide +kernel) fun t hf y => ?_
  blk_simp
  rw [after0_9]
  refine (point m c t y).trans ?_
  idx_vars y
  show GX m c (row t y0) y1 = GX m c ((((cfg0.win 9).blk t).view.emb (ix2 y0 y1)) 0) ((((cfg0.win 9).blk t).view.emb (ix2 y0 y1)) 1)
  have e : (((cfg0.win 9).blk t).view.emb (ix2 y0 y1) : S4096x1024.Idx) = ix2 (row t y0) y1 := by
    unfold row
    blk_ext [idx t]
  rw [e]
  rfl

theorem final10 (c : Dev nD) (hw : ∀ n j, ∃ r : ℝ, aW m c n j = (r : EReal)) (hd : ∀ n j, ∃ r : ℝ, aD m c n j = (r : EReal))
    (hx : ∀ n j, ∃ r : ℝ, aX m c n j = (r : EReal)) (hm : ∀ e, ∃ r : ℝ, aM m c e = (r : EReal)) :
    (dats m 0 c).arrAt 10 (cfgs 0).N = (fun i => GS m c (i 0) (i 1) : FVec Ideal S8x1024 .f32) := by
  refine (dats m 0 c).arrAt_eq_of_after_last 10 t0_15 (by decide +kernel) _ fun j => ?_
  blk_simp
  rw [after0_10]
  rw [Pipeline.eq_sum_fin_of_reset_step_apply_last (fun n h => (outsAt0 m c n h).2) 16 (fun _ => 0)
    (fun t j => part m c t (j 0) (j 1)) (fun t h j => by idx_vars j; exact sumsA m c hw hd hx hm t h _ _)
    (fun t h j => by idx_vars j; exact sumsB m c hw hd hx hm t h _ _) (le_of_eq N_0) t0_15 rfl j, zero_add]
  exact Fin.sum_mul_add_congr (fun _ _ _ => rfl) (by show 4096 = grid0.N * 256; rw [N_0])

end Cert.InValue

end
-- ==== Proof.InReference.lean ====
/- The reference of the way back through the input projection, one element at a time. -/
module

public import proofs.«01_k».proof.Proof.Gen.InReferenceIdeal.Read
public import proofs.«01_k».proof.Proof.FinKernel
public import proofs.«01_k».proof.Proof.InSpec

@[expose] public section

set_option maxRecDepth 16384

noncomputable section

open Idealize.ShloMosaic Idealize.ShloMosaic.TcCoe Idealize.SL.Sem

namespace Cert.InRef

open Cert.InReferenceIdeal Cert.InReferenceIdeal.Read
open FinValue (at2)
open RowNorm InSpec

variable (x0 : FVec Ideal S4096x1024 .f32) (x1 : FVec Ideal S3072 .f32) (x2 : FVec Ideal S1024 .f32) (x3 : FVec Ideal S1024x4864 .f32)
  (x4 : FVec Ideal S4096x4864 .f32) (x5 : FVec Ideal S4096x1024 .f32)

theorem v9_at (n : Fin 4096) : (val_main_v9 (F := Ideal) x0 : FVec Ideal S4096x1 .f32) (ix2 n (0 : Fin 1)) = ms (at2 x0 n) := by
  pointwise [val_main_cst, val_main_cst_0, val_main_cst_1, val_main_cst_2, val_main_cst_3, val_main_cst_4, val_main_cst_5, val_main_cst_6,
    val_main_cst_7, val_main_cst_8, val_main_cst_9, val_main_cst_10, val_main_cst_11, val_main_cst_12, val_main_cst_13,
    val_main_v3, val_main_v4, val_main_v5, val_main_v6, val_main_v7, val_main_v8, val_main_v9]
  rfl

theorem v10_at (n : Fin 4096) : (val_main_v10 (F := Ideal) x0 : FVec Ideal S4096x1 .f32) (ix2 n (0 : Fin 1)) = rr (at2 x0 n) := by
  refine Eq.trans ?_ (congrArg Ideal.rsqrt (v9_at x0 n))
  pointwise [val_main_v10]

theorem v13_at (n : Fin 4096) : (val_main_v13 (F := Ideal) x0 : FVec Ideal S4096x1 .f32) (ix2 n (0 : Fin 1)) =
    Ideal.ofBits FTy.f32 3204448256#32 * Ideal.div (rr (at2 x0 n)) (ms (at2 x0 n)) := by
  pointwise [val_main_cst, val_main_cst_0, val_main_cst_1, val_main_cst_2, val_main_cst_3, val_main_cst_4, val_main_cst_5, val_main_cst_6,
    val_main_cst_7, val_main_cst_8, val_main_cst_9, val_main_cst_10, val_main_cst_11, val_main_cst_12, val_main_cst_13,
    val_main_v11, val_main_v12, val_main_v13]
  rw [v10_at, v9_at]

theorem v15_at (n : Fin 4096) (d : Fin 1024) : (val_main_v15 (F := Ideal) x0 : FVec Ideal S4096x1024 .f32) (ix2 n d) = at2 x0 n d * rr (at2 x0 n) := by
  pointwise [val_main_v14, val_main_v15]
  rw [v10_at]

theorem v28_at (n : Fin 4096) (d : Fin 1024) : (val_main_v28 (F := Ideal) x3 x4 : FVec Ideal S4096x1024 .f32) (ix2 n d) = dh (at2 x3) (at2 x4) n d := by
  pointwise [val_main_v28]
  rfl

theorem v36_at (n : Fin 4096) (d : Fin 1024) : (val_main_v36 (F := Ideal) x1 x3 x4 : FVec Ideal S4096x1024 .f32) (ix2 n d) =
    dh (at2 x3) (at2 x4) n d * s1 (fun e => x1 (ix1 e)) d := by
  pointwise [val_main_cst, val_main_cst_0, val_main_cst_1, val_main_cst_2, val_main_cst_3, val_main_cst_4, val_main_cst_5, val_main_cst_6,
    val_main_cst_7, val_main_cst_8, val_main_cst_9, val_main_cst_10, val_main_cst_11, val_main_cst_12, val_main_cst_13,
    val_main_v1, val_main_v19, val_main_v20, val_main_v21, val_main_v35, val_main_v36]
  rw [v28_at]
  rfl

theorem v42_at (n : Fin 4096) (d : Fin 1024) : (val_main_v42 (F := Ideal) x1 x2 x3 x4 : FVec Ideal S4096x1024 .f32) (ix2 n d) =
    dh (at2 x3) (at2 x4) n d * s1 (fun e => x1 (ix1 e)) d * x2 (ix1 d) := by
  pointwise [val_main_v16, val_main_v41, val_main_v42]
  rw [v36_at]

theorem v58_at (n : Fin 4096) (d : Fin 1024) : (val_main_v58 (F := Ideal) x0 x1 x2 x3 x4 x5 : FVec Ideal S4096x1024 .f32) (ix2 n d) =
    nbR (at2 x5 n d) (fun k => dh (at2 x3) (at2 x4) n k * s1 (fun e => x1 (ix1 e)) k * x2 (ix1 k)) (at2 x0 n) d := by
  pointwise [val_main_cst, val_main_cst_0, val_main_cst_1, val_main_cst_2, val_main_cst_3, val_main_cst_4, val_main_cst_5, val_main_cst_6,
    val_main_cst_7, val_main_cst_8, val_main_cst_9, val_main_cst_10, val_main_cst_11, val_main_cst_12, val_main_cst_13,
    val_main_v44, val_main_v45, val_main_v46, val_main_v47, val_main_v48, val_main_v49, val_main_v50, val_main_v51, val_main_v52,
    val_main_v53, val_main_v54, val_main_v55, val_main_v56, val_main_v57, val_main_v58]
  simp only [v10_at, v13_at, v42_at, Finset.univ_unique, Finset.sum_singleton, show (default : Fin 1) = 0 from rfl]
  rfl

/-- The gradient of the layer's input, of real arguments. -/
theorem grad (h0 : ∀ n j, ∃ r : ℝ, at2 x0 n j = (r : EReal)) (h1 : ∀ e, ∃ r : ℝ, x1 (ix1 e) = (r : EReal)) (h2 : ∀ e, ∃ r : ℝ, x2 (ix1 e) = (r : EReal))
    (h3 : ∀ n j, ∃ r : ℝ, at2 x3 n j = (r : EReal)) (h4 : ∀ n j, ∃ r : ℝ, at2 x4 n j = (r : EReal)) (n : Fin 4096) (d : Fin 1024) :
    (val_main_v58 (F := Ideal) x0 x1 x2 x3 x4 x5 : FVec Ideal S4096x1024 .f32) (ix2 n d) =
      dx (at2 x0) (fun e => x1 (ix1 e)) (fun e => x2 (ix1 e)) (at2 x3) (at2 x4) (at2 x5) n d := by
  rw [v58_at, nb_real _ _ _ _ (fun k => mul_real (mul_real (dh_real _ _ h3 h4 n k) (s1_real _ h1 k)) (h2 k)) (fun k => h0 n k), dx]
  refine congrArg (fun u => nb (at2 x5 n d) u (at2 x0 n) d) (funext fun k => ?_)
  rw [mul_assoc, mul_comm (s1 _ k)]

/-- The gradients of the shift, the scale and the gain. -/
theorem sums_at (j : Fin 8) (d : Fin 1024) : (val_main_v63 (F := Ideal) x0 x1 x2 x3 x4 : FVec Ideal S8x1024 .f32) (ix2 j d) =
    sums (at2 x0) (fun e => x1 (ix1 e)) (fun e => x2 (ix1 e)) (at2 x3) (at2 x4) j d := by
  have hj := j.isLt
  pointwise [val_main_cst, val_main_cst_0, val_main_cst_1, val_main_cst_2, val_main_cst_3, val_main_cst_4, val_main_cst_5, val_main_cst_6,
    val_main_cst_7, val_main_cst_8, val_main_cst_9, val_main_cst_10, val_main_cst_11, val_main_cst_12, val_main_cst_13,
    val_main_v16, val_main_v17, val_main_v18, val_main_v29, val_main_v30, val_main_v31, val_main_v32, val_main_v33, val_main_v34,
    val_main_v37, val_main_v38, val_main_v39, val_main_v40, val_main_v43, val_main_v59, val_main_v60, val_main_v61, val_main_v62,
    val_main_v63]
  simp only [v15_at, v28_at, v36_at, Finset.univ_unique, Finset.sum_singleton]
  unfold sums tok
  by_cases h0 : j.val = 0
  · simp only [if_pos h0]
    rw [dif_pos (by omega)]
  by_cases h1 : j.val = 1
  · simp only [if_neg h0, if_pos h1]
    rw [dif_neg (by omega), dif_pos (by omega)]
    exact Finset.sum_congr rfl fun n _ => mul_comm _ _
  by_cases h2 : j.val = 2
  · simp only [if_neg h0, if_neg h1, if_pos h2]
    rw [dif_neg (by omega), dif_neg (by omega), dif_pos (by omega)]
    exact Finset.sum_congr rfl fun n _ => by rw [← mul_assoc, mul_comm (at2 x0 n d * _)]
  simp only [if_neg h0, if_neg h1, if_neg h2, Finset.sum_const_zero]
  rw [dif_neg (by omega), dif_neg (by omega), dif_neg (by omega)]

end Cert.InRef

end
-- ==== Proof.InClaim.lean ====
/- The backward call of the input projection computes the derivative, of real arguments. -/
module

public import proofs.«01_k».proof.Defs
public import proofs.«01_k».proof.Proof.Gen.Pre_finite_in
public import proofs.«01_k».proof.Proof.Gen.InKernelIdeal.Value
public import proofs.«01_k».proof.Proof.Gen.InReferenceIdeal.Run
public import proofs.«01_k».proof.Proof.InPoint
public import proofs.«01_k».proof.Proof.InReference
public import proofs.«01_k».proof.Proof.Finite

@[expose] public section

set_option maxRecDepth 16384

noncomputable section

open Idealize.ShloMosaic Idealize.ShloMosaic.TcCoe Idealize.SL.Sem

namespace Cert.InClaim

open FinValue (at2)

section reference

variable (x0 : FVec Ideal Cert.InKernelIdeal.S4096x1024 .f32) (x1 : FVec Ideal Cert.InKernelIdeal.S3072 .f32) (x2 : FVec Ideal Cert.InKernelIdeal.S1024 .f32)
  (x3 : FVec Ideal Cert.InKernelIdeal.S1024x4864 .f32) (x4 : FVec Ideal Cert.InKernelIdeal.S4096x4864 .f32) (x5 : FVec Ideal Cert.InKernelIdeal.S4096x1024 .f32)

/-- What the precondition says of the arguments. -/
theorem finite (h : Cert.Pre_finite_in.fn (F := Ideal) x0 x1 x2 x3 x4 x5 = fun _ => 1#1) :
    ((∀ i, ∃ r : ℝ, x0 i = (r : EReal)) ∧ (∀ i, ∃ r : ℝ, x1 i = (r : EReal)) ∧ (∀ i, ∃ r : ℝ, x2 i = (r : EReal))) ∧
      (∀ i, ∃ r : ℝ, x3 i = (r : EReal)) ∧ ∀ i, ∃ r : ℝ, x4 i = (r : EReal) := by
  simp only [Cert.Pre_finite_in.fn, Cert.Pre_finite_in.fn_part1] at h
  obtain ⟨h, h4⟩ := Finite.split h
  obtain ⟨h, h3⟩ := Finite.split h
  obtain ⟨h, h2⟩ := Finite.split h
  obtain ⟨h, h1⟩ := Finite.split h
  obtain ⟨-, h0⟩ := Finite.split h
  exact ⟨⟨Finite.all_real x0 _ _ _ h0, Finite.all_real x1 _ _ _ h1, Finite.all_real x2 _ _ _ h2⟩,
    Finite.all_real x3 _ _ _ h3, Finite.all_real x4 _ _ _ h4⟩

/-- The reference's gradient, written with the kernel's shapes. -/
theorem grad_eq (h : Cert.Pre_finite_in.fn (F := Ideal) x0 x1 x2 x3 x4 x5 = fun _ => 1#1) :
    (Cert.InReferenceIdeal.Read.val_main_v58 (F := Ideal) x0 x1 x2 x3 x4 x5 : FVec Ideal Cert.InKernelIdeal.S4096x1024 .f32) =
      fun i => InSpec.dx (at2 x0) (fun e => x1 (ix1 e)) (fun e => x2 (ix1 e)) (at2 x3) (at2 x4) (at2 x5) (i 0) (i 1) := by
  obtain ⟨⟨h0, h1, h2⟩, h3, h4⟩ := finite _ _ _ _ _ _ h
  funext i
  idx_vars i
  exact InRef.grad x0 x1 x2 x3 x4 x5 (fun _ _ => h0 _) (fun _ => h1 _) (fun _ => h2 _) (fun _ _ => h3 _) (fun _ _ => h4 _) i0 i1

/-- The reference's gradients of the shift, the scale and the gain, written with the kernel's shapes. -/
theorem sums_eq :
    (Cert.InReferenceIdeal.Read.val_main_v63 (F := Ideal) x0 x1 x2 x3 x4 : FVec Ideal Cert.InKernelIdeal.S8x1024 .f32) =
      fun i => InSpec.sums (at2 x0) (fun e => x1 (ix1 e)) (fun e => x2 (ix1 e)) (at2 x3) (at2 x4) (i 0) (i 1) := by
  funext i
  idx_vars i
  exact InRef.sums_at x0 x1 x2 x3 x4 i0 i1

end reference

set_option maxHeartbeats 4000000 in
theorem value : Cert.algebraic_InKernelIdeal_InReferenceIdeal_pre_finite_in := by
  pair_intro
  · run_from Cert.InKernelIdeal.Gen.run_main m g
  · run_from Cert.InReferenceIdeal.Value.run m' g'
    all_goals obtain ⟨h0, h1, h2, h3, h4, h5⟩ := hagree c
    all_goals have hp := hpre c
    all_goals obtain ⟨⟨kx, km, -⟩, kw, kd⟩ := finite _ _ _ _ _ _ hp
    · rw [Cert.InReferenceIdeal.Read.val_main_v58_eq, InValue.final9 m c, h0, h1, h2, h3, h4, h5]
      exact grad_eq _ _ _ _ _ _ hp
    · rw [Cert.InReferenceIdeal.Read.val_main_v63_eq, InValue.final10 m c (fun _ _ => kw _) (fun _ _ => kd _) (fun _ _ => kx _) (fun _ => km _), h4]
      exact sums_eq _ _ _ _ _

end Cert.InClaim

end
-- ==== Proof.MidFrames.lean ====
/- The frames of the backward call of the output norm and the branches. -/
module

public import proofs.«01_k».proof.Defs
public import proofs.«01_k».proof.Proof.Gen.MidKernel.Frame
public import proofs.«01_k».proof.Proof.Gen.MidKernelIdeal.Frame
public import proofs.«01_k».proof.Proof.Gen.MidReferenceIdeal.Run

@[expose] public section

set_option maxRecDepth 16384

noncomputable section

open Idealize.ShloMosaic Idealize.ShloMosaic.TcCoe Idealize.SL.Sem

namespace Cert.MidFrames

theorem kernel : Cert.quiescent_MidKernel := fun m ρ _ => Cert.MidKernel.Gen.frame m ρ

theorem kernelIdeal : Cert.quiescent_MidKernelIdeal := fun m ρ _ => Cert.MidKernelIdeal.Gen.frame m ρ

theorem reference : Cert.quiescent_MidReferenceIdeal := by
  intro m ρ _
  exact (θ_run Cert.MidReferenceIdeal.defs _ _).mono
    (fun r h => ⟨fun c => (h c).2.2.2.2.2.2.2.2.2.2, Idealize.ShloMosaic.sem_eq_zero_of_no_sems (by decide) r.2⟩)
    (Cert.MidReferenceIdeal.Value.run (F := Ideal) m ρ)

end Cert.MidFrames

end
-- ==== Proof.MidSpec.lean ====
/- The way back through the loss, the gated norm and the merge: what the kernel computes, one element at a time. -/
module

public import proofs.«01_k».proof.Proof.RowNorm
public import proofs.«01_k».proof.Proof.FinKernel

@[expose] public section

set_option maxRecDepth 16384

noncomputable section

open Idealize.ShloMosaic Idealize.ShloMosaic.TcCoe Idealize.SL.Sem

namespace Cert.MidSpec

open RowNorm

/-- The arguments: input, target, gate and gain of the norm, attention, its gate, recurrence, the two merge gates and the three weights. -/
structure Args where
  x : Fin 4096 → Fin 1024 → EReal
  t : Fin 4096 → Fin 1024 → EReal
  gate : Fin 1024 → EReal
  gp : Fin 1024 → EReal
  o : Fin 4096 → Fin 512 → EReal
  za : Fin 4096 → Fin 512 → EReal
  yr : Fin 4096 → Fin 512 → EReal
  ga : Fin 4096 → Fin 1024 → EReal
  gr : Fin 4096 → Fin 1024 → EReal
  wa : Fin 512 → Fin 1024 → EReal
  wr : Fin 512 → Fin 1024 → EReal
  wo : Fin 1024 → Fin 1024 → EReal

/-- The logistic function. -/
def lg (z : EReal) : EReal := Ideal.div 1 (1 + Ideal.exp (-z))

/-- One over the width. -/
def i1024 : EReal := Ideal.ofBits FTy.f32 981467136#32

variable (A : Args)

namespace Args

def ya (n : Fin 4096) (j : Fin 512) : EReal := A.o n j * (A.za n j * lg (A.za n j))
def av (n : Fin 4096) (d : Fin 1024) : EReal := ∑ j, A.ya n j * A.wa j d
def rv (n : Fin 4096) (d : Fin 1024) : EReal := ∑ j, A.yr n j * A.wr j d
def mb (n : Fin 4096) (d : Fin 1024) : EReal := lg (A.ga n d) * A.av n d + lg (A.gr n d) * A.rv n d
def u (n : Fin 4096) (d : Fin 1024) : EReal := ∑ k, A.mb n k * A.wo k d
def un (n : Fin 4096) (d : Fin 1024) : EReal := A.u n d * rr (A.u n)
def yv (n : Fin 4096) (d : Fin 1024) : EReal := A.un n d * A.gp d
def err (n : Fin 4096) (d : Fin 1024) : EReal := A.x n d + A.gate d * A.yv n d - A.t n d
def dout (n : Fin 4096) (d : Fin 1024) : EReal := A.err n d * i1024
def dy (n : Fin 4096) (d : Fin 1024) : EReal := A.dout n d * A.gate d
def dyg (n : Fin 4096) (d : Fin 1024) : EReal := A.dy n d * A.gp d
def du (n : Fin 4096) (d : Fin 1024) : EReal := nb 0 (A.dyg n) (A.u n) d
def dm (n : Fin 4096) (d : Fin 1024) : EReal := ∑ k, A.du n k * A.wo d k
def da (n : Fin 4096) (d : Fin 1024) : EReal := A.dm n d * lg (A.ga n d)
def dr (n : Fin 4096) (d : Fin 1024) : EReal := A.dm n d * lg (A.gr n d)
def dga (n : Fin 4096) (d : Fin 1024) : EReal := A.dm n d * A.av n d * (lg (A.ga n d) * (1 - lg (A.ga n d)))
def dgr (n : Fin 4096) (d : Fin 1024) : EReal := A.dm n d * A.rv n d * (lg (A.gr n d) * (1 - lg (A.gr n d)))
def dya (n : Fin 4096) (j : Fin 512) : EReal := ∑ d, A.da n d * A.wa j d
def dyr (n : Fin 4096) (j : Fin 512) : EReal := ∑ d, A.dr n d * A.wr j d
def dov (n : Fin 4096) (j : Fin 512) : EReal := A.dya n j * (A.za n j * lg (A.za n j))
def dza (n : Fin 4096) (j : Fin 512) : EReal :=
  A.dya n j * A.o n j * (lg (A.za n j) * (1 + A.za n j * (1 - lg (A.za n j))))

/-- The gradient of the projection's kept columns: the two merge gates, then the attention's gate. -/
def dp (n : Fin 4096) (j : Fin 2560) : EReal :=
  if h : j.val < 1024 then A.dga n ⟨j.val, h⟩
  else if h' : j.val < 2048 then A.dgr n ⟨j.val - 1024, by omega⟩ else A.dza n ⟨j.val - 2048, by omega⟩

/-- The gradient of the attention's output, head by head, transposed. -/
def dot (h : Fin 8) (e : Fin 64) (n : Fin 4096) : EReal := A.dov n ⟨h.val * 64 + e.val, by omega⟩

/-- What a token adds to the sums: the gate's, the gain's and the loss's. -/
def tok (n : Fin 4096) (j : ℕ) (l : Fin 1024) : EReal :=
  if j = 2 then A.err n l * A.err n l else if j = 1 then A.dy n l * A.un n l else if j = 0 then A.dout n l * A.yv n l else 0

def sums (j : Fin 8) (l : Fin 1024) : EReal := ∑ n, A.tok n j.val l

end Args

end Cert.MidSpec

end
-- ==== Proof.MidKernel.lean ====
/- The kernel that goes back through the loss, the gated norm and the merge: its operands and the windows of a block. -/
module

public import proofs.«01_k».proof.Proof.Gen.MidKernelIdeal.Value
public import proofs.«01_k».proof.Proof.MidSpec
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.MidValue

open Cert.MidKernelIdeal Cert.MidKernelIdeal.Gen
open FinValue (at2)
open MidSpec (Args)

variable (m : (ℓ : Loc nD τ sig) → Buf (Elt Ideal) ℓ)

/-- The specification's arguments, from the whole arrays. -/
def mk (x t : FVec Ideal S4096x1024 .f32) (mo : FVec Ideal S3072 .f32) (g : FVec Ideal S1024 .f32) (o : FVec Ideal S4096x512 .f32)
    (p : FVec Ideal S4096x4864 .f32) (y : FVec Ideal S4096x512 .f32) (wa wr : FVec Ideal S512x1024 .f32) (wo : FVec Ideal S1024x1024 .f32) : Args where
  x := at2 x
  t := at2 t
  gate := fun e => mo (ix1 ⟨2048 + e.val, by omega⟩)
  gp := fun e => g (ix1 e)
  o := at2 o
  za := fun n j => p (ix2 n ⟨768 + j.val, by omega⟩)
  yr := at2 y
  ga := fun n d => p (ix2 n ⟨2816 + d.val, by omega⟩)
  gr := fun n d => p (ix2 n ⟨3840 + d.val, by omega⟩)
  wa := at2 wa
  wr := at2 wr
  wo := at2 wo

/-- The specification's arguments, from what the program is given. -/
def arg (c : Dev nD) : Args :=
  mk (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

set_option maxHeartbeats 4000000 in
theorem opA (c : Dev nD) (n : Fin 4096) (j : Fin 1024) :
    (V m c main_v12 : FVec Ideal S4096x4864 .bf16) (ix2 n ⟨0 + j.val, by omega⟩) = (arg m c).ga n j := by
  have hj := j.isLt
  unfold V
  after_reads_at
  try (split_ifs <;> try omega)
  all_goals try after_reads_at
  all_goals refine congrArg (fun q => (m ((c : Thread nD τ).loc main_arg5) : FVec Ideal S4096x4864 .f32) (ix2 n q)) (Fin.ext ?_)
  all_goals
    show (_ : ℕ) = 2816 + j.val
    first | rfl | omega | (dsimp only; omega)

set_option maxHeartbeats 4000000 in
theorem opR (c : Dev nD) (n : Fin 4096) (j : Fin 1024) :
    (V m c main_v12 : FVec Ideal S4096x4864 .bf16) (ix2 n ⟨1024 + j.val, by omega⟩) = (arg m c).gr n j := by
  have hj := j.isLt
  unfold V
  after_reads_at
  try (split_ifs <;> try omega)
  all_goals try after_reads_at
  all_goals refine congrArg (fun q => (m ((c : Thread nD τ).loc main_arg5) : FVec Ideal S4096x4864 .f32) (ix2 n q)) (Fin.ext ?_)
  all_goals
    show (_ : ℕ) = 3840 + j.val
    first | rfl | omega | (dsimp only; omega)

set_option maxHeartbeats 4000000 in
theorem opZ (c : Dev nD) (n : Fin 4096) (j : Fin 512) :
    (V m c main_v12 : FVec Ideal S4096x4864 .bf16) (ix2 n ⟨2048 + j.val, by omega⟩) = (arg m c).za n j := by
  have hj := j.isLt
  unfold V
  after_reads_at
  try (split_ifs <;> try omega)
  all_goals try after_reads_at
  all_goals refine congrArg (fun q => (m ((c : Thread nD τ).loc main_arg5) : FVec Ideal S4096x4864 .f32) (ix2 n q)) (Fin.ext ?_)
  all_goals
    show (_ : ℕ) = 768 + j.val
    first | rfl | omega | (dsimp only; omega)

theorem opM (c : Dev nD) (e : Fin 1024) : (V m c main_v0 : FVec Ideal S3x1024 .f32) (ix2 (2 : Fin 3) e) = (arg m c).gate e := by
  unfold V
  after_reads_at
  rfl

theorem opG (c : Dev nD) (e : Fin 1024) : (V m c main_v1 : FVec Ideal S1x1024 .f32) (ix2 (0 : Fin 1) e) = (arg m c).gp e := by
  unfold V
  after_reads_at
  rfl

theorem opY (c : Dev nD) (n : Fin 4096) (e : Fin 512) : (V m c main_v13 : FVec Ideal S4096x512 .bf16) (ix2 n e) = (arg m c).yr n e := by
  unfold V
  after_reads_at
  rfl

theorem opWa (c : Dev nD) (n : Fin 512) (e : Fin 1024) : (V m c main_v14 : FVec Ideal S512x1024 .bf16) (ix2 n e) = (arg m c).wa n e := by
  unfold V
  after_reads_at
  rfl

theorem opWr (c : Dev nD) (n : Fin 512) (e : Fin 1024) : (V m c main_v15 : FVec Ideal S512x1024 .bf16) (ix2 n e) = (arg m c).wr n e := by
  unfold V
  after_reads_at
  rfl

theorem opWo (c : Dev nD) (n : Fin 1024) (e : Fin 1024) : (V m c main_v16 : FVec Ideal S1024x1024 .bf16) (ix2 n e) = (arg m c).wo n e := by
  unfold V
  after_reads_at
  rfl

end Cert.MidValue

end
-- ==== Proof.MidWindows.lean ====
/- The windows of a block of the kernel that goes back through the loss, the gated norm and the merge. -/
module

public import proofs.«01_k».proof.Proof.MidKernel

@[expose] public section

set_option maxRecDepth 16384

noncomputable section

open Idealize.ShloMosaic Idealize.ShloMosaic.TcCoe Idealize.SL.Sem
open Idealize.ShloMosaic.Pipeline (Dat)

namespace Cert.MidValue

open Cert.MidKernelIdeal Cert.MidKernelIdeal.Gen
open FinValue (at2)

variable (m : (ℓ : Loc nD τ sig) → Buf (Elt Ideal) ℓ)

theorem idx : ∀ t : Fin cfg0.N, win0_0.index t = ![t.val, 0] ∧
    win0_1.index t = ![t.val, 0] ∧
    win0_2.index t = ![0, 0] ∧
    win0_3.index t = ![0, 0] ∧
    win0_4.index t = ![t.val, 0] ∧
    win0_5.index t = ![t.val, 4] ∧
    win0_6.index t = ![t.val, 0] ∧
    win0_7.index t = ![t.val, 0] ∧
    win0_8.index t = ![0, 0] ∧
    win0_9.index t = ![0, 0] ∧
    win0_10.index t = ![0, 0] ∧
    win0_11.index t = ![t.val, 0] ∧
    win0_12.index t = ![0, 0, t.val] ∧
    win0_13.index t = ![t.val, 0] ∧
    win0_14.index t = ![t.val, 0] ∧
    win0_15.index t = ![t.val, 0] ∧
    win0_16.index t = ![t.val, 0] ∧
    win0_17.index t = ![t.val, 0] ∧
    win0_18.index t = ![t.val, 0] ∧
    win0_19.index t = ![t.val, 0] ∧
    win0_20.index t = ![0, 0] :=
  (by decide +kernel : ∀ t : Fin grid0.N, _)

/-- Row `x` of block `t`. -/
def row (t : Fin cfg0.N) (x : Fin 256) : Fin 4096 :=
  ⟨t.val * 256 + x.val, by have h : t.val < 16 := N_0 ▸ t.isLt; omega⟩

theorem rd0 (c : Dev nD) (t : Fin cfg0.N) (x : Fin 256) (j : Fin 1024) : iblk m c 0 t (ix2 x j) = (arg m c).x (row t x) j := by
  refine Eq.trans (b := (V m c main_arg0 : FVec Ideal S4096x1024 .f32) (ix2 (row t x) j)) ?_ ?_
  · simp only [iblk]
    refine congrArg (V m c main_arg0) ?_
    unfold row
    blk_ext [idx t]
  · unfold V
    after_reads_at
    rfl

theorem rd1 (c : Dev nD) (t : Fin cfg0.N) (x : Fin 256) (j : Fin 1024) : iblk m c 1 t (ix2 x j) = (arg m c).t (row t x) j := by
  refine Eq.trans (b := (V m c main_arg1 : FVec Ideal S4096x1024 .f32) (ix2 (row t x) j)) ?_ ?_
  · simp only [iblk]
    refine congrArg (V m c main_arg1) ?_
    unfold row
    blk_ext [idx t]
  · unfold V
    after_reads_at
    rfl

theorem rd4 (c : Dev nD) (t : Fin cfg0.N) (x : Fin 256) (j : Fin 512) : iblk m c 4 t (ix2 x j) = (arg m c).o (row t x) j := by
  refine Eq.trans (b := (V m c main_arg4 : FVec Ideal S4096x512 .f32) (ix2 (row t x) j)) ?_ ?_
  · simp only [iblk]
    refine congrArg (V m c main_arg4) ?_
    unfold row
    blk_ext [idx t]
  · unfold V
    after_reads_at
    rfl

theorem rd7 (c : Dev nD) (t : Fin cfg0.N) (x : Fin 256) (j : Fin 512) : iblk m c 7 t (ix2 x j) = (arg m c).yr (row t x) j := by
  refine Eq.trans ?_ (opY m c _ _)
  simp only [iblk]
  refine congrArg (V m c main_v13) ?_
  unfold row
  blk_ext [idx t]

theorem rd8 (c : Dev nD) (t : Fin cfg0.N) (x : Fin 512) (j : Fin 1024) : iblk m c 8 t (ix2 x j) = (arg m c).wa x j := by
  refine Eq.trans ?_ (opWa m c _ _)
  simp only [iblk]
  refine congrArg (V m c main_v14) ?_
  blk_ext [idx t]

theorem rd9 (c : Dev nD) (t : Fin cfg0.N) (x : Fin 512) (j : Fin 1024) : iblk m c 9 t (ix2 x j) = (arg m c).wr x j := by
  refine Eq.trans ?_ (opWr m c _ _)
  simp only [iblk]
  refine congrArg (V m c main_v15) ?_
  blk_ext [idx t]

theorem rd10 (c : Dev nD) (t : Fin cfg0.N) (x : Fin 1024) (j : Fin 1024) : iblk m c 10 t (ix2 x j) = (arg m c).wo x j := by
  refine Eq.trans ?_ (opWo m c _ _)
  simp only [iblk]
  refine congrArg (V m c main_v16) ?_
  blk_ext [idx t]

theorem rd2 (c : Dev nD) (t : Fin cfg0.N) (j : Fin 1024) : iblk m c 2 t (ix2 (2 : Fin 3) j) = (arg m c).gate j := by
  refine Eq.trans ?_ (opM m c j)
  simp only [iblk]
  refine congrArg (V m c main_v0) ?_
  blk_ext [idx t]

theorem rd3 (c : Dev nD) (t : Fin cfg0.N) (j : Fin 1024) : iblk m c 3 t (ix2 (0 : Fin 1) j) = (arg m c).gp j := by
  refine Eq.trans ?_ (opG m c j)
  simp only [iblk]
  refine congrArg (V m c main_v1) ?_
  blk_ext [idx t]

theorem rd5 (c : Dev nD) (t : Fin cfg0.N) (x : Fin 256) (j : Fin 512) : X0_5 m c t (ix2 x j) = (arg m c).za (row t x) j := by
  refine Eq.trans ?_ (opZ m c _ _)
  unfold X0_5 Pipeline.Window.fill
  rw [dif_pos (moved0_5 t _)]
  simp only [iblk]
  refine congrArg (V m c main_v12) ?_
  unfold row
  blk_ext [idx t]

theorem rd6 (c : Dev nD) (t : Fin cfg0.N) (x : Fin 256) (j : Fin 2048) :
    X0_6 m c t (ix2 x j) = (V m c main_v12 : FVec Ideal S4096x4864 .bf16) (ix2 (row t x) ⟨j.val, by omega⟩) := by
  unfold X0_6 Pipeline.Window.fill
  rw [dif_pos (moved0_6 t _)]
  simp only [iblk]
  refine congrArg (V m c main_v12) ?_
  unfold row
  blk_ext [idx t]

end Cert.MidValue

end
-- ==== Proof.MidVec.lean ====
/- The vectors of the body, one element at a time. -/
module

public import proofs.«01_k».proof.Proof.Gen.MidKernelIdeal.Value
public import proofs.«01_k».proof.Proof.MidSpec

@[expose] public section

set_option maxRecDepth 16384

noncomputable section

open Idealize.ShloMosaic Idealize.ShloMosaic.TcCoe Idealize.SL.Sem

namespace Cert.MidValue

open Cert.MidKernelIdeal Cert.MidKernelIdeal.Gen
open RowNorm MidSpec

/-- The constant zero in front of a negated argument. -/
theorem lg_zero (z : EReal) : Ideal.div 1 (1 + Ideal.exp (0 - z)) = lg z := by
  rw [show (0 : EReal) - z = 0 + -z from rfl, zero_add, lg]

theorem pay2_at (a b c e) (x : Fin 256) (j : Fin 512) : k0_pay2 (F := Ideal) a b c e (ix2 x j) =
    e (ix2 x j) * c (ix2 x j) * (b (ix2 x j) * (1 + a (ix2 x j) * (1 - b (ix2 x j)))) := by
  pointwise [k0_pay2]

theorem pay4_at (v) (x : Fin 256) (j : Fin 512) : k0_pay4 (F := Ideal) v (ix2 x j) =
    v (ix2 x j) := by
  pointwise [k0_pay4]

theorem pay5_at (v) (x : Fin 256) (j : Fin 512) : k0_pay5 (F := Ideal) v (ix2 x j) =
    lg (v (ix2 x j)) := by
  pointwise [k0_pay4, k0_pay5]
  rw [lg_zero]

theorem pay6_at (v) (x : Fin 256) (j : Fin 512) : k0_pay6 (F := Ideal) v (ix2 x j) =
    v (ix2 x j) * lg (v (ix2 x j)) := by
  pointwise [k0_pay6]
  rw [pay4_at, pay5_at]

theorem pay7_at (v o) (x : Fin 256) (j : Fin 512) : k0_pay7 (F := Ideal) v o (ix2 x j) =
    o (ix2 x j) * (v (ix2 x j) * lg (v (ix2 x j))) := by
  pointwise [k0_pay7]
  rw [pay6_at]

theorem pay8_at (v o w) (x : Fin 256) (d : Fin 1024) : k0_pay8 (F := Ideal) v o w (ix2 x d) =
    ∑ j : Fin 512, o (ix2 x j) * (v (ix2 x j) * lg (v (ix2 x j))) * w (ix2 j d) := by
  pointwise [k0_pay8]
  simp only [pay7_at]

theorem pay9_at (v w) (x : Fin 256) (d : Fin 1024) : k0_pay9 (F := Ideal) v w (ix2 x d) =
    ∑ j : Fin 512, v (ix2 x j) * w (ix2 j d) := by
  pointwise [k0_pay9]

theorem pay10_at (v) (x : Fin 256) (d : Fin 1024) : k0_pay10 (F := Ideal) v (ix2 x d) =
    lg (v (ix2 x d)) := by
  pointwise [k0_pay10]
  rw [lg_zero]

theorem pay11_at (v) (x : Fin 256) (d : Fin 1024) : k0_pay11 (F := Ideal) v (ix2 x d) =
    lg (v (ix2 x d)) := by
  pointwise [k0_pay11]
  rw [lg_zero]

theorem pay12_at (a b c v) (x : Fin 256) (d : Fin 1024) : k0_pay12 (F := Ideal) a b c v (ix2 x d) =
    c (ix2 x d) * a (ix2 x d) + lg (v (ix2 x d)) * b (ix2 x d) := by
  pointwise [k0_pay12]
  rw [pay11_at]

theorem pay13_at (a b c v w) (x : Fin 256) (d : Fin 1024) : k0_pay13 (F := Ideal) a b c v w (ix2 x d) =
    ∑ k : Fin 1024, (c (ix2 x k) * a (ix2 x k) + lg (v (ix2 x k)) * b (ix2 x k)) * w (ix2 k d) := by
  pointwise [k0_pay13]
  simp only [pay12_at]

theorem pay14_at (a b c v w) (x : Fin 256) : k0_pay14 (F := Ideal) a b c v w (ix2 x (0 : Fin 1)) =
    rr (fun k => k0_pay13 (F := Ideal) a b c v w (ix2 x k)) := by
  pointwise [k0_pay14]
  rfl

theorem pay16_at (v) (d : Fin 1024) : k0_pay16 (F := Ideal) v (ix2 (0 : Fin 1) d) = v (ix2 (0 : Fin 1) d) := by
  pointwise [k0_pay16]

theorem pay18_at (v) (d : Fin 1024) : k0_pay18 (F := Ideal) v (ix2 (0 : Fin 1) d) = v (ix2 (0 : Fin 1) d) := by
  pointwise [k0_pay18]

theorem pay15_at (a b c v w) (x : Fin 256) (d : Fin 1024) : k0_pay15 (F := Ideal) a b c v w (ix2 x d) =
    k0_pay13 (F := Ideal) a b c v w (ix2 x d) * rr (fun k => k0_pay13 (F := Ideal) a b c v w (ix2 x k)) := by
  pointwise [k0_pay15]
  rw [pay14_at]

theorem pay17_at (a b c v w g) (x : Fin 256) (d : Fin 1024) : k0_pay17 (F := Ideal) a b c v w g (ix2 x d) =
    k0_pay15 (F := Ideal) a b c v w (ix2 x d) * g (ix2 (0 : Fin 1) d) := by
  pointwise [k0_pay16, k0_pay17]

theorem pay19_at (a b c v w g h x0 t) (x : Fin 256) (d : Fin 1024) : k0_pay19 (F := Ideal) a b c v w g h x0 t (ix2 x d) =
    x0 (ix2 x d) + h (ix2 (0 : Fin 1) d) * k0_pay17 (F := Ideal) a b c v w g (ix2 x d) - t (ix2 x d) := by
  pointwise [k0_pay18, k0_pay19]

theorem pay20_at (a b c v w g h x0 t) (x : Fin 256) (d : Fin 1024) : k0_pay20 (F := Ideal) a b c v w g h x0 t (ix2 x d) =
    k0_pay19 (F := Ideal) a b c v w g h x0 t (ix2 x d) * i1024 := by
  pointwise [k0_pay20]
  rfl

theorem pay21_at (h v) (x : Fin 256) (d : Fin 1024) : k0_pay21 (F := Ideal) h v (ix2 x d) =
    v (ix2 x d) * h (ix2 (0 : Fin 1) d) := by
  pointwise [k0_pay21]

theorem pay22_at (a b z) (d : Fin 1024) : k0_pay22 (F := Ideal) a b z (ix2 (0 : Fin 1) d) =
    z (ix2 (0 : Fin 1) d) + ∑ x : Fin 256, b (ix2 x d) * a (ix2 x d) := by
  pointwise [k0_pay22]

theorem pay23_at (a h b z) (d : Fin 1024) : k0_pay23 (F := Ideal) a h b z (ix2 (0 : Fin 1) d) =
    z (ix2 (0 : Fin 1) d) + ∑ x : Fin 256, b (ix2 x d) * h (ix2 (0 : Fin 1) d) * a (ix2 x d) := by
  pointwise [k0_pay23]
  simp only [pay21_at]

theorem pay24_at (a z) (d : Fin 1024) : k0_pay24 (F := Ideal) a z (ix2 (0 : Fin 1) d) =
    z (ix2 (0 : Fin 1) d) + ∑ x : Fin 256, a (ix2 x d) * a (ix2 x d) := by
  pointwise [k0_pay24]

theorem pay25_at (r a g h v) (x : Fin 256) (d : Fin 1024) : k0_pay25 (F := Ideal) r a g h v (ix2 x d) =
    r (ix2 x (0 : Fin 1)) * (v (ix2 x d) * h (ix2 (0 : Fin 1) d) * g (ix2 (0 : Fin 1) d) -
      a (ix2 x d) * Ideal.div (∑ k : Fin 1024, v (ix2 x k) * h (ix2 (0 : Fin 1) k) * g (ix2 (0 : Fin 1) k) * a (ix2 x k)) c1024) := by
  pointwise [k0_pay25]
  simp only [pay21_at]

theorem pay26_at (v w) (x : Fin 256) (d : Fin 1024) : k0_pay26 (F := Ideal) v w (ix2 x d) =
    ∑ k : Fin 1024, v (ix2 x k) * w (ix2 d k) := by
  pointwise [k0_pay26]

theorem pay27_at (a v w) (x : Fin 256) (d : Fin 1024) : k0_pay27 (F := Ideal) a v w (ix2 x d) =
    k0_pay26 (F := Ideal) v w (ix2 x d) * a (ix2 x d) := by
  pointwise [k0_pay27]

theorem pay28_at (a v w) (x : Fin 256) (d : Fin 1024) : k0_pay28 (F := Ideal) a v w (ix2 x d) =
    k0_pay26 (F := Ideal) v w (ix2 x d) * a (ix2 x d) := by
  pointwise [k0_pay28]

theorem pay29_at (a b v w) (x : Fin 256) (d : Fin 1024) : k0_pay29 (F := Ideal) a b v w (ix2 x d) =
    k0_pay26 (F := Ideal) v w (ix2 x d) * a (ix2 x d) * (b (ix2 x d) * (1 - b (ix2 x d))) := by
  pointwise [k0_pay29]

theorem pay30_at (a b v w) (x : Fin 256) (d : Fin 1024) : k0_pay30 (F := Ideal) a b v w (ix2 x d) =
    k0_pay26 (F := Ideal) v w (ix2 x d) * a (ix2 x d) * (b (ix2 x d) * (1 - b (ix2 x d))) := by
  pointwise [k0_pay30]

theorem pay31_at (a v w p) (x : Fin 256) (j : Fin 512) : k0_pay31 (F := Ideal) a v w p (ix2 x j) =
    ∑ d : Fin 1024, k0_pay26 (F := Ideal) v w (ix2 x d) * a (ix2 x d) * p (ix2 j d) := by
  pointwise [k0_pay31]
  simp only [pay27_at]

theorem pay32_at (a v w p) (x : Fin 256) (j : Fin 512) : k0_pay32 (F := Ideal) a v w p (ix2 x j) =
    ∑ d : Fin 1024, k0_pay26 (F := Ideal) v w (ix2 x d) * a (ix2 x d) * p (ix2 j d) := by
  pointwise [k0_pay32]
  simp only [pay28_at]

theorem pay33_at (s a v w p) (x : Fin 256) (j : Fin 512) : k0_pay33 (F := Ideal) s a v w p (ix2 x j) =
    k0_pay31 (F := Ideal) a v w p (ix2 x j) * s (ix2 x j) := by
  pointwise [k0_pay33]

theorem pay35_at (s a v w p) (e : Fin 64) (x : Fin 256) : k0_pay35 (F := Ideal) s a v w p (ix3 (0 : Fin 1) e x) =
    k0_pay33 (F := Ideal) s a v w p (ix2 x (⟨0 + e.val, by omega⟩ : Fin 512)) := by
  pointwise [k0_pay34, k0_pay35]

theorem pay38_at (v) (e : Fin 64) (x : Fin 256) : k0_pay38 (F := Ideal) v (ix3 (0 : Fin 1) e x) =
    v (ix2 x (⟨128 + e.val, by omega⟩ : Fin 512)) := by
  pointwise [k0_pay37, k0_pay38]

theorem pay39_at (v) (e : Fin 64) (x : Fin 256) : k0_pay39 (F := Ideal) v (ix3 (0 : Fin 1) e x) =
    v (ix2 x (⟨192 + e.val, by omega⟩ : Fin 512)) := by
  pointwise [k0_pay37, k0_pay39]
  exact congrArg (fun q => v (ix2 x q)) (Fin.ext (by show 128 + (64 + e.val) = 192 + e.val; omega))

theorem pay41_at (v) (e : Fin 64) (x : Fin 256) : k0_pay41 (F := Ideal) v (ix3 (0 : Fin 1) e x) =
    v (ix2 x (⟨256 + e.val, by omega⟩ : Fin 512)) := by
  pointwise [k0_pay40, k0_pay41]

theorem pay42_at (v) (e : Fin 64) (x : Fin 256) : k0_pay42 (F := Ideal) v (ix3 (0 : Fin 1) e x) =
    v (ix2 x (⟨320 + e.val, by omega⟩ : Fin 512)) := by
  pointwise [k0_pay40, k0_pay42]
  exact congrArg (fun q => v (ix2 x q)) (Fin.ext (by show 256 + (64 + e.val) = 320 + e.val; omega))

theorem pay44_at (v) (e : Fin 64) (x : Fin 256) : k0_pay44 (F := Ideal) v (ix3 (0 : Fin 1) e x) =
    v (ix2 x (⟨384 + e.val, by omega⟩ : Fin 512)) := by
  pointwise [k0_pay43, k0_pay44]

theorem pay36_at (s a v w p) (e : Fin 64) (x : Fin 256) : k0_pay36 (F := Ideal) (k0_pay34 s a v w p) (ix3 (0 : Fin 1) e x) =
    k0_pay33 (F := Ideal) s a v w p (ix2 x (⟨64 + e.val, by omega⟩ : Fin 512)) := by
  pointwise [k0_pay34, k0_pay36]

theorem pay1_at (v) (e : Fin 64) (x : Fin 256) : k0_pay1 (F := Ideal) (k0_pay43 v) (ix3 (0 : Fin 1) e x) =
    v (ix2 x (⟨448 + e.val, by omega⟩ : Fin 512)) := by
  pointwise [k0_pay43, k0_pay1]
  exact congrArg (fun q => v (ix2 x q)) (Fin.ext (by show 384 + (64 + e.val) = 448 + e.val; omega))

end Cert.MidValue

end
-- ==== Proof.MidBlock.lean ====
/- The vectors of the body, of blocks that hold rows of the arguments. -/
module

public import proofs.«01_k».proof.Proof.MidVec

@[expose] public section

set_option maxRecDepth 16384

noncomputable section

open Idealize.ShloMosaic Idealize.ShloMosaic.TcCoe Idealize.SL.Sem

namespace Cert.MidValue

open Cert.MidKernelIdeal Cert.MidKernelIdeal.Gen
open RowNorm MidSpec

/-- The blocks hold the rows `n` of the arguments `A`. -/
structure Holds (A : Args) (n : Fin 256 → Fin 4096) (v0 v1 : FVec Ideal S256x1024 .f32) (v2 v3 : FVec Ideal S1x1024 .f32)
    (v4 : FVec Ideal S256x512 .f32) (v5 : FVec Ideal S256x512 .bf16) (v6 v6' : FVec Ideal S256x1024 .bf16) (v7 : FVec Ideal S256x512 .bf16)
    (v8 v9 : FVec Ideal S512x1024 .bf16) (v10 : FVec Ideal S1024x1024 .bf16) : Prop where
  x : ∀ x d, v0 (ix2 x d) = A.x (n x) d
  t : ∀ x d, v1 (ix2 x d) = A.t (n x) d
  gate : ∀ d, v2 (ix2 (0 : Fin 1) d) = A.gate d
  gp : ∀ d, v3 (ix2 (0 : Fin 1) d) = A.gp d
  o : ∀ x j, v4 (ix2 x j) = A.o (n x) j
  za : ∀ x j, v5 (ix2 x j) = A.za (n x) j
  ga : ∀ x d, v6 (ix2 x d) = A.ga (n x) d
  gr : ∀ x d, v6' (ix2 x d) = A.gr (n x) d
  yr : ∀ x j, v7 (ix2 x j) = A.yr (n x) j
  wa : ∀ j d, v8 (ix2 j d) = A.wa j d
  wr : ∀ j d, v9 (ix2 j d) = A.wr j d
  wo : ∀ j d, v10 (ix2 j d) = A.wo j d

variable {A : Args} {n : Fin 256 → Fin 4096} {v0 v1 : FVec Ideal S256x1024 .f32} {v2 v3 : FVec Ideal S1x1024 .f32}
  {v4 : FVec Ideal S256x512 .f32} {v5 : FVec Ideal S256x512 .bf16} {v6 v6' : FVec Ideal S256x1024 .bf16} {v7 : FVec Ideal S256x512 .bf16}
  {v8 v9 : FVec Ideal S512x1024 .bf16} {v10 : FVec Ideal S1024x1024 .bf16}

variable (H : Holds A n v0 v1 v2 v3 v4 v5 v6 v6' v7 v8 v9 v10)

include H in
theorem av_eq (x : Fin 256) (d : Fin 1024) : k0_pay8 (F := Ideal) v5 v4 v8 (ix2 x d) = A.av (n x) d := by
  rw [pay8_at]
  simp only [H.o, H.za, H.wa]
  rfl

include H in
theorem rv_eq (x : Fin 256) (d : Fin 1024) : k0_pay9 (F := Ideal) v7 v9 (ix2 x d) = A.rv (n x) d := by
  rw [pay9_at]
  simp only [H.yr, H.wr]
  rfl

include H in
theorem ga_eq (x : Fin 256) (d : Fin 1024) : k0_pay10 (F := Ideal) v6 (ix2 x d) = lg (A.ga (n x) d) := by
  rw [pay10_at, H.ga]

include H in
theorem gr_eq (x : Fin 256) (d : Fin 1024) : k0_pay11 (F := Ideal) v6' (ix2 x d) = lg (A.gr (n x) d) := by
  rw [pay11_at, H.gr]

include H in
theorem ya_eq (x : Fin 256) (j : Fin 512) : k0_pay7 (F := Ideal) v5 v4 (ix2 x j) = A.ya (n x) j := by
  rw [pay7_at, H.o, H.za]
  rfl

include H in
theorem mb_eq (x : Fin 256) (d : Fin 1024) : k0_pay12 (F := Ideal) (k0_pay8 v5 v4 v8) (k0_pay9 v7 v9) (k0_pay10 v6) v6' (ix2 x d) = A.mb (n x) d := by
  rw [pay12_at, av_eq H, rv_eq H, ga_eq H, H.gr]
  rfl

include H in
theorem u_eq (x : Fin 256) (d : Fin 1024) : k0_pay13 (F := Ideal) (k0_pay8 v5 v4 v8) (k0_pay9 v7 v9) (k0_pay10 v6) v6' v10 (ix2 x d) = A.u (n x) d := by
  rw [pay13_at]
  simp only [av_eq H, rv_eq H, ga_eq H, H.gr, H.wo]
  rfl

include H in
theorem un_eq (x : Fin 256) (d : Fin 1024) : k0_pay15 (F := Ideal) (k0_pay8 v5 v4 v8) (k0_pay9 v7 v9) (k0_pay10 v6) v6' v10 (ix2 x d) = A.un (n x) d := by
  rw [pay15_at]
  simp only [u_eq H]
  rfl

include H in
theorem yv_eq (x : Fin 256) (d : Fin 1024) : k0_pay17 (F := Ideal) (k0_pay8 v5 v4 v8) (k0_pay9 v7 v9) (k0_pay10 v6) v6' v10 v3 (ix2 x d) = A.yv (n x) d := by
  rw [pay17_at, un_eq H, H.gp]
  rfl

include H in
theorem err_eq (x : Fin 256) (d : Fin 1024) : k0_pay19 (F := Ideal) (k0_pay8 v5 v4 v8) (k0_pay9 v7 v9) (k0_pay10 v6) v6' v10 v3 v2 v0 v1 (ix2 x d) = A.err (n x) d := by
  rw [pay19_at, yv_eq H, H.x, H.t, H.gate]
  rfl

include H in
theorem dout_eq (x : Fin 256) (d : Fin 1024) : k0_pay20 (F := Ideal) (k0_pay8 v5 v4 v8) (k0_pay9 v7 v9) (k0_pay10 v6) v6' v10 v3 v2 v0 v1 (ix2 x d) = A.dout (n x) d := by
  rw [pay20_at, err_eq H]
  rfl

include H in
theorem du_eq (x : Fin 256) (d : Fin 1024) : k0_pay25 (F := Ideal) (k0_pay14 (k0_pay8 v5 v4 v8) (k0_pay9 v7 v9) (k0_pay10 v6) v6' v10) (k0_pay15 (k0_pay8 v5 v4 v8) (k0_pay9 v7 v9) (k0_pay10 v6) v6' v10) (k0_pay16 v3) (k0_pay18 v2)
      (k0_pay20 (k0_pay8 v5 v4 v8) (k0_pay9 v7 v9) (k0_pay10 v6) v6' v10 v3 v2 v0 v1) (ix2 x d) = A.du (n x) d := by
  rw [pay25_at, pay14_at]
  simp only [u_eq H, un_eq H, dout_eq H, pay16_at, pay18_at, H.gp, H.gate]
  exact (zero_add _).symm

include H in
theorem dm_eq (x : Fin 256) (d : Fin 1024) : k0_pay26 (F := Ideal) (k0_pay25 (k0_pay14 (k0_pay8 v5 v4 v8) (k0_pay9 v7 v9) (k0_pay10 v6) v6' v10) (k0_pay15 (k0_pay8 v5 v4 v8) (k0_pay9 v7 v9) (k0_pay10 v6) v6' v10) (k0_pay16 v3) (k0_pay18 v2)
      (k0_pay20 (k0_pay8 v5 v4 v8) (k0_pay9 v7 v9) (k0_pay10 v6) v6' v10 v3 v2 v0 v1)) v10 (ix2 x d) = A.dm (n x) d := by
  rw [pay26_at]
  simp only [du_eq H, H.wo]
  rfl

include H in
theorem da_eq (x : Fin 256) (d : Fin 1024) : k0_pay27 (F := Ideal) (k0_pay10 v6) (k0_pay25 (k0_pay14 (k0_pay8 v5 v4 v8) (k0_pay9 v7 v9) (k0_pay10 v6) v6' v10) (k0_pay15 (k0_pay8 v5 v4 v8) (k0_pay9 v7 v9) (k0_pay10 v6) v6' v10) (k0_pay16 v3) (k0_pay18 v2)
      (k0_pay20 (k0_pay8 v5 v4 v8) (k0_pay9 v7 v9) (k0_pay10 v6) v6' v10 v3 v2 v0 v1)) v10 (ix2 x d) = A.da (n x) d := by
  rw [pay27_at, dm_eq H, ga_eq H]
  rfl

include H in
theorem dr_eq (x : Fin 256) (d : Fin 1024) : k0_pay28 (F := Ideal) (k0_pay11 v6') (k0_pay25 (k0_pay14 (k0_pay8 v5 v4 v8) (k0_pay9 v7 v9) (k0_pay10 v6) v6' v10) (k0_pay15 (k0_pay8 v5 v4 v8) (k0_pay9 v7 v9) (k0_pay10 v6) v6' v10) (k0_pay16 v3) (k0_pay18 v2)
      (k0_pay20 (k0_pay8 v5 v4 v8) (k0_pay9 v7 v9) (k0_pay10 v6) v6' v10 v3 v2 v0 v1)) v10 (ix2 x d) = A.dr (n x) d := by
  rw [pay28_at, dm_eq H, gr_eq H]
  rfl

include H in
theorem dga_eq (x : Fin 256) (d : Fin 1024) : k0_pay29 (F := Ideal) (k0_pay8 v5 v4 v8) (k0_pay10 v6) (k0_pay25 (k0_pay14 (k0_pay8 v5 v4 v8) (k0_pay9 v7 v9) (k0_pay10 v6) v6' v10) (k0_pay15 (k0_pay8 v5 v4 v8) (k0_pay9 v7 v9) (k0_pay10 v6) v6' v10) (k0_pay16 v3) (k0_pay18 v2)
      (k0_pay20 (k0_pay8 v5 v4 v8) (k0_pay9 v7 v9) (k0_pay10 v6) v6' v10 v3 v2 v0 v1)) v10 (ix2 x d) = A.dga (n x) d := by
  rw [pay29_at, dm_eq H, av_eq H, ga_eq H]
  rfl

include H in
theorem dgr_eq (x : Fin 256) (d : Fin 1024) : k0_pay30 (F := Ideal) (k0_pay9 v7 v9) (k0_pay11 v6') (k0_pay25 (k0_pay14 (k0_pay8 v5 v4 v8) (k0_pay9 v7 v9) (k0_pay10 v6) v6' v10) (k0_pay15 (k0_pay8 v5 v4 v8) (k0_pay9 v7 v9) (k0_pay10 v6) v6' v10) (k0_pay16 v3) (k0_pay18 v2)
      (k0_pay20 (k0_pay8 v5 v4 v8) (k0_pay9 v7 v9) (k0_pay10 v6) v6' v10 v3 v2 v0 v1)) v10 (ix2 x d) = A.dgr (n x) d := by
  rw [pay30_at, dm_eq H, rv_eq H, gr_eq H]
  rfl

include H in
theorem dya_eq (x : Fin 256) (j : Fin 512) : k0_pay31 (F := Ideal) (k0_pay10 v6) (k0_pay25 (k0_pay14 (k0_pay8 v5 v4 v8) (k0_pay9 v7 v9) (k0_pay10 v6) v6' v10) (k0_pay15 (k0_pay8 v5 v4 v8) (k0_pay9 v7 v9) (k0_pay10 v6) v6' v10) (k0_pay16 v3) (k0_pay18 v2)
      (k0_pay20 (k0_pay8 v5 v4 v8) (k0_pay9 v7 v9) (k0_pay10 v6) v6' v10 v3 v2 v0 v1)) v10 v8 (ix2 x j) = A.dya (n x) j := by
  rw [pay31_at]
  simp only [dm_eq H, ga_eq H, H.wa]
  rfl

include H in
theorem dyr_eq (x : Fin 256) (j : Fin 512) : k0_pay32 (F := Ideal) (k0_pay11 v6') (k0_pay25 (k0_pay14 (k0_pay8 v5 v4 v8) (k0_pay9 v7 v9) (k0_pay10 v6) v6' v10) (k0_pay15 (k0_pay8 v5 v4 v8) (k0_pay9 v7 v9) (k0_pay10 v6) v6' v10) (k0_pay16 v3) (k0_pay18 v2)
      (k0_pay20 (k0_pay8 v5 v4 v8) (k0_pay9 v7 v9) (k0_pay10 v6) v6' v10 v3 v2 v0 v1)) v10 v9 (ix2 x j) = A.dyr (n x) j := by
  rw [pay32_at]
  simp only [dm_eq H, gr_eq H, H.wr]
  rfl

include H in
theorem dov_eq (x : Fin 256) (j : Fin 512) : k0_pay33 (F := Ideal) (k0_pay6 v5) (k0_pay10 v6) (k0_pay25 (k0_pay14 (k0_pay8 v5 v4 v8) (k0_pay9 v7 v9) (k0_pay10 v6) v6' v10) (k0_pay15 (k0_pay8 v5 v4 v8) (k0_pay9 v7 v9) (k0_pay10 v6) v6' v10) (k0_pay16 v3) (k0_pay18 v2)
      (k0_pay20 (k0_pay8 v5 v4 v8) (k0_pay9 v7 v9) (k0_pay10 v6) v6' v10 v3 v2 v0 v1)) v10 v8 (ix2 x j) = A.dov (n x) j := by
  rw [pay33_at, dya_eq H, pay6_at, H.za]
  rfl

include H in
theorem dza_eq (x : Fin 256) (j : Fin 512) : k0_pay2 (F := Ideal) (k0_pay4 v5) (k0_pay5 v5) v4 (k0_pay31 (k0_pay10 v6) (k0_pay25 (k0_pay14 (k0_pay8 v5 v4 v8) (k0_pay9 v7 v9) (k0_pay10 v6) v6' v10) (k0_pay15 (k0_pay8 v5 v4 v8) (k0_pay9 v7 v9) (k0_pay10 v6) v6' v10) (k0_pay16 v3) (k0_pay18 v2)
      (k0_pay20 (k0_pay8 v5 v4 v8) (k0_pay9 v7 v9) (k0_pay10 v6) v6' v10 v3 v2 v0 v1)) v10 v8) (ix2 x j) = A.dza (n x) j := by
  rw [pay2_at, dya_eq H, pay4_at, pay5_at, H.za, H.o]
  rfl

include H in
theorem s0_eq (z : FVec Ideal S1x1024 .f32) (d : Fin 1024) : k0_pay22 (F := Ideal) (k0_pay17 (k0_pay8 v5 v4 v8) (k0_pay9 v7 v9) (k0_pay10 v6) v6' v10 v3) (k0_pay20 (k0_pay8 v5 v4 v8) (k0_pay9 v7 v9) (k0_pay10 v6) v6' v10 v3 v2 v0 v1) z (ix2 (0 : Fin 1) d) = z (ix2 (0 : Fin 1) d) + ∑ x, A.dout (n x) d * A.yv (n x) d := by
  rw [pay22_at]
  simp only [dout_eq H, yv_eq H]

include H in
theorem s1_eq (z : FVec Ideal S1x1024 .f32) (d : Fin 1024) : k0_pay23 (F := Ideal) (k0_pay15 (k0_pay8 v5 v4 v8) (k0_pay9 v7 v9) (k0_pay10 v6) v6' v10) (k0_pay18 v2) (k0_pay20 (k0_pay8 v5 v4 v8) (k0_pay9 v7 v9) (k0_pay10 v6) v6' v10 v3 v2 v0 v1) z (ix2 (0 : Fin 1) d) = z (ix2 (0 : Fin 1) d) + ∑ x, A.dy (n x) d * A.un (n x) d := by
  rw [pay23_at]
  simp only [dout_eq H, un_eq H, pay18_at, H.gate]
  rfl

include H in
theorem s2_eq (z : FVec Ideal S1x1024 .f32) (d : Fin 1024) : k0_pay24 (F := Ideal) (k0_pay19 (k0_pay8 v5 v4 v8) (k0_pay9 v7 v9) (k0_pay10 v6) v6' v10 v3 v2 v0 v1) z (ix2 (0 : Fin 1) d) = z (ix2 (0 : Fin 1) d) + ∑ x, A.err (n x) d * A.err (n x) d := by
  rw [pay24_at]
  simp only [err_eq H]

end Cert.MidValue

end
-- ==== Proof.MidPoint.lean ====
/- What the kernel leaves in each block of its ten results. -/
module

public import proofs.«01_k».proof.Proof.MidWindows
public import proofs.«01_k».proof.Proof.MidBlock
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.MidValue

open Cert.MidKernelIdeal Cert.MidKernelIdeal.Gen
open RowNorm MidSpec

variable (m : (ℓ : Loc nD τ sig) → Buf (Elt Ideal) ℓ)

/-- What block `t` reads are the rows of block `t`. -/
theorem holds (c : Dev nD) (t : Fin cfg0.N) : Holds (arg m c) (row t) (iblk m c 0 t) (iblk m c 1 t)
    (View.ld (iblk m c 2 t) (Rect.unit (s := S3x1024) ![2, 0] ![1, 1024] inb_S3x1024_S1x1024_2_0)) (iblk m c 3 t) (iblk m c 4 t) (X0_5 m c t)
    (View.ld (X0_6 m c t) (Rect.unit (s := S256x2048) ![0, 0] ![256, 1024] inb_S256x2048_S256x1024_0_0))
    (View.ld (X0_6 m c t) (Rect.unit (s := S256x2048) ![0, 1024] ![256, 1024] inb_S256x2048_S256x1024_0_1024))
    (iblk m c 7 t) (iblk m c 8 t) (iblk m c 9 t) (iblk m c 10 t) where
  x := rd0 m c t
  t := rd1 m c t
  gate d := by
    refine Eq.trans (congrArg (iblk m c 2 t) ?_) (rd2 m c t d)
    funext a
    refine Fin.ext ?_
    match a with
    | 0 => rfl
    | 1 => show 0 + 1 * d.val = d.val; omega
  gp := rd3 m c t
  o := rd4 m c t
  za := rd5 m c t
  ga x d := by
    refine Eq.trans (congrArg (X0_6 m c t) (?_ : _ = ix2 x (⟨0 + d.val, by omega⟩ : Fin 2048))) ((rd6 m c t x _).trans (opA m c _ d))
    funext a
    refine Fin.ext ?_
    match a with
    | 0 => show 0 + 1 * x.val = x.val; omega
    | 1 => show 0 + 1 * d.val = 0 + d.val; omega
  gr x d := by
    refine Eq.trans (congrArg (X0_6 m c t) (?_ : _ = ix2 x (⟨1024 + d.val, by omega⟩ : Fin 2048))) ((rd6 m c t x _).trans (opR m c _ d))
    funext a
    refine Fin.ext ?_
    match a with
    | 0 => show 0 + 1 * x.val = x.val; omega
    | 1 => show 1024 + 1 * d.val = 1024 + d.val; omega
  yr := rd7 m c t
  wa := rd8 m c t
  wr := rd9 m c t
  wo := rd10 m c t

theorem point11 (c : Dev nD) (t : Fin cfg0.N) (y : S256x1024.Idx) : (outsAt0 m c t.val t.isLt).1 y = (arg m c).dout (row t (y 0)) (y 1) := by
  idx_vars y
  by_cases h0 : t.val % 16 = 0
  on_goal 1 => rw [outsAt0_A m c t h0]
  on_goal 2 => rw [outsAt0_B m c t h0]
  all_goals
    frame_out
    exact dout_eq (holds m c t) y0 y1

theorem point14 (c : Dev nD) (t : Fin cfg0.N) (y : S256x512.Idx) : (outsAt0 m c t.val t.isLt).2.2.2.1 y = (arg m c).dyr (row t (y 0)) (y 1) := by
  idx_vars y
  by_cases h0 : t.val % 16 = 0
  on_goal 1 => rw [outsAt0_A m c t h0]
  on_goal 2 => rw [outsAt0_B m c t h0]
  all_goals
    frame_out
    exact dyr_eq (holds m c t) y0 y1

theorem point15 (c : Dev nD) (t : Fin cfg0.N) (y : S256x1024.Idx) : (outsAt0 m c t.val t.isLt).2.2.2.2.1 y = (arg m c).mb (row t (y 0)) (y 1) := by
  idx_vars y
  by_cases h0 : t.val % 16 = 0
  on_goal 1 => rw [outsAt0_A m c t h0]
  on_goal 2 => rw [outsAt0_B m c t h0]
  all_goals
    frame_out
    exact mb_eq (holds m c t) y0 y1

theorem point16 (c : Dev nD) (t : Fin cfg0.N) (y : S256x1024.Idx) : (outsAt0 m c t.val t.isLt).2.2.2.2.2.1 y = (arg m c).du (row t (y 0)) (y 1) := by
  idx_vars y
  by_cases h0 : t.val % 16 = 0
  on_goal 1 => rw [outsAt0_A m c t h0]
  on_goal 2 => rw [outsAt0_B m c t h0]
  all_goals
    frame_out
    exact du_eq (holds m c t) y0 y1

theorem point17 (c : Dev nD) (t : Fin cfg0.N) (y : S256x512.Idx) : (outsAt0 m c t.val t.isLt).2.2.2.2.2.2.1 y = (arg m c).ya (row t (y 0)) (y 1) := by
  idx_vars y
  by_cases h0 : t.val % 16 = 0
  on_goal 1 => rw [outsAt0_A m c t h0]
  on_goal 2 => rw [outsAt0_B m c t h0]
  all_goals
    frame_out
    exact ya_eq (holds m c t) y0 y1

theorem point18 (c : Dev nD) (t : Fin cfg0.N) (y : S256x1024.Idx) : (outsAt0 m c t.val t.isLt).2.2.2.2.2.2.2.1 y = (arg m c).da (row t (y 0)) (y 1) := by
  idx_vars y
  by_cases h0 : t.val % 16 = 0
  on_goal 1 => rw [outsAt0_A m c t h0]
  on_goal 2 => rw [outsAt0_B m c t h0]
  all_goals
    frame_out
    exact da_eq (holds m c t) y0 y1

theorem point19 (c : Dev nD) (t : Fin cfg0.N) (y : S256x1024.Idx) : (outsAt0 m c t.val t.isLt).2.2.2.2.2.2.2.2.1 y = (arg m c).dr (row t (y 0)) (y 1) := by
  idx_vars y
  by_cases h0 : t.val % 16 = 0
  on_goal 1 => rw [outsAt0_A m c t h0]
  on_goal 2 => rw [outsAt0_B m c t h0]
  all_goals
    frame_out
    exact dr_eq (holds m c t) y0 y1

theorem point13 (c : Dev nD) (t : Fin cfg0.N) (y : S256x2560.Idx) : (outsAt0 m c t.val t.isLt).2.2.1 y = (arg m c).dp (row t (y 0)) (y 1) := by
  by_cases h0 : t.val % 16 = 0
  on_goal 1 => rw [outsAt0_A m c t h0]
  on_goal 2 => rw [outsAt0_B m c t h0]
  all_goals
    frame_out
    clear h0
    canon_tiles x h using View.cover_of_tiledBy _ ![256, 512] (by sl_kernel_rfl) y
    all_goals idx_vars x
    all_goals idx_vars y
    all_goals obtain rfl : x0 = y0 := Fin.ext (by simpa using h0.symm)
    · rw [Args.dp, dif_neg (by show ¬ y1.val < 1024; omega), dif_neg (by show ¬ y1.val < 2048; omega)]
      exact (dza_eq (holds m c t) x0 x1).trans (congrArg _ (Fin.ext (by show x1.val = y1.val - 2048; omega)))
    · rw [Args.dp, dif_neg (by show ¬ y1.val < 1024; omega), dif_pos (by show y1.val < 2048; omega)]
      exact (dgr_eq (holds m c t) x0 x1).trans (congrArg _ (Fin.ext (by show x1.val = y1.val - 1024; omega)))
    · rw [Args.dp, dif_pos (by show y1.val < 1024; omega)]
      exact (dga_eq (holds m c t) x0 x1).trans (congrArg _ (Fin.ext (by show x1.val = y1.val; omega)))

theorem point12 (c : Dev nD) (t : Fin cfg0.N) (y : S8x64x256.Idx) : (outsAt0 m c t.val t.isLt).2.1 y = (arg m c).dot (y 0) (y 1) (row t (y 2)) := by
  by_cases h0 : t.val % 16 = 0
  on_goal 1 => rw [outsAt0_A m c t h0]
  on_goal 2 => rw [outsAt0_B m c t h0]
  all_goals
    frame_out
    clear h0
    canon_tiles x h using View.cover_of_tiledBy _ ![1, 64, 256] (by sl_kernel_rfl) y
    all_goals idx_vars x
    all_goals idx_vars y
    all_goals obtain rfl : x2 = y2 := Fin.ext (by simpa using h2.symm)
    all_goals obtain rfl : x1 = y1 := Fin.ext (by simpa using h1.symm)
    all_goals obtain rfl : x0 = 0 := Fin.ext (by show x0.val = 0; omega)
    all_goals show _ = (arg m c).dov (row t x2) _
    on_goal 1 => refine (pay1_at _ x1 x2).trans ?_
    on_goal 2 => refine (pay44_at _ x1 x2).trans ?_
    on_goal 3 => refine (pay42_at _ x1 x2).trans ?_
    on_goal 4 => refine (pay41_at _ x1 x2).trans ?_
    on_goal 5 => refine (pay39_at _ x1 x2).trans ?_
    on_goal 6 => refine (pay38_at _ x1 x2).trans ?_
    on_goal 7 => refine (pay36_at _ _ _ _ _ x1 x2).trans ?_
    on_goal 8 => refine (pay35_at _ _ _ _ _ x1 x2).trans ?_
    all_goals refine (dov_eq (holds m c t) x2 _).trans (congrArg _ (Fin.ext ?_))
    all_goals
      show (_ : ℕ) = y0.val * 64 + x1.val
      dsimp only
      have : ((0 : Fin 1) : ℕ) = 0 := rfl
      omega

/-- The part of the sums block `t` adds. -/
def part (c : Dev nD) (t : Fin cfg0.N) (j : Fin 8) (l : Fin 1024) : EReal := ∑ x : Fin 256, (arg m c).tok (row t x) j.val l

/-- The three rows that the sums of a block are added to. -/
theorem addPart {c : Dev nD} {t : Fin cfg0.N} {v0 v1 : FVec Ideal S256x1024 .f32} {v2 v3 : FVec Ideal S1x1024 .f32}
    {v4 : FVec Ideal S256x512 .f32} {v5 : FVec Ideal S256x512 .bf16} {v6 v6' : FVec Ideal S256x1024 .bf16} {v7 : FVec Ideal S256x512 .bf16}
    {v8 v9 : FVec Ideal S512x1024 .bf16} {v10 : FVec Ideal S1024x1024 .bf16}
    (H : Holds (arg m c) (row t) v0 v1 v2 v3 v4 v5 v6 v6' v7 v8 v9 v10) (j : Fin 8) (l : Fin 1024) (z : Fin 8 → EReal)
    (w0 w1 w2 : FVec Ideal S1x1024 .f32)
    (h0 : j.val = 0 → w0 (ix2 (0 : Fin 1) l) = z 0) (h1 : j.val = 1 → w1 (ix2 (0 : Fin 1) l) = z 1) (h2 : j.val = 2 → w2 (ix2 (0 : Fin 1) l) = z 2) :
    (if j.val = 2 then k0_pay24 (F := Ideal) (k0_pay19 (k0_pay8 v5 v4 v8) (k0_pay9 v7 v9) (k0_pay10 v6) v6' v10 v3 v2 v0 v1) w2 (ix2 (0 : Fin 1) l)
      else if j.val = 1 then k0_pay23 (F := Ideal) (k0_pay15 (k0_pay8 v5 v4 v8) (k0_pay9 v7 v9) (k0_pay10 v6) v6' v10) (k0_pay18 v2)
        (k0_pay20 (k0_pay8 v5 v4 v8) (k0_pay9 v7 v9) (k0_pay10 v6) v6' v10 v3 v2 v0 v1) w1 (ix2 (0 : Fin 1) l)
      else if j.val = 0 then k0_pay22 (F := Ideal) (k0_pay17 (k0_pay8 v5 v4 v8) (k0_pay9 v7 v9) (k0_pay10 v6) v6' v10 v3)
        (k0_pay20 (k0_pay8 v5 v4 v8) (k0_pay9 v7 v9) (k0_pay10 v6) v6' v10 v3 v2 v0 v1) w0 (ix2 (0 : Fin 1) l) else z j) =
      z j + part m c t j l := by
  unfold part Args.tok
  split
  · rw [s2_eq H, h2 ‹_›, show j = 2 from Fin.ext ‹_›]
  split
  · rw [s1_eq H, h1 ‹_›, show j = 1 from Fin.ext ‹_›]
  split
  · rw [s0_eq H, h0 ‹_›, show j = 0 from Fin.ext ‹_›]
  · rw [Finset.sum_const_zero, add_zero]

theorem sumsA (c : Dev nD) (t : Fin cfg0.N) (h0 : t.val % 16 = 0) (j : Fin 8) (l : Fin 1024) :
    (outsAt0 m c t.val t.isLt).2.2.2.2.2.2.2.2.2 (ix2 j l) = 0 + part m c t j l := by
  have hz : ∀ i, k0_pay3 (F := Ideal) i = 0 := fun i => by pointwise [k0_pay3]
  rw [outsAt0_A m c t h0]
  frame_out
  refine (Rows.canonRow 2 _ _ _ j l).trans ?_
  rw [Rows.canonRow 1, Rows.canonRow 0, View.canon_cons_unit_lit (S := S8x1024) inb_S8x1024_S8x1024_0_0 _ [] (by decide), hz]
  refine addPart m (holds m c t) j l (fun _ => 0) _ _ _ ?_ ?_ ?_
  · intro _
    refine (Rows.readRow 0 _ (by decide) _ l).trans ?_
    rw [View.canon_cons_unit_lit (S := S8x1024) inb_S8x1024_S8x1024_0_0 _ [] (by decide), hz]
  · intro _
    refine (Rows.readRow 1 _ (by decide) _ l).trans ?_
    rw [Rows.canonRow 0, if_neg (by decide), View.canon_cons_unit_lit (S := S8x1024) inb_S8x1024_S8x1024_0_0 _ [] (by decide), hz]
  · intro _
    refine (Rows.readRow 2 _ (by decide) _ l).trans ?_
    rw [Rows.canonRow 1, if_neg (by decide), Rows.canonRow 0, if_neg (by decide),
      View.canon_cons_unit_lit (S := S8x1024) inb_S8x1024_S8x1024_0_0 _ [] (by decide), hz]

theorem sumsB (c : Dev nD) (t : Fin cfg0.N) (h0 : ¬ t.val % 16 = 0) (j : Fin 8) (l : Fin 1024) :
    (outsAt0 m c t.val t.isLt).2.2.2.2.2.2.2.2.2 (ix2 j l) =
      (outsAt0 m c (t.val - 1) (by omega)).2.2.2.2.2.2.2.2.2 (ix2 j l) + part m c t j l := by
  rw [outsAt0_B m c t h0]
  frame_out
  generalize (outsAt0 m c (t.val - 1) _).2.2.2.2.2.2.2.2.2 = z
  refine (Rows.viewRow _ 2 _ _ _ j l).trans ?_
  rw [Rows.viewRow _ 1, Rows.viewRow _ 0]
  refine Eq.trans (if_congr Iff.rfl rfl (if_congr Iff.rfl rfl (if_congr Iff.rfl rfl (congrFun (Memref.IsWhole.read_unread _ _) (ix2 j l))))) ?_
  exact addPart m (holds m c t) j l (fun j => z (ix2 j l)) _ _ _
    (fun _ => Rows.ldRow z 0 inb_S8x1024_S1x1024_0_0 (by decide) l) (fun _ => Rows.ldRow z 1 inb_S8x1024_S1x1024_1_0 (by decide) l)
    (fun _ => Rows.ldRow z 2 inb_S8x1024_S1x1024_2_0 (by decide) l)

theorem final11 (c : Dev nD) : (dats m 0 c).arrAt 11 (cfgs 0).N = (fun i => (arg m c).dout (i 0) (i 1) : FVec Ideal S4096x1024 .f32) := by
  refine (dats m 0 c).arrAt_eq_of_covers 11 _ (by decide +kernel) fun t hf y => ?_
  blk_simp
  rw [after0_11]
  refine (point11 m c t y).trans ?_
  idx_vars y
  have e : (((cfg0.win 11).blk t).view.emb (ix2 y0 y1) : S4096x1024.Idx) = ix2 (row t y0) y1 := by
    unfold row
    blk_ext [idx t]
  show (arg m c).dout (row t y0) y1 = (arg m c).dout ((((cfg0.win 11).blk t).view.emb (ix2 y0 y1)) 0) ((((cfg0.win 11).blk t).view.emb (ix2 y0 y1)) 1)
  rw [e]
  rfl

theorem final14 (c : Dev nD) : (dats m 0 c).arrAt 14 (cfgs 0).N = (fun i => (arg m c).dyr (i 0) (i 1) : FVec Ideal S4096x512 .f32) := by
  refine (dats m 0 c).arrAt_eq_of_covers 14 _ (by decide +kernel) fun t hf y => ?_
  blk_simp
  rw [after0_14]
  refine (point14 m c t y).trans ?_
  idx_vars y
  have e : (((cfg0.win 14).blk t).view.emb (ix2 y0 y1) : S4096x512.Idx) = ix2 (row t y0) y1 := by
    unfold row
    blk_ext [idx t]
  show (arg m c).dyr (row t y0) y1 = (arg m c).dyr ((((cfg0.win 14).blk t).view.emb (ix2 y0 y1)) 0) ((((cfg0.win 14).blk t).view.emb (ix2 y0 y1)) 1)
  rw [e]
  rfl

theorem final15 (c : Dev nD) : (dats m 0 c).arrAt 15 (cfgs 0).N = (fun i => (arg m c).mb (i 0) (i 1) : FVec Ideal S4096x1024 .bf16) := by
  refine (dats m 0 c).arrAt_eq_of_covers 15 _ (by decide +kernel) fun t hf y => ?_
  blk_simp
  rw [after0_15]
  refine (point15 m c t y).trans ?_
  idx_vars y
  have e : (((cfg0.win 15).blk t).view.emb (ix2 y0 y1) : S4096x1024.Idx) = ix2 (row t y0) y1 := by
    unfold row
    blk_ext [idx t]
  show (arg m c).mb (row t y0) y1 = (arg m c).mb ((((cfg0.win 15).blk t).view.emb (ix2 y0 y1)) 0) ((((cfg0.win 15).blk t).view.emb (ix2 y0 y1)) 1)
  rw [e]
  rfl

theorem final16 (c : Dev nD) : (dats m 0 c).arrAt 16 (cfgs 0).N = (fun i => (arg m c).du (i 0) (i 1) : FVec Ideal S4096x1024 .bf16) := by
  refine (dats m 0 c).arrAt_eq_of_covers 16 _ (by decide +kernel) fun t hf y => ?_
  blk_simp
  rw [after0_16]
  refine (point16 m c t y).trans ?_
  idx_vars y
  have e : (((cfg0.win 16).blk t).view.emb (ix2 y0 y1) : S4096x1024.Idx) = ix2 (row t y0) y1 := by
    unfold row
    blk_ext [idx t]
  show (arg m c).du (row t y0) y1 = (arg m c).du ((((cfg0.win 16).blk t).view.emb (ix2 y0 y1)) 0) ((((cfg0.win 16).blk t).view.emb (ix2 y0 y1)) 1)
  rw [e]
  rfl

theorem final17 (c : Dev nD) : (dats m 0 c).arrAt 17 (cfgs 0).N = (fun i => (arg m c).ya (i 0) (i 1) : FVec Ideal S4096x512 .bf16) := by
  refine (dats m 0 c).arrAt_eq_of_covers 17 _ (by decide +kernel) fun t hf y => ?_
  blk_simp
  rw [after0_17]
  refine (point17 m c t y).trans ?_
  idx_vars y
  have e : (((cfg0.win 17).blk t).view.emb (ix2 y0 y1) : S4096x512.Idx) = ix2 (row t y0) y1 := by
    unfold row
    blk_ext [idx t]
  show (arg m c).ya (row t y0) y1 = (arg m c).ya ((((cfg0.win 17).blk t).view.emb (ix2 y0 y1)) 0) ((((cfg0.win 17).blk t).view.emb (ix2 y0 y1)) 1)
  rw [e]
  rfl

theorem final18 (c : Dev nD) : (dats m 0 c).arrAt 18 (cfgs 0).N = (fun i => (arg m c).da (i 0) (i 1) : FVec Ideal S4096x1024 .bf16) := by
  refine (dats m 0 c).arrAt_eq_of_covers 18 _ (by decide +kernel) fun t hf y => ?_
  blk_simp
  rw [after0_18]
  refine (point18 m c t y).trans ?_
  idx_vars y
  have e : (((cfg0.win 18).blk t).view.emb (ix2 y0 y1) : S4096x1024.Idx) = ix2 (row t y0) y1 := by
    unfold row
    blk_ext [idx t]
  show (arg m c).da (row t y0) y1 = (arg m c).da ((((cfg0.win 18).blk t).view.emb (ix2 y0 y1)) 0) ((((cfg0.win 18).blk t).view.emb (ix2 y0 y1)) 1)
  rw [e]
  rfl

theorem final19 (c : Dev nD) : (dats m 0 c).arrAt 19 (cfgs 0).N = (fun i => (arg m c).dr (i 0) (i 1) : FVec Ideal S4096x1024 .bf16) := by
  refine (dats m 0 c).arrAt_eq_of_covers 19 _ (by decide +kernel) fun t hf y => ?_
  blk_simp
  rw [after0_19]
  refine (point19 m c t y).trans ?_
  idx_vars y
  have e : (((cfg0.win 19).blk t).view.emb (ix2 y0 y1) : S4096x1024.Idx) = ix2 (row t y0) y1 := by
    unfold row
    blk_ext [idx t]
  show (arg m c).dr (row t y0) y1 = (arg m c).dr ((((cfg0.win 19).blk t).view.emb (ix2 y0 y1)) 0) ((((cfg0.win 19).blk t).view.emb (ix2 y0 y1)) 1)
  rw [e]
  rfl

theorem final13 (c : Dev nD) : (dats m 0 c).arrAt 13 (cfgs 0).N = (fun i => (arg m c).dp (i 0) (i 1) : FVec Ideal S4096x2560 .bf16) := by
  refine (dats m 0 c).arrAt_eq_of_covers 13 _ (by decide +kernel) fun t hf y => ?_
  blk_simp
  rw [after0_13]
  refine (point13 m c t y).trans ?_
  idx_vars y
  have e : (((cfg0.win 13).blk t).view.emb (ix2 y0 y1) : S4096x2560.Idx) = ix2 (row t y0) y1 := by
    unfold row
    blk_ext [idx t]
  show (arg m c).dp (row t y0) y1 = (arg m c).dp ((((cfg0.win 13).blk t).view.emb (ix2 y0 y1)) 0) ((((cfg0.win 13).blk t).view.emb (ix2 y0 y1)) 1)
  rw [e]
  rfl

theorem final12 (c : Dev nD) : (dats m 0 c).arrAt 12 (cfgs 0).N = (fun i => (arg m c).dot (i 0) (i 1) (i 2) : FVec Ideal S8x64x4096 .bf16) := by
  refine (dats m 0 c).arrAt_eq_of_covers 12 _ (by decide +kernel) fun t hf y => ?_
  blk_simp
  rw [after0_12]
  refine (point12 m c t y).trans ?_
  idx_vars y
  have e : (((cfg0.win 12).blk t).view.emb (ix3 y0 y1 y2) : S8x64x4096.Idx) = ix3 y0 y1 (row t y2) := by
    unfold row
    blk_ext [idx t]
  show (arg m c).dot y0 y1 (row t y2) = (arg m c).dot ((((cfg0.win 12).blk t).view.emb (ix3 y0 y1 y2)) 0)
    ((((cfg0.win 12).blk t).view.emb (ix3 y0 y1 y2)) 1) ((((cfg0.win 12).blk t).view.emb (ix3 y0 y1 y2)) 2)
  rw [e]
  rfl

theorem final20 (c : Dev nD) : (dats m 0 c).arrAt 20 (cfgs 0).N = (fun i => (arg m c).sums (i 0) (i 1) : FVec Ideal S8x1024 .f32) := by
  refine (dats m 0 c).arrAt_eq_of_after_last 20 t0_15 (by decide +kernel) _ fun j => ?_
  blk_simp
  rw [after0_20]
  rw [Pipeline.eq_sum_fin_of_reset_step_apply_last (fun n h => (outsAt0 m c n h).2.2.2.2.2.2.2.2.2) 16 (fun _ => 0)
    (fun t j => part m c t (j 0) (j 1)) (fun t h j => by idx_vars j; exact sumsA m c t h _ _)
    (fun t h j => by idx_vars j; exact sumsB m c t h _ _) (le_of_eq N_0) t0_15 rfl j, zero_add]
  exact Fin.sum_mul_add_congr (fun _ _ _ => rfl) (by show 4096 = grid0.N * 256; rw [N_0])

end Cert.MidValue

end
-- ==== Proof.MidReals.lean ====
/- Of real arguments, everything the way back through the merge uses is real. -/
module

public import proofs.«01_k».proof.Proof.MidSpec

@[expose] public section

noncomputable section

open Idealize.ShloMosaic

namespace Cert.MidSpec

open RowNorm

theorem sub_real {a b : EReal} (ha : ∃ r : ℝ, a = (r : EReal)) (hb : ∃ r : ℝ, b = (r : EReal)) : ∃ r : ℝ, a - b = (r : EReal) := by
  obtain ⟨r, rfl⟩ := ha
  obtain ⟨s, rfl⟩ := hb
  exact ⟨r - s, (EReal.coe_sub r s).symm⟩

theorem div_real {a : EReal} (ha : ∃ r : ℝ, a = (r : EReal)) : ∃ r : ℝ, Ideal.div a c1024 = (r : EReal) := by
  rw [c1024_coe, Ideal.div_coe (show (1024 : ℝ) ≠ 0 by norm_num)]
  exact mul_real ha ⟨_, rfl⟩

/-- The gradient of a row before its norm is real. -/
theorem nb_is_real (o : EReal) (u x : Fin 1024 → EReal) (e : Fin 1024) (ho : ∃ r : ℝ, o = (r : EReal)) (hu : ∀ i, ∃ r : ℝ, u i = (r : EReal))
    (hx : ∀ i, ∃ r : ℝ, x i = (r : EReal)) : ∃ r : ℝ, nb o u x e = (r : EReal) :=
  add_real ho (mul_real (rr_real x hx) (sub_real (hu e) (mul_real (mul_real (hx e) (rr_real x hx))
    (div_real (sum_real _ fun k => mul_real (hu k) (mul_real (hx k) (rr_real x hx)))))))

theorem lg_real {z : EReal} (hz : ∃ r : ℝ, z = (r : EReal)) : ∃ r : ℝ, lg z = (r : EReal) := by
  obtain ⟨r, rfl⟩ := hz
  have h : (1 : ℝ) + Real.exp (-r) ≠ 0 := (add_pos one_pos (Real.exp_pos _)).ne'
  have e : (1 : EReal) + Ideal.exp (-(r : EReal)) = ((1 + Real.exp (-r) : ℝ) : EReal) := by
    rw [← EReal.coe_neg, Ideal.exp_coe, EReal.coe_add, EReal.coe_one]
  unfold lg
  rw [e, Ideal.div_coe h, one_mul]
  exact ⟨_, rfl⟩

theorem i1024_coe : i1024 = ((1 / 1024 : ℝ) : EReal) := by
  unfold i1024
  simp [Ideal.ofBits, Ideal.ieee, -EReal.coe_mul]
  norm_num

/-- The gradient through the gate of the attention, written in either way. -/
theorem gate_back (d o z : EReal) (hd : ∃ r : ℝ, d = (r : EReal)) (ho : ∃ r : ℝ, o = (r : EReal)) (hz : ∃ r : ℝ, z = (r : EReal)) :
    o * d * lg z + z * (o * d) * (lg z * (1 - lg z)) = d * o * (lg z * (1 + z * (1 - lg z))) := by
  obtain ⟨l, hl⟩ := lg_real hz
  obtain ⟨d, rfl⟩ := hd
  obtain ⟨o, rfl⟩ := ho
  obtain ⟨z, rfl⟩ := hz
  rw [hl, ← EReal.coe_one]
  simp only [← EReal.coe_mul, ← EReal.coe_sub, ← EReal.coe_add]
  congr 1
  ring

namespace Args

/-- All arguments are real. -/
structure Real (A : Args) : Prop where
  x : ∀ n d, ∃ r : ℝ, A.x n d = (r : EReal)
  t : ∀ n d, ∃ r : ℝ, A.t n d = (r : EReal)
  gate : ∀ d, ∃ r : ℝ, A.gate d = (r : EReal)
  gp : ∀ d, ∃ r : ℝ, A.gp d = (r : EReal)
  o : ∀ n j, ∃ r : ℝ, A.o n j = (r : EReal)
  za : ∀ n j, ∃ r : ℝ, A.za n j = (r : EReal)
  yr : ∀ n j, ∃ r : ℝ, A.yr n j = (r : EReal)
  ga : ∀ n d, ∃ r : ℝ, A.ga n d = (r : EReal)
  gr : ∀ n d, ∃ r : ℝ, A.gr n d = (r : EReal)
  wa : ∀ j d, ∃ r : ℝ, A.wa j d = (r : EReal)
  wr : ∀ j d, ∃ r : ℝ, A.wr j d = (r : EReal)
  wo : ∀ j d, ∃ r : ℝ, A.wo j d = (r : EReal)

variable {A : Args} (h : A.Real)

include h

theorem Real.u (n : Fin 4096) (d : Fin 1024) : ∃ r : ℝ, A.u n d = (r : EReal) :=
  sum_real _ fun k => mul_real (add_real
    (mul_real (lg_real (h.ga n k)) (sum_real _ fun j => mul_real (mul_real (h.o n j) (mul_real (h.za n j) (lg_real (h.za n j)))) (h.wa j k)))
    (mul_real (lg_real (h.gr n k)) (sum_real _ fun j => mul_real (h.yr n j) (h.wr j k)))) (h.wo k d)

theorem Real.dyg (n : Fin 4096) (d : Fin 1024) : ∃ r : ℝ, A.dyg n d = (r : EReal) :=
  mul_real (mul_real (mul_real (sub_real (add_real (h.x n d) (mul_real (h.gate d)
    (mul_real (mul_real (h.u n d) (rr_real _ (h.u n))) (h.gp d)))) (h.t n d)) ⟨_, i1024_coe⟩) (h.gate d)) (h.gp d)

theorem Real.dya (n : Fin 4096) (j : Fin 512) : ∃ r : ℝ, A.dya n j = (r : EReal) :=
  sum_real _ fun d => mul_real (mul_real (sum_real _ fun k => mul_real
    (nb_is_real 0 _ _ k ⟨0, EReal.coe_zero.symm⟩ (h.dyg n) (h.u n)) (h.wo d k)) (lg_real (h.ga n d))) (h.wa j d)

end Args

end Cert.MidSpec

end
-- ==== Proof.MidReference.lean ====
/- The reference of the way back through the loss, the gated norm and the merge, one element at a time. -/
module

public import proofs.«01_k».proof.Proof.Gen.MidReferenceIdeal.Read
public import proofs.«01_k».proof.Proof.MidReals
public import proofs.«01_k».proof.Proof.MidKernel

@[expose] public section

set_option maxRecDepth 16384

noncomputable section

open Idealize.ShloMosaic Idealize.ShloMosaic.TcCoe Idealize.SL.Sem

namespace Cert.MidRef

open Cert.MidReferenceIdeal Cert.MidReferenceIdeal.Read
open RowNorm MidSpec

variable (x0 : FVec Ideal S4096x1024 .f32) (x1 : FVec Ideal S4096x1024 .f32) (x2 : FVec Ideal S3072 .f32) (x3 : FVec Ideal S1024 .f32) (x4 : FVec Ideal S4096x512 .f32) (x5 : FVec Ideal S4096x4864 .f32) (x6 : FVec Ideal S4096x512 .f32) (x7 : FVec Ideal S512x1024 .f32) (x8 : FVec Ideal S512x1024 .f32) (x9 : FVec Ideal S1024x1024 .f32)

theorem v3_2_at (n : Fin 4096) (j : Fin 512) : (val_main_v3_2 (F := Ideal) x5 : FVec Ideal S4096x512 .f32) (ix2 n j) = lg ((MidValue.mk x0 x1 x2 x3 x4 x5 x6 x7 x8 x9).za n j) := by
  pointwise [val_main_call0_cst, val_main_call0_cst_0, val_main_v1, val_main_call0_v0, val_main_call0_v1, val_main_call0_v2,
    val_main_call0_v3, val_main_call0_v4, val_main_v3_2]
  rfl

theorem v3_0_at (n : Fin 4096) (j : Fin 512) : (val_main_v3_0 (F := Ideal) x5 : FVec Ideal S4096x512 .f32) (ix2 n j) = (MidValue.mk x0 x1 x2 x3 x4 x5 x6 x7 x8 x9).za n j * lg ((MidValue.mk x0 x1 x2 x3 x4 x5 x6 x7 x8 x9).za n j) := by
  pointwise [val_main_v1, val_main_v3_0]
  rw [v3_2_at x0 x1 x2 x3 x4 x5 x6 x7 x8 x9]
  rfl

theorem v3_1_at (n : Fin 4096) (j : Fin 512) : (val_main_v3_1 (F := Ideal) x5 : FVec Ideal S4096x512 .f32) (ix2 n j) = lg ((MidValue.mk x0 x1 x2 x3 x4 x5 x6 x7 x8 x9).za n j) * (1 - lg ((MidValue.mk x0 x1 x2 x3 x4 x5 x6 x7 x8 x9).za n j)) := by
  pointwise [val_main_call0_cst_1, val_main_call0_v6, val_main_call0_v7, val_main_v3_1]
  rw [v3_2_at x0 x1 x2 x3 x4 x5 x6 x7 x8 x9]

theorem v4_at (n : Fin 4096) (j : Fin 512) : (val_main_v4 (F := Ideal) x4 x5 : FVec Ideal S4096x512 .f32) (ix2 n j) = (MidValue.mk x0 x1 x2 x3 x4 x5 x6 x7 x8 x9).ya n j := by
  pointwise [val_main_v4]
  rw [v3_0_at x0 x1 x2 x3 x4 x5 x6 x7 x8 x9]
  rfl

theorem v5_at (n : Fin 4096) (d : Fin 1024) : (val_main_v5 (F := Ideal) x4 x5 x7 : FVec Ideal S4096x1024 .f32) (ix2 n d) = (MidValue.mk x0 x1 x2 x3 x4 x5 x6 x7 x8 x9).av n d := by
  pointwise [val_main_v5]
  simp only [v4_at x0 x1 x2 x3 x4 x5 x6 x7 x8 x9, Finset.univ_unique, Finset.sum_singleton, show (default : Fin 1) = 0 from rfl]
  rfl

theorem v6_at (n : Fin 4096) (d : Fin 1024) : (val_main_v6 (F := Ideal) x6 x8 : FVec Ideal S4096x1024 .f32) (ix2 n d) = (MidValue.mk x0 x1 x2 x3 x4 x5 x6 x7 x8 x9).rv n d := by
  pointwise [val_main_v6]
  rfl

theorem v12_at (n : Fin 4096) (q : Fin 2048) : (val_main_v12 (F := Ideal) x5 : FVec Ideal S4096x2048 .f32) (ix2 n q) = lg (x5 (ix2 n ⟨2816 + q.val, by omega⟩)) := by
  pointwise [val_main_cst, val_main_cst_0, val_main_v2, val_main_v7, val_main_v8, val_main_v9, val_main_v10, val_main_v11, val_main_v12]
  rfl

theorem v16_at (n : Fin 4096) (d : Fin 1024) : (val_main_v16 (F := Ideal) x5 : FVec Ideal S4096x1024 .f32) (ix2 n d) = lg ((MidValue.mk x0 x1 x2 x3 x4 x5 x6 x7 x8 x9).ga n d) := by
  pointwise [val_main_v16]
  exact v12_at x5 n _

theorem v17_at (n : Fin 4096) (d : Fin 1024) : (val_main_v17 (F := Ideal) x5 : FVec Ideal S4096x1024 .f32) (ix2 n d) = lg ((MidValue.mk x0 x1 x2 x3 x4 x5 x6 x7 x8 x9).gr n d) := by
  pointwise [val_main_v17]
  refine (v12_at x5 n _).trans ?_
  exact congrArg (fun q => lg (x5 (ix2 n q))) (Fin.ext (by show 2816 + (1024 + d.val) = 3840 + d.val; omega))

theorem v20_at (n : Fin 4096) (d : Fin 1024) : (val_main_v20 (F := Ideal) x4 x5 x6 x7 x8 : FVec Ideal S4096x1024 .f32) (ix2 n d) = (MidValue.mk x0 x1 x2 x3 x4 x5 x6 x7 x8 x9).mb n d := by
  pointwise [val_main_v18, val_main_v19, val_main_v20]
  rw [v16_at x0 x1 x2 x3 x4 x5 x6 x7 x8 x9, v17_at x0 x1 x2 x3 x4 x5 x6 x7 x8 x9, v5_at x0 x1 x2 x3 x4 x5 x6 x7 x8 x9, v6_at x0 x1 x2 x3 x4 x5 x6 x7 x8 x9]
  rfl

theorem v21_at (n : Fin 4096) (d : Fin 1024) : (val_main_v21 (F := Ideal) x4 x5 x6 x7 x8 x9 : FVec Ideal S4096x1024 .f32) (ix2 n d) = (MidValue.mk x0 x1 x2 x3 x4 x5 x6 x7 x8 x9).u n d := by
  pointwise [val_main_v21]
  simp only [v20_at x0 x1 x2 x3 x4 x5 x6 x7 x8 x9, Finset.univ_unique, Finset.sum_singleton, show (default : Fin 1) = 0 from rfl]
  rfl

theorem v28_at (n : Fin 4096) : (val_main_v28 (F := Ideal) x4 x5 x6 x7 x8 x9 : FVec Ideal S4096x1 .f32) (ix2 n (0 : Fin 1)) = ms ((MidValue.mk x0 x1 x2 x3 x4 x5 x6 x7 x8 x9).u n) := by
  pointwise [val_main_cst_2, val_main_cst_3, val_main_cst_4, val_main_v22, val_main_v23, val_main_v24, val_main_v25, val_main_v26,
    val_main_v27, val_main_v28]
  simp only [v21_at x0 x1 x2 x3 x4 x5 x6 x7 x8 x9, Finset.univ_unique, Finset.sum_singleton, show (default : Fin 1) = 0 from rfl]
  rfl

theorem v29_at (n : Fin 4096) : (val_main_v29 (F := Ideal) x4 x5 x6 x7 x8 x9 : FVec Ideal S4096x1 .f32) (ix2 n (0 : Fin 1)) = rr ((MidValue.mk x0 x1 x2 x3 x4 x5 x6 x7 x8 x9).u n) := by
  refine Eq.trans ?_ (congrArg Ideal.rsqrt (v28_at x0 x1 x2 x3 x4 x5 x6 x7 x8 x9 n))
  pointwise [val_main_v29]

theorem v32_at (n : Fin 4096) : (val_main_v32 (F := Ideal) x4 x5 x6 x7 x8 x9 : FVec Ideal S4096x1 .f32) (ix2 n (0 : Fin 1)) = Ideal.ofBits FTy.f32 3204448256#32 * Ideal.div (rr ((MidValue.mk x0 x1 x2 x3 x4 x5 x6 x7 x8 x9).u n)) (ms ((MidValue.mk x0 x1 x2 x3 x4 x5 x6 x7 x8 x9).u n)) := by
  pointwise [val_main_cst_5, val_main_v30, val_main_v31, val_main_v32]
  rw [v29_at x0 x1 x2 x3 x4 x5 x6 x7 x8 x9, v28_at x0 x1 x2 x3 x4 x5 x6 x7 x8 x9]

theorem v34_at (n : Fin 4096) (d : Fin 1024) : (val_main_v34 (F := Ideal) x4 x5 x6 x7 x8 x9 : FVec Ideal S4096x1024 .f32) (ix2 n d) = (MidValue.mk x0 x1 x2 x3 x4 x5 x6 x7 x8 x9).un n d := by
  pointwise [val_main_v33, val_main_v34]
  rw [v21_at x0 x1 x2 x3 x4 x5 x6 x7 x8 x9, v29_at x0 x1 x2 x3 x4 x5 x6 x7 x8 x9]
  rfl

theorem v37_at (n : Fin 4096) (d : Fin 1024) : (val_main_v37 (F := Ideal) x3 x4 x5 x6 x7 x8 x9 : FVec Ideal S4096x1024 .f32) (ix2 n d) = (MidValue.mk x0 x1 x2 x3 x4 x5 x6 x7 x8 x9).yv n d := by
  pointwise [val_main_v35, val_main_v36, val_main_v37]
  rw [v34_at x0 x1 x2 x3 x4 x5 x6 x7 x8 x9]
  rfl

theorem v42_at (n : Fin 4096) (d : Fin 1024) : (val_main_v42 (F := Ideal) x0 x1 x2 x3 x4 x5 x6 x7 x8 x9 : FVec Ideal S4096x1024 .f32) (ix2 n d) = (MidValue.mk x0 x1 x2 x3 x4 x5 x6 x7 x8 x9).err n d := by
  pointwise [val_main_v0, val_main_v38, val_main_v39, val_main_v40, val_main_v41, val_main_v42]
  rw [v37_at x0 x1 x2 x3 x4 x5 x6 x7 x8 x9]
  rfl

/-- The derivative of half the mean of squares. -/
theorem half_mean (e : EReal) : Ideal.div (Ideal.ofBits FTy.f32 1056964608#32) c1024 * (Ideal.ofBits FTy.f32 1073741824#32 * e) = e * i1024 := by
  have h2 : Ideal.ofBits FTy.f32 1073741824#32 = ((2 : ℝ) : EReal) := by
    simp [Ideal.ofBits, Ideal.ieee, -EReal.coe_mul]
    norm_num
  have h1 : Ideal.ofBits FTy.f32 1056964608#32 = ((1 / 2 : ℝ) : EReal) := by
    simp [Ideal.ofBits, Ideal.ieee, -EReal.coe_mul]
    norm_num
  rw [h1, h2, c1024_coe, Ideal.div_coe (show (1024 : ℝ) ≠ 0 by norm_num), i1024_coe, ← mul_assoc, ← EReal.coe_mul, ← EReal.coe_mul, mul_comm e]
  norm_num

theorem v56_at (n : Fin 4096) (d : Fin 1024) : (val_main_v56 (F := Ideal) x0 x1 x2 x3 x4 x5 x6 x7 x8 x9 : FVec Ideal S4096x1024 .f32) (ix2 n d) = (MidValue.mk x0 x1 x2 x3 x4 x5 x6 x7 x8 x9).dout n d := by
  pointwise [val_main_cst_6, val_main_cst_11, val_main_cst_12, val_main_cst_13, val_main_v44, val_main_v45, val_main_v51, val_main_v52,
    val_main_v53, val_main_v54, val_main_v55, val_main_v56]
  rw [v42_at x0 x1 x2 x3 x4 x5 x6 x7 x8 x9]
  exact half_mean _

theorem v58_at (n : Fin 4096) (d : Fin 1024) : (val_main_v58 (F := Ideal) x0 x1 x2 x3 x4 x5 x6 x7 x8 x9 : FVec Ideal S4096x1024 .f32) (ix2 n d) = (MidValue.mk x0 x1 x2 x3 x4 x5 x6 x7 x8 x9).dy n d := by
  pointwise [val_main_v0, val_main_v38, val_main_v57, val_main_v58]
  rw [v56_at x0 x1 x2 x3 x4 x5 x6 x7 x8 x9]
  exact mul_comm _ _

theorem v67_at (n : Fin 4096) (d : Fin 1024) : (val_main_v67 (F := Ideal) x0 x1 x2 x3 x4 x5 x6 x7 x8 x9 : FVec Ideal S4096x1024 .f32) (ix2 n d) = (MidValue.mk x0 x1 x2 x3 x4 x5 x6 x7 x8 x9).dyg n d := by
  pointwise [val_main_v35, val_main_v66, val_main_v67]
  rw [v58_at x0 x1 x2 x3 x4 x5 x6 x7 x8 x9]
  rfl

theorem v82_at (n : Fin 4096) (d : Fin 1024) : (val_main_v82 (F := Ideal) x0 x1 x2 x3 x4 x5 x6 x7 x8 x9 : FVec Ideal S4096x1024 .f32) (ix2 n d) = nbR 0 ((MidValue.mk x0 x1 x2 x3 x4 x5 x6 x7 x8 x9).dyg n) ((MidValue.mk x0 x1 x2 x3 x4 x5 x6 x7 x8 x9).u n) d := by
  pointwise [val_main_cst_18, val_main_cst_19, val_main_cst_20, val_main_v69, val_main_v70, val_main_v71, val_main_v72, val_main_v73,
    val_main_v74, val_main_v75, val_main_v76, val_main_v77, val_main_v78, val_main_v79, val_main_v80, val_main_v81, val_main_v82]
  simp only [v67_at x0 x1 x2 x3 x4 x5 x6 x7 x8 x9, v21_at x0 x1 x2 x3 x4 x5 x6 x7 x8 x9, v29_at x0 x1 x2 x3 x4 x5 x6 x7 x8 x9, v32_at x0 x1 x2 x3 x4 x5 x6 x7 x8 x9, Finset.univ_unique, Finset.sum_singleton, show (default : Fin 1) = 0 from rfl]
  unfold nbR
  rw [zero_add]

theorem du_at (h : (MidValue.mk x0 x1 x2 x3 x4 x5 x6 x7 x8 x9).Real) (n : Fin 4096) (d : Fin 1024) : (val_main_v82 (F := Ideal) x0 x1 x2 x3 x4 x5 x6 x7 x8 x9 : FVec Ideal S4096x1024 .f32) (ix2 n d) = (MidValue.mk x0 x1 x2 x3 x4 x5 x6 x7 x8 x9).du n d :=
  (v82_at x0 x1 x2 x3 x4 x5 x6 x7 x8 x9 n d).trans (nb_real _ _ _ _ (h.dyg n) (h.u n))

theorem v83_at (h : (MidValue.mk x0 x1 x2 x3 x4 x5 x6 x7 x8 x9).Real) (n : Fin 4096) (d : Fin 1024) : (val_main_v83 (F := Ideal) x0 x1 x2 x3 x4 x5 x6 x7 x8 x9 : FVec Ideal S4096x1024 .f32) (ix2 n d) = (MidValue.mk x0 x1 x2 x3 x4 x5 x6 x7 x8 x9).dm n d := by
  pointwise [val_main_v83]
  simp only [du_at x0 x1 x2 x3 x4 x5 x6 x7 x8 x9 h]
  rfl

theorem v84_at (h : (MidValue.mk x0 x1 x2 x3 x4 x5 x6 x7 x8 x9).Real) (n : Fin 4096) (d : Fin 1024) : (val_main_v84 (F := Ideal) x0 x1 x2 x3 x4 x5 x6 x7 x8 x9 : FVec Ideal S4096x1024 .f32) (ix2 n d) = (MidValue.mk x0 x1 x2 x3 x4 x5 x6 x7 x8 x9).dr n d := by
  pointwise [val_main_v84]
  simp only [v83_at x0 x1 x2 x3 x4 x5 x6 x7 x8 x9 h, v17_at x0 x1 x2 x3 x4 x5 x6 x7 x8 x9]
  exact mul_comm _ _

theorem v86_at (h : (MidValue.mk x0 x1 x2 x3 x4 x5 x6 x7 x8 x9).Real) (n : Fin 4096) (d : Fin 1024) : (val_main_v86 (F := Ideal) x0 x1 x2 x3 x4 x5 x6 x7 x8 x9 : FVec Ideal S4096x1024 .f32) (ix2 n d) = (MidValue.mk x0 x1 x2 x3 x4 x5 x6 x7 x8 x9).da n d := by
  pointwise [val_main_v86]
  simp only [v83_at x0 x1 x2 x3 x4 x5 x6 x7 x8 x9 h, v16_at x0 x1 x2 x3 x4 x5 x6 x7 x8 x9]
  exact mul_comm _ _

theorem v90_at (h : (MidValue.mk x0 x1 x2 x3 x4 x5 x6 x7 x8 x9).Real) (n : Fin 4096) (j : Fin 512) : (val_main_v90 (F := Ideal) x0 x1 x2 x3 x4 x5 x6 x7 x8 x9 : FVec Ideal S4096x512 .f32) (ix2 n j) = (MidValue.mk x0 x1 x2 x3 x4 x5 x6 x7 x8 x9).dyr n j := by
  pointwise [val_main_v90]
  simp only [v84_at x0 x1 x2 x3 x4 x5 x6 x7 x8 x9 h]
  rfl

theorem v91_at (h : (MidValue.mk x0 x1 x2 x3 x4 x5 x6 x7 x8 x9).Real) (n : Fin 4096) (j : Fin 512) : (val_main_v91 (F := Ideal) x0 x1 x2 x3 x4 x5 x6 x7 x8 x9 : FVec Ideal S4096x512 .f32) (ix2 n j) = (MidValue.mk x0 x1 x2 x3 x4 x5 x6 x7 x8 x9).dya n j := by
  pointwise [val_main_v91]
  simp only [v86_at x0 x1 x2 x3 x4 x5 x6 x7 x8 x9 h]
  rfl

theorem v93_at (h : (MidValue.mk x0 x1 x2 x3 x4 x5 x6 x7 x8 x9).Real) (n : Fin 4096) (j : Fin 512) : (val_main_v93 (F := Ideal) x0 x1 x2 x3 x4 x5 x6 x7 x8 x9 : FVec Ideal S4096x512 .f32) (ix2 n j) = (MidValue.mk x0 x1 x2 x3 x4 x5 x6 x7 x8 x9).dov n j := by
  pointwise [val_main_v93]
  simp only [v91_at x0 x1 x2 x3 x4 x5 x6 x7 x8 x9 h, v3_0_at x0 x1 x2 x3 x4 x5 x6 x7 x8 x9]
  rfl

theorem v94_at (h : (MidValue.mk x0 x1 x2 x3 x4 x5 x6 x7 x8 x9).Real) (n : Fin 4096) (j : Fin 512) : (val_main_v94 (F := Ideal) x0 x1 x2 x3 x4 x5 x6 x7 x8 x9 : FVec Ideal S4096x512 .f32) (ix2 n j) = (MidValue.mk x0 x1 x2 x3 x4 x5 x6 x7 x8 x9).dza n j := by
  pointwise [val_main_v1, val_main_v92, val_main_call1_v0, val_main_call1_v1, val_main_call1_v2, val_main_v94]
  simp only [v91_at x0 x1 x2 x3 x4 x5 x6 x7 x8 x9 h, v3_1_at x0 x1 x2 x3 x4 x5 x6 x7 x8 x9, v3_2_at x0 x1 x2 x3 x4 x5 x6 x7 x8 x9]
  exact gate_back _ _ _ (h.dya n j) (h.o n j) (h.za n j)

theorem v104_at (h : (MidValue.mk x0 x1 x2 x3 x4 x5 x6 x7 x8 x9).Real) (p : Fin 8) (e : Fin 64) (n : Fin 4096) : (val_main_v104 (F := Ideal) x0 x1 x2 x3 x4 x5 x6 x7 x8 x9 : FVec Ideal S8x64x4096 .bf16) (ix3 p e n) = (MidValue.mk x0 x1 x2 x3 x4 x5 x6 x7 x8 x9).dot p e n := by
  pointwise [val_main_v102, val_main_v103, val_main_v104]
  refine (congrArg (val_main_v93 (F := Ideal) x0 x1 x2 x3 x4 x5 x6 x7 x8 x9 : FVec Ideal S4096x512 .f32) ?_).trans (v93_at x0 x1 x2 x3 x4 x5 x6 x7 x8 x9 h n ⟨p.val * 64 + e.val, by omega⟩)
  funext a
  refine Fin.ext ?_
  match a with
  | 0 => rfl
  | 1 => rfl

theorem v106_at (h : (MidValue.mk x0 x1 x2 x3 x4 x5 x6 x7 x8 x9).Real) (n : Fin 4096) (j : Fin 2560) : (val_main_v106 (F := Ideal) x0 x1 x2 x3 x4 x5 x6 x7 x8 x9 : FVec Ideal S4096x2560 .bf16) (ix2 n j) = (MidValue.mk x0 x1 x2 x3 x4 x5 x6 x7 x8 x9).dp n j := by
  have hj := j.isLt
  pointwise [val_main_cst_1, val_main_v13, val_main_v14, val_main_v15, val_main_v85, val_main_v87, val_main_v88, val_main_v89,
    val_main_v105, val_main_v106]
  unfold Args.dp
  by_cases h0 : j.val < 1024
  · rw [dif_pos (by omega : j.val < 2048), dif_pos h0, dif_pos h0]
    simp only [v12_at]
    exact congrArg₂ (· * ·) (congrArg₂ (· * ·) (v83_at x0 x1 x2 x3 x4 x5 x6 x7 x8 x9 h n _) (v5_at x0 x1 x2 x3 x4 x5 x6 x7 x8 x9 n _)) rfl
  by_cases h1 : j.val < 2048
  · rw [dif_pos h1, dif_neg h0, dif_neg h0, dif_pos h1]
    simp only [v12_at]
    have e : lg (x5 (ix2 n ⟨2816 + j.val, by omega⟩)) = lg ((MidValue.mk x0 x1 x2 x3 x4 x5 x6 x7 x8 x9).gr n ⟨j.val - 1024, by omega⟩) :=
      congrArg (fun q => lg (x5 (ix2 n q))) (Fin.ext (by show 2816 + j.val = 3840 + (j.val - 1024); omega))
    exact congrArg₂ (· * ·) (congrArg₂ (· * ·) (v83_at x0 x1 x2 x3 x4 x5 x6 x7 x8 x9 h n _) (v6_at x0 x1 x2 x3 x4 x5 x6 x7 x8 x9 n _)) (congrArg (fun q => q * (1 - q)) e)
  · rw [dif_neg h1, dif_neg h0, dif_neg h1]
    exact v94_at x0 x1 x2 x3 x4 x5 x6 x7 x8 x9 h n _

theorem v107_at (n : Fin 4096) (d : Fin 1024) : (val_main_v107 (F := Ideal) x4 x5 x6 x7 x8 : FVec Ideal S4096x1024 .bf16) (ix2 n d) = (MidValue.mk x0 x1 x2 x3 x4 x5 x6 x7 x8 x9).mb n d := by
  pointwise [val_main_v107]
  rw [v20_at x0 x1 x2 x3 x4 x5 x6 x7 x8 x9]

theorem v108_at (h : (MidValue.mk x0 x1 x2 x3 x4 x5 x6 x7 x8 x9).Real) (n : Fin 4096) (d : Fin 1024) : (val_main_v108 (F := Ideal) x0 x1 x2 x3 x4 x5 x6 x7 x8 x9 : FVec Ideal S4096x1024 .bf16) (ix2 n d) = (MidValue.mk x0 x1 x2 x3 x4 x5 x6 x7 x8 x9).du n d := by
  pointwise [val_main_v108]
  simp only [du_at x0 x1 x2 x3 x4 x5 x6 x7 x8 x9 h]

theorem v109_at (n : Fin 4096) (j : Fin 512) : (val_main_v109 (F := Ideal) x4 x5 : FVec Ideal S4096x512 .bf16) (ix2 n j) = (MidValue.mk x0 x1 x2 x3 x4 x5 x6 x7 x8 x9).ya n j := by
  pointwise [val_main_v109]
  rw [v4_at x0 x1 x2 x3 x4 x5 x6 x7 x8 x9]

theorem v110_at (h : (MidValue.mk x0 x1 x2 x3 x4 x5 x6 x7 x8 x9).Real) (n : Fin 4096) (d : Fin 1024) : (val_main_v110 (F := Ideal) x0 x1 x2 x3 x4 x5 x6 x7 x8 x9 : FVec Ideal S4096x1024 .bf16) (ix2 n d) = (MidValue.mk x0 x1 x2 x3 x4 x5 x6 x7 x8 x9).da n d := by
  pointwise [val_main_v110]
  simp only [v86_at x0 x1 x2 x3 x4 x5 x6 x7 x8 x9 h]

theorem v111_at (h : (MidValue.mk x0 x1 x2 x3 x4 x5 x6 x7 x8 x9).Real) (n : Fin 4096) (d : Fin 1024) : (val_main_v111 (F := Ideal) x0 x1 x2 x3 x4 x5 x6 x7 x8 x9 : FVec Ideal S4096x1024 .bf16) (ix2 n d) = (MidValue.mk x0 x1 x2 x3 x4 x5 x6 x7 x8 x9).dr n d := by
  pointwise [val_main_v111]
  simp only [v84_at x0 x1 x2 x3 x4 x5 x6 x7 x8 x9 h]

theorem v101_at (j : Fin 8) (d : Fin 1024) : (val_main_v101 (F := Ideal) x0 x1 x2 x3 x4 x5 x6 x7 x8 x9 : FVec Ideal S8x1024 .f32) (ix2 j d) = (MidValue.mk x0 x1 x2 x3 x4 x5 x6 x7 x8 x9).sums j d := by
  have hj := j.isLt
  pointwise [val_main_cst_14, val_main_cst_15, val_main_cst_16, val_main_cst_17, val_main_cst_21, val_main_cst_22, val_main_v59,
    val_main_v60, val_main_v61, val_main_v62, val_main_v63, val_main_v64, val_main_v65, val_main_v68, val_main_v95, val_main_v96,
    val_main_v97, val_main_v98, val_main_v99, val_main_v100, val_main_v101]
  simp only [v56_at x0 x1 x2 x3 x4 x5 x6 x7 x8 x9, v37_at x0 x1 x2 x3 x4 x5 x6 x7 x8 x9, v34_at x0 x1 x2 x3 x4 x5 x6 x7 x8 x9, v58_at x0 x1 x2 x3 x4 x5 x6 x7 x8 x9, v42_at x0 x1 x2 x3 x4 x5 x6 x7 x8 x9, Finset.univ_unique, Finset.sum_singleton, show (default : Fin 1) = 0 from rfl]
  unfold Args.sums Args.tok
  by_cases h0 : j.val = 0
  · simp only [if_pos h0]
    rw [dif_pos (by omega)]
    exact Finset.sum_congr rfl fun n _ => by rw [if_neg (by omega), if_neg (by omega)]
  by_cases h1 : j.val = 1
  · simp only [if_neg h0, if_pos h1]
    rw [dif_neg (by omega), dif_pos (by omega)]
    exact Finset.sum_congr rfl fun n _ => by rw [if_neg (by omega)]; exact mul_comm _ _
  by_cases h2 : j.val = 2
  · simp only [if_neg h0, if_neg h1, if_pos h2]
    rw [dif_neg (by omega), dif_neg (by omega), dif_pos (by omega)]
  simp only [if_neg h0, if_neg h1, if_neg h2, Finset.sum_const_zero]
  rw [dif_neg (by omega), dif_neg (by omega), dif_neg (by omega)]

end Cert.MidRef

end
-- ==== Proof.MidClaim.lean ====
/- The backward call of the loss, the gated norm and the merge computes the derivative, of real arguments. -/
module

public import proofs.«01_k».proof.Defs
public import proofs.«01_k».proof.Proof.Gen.Pre_finite_mid
public import proofs.«01_k».proof.Proof.Gen.MidKernelIdeal.Value
public import proofs.«01_k».proof.Proof.Gen.MidReferenceIdeal.Run
public import proofs.«01_k».proof.Proof.MidPoint
public import proofs.«01_k».proof.Proof.MidReference
public import proofs.«01_k».proof.Proof.Finite

@[expose] public section

set_option maxRecDepth 16384

noncomputable section

open Idealize.ShloMosaic Idealize.ShloMosaic.TcCoe Idealize.SL.Sem

namespace Cert.MidClaim

open MidValue (mk)

section reference

variable (x0 x1 : FVec Ideal Cert.MidKernelIdeal.S4096x1024 .f32) (x2 : FVec Ideal Cert.MidKernelIdeal.S3072 .f32)
  (x3 : FVec Ideal Cert.MidKernelIdeal.S1024 .f32) (x4 : FVec Ideal Cert.MidKernelIdeal.S4096x512 .f32)
  (x5 : FVec Ideal Cert.MidKernelIdeal.S4096x4864 .f32) (x6 : FVec Ideal Cert.MidKernelIdeal.S4096x512 .f32)
  (x7 x8 : FVec Ideal Cert.MidKernelIdeal.S512x1024 .f32) (x9 : FVec Ideal Cert.MidKernelIdeal.S1024x1024 .f32)

/-- What the precondition says of the arguments. -/
theorem finite (h : Cert.Pre_finite_mid.fn (F := Ideal) x0 x1 x2 x3 x4 x5 x6 x7 x8 x9 = fun _ => 1#1) : (mk x0 x1 x2 x3 x4 x5 x6 x7 x8 x9).Real := by
  simp only [Cert.Pre_finite_mid.fn, Cert.Pre_finite_mid.fn_part1, Cert.Pre_finite_mid.fn_part2] at h
  obtain ⟨h, h9⟩ := Finite.split h
  obtain ⟨h, h8⟩ := Finite.split h
  obtain ⟨h, h7⟩ := Finite.split h
  obtain ⟨h, h6⟩ := Finite.split h
  obtain ⟨h, h5⟩ := Finite.split h
  obtain ⟨h, h4⟩ := Finite.split h
  obtain ⟨h, h3⟩ := Finite.split h
  obtain ⟨h, h2⟩ := Finite.split h
  obtain ⟨h, h1⟩ := Finite.split h
  obtain ⟨-, h0⟩ := Finite.split h
  have p := Finite.all_real x5 _ _ _ h5
  exact
    { x := fun _ _ => Finite.all_real x0 _ _ _ h0 _
      t := fun _ _ => Finite.all_real x1 _ _ _ h1 _
      gate := fun _ => Finite.all_real x2 _ _ _ h2 _
      gp := fun _ => Finite.all_real x3 _ _ _ h3 _
      o := fun _ _ => Finite.all_real x4 _ _ _ h4 _
      za := fun _ _ => p _
      yr := fun _ _ => Finite.all_real x6 _ _ _ h6 _
      ga := fun _ _ => p _
      gr := fun _ _ => p _
      wa := fun _ _ => Finite.all_real x7 _ _ _ h7 _
      wr := fun _ _ => Finite.all_real x8 _ _ _ h8 _
      wo := fun _ _ => Finite.all_real x9 _ _ _ h9 _ }

end reference

set_option maxHeartbeats 4000000 in
theorem value : Cert.algebraic_MidKernelIdeal_MidReferenceIdeal_pre_finite_mid := by
  pair_intro
  · run_from Cert.MidKernelIdeal.Gen.run_main m g
    · exact hc.1 16
    · exact hc.1 17
    · exact hc.1 18
    · exact hc.1 19
    · exact hc.1 20
  · run_from Cert.MidReferenceIdeal.Value.run m' g'
    all_goals obtain ⟨h0, h1, h2, h3, h4, h5, h6, h7, h8, h9⟩ := hagree c
    all_goals have hp := finite _ _ _ _ _ _ _ _ _ _ (hpre c)
    all_goals have a0 : StableHlo.launchContents m' c (Proc.tc.devRef Cert.MidReferenceIdeal.main_arg0) = m (c.tc.loc Cert.MidKernelIdeal.main_arg0) := h0
    all_goals have a1 : StableHlo.launchContents m' c (Proc.tc.devRef Cert.MidReferenceIdeal.main_arg1) = m (c.tc.loc Cert.MidKernelIdeal.main_arg1) := h1
    all_goals have a2 : StableHlo.launchContents m' c (Proc.tc.devRef Cert.MidReferenceIdeal.main_arg2) = m (c.tc.loc Cert.MidKernelIdeal.main_arg2) := h2
    all_goals have a3 : StableHlo.launchContents m' c (Proc.tc.devRef Cert.MidReferenceIdeal.main_arg3) = m (c.tc.loc Cert.MidKernelIdeal.main_arg3) := h3
    all_goals have a4 : StableHlo.launchContents m' c (Proc.tc.devRef Cert.MidReferenceIdeal.main_arg4) = m (c.tc.loc Cert.MidKernelIdeal.main_arg4) := h4
    all_goals have a5 : StableHlo.launchContents m' c (Proc.tc.devRef Cert.MidReferenceIdeal.main_arg5) = m (c.tc.loc Cert.MidKernelIdeal.main_arg5) := h5
    all_goals have a6 : StableHlo.launchContents m' c (Proc.tc.devRef Cert.MidReferenceIdeal.main_arg6) = m (c.tc.loc Cert.MidKernelIdeal.main_arg6) := h6
    all_goals have a7 : StableHlo.launchContents m' c (Proc.tc.devRef Cert.MidReferenceIdeal.main_arg7) = m (c.tc.loc Cert.MidKernelIdeal.main_arg7) := h7
    all_goals have a8 : StableHlo.launchContents m' c (Proc.tc.devRef Cert.MidReferenceIdeal.main_arg8) = m (c.tc.loc Cert.MidKernelIdeal.main_arg8) := h8
    all_goals have a9 : StableHlo.launchContents m' c (Proc.tc.devRef Cert.MidReferenceIdeal.main_arg9) = m (c.tc.loc Cert.MidKernelIdeal.main_arg9) := h9
    · rw [Cert.MidReferenceIdeal.Read.val_main_v56_eq, MidValue.final11 m c, a0, a1, a2, a3, a4, a5, a6, a7, a8, a9]
      funext i; idx_vars i
      exact MidRef.v56_at _ _ _ _ _ _ _ _ _ _ _ _
    · rw [Cert.MidReferenceIdeal.Read.val_main_v104_eq, MidValue.final12 m c, a0, a1, a2, a3, a4, a5, a6, a7, a8, a9]
      funext i; idx_vars i
      exact MidRef.v104_at _ _ _ _ _ _ _ _ _ _ hp _ _ _
    · rw [Cert.MidReferenceIdeal.Read.val_main_v106_eq, MidValue.final13 m c, a0, a1, a2, a3, a4, a5, a6, a7, a8, a9]
      funext i; idx_vars i
      exact MidRef.v106_at _ _ _ _ _ _ _ _ _ _ hp _ _
    · rw [← h8, MidValue.final14 m c]
      refine (Cert.MidReferenceIdeal.Read.val_main_v90_eq (F := Ideal) (StableHlo.launchContents m' c)).trans ?_
      rw [a0, a1, a2, a3, a4, a5, a6, a7, a8, a9]
      funext i; idx_vars i
      exact MidRef.v90_at _ _ _ _ _ _ _ _ _ _ hp _ _
    · rw [Cert.MidReferenceIdeal.Read.val_main_v107_eq, MidValue.final15 m c, a4, a5, a6, a7, a8]
      funext i; idx_vars i
      exact MidRef.v107_at _ _ _ _ _ _ _ _ _ _ _ _
    · rw [Cert.MidReferenceIdeal.Read.val_main_v108_eq, MidValue.final16 m c, a0, a1, a2, a3, a4, a5, a6, a7, a8, a9]
      funext i; idx_vars i
      exact MidRef.v108_at _ _ _ _ _ _ _ _ _ _ hp _ _
    · rw [Cert.MidReferenceIdeal.Read.val_main_v109_eq, MidValue.final17 m c, a4, a5]
      funext i; idx_vars i
      exact MidRef.v109_at _ _ _ _ _ _ _ _ _ _ _ _
    · rw [Cert.MidReferenceIdeal.Read.val_main_v110_eq, MidValue.final18 m c, a0, a1, a2, a3, a4, a5, a6, a7, a8, a9]
      funext i; idx_vars i
      exact MidRef.v110_at _ _ _ _ _ _ _ _ _ _ hp _ _
    · rw [Cert.MidReferenceIdeal.Read.val_main_v111_eq, MidValue.final19 m c, a0, a1, a2, a3, a4, a5, a6, a7, a8, a9]
      funext i; idx_vars i
      exact MidRef.v111_at _ _ _ _ _ _ _ _ _ _ hp _ _
    · rw [Cert.MidReferenceIdeal.Read.val_main_v101_eq, MidValue.final20 m c, a0, a1, a2, a3, a4, a5, a6, a7, a8, a9]
      funext i; idx_vars i
      exact MidRef.v101_at _ _ _ _ _ _ _ _ _ _ _ _

end Cert.MidClaim

end
-- ==== Proof.AttRun.lean ====
/- One step of the attention's backward kernel, at any values: what its stores leave in the three outputs. -/
module

public import proofs.«01_k».proof.Defs
public import proofs.«01_k».proof.Proof.Gen.AttKernelIdeal.Launch
public import proofs.«01_k».proof.Proof.Gen.AttKernelIdeal.Points
public import proofs.«01_k».proof.Proof.Gen.AttKernelIdeal.Skeleton
public import Idealize.ShloMosaic.Lib.Exec
public import Idealize.ShloMosaic.Lib.Pipeline.FrameBody
public import Idealize.ShloMosaic.Lib.Pipeline.Frame
public import Idealize.ShloMosaic.Lib.Pipeline.ArrRel
public import Idealize.ShloMosaic.Lib.Pipeline.DatRel
public import Idealize.ShloMosaic.Lib.Ring

@[expose] public section

set_option maxRecDepth 16384

noncomputable section

namespace Cert.AttRun

open Cert.AttKernelIdeal Cert.AttKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S8x64x1024 .bf16) (harg2 : arg2.IsWhole) (arg3 : Memref sig .tc .vmem S2x1024x64 .bf16) (harg3 : arg3.IsWhole) (arg4 : Memref sig .tc .vmem S2x64x1024 .bf16) (harg4 : arg4.IsWhole) (arg5 : Memref sig .tc .vmem S2x1024x64 .bf16) (harg5 : arg5.IsWhole) (arg6 : Memref sig .tc .vmem S8x64x1024 .bf16) (harg6 : arg6.IsWhole) (arg7 : Memref sig .tc .vmem S8x64x1024 .f32) (harg7 : arg7.IsWhole) (arg8 : Memref sig .tc .vmem S2x4x1024 .f32) (harg8 : arg8.IsWhole) (arg9 : Memref sig .tc .vmem S8x64x4096 .f32) (harg9 : arg9.IsWhole) (arg10 : Memref sig .tc .vmem S2x64x1024 .f32) (harg10 : arg10.IsWhole) (arg11 : Memref sig .tc .vmem S2x64x1024 .f32) (harg11 : arg11.IsWhole)
variable (x0 : Vec F S8x64x1024 .bf16) (x1 : Vec F S2x1024x64 .bf16) (x2 : Vec F S2x64x1024 .bf16) (x3 : Vec F S2x1024x64 .bf16) (x4 : Vec F S8x64x1024 .bf16) (x5 : Vec F S8x64x1024 .f32) (x6 : Vec F S2x4x1024 .f32) (y7 : Vec F S8x64x4096 .f32) (y8 : Vec F S2x64x1024 .f32) (y9 : Vec F S2x64x1024 .f32)

/-- The step, begun with the operands at `x0` to `x6` and the outputs at `y7` to `y9`, ends with the operands as they were and
    the pieces `L7` to `L9` written over the outputs. -/
def Leaves (L7 : List (View.Piece (Elt F) S8x64x4096 .f32)) (L8 : List (View.Piece (Elt F) S2x64x1024 .f32)) (L9 : List (View.Piece (Elt F) S2x64x1024 .f32)) : Prop :=
  ∀ (E : Set ℕ) (K : PUnit → sProp 𝕄),
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y7 ∗ owns (c : Thread nD τ) arg10 fullShare y8 ∗ owns (c : Thread nD τ) arg11 fullShare y9
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (arg9.view.loc (c : Thread nD τ) ↦[arg9.view.set]{fullShare} arg9.view.writes (Elt F) (harg9.unread y7) L7) ∗ (arg10.view.loc (c : Thread nD τ) ↦[arg10.view.set]{fullShare} arg10.view.writes (Elt F) (harg10.unread y8) L8) ∗ (arg11.view.loc (c : Thread nD τ) ↦[arg11.view.set]{fullShare} arg11.view.writes (Elt F) (harg11.unread y9) L9)) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11) K

set_option maxHeartbeats 4000000 in
/-- The first tile of rows against the first tile of keys. -/
noncomputable def stepA (h1 : k0_cond1 i = 1#1) (h2 : ¬k0_cond2 i = 1#1) (h3 : k0_cond3 i = 1#1) (h4 : ¬k0_cond4 i = 1#1) :
    Σ' (L7 : List (View.Piece (Elt F) S8x64x4096 .f32)) (L8 : List (View.Piece (Elt F) S2x64x1024 .f32)), { L9 : List (View.Piece (Elt F) S2x64x1024 .f32) // Leaves c i arg2 harg2 arg3 harg3 arg4 harg4 arg5 harg5 arg6 harg6 arg7 harg7 arg8 harg8 arg9 harg9 arg10 harg10 arg11 harg11 x0 x1 x2 x3 x4 x5 x6 y7 y8 y9 L7 L8 L9 } := by
  refine ⟨?_, ?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact h1 | sl_exact h2 | sl_exact h3 | sl_exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexact H7
    isplitl [H8]; · iexact H8
    iexact H9

set_option maxHeartbeats 4000000 in
/-- The first tile of rows against a later tile of keys. -/
noncomputable def stepB (h1 : k0_cond1 i = 1#1) (h2 : ¬k0_cond2 i = 1#1) (h3 : ¬k0_cond3 i = 1#1) (h4 : k0_cond4 i = 1#1) :
    Σ' (L7 : List (View.Piece (Elt F) S8x64x4096 .f32)) (L8 : List (View.Piece (Elt F) S2x64x1024 .f32)), { L9 : List (View.Piece (Elt F) S2x64x1024 .f32) // Leaves c i arg2 harg2 arg3 harg3 arg4 harg4 arg5 harg5 arg6 harg6 arg7 harg7 arg8 harg8 arg9 harg9 arg10 harg10 arg11 harg11 x0 x1 x2 x3 x4 x5 x6 y7 y8 y9 L7 L8 L9 } := by
  refine ⟨?_, ?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact h1 | sl_exact h2 | sl_exact h3 | sl_exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexact H7
    isplitl [H8]; · iexact H8
    iexact H9

set_option maxHeartbeats 4000000 in
/-- A later tile of rows against the first tile of keys. -/
noncomputable def stepC (h1 : ¬k0_cond1 i = 1#1) (h2 : k0_cond2 i = 1#1) (h3 : k0_cond3 i = 1#1) (h4 : ¬k0_cond4 i = 1#1) :
    Σ' (L7 : List (View.Piece (Elt F) S8x64x4096 .f32)) (L8 : List (View.Piece (Elt F) S2x64x1024 .f32)), { L9 : List (View.Piece (Elt F) S2x64x1024 .f32) // Leaves c i arg2 harg2 arg3 harg3 arg4 harg4 arg5 harg5 arg6 harg6 arg7 harg7 arg8 harg8 arg9 harg9 arg10 harg10 arg11 harg11 x0 x1 x2 x3 x4 x5 x6 y7 y8 y9 L7 L8 L9 } := by
  refine ⟨?_, ?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact h1 | sl_exact h2 | sl_exact h3 | sl_exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexact H7
    isplitl [H8]; · iexact H8
    iexact H9

set_option maxHeartbeats 4000000 in
/-- A later tile of rows against a later tile of keys. -/
noncomputable def stepD (h1 : ¬k0_cond1 i = 1#1) (h2 : k0_cond2 i = 1#1) (h3 : ¬k0_cond3 i = 1#1) (h4 : k0_cond4 i = 1#1) :
    Σ' (L7 : List (View.Piece (Elt F) S8x64x4096 .f32)) (L8 : List (View.Piece (Elt F) S2x64x1024 .f32)), { L9 : List (View.Piece (Elt F) S2x64x1024 .f32) // Leaves c i arg2 harg2 arg3 harg3 arg4 harg4 arg5 harg5 arg6 harg6 arg7 harg7 arg8 harg8 arg9 harg9 arg10 harg10 arg11 harg11 x0 x1 x2 x3 x4 x5 x6 y7 y8 y9 L7 L8 L9 } := by
  refine ⟨?_, ?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact h1 | sl_exact h2 | sl_exact h3 | sl_exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexact H7
    isplitl [H8]; · iexact H8
    iexact H9

end Cert.AttRun

end
-- ==== Proof.AttFrames.lean ====
/- The frames of the attention's backward kernel: the kernel adds into its outputs a piece at a time, so its run is followed with
   nothing said of what the outputs hold. -/
module

public import proofs.«01_k».proof.Defs
public import proofs.«01_k».proof.Proof.Gen.AttKernel.Launch
public import proofs.«01_k».proof.Proof.Gen.AttKernelIdeal.Launch
public import proofs.«01_k».proof.Proof.Gen.AttKernelIdeal.Points
public import proofs.«01_k».proof.Proof.Gen.AttKernelIdeal.Skeleton
public import Idealize.ShloMosaic.Lib.Exec
public import Idealize.ShloMosaic.Lib.Pipeline.FrameBody
public import Idealize.ShloMosaic.Lib.Pipeline.Frame
public import Idealize.ShloMosaic.Lib.Pipeline.ArrRel
public import Idealize.ShloMosaic.Lib.Pipeline.DatRel
public import Idealize.ShloMosaic.Lib.Ring
public import Idealize.ShloMosaic.Lib.WordCmp
public import proofs.«01_k».proof.Proof.Gen.AttReferenceIdeal.Run
public import proofs.«01_k».proof.Proof.AttRun

@[expose] public section

set_option maxRecDepth 16384

noncomputable section

namespace Cert.AttFrames

open Cert.AttRun Cert.AttKernelIdeal Cert.AttKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a core's buffers hold when the kernel is launched. -/
abbrev V (c : Dev nD) (b : Ref sig .tc) : Buf (Elt F) ((c : Thread nD τ).loc b) := StableHlo.after hostOps0 (fun b => m (c, b)) b

theorem fresh : (hostOps0 : List (HloOp τ sig (Elt F))).Forall fun op => op.fresh = ∅ := by
  simp only [List.Forall]; repeat' constructor

set_option maxHeartbeats 1600000 in
theorem hmain : Pipeline.HMain (Ix := Unit) (Name := ℕ) (U := UR sig nD τ) (Lvl := ℕ) cfgs 0 defs₀ Variants.none m (main (F := F)) (V m) :=
  Pipeline.hmain_prefix cfgs 0 defs₀ Variants.none m main hostOps0 hostOps0_sub fresh main_chain

/-- The lines before the launch write none of the four arguments. -/
theorem V_arg (c : Dev nD) (b : Ref sig .tc) (hb : b = main_arg0 ∨ b = main_arg1 ∨ b = main_arg2 ∨ b = main_arg3) :
    V m c b = m ((c : Thread nD τ).loc b) := by
  rcases hb with rfl | rfl | rfl | rfl <;>
  exact StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

/-- The block of window `w` at a point. -/
def block (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The operands stay as fetched; of the outputs nothing is said. -/
def dats (_ : Fin 1) (c : Dev nD) : Dat τ (Elt F) Unit ℕ (UR sig nD τ) ℕ cfg0 c where
  A w := V m c (Pipeline.arrRef spec0 w)
  after w t := match w with
    | ⟨0, _⟩ => block m c 0 t
    | ⟨1, _⟩ => block m c 1 t
    | ⟨2, _⟩ => block m c 2 t
    | ⟨3, _⟩ => block m c 3 t
    | ⟨4, _⟩ => block m c 4 t
    | ⟨5, _⟩ => block m c 5 t
    | ⟨6, _⟩ => block m c 6 t
    | ⟨7, _⟩ => Dat.unnamed (cfg := cfg0) 7 t
    | ⟨8, _⟩ => Dat.unnamed (cfg := cfg0) 8 t
    | ⟨9, _⟩ => Dat.unnamed (cfg := cfg0) 9 t
  Φ _ := Pipeline.ΦA spec0 c
  q _ := fullShare
  owed _ := 0

/-- The three outputs. -/
def outs : Fin cfg0.W → Bool := fun w => decide (7 ≤ w.val)

theorem A_eq (c : Dev nD) (w : Fin cfg0.W) : (dats m 0 c).A w = V m c (Pipeline.arrRef spec0 w) := by
  dsimp only [dats]

theorem after_0 (c : Dev nD) (t : Fin cfg0.N) : (dats m 0 c).after 0 t = block m c 0 t := by dsimp only [dats]
theorem before_0 (c : Dev nD) (t : Fin cfg0.N) (d) : (dats m 0 c).before 0 t d = block m c 0 t :=
  ((dats m 0 c).before_in_eq_fetched 0 rfl (fun _ => rfl) (fun _ _ _ => rfl)
    (fun t => by rw [after_0]; unfold Dat.blockOf block; rw [A_eq]; try rfl) t d).trans
    (by unfold Dat.fetched Dat.blockOf block; rw [A_eq]; try rfl)
theorem after_1 (c : Dev nD) (t : Fin cfg0.N) : (dats m 0 c).after 1 t = block m c 1 t := by dsimp only [dats]
theorem before_1 (c : Dev nD) (t : Fin cfg0.N) (d) : (dats m 0 c).before 1 t d = block m c 1 t :=
  ((dats m 0 c).before_in_eq_fetched 1 rfl (fun _ => rfl) (fun _ _ _ => rfl)
    (fun t => by rw [after_1]; unfold Dat.blockOf block; rw [A_eq]; try rfl) t d).trans
    (by unfold Dat.fetched Dat.blockOf block; rw [A_eq]; try rfl)
theorem after_2 (c : Dev nD) (t : Fin cfg0.N) : (dats m 0 c).after 2 t = block m c 2 t := by dsimp only [dats]
theorem before_2 (c : Dev nD) (t : Fin cfg0.N) (d) : (dats m 0 c).before 2 t d = block m c 2 t :=
  ((dats m 0 c).before_in_eq_fetched 2 rfl (fun _ => rfl) (fun _ _ _ => rfl)
    (fun t => by rw [after_2]; unfold Dat.blockOf block; rw [A_eq]; try rfl) t d).trans
    (by unfold Dat.fetched Dat.blockOf block; rw [A_eq]; try rfl)
theorem after_3 (c : Dev nD) (t : Fin cfg0.N) : (dats m 0 c).after 3 t = block m c 3 t := by dsimp only [dats]
theorem before_3 (c : Dev nD) (t : Fin cfg0.N) (d) : (dats m 0 c).before 3 t d = block m c 3 t :=
  ((dats m 0 c).before_in_eq_fetched 3 rfl (fun _ => rfl) (fun _ _ _ => rfl)
    (fun t => by rw [after_3]; unfold Dat.blockOf block; rw [A_eq]; try rfl) t d).trans
    (by unfold Dat.fetched Dat.blockOf block; rw [A_eq]; try rfl)
theorem after_4 (c : Dev nD) (t : Fin cfg0.N) : (dats m 0 c).after 4 t = block m c 4 t := by dsimp only [dats]
theorem before_4 (c : Dev nD) (t : Fin cfg0.N) (d) : (dats m 0 c).before 4 t d = block m c 4 t :=
  ((dats m 0 c).before_in_eq_fetched 4 rfl (fun _ => rfl) (fun _ _ _ => rfl)
    (fun t => by rw [after_4]; unfold Dat.blockOf block; rw [A_eq]; try rfl) t d).trans
    (by unfold Dat.fetched Dat.blockOf block; rw [A_eq]; try rfl)
theorem after_5 (c : Dev nD) (t : Fin cfg0.N) : (dats m 0 c).after 5 t = block m c 5 t := by dsimp only [dats]
theorem before_5 (c : Dev nD) (t : Fin cfg0.N) (d) : (dats m 0 c).before 5 t d = block m c 5 t :=
  ((dats m 0 c).before_in_eq_fetched 5 rfl (fun _ => rfl) (fun _ _ _ => rfl)
    (fun t => by rw [after_5]; unfold Dat.blockOf block; rw [A_eq]; try rfl) t d).trans
    (by unfold Dat.fetched Dat.blockOf block; rw [A_eq]; try rfl)
theorem after_6 (c : Dev nD) (t : Fin cfg0.N) : (dats m 0 c).after 6 t = block m c 6 t := by dsimp only [dats]
theorem before_6 (c : Dev nD) (t : Fin cfg0.N) (d) : (dats m 0 c).before 6 t d = block m c 6 t :=
  ((dats m 0 c).before_in_eq_fetched 6 rfl (fun _ => rfl) (fun _ _ _ => rfl)
    (fun t => by rw [after_6]; unfold Dat.blockOf block; rw [A_eq]; try rfl) t d).trans
    (by unfold Dat.fetched Dat.blockOf block; rw [A_eq]; try rfl)

/-- A tile of rows is either the first or a later one, -/
theorem cond2_iff (i : grid0.Coords) : k0_cond2 i = 1#1 ↔ ¬k0_cond1 i = 1#1 := by
  have h : (i 1).val < 4 := (i 1).isLt
  unfold k0_cond1 k0_cond2
  generalize (i 1).val = n at h
  interval_cases n <;> decide

/-- and so is a tile of keys. -/
theorem cond4_iff (i : grid0.Coords) : k0_cond4 i = 1#1 ↔ ¬k0_cond3 i = 1#1 := by
  have h : (i 0).val < 4 := (i 0).isLt
  unfold k0_cond3 k0_cond4
  generalize (i 0).val = n at h
  interval_cases n <;> decide

/-- At every point, whatever the outputs hold, the step runs and writes some pieces over them. -/
theorem step (c : Dev nD) (t : Fin cfg0.N) (y7 : Vec F S8x64x4096 .f32) (y8 y9 : Vec F S2x64x1024 .f32) :
    ∃ (L7 : List (View.Piece (Elt F) S8x64x4096 .f32)) (L8 L9 : List (View.Piece (Elt F) S2x64x1024 .f32)),
      Leaves c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (block m c 0 t) (block m c 1 t) (block m c 2 t) (block m c 3 t) (block m c 4 t) (block m c 5 t) (block m c 6 t) y7 y8 y9 L7 L8 L9 := by
  by_cases h1 : k0_cond1 (grid0.coords t) = 1#1 <;> by_cases h3 : k0_cond3 (grid0.coords t) = 1#1
  · have s := stepA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (block m c 0 t) (block m c 1 t) (block m c 2 t) (block m c 3 t) (block m c 4 t) (block m c 5 t) (block m c 6 t) y7 y8 y9 h1 (fun h => (cond2_iff _).mp h h1) h3 (fun h => (cond4_iff _).mp h h3)
    exact ⟨_, _, _, s.2.2.2⟩
  · have s := stepB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (block m c 0 t) (block m c 1 t) (block m c 2 t) (block m c 3 t) (block m c 4 t) (block m c 5 t) (block m c 6 t) y7 y8 y9 h1 (fun h => (cond2_iff _).mp h h1) h3 ((cond4_iff _).mpr h3)
    exact ⟨_, _, _, s.2.2.2⟩
  · have s := stepC c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (block m c 0 t) (block m c 1 t) (block m c 2 t) (block m c 3 t) (block m c 4 t) (block m c 5 t) (block m c 6 t) y7 y8 y9 h1 ((cond2_iff _).mpr h1) h3 (fun h => (cond4_iff _).mp h h3)
    exact ⟨_, _, _, s.2.2.2⟩
  · have s := stepD c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (block m c 0 t) (block m c 1 t) (block m c 2 t) (block m c 3 t) (block m c 4 t) (block m c 5 t) (block m c 6 t) y7 y8 y9 h1 ((cond2_iff _).mpr h1) h3 ((cond4_iff _).mpr h3)
    exact ⟨_, _, _, s.2.2.2⟩

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ X, owns (c : Thread nD τ) (win0_7.stage (cfg0.slots t 7)) fullShare X)
    ∗ (∃ X, owns (c : Thread nD τ) (win0_8.stage (cfg0.slots t 8)) fullShare X)
    ∗ (∃ X, owns (c : Thread nD τ) (win0_9.stage (cfg0.slots t 9)) fullShare X))

/-- and what it gives back. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ (∃ X, owns (c : Thread nD τ) (win0_7.stage (cfg0.slots t 7)) fullShare X)
    ∗ (∃ X, owns (c : Thread nD τ) (win0_8.stage (cfg0.slots t 8)) fullShare X)
    ∗ (∃ X, owns (c : Thread nD τ) (win0_9.stage (cfg0.slots t 9)) fullShare X))

set_option maxHeartbeats 1600000 in
theorem sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl, after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  obtain ⟨L7, L8, L9, h⟩ := step m c t d7 d8 d9
  iapply (h Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; unfold owns; iexists _; isplitr
    swap; · iexact H7
    ipureintro; rfl
  isplitl [H8]
  · iexists _; unfold owns; iexists _; isplitr
    swap; · iexact H8
    ipureintro; rfl
  iexists _; unfold owns; iexists _; isplitr
  swap; · iexact H9
  ipureintro; rfl

theorem row (t : Fin cfg0.N) : defs₀ (F := F) .tc cfg0.body (cfg0.bodyArgs t (cfg0.slots t)) = bodyAt0 t := by
  unfold defs₀; rw [Defs.onTc_tc]

theorem obligation (c : Dev nD) : Pipeline.BodyObligationLoose (dats (F := F) m 0 c) (defs₀ (F := F)) Variants.none () Set.univ outs := fun t => by
  rw [bigSep_W0, bigSep_W0, row]
  exact triple_restated (sound m c t) rfl .rfl fun _ => .rfl

set_option backward.isDefEq.respectTransparency.types false in
/-- The program runs to its end with every counter at zero. -/
theorem ends : θ_run defs (onTc (τ := τ) (main (F := F))) (s₀ m ρ)
    (fun r => Pipeline.RDat.FramePost cfg0 (fun c => (dats m 0 c).toRForget outs) (V m) r ∧ r.2.sem = fun _ => 0) :=
  Pipeline.θ_run_frame_forget (Q' := _) cfgs (dats m) (0 : Fin 1) launch0 defs₀ Variants.none outs m ρ main
    (hbody := fun c => obligation m c) (hshare := fun c => (dats m 0 c).share_full fun _ => rfl)
    (howed := fun _ _ => rfl) (V := V m) (hmain := hmain m) (hA := A_eq m) (hΦ := fun _ _ => rfl)

theorem frame_any : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).2 main_arg0 (Pipeline.mem_restRefs_of main_arg0 (by decide) (by decide))).trans (V_arg m c _ (.inl rfl)),
      ((h.1 c).2 main_arg1 (Pipeline.mem_restRefs_of main_arg1 (by decide) (by decide))).trans (V_arg m c _ (.inr (.inl rfl))),
      ((h.1 c).2 main_arg2 (Pipeline.mem_restRefs_of main_arg2 (by decide) (by decide))).trans (V_arg m c _ (.inr (.inr (.inl rfl)))),
      ((h.1 c).2 main_arg3 (Pipeline.mem_restRefs_of main_arg3 (by decide) (by decide))).trans (V_arg m c _ (.inr (.inr (.inr rfl))))⟩, h.2⟩)
    (ends m ρ)

theorem kernelIdeal : Cert.quiescent_AttKernelIdeal := fun m ρ _ => frame_any (F := Ideal) m ρ

/-- The kernel and its idealization are one program. -/
theorem kernel : Cert.quiescent_AttKernel := fun m ρ _ =>
  Eq.mp (by sl_kernel_rfl) (frame_any (F := Bits) m ρ)

theorem reference : Cert.quiescent_AttReferenceIdeal := by
  intro m ρ _
  exact (θ_run Cert.AttReferenceIdeal.defs _ _).mono
    (fun r h => ⟨fun c => (h c).2.2.2, Idealize.ShloMosaic.sem_eq_zero_of_no_sems (by decide) r.2⟩)
    (Cert.AttReferenceIdeal.Value.run (F := Ideal) m ρ)

end Cert.AttFrames

end
-- ==== Proof.AttPieces.lean ====
/- One step of the attention's backward kernel: the pieces it stores, head by head. -/
module

public import proofs.«01_k».proof.Proof.AttRun

@[expose] public section

set_option maxRecDepth 16384

noncomputable section

namespace Cert.AttRun

open Cert.AttKernelIdeal Cert.AttKernelIdeal.Gen
open Idealize.ShloMosaic Idealize.ShloMosaic.TcCoe Idealize.SL.Sem Idealize.ShloMosaic.Tactic

variable {F : FTy → Type} [FloatOps F]

/-- Keys against rows, and values against the gradients of rows. -/
def scoresV (k : Vec F S1x1024x64 .bf16) (q : Vec F S1x64x1024 .bf16) : FVec F S1024x1024 .f32 :=
  matmul dot_S1024x64_S64x1024_S1024x1024_1_0_0_1_n_n none (shapeCast S1024x64 k shapeCasts_S1x1024x64_S1024x64)
    (shapeCast S64x1024 q shapeCasts_S1x64x1024_S64x1024) (constant S1024x1024 .f32 0x00000000#32)

/-- The probabilities of the scores `s`. -/
def probV (s : FVec F S1024x1024 .f32) (l : Vec F S1x1x1024 .f32) : FVec F S1024x1024 .f32 :=
  exp2 (subf s (broadcastTo S1024x1024 (shapeCast S1x1024 l shapeCasts_S1x1x1024_S1x1024) broadcasts_S1x1024_S1024x1024))

/-- The gradient of the scores: `dp` is that of the probabilities, `o` what the attention gave and `d` its gradient. -/
def gradV (s dp : FVec F S1024x1024 .f32) (d : Vec F S1x64x1024 .bf16) (o : Vec F S1x64x1024 .f32) (l : Vec F S1x1x1024 .f32) :
    FVec F S1024x1024 .bf16 :=
  truncf .bf16 (mulf (probV s l) (subf dp (broadcastTo S1024x1024 (shapeCast S1x1024
    (multiReduction .add [0] S1024 (mulf (extf .f32 (shapeCast S64x1024 d shapeCasts_S1x64x1024_S64x1024) bitsLt_bf16_f32)
      (shapeCast S64x1024 o shapeCasts_S1x64x1024_S64x1024)) 0x00000000#32 reduces_S64x1024_S1024 (.inl rfl) rfl)
    shapeCasts_S1024_S1x1024) broadcasts_S1x1024_S1024x1024))) bitsLt_bf16_f32

/-- A sum over the keys, -/
def overKeys (a : Vec F S1x64x1024 .bf16) (b : FVec F S1024x1024 .bf16) : FVec F S64x1024 .f32 :=
  matmul dot_S64x1024_S1024x1024_S64x1024_1_0_0_1_n_n none (shapeCast S64x1024 a shapeCasts_S1x64x1024_S64x1024) b (constant S64x1024 .f32 0x00000000#32)

/-- and one over the rows. -/
def overRows (a : Vec F S1x64x1024 .bf16) (b : FVec F S1024x1024 .bf16) : FVec F S64x1024 .f32 :=
  matmul dot_S64x1024_S1024x1024_S64x1024_1_1_0_0_n_n none (shapeCast S64x1024 a shapeCasts_S1x64x1024_S64x1024) b (constant S64x1024 .f32 0x00000000#32)

def fresh1 (v : FVec F S64x1024 .f32) : FVec F S1x64x1024 .f32 := shapeCast S1x64x1024 v shapeCasts_S64x1024_S1x64x1024

def added1 (v : FVec F S64x1024 .f32) (p : Vec F S1x64x1024 .f32) : FVec F S1x64x1024 .f32 :=
  shapeCast S1x64x1024 (addf (shapeCast S64x1024 p shapeCasts_S1x64x1024_S64x1024) v) shapeCasts_S64x1024_S1x64x1024

theorem inb8 (h : Fin 8) : ∀ a, (![h.val, 0, 0] : Fin 3 → ℕ) a + S1x64x1024.size a ≤ S8x64x1024.size a := by revert h; decide
theorem inb2 (g : Fin 2) : ∀ a, (![g.val, 0, 0] : Fin 3 → ℕ) a + S1x64x1024.size a ≤ S2x64x1024.size a := by revert g; decide
theorem inbK (g : Fin 2) : ∀ a, (![g.val, 0, 0] : Fin 3 → ℕ) a + S1x1024x64.size a ≤ S2x1024x64.size a := by revert g; decide
theorem inbL (g : Fin 2) (r : Fin 4) : ∀ a, (![g.val, r.val, 0] : Fin 3 → ℕ) a + S1x1x1024.size a ≤ S2x4x1024.size a := by revert g r; decide

section
variable {φ : EltTy}
/-- One head of eight, one of two, and one row of the eight. -/
def of8 (arg : Memref sig .tc .vmem S8x64x1024 φ) (harg : arg.IsWhole) (x : Vec F S8x64x1024 φ) (h : Fin 8) : Vec F S1x64x1024 φ :=
  View.readAt (Elt F) arg.view (Rect.unit (s := S8x64x1024) ![h.val, 0, 0] S1x64x1024.size (inb8 h)).toLoadRect (harg.unread x)
def of2 (arg : Memref sig .tc .vmem S2x64x1024 φ) (harg : arg.IsWhole) (x : Vec F S2x64x1024 φ) (g : Fin 2) : Vec F S1x64x1024 φ :=
  View.readAt (Elt F) arg.view (Rect.unit (s := S2x64x1024) ![g.val, 0, 0] S1x64x1024.size (inb2 g)).toLoadRect (harg.unread x)
def ofK (arg : Memref sig .tc .vmem S2x1024x64 φ) (harg : arg.IsWhole) (x : Vec F S2x1024x64 φ) (g : Fin 2) : Vec F S1x1024x64 φ :=
  View.readAt (Elt F) arg.view (Rect.unit (s := S2x1024x64) ![g.val, 0, 0] S1x1024x64.size (inbK g)).toLoadRect (harg.unread x)
def ofL (arg : Memref sig .tc .vmem S2x4x1024 φ) (harg : arg.IsWhole) (x : Vec F S2x4x1024 φ) (g : Fin 2) (r : Fin 4) : Vec F S1x1x1024 φ :=
  View.readAt (Elt F) arg.view (Rect.unit (s := S2x4x1024) ![g.val, r.val, 0] S1x1x1024.size (inbL g r)).toLoadRect (harg.unread x)
end

variable (c : Dev nD) (i : grid0.Coords) (arg2 : Memref sig .tc .vmem S8x64x1024 .bf16) (harg2 : arg2.IsWhole) (arg3 : Memref sig .tc .vmem S2x1024x64 .bf16) (harg3 : arg3.IsWhole) (arg4 : Memref sig .tc .vmem S2x64x1024 .bf16) (harg4 : arg4.IsWhole) (arg5 : Memref sig .tc .vmem S2x1024x64 .bf16) (harg5 : arg5.IsWhole) (arg6 : Memref sig .tc .vmem S8x64x1024 .bf16) (harg6 : arg6.IsWhole) (arg7 : Memref sig .tc .vmem S8x64x1024 .f32) (harg7 : arg7.IsWhole) (arg8 : Memref sig .tc .vmem S2x4x1024 .f32) (harg8 : arg8.IsWhole) (arg9 : Memref sig .tc .vmem S8x64x4096 .f32) (harg9 : arg9.IsWhole) (arg10 : Memref sig .tc .vmem S2x64x1024 .f32) (harg10 : arg10.IsWhole) (arg11 : Memref sig .tc .vmem S2x64x1024 .f32) (harg11 : arg11.IsWhole)
variable (x0 : Vec F S8x64x1024 .bf16) (x1 : Vec F S2x1024x64 .bf16) (x2 : Vec F S2x64x1024 .bf16) (x3 : Vec F S2x1024x64 .bf16) (x4 : Vec F S8x64x1024 .bf16) (x5 : Vec F S8x64x1024 .f32) (x6 : Vec F S2x4x1024 .f32) (y7 : Vec F S8x64x4096 .f32) (y8 : Vec F S2x64x1024 .f32) (y9 : Vec F S2x64x1024 .f32)

/-- Head `h` is row `r` of group `g`: its probabilities, -/
def probH (g : Fin 2) (r : Fin 4) (h : Fin 8) : FVec F S1024x1024 .f32 :=
  probV (scoresV (ofK arg3 harg3 x1 g) (of8 arg2 harg2 x0 h)) (ofL arg8 harg8 x6 g r)

/-- the gradient of its scores, -/
def gradH (g : Fin 2) (r : Fin 4) (h : Fin 8) : FVec F S1024x1024 .bf16 :=
  gradV (scoresV (ofK arg3 harg3 x1 g) (of8 arg2 harg2 x0 h)) (scoresV (ofK arg5 harg5 x3 g) (of8 arg6 harg6 x4 h))
    (of8 arg6 harg6 x4 h) (of8 arg7 harg7 x5 h) (ofL arg8 harg8 x6 g r)

/-- and what it gives to the three gradients. -/
def dqH (g : Fin 2) (r : Fin 4) (h : Fin 8) : FVec F S64x1024 .f32 :=
  overKeys (of2 arg4 harg4 x2 g) (gradH arg2 harg2 arg3 harg3 arg5 harg5 arg6 harg6 arg7 harg7 arg8 harg8 x0 x1 x3 x4 x5 x6 g r h)
def dkH (g : Fin 2) (r : Fin 4) (h : Fin 8) : FVec F S64x1024 .f32 :=
  overRows (of8 arg2 harg2 x0 h) (gradH arg2 harg2 arg3 harg3 arg5 harg5 arg6 harg6 arg7 harg7 arg8 harg8 x0 x1 x3 x4 x5 x6 g r h)
def dvH (g : Fin 2) (r : Fin 4) (h : Fin 8) : FVec F S64x1024 .f32 :=
  overRows (of8 arg6 harg6 x4 h) (truncf .bf16 (probH arg2 harg2 arg3 harg3 arg8 harg8 x0 x1 x6 g r h) bitsLt_bf16_f32)

/-- A group's four heads together. -/
def four (f : Fin 4 → FVec F S64x1024 .f32) : FVec F S64x1024 .f32 := addf (addf (addf (f 0) (f 1)) (f 2)) (f 3)

theorem stepA7 (h1 : k0_cond1 i = 1#1) (h2 : ¬k0_cond2 i = 1#1) (h3 : k0_cond3 i = 1#1) (h4 : ¬k0_cond4 i = 1#1) : (stepA c i arg2 harg2 arg3 harg3 arg4 harg4 arg5 harg5 arg6 harg6 arg7 harg7 arg8 harg8 arg9 harg9 arg10 harg10 arg11 harg11 x0 x1 x2 x3 x4 x5 x6 y7 y8 y9 h1 h2 h3 h4).1 = [
    ⟨Rect.unit (s := S8x64x4096) (k0_off8 i) S1x64x1024.size (k0_off8_inb i h3), fresh1 (dqH arg2 harg2 arg3 harg3 arg4 harg4 arg5 harg5 arg6 harg6 arg7 harg7 arg8 harg8 x0 x1 x2 x3 x4 x5 x6 1 3 7)⟩,
    ⟨Rect.unit (s := S8x64x4096) (k0_off7 i) S1x64x1024.size (k0_off7_inb i h3), fresh1 (dqH arg2 harg2 arg3 harg3 arg4 harg4 arg5 harg5 arg6 harg6 arg7 harg7 arg8 harg8 x0 x1 x2 x3 x4 x5 x6 1 2 6)⟩,
    ⟨Rect.unit (s := S8x64x4096) (k0_off6 i) S1x64x1024.size (k0_off6_inb i h3), fresh1 (dqH arg2 harg2 arg3 harg3 arg4 harg4 arg5 harg5 arg6 harg6 arg7 harg7 arg8 harg8 x0 x1 x2 x3 x4 x5 x6 1 1 5)⟩,
    ⟨Rect.unit (s := S8x64x4096) (k0_off5 i) S1x64x1024.size (k0_off5_inb i h3), fresh1 (dqH arg2 harg2 arg3 harg3 arg4 harg4 arg5 harg5 arg6 harg6 arg7 harg7 arg8 harg8 x0 x1 x2 x3 x4 x5 x6 1 0 4)⟩,
    ⟨Rect.unit (s := S8x64x4096) (k0_off4 i) S1x64x1024.size (k0_off4_inb i h3), fresh1 (dqH arg2 harg2 arg3 harg3 arg4 harg4 arg5 harg5 arg6 harg6 arg7 harg7 arg8 harg8 x0 x1 x2 x3 x4 x5 x6 0 3 3)⟩,
    ⟨Rect.unit (s := S8x64x4096) (k0_off3 i) S1x64x1024.size (k0_off3_inb i h3), fresh1 (dqH arg2 harg2 arg3 harg3 arg4 harg4 arg5 harg5 arg6 harg6 arg7 harg7 arg8 harg8 x0 x1 x2 x3 x4 x5 x6 0 2 2)⟩,
    ⟨Rect.unit (s := S8x64x4096) (k0_off2 i) S1x64x1024.size (k0_off2_inb i h3), fresh1 (dqH arg2 harg2 arg3 harg3 arg4 harg4 arg5 harg5 arg6 harg6 arg7 harg7 arg8 harg8 x0 x1 x2 x3 x4 x5 x6 0 1 1)⟩,
    ⟨Rect.unit (s := S8x64x4096) (k0_off1 i) S1x64x1024.size (k0_off1_inb i h3), fresh1 (dqH arg2 harg2 arg3 harg3 arg4 harg4 arg5 harg5 arg6 harg6 arg7 harg7 arg8 harg8 x0 x1 x2 x3 x4 x5 x6 0 0 0)⟩] := by
  unfold stepA; dsimp only; sl_unfold_run_names; rfl

theorem stepA8 (h1 : k0_cond1 i = 1#1) (h2 : ¬k0_cond2 i = 1#1) (h3 : k0_cond3 i = 1#1) (h4 : ¬k0_cond4 i = 1#1) : (stepA c i arg2 harg2 arg3 harg3 arg4 harg4 arg5 harg5 arg6 harg6 arg7 harg7 arg8 harg8 arg9 harg9 arg10 harg10 arg11 harg11 x0 x1 x2 x3 x4 x5 x6 y7 y8 y9 h1 h2 h3 h4).2.1 = [
    ⟨Rect.unit (s := S2x64x1024) ![1, 0, 0] S1x64x1024.size (inb2 1), fresh1 (four fun r => (dkH arg2 harg2 arg3 harg3 arg5 harg5 arg6 harg6 arg7 harg7 arg8 harg8 x0 x1 x3 x4 x5 x6 1 r (![4, 5, 6, 7] r)))⟩,
    ⟨Rect.unit (s := S2x64x1024) ![0, 0, 0] S1x64x1024.size (inb2 0), fresh1 (four fun r => (dkH arg2 harg2 arg3 harg3 arg5 harg5 arg6 harg6 arg7 harg7 arg8 harg8 x0 x1 x3 x4 x5 x6 0 r (![0, 1, 2, 3] r)))⟩] := by
  unfold stepA; dsimp only; sl_unfold_run_names; rfl

theorem stepA9 (h1 : k0_cond1 i = 1#1) (h2 : ¬k0_cond2 i = 1#1) (h3 : k0_cond3 i = 1#1) (h4 : ¬k0_cond4 i = 1#1) : (stepA c i arg2 harg2 arg3 harg3 arg4 harg4 arg5 harg5 arg6 harg6 arg7 harg7 arg8 harg8 arg9 harg9 arg10 harg10 arg11 harg11 x0 x1 x2 x3 x4 x5 x6 y7 y8 y9 h1 h2 h3 h4).2.2.1 = [
    ⟨Rect.unit (s := S2x64x1024) ![1, 0, 0] S1x64x1024.size (inb2 1), fresh1 (four fun r => (dvH arg2 harg2 arg3 harg3 arg6 harg6 arg8 harg8 x0 x1 x4 x6 1 r (![4, 5, 6, 7] r)))⟩,
    ⟨Rect.unit (s := S2x64x1024) ![0, 0, 0] S1x64x1024.size (inb2 0), fresh1 (four fun r => (dvH arg2 harg2 arg3 harg3 arg6 harg6 arg8 harg8 x0 x1 x4 x6 0 r (![0, 1, 2, 3] r)))⟩] := by
  unfold stepA; dsimp only; sl_unfold_run_names; rfl

theorem stepB7 (h1 : k0_cond1 i = 1#1) (h2 : ¬k0_cond2 i = 1#1) (h3 : ¬k0_cond3 i = 1#1) (h4 : k0_cond4 i = 1#1) : (stepB c i arg2 harg2 arg3 harg3 arg4 harg4 arg5 harg5 arg6 harg6 arg7 harg7 arg8 harg8 arg9 harg9 arg10 harg10 arg11 harg11 x0 x1 x2 x3 x4 x5 x6 y7 y8 y9 h1 h2 h3 h4).1 = [
    ⟨Rect.unit (s := S8x64x4096) (k0_off16 i) S1x64x1024.size (k0_off16_inb i h4), added1 (dqH arg2 harg2 arg3 harg3 arg4 harg4 arg5 harg5 arg6 harg6 arg7 harg7 arg8 harg8 x0 x1 x2 x3 x4 x5 x6 1 3 7) (View.readAt (Elt F) arg9.view (Rect.unit (s := S8x64x4096) (k0_off16 i) S1x64x1024.size (k0_off16_inb i h4)).toLoadRect (harg9.unread y7))⟩,
    ⟨Rect.unit (s := S8x64x4096) (k0_off15 i) S1x64x1024.size (k0_off15_inb i h4), added1 (dqH arg2 harg2 arg3 harg3 arg4 harg4 arg5 harg5 arg6 harg6 arg7 harg7 arg8 harg8 x0 x1 x2 x3 x4 x5 x6 1 2 6) (View.readAt (Elt F) arg9.view (Rect.unit (s := S8x64x4096) (k0_off15 i) S1x64x1024.size (k0_off15_inb i h4)).toLoadRect (harg9.unread y7))⟩,
    ⟨Rect.unit (s := S8x64x4096) (k0_off14 i) S1x64x1024.size (k0_off14_inb i h4), added1 (dqH arg2 harg2 arg3 harg3 arg4 harg4 arg5 harg5 arg6 harg6 arg7 harg7 arg8 harg8 x0 x1 x2 x3 x4 x5 x6 1 1 5) (View.readAt (Elt F) arg9.view (Rect.unit (s := S8x64x4096) (k0_off14 i) S1x64x1024.size (k0_off14_inb i h4)).toLoadRect (harg9.unread y7))⟩,
    ⟨Rect.unit (s := S8x64x4096) (k0_off13 i) S1x64x1024.size (k0_off13_inb i h4), added1 (dqH arg2 harg2 arg3 harg3 arg4 harg4 arg5 harg5 arg6 harg6 arg7 harg7 arg8 harg8 x0 x1 x2 x3 x4 x5 x6 1 0 4) (View.readAt (Elt F) arg9.view (Rect.unit (s := S8x64x4096) (k0_off13 i) S1x64x1024.size (k0_off13_inb i h4)).toLoadRect (harg9.unread y7))⟩,
    ⟨Rect.unit (s := S8x64x4096) (k0_off12 i) S1x64x1024.size (k0_off12_inb i h4), added1 (dqH arg2 harg2 arg3 harg3 arg4 harg4 arg5 harg5 arg6 harg6 arg7 harg7 arg8 harg8 x0 x1 x2 x3 x4 x5 x6 0 3 3) (View.readAt (Elt F) arg9.view (Rect.unit (s := S8x64x4096) (k0_off12 i) S1x64x1024.size (k0_off12_inb i h4)).toLoadRect (harg9.unread y7))⟩,
    ⟨Rect.unit (s := S8x64x4096) (k0_off11 i) S1x64x1024.size (k0_off11_inb i h4), added1 (dqH arg2 harg2 arg3 harg3 arg4 harg4 arg5 harg5 arg6 harg6 arg7 harg7 arg8 harg8 x0 x1 x2 x3 x4 x5 x6 0 2 2) (View.readAt (Elt F) arg9.view (Rect.unit (s := S8x64x4096) (k0_off11 i) S1x64x1024.size (k0_off11_inb i h4)).toLoadRect (harg9.unread y7))⟩,
    ⟨Rect.unit (s := S8x64x4096) (k0_off10 i) S1x64x1024.size (k0_off10_inb i h4), added1 (dqH arg2 harg2 arg3 harg3 arg4 harg4 arg5 harg5 arg6 harg6 arg7 harg7 arg8 harg8 x0 x1 x2 x3 x4 x5 x6 0 1 1) (View.readAt (Elt F) arg9.view (Rect.unit (s := S8x64x4096) (k0_off10 i) S1x64x1024.size (k0_off10_inb i h4)).toLoadRect (harg9.unread y7))⟩,
    ⟨Rect.unit (s := S8x64x4096) (k0_off9 i) S1x64x1024.size (k0_off9_inb i h4), added1 (dqH arg2 harg2 arg3 harg3 arg4 harg4 arg5 harg5 arg6 harg6 arg7 harg7 arg8 harg8 x0 x1 x2 x3 x4 x5 x6 0 0 0) (View.readAt (Elt F) arg9.view (Rect.unit (s := S8x64x4096) (k0_off9 i) S1x64x1024.size (k0_off9_inb i h4)).toLoadRect (harg9.unread y7))⟩] := by
  unfold stepB; dsimp only; sl_unfold_run_names; rfl

theorem stepB8 (h1 : k0_cond1 i = 1#1) (h2 : ¬k0_cond2 i = 1#1) (h3 : ¬k0_cond3 i = 1#1) (h4 : k0_cond4 i = 1#1) : (stepB c i arg2 harg2 arg3 harg3 arg4 harg4 arg5 harg5 arg6 harg6 arg7 harg7 arg8 harg8 arg9 harg9 arg10 harg10 arg11 harg11 x0 x1 x2 x3 x4 x5 x6 y7 y8 y9 h1 h2 h3 h4).2.1 = [
    ⟨Rect.unit (s := S2x64x1024) ![1, 0, 0] S1x64x1024.size (inb2 1), fresh1 (four fun r => (dkH arg2 harg2 arg3 harg3 arg5 harg5 arg6 harg6 arg7 harg7 arg8 harg8 x0 x1 x3 x4 x5 x6 1 r (![4, 5, 6, 7] r)))⟩,
    ⟨Rect.unit (s := S2x64x1024) ![0, 0, 0] S1x64x1024.size (inb2 0), fresh1 (four fun r => (dkH arg2 harg2 arg3 harg3 arg5 harg5 arg6 harg6 arg7 harg7 arg8 harg8 x0 x1 x3 x4 x5 x6 0 r (![0, 1, 2, 3] r)))⟩] := by
  unfold stepB; dsimp only; sl_unfold_run_names; rfl

theorem stepB9 (h1 : k0_cond1 i = 1#1) (h2 : ¬k0_cond2 i = 1#1) (h3 : ¬k0_cond3 i = 1#1) (h4 : k0_cond4 i = 1#1) : (stepB c i arg2 harg2 arg3 harg3 arg4 harg4 arg5 harg5 arg6 harg6 arg7 harg7 arg8 harg8 arg9 harg9 arg10 harg10 arg11 harg11 x0 x1 x2 x3 x4 x5 x6 y7 y8 y9 h1 h2 h3 h4).2.2.1 = [
    ⟨Rect.unit (s := S2x64x1024) ![1, 0, 0] S1x64x1024.size (inb2 1), fresh1 (four fun r => (dvH arg2 harg2 arg3 harg3 arg6 harg6 arg8 harg8 x0 x1 x4 x6 1 r (![4, 5, 6, 7] r)))⟩,
    ⟨Rect.unit (s := S2x64x1024) ![0, 0, 0] S1x64x1024.size (inb2 0), fresh1 (four fun r => (dvH arg2 harg2 arg3 harg3 arg6 harg6 arg8 harg8 x0 x1 x4 x6 0 r (![0, 1, 2, 3] r)))⟩] := by
  unfold stepB; dsimp only; sl_unfold_run_names; rfl

theorem stepC7 (h1 : ¬k0_cond1 i = 1#1) (h2 : k0_cond2 i = 1#1) (h3 : k0_cond3 i = 1#1) (h4 : ¬k0_cond4 i = 1#1) : (stepC c i arg2 harg2 arg3 harg3 arg4 harg4 arg5 harg5 arg6 harg6 arg7 harg7 arg8 harg8 arg9 harg9 arg10 harg10 arg11 harg11 x0 x1 x2 x3 x4 x5 x6 y7 y8 y9 h1 h2 h3 h4).1 = [
    ⟨Rect.unit (s := S8x64x4096) (k0_off8 i) S1x64x1024.size (k0_off8_inb i h3), fresh1 (dqH arg2 harg2 arg3 harg3 arg4 harg4 arg5 harg5 arg6 harg6 arg7 harg7 arg8 harg8 x0 x1 x2 x3 x4 x5 x6 1 3 7)⟩,
    ⟨Rect.unit (s := S8x64x4096) (k0_off7 i) S1x64x1024.size (k0_off7_inb i h3), fresh1 (dqH arg2 harg2 arg3 harg3 arg4 harg4 arg5 harg5 arg6 harg6 arg7 harg7 arg8 harg8 x0 x1 x2 x3 x4 x5 x6 1 2 6)⟩,
    ⟨Rect.unit (s := S8x64x4096) (k0_off6 i) S1x64x1024.size (k0_off6_inb i h3), fresh1 (dqH arg2 harg2 arg3 harg3 arg4 harg4 arg5 harg5 arg6 harg6 arg7 harg7 arg8 harg8 x0 x1 x2 x3 x4 x5 x6 1 1 5)⟩,
    ⟨Rect.unit (s := S8x64x4096) (k0_off5 i) S1x64x1024.size (k0_off5_inb i h3), fresh1 (dqH arg2 harg2 arg3 harg3 arg4 harg4 arg5 harg5 arg6 harg6 arg7 harg7 arg8 harg8 x0 x1 x2 x3 x4 x5 x6 1 0 4)⟩,
    ⟨Rect.unit (s := S8x64x4096) (k0_off4 i) S1x64x1024.size (k0_off4_inb i h3), fresh1 (dqH arg2 harg2 arg3 harg3 arg4 harg4 arg5 harg5 arg6 harg6 arg7 harg7 arg8 harg8 x0 x1 x2 x3 x4 x5 x6 0 3 3)⟩,
    ⟨Rect.unit (s := S8x64x4096) (k0_off3 i) S1x64x1024.size (k0_off3_inb i h3), fresh1 (dqH arg2 harg2 arg3 harg3 arg4 harg4 arg5 harg5 arg6 harg6 arg7 harg7 arg8 harg8 x0 x1 x2 x3 x4 x5 x6 0 2 2)⟩,
    ⟨Rect.unit (s := S8x64x4096) (k0_off2 i) S1x64x1024.size (k0_off2_inb i h3), fresh1 (dqH arg2 harg2 arg3 harg3 arg4 harg4 arg5 harg5 arg6 harg6 arg7 harg7 arg8 harg8 x0 x1 x2 x3 x4 x5 x6 0 1 1)⟩,
    ⟨Rect.unit (s := S8x64x4096) (k0_off1 i) S1x64x1024.size (k0_off1_inb i h3), fresh1 (dqH arg2 harg2 arg3 harg3 arg4 harg4 arg5 harg5 arg6 harg6 arg7 harg7 arg8 harg8 x0 x1 x2 x3 x4 x5 x6 0 0 0)⟩] := by
  unfold stepC; dsimp only; sl_unfold_run_names; rfl

theorem stepC8 (h1 : ¬k0_cond1 i = 1#1) (h2 : k0_cond2 i = 1#1) (h3 : k0_cond3 i = 1#1) (h4 : ¬k0_cond4 i = 1#1) : (stepC c i arg2 harg2 arg3 harg3 arg4 harg4 arg5 harg5 arg6 harg6 arg7 harg7 arg8 harg8 arg9 harg9 arg10 harg10 arg11 harg11 x0 x1 x2 x3 x4 x5 x6 y7 y8 y9 h1 h2 h3 h4).2.1 = [
    ⟨Rect.unit (s := S2x64x1024) ![1, 0, 0] S1x64x1024.size (inb2 1), added1 (four fun r => (dkH arg2 harg2 arg3 harg3 arg5 harg5 arg6 harg6 arg7 harg7 arg8 harg8 x0 x1 x3 x4 x5 x6 1 r (![4, 5, 6, 7] r))) (of2 arg10 harg10 y8 1)⟩,
    ⟨Rect.unit (s := S2x64x1024) ![0, 0, 0] S1x64x1024.size (inb2 0), added1 (four fun r => (dkH arg2 harg2 arg3 harg3 arg5 harg5 arg6 harg6 arg7 harg7 arg8 harg8 x0 x1 x3 x4 x5 x6 0 r (![0, 1, 2, 3] r))) (of2 arg10 harg10 y8 0)⟩] := by
  unfold stepC; dsimp only; sl_unfold_run_names; rfl

theorem stepC9 (h1 : ¬k0_cond1 i = 1#1) (h2 : k0_cond2 i = 1#1) (h3 : k0_cond3 i = 1#1) (h4 : ¬k0_cond4 i = 1#1) : (stepC c i arg2 harg2 arg3 harg3 arg4 harg4 arg5 harg5 arg6 harg6 arg7 harg7 arg8 harg8 arg9 harg9 arg10 harg10 arg11 harg11 x0 x1 x2 x3 x4 x5 x6 y7 y8 y9 h1 h2 h3 h4).2.2.1 = [
    ⟨Rect.unit (s := S2x64x1024) ![1, 0, 0] S1x64x1024.size (inb2 1), added1 (four fun r => (dvH arg2 harg2 arg3 harg3 arg6 harg6 arg8 harg8 x0 x1 x4 x6 1 r (![4, 5, 6, 7] r))) (of2 arg11 harg11 y9 1)⟩,
    ⟨Rect.unit (s := S2x64x1024) ![0, 0, 0] S1x64x1024.size (inb2 0), added1 (four fun r => (dvH arg2 harg2 arg3 harg3 arg6 harg6 arg8 harg8 x0 x1 x4 x6 0 r (![0, 1, 2, 3] r))) (of2 arg11 harg11 y9 0)⟩] := by
  unfold stepC; dsimp only; sl_unfold_run_names; rfl

theorem stepD7 (h1 : ¬k0_cond1 i = 1#1) (h2 : k0_cond2 i = 1#1) (h3 : ¬k0_cond3 i = 1#1) (h4 : k0_cond4 i = 1#1) : (stepD c i arg2 harg2 arg3 harg3 arg4 harg4 arg5 harg5 arg6 harg6 arg7 harg7 arg8 harg8 arg9 harg9 arg10 harg10 arg11 harg11 x0 x1 x2 x3 x4 x5 x6 y7 y8 y9 h1 h2 h3 h4).1 = [
    ⟨Rect.unit (s := S8x64x4096) (k0_off16 i) S1x64x1024.size (k0_off16_inb i h4), added1 (dqH arg2 harg2 arg3 harg3 arg4 harg4 arg5 harg5 arg6 harg6 arg7 harg7 arg8 harg8 x0 x1 x2 x3 x4 x5 x6 1 3 7) (View.readAt (Elt F) arg9.view (Rect.unit (s := S8x64x4096) (k0_off16 i) S1x64x1024.size (k0_off16_inb i h4)).toLoadRect (harg9.unread y7))⟩,
    ⟨Rect.unit (s := S8x64x4096) (k0_off15 i) S1x64x1024.size (k0_off15_inb i h4), added1 (dqH arg2 harg2 arg3 harg3 arg4 harg4 arg5 harg5 arg6 harg6 arg7 harg7 arg8 harg8 x0 x1 x2 x3 x4 x5 x6 1 2 6) (View.readAt (Elt F) arg9.view (Rect.unit (s := S8x64x4096) (k0_off15 i) S1x64x1024.size (k0_off15_inb i h4)).toLoadRect (harg9.unread y7))⟩,
    ⟨Rect.unit (s := S8x64x4096) (k0_off14 i) S1x64x1024.size (k0_off14_inb i h4), added1 (dqH arg2 harg2 arg3 harg3 arg4 harg4 arg5 harg5 arg6 harg6 arg7 harg7 arg8 harg8 x0 x1 x2 x3 x4 x5 x6 1 1 5) (View.readAt (Elt F) arg9.view (Rect.unit (s := S8x64x4096) (k0_off14 i) S1x64x1024.size (k0_off14_inb i h4)).toLoadRect (harg9.unread y7))⟩,
    ⟨Rect.unit (s := S8x64x4096) (k0_off13 i) S1x64x1024.size (k0_off13_inb i h4), added1 (dqH arg2 harg2 arg3 harg3 arg4 harg4 arg5 harg5 arg6 harg6 arg7 harg7 arg8 harg8 x0 x1 x2 x3 x4 x5 x6 1 0 4) (View.readAt (Elt F) arg9.view (Rect.unit (s := S8x64x4096) (k0_off13 i) S1x64x1024.size (k0_off13_inb i h4)).toLoadRect (harg9.unread y7))⟩,
    ⟨Rect.unit (s := S8x64x4096) (k0_off12 i) S1x64x1024.size (k0_off12_inb i h4), added1 (dqH arg2 harg2 arg3 harg3 arg4 harg4 arg5 harg5 arg6 harg6 arg7 harg7 arg8 harg8 x0 x1 x2 x3 x4 x5 x6 0 3 3) (View.readAt (Elt F) arg9.view (Rect.unit (s := S8x64x4096) (k0_off12 i) S1x64x1024.size (k0_off12_inb i h4)).toLoadRect (harg9.unread y7))⟩,
    ⟨Rect.unit (s := S8x64x4096) (k0_off11 i) S1x64x1024.size (k0_off11_inb i h4), added1 (dqH arg2 harg2 arg3 harg3 arg4 harg4 arg5 harg5 arg6 harg6 arg7 harg7 arg8 harg8 x0 x1 x2 x3 x4 x5 x6 0 2 2) (View.readAt (Elt F) arg9.view (Rect.unit (s := S8x64x4096) (k0_off11 i) S1x64x1024.size (k0_off11_inb i h4)).toLoadRect (harg9.unread y7))⟩,
    ⟨Rect.unit (s := S8x64x4096) (k0_off10 i) S1x64x1024.size (k0_off10_inb i h4), added1 (dqH arg2 harg2 arg3 harg3 arg4 harg4 arg5 harg5 arg6 harg6 arg7 harg7 arg8 harg8 x0 x1 x2 x3 x4 x5 x6 0 1 1) (View.readAt (Elt F) arg9.view (Rect.unit (s := S8x64x4096) (k0_off10 i) S1x64x1024.size (k0_off10_inb i h4)).toLoadRect (harg9.unread y7))⟩,
    ⟨Rect.unit (s := S8x64x4096) (k0_off9 i) S1x64x1024.size (k0_off9_inb i h4), added1 (dqH arg2 harg2 arg3 harg3 arg4 harg4 arg5 harg5 arg6 harg6 arg7 harg7 arg8 harg8 x0 x1 x2 x3 x4 x5 x6 0 0 0) (View.readAt (Elt F) arg9.view (Rect.unit (s := S8x64x4096) (k0_off9 i) S1x64x1024.size (k0_off9_inb i h4)).toLoadRect (harg9.unread y7))⟩] := by
  unfold stepD; dsimp only; sl_unfold_run_names; rfl

theorem stepD8 (h1 : ¬k0_cond1 i = 1#1) (h2 : k0_cond2 i = 1#1) (h3 : ¬k0_cond3 i = 1#1) (h4 : k0_cond4 i = 1#1) : (stepD c i arg2 harg2 arg3 harg3 arg4 harg4 arg5 harg5 arg6 harg6 arg7 harg7 arg8 harg8 arg9 harg9 arg10 harg10 arg11 harg11 x0 x1 x2 x3 x4 x5 x6 y7 y8 y9 h1 h2 h3 h4).2.1 = [
    ⟨Rect.unit (s := S2x64x1024) ![1, 0, 0] S1x64x1024.size (inb2 1), added1 (four fun r => (dkH arg2 harg2 arg3 harg3 arg5 harg5 arg6 harg6 arg7 harg7 arg8 harg8 x0 x1 x3 x4 x5 x6 1 r (![4, 5, 6, 7] r))) (of2 arg10 harg10 y8 1)⟩,
    ⟨Rect.unit (s := S2x64x1024) ![0, 0, 0] S1x64x1024.size (inb2 0), added1 (four fun r => (dkH arg2 harg2 arg3 harg3 arg5 harg5 arg6 harg6 arg7 harg7 arg8 harg8 x0 x1 x3 x4 x5 x6 0 r (![0, 1, 2, 3] r))) (of2 arg10 harg10 y8 0)⟩] := by
  unfold stepD; dsimp only; sl_unfold_run_names; rfl

theorem stepD9 (h1 : ¬k0_cond1 i = 1#1) (h2 : k0_cond2 i = 1#1) (h3 : ¬k0_cond3 i = 1#1) (h4 : k0_cond4 i = 1#1) : (stepD c i arg2 harg2 arg3 harg3 arg4 harg4 arg5 harg5 arg6 harg6 arg7 harg7 arg8 harg8 arg9 harg9 arg10 harg10 arg11 harg11 x0 x1 x2 x3 x4 x5 x6 y7 y8 y9 h1 h2 h3 h4).2.2.1 = [
    ⟨Rect.unit (s := S2x64x1024) ![1, 0, 0] S1x64x1024.size (inb2 1), added1 (four fun r => (dvH arg2 harg2 arg3 harg3 arg6 harg6 arg8 harg8 x0 x1 x4 x6 1 r (![4, 5, 6, 7] r))) (of2 arg11 harg11 y9 1)⟩,
    ⟨Rect.unit (s := S2x64x1024) ![0, 0, 0] S1x64x1024.size (inb2 0), added1 (four fun r => (dvH arg2 harg2 arg3 harg3 arg6 harg6 arg8 harg8 x0 x1 x4 x6 0 r (![0, 1, 2, 3] r))) (of2 arg11 harg11 y9 0)⟩] := by
  unfold stepD; dsimp only; sl_unfold_run_names; rfl

end Cert.AttRun
-- ==== Proof.AttPoint.lean ====
/- One step of the attention's backward kernel, entry by entry: what it adds to the three gradients. -/
module

public import proofs.«01_k».proof.Proof.AttPieces
public import Idealize.ShloMosaic.Lib.Pipeline.ValueKit
public import Idealize.ShloMosaic.Lib.Pointwise
public import Idealize.ShloMosaic.Lib.WritesUnit

@[expose] public section

set_option maxRecDepth 16384

noncomputable section

namespace Cert.AttRun

open Cert.AttKernelIdeal Cert.AttKernelIdeal.Gen
open Idealize.ShloMosaic Idealize.ShloMosaic.TcCoe Idealize.SL.Sem Idealize.ShloMosaic.Tactic

theorem scoresV_at (k : Vec Ideal S1x1024x64 .bf16) (q : Vec Ideal S1x64x1024 .bf16) (s x : Fin 1024) :
    scoresV k q (ix2 s x) = ∑ d : Fin 64, (k (ix3 0 s d) : EReal) * (q (ix3 0 d x) : EReal) := by
  unfold scoresV
  pointwise

theorem probV_at (S : FVec Ideal S1024x1024 .f32) (l : Vec Ideal S1x1x1024 .f32) (s x : Fin 1024) :
    probV S l (ix2 s x) = Ideal.exp2 (S (ix2 s x) - l (ix3 0 0 x)) := by
  unfold probV
  pointwise
  rfl

theorem gradV_at (S dp : FVec Ideal S1024x1024 .f32) (d : Vec Ideal S1x64x1024 .bf16) (o : Vec Ideal S1x64x1024 .f32) (l : Vec Ideal S1x1x1024 .f32)
    (s x : Fin 1024) : gradV S dp d o l (ix2 s x) =
      (Ideal.exp2 (S (ix2 s x) - l (ix3 0 0 x)) * (dp (ix2 s x) - ∑ i : Fin 64, (d (ix3 0 i x) : EReal) * (o (ix3 0 i x) : EReal)) : EReal) := by
  rw [← probV_at]
  unfold gradV
  pointwise

theorem overKeys_at (a : Vec Ideal S1x64x1024 .bf16) (b : FVec Ideal S1024x1024 .bf16) (d : Fin 64) (x : Fin 1024) :
    overKeys a b (ix2 d x) = ∑ s : Fin 1024, (a (ix3 0 d s) : EReal) * (b (ix2 s x) : EReal) := by
  unfold overKeys
  pointwise

theorem overRows_at (a : Vec Ideal S1x64x1024 .bf16) (b : FVec Ideal S1024x1024 .bf16) (d : Fin 64) (s : Fin 1024) :
    overRows a b (ix2 d s) = ∑ x : Fin 1024, (a (ix3 0 d x) : EReal) * (b (ix2 s x) : EReal) := by
  unfold overRows
  pointwise

theorem fresh1_at (v : FVec Ideal S64x1024 .f32) (d : Fin 64) (x : Fin 1024) : fresh1 v (ix3 0 d x) = v (ix2 d x) := by
  unfold fresh1
  pointwise

theorem added1_at (v : FVec Ideal S64x1024 .f32) (p : Vec Ideal S1x64x1024 .f32) (d : Fin 64) (x : Fin 1024) :
    added1 v p (ix3 0 d x) = (p (ix3 0 d x) + v (ix2 d x) : EReal) := by
  unfold added1
  pointwise

section
variable {φ : EltTy}

theorem of8_at (arg : Memref sig .tc .vmem S8x64x1024 φ) (harg : arg.IsWhole) (x : Vec Ideal S8x64x1024 φ) (h : Fin 8) (d : Fin 64) (q : Fin 1024) :
    of8 arg harg x h (ix3 0 d q) = x (ix3 h d q) := by
  unfold of8
  rw [View.readAt_eq_ld, Memref.IsWhole.read_unread]
  refine congrArg x ?_
  funext a
  refine Fin.ext ?_
  match a with
  | 0 => show h.val + 1 * 0 = h.val; omega
  | 1 => show 0 + 1 * d.val = d.val; omega
  | 2 => show 0 + 1 * q.val = q.val; omega

theorem of2_at (arg : Memref sig .tc .vmem S2x64x1024 φ) (harg : arg.IsWhole) (x : Vec Ideal S2x64x1024 φ) (g : Fin 2) (d : Fin 64) (q : Fin 1024) :
    of2 arg harg x g (ix3 0 d q) = x (ix3 g d q) := by
  unfold of2
  rw [View.readAt_eq_ld, Memref.IsWhole.read_unread]
  refine congrArg x ?_
  funext a
  refine Fin.ext ?_
  match a with
  | 0 => show g.val + 1 * 0 = g.val; omega
  | 1 => show 0 + 1 * d.val = d.val; omega
  | 2 => show 0 + 1 * q.val = q.val; omega

theorem ofK_at (arg : Memref sig .tc .vmem S2x1024x64 φ) (harg : arg.IsWhole) (x : Vec Ideal S2x1024x64 φ) (g : Fin 2) (s : Fin 1024) (d : Fin 64) :
    ofK arg harg x g (ix3 0 s d) = x (ix3 g s d) := by
  unfold ofK
  rw [View.readAt_eq_ld, Memref.IsWhole.read_unread]
  refine congrArg x ?_
  funext a
  refine Fin.ext ?_
  match a with
  | 0 => show g.val + 1 * 0 = g.val; omega
  | 1 => show 0 + 1 * s.val = s.val; omega
  | 2 => show 0 + 1 * d.val = d.val; omega

theorem ofL_at (arg : Memref sig .tc .vmem S2x4x1024 φ) (harg : arg.IsWhole) (x : Vec Ideal S2x4x1024 φ) (g : Fin 2) (r : Fin 4) (q : Fin 1024) :
    ofL arg harg x g r (ix3 0 0 q) = x (ix3 g r q) := by
  unfold ofL
  rw [View.readAt_eq_ld, Memref.IsWhole.read_unread]
  refine congrArg x ?_
  funext a
  refine Fin.ext ?_
  match a with
  | 0 => show g.val + 1 * 0 = g.val; omega
  | 1 => show r.val + 1 * 0 = r.val; omega
  | 2 => show 0 + 1 * q.val = q.val; omega

end

/-- Head `h` is row `rowOf h` of group `grp h`. -/
def grp (h : Fin 8) : Fin 2 := ⟨h.val / 4, by omega⟩
def rowOf (h : Fin 8) : Fin 4 := ⟨h.val % 4, by omega⟩
def head (g : Fin 2) (r : Fin 4) : Fin 8 := ⟨4 * g.val + r.val, by omega⟩

section
variable (x0 : Vec Ideal S8x64x1024 .bf16) (x1 : Vec Ideal S2x1024x64 .bf16) (x2 : Vec Ideal S2x64x1024 .bf16) (x3 : Vec Ideal S2x1024x64 .bf16) (x4 : Vec Ideal S8x64x1024 .bf16) (x5 : Vec Ideal S8x64x1024 .f32) (x6 : Vec Ideal S2x4x1024 .f32)

/-- The probabilities, and the gradient of the scores, -/
def pt (g : Fin 2) (r : Fin 4) (h : Fin 8) (s x : Fin 1024) : EReal :=
  Ideal.exp2 ((∑ d : Fin 64, (x1 (ix3 g s d) : EReal) * (x0 (ix3 h d x) : EReal)) - x6 (ix3 g r x))
def dst (g : Fin 2) (r : Fin 4) (h : Fin 8) (s x : Fin 1024) : EReal :=
  pt x0 x1 x6 g r h s x * ((∑ d : Fin 64, (x3 (ix3 g s d) : EReal) * (x4 (ix3 h d x) : EReal)) - ∑ i : Fin 64, (x4 (ix3 h i x) : EReal) * (x5 (ix3 h i x) : EReal))

/-- and what the step adds to the three gradients. -/
def dq1 (g : Fin 2) (r : Fin 4) (h : Fin 8) (d : Fin 64) (x : Fin 1024) : EReal :=
  ∑ s : Fin 1024, (x2 (ix3 g d s) : EReal) * dst x0 x1 x3 x4 x5 x6 g r h s x
def c7 (h : Fin 8) (d : Fin 64) (x : Fin 1024) : EReal := dq1 x0 x1 x2 x3 x4 x5 x6 (grp h) (rowOf h) h d x
def c8 (g : Fin 2) (d : Fin 64) (s : Fin 1024) : EReal :=
  ∑ r : Fin 4, ∑ x : Fin 1024, (x0 (ix3 (head g r) d x) : EReal) * dst x0 x1 x3 x4 x5 x6 g r (head g r) s x
def c9 (g : Fin 2) (d : Fin 64) (s : Fin 1024) : EReal :=
  ∑ r : Fin 4, ∑ x : Fin 1024, (x4 (ix3 (head g r) d x) : EReal) * pt x0 x1 x6 g r (head g r) s x

end

/-- One head's tile of columns under the stores, -/
theorem tile7 {sg : RefSig} {κ : Kind} {sp : Space} {v : View sg κ sp S8x64x4096 .f32} (f : v.ty.Contents (Elt Ideal)) (k : Fin 8) (n : ℕ) {off : Fin 3 → ℕ} (e : off = ![k.val, 0, 1024 * n])
    (inb : ∀ a, off a + S1x64x1024.size a ≤ S8x64x4096.size a) (w : (Rect.unit (s := S8x64x4096) off S1x64x1024.size inb).shape.Idx → Elt Ideal .f32)
    (L : List (View.Piece (Elt Ideal) S8x64x4096 .f32)) (h : Fin 8) (d : Fin 64) (q : Fin 4096) :
    v.read (Elt Ideal) (v.writes (Elt Ideal) f (⟨Rect.unit (s := S8x64x4096) off S1x64x1024.size inb, w⟩ :: L)) (ix3 h d q) =
      if h = k ∧ q.val / 1024 = n then w (ix3 (0 : Fin 1) d (⟨q.val % 1024, Nat.mod_lt _ (by norm_num)⟩ : Fin 1024))
      else v.read (Elt Ideal) (v.writes (Elt Ideal) f L) (ix3 h d q) := by
  subst e
  split
  next hh =>
    refine View.read_writes_cons_unit_of_mem v f inb w L (ix3 h d q) (ix3 (0 : Fin 1) d (⟨q.val % 1024, Nat.mod_lt _ (by norm_num)⟩ : Fin 1024)) rfl fun a => ?_
    match a with
    | 0 => show h.val = k.val + 0; rw [hh.1]; rfl
    | 1 => show d.val = 0 + d.val; omega
    | 2 => show q.val = 1024 * n + q.val % 1024; have := hh.2; omega
  next hh =>
    by_cases hk : h = k
    · refine View.read_writes_cons_unit_of_not_mem v f inb w L (ix3 h d q) rfl 2 ?_
      show q.val < 1024 * n ∨ 1024 * n + 1024 ≤ q.val
      have : ¬q.val / 1024 = n := fun e => hh ⟨hk, e⟩
      omega
    · refine View.read_writes_cons_unit_of_not_mem v f inb w L (ix3 h d q) rfl 0 ?_
      show h.val < k.val ∨ k.val + 1 ≤ h.val
      have : ¬h.val = k.val := fun e => hk (Fin.ext e)
      omega

/-- and what a load there sees. -/
theorem load7 (arg : Memref sig .tc .vmem S8x64x4096 .f32) (harg : arg.IsWhole) (y : Vec Ideal S8x64x4096 .f32) (k : Fin 8) (n : ℕ) {off : Fin 3 → ℕ} (e : off = ![k.val, 0, 1024 * n])
    (inb : ∀ a, off a + S1x64x1024.size a ≤ S8x64x4096.size a) (h : Fin 8) (hk : h = k) (d : Fin 64) (q : Fin 4096) (hq : q.val / 1024 = n) :
    View.readAt (Elt Ideal) arg.view (Rect.unit (s := S8x64x4096) off S1x64x1024.size inb).toLoadRect (harg.unread y)
      (ix3 (0 : Fin 1) d (⟨q.val % 1024, Nat.mod_lt _ (by norm_num)⟩ : Fin 1024)) = y (ix3 h d q) := by
  subst e hk
  rw [View.readAt_eq_ld, Memref.IsWhole.read_unread]
  refine congrArg y ?_
  funext a
  refine Fin.ext ?_
  match a with
  | 0 => show h.val + 1 * 0 = h.val; omega
  | 1 => show 0 + 1 * d.val = d.val; omega
  | 2 => show 1024 * n + 1 * (q.val % 1024) = q.val; omega

/-- The same for a group. -/
theorem tile2 {sg : RefSig} {κ : Kind} {sp : Space} {v : View sg κ sp S2x64x1024 .f32} (f : v.ty.Contents (Elt Ideal)) (k : Fin 2) {off : Fin 3 → ℕ} (e : off = ![k.val, 0, 0])
    (inb : ∀ a, off a + S1x64x1024.size a ≤ S2x64x1024.size a) (w : (Rect.unit (s := S2x64x1024) off S1x64x1024.size inb).shape.Idx → Elt Ideal .f32)
    (L : List (View.Piece (Elt Ideal) S2x64x1024 .f32)) (g : Fin 2) (d : Fin 64) (s : Fin 1024) :
    v.read (Elt Ideal) (v.writes (Elt Ideal) f (⟨Rect.unit (s := S2x64x1024) off S1x64x1024.size inb, w⟩ :: L)) (ix3 g d s) =
      if g = k then w (ix3 (0 : Fin 1) d s) else v.read (Elt Ideal) (v.writes (Elt Ideal) f L) (ix3 g d s) := by
  subst e
  split
  next hh =>
    refine View.read_writes_cons_unit_of_mem v f inb w L (ix3 g d s) (ix3 (0 : Fin 1) d s) rfl fun a => ?_
    match a with
    | 0 => show g.val = k.val + 0; rw [hh]; rfl
    | 1 => show d.val = 0 + d.val; omega
    | 2 => show s.val = 0 + s.val; omega
  next hk =>
    refine View.read_writes_cons_unit_of_not_mem v f inb w L (ix3 g d s) rfl 0 ?_
    show g.val < k.val ∨ k.val + 1 ≤ g.val
    have : ¬g.val = k.val := fun e => hk (Fin.ext e)
    omega

variable (c : Dev nD) (i : grid0.Coords) (arg2 : Memref sig .tc .vmem S8x64x1024 .bf16) (harg2 : arg2.IsWhole) (arg3 : Memref sig .tc .vmem S2x1024x64 .bf16) (harg3 : arg3.IsWhole) (arg4 : Memref sig .tc .vmem S2x64x1024 .bf16) (harg4 : arg4.IsWhole) (arg5 : Memref sig .tc .vmem S2x1024x64 .bf16) (harg5 : arg5.IsWhole) (arg6 : Memref sig .tc .vmem S8x64x1024 .bf16) (harg6 : arg6.IsWhole) (arg7 : Memref sig .tc .vmem S8x64x1024 .f32) (harg7 : arg7.IsWhole) (arg8 : Memref sig .tc .vmem S2x4x1024 .f32) (harg8 : arg8.IsWhole) (arg9 : Memref sig .tc .vmem S8x64x4096 .f32) (harg9 : arg9.IsWhole) (arg10 : Memref sig .tc .vmem S2x64x1024 .f32) (harg10 : arg10.IsWhole) (arg11 : Memref sig .tc .vmem S2x64x1024 .f32) (harg11 : arg11.IsWhole)
variable (x0 : Vec Ideal S8x64x1024 .bf16) (x1 : Vec Ideal S2x1024x64 .bf16) (x2 : Vec Ideal S2x64x1024 .bf16) (x3 : Vec Ideal S2x1024x64 .bf16) (x4 : Vec Ideal S8x64x1024 .bf16) (x5 : Vec Ideal S8x64x1024 .f32) (x6 : Vec Ideal S2x4x1024 .f32) (y7 : Vec Ideal S8x64x4096 .f32) (y8 : Vec Ideal S2x64x1024 .f32) (y9 : Vec Ideal S2x64x1024 .f32)

theorem probH_at (g : Fin 2) (r : Fin 4) (h : Fin 8) (s x : Fin 1024) :
    probH arg2 harg2 arg3 harg3 arg8 harg8 x0 x1 x6 g r h (ix2 s x) = pt x0 x1 x6 g r h s x := by
  unfold probH pt
  rw [probV_at, scoresV_at, ofL_at]
  simp only [ofK_at, of8_at]

theorem gradH_at (g : Fin 2) (r : Fin 4) (h : Fin 8) (s x : Fin 1024) :
    gradH arg2 harg2 arg3 harg3 arg5 harg5 arg6 harg6 arg7 harg7 arg8 harg8 x0 x1 x3 x4 x5 x6 g r h (ix2 s x) = dst x0 x1 x3 x4 x5 x6 g r h s x := by
  unfold gradH dst pt
  rw [gradV_at, scoresV_at, scoresV_at, ofL_at]
  simp only [ofK_at, of8_at]

theorem dqH_at (g : Fin 2) (r : Fin 4) (h : Fin 8) (d : Fin 64) (x : Fin 1024) :
    (dqH arg2 harg2 arg3 harg3 arg4 harg4 arg5 harg5 arg6 harg6 arg7 harg7 arg8 harg8 x0 x1 x2 x3 x4 x5 x6 g r h) (ix2 d x) = dq1 x0 x1 x2 x3 x4 x5 x6 g r h d x := by
  unfold dqH dq1
  rw [overKeys_at]
  simp only [of2_at, gradH_at]

theorem dkH_at (g : Fin 2) (r : Fin 4) (h : Fin 8) (d : Fin 64) (s : Fin 1024) :
    (dkH arg2 harg2 arg3 harg3 arg5 harg5 arg6 harg6 arg7 harg7 arg8 harg8 x0 x1 x3 x4 x5 x6 g r h) (ix2 d s) = ∑ x : Fin 1024, (x0 (ix3 h d x) : EReal) * dst x0 x1 x3 x4 x5 x6 g r h s x := by
  unfold dkH
  rw [overRows_at]
  simp only [of8_at, gradH_at]

theorem dvH_at (g : Fin 2) (r : Fin 4) (h : Fin 8) (d : Fin 64) (s : Fin 1024) :
    (dvH arg2 harg2 arg3 harg3 arg6 harg6 arg8 harg8 x0 x1 x4 x6 g r h) (ix2 d s) = ∑ x : Fin 1024, (x4 (ix3 h d x) : EReal) * pt x0 x1 x6 g r h s x := by
  unfold dvH
  rw [overRows_at]
  refine Finset.sum_congr rfl fun x _ => ?_
  rw [of8_at, ← probH_at arg2 harg2 arg3 harg3 arg8 harg8]
  pointwise

theorem four_at (f : Fin 4 → FVec Ideal S64x1024 .f32) (d : Fin 64) (s : Fin 1024) :
    four f (ix2 d s) = ∑ r : Fin 4, (f r (ix2 d s) : EReal) := by
  unfold four
  rw [Fin.sum_univ_four]
  pointwise

theorem readA7 (h1 : k0_cond1 i = 1#1) (h2 : ¬k0_cond2 i = 1#1) (h3 : k0_cond3 i = 1#1) (h4 : ¬k0_cond4 i = 1#1) (h : Fin 8) (d : Fin 64) (q : Fin 4096) :
    arg9.view.read (Elt Ideal) (arg9.view.writes (Elt Ideal) (harg9.unread y7) (stepA c i arg2 harg2 arg3 harg3 arg4 harg4 arg5 harg5 arg6 harg6 arg7 harg7 arg8 harg8 arg9 harg9 arg10 harg10 arg11 harg11 x0 x1 x2 x3 x4 x5 x6 y7 y8 y9 h1 h2 h3 h4).1) (ix3 h d q) =
      if q.val / 1024 = (i 1).val then c7 x0 x1 x2 x3 x4 x5 x6 h d ⟨q.val % 1024, Nat.mod_lt _ (by norm_num)⟩ else y7 (ix3 h d q) := by
  rw [stepA7, tile7 _ 7 (i 1).val (k0_off8_eq i), tile7 _ 6 (i 1).val (k0_off7_eq i), tile7 _ 5 (i 1).val (k0_off6_eq i), tile7 _ 4 (i 1).val (k0_off5_eq i), tile7 _ 3 (i 1).val (k0_off4_eq i), tile7 _ 2 (i 1).val (k0_off3_eq i), tile7 _ 1 (i 1).val (k0_off2_eq i), tile7 _ 0 (i 1).val (k0_off1_eq i)]
  simp only [fresh1_at, dqH_at]
  by_cases hq : q.val / 1024 = (i 1).val
  · rw [if_pos hq]
    simp only [hq, and_true]
    unfold c7
    fin_cases h <;> rfl
  · rw [if_neg hq]
    simp only [hq, and_false, if_false]
    exact congrFun (harg9.read_unread _) _

theorem readA8 (h1 : k0_cond1 i = 1#1) (h2 : ¬k0_cond2 i = 1#1) (h3 : k0_cond3 i = 1#1) (h4 : ¬k0_cond4 i = 1#1) (g : Fin 2) (d : Fin 64) (s : Fin 1024) :
    arg10.view.read (Elt Ideal) (arg10.view.writes (Elt Ideal) (harg10.unread y8) (stepA c i arg2 harg2 arg3 harg3 arg4 harg4 arg5 harg5 arg6 harg6 arg7 harg7 arg8 harg8 arg9 harg9 arg10 harg10 arg11 harg11 x0 x1 x2 x3 x4 x5 x6 y7 y8 y9 h1 h2 h3 h4).2.1) (ix3 g d s) = c8 x0 x1 x3 x4 x5 x6 g d s := by
  rw [stepA8, tile2 _ 1 (off := ![1, 0, 0]) rfl, tile2 _ 0 (off := ![0, 0, 0]) rfl]
  simp only [fresh1_at, four_at, dkH_at]
  unfold c8
  obtain rfl | rfl : g = 0 ∨ g = 1 := by revert g; decide
  · rw [if_neg (by decide), if_pos rfl]
    simp only [Fin.sum_univ_four]
    rfl
  · rw [if_pos rfl]
    simp only [Fin.sum_univ_four]
    rfl

theorem readA9 (h1 : k0_cond1 i = 1#1) (h2 : ¬k0_cond2 i = 1#1) (h3 : k0_cond3 i = 1#1) (h4 : ¬k0_cond4 i = 1#1) (g : Fin 2) (d : Fin 64) (s : Fin 1024) :
    arg11.view.read (Elt Ideal) (arg11.view.writes (Elt Ideal) (harg11.unread y9) (stepA c i arg2 harg2 arg3 harg3 arg4 harg4 arg5 harg5 arg6 harg6 arg7 harg7 arg8 harg8 arg9 harg9 arg10 harg10 arg11 harg11 x0 x1 x2 x3 x4 x5 x6 y7 y8 y9 h1 h2 h3 h4).2.2.1) (ix3 g d s) = c9 x0 x1 x4 x6 g d s := by
  rw [stepA9, tile2 _ 1 (off := ![1, 0, 0]) rfl, tile2 _ 0 (off := ![0, 0, 0]) rfl]
  simp only [fresh1_at, four_at, dvH_at]
  unfold c9
  obtain rfl | rfl : g = 0 ∨ g = 1 := by revert g; decide
  · rw [if_neg (by decide), if_pos rfl]
    simp only [Fin.sum_univ_four]
    rfl
  · rw [if_pos rfl]
    simp only [Fin.sum_univ_four]
    rfl

theorem readB7 (h1 : k0_cond1 i = 1#1) (h2 : ¬k0_cond2 i = 1#1) (h3 : ¬k0_cond3 i = 1#1) (h4 : k0_cond4 i = 1#1) (h : Fin 8) (d : Fin 64) (q : Fin 4096) :
    arg9.view.read (Elt Ideal) (arg9.view.writes (Elt Ideal) (harg9.unread y7) (stepB c i arg2 harg2 arg3 harg3 arg4 harg4 arg5 harg5 arg6 harg6 arg7 harg7 arg8 harg8 arg9 harg9 arg10 harg10 arg11 harg11 x0 x1 x2 x3 x4 x5 x6 y7 y8 y9 h1 h2 h3 h4).1) (ix3 h d q) =
      if q.val / 1024 = (i 1).val then (y7 (ix3 h d q) : EReal) + c7 x0 x1 x2 x3 x4 x5 x6 h d ⟨q.val % 1024, Nat.mod_lt _ (by norm_num)⟩ else y7 (ix3 h d q) := by
  rw [stepB7, tile7 _ 7 (i 1).val (k0_off16_eq i), tile7 _ 6 (i 1).val (k0_off15_eq i), tile7 _ 5 (i 1).val (k0_off14_eq i), tile7 _ 4 (i 1).val (k0_off13_eq i), tile7 _ 3 (i 1).val (k0_off12_eq i), tile7 _ 2 (i 1).val (k0_off11_eq i), tile7 _ 1 (i 1).val (k0_off10_eq i), tile7 _ 0 (i 1).val (k0_off9_eq i)]
  simp only [added1_at, dqH_at]
  by_cases hq : q.val / 1024 = (i 1).val
  · rw [if_pos hq]
    simp only [hq, and_true]
    unfold c7
    fin_cases h
    · exact congrArg (· + _) (load7 arg9 harg9 y7 0 (i 1).val (k0_off9_eq i) (k0_off9_inb i h4) 0 rfl d q hq)
    · exact congrArg (· + _) (load7 arg9 harg9 y7 1 (i 1).val (k0_off10_eq i) (k0_off10_inb i h4) 1 rfl d q hq)
    · exact congrArg (· + _) (load7 arg9 harg9 y7 2 (i 1).val (k0_off11_eq i) (k0_off11_inb i h4) 2 rfl d q hq)
    · exact congrArg (· + _) (load7 arg9 harg9 y7 3 (i 1).val (k0_off12_eq i) (k0_off12_inb i h4) 3 rfl d q hq)
    · exact congrArg (· + _) (load7 arg9 harg9 y7 4 (i 1).val (k0_off13_eq i) (k0_off13_inb i h4) 4 rfl d q hq)
    · exact congrArg (· + _) (load7 arg9 harg9 y7 5 (i 1).val (k0_off14_eq i) (k0_off14_inb i h4) 5 rfl d q hq)
    · exact congrArg (· + _) (load7 arg9 harg9 y7 6 (i 1).val (k0_off15_eq i) (k0_off15_inb i h4) 6 rfl d q hq)
    · exact congrArg (· + _) (load7 arg9 harg9 y7 7 (i 1).val (k0_off16_eq i) (k0_off16_inb i h4) 7 rfl d q hq)
  · rw [if_neg hq]
    simp only [hq, and_false, if_false]
    exact congrFun (harg9.read_unread _) _

theorem readB8 (h1 : k0_cond1 i = 1#1) (h2 : ¬k0_cond2 i = 1#1) (h3 : ¬k0_cond3 i = 1#1) (h4 : k0_cond4 i = 1#1) (g : Fin 2) (d : Fin 64) (s : Fin 1024) :
    arg10.view.read (Elt Ideal) (arg10.view.writes (Elt Ideal) (harg10.unread y8) (stepB c i arg2 harg2 arg3 harg3 arg4 harg4 arg5 harg5 arg6 harg6 arg7 harg7 arg8 harg8 arg9 harg9 arg10 harg10 arg11 harg11 x0 x1 x2 x3 x4 x5 x6 y7 y8 y9 h1 h2 h3 h4).2.1) (ix3 g d s) = c8 x0 x1 x3 x4 x5 x6 g d s := by
  rw [stepB8, tile2 _ 1 (off := ![1, 0, 0]) rfl, tile2 _ 0 (off := ![0, 0, 0]) rfl]
  simp only [fresh1_at, four_at, dkH_at]
  unfold c8
  obtain rfl | rfl : g = 0 ∨ g = 1 := by revert g; decide
  · rw [if_neg (by decide), if_pos rfl]
    simp only [Fin.sum_univ_four]
    rfl
  · rw [if_pos rfl]
    simp only [Fin.sum_univ_four]
    rfl

theorem readB9 (h1 : k0_cond1 i = 1#1) (h2 : ¬k0_cond2 i = 1#1) (h3 : ¬k0_cond3 i = 1#1) (h4 : k0_cond4 i = 1#1) (g : Fin 2) (d : Fin 64) (s : Fin 1024) :
    arg11.view.read (Elt Ideal) (arg11.view.writes (Elt Ideal) (harg11.unread y9) (stepB c i arg2 harg2 arg3 harg3 arg4 harg4 arg5 harg5 arg6 harg6 arg7 harg7 arg8 harg8 arg9 harg9 arg10 harg10 arg11 harg11 x0 x1 x2 x3 x4 x5 x6 y7 y8 y9 h1 h2 h3 h4).2.2.1) (ix3 g d s) = c9 x0 x1 x4 x6 g d s := by
  rw [stepB9, tile2 _ 1 (off := ![1, 0, 0]) rfl, tile2 _ 0 (off := ![0, 0, 0]) rfl]
  simp only [fresh1_at, four_at, dvH_at]
  unfold c9
  obtain rfl | rfl : g = 0 ∨ g = 1 := by revert g; decide
  · rw [if_neg (by decide), if_pos rfl]
    simp only [Fin.sum_univ_four]
    rfl
  · rw [if_pos rfl]
    simp only [Fin.sum_univ_four]
    rfl

theorem readC7 (h1 : ¬k0_cond1 i = 1#1) (h2 : k0_cond2 i = 1#1) (h3 : k0_cond3 i = 1#1) (h4 : ¬k0_cond4 i = 1#1) (h : Fin 8) (d : Fin 64) (q : Fin 4096) :
    arg9.view.read (Elt Ideal) (arg9.view.writes (Elt Ideal) (harg9.unread y7) (stepC c i arg2 harg2 arg3 harg3 arg4 harg4 arg5 harg5 arg6 harg6 arg7 harg7 arg8 harg8 arg9 harg9 arg10 harg10 arg11 harg11 x0 x1 x2 x3 x4 x5 x6 y7 y8 y9 h1 h2 h3 h4).1) (ix3 h d q) =
      if q.val / 1024 = (i 1).val then c7 x0 x1 x2 x3 x4 x5 x6 h d ⟨q.val % 1024, Nat.mod_lt _ (by norm_num)⟩ else y7 (ix3 h d q) := by
  rw [stepC7, tile7 _ 7 (i 1).val (k0_off8_eq i), tile7 _ 6 (i 1).val (k0_off7_eq i), tile7 _ 5 (i 1).val (k0_off6_eq i), tile7 _ 4 (i 1).val (k0_off5_eq i), tile7 _ 3 (i 1).val (k0_off4_eq i), tile7 _ 2 (i 1).val (k0_off3_eq i), tile7 _ 1 (i 1).val (k0_off2_eq i), tile7 _ 0 (i 1).val (k0_off1_eq i)]
  simp only [fresh1_at, dqH_at]
  by_cases hq : q.val / 1024 = (i 1).val
  · rw [if_pos hq]
    simp only [hq, and_true]
    unfold c7
    fin_cases h <;> rfl
  · rw [if_neg hq]
    simp only [hq, and_false, if_false]
    exact congrFun (harg9.read_unread _) _

theorem readC8 (h1 : ¬k0_cond1 i = 1#1) (h2 : k0_cond2 i = 1#1) (h3 : k0_cond3 i = 1#1) (h4 : ¬k0_cond4 i = 1#1) (g : Fin 2) (d : Fin 64) (s : Fin 1024) :
    arg10.view.read (Elt Ideal) (arg10.view.writes (Elt Ideal) (harg10.unread y8) (stepC c i arg2 harg2 arg3 harg3 arg4 harg4 arg5 harg5 arg6 harg6 arg7 harg7 arg8 harg8 arg9 harg9 arg10 harg10 arg11 harg11 x0 x1 x2 x3 x4 x5 x6 y7 y8 y9 h1 h2 h3 h4).2.1) (ix3 g d s) = (y8 (ix3 g d s) : EReal) + c8 x0 x1 x3 x4 x5 x6 g d s := by
  rw [stepC8, tile2 _ 1 (off := ![1, 0, 0]) rfl, tile2 _ 0 (off := ![0, 0, 0]) rfl]
  simp only [added1_at, of2_at, four_at, dkH_at]
  unfold c8
  obtain rfl | rfl : g = 0 ∨ g = 1 := by revert g; decide
  · rw [if_neg (by decide), if_pos rfl]
    simp only [Fin.sum_univ_four]
    rfl
  · rw [if_pos rfl]
    simp only [Fin.sum_univ_four]
    rfl

theorem readC9 (h1 : ¬k0_cond1 i = 1#1) (h2 : k0_cond2 i = 1#1) (h3 : k0_cond3 i = 1#1) (h4 : ¬k0_cond4 i = 1#1) (g : Fin 2) (d : Fin 64) (s : Fin 1024) :
    arg11.view.read (Elt Ideal) (arg11.view.writes (Elt Ideal) (harg11.unread y9) (stepC c i arg2 harg2 arg3 harg3 arg4 harg4 arg5 harg5 arg6 harg6 arg7 harg7 arg8 harg8 arg9 harg9 arg10 harg10 arg11 harg11 x0 x1 x2 x3 x4 x5 x6 y7 y8 y9 h1 h2 h3 h4).2.2.1) (ix3 g d s) = (y9 (ix3 g d s) : EReal) + c9 x0 x1 x4 x6 g d s := by
  rw [stepC9, tile2 _ 1 (off := ![1, 0, 0]) rfl, tile2 _ 0 (off := ![0, 0, 0]) rfl]
  simp only [added1_at, of2_at, four_at, dvH_at]
  unfold c9
  obtain rfl | rfl : g = 0 ∨ g = 1 := by revert g; decide
  · rw [if_neg (by decide), if_pos rfl]
    simp only [Fin.sum_univ_four]
    rfl
  · rw [if_pos rfl]
    simp only [Fin.sum_univ_four]
    rfl

theorem readD7 (h1 : ¬k0_cond1 i = 1#1) (h2 : k0_cond2 i = 1#1) (h3 : ¬k0_cond3 i = 1#1) (h4 : k0_cond4 i = 1#1) (h : Fin 8) (d : Fin 64) (q : Fin 4096) :
    arg9.view.read (Elt Ideal) (arg9.view.writes (Elt Ideal) (harg9.unread y7) (stepD c i arg2 harg2 arg3 harg3 arg4 harg4 arg5 harg5 arg6 harg6 arg7 harg7 arg8 harg8 arg9 harg9 arg10 harg10 arg11 harg11 x0 x1 x2 x3 x4 x5 x6 y7 y8 y9 h1 h2 h3 h4).1) (ix3 h d q) =
      if q.val / 1024 = (i 1).val then (y7 (ix3 h d q) : EReal) + c7 x0 x1 x2 x3 x4 x5 x6 h d ⟨q.val % 1024, Nat.mod_lt _ (by norm_num)⟩ else y7 (ix3 h d q) := by
  rw [stepD7, tile7 _ 7 (i 1).val (k0_off16_eq i), tile7 _ 6 (i 1).val (k0_off15_eq i), tile7 _ 5 (i 1).val (k0_off14_eq i), tile7 _ 4 (i 1).val (k0_off13_eq i), tile7 _ 3 (i 1).val (k0_off12_eq i), tile7 _ 2 (i 1).val (k0_off11_eq i), tile7 _ 1 (i 1).val (k0_off10_eq i), tile7 _ 0 (i 1).val (k0_off9_eq i)]
  simp only [added1_at, dqH_at]
  by_cases hq : q.val / 1024 = (i 1).val
  · rw [if_pos hq]
    simp only [hq, and_true]
    unfold c7
    fin_cases h
    · exact congrArg (· + _) (load7 arg9 harg9 y7 0 (i 1).val (k0_off9_eq i) (k0_off9_inb i h4) 0 rfl d q hq)
    · exact congrArg (· + _) (load7 arg9 harg9 y7 1 (i 1).val (k0_off10_eq i) (k0_off10_inb i h4) 1 rfl d q hq)
    · exact congrArg (· + _) (load7 arg9 harg9 y7 2 (i 1).val (k0_off11_eq i) (k0_off11_inb i h4) 2 rfl d q hq)
    · exact congrArg (· + _) (load7 arg9 harg9 y7 3 (i 1).val (k0_off12_eq i) (k0_off12_inb i h4) 3 rfl d q hq)
    · exact congrArg (· + _) (load7 arg9 harg9 y7 4 (i 1).val (k0_off13_eq i) (k0_off13_inb i h4) 4 rfl d q hq)
    · exact congrArg (· + _) (load7 arg9 harg9 y7 5 (i 1).val (k0_off14_eq i) (k0_off14_inb i h4) 5 rfl d q hq)
    · exact congrArg (· + _) (load7 arg9 harg9 y7 6 (i 1).val (k0_off15_eq i) (k0_off15_inb i h4) 6 rfl d q hq)
    · exact congrArg (· + _) (load7 arg9 harg9 y7 7 (i 1).val (k0_off16_eq i) (k0_off16_inb i h4) 7 rfl d q hq)
  · rw [if_neg hq]
    simp only [hq, and_false, if_false]
    exact congrFun (harg9.read_unread _) _

theorem readD8 (h1 : ¬k0_cond1 i = 1#1) (h2 : k0_cond2 i = 1#1) (h3 : ¬k0_cond3 i = 1#1) (h4 : k0_cond4 i = 1#1) (g : Fin 2) (d : Fin 64) (s : Fin 1024) :
    arg10.view.read (Elt Ideal) (arg10.view.writes (Elt Ideal) (harg10.unread y8) (stepD c i arg2 harg2 arg3 harg3 arg4 harg4 arg5 harg5 arg6 harg6 arg7 harg7 arg8 harg8 arg9 harg9 arg10 harg10 arg11 harg11 x0 x1 x2 x3 x4 x5 x6 y7 y8 y9 h1 h2 h3 h4).2.1) (ix3 g d s) = (y8 (ix3 g d s) : EReal) + c8 x0 x1 x3 x4 x5 x6 g d s := by
  rw [stepD8, tile2 _ 1 (off := ![1, 0, 0]) rfl, tile2 _ 0 (off := ![0, 0, 0]) rfl]
  simp only [added1_at, of2_at, four_at, dkH_at]
  unfold c8
  obtain rfl | rfl : g = 0 ∨ g = 1 := by revert g; decide
  · rw [if_neg (by decide), if_pos rfl]
    simp only [Fin.sum_univ_four]
    rfl
  · rw [if_pos rfl]
    simp only [Fin.sum_univ_four]
    rfl

theorem readD9 (h1 : ¬k0_cond1 i = 1#1) (h2 : k0_cond2 i = 1#1) (h3 : ¬k0_cond3 i = 1#1) (h4 : k0_cond4 i = 1#1) (g : Fin 2) (d : Fin 64) (s : Fin 1024) :
    arg11.view.read (Elt Ideal) (arg11.view.writes (Elt Ideal) (harg11.unread y9) (stepD c i arg2 harg2 arg3 harg3 arg4 harg4 arg5 harg5 arg6 harg6 arg7 harg7 arg8 harg8 arg9 harg9 arg10 harg10 arg11 harg11 x0 x1 x2 x3 x4 x5 x6 y7 y8 y9 h1 h2 h3 h4).2.2.1) (ix3 g d s) = (y9 (ix3 g d s) : EReal) + c9 x0 x1 x4 x6 g d s := by
  rw [stepD9, tile2 _ 1 (off := ![1, 0, 0]) rfl, tile2 _ 0 (off := ![0, 0, 0]) rfl]
  simp only [added1_at, of2_at, four_at, dvH_at]
  unfold c9
  obtain rfl | rfl : g = 0 ∨ g = 1 := by revert g; decide
  · rw [if_neg (by decide), if_pos rfl]
    simp only [Fin.sum_univ_four]
    rfl
  · rw [if_pos rfl]
    simp only [Fin.sum_univ_four]
    rfl

end Cert.AttRun
-- ==== Proof.AttReals.lean ====
/- The attention and its derivative over the reals, and the sums over tiles. -/
module

public import proofs.«01_k».proof.Proof.AttPoint
public import proofs.«01_k».proof.Proof.HeadNorm

@[expose] public section

noncomputable section

open Idealize.ShloMosaic

namespace Cert.AttReals

open Cert.AttRun (grp rowOf head)
open HeadNorm (coe_sum)

/-- Queries and their gradients by position, head and entry; keys and values by position, group and entry. -/
structure Args where
  q : Fin 4096 → Fin 8 → Fin 64 → ℝ
  k : Fin 4096 → Fin 2 → Fin 64 → ℝ
  v : Fin 4096 → Fin 2 → Fin 64 → ℝ
  g : Fin 4096 → Fin 8 → Fin 64 → ℝ

variable (A : Args)

/-- Scores, their largest, the exponentials, their total and the probabilities of a query. -/
def sc (h : Fin 8) (x s : Fin 4096) : ℝ := ∑ d : Fin 64, A.k s (grp h) d * A.q x h d
def mx (h : Fin 8) (x : Fin 4096) : ℝ := Finset.univ.sup' ⟨0, Finset.mem_univ _⟩ (sc A h x)
def ex (h : Fin 8) (x s : Fin 4096) : ℝ := Real.exp (sc A h x s - mx A h x)
def tot (h : Fin 8) (x : Fin 4096) : ℝ := ∑ s : Fin 4096, ex A h x s
def pr (h : Fin 8) (x s : Fin 4096) : ℝ := ex A h x s / tot A h x
def out (h : Fin 8) (x : Fin 4096) (d : Fin 64) : ℝ := ∑ s : Fin 4096, A.v s (grp h) d * pr A h x s
def lse (h : Fin 8) (x : Fin 4096) : ℝ := (mx A h x + Real.log (tot A h x)) / Real.log 2

/-- The gradient of a probability and of a score. -/
def dp (h : Fin 8) (x s : Fin 4096) : ℝ := ∑ d : Fin 64, A.v s (grp h) d * A.g x h d
def ds (h : Fin 8) (x s : Fin 4096) : ℝ := pr A h x s * (dp A h x s - ∑ j : Fin 4096, pr A h x j * dp A h x j)

/-- The three gradients. -/
def dq (h : Fin 8) (d : Fin 64) (x : Fin 4096) : ℝ := ∑ s : Fin 4096, A.k s (grp h) d * ds A h x s
def dk (g : Fin 2) (d : Fin 64) (s : Fin 4096) : ℝ :=
  ∑ r : Fin 4, ∑ x : Fin 4096, A.q x (head g r) d / Real.log 2 * ds A (head g r) x s
def dv (g : Fin 2) (d : Fin 64) (s : Fin 4096) : ℝ := ∑ r : Fin 4, ∑ x : Fin 4096, A.g x (head g r) d * pr A (head g r) x s

theorem tot_pos (h : Fin 8) (x : Fin 4096) : 0 < tot A h x :=
  Finset.sum_pos (fun _ _ => Real.exp_pos _) ⟨0, Finset.mem_univ _⟩

theorem log2_ne : Real.log 2 ≠ 0 := (Real.log_pos (by norm_num)).ne'

/-- The probability from the scores in powers of two. -/
theorem pr_two (h : Fin 8) (x s : Fin 4096) :
    (2 : ℝ) ^ ((∑ d : Fin 64, A.k s (grp h) d * (A.q x h d / Real.log 2)) - lse A h x) = pr A h x s := by
  have e : (∑ d : Fin 64, A.k s (grp h) d * (A.q x h d / Real.log 2)) = sc A h x s / Real.log 2 := by
    unfold sc
    rw [Finset.sum_div]
    exact Finset.sum_congr rfl fun _ _ => (mul_div_assoc _ _ _).symm
  rw [e, Real.rpow_def_of_pos (by norm_num : (0 : ℝ) < 2), lse, ← sub_div, mul_div_cancel₀ _ log2_ne, ← sub_sub, Real.exp_sub,
    Real.exp_log (tot_pos A h x)]
  rfl

/-- The inner product of an output with its gradient is the mean of the probabilities' gradients. -/
theorem delta (h : Fin 8) (x : Fin 4096) : ∑ d : Fin 64, A.g x h d * out A h x d = ∑ s : Fin 4096, pr A h x s * dp A h x s := by
  unfold out dp
  simp only [Finset.mul_sum]
  rw [Finset.sum_comm]
  exact Finset.sum_congr rfl fun _ _ => Finset.sum_congr rfl fun _ _ => by ring

/-- The gradient of a score as the quotient's rule gives it. -/
theorem ds_quot (h : Fin 8) (x s : Fin 4096) :
    (dp A h x s / tot A h x + -(∑ j : Fin 4096, dp A h x j * (1 / (tot A h x * tot A h x)) * ex A h x j)) * ex A h x s = ds A h x s := by
  have hl := (tot_pos A h x).ne'
  have e : (∑ j : Fin 4096, dp A h x j * (1 / (tot A h x * tot A h x)) * ex A h x j)
      = (∑ j : Fin 4096, pr A h x j * dp A h x j) / tot A h x := by
    rw [Finset.sum_div]
    exact Finset.sum_congr rfl fun j _ => by unfold pr; field_simp
  rw [e]
  unfold ds pr
  field_simp
  ring

/-- The largest of reals, from the bottom up. -/
theorem fold_max (f : Fin 4096 → ℝ) :
    (Finset.univ : Finset (Fin 4096)).fold (max : EReal → EReal → EReal) ⊥ (fun s => (f s : EReal))
      = ((Finset.univ.sup' ⟨0, Finset.mem_univ _⟩ f : ℝ) : EReal) := by
  have e : (Finset.univ : Finset (Fin 4096)).fold (max : EReal → EReal → EReal) ⊥ (fun s => (f s : EReal)) = Finset.univ.sup (fun s => (f s : EReal)) := rfl
  rw [e]
  refine le_antisymm (Finset.sup_le fun s hs => EReal.coe_le_coe_iff.mpr (Finset.le_sup' f hs)) ?_
  obtain ⟨s, hs, h⟩ := Finset.exists_mem_eq_sup' (⟨0, Finset.mem_univ _⟩ : (Finset.univ : Finset (Fin 4096)).Nonempty) f
  rw [h]
  exact Finset.le_sup (f := fun s => (f s : EReal)) hs

/-- Position `x` of tile `j`. -/
def tl (j : ℕ) (x : Fin 1024) : Fin 4096 := ⟨j % 4 * 1024 + x.val, by have := Nat.mod_lt j (show 0 < 4 by norm_num); omega⟩

/-- A position is its tile and its place in the tile. -/
def tiles : Fin 4 × Fin 1024 ≃ Fin 4096 where
  toFun p := tl p.1.val p.2
  invFun s := (⟨s.val / 1024, by omega⟩, ⟨s.val % 1024, by omega⟩)
  left_inv p := Prod.ext (Fin.ext (by simp only [tl]; omega)) (Fin.ext (by simp only [tl]; omega))
  right_inv s := Fin.ext (by simp only [tl]; omega)

theorem sum_tiles (f : Fin 4096 → ℝ) :
    (∑ x : Fin 1024, f (tl 0 x)) + (∑ x : Fin 1024, f (tl 1 x)) + (∑ x : Fin 1024, f (tl 2 x)) + (∑ x : Fin 1024, f (tl 3 x)) = ∑ s : Fin 4096, f s := by
  rw [← Equiv.sum_comp tiles f, Fintype.sum_prod_type, Fin.sum_univ_four]
  rfl

/-- Of the sixteen points, those of one row of tiles, and those of one column. -/
theorem sum_row (i : ℕ) (hi : i < 4) (f : ℕ → ℝ) :
    (∑ u : Fin 16, if u.val ≤ 15 ∧ u.val % 4 = i then f (u.val / 4) else 0) = f 0 + f 1 + f 2 + f 3 := by
  rw [Fin.sum_univ_eq_sum_range (fun u => if u ≤ 15 ∧ u % 4 = i then f (u / 4) else 0) 16]
  interval_cases i <;> simp [Finset.sum_range_succ]

theorem sum_col (j : ℕ) (hj : j < 4) (f : ℕ → ℝ) :
    (∑ u : Fin 16, if u.val ≤ 4 * j + 3 ∧ u.val / 4 = j then f (u.val % 4) else 0) = f 0 + f 1 + f 2 + f 3 := by
  rw [Fin.sum_univ_eq_sum_range (fun u => if u ≤ 4 * j + 3 ∧ u / 4 = j then f (u % 4) else 0) 16]
  interval_cases j <;> simp [Finset.sum_range_succ]

theorem grp_head (g : Fin 2) (r : Fin 4) : grp (head g r) = g := Fin.ext (by simp only [grp, head]; omega)
theorem head_grp (h : Fin 8) : head (grp h) (rowOf h) = h := Fin.ext (by simp only [grp, head, rowOf]; omega)
theorem row_head (g : Fin 2) (r : Fin 4) : rowOf (head g r) = r := Fin.ext (by simp only [rowOf, head]; omega)

theorem coe_ite (p : Prop) [Decidable p] (a : ℝ) : (if p then (a : EReal) else 0) = ((if p then a else 0 : ℝ) : EReal) := by
  split_ifs <;> rfl

section
open Cert.AttRun Cert.AttKernelIdeal

variable (x0 : Vec Ideal S8x64x1024 .bf16) (x1 : Vec Ideal S2x1024x64 .bf16) (x2 : Vec Ideal S2x64x1024 .bf16) (x3 : Vec Ideal S2x1024x64 .bf16) (x4 : Vec Ideal S8x64x1024 .bf16) (x5 : Vec Ideal S8x64x1024 .f32) (x6 : Vec Ideal S2x4x1024 .f32)

/-- The blocks of row tile `i` and column tile `j`. -/
structure Blocks (i j : ℕ) : Prop where
  q : ∀ h d x, (x0 (ix3 h d x) : EReal) = ((A.q (tl i x) h d / Real.log 2 : ℝ) : EReal)
  k : ∀ g s d, (x1 (ix3 g s d) : EReal) = ((A.k (tl j s) g d : ℝ) : EReal)
  kt : ∀ g d s, (x2 (ix3 g d s) : EReal) = ((A.k (tl j s) g d : ℝ) : EReal)
  v : ∀ g s d, (x3 (ix3 g s d) : EReal) = ((A.v (tl j s) g d : ℝ) : EReal)
  g : ∀ h d x, (x4 (ix3 h d x) : EReal) = ((A.g (tl i x) h d : ℝ) : EReal)
  o : ∀ h d x, (x5 (ix3 h d x) : EReal) = ((out A h (tl i x) d : ℝ) : EReal)
  l : ∀ g r x, (x6 (ix3 g r x) : EReal) = ((lse A (head g r) (tl i x) : ℝ) : EReal)

variable {x0 x1 x2 x3 x4 x5 x6} {A} {i j : ℕ} (B : Blocks A x0 x1 x2 x3 x4 x5 x6 i j)
include B

theorem pt_real (h : Fin 8) (s x : Fin 1024) :
    pt x0 x1 x6 (grp h) (rowOf h) h s x = ((pr A h (tl i x) (tl j s) : ℝ) : EReal) := by
  unfold pt
  simp only [B.q, B.k, B.l, head_grp, ← EReal.coe_mul, coe_sum, ← EReal.coe_sub]
  rw [← pr_two]
  rfl

theorem dst_real (h : Fin 8) (s x : Fin 1024) :
    dst x0 x1 x3 x4 x5 x6 (grp h) (rowOf h) h s x = ((ds A h (tl i x) (tl j s) : ℝ) : EReal) := by
  unfold dst
  rw [pt_real B]
  simp only [B.v, B.g, B.o, ← EReal.coe_mul, coe_sum, ← EReal.coe_sub]
  rw [delta]
  rfl

theorem c7_real (h : Fin 8) (d : Fin 64) (x : Fin 1024) :
    c7 x0 x1 x2 x3 x4 x5 x6 h d x = ((∑ s : Fin 1024, A.k (tl j s) (grp h) d * ds A h (tl i x) (tl j s) : ℝ) : EReal) := by
  unfold c7 dq1
  simp only [dst_real B, B.kt, ← EReal.coe_mul, coe_sum]

theorem c8_real (g : Fin 2) (d : Fin 64) (s : Fin 1024) :
    c8 x0 x1 x3 x4 x5 x6 g d s = ((∑ r : Fin 4, ∑ x : Fin 1024, A.q (tl i x) (head g r) d / Real.log 2 * ds A (head g r) (tl i x) (tl j s) : ℝ) : EReal) := by
  unfold c8
  have e : ∀ r x, dst x0 x1 x3 x4 x5 x6 g r (head g r) s x = ((ds A (head g r) (tl i x) (tl j s) : ℝ) : EReal) := fun r x => by
    have := dst_real B (head g r) s x
    rwa [grp_head, row_head] at this
  simp only [e, B.q, ← EReal.coe_mul, coe_sum]

theorem c9_real (g : Fin 2) (d : Fin 64) (s : Fin 1024) :
    c9 x0 x1 x4 x6 g d s = ((∑ r : Fin 4, ∑ x : Fin 1024, A.g (tl i x) (head g r) d * pr A (head g r) (tl i x) (tl j s) : ℝ) : EReal) := by
  unfold c9
  have e : ∀ r x, pt x0 x1 x6 g r (head g r) s x = ((pr A (head g r) (tl i x) (tl j s) : ℝ) : EReal) := fun r x => by
    have := pt_real B (head g r) s x
    rwa [grp_head, row_head] at this
  simp only [e, B.g, ← EReal.coe_mul, coe_sum]

end

end Cert.AttReals
-- ==== Proof.AttReference.lean ====
/- The attention's derivative, as the reference computes it, over the reals. -/
module

public import proofs.«01_k».proof.Proof.Gen.AttReferenceIdeal.Read
public import proofs.«01_k».proof.Proof.AttReals
public import Idealize.ShloMosaic.Lib.Pointwise

@[expose] public section

set_option maxRecDepth 16384

noncomputable section

open Idealize.ShloMosaic Idealize.ShloMosaic.TcCoe

namespace Cert.AttReference

open Cert.AttRun (grp rowOf head)
open Cert.AttReals Cert.AttReferenceIdeal Cert.AttReferenceIdeal.Gen Cert.AttReferenceIdeal.Read
open HeadNorm (coe_sum)

variable (a0 a3 : FVec Ideal S4096x512 .f32) (a1 a2 : FVec Ideal S4096x128 .f32)

theorem lit_zero : Ideal.ofBits .f32 0x00000000#32 = (0 : EReal) := by simp [Ideal.ofBits, Ideal.ieee]
theorem lit_bot : Ideal.ofBits .f32 0xFF800000#32 = (⊥ : EReal) := by simp [Ideal.ofBits, Ideal.ieee]
theorem lit_two : Ideal.ofBits .f32 0x40000000#32 = ((2 : ℝ) : EReal) := by
  simp [Ideal.ofBits, Ideal.ieee, -EReal.coe_mul]; norm_num

/-- The arguments, of real entries. -/
def mk : Args where
  q x h d := (a0 (ix2 x ⟨h.val * 64 + d.val, by omega⟩) : EReal).toReal
  k s g d := (a1 (ix2 s ⟨g.val * 64 + d.val, by omega⟩) : EReal).toReal
  v s g d := (a2 (ix2 s ⟨g.val * 64 + d.val, by omega⟩) : EReal).toReal
  g x h d := (a3 (ix2 x ⟨h.val * 64 + d.val, by omega⟩) : EReal).toReal

structure Real : Prop where
  q : ∀ i, ∃ r : ℝ, (a0 i : EReal) = (r : EReal)
  k : ∀ i, ∃ r : ℝ, (a1 i : EReal) = (r : EReal)
  v : ∀ i, ∃ r : ℝ, (a2 i : EReal) = (r : EReal)
  g : ∀ i, ∃ r : ℝ, (a3 i : EReal) = (r : EReal)

theorem back {a : EReal} (h : ∃ r : ℝ, a = (r : EReal)) : a = (a.toReal : EReal) := by
  obtain ⟨r, rfl⟩ := h
  rfl

section layout

theorem v0_at (x : Fin 4096) (g : Fin 2) (r : Fin 4) (d : Fin 64) :
    (val_main_v0 (F := Ideal) a0 (ix4 x g r d) : EReal) = a0 (ix2 x ⟨(head g r).val * 64 + d.val, by omega⟩) := by
  pointwise [val_main_v0, head]
  exact congrArg a0 (congrArg (ix2 x) (Fin.ext (by show g.val * 256 + r.val * 64 + d.val = (4 * g.val + r.val) * 64 + d.val; omega)))

theorem v1_at (s : Fin 4096) (g : Fin 2) (d : Fin 64) :
    (val_main_v1 (F := Ideal) a1 (ix3 s g d) : EReal) = a1 (ix2 s ⟨g.val * 64 + d.val, by omega⟩) := by
  pointwise [val_main_v1]

theorem v2_at (s : Fin 4096) (g : Fin 2) (d : Fin 64) :
    (val_main_v2 (F := Ideal) a2 (ix3 s g d) : EReal) = a2 (ix2 s ⟨g.val * 64 + d.val, by omega⟩) := by
  pointwise [val_main_v2]

theorem v37_at (g : Fin 2) (d : Fin 64) (r : Fin 4) (x : Fin 4096) :
    (val_main_v37 (F := Ideal) a3 (ix4 g d r x) : EReal) = a3 (ix2 x ⟨(head g r).val * 64 + d.val, by omega⟩) := by
  pointwise [val_main_v36, val_main_v37, head]
  exact congrArg a3 (congrArg (ix2 x) (Fin.ext (by show g.val * 256 + r.val * 64 + d.val = (4 * g.val + r.val) * 64 + d.val; omega)))

theorem v4_at (g : Fin 2) (r : Fin 4) (x s : Fin 4096) :
    (val_main_v4 (F := Ideal) a0 a1 (ix4 g r x s) : EReal)
      = ∑ d : Fin 64, (val_main_v1 (F := Ideal) a1 (ix3 s g d) : EReal) * (val_main_v0 (F := Ideal) a0 (ix4 x g r d) : EReal) := by
  pointwise [val_main_v3, val_main_v4]

theorem v5_at (g : Fin 2) (r : Fin 4) (x : Fin 4096) :
    (val_main_v5 (F := Ideal) a0 a1 (ix3 g r x) : EReal)
      = (Finset.univ : Finset (Fin 4096)).fold (max : EReal → EReal → EReal) ⊥ (fun s => (val_main_v4 (F := Ideal) a0 a1 (ix4 g r x s) : EReal)) := by
  pointwise [val_main_v5, val_main_cst]
  rw [lit_bot]

theorem v12_at (g : Fin 2) (r : Fin 4) (x : Fin 4096) :
    (val_main_v12 (F := Ideal) a0 a1 (ix3 g r x) : EReal) = val_main_v5 (F := Ideal) a0 a1 (ix3 g r x) := by
  rw [val_main_v12_apply, val_main_v11_apply, val_main_cst_1_apply]
  generalize val_main_v5 (F := Ideal) a0 a1 (ix3 g r x) = y
  show max (Ideal.ofBits .f32 0xFF800000#32) (y : EReal) = y
  rw [lit_bot]
  exact bot_sup_eq y

theorem v25_at (g : Fin 2) (r : Fin 4) (x s : Fin 4096) :
    (val_main_v25 (F := Ideal) a0 a1 (ix4 g r x s) : EReal)
      = Ideal.exp ((val_main_v4 (F := Ideal) a0 a1 (ix4 g r x s) : EReal) - (val_main_v5 (F := Ideal) a0 a1 (ix3 g r x) : EReal)) := by
  rw [← v12_at]
  pointwise [val_main_v22, val_main_v23, val_main_v24, val_main_v25]

theorem v26_at (g : Fin 2) (r : Fin 4) (x : Fin 4096) :
    (val_main_v26 (F := Ideal) a0 a1 (ix3 g r x) : EReal) = ∑ s : Fin 4096, (val_main_v25 (F := Ideal) a0 a1 (ix4 g r x s) : EReal) := by
  pointwise [val_main_v26, val_main_cst_7]

theorem v29_at (g : Fin 2) (r : Fin 4) (x s : Fin 4096) :
    (val_main_v29 (F := Ideal) a0 a1 (ix4 g r x s) : EReal)
      = Ideal.div (val_main_v25 (F := Ideal) a0 a1 (ix4 g r x s)) (val_main_v26 (F := Ideal) a0 a1 (ix3 g r x)) := by
  pointwise [val_main_v27, val_main_v28, val_main_v29]

theorem v38_at (g : Fin 2) (r : Fin 4) (x s : Fin 4096) :
    (val_main_v38 (F := Ideal) a2 a3 (ix4 g r x s) : EReal)
      = ∑ d : Fin 64, (val_main_v37 (F := Ideal) a3 (ix4 g d r x) : EReal) * (val_main_v2 (F := Ideal) a2 (ix3 s g d) : EReal) := by
  pointwise [val_main_v38]

theorem v39_at (g : Fin 2) (d : Fin 64) (s : Fin 4096) :
    (val_main_v39 (F := Ideal) a0 a1 a3 (ix3 g d s) : EReal)
      = ∑ r : Fin 4, ∑ x : Fin 4096, (val_main_v37 (F := Ideal) a3 (ix4 g d r x) : EReal) * (val_main_v29 (F := Ideal) a0 a1 (ix4 g r x s) : EReal) := by
  pointwise [val_main_v39]

theorem v43_at (g : Fin 2) (r : Fin 4) (x s : Fin 4096) :
    (val_main_v43 (F := Ideal) a0 a1 a2 a3 (ix4 g r x s) : EReal)
      = (val_main_v38 (F := Ideal) a2 a3 (ix4 g r x s) : EReal)
        * Ideal.div ((1 : ℝ) : EReal) ((val_main_v26 (F := Ideal) a0 a1 (ix3 g r x) : EReal) * (val_main_v26 (F := Ideal) a0 a1 (ix3 g r x) : EReal))
        * (val_main_v25 (F := Ideal) a0 a1 (ix4 g r x s) : EReal) := by
  pointwise [val_main_v27, val_main_v30, val_main_v31, val_main_v32, val_main_v41, val_main_v42, val_main_v43, val_main_cst_8]
  rw [EReal.coe_one]

theorem v44_at (g : Fin 2) (r : Fin 4) (x : Fin 4096) :
    (val_main_v44 (F := Ideal) a0 a1 a2 a3 (ix3 g r x) : EReal) = ∑ s : Fin 4096, (val_main_v43 (F := Ideal) a0 a1 a2 a3 (ix4 g r x s) : EReal) := by
  pointwise [val_main_v44, val_main_cst_9]

theorem v52_at (g : Fin 2) (r : Fin 4) (x s : Fin 4096) :
    (val_main_v52 (F := Ideal) a0 a1 a2 a3 (ix4 g r x s) : EReal)
      = (Ideal.div (val_main_v38 (F := Ideal) a2 a3 (ix4 g r x s)) (val_main_v26 (F := Ideal) a0 a1 (ix3 g r x))
          + -(val_main_v44 (F := Ideal) a0 a1 a2 a3 (ix3 g r x) : EReal)) * (val_main_v25 (F := Ideal) a0 a1 (ix4 g r x s) : EReal) := by
  pointwise [val_main_v27, val_main_v45, val_main_v46, val_main_v47, val_main_v48, val_main_v49, val_main_v50, val_main_v51, val_main_v52, val_main_cst_10]
  rw [Fin.sum_univ_one]

theorem v54_at (g : Fin 2) (x : Fin 4096) (r : Fin 4) (d : Fin 64) :
    (val_main_v54 (F := Ideal) a0 a1 a2 a3 (ix4 g x r d) : EReal)
      = ∑ s : Fin 4096, (val_main_v52 (F := Ideal) a0 a1 a2 a3 (ix4 g r x s) : EReal) * (val_main_v1 (F := Ideal) a1 (ix3 s g d) : EReal) := by
  pointwise [val_main_v53, val_main_v54]

theorem v56_at (g : Fin 2) (s : Fin 4096) (d : Fin 64) :
    (val_main_v56 (F := Ideal) a0 a1 a2 a3 (ix3 g s d) : EReal)
      = ∑ x : Fin 4096, ∑ r : Fin 4, (val_main_v52 (F := Ideal) a0 a1 a2 a3 (ix4 g r x s) : EReal) * (val_main_v0 (F := Ideal) a0 (ix4 x g r d) : EReal) := by
  pointwise [val_main_v53, val_main_v56]

theorem v62_at (h : Fin 8) (d : Fin 64) (x : Fin 4096) :
    (val_main_v62 (F := Ideal) a0 a1 a2 a3 (ix3 h d x) : EReal) = val_main_v54 (F := Ideal) a0 a1 a2 a3 (ix4 (grp h) x (rowOf h) d) := by
  pointwise [val_main_v55, val_main_v60, val_main_v61, val_main_v62, grp, rowOf]

theorem v68_at (g : Fin 2) (d : Fin 64) (s : Fin 4096) :
    (val_main_v68 (F := Ideal) a0 a1 a2 a3 (ix3 g d s) : EReal)
      = Ideal.div (val_main_v56 (F := Ideal) a0 a1 a2 a3 (ix3 g s d)) (Ideal.log ((2 : ℝ) : EReal)) := by
  pointwise [val_main_v57, val_main_v59, val_main_v63, val_main_v64, val_main_v65, val_main_v66, val_main_v67, val_main_v68, val_main_cst_11]
  rw [← lit_two]
  rfl

theorem v70_at (g : Fin 2) (d : Fin 64) (s : Fin 4096) :
    (val_main_v70 (F := Ideal) a0 a1 a3 (ix3 g d s) : EReal) = val_main_v39 (F := Ideal) a0 a1 a3 (ix3 g d s) := by
  pointwise [val_main_v40, val_main_v58, val_main_v69, val_main_v70]

end layout

section reals

variable {a0 a1 a2 a3} (H : Real a0 a3 a1 a2)
include H

theorem v0_real (x : Fin 4096) (g : Fin 2) (r : Fin 4) (d : Fin 64) :
    (val_main_v0 (F := Ideal) a0 (ix4 x g r d) : EReal) = (((mk a0 a3 a1 a2).q x (head g r) d : ℝ) : EReal) := by
  rw [v0_at]; exact back (H.q _)
theorem v1_real (s : Fin 4096) (g : Fin 2) (d : Fin 64) : (val_main_v1 (F := Ideal) a1 (ix3 s g d) : EReal) = (((mk a0 a3 a1 a2).k s g d : ℝ) : EReal) := by
  rw [v1_at]; exact back (H.k _)
theorem v2_real (s : Fin 4096) (g : Fin 2) (d : Fin 64) : (val_main_v2 (F := Ideal) a2 (ix3 s g d) : EReal) = (((mk a0 a3 a1 a2).v s g d : ℝ) : EReal) := by
  rw [v2_at]; exact back (H.v _)
theorem v37_real (g : Fin 2) (d : Fin 64) (r : Fin 4) (x : Fin 4096) :
    (val_main_v37 (F := Ideal) a3 (ix4 g d r x) : EReal) = (((mk a0 a3 a1 a2).g x (head g r) d : ℝ) : EReal) := by
  rw [v37_at]; exact back (H.g _)

theorem v4_real (g : Fin 2) (r : Fin 4) (x s : Fin 4096) :
    (val_main_v4 (F := Ideal) a0 a1 (ix4 g r x s) : EReal) = ((sc (mk a0 a3 a1 a2) (head g r) x s : ℝ) : EReal) := by
  rw [v4_at]
  simp only [v0_real H, v1_real H, ← EReal.coe_mul, coe_sum, sc, grp_head]

theorem v5_real (g : Fin 2) (r : Fin 4) (x : Fin 4096) :
    (val_main_v5 (F := Ideal) a0 a1 (ix3 g r x) : EReal) = ((mx (mk a0 a3 a1 a2) (head g r) x : ℝ) : EReal) := by
  rw [v5_at]
  simp only [v4_real H]
  exact fold_max _

theorem v25_real (g : Fin 2) (r : Fin 4) (x s : Fin 4096) :
    (val_main_v25 (F := Ideal) a0 a1 (ix4 g r x s) : EReal) = ((ex (mk a0 a3 a1 a2) (head g r) x s : ℝ) : EReal) := by
  rw [v25_at, v4_real H, v5_real H, ← EReal.coe_sub]
  rfl

theorem v26_real (g : Fin 2) (r : Fin 4) (x : Fin 4096) :
    (val_main_v26 (F := Ideal) a0 a1 (ix3 g r x) : EReal) = ((tot (mk a0 a3 a1 a2) (head g r) x : ℝ) : EReal) := by
  rw [v26_at]
  simp only [v25_real H, coe_sum]
  rfl

omit H in
theorem div_real {a b : ℝ} (hb : b ≠ 0) : Ideal.div (a : EReal) (b : EReal) = ((a / b : ℝ) : EReal) := by
  rw [Ideal.div_coe hb, ← EReal.coe_mul, mul_one_div]

theorem v29_real (g : Fin 2) (r : Fin 4) (x s : Fin 4096) :
    (val_main_v29 (F := Ideal) a0 a1 (ix4 g r x s) : EReal) = ((pr (mk a0 a3 a1 a2) (head g r) x s : ℝ) : EReal) := by
  rw [v29_at, v25_real H, v26_real H, div_real (tot_pos _ _ _).ne']
  rfl

theorem v38_real (g : Fin 2) (r : Fin 4) (x s : Fin 4096) :
    (val_main_v38 (F := Ideal) a2 a3 (ix4 g r x s) : EReal) = ((dp (mk a0 a3 a1 a2) (head g r) x s : ℝ) : EReal) := by
  rw [v38_at]
  simp only [v37_real H, v2_real H, ← EReal.coe_mul, coe_sum, dp, grp_head]
  exact congrArg _ (Finset.sum_congr rfl fun _ _ => mul_comm _ _)

theorem v52_real (g : Fin 2) (r : Fin 4) (x s : Fin 4096) :
    (val_main_v52 (F := Ideal) a0 a1 a2 a3 (ix4 g r x s) : EReal) = ((ds (mk a0 a3 a1 a2) (head g r) x s : ℝ) : EReal) := by
  have hl := (tot_pos (mk a0 a3 a1 a2) (head g r) x).ne'
  rw [v52_at, v44_at]
  simp only [v43_at, v38_real H, v26_real H, v25_real H, ← EReal.coe_mul, div_real hl, div_real (mul_ne_zero hl hl), coe_sum,
    ← EReal.coe_neg, ← EReal.coe_add]
  exact congrArg _ (ds_quot _ _ _ _)

theorem v62_real (h : Fin 8) (d : Fin 64) (x : Fin 4096) :
    (val_main_v62 (F := Ideal) a0 a1 a2 a3 (ix3 h d x) : EReal) = ((dq (mk a0 a3 a1 a2) h d x : ℝ) : EReal) := by
  rw [v62_at, v54_at]
  simp only [v52_real H, v1_real H, ← EReal.coe_mul, coe_sum, head_grp]
  exact congrArg _ (Finset.sum_congr rfl fun _ _ => mul_comm _ _)

theorem v68_real (g : Fin 2) (d : Fin 64) (s : Fin 4096) :
    (val_main_v68 (F := Ideal) a0 a1 a2 a3 (ix3 g d s) : EReal) = ((dk (mk a0 a3 a1 a2) g d s : ℝ) : EReal) := by
  rw [v68_at, v56_at, Ideal.log_coe, if_neg (by norm_num)]
  simp only [v52_real H, v0_real H, ← EReal.coe_mul, coe_sum, div_real log2_ne]
  refine congrArg _ ?_
  unfold dk
  rw [Finset.sum_comm, Finset.sum_div]
  refine Finset.sum_congr rfl fun r _ => ?_
  rw [Finset.sum_div]
  exact Finset.sum_congr rfl fun x _ => by ring

theorem v70_real (g : Fin 2) (d : Fin 64) (s : Fin 4096) :
    (val_main_v70 (F := Ideal) a0 a1 a3 (ix3 g d s) : EReal) = ((dv (mk a0 a3 a1 a2) g d s : ℝ) : EReal) := by
  rw [v70_at, v39_at]
  simp only [v29_real H, v37_real H, ← EReal.coe_mul, coe_sum]
  rfl

end reals

end Cert.AttReference
-- ==== Proof.AttHost.lean ====
/- The attention's backward kernel: the saved output and log-sum-exp, and the operands, over the reals. -/
module

public import proofs.«01_k».proof.Proof.AttFrames
public import proofs.«01_k».proof.Proof.AttReference
public import Idealize.ShloMosaic.Lib.StableHlo.ReadAt

@[expose] public section

set_option maxRecDepth 16384

noncomputable section

open Idealize.ShloMosaic Idealize.ShloMosaic.TcCoe

namespace Cert.AttHost

open Cert.AttRun (grp rowOf head)
open Cert.AttFrames Cert.AttReals Cert.AttReference Cert.AttKernelIdeal Cert.AttKernelIdeal.Gen
open Cert.AttReferenceIdeal.Read (val_main_v0 val_main_v1 val_main_v2 val_main_v4 val_main_v5)
open HeadNorm (coe_sum)

section vec

variable (a0 a3 : FVec Ideal S4096x512 .f32) (a1 a2 : FVec Ideal S4096x128 .f32)

/-- The host's softmax, its output and its log-sum-exp in powers of two. -/
def hMx : FVec Ideal S2x4x4096x1 .f32 :=
  broadcastInDim S2x4x4096x1 ![0, 1, 2] bcast_S2x4x4096_S2x4x4096x1_0_1_2 (val_main_v5 (F := Ideal) a0 a1)
def hEx : FVec Ideal S2x4x4096x4096 .f32 :=
  Host.exp (subf (val_main_v4 (F := Ideal) a0 a1) (broadcastInDim S2x4x4096x4096 ![0, 1, 2, 3] bcast_S2x4x4096x1_S2x4x4096x4096_0_1_2_3 (hMx a0 a1)))
def hTot : FVec Ideal S2x4x4096x1 .f32 :=
  broadcastInDim S2x4x4096x1 ![0, 1, 2] bcast_S2x4x4096_S2x4x4096x1_0_1_2
    (Host.reduceAdd (hEx a0 a1) (constant S_ .f32 0x00000000#32) reducesTo_S2x4x4096x4096_S2x4x4096_d3 h_S_ : FVec Ideal S2x4x4096 .f32)
def hPr : FVec Ideal S2x4x4096x4096 .f32 :=
  Host.divf (hEx a0 a1) (broadcastInDim S2x4x4096x4096 ![0, 1, 2, 3] bcast_S2x4x4096x1_S2x4x4096x4096_0_1_2_3 (hTot a0 a1))
def hOut : FVec Ideal S8x64x4096 .f32 :=
  shapeCast S8x64x4096 (transpose S2x4x64x4096 [0, 2, 1, 3]
    (Host.dotGeneral (φ₁ := .f32) (φ₂ := .f32) dot_S4096x2x64_S2x4x4096x4096_S2x64x4x4096_0_3_2_12_1_0 none (val_main_v2 (F := Ideal) a2 : FVec Ideal S4096x2x64 .f32) (hPr a0 a1) : FVec Ideal S2x64x4x4096 .f32)
    transposes_S2x64x4x4096_S2x4x64x4096_0_2_1_3) shapeCasts_S2x4x64x4096_S8x64x4096
def log2 : FVec Ideal S_ .f32 := Host.log (constant S_ .f32 0x40000000#32)
def hL : FVec Ideal S2x4x4096x1 .f32 :=
  Host.divf (addf (hMx a0 a1) (Host.log (hTot a0 a1))) (broadcastInDim S2x4x4096x1 ![] bcast_S_S2x4x4096x1 log2)
def hLse : FVec Ideal S2x4x4096 .f32 := shapeCast S2x4x4096 (hL a0 a1) shapeCasts_S2x4x4096x1_S2x4x4096
def hQ : FVec Ideal S8x64x4096 .f32 :=
  transpose S8x64x4096 [1, 2, 0] (shapeCast S4096x8x64 (Host.divf (val_main_v0 (F := Ideal) a0) (broadcastInDim S4096x2x4x64 ![] bcast_S_S4096x2x4x64 log2)) shapeCasts_S4096x2x4x64_S4096x8x64)
    transposes_S4096x8x64_S8x64x4096_1_2_0
def hG : FVec Ideal S8x64x4096 .f32 :=
  transpose S8x64x4096 [1, 2, 0] (shapeCast S4096x8x64 a3 shapeCasts_S4096x512_S4096x8x64) transposes_S4096x8x64_S8x64x4096_1_2_0
def hK : FVec Ideal S2x4096x64 .f32 := transpose S2x4096x64 [1, 0, 2] (val_main_v1 (F := Ideal) a1) transposes_S4096x2x64_S2x4096x64_1_0_2
def hKt : FVec Ideal S2x64x4096 .f32 := transpose S2x64x4096 [0, 2, 1] (hK a1) transposes_S2x4096x64_S2x64x4096_0_2_1
def hV : FVec Ideal S2x4096x64 .f32 := transpose S2x4096x64 [1, 0, 2] (val_main_v2 (F := Ideal) a2) transposes_S4096x2x64_S2x4096x64_1_0_2

theorem hMx_at (g : Fin 2) (r : Fin 4) (x : Fin 4096) (z : Fin 1) : (hMx a0 a1 (ix4 g r x z) : EReal) = val_main_v5 (F := Ideal) a0 a1 (ix3 g r x) := by
  pointwise [hMx]
theorem hEx_at (g : Fin 2) (r : Fin 4) (x s : Fin 4096) :
    (hEx a0 a1 (ix4 g r x s) : EReal) = Ideal.exp ((val_main_v4 (F := Ideal) a0 a1 (ix4 g r x s) : EReal) - (val_main_v5 (F := Ideal) a0 a1 (ix3 g r x) : EReal)) := by
  pointwise [hEx, hMx]
theorem hTot_at (g : Fin 2) (r : Fin 4) (x : Fin 4096) (z : Fin 1) : (hTot a0 a1 (ix4 g r x z) : EReal) = ∑ s : Fin 4096, (hEx a0 a1 (ix4 g r x s) : EReal) := by
  pointwise [hTot]
theorem hPr_at (g : Fin 2) (r : Fin 4) (x s : Fin 4096) :
    (hPr a0 a1 (ix4 g r x s) : EReal) = Ideal.div (hEx a0 a1 (ix4 g r x s)) (hTot a0 a1 (ix4 g r x 0)) := by
  pointwise [hPr]
theorem hOut_at (h : Fin 8) (d : Fin 64) (x : Fin 4096) :
    (hOut a0 a1 a2 (ix3 h d x) : EReal) = ∑ s : Fin 4096, (val_main_v2 (F := Ideal) a2 (ix3 s (grp h) d) : EReal) * (hPr a0 a1 (ix4 (grp h) (rowOf h) x s) : EReal) := by
  pointwise [hOut, grp, rowOf]
theorem log2_at (i : S_.Idx) : (log2 i : EReal) = ((Real.log 2 : ℝ) : EReal) := by
  show Ideal.log (Ideal.ofBits .f32 0x40000000#32) = _
  rw [lit_two, Ideal.log_coe, if_neg (by norm_num)]
theorem quot_at (M T : FVec Ideal S2x4x4096x1 .f32) (L : FVec Ideal S_ .f32) (i : S2x4x4096x1.Idx) :
    (Host.divf (addf M (Host.log T)) (broadcastInDim S2x4x4096x1 ![] bcast_S_S2x4x4096x1 L) i : EReal)
      = Ideal.div ((M i : EReal) + Ideal.log (T i)) (L ix0) := by
  pointwise
theorem hL_at (i : S2x4x4096x1.Idx) : (hL a0 a1 i : EReal) = Ideal.div ((hMx a0 a1 i : EReal) + Ideal.log (hTot a0 a1 i)) (log2 ix0) := by
  unfold hL
  exact quot_at (hMx a0 a1) (hTot a0 a1) log2 i
theorem hLse_at (g : Fin 2) (r : Fin 4) (x : Fin 4096) : (hLse a0 a1 (ix3 g r x) : EReal) = hL a0 a1 (ix4 g r x 0) := by
  pointwise [hLse]
theorem hQ_at (h : Fin 8) (d : Fin 64) (x : Fin 4096) :
    (hQ a0 (ix3 h d x) : EReal) = Ideal.div (val_main_v0 (F := Ideal) a0 (ix4 x (grp h) (rowOf h) d)) (log2 ix0) := by
  pointwise [hQ, grp, rowOf]
theorem hG_at (h : Fin 8) (d : Fin 64) (x : Fin 4096) : (hG a3 (ix3 h d x) : EReal) = a3 (ix2 x ⟨h.val * 64 + d.val, by omega⟩) := by
  pointwise [hG]
theorem hK_at (g : Fin 2) (s : Fin 4096) (d : Fin 64) : (hK a1 (ix3 g s d) : EReal) = val_main_v1 (F := Ideal) a1 (ix3 s g d) := by
  pointwise [hK]
theorem hKt_at (g : Fin 2) (d : Fin 64) (s : Fin 4096) : (hKt a1 (ix3 g d s) : EReal) = val_main_v1 (F := Ideal) a1 (ix3 s g d) := by
  pointwise [hKt, hK]
theorem hV_at (g : Fin 2) (s : Fin 4096) (d : Fin 64) : (hV a2 (ix3 g s d) : EReal) = val_main_v2 (F := Ideal) a2 (ix3 s g d) := by
  pointwise [hV]

variable {a0 a1 a2 a3} (H : Cert.AttReference.Real a0 a3 a1 a2)
include H

theorem hEx_real (g : Fin 2) (r : Fin 4) (x s : Fin 4096) :
    (hEx a0 a1 (ix4 g r x s) : EReal) = ((ex (mk a0 a3 a1 a2) (head g r) x s : ℝ) : EReal) := by
  rw [hEx_at, v4_real H, v5_real H, ← EReal.coe_sub]
  rfl
theorem hTot_real (g : Fin 2) (r : Fin 4) (x : Fin 4096) (z : Fin 1) :
    (hTot a0 a1 (ix4 g r x z) : EReal) = ((tot (mk a0 a3 a1 a2) (head g r) x : ℝ) : EReal) := by
  rw [hTot_at]
  simp only [hEx_real H, coe_sum]
  rfl
theorem hPr_real (g : Fin 2) (r : Fin 4) (x s : Fin 4096) :
    (hPr a0 a1 (ix4 g r x s) : EReal) = ((pr (mk a0 a3 a1 a2) (head g r) x s : ℝ) : EReal) := by
  rw [hPr_at, hEx_real H, hTot_real H, div_real (tot_pos _ _ _).ne']
  rfl
theorem hOut_real (h : Fin 8) (d : Fin 64) (x : Fin 4096) :
    (hOut a0 a1 a2 (ix3 h d x) : EReal) = ((out (mk a0 a3 a1 a2) h x d : ℝ) : EReal) := by
  rw [hOut_at]
  simp only [v2_real H, hPr_real H, ← EReal.coe_mul, coe_sum, head_grp]
  rfl
theorem hLse_real (g : Fin 2) (r : Fin 4) (x : Fin 4096) :
    (hLse a0 a1 (ix3 g r x) : EReal) = ((lse (mk a0 a3 a1 a2) (head g r) x : ℝ) : EReal) := by
  rw [hLse_at, hL_at, hMx_at, v5_real H, hTot_real H, log2_at, Ideal.log_coe, if_neg (not_le.mpr (tot_pos _ _ _)), ← EReal.coe_add, div_real log2_ne]
  rfl
theorem hQ_real (h : Fin 8) (d : Fin 64) (x : Fin 4096) :
    (hQ a0 (ix3 h d x) : EReal) = (((mk a0 a3 a1 a2).q x h d / Real.log 2 : ℝ) : EReal) := by
  rw [hQ_at, v0_real H, log2_at, div_real log2_ne, head_grp]
theorem hG_real (h : Fin 8) (d : Fin 64) (x : Fin 4096) : (hG a3 (ix3 h d x) : EReal) = (((mk a0 a3 a1 a2).g x h d : ℝ) : EReal) := by
  rw [hG_at]; exact back (H.g _)

end vec

end Cert.AttHost
-- ==== Proof.AttLaunch.lean ====
/- The attention's backward kernel: what the lines before the launch compute. -/
module

public import proofs.«01_k».proof.Proof.AttHost
public import Idealize.ShloMosaic.Lib.StableHlo.ReadAt

@[expose] public section

set_option maxRecDepth 16384

noncomputable section

open Idealize.ShloMosaic Idealize.ShloMosaic.TcCoe

namespace Cert.AttHost

open Cert.AttRun (grp rowOf head)
open Cert.AttFrames Cert.AttReals Cert.AttReference Cert.AttKernelIdeal Cert.AttKernelIdeal.Gen
open Cert.AttReferenceIdeal.Read (val_main_v0 val_main_v1 val_main_v2 val_main_v4 val_main_v5)
open HeadNorm (coe_sum)

section host

variable (m : (ℓ : Loc nD τ sig) → Buf (Elt Ideal) ℓ) (c : Dev nD)

/-- The arguments. -/
abbrev A0 : FVec Ideal S4096x512 .f32 := m (c.tc.loc main_arg0)
abbrev A1 : FVec Ideal S4096x128 .f32 := m (c.tc.loc main_arg1)
abbrev A2 : FVec Ideal S4096x128 .f32 := m (c.tc.loc main_arg2)
abbrev A3 : FVec Ideal S4096x512 .f32 := m (c.tc.loc main_arg3)

theorem host0 : (V m c main_v30 : FVec Ideal S8x64x4096 .bf16) = hQ (A0 m c) := by
  unfold V
  after_reads_simp
  rfl
theorem host1 : (V m c main_v35 : FVec Ideal S2x4096x64 .bf16) = hK (A1 m c) := by
  unfold V
  after_reads_simp
  rfl
theorem host2 : (V m c main_v38 : FVec Ideal S2x64x4096 .bf16) = hKt (A1 m c) := by
  unfold V
  after_reads_simp
  rfl
theorem host3 : (V m c main_v37 : FVec Ideal S2x4096x64 .bf16) = hV (A2 m c) := by
  unfold V
  after_reads_simp
  rfl
theorem host4 : (V m c main_v33 : FVec Ideal S8x64x4096 .bf16) = hG (A3 m c) := by
  unfold V
  after_reads_simp
  rfl
theorem host5 : (V m c main_v16 : FVec Ideal S8x64x4096 .f32) = hOut (A0 m c) (A1 m c) (A2 m c) := by
  unfold V
  after_reads_simp
  rfl
theorem host6 : (V m c main_v23 : FVec Ideal S2x4x4096 .f32) = hLse (A0 m c) (A1 m c) := by
  unfold V
  after_reads_simp
  rfl

end host

end Cert.AttHost
-- ==== Proof.AttRel.lean ====
/- The attention's backward kernel over its sixteen points: what the three gradients hold after each. -/
module

public import proofs.«01_k».proof.Proof.AttFrames
public import proofs.«01_k».proof.Proof.AttPoint

@[expose] public section

set_option maxRecDepth 16384

noncomputable section

namespace Cert.AttValue

open Cert.AttRun Cert.AttFrames Cert.AttKernelIdeal Cert.AttKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

local notation "𝕄" => MT nD τ sig Unit (Elt Ideal) ℕ (UR sig nD τ) ℕ

variable (m : (ℓ : Loc nD τ sig) → Buf (Elt Ideal) ℓ) (ρ : Dev nD → PrngReg)

theorem coord1 : ∀ t : Fin cfg0.N, (grid0.coords t 1).val = t.val % 4 := (by decide +kernel : ∀ t : Fin grid0.N, _)
theorem coord0 : ∀ t : Fin cfg0.N, (grid0.coords t 0).val = t.val / 4 := (by decide +kernel : ∀ t : Fin grid0.N, _)

theorem cond1_iff (i : grid0.Coords) : k0_cond1 i = 1#1 ↔ (i 1).val = 0 := by
  have h : (i 1).val < 4 := (i 1).isLt
  unfold k0_cond1
  generalize (i 1).val = n at h
  interval_cases n <;> decide

theorem cond3_iff (i : grid0.Coords) : k0_cond3 i = 1#1 ↔ (i 0).val = 0 := by
  have h : (i 0).val < 4 := (i 0).isLt
  unfold k0_cond3
  generalize (i 0).val = n at h
  interval_cases n <;> decide

/-- What point `t` adds to the three gradients. -/
def C7 (c : Dev nD) (t : Fin cfg0.N) (h : Fin 8) (d : Fin 64) (x : Fin 1024) : EReal :=
  c7 (block m c 0 t) (block m c 1 t) (block m c 2 t) (block m c 3 t) (block m c 4 t) (block m c 5 t) (block m c 6 t) h d x
def C8 (c : Dev nD) (t : Fin cfg0.N) (g : Fin 2) (d : Fin 64) (s : Fin 1024) : EReal :=
  c8 (block m c 0 t) (block m c 1 t) (block m c 3 t) (block m c 4 t) (block m c 5 t) (block m c 6 t) g d s
def C9 (c : Dev nD) (t : Fin cfg0.N) (g : Fin 2) (d : Fin 64) (s : Fin 1024) : EReal :=
  c9 (block m c 0 t) (block m c 1 t) (block m c 4 t) (block m c 6 t) g d s

def tile (q : Fin 4096) : Fin 1024 := ⟨q.val % 1024, Nat.mod_lt _ (by norm_num)⟩

/-- The step at a point, with what it leaves. -/
theorem step (c : Dev nD) (t : Fin cfg0.N) (y7 : Vec Ideal S8x64x4096 .f32) (y8 y9 : Vec Ideal S2x64x1024 .f32) :
    ∃ (L7 : List (View.Piece (Elt Ideal) S8x64x4096 .f32)) (L8 L9 : List (View.Piece (Elt Ideal) S2x64x1024 .f32)),
      Leaves c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (block m c 0 t) (block m c 1 t) (block m c 2 t) (block m c 3 t) (block m c 4 t) (block m c 5 t) (block m c 6 t) y7 y8 y9 L7 L8 L9
      ∧ (∀ h d q, ((win0_7.stage (cfg0.slots t 7)).view.read (Elt Ideal) ((win0_7.stage (cfg0.slots t 7)).view.writes (Elt Ideal) ((hstage0_7 ((cfg0.slots t 7).cast nbuf0_7)).unread y7) L7) (ix3 h d q) : EReal) =
          if q.val / 1024 = t.val % 4 then (if t.val / 4 = 0 then 0 else (y7 (ix3 h d q) : EReal)) + C7 m c t h d (tile q) else y7 (ix3 h d q))
      ∧ (∀ g d s, ((win0_8.stage (cfg0.slots t 8)).view.read (Elt Ideal) ((win0_8.stage (cfg0.slots t 8)).view.writes (Elt Ideal) ((hstage0_8 ((cfg0.slots t 8).cast nbuf0_8)).unread y8) L8) (ix3 g d s) : EReal) =
          (if t.val % 4 = 0 then 0 else (y8 (ix3 g d s) : EReal)) + C8 m c t g d s)
      ∧ (∀ g d s, ((win0_9.stage (cfg0.slots t 9)).view.read (Elt Ideal) ((win0_9.stage (cfg0.slots t 9)).view.writes (Elt Ideal) ((hstage0_9 ((cfg0.slots t 9).cast nbuf0_9)).unread y9) L9) (ix3 g d s) : EReal) =
          (if t.val % 4 = 0 then 0 else (y9 (ix3 g d s) : EReal)) + C9 m c t g d s) := by
  have e1 := (cond1_iff (grid0.coords t)).trans (by rw [coord1])
  have e3 := (cond3_iff (grid0.coords t)).trans (by rw [coord0])
  by_cases h1 : k0_cond1 (grid0.coords t) = 1#1 <;> by_cases h3 : k0_cond3 (grid0.coords t) = 1#1
  · refine ⟨_, _, _, (stepA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (block m c 0 t) (block m c 1 t) (block m c 2 t) (block m c 3 t) (block m c 4 t) (block m c 5 t) (block m c 6 t) y7 y8 y9 h1 (fun h => (cond2_iff _).mp h h1) h3 (fun h => (cond4_iff _).mp h h3)).2.2.2, fun h d q => ?_, fun g d s => ?_, fun g d s => ?_⟩
    · rw [if_pos (e3.mp h3), zero_add]
      refine (readA7 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (block m c 0 t) (block m c 1 t) (block m c 2 t) (block m c 3 t) (block m c 4 t) (block m c 5 t) (block m c 6 t) y7 y8 y9 h1 (fun h => (cond2_iff _).mp h h1) h3 (fun h => (cond4_iff _).mp h h3) h d q).trans ?_
      rw [coord1]
      rfl
    · rw [if_pos (e1.mp h1), zero_add]
      exact readA8 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (block m c 0 t) (block m c 1 t) (block m c 2 t) (block m c 3 t) (block m c 4 t) (block m c 5 t) (block m c 6 t) y7 y8 y9 h1 (fun h => (cond2_iff _).mp h h1) h3 (fun h => (cond4_iff _).mp h h3) g d s
    · rw [if_pos (e1.mp h1), zero_add]
      exact readA9 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (block m c 0 t) (block m c 1 t) (block m c 2 t) (block m c 3 t) (block m c 4 t) (block m c 5 t) (block m c 6 t) y7 y8 y9 h1 (fun h => (cond2_iff _).mp h h1) h3 (fun h => (cond4_iff _).mp h h3) g d s
  · refine ⟨_, _, _, (stepB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (block m c 0 t) (block m c 1 t) (block m c 2 t) (block m c 3 t) (block m c 4 t) (block m c 5 t) (block m c 6 t) y7 y8 y9 h1 (fun h => (cond2_iff _).mp h h1) h3 ((cond4_iff _).mpr h3)).2.2.2, fun h d q => ?_, fun g d s => ?_, fun g d s => ?_⟩
    · rw [if_neg fun h => h3 (e3.mpr h)]
      refine (readB7 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (block m c 0 t) (block m c 1 t) (block m c 2 t) (block m c 3 t) (block m c 4 t) (block m c 5 t) (block m c 6 t) y7 y8 y9 h1 (fun h => (cond2_iff _).mp h h1) h3 ((cond4_iff _).mpr h3) h d q).trans ?_
      rw [coord1]
      rfl
    · rw [if_pos (e1.mp h1), zero_add]
      exact readB8 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (block m c 0 t) (block m c 1 t) (block m c 2 t) (block m c 3 t) (block m c 4 t) (block m c 5 t) (block m c 6 t) y7 y8 y9 h1 (fun h => (cond2_iff _).mp h h1) h3 ((cond4_iff _).mpr h3) g d s
    · rw [if_pos (e1.mp h1), zero_add]
      exact readB9 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (block m c 0 t) (block m c 1 t) (block m c 2 t) (block m c 3 t) (block m c 4 t) (block m c 5 t) (block m c 6 t) y7 y8 y9 h1 (fun h => (cond2_iff _).mp h h1) h3 ((cond4_iff _).mpr h3) g d s
  · refine ⟨_, _, _, (stepC c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (block m c 0 t) (block m c 1 t) (block m c 2 t) (block m c 3 t) (block m c 4 t) (block m c 5 t) (block m c 6 t) y7 y8 y9 h1 ((cond2_iff _).mpr h1) h3 (fun h => (cond4_iff _).mp h h3)).2.2.2, fun h d q => ?_, fun g d s => ?_, fun g d s => ?_⟩
    · rw [if_pos (e3.mp h3), zero_add]
      refine (readC7 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (block m c 0 t) (block m c 1 t) (block m c 2 t) (block m c 3 t) (block m c 4 t) (block m c 5 t) (block m c 6 t) y7 y8 y9 h1 ((cond2_iff _).mpr h1) h3 (fun h => (cond4_iff _).mp h h3) h d q).trans ?_
      rw [coord1]
      rfl
    · rw [if_neg fun h => h1 (e1.mpr h)]
      exact readC8 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (block m c 0 t) (block m c 1 t) (block m c 2 t) (block m c 3 t) (block m c 4 t) (block m c 5 t) (block m c 6 t) y7 y8 y9 h1 ((cond2_iff _).mpr h1) h3 (fun h => (cond4_iff _).mp h h3) g d s
    · rw [if_neg fun h => h1 (e1.mpr h)]
      exact readC9 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (block m c 0 t) (block m c 1 t) (block m c 2 t) (block m c 3 t) (block m c 4 t) (block m c 5 t) (block m c 6 t) y7 y8 y9 h1 ((cond2_iff _).mpr h1) h3 (fun h => (cond4_iff _).mp h h3) g d s
  · refine ⟨_, _, _, (stepD c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (block m c 0 t) (block m c 1 t) (block m c 2 t) (block m c 3 t) (block m c 4 t) (block m c 5 t) (block m c 6 t) y7 y8 y9 h1 ((cond2_iff _).mpr h1) h3 ((cond4_iff _).mpr h3)).2.2.2, fun h d q => ?_, fun g d s => ?_, fun g d s => ?_⟩
    · rw [if_neg fun h => h3 (e3.mpr h)]
      refine (readD7 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (block m c 0 t) (block m c 1 t) (block m c 2 t) (block m c 3 t) (block m c 4 t) (block m c 5 t) (block m c 6 t) y7 y8 y9 h1 ((cond2_iff _).mpr h1) h3 ((cond4_iff _).mpr h3) h d q).trans ?_
      rw [coord1]
      rfl
    · rw [if_neg fun h => h1 (e1.mpr h)]
      exact readD8 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (block m c 0 t) (block m c 1 t) (block m c 2 t) (block m c 3 t) (block m c 4 t) (block m c 5 t) (block m c 6 t) y7 y8 y9 h1 ((cond2_iff _).mpr h1) h3 ((cond4_iff _).mpr h3) g d s
    · rw [if_neg fun h => h1 (e1.mpr h)]
      exact readD9 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (block m c 0 t) (block m c 1 t) (block m c 2 t) (block m c 3 t) (block m c 4 t) (block m c 5 t) (block m c 6 t) y7 y8 y9 h1 ((cond2_iff _).mpr h1) h3 ((cond4_iff _).mpr h3) g d s

/-- The sum of `f` over the points up to `t` that `p` picks. -/
def upTo (f : Fin cfg0.N → EReal) (p : ℕ → Prop) [DecidablePred p] (t : ℕ) : EReal := ∑ u : Fin cfg0.N, if u.val ≤ t ∧ p u.val then f u else 0

theorem upTo_only (f : Fin cfg0.N → EReal) (p : ℕ → Prop) [DecidablePred p] (t : Fin cfg0.N) (ht : p t.val)
    (h : ∀ u : ℕ, u < t.val → ¬p u) : upTo f p t.val = f t := by
  unfold upTo
  rw [Finset.sum_eq_single t]
  · rw [if_pos ⟨le_rfl, ht⟩]
  · intro u _ hu
    rw [if_neg]
    rintro ⟨h1, h2⟩
    exact h u.val (lt_of_le_of_ne h1 fun e => hu (Fin.ext e)) h2
  · intro h
    exact absurd (Finset.mem_univ _) h

theorem upTo_miss (f : Fin cfg0.N → EReal) (p : ℕ → Prop) [DecidablePred p] (t : Fin cfg0.N) (h0 : t.val ≠ 0) (ht : ¬p t.val) :
    upTo f p t.val = upTo f p (t.val - 1) := by
  unfold upTo
  refine Finset.sum_congr rfl fun u _ => ?_
  refine if_congr ⟨fun h => ⟨?_, h.2⟩, fun h => ⟨by omega, h.2⟩⟩ rfl rfl
  have : u.val ≠ t.val := fun e => ht (e ▸ h.2)
  have := h.1
  omega

theorem upTo_hit (f : Fin cfg0.N → EReal) (p : ℕ → Prop) [DecidablePred p] (t : Fin cfg0.N) (h0 : t.val ≠ 0) (ht : p t.val) :
    upTo f p t.val = upTo f p (t.val - 1) + f t := by
  unfold upTo
  have e : f t = ∑ u : Fin cfg0.N, if u = t then f u else 0 := by rw [Finset.sum_ite_eq' Finset.univ t f, if_pos (Finset.mem_univ _)]
  rw [e, ← Finset.sum_add_distrib]
  refine Finset.sum_congr rfl fun u _ => ?_
  by_cases hu : u = t
  · subst hu
    rw [if_pos ⟨le_rfl, ht⟩, if_neg (fun h => by have := h.1; omega), if_pos rfl, zero_add]
  · have hv : u.val ≠ t.val := fun e => hu (Fin.ext e)
    rw [if_neg hu, add_zero]
    exact if_congr ⟨fun h => ⟨by have := h.1; omega, h.2⟩, fun h => ⟨by have := h.1; omega, h.2⟩⟩ rfl rfl

/-- What the three gradients hold after point `t`. -/
def P7 (c : Dev nD) (t : Fin cfg0.N) (X : Vec Ideal S8x64x4096 .f32) : Prop :=
  ∀ (h : Fin 8) (d : Fin 64) (q : Fin 4096), q.val / 1024 ≤ t.val →
    (X (ix3 h d q) : EReal) = upTo (fun u => C7 m c u h d (tile q)) (fun u => u % 4 = q.val / 1024) t.val
def P8 (c : Dev nD) (t : Fin cfg0.N) (X : Vec Ideal S2x64x1024 .f32) : Prop :=
  ∀ (g : Fin 2) (d : Fin 64) (s : Fin 1024), (X (ix3 g d s) : EReal) = upTo (fun u => C8 m c u g d s) (fun u => u / 4 = t.val / 4) t.val
def P9 (c : Dev nD) (t : Fin cfg0.N) (X : Vec Ideal S2x64x1024 .f32) : Prop :=
  ∀ (g : Fin 2) (d : Fin 64) (s : Fin 1024), (X (ix3 g d s) : EReal) = upTo (fun u => C9 m c u g d s) (fun u => u / 4 = t.val / 4) t.val

def Rl (c : Dev nD) (w : Fin cfg0.W) (t : Fin cfg0.N) (X : (cfg0.win w).block.Idx → Elt Ideal (cfg0.win w).elt) : Prop :=
  match w with
  | ⟨7, _⟩ => P7 m c t X
  | ⟨8, _⟩ => P8 m c t X
  | ⟨9, _⟩ => P9 m c t X
  | _ => True

def rd (c : Dev nD) : RDat τ (Elt Ideal) Unit ℕ (UR sig nD τ) ℕ cfg0 c := (dats m 0 c).toRRel outs (Rl m c)

/-- The point before. -/
abbrev prev (t : Fin cfg0.N) : Fin cfg0.N := ⟨t.val - 1, Nat.lt_of_le_of_lt (Nat.sub_le _ _) t.isLt⟩

theorem lt16 (t : Fin cfg0.N) : t.val < 16 := N_0 ▸ t.isLt

/-- What a later point finds is what the point before left. -/
theorem found (c : Dev nD) (w : Fin cfg0.W) (hw : outs w = true) (hi : (cfg0.win w).isOut = true) (t : Fin cfg0.N) (ht : t.val ≠ 0)
    (hfl : (cfg0.win w).flush (prev t) = false)
    (Y) (hY : (rd m c).Finds w t Y) : Rl m c w (prev t) Y := by
  rcases (RDat.finds_of_pos (rd m c) (by unfold Window.fetch; rw [hi]; rfl) ht Y).mp hY with h | h
  · exact absurd (hfl.symm.trans h) (by decide)
  · exact Dat.toRRel_leaves (dats m 0 c) hw h

theorem next7 (c : Dev nD) (t : Fin cfg0.N) (Y X : Vec Ideal S8x64x4096 .f32) (hY : t.val ≠ 0 → P7 m c (prev t) Y)
    (hX : ∀ h d q, (X (ix3 h d q) : EReal) =
      if q.val / 1024 = t.val % 4 then (if t.val / 4 = 0 then 0 else (Y (ix3 h d q) : EReal)) + C7 m c t h d (tile q) else Y (ix3 h d q)) :
    P7 m c t X := by
  intro h d q hq
  rw [hX]
  have ht := lt16 t
  have hq4 := q.isLt
  by_cases e : q.val / 1024 = t.val % 4
  · rw [if_pos e]
    by_cases hj : t.val / 4 = 0
    · rw [if_pos hj, zero_add]
      exact (upTo_only (fun u => C7 m c u h d (tile q)) (fun u => u % 4 = q.val / 1024) t e.symm fun u hu h => by omega).symm
    · rw [if_neg hj, hY (by omega) h d q (show q.val / 1024 ≤ t.val - 1 by omega)]
      exact (upTo_hit (fun u => C7 m c u h d (tile q)) (fun u => u % 4 = q.val / 1024) t (by omega) e.symm).symm
  · rw [if_neg e, hY (by omega) h d q (show q.val / 1024 ≤ t.val - 1 by omega)]
    exact (upTo_miss (fun u => C7 m c u h d (tile q)) (fun u => u % 4 = q.val / 1024) t (by omega) fun h => e h.symm).symm

theorem next8 (f : Fin cfg0.N → EReal) (t : Fin cfg0.N) (Y X : EReal)
    (hY : t.val ≠ 0 → t.val % 4 ≠ 0 → Y = upTo f (fun u => u / 4 = (t.val - 1) / 4) (t.val - 1))
    (hX : X = (if t.val % 4 = 0 then 0 else Y) + f t) : X = upTo f (fun u => u / 4 = t.val / 4) t.val := by
  rw [hX]
  by_cases e : t.val % 4 = 0
  · rw [if_pos e, zero_add]
    exact (upTo_only f (fun u => u / 4 = t.val / 4) t rfl fun u hu h => by omega).symm
  · rw [if_neg e, hY (by omega) e, show (t.val - 1) / 4 = t.val / 4 by omega]
    exact (upTo_hit f (fun u => u / 4 = t.val / 4) t (by omega) rfl).symm

/-- What the body is called with, -/
def pre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ Y, ⌜(rd m c).Finds 7 t Y⌝ ∗ owns (c : Thread nD τ) (win0_7.stage (cfg0.slots t 7)) fullShare Y)
    ∗ (∃ Y, ⌜(rd m c).Finds 8 t Y⌝ ∗ owns (c : Thread nD τ) (win0_8.stage (cfg0.slots t 8)) fullShare Y)
    ∗ (∃ Y, ⌜(rd m c).Finds 9 t Y⌝ ∗ owns (c : Thread nD τ) (win0_9.stage (cfg0.slots t 9)) fullShare Y))

/-- and what it gives back. -/
def post (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ (∃ X, ⌜Rl m c 7 t X⌝ ∗ owns (c : Thread nD τ) (win0_7.stage (cfg0.slots t 7)) fullShare X)
    ∗ (∃ X, ⌜Rl m c 8 t X⌝ ∗ owns (c : Thread nD τ) (win0_8.stage (cfg0.slots t 8)) fullShare X)
    ∗ (∃ X, ⌜Rl m c 9 t X⌝ ∗ owns (c : Thread nD τ) (win0_9.stage (cfg0.slots t 9)) fullShare X))

set_option maxHeartbeats 1600000 in
theorem sound (c : Dev nD) (t : Fin cfg0.N) :
    pre m c t ⊢ wp frame (wpE (defs₀ (F := Ideal)) Variants.none c none) Set.univ (bodyAt0 t) (fun _ => post m c t) := by
  unfold pre post bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl, after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, %f7, H7⟩, ⟨%d8, %f8, H8⟩, ⟨%d9, %f9, H9⟩⟩
  obtain ⟨L7, L8, L9, h, r7, r8, r9⟩ := step m c t d7 d8 d9
  have hflush8 : t.val ≠ 0 → t.val % 4 ≠ 0 → (cfg0.win 8).flush (prev t) = false := fun h0 h4 =>
    Bool.eq_false_iff.mpr fun h => by have hm := (flush0_8 _).mp h; change (t.val - 1) % _ = _ at hm; omega
  have hflush9 : t.val ≠ 0 → t.val % 4 ≠ 0 → (cfg0.win 9).flush (prev t) = false := fun h0 h4 =>
    Bool.eq_false_iff.mpr fun h => by have hm := (flush0_9 _).mp h; change (t.val - 1) % _ = _ at hm; omega
  have hflush7 : t.val ≠ 0 → (cfg0.win 7).flush (prev t) = false := fun h0 =>
    Bool.eq_false_iff.mpr fun h => by have hm := (flush0_7 _).mp h; have := lt16 t; change (t.val - 1) % _ = _ at hm; omega
  iapply (h Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr
    swap
    · unfold owns; iexists _; isplitr
      swap; · iexact H7
      ipureintro; rfl
    ipureintro; exact next7 m c t d7 _ (fun h0 => found m c 7 rfl rfl t h0 (hflush7 h0) d7 f7) r7
  isplitl [H8]
  · iexists _; isplitr
    swap
    · unfold owns; iexists _; isplitr
      swap; · iexact H8
      ipureintro; rfl
    ipureintro; exact fun g d s => next8 (fun u => C8 m c u g d s) t (d8 (ix3 g d s)) _ (fun h0 h4 => found m c 8 rfl rfl t h0 (hflush8 h0 h4) d8 f8 g d s) (r8 g d s)
  iexists _; isplitr
  swap
  · unfold owns; iexists _; isplitr
    swap; · iexact H9
    ipureintro; rfl
  ipureintro; exact fun g d s => next8 (fun u => C9 m c u g d s) t (d9 (ix3 g d s)) _ (fun h0 h4 => found m c 9 rfl rfl t h0 (hflush9 h0 h4) d9 f9 g d s) (r9 g d s)

theorem obligation (c : Dev nD) : Pipeline.BodyObligationRel (dats (F := Ideal) m 0 c) (defs₀ (F := Ideal)) Variants.none () Set.univ outs (Rl m c) := fun t => by
  rw [bigSep_W0, bigSep_W0, row]
  exact triple_restated (sound m c t) rfl .rfl fun _ => .rfl

set_option backward.isDefEq.respectTransparency.types false in
theorem runs : θ_run defs (onTc (τ := τ) (main (F := Ideal))) (s₀ m ρ)
    (fun r => Pipeline.RDat.FramePost cfg0 (rd m) (V m) r ∧ r.2.sem = fun _ => 0) :=
  Pipeline.RDat.θ_run_frame (Q' := _) cfgs (0 : Fin 1) launch0 defs₀ Variants.none (rd m) m ρ main
    (hbody := fun c => (obligation m c).toRRel) (hshare := fun c => (dats m 0 c).share_full fun _ => rfl)
    (howed := fun _ _ => rfl) (V := V m) (hmain := hmain m) (hA := A_eq m) (hΦ := fun _ _ => rfl)

end Cert.AttValue

end
-- ==== Proof.AttFinals.lean ====
/- The attention's backward kernel: the blocks of a point and the arrays at the end, over the reals. -/
module

public import proofs.«01_k».proof.Proof.AttLaunch
public import proofs.«01_k».proof.Proof.AttRel
public import Idealize.ShloMosaic.Lib.Pipeline.ArrRel

@[expose] public section

set_option maxRecDepth 16384

noncomputable section

open Idealize.ShloMosaic Idealize.ShloMosaic.TcCoe Idealize.SL.Sem

namespace Cert.AttFinals

open Cert.AttRun (grp rowOf head c7 c8 c9)
open Cert.AttFrames Cert.AttValue Cert.AttReals Cert.AttReference Cert.AttHost Cert.AttKernelIdeal Cert.AttKernelIdeal.Gen
open Idealize.ShloMosaic.Pipeline (Dat RDat Cfg Window)
open HeadNorm (coe_sum)

variable (m : (ℓ : Loc nD τ sig) → Buf (Elt Ideal) ℓ) (c : Dev nD)

theorem idx : ∀ t : Fin cfg0.N, win0_0.index t = ![0, 0, t.val % 4] ∧
    win0_1.index t = ![0, t.val / 4, 0] ∧
    win0_2.index t = ![0, 0, t.val / 4] ∧
    win0_3.index t = ![0, t.val / 4, 0] ∧
    win0_4.index t = ![0, 0, t.val % 4] ∧
    win0_5.index t = ![0, 0, t.val % 4] ∧
    win0_6.index t = ![0, 0, t.val % 4] ∧
    win0_7.index t = ![0, 0, 0] ∧
    win0_8.index t = ![0, 0, t.val / 4] ∧
    win0_9.index t = ![0, 0, t.val / 4] := (by decide +kernel : ∀ t : Fin grid0.N, _)

/-- Place `x` of the row tile, and of the column tile, of a point. -/
def rowAt (t : Fin cfg0.N) (x : Fin 1024) : Fin 4096 := ⟨t.val % 4 * 1024 + x.val, by omega⟩
def colAt (t : Fin cfg0.N) (x : Fin 1024) : Fin 4096 := ⟨t.val / 4 * 1024 + x.val, by have := lt16 t; omega⟩

theorem rowAt_eq (t : Fin cfg0.N) (x : Fin 1024) : rowAt t x = tl (t.val % 4) x := Fin.ext (by simp only [rowAt, tl]; omega)
theorem colAt_eq (t : Fin cfg0.N) (x : Fin 1024) : colAt t x = tl (t.val / 4) x := Fin.ext (by have := lt16 t; simp only [colAt, tl]; omega)

theorem rd0 (t : Fin cfg0.N) (h : Fin 8) (d : Fin 64) (x : Fin 1024) :
    block m c 0 t (ix3 h d x) = (V m c main_v30 : FVec Ideal S8x64x4096 .bf16) (ix3 h d (rowAt t x)) := by
  simp only [block]
  refine congrArg (V m c main_v30) ?_
  unfold rowAt
  blk_ext [idx t]
theorem rd1 (t : Fin cfg0.N) (g : Fin 2) (s : Fin 1024) (d : Fin 64) :
    block m c 1 t (ix3 g s d) = (V m c main_v35 : FVec Ideal S2x4096x64 .bf16) (ix3 g (colAt t s) d) := by
  simp only [block]
  refine congrArg (V m c main_v35) ?_
  unfold colAt
  blk_ext [idx t]
theorem rd2 (t : Fin cfg0.N) (g : Fin 2) (d : Fin 64) (s : Fin 1024) :
    block m c 2 t (ix3 g d s) = (V m c main_v38 : FVec Ideal S2x64x4096 .bf16) (ix3 g d (colAt t s)) := by
  simp only [block]
  refine congrArg (V m c main_v38) ?_
  unfold colAt
  blk_ext [idx t]
theorem rd3 (t : Fin cfg0.N) (g : Fin 2) (s : Fin 1024) (d : Fin 64) :
    block m c 3 t (ix3 g s d) = (V m c main_v37 : FVec Ideal S2x4096x64 .bf16) (ix3 g (colAt t s) d) := by
  simp only [block]
  refine congrArg (V m c main_v37) ?_
  unfold colAt
  blk_ext [idx t]
theorem rd4 (t : Fin cfg0.N) (h : Fin 8) (d : Fin 64) (x : Fin 1024) :
    block m c 4 t (ix3 h d x) = (V m c main_v33 : FVec Ideal S8x64x4096 .bf16) (ix3 h d (rowAt t x)) := by
  simp only [block]
  refine congrArg (V m c main_v33) ?_
  unfold rowAt
  blk_ext [idx t]
theorem rd5 (t : Fin cfg0.N) (h : Fin 8) (d : Fin 64) (x : Fin 1024) :
    block m c 5 t (ix3 h d x) = (V m c main_v16 : FVec Ideal S8x64x4096 .f32) (ix3 h d (rowAt t x)) := by
  simp only [block]
  refine congrArg (V m c main_v16) ?_
  unfold rowAt
  blk_ext [idx t]
theorem rd6 (t : Fin cfg0.N) (g : Fin 2) (r : Fin 4) (x : Fin 1024) :
    block m c 6 t (ix3 g r x) = (V m c main_v23 : FVec Ideal S2x4x4096 .f32) (ix3 g r (rowAt t x)) := by
  simp only [block]
  refine congrArg (V m c main_v23) ?_
  unfold rowAt
  blk_ext [idx t]

/-- The arguments as reals. -/
abbrev arg : Args := mk (A0 m c) (A3 m c) (A1 m c) (A2 m c)

variable {m c} (H : Cert.AttReference.Real (A0 m c) (A3 m c) (A1 m c) (A2 m c))
include H

theorem blocks (t : Fin cfg0.N) : Blocks (arg m c) (block m c 0 t) (block m c 1 t) (block m c 2 t) (block m c 3 t) (block m c 4 t) (block m c 5 t) (block m c 6 t)
    (t.val % 4) (t.val / 4) where
  q h d x := by rw [rd0, host0, ← rowAt_eq]; exact hQ_real H _ _ _
  k g s d := by rw [rd1, host1, ← colAt_eq, hK_at]; exact v1_real H _ _ _
  kt g d s := by rw [rd2, host2, ← colAt_eq, hKt_at]; exact v1_real H _ _ _
  v g s d := by rw [rd3, host3, ← colAt_eq, hV_at]; exact v2_real H _ _ _
  g h d x := by rw [rd4, host4, ← rowAt_eq]; exact hG_real H _ _ _
  o h d x := by rw [rd5, host5, ← rowAt_eq]; exact hOut_real H _ _ _
  l g r x := by rw [rd6, host6, ← rowAt_eq]; exact hLse_real H _ _ _

omit H in
theorem tl_tile (q : Fin 4096) (i : ℕ) (h : i = q.val / 1024) : tl i (tile q) = q := by
  subst h
  exact Fin.ext (by simp only [tl, tile]; omega)

theorem sum7 (h : Fin 8) (d : Fin 64) (q : Fin 4096) :
    upTo (fun u => C7 m c u h d (tile q)) (fun u => u % 4 = q.val / 1024) 15 = ((dq (arg m c) h d q : ℝ) : EReal) := by
  unfold upTo
  simp only [C7, c7_real (blocks H _), coe_ite, coe_sum]
  refine congrArg _ ?_
  refine Eq.trans ?_ ((sum_row (q.val / 1024) (by omega)
    (fun j => ∑ s : Fin 1024, (arg m c).k (tl j s) (grp h) d * ds (arg m c) h q (tl j s))).trans
      (sum_tiles fun s => (arg m c).k s (grp h) d * ds (arg m c) h q s))
  refine Finset.sum_congr rfl fun u _ => ?_
  refine if_ctx_congr Iff.rfl (fun hu => ?_) fun _ => rfl
  rw [tl_tile q _ hu.2]

theorem sum8 (j : ℕ) (hj : j < 4) (t : ℕ) (ht : t = 4 * j + 3) (g : Fin 2) (d : Fin 64) (s : Fin 1024) :
    upTo (fun u => C8 m c u g d s) (fun u => u / 4 = j) t = ((dk (arg m c) g d (tl j s) : ℝ) : EReal) := by
  subst ht
  unfold upTo
  simp only [C8, c8_real (blocks H _), coe_ite, coe_sum]
  refine congrArg _ ?_
  refine Eq.trans ?_ ((sum_col j hj
    (fun i => ∑ r : Fin 4, ∑ x : Fin 1024, (arg m c).q (tl i x) (head g r) d / Real.log 2 * ds (arg m c) (head g r) (tl i x) (tl j s))).trans ?_)
  · refine Finset.sum_congr rfl fun u _ => ?_
    refine if_ctx_congr Iff.rfl (fun hu => ?_) fun _ => rfl
    rw [hu.2]
  · rw [← Finset.sum_add_distrib, ← Finset.sum_add_distrib, ← Finset.sum_add_distrib]
    exact Finset.sum_congr rfl fun r _ => sum_tiles fun x => (arg m c).q x (head g r) d / Real.log 2 * ds (arg m c) (head g r) x (tl j s)

theorem sum9 (j : ℕ) (hj : j < 4) (t : ℕ) (ht : t = 4 * j + 3) (g : Fin 2) (d : Fin 64) (s : Fin 1024) :
    upTo (fun u => C9 m c u g d s) (fun u => u / 4 = j) t = ((dv (arg m c) g d (tl j s) : ℝ) : EReal) := by
  subst ht
  unfold upTo
  simp only [C9, c9_real (blocks H _), coe_ite, coe_sum]
  refine congrArg _ ?_
  refine Eq.trans ?_ ((sum_col j hj
    (fun i => ∑ r : Fin 4, ∑ x : Fin 1024, (arg m c).g (tl i x) (head g r) d * pr (arg m c) (head g r) (tl i x) (tl j s))).trans ?_)
  · refine Finset.sum_congr rfl fun u _ => ?_
    refine if_ctx_congr Iff.rfl (fun hu => ?_) fun _ => rfl
    rw [hu.2]
  · rw [← Finset.sum_add_distrib, ← Finset.sum_add_distrib, ← Finset.sum_add_distrib]
    exact Finset.sum_congr rfl fun r _ => sum_tiles fun x => (arg m c).g x (head g r) d * pr (arg m c) (head g r) x (tl j s)

/-- The three arrays at the end. -/
def G7 (A : Args) : FVec Ideal S8x64x4096 .f32 := fun i => ((dq A (i 0) (i 1) (i 2) : ℝ) : EReal)
def G8 (A : Args) : FVec Ideal S2x64x4096 .f32 := fun i => ((dk A (i 0) (i 1) (i 2) : ℝ) : EReal)
def G9 (A : Args) : FVec Ideal S2x64x4096 .f32 := fun i => ((dv A (i 0) (i 1) (i 2) : ℝ) : EReal)

omit H in
theorem flush7 : ∀ t : Fin cfg0.N, (cfg0.win 7).flush t = true → t.val = 15 := (by decide +kernel : ∀ t : Fin grid0.N, _)
omit H in
theorem flush8 : ∀ t : Fin cfg0.N, (cfg0.win 8).flush t = true → t.val % 4 = 3 := (by decide +kernel : ∀ t : Fin grid0.N, _)
omit H in
theorem flush9 : ∀ t : Fin cfg0.N, (cfg0.win 9).flush t = true → t.val % 4 = 3 := (by decide +kernel : ∀ t : Fin grid0.N, _)

variable (after : (w : Fin cfg0.W) → Fin cfg0.N → (cfg0.win w).block.Idx → Elt Ideal (cfg0.win w).elt)

theorem final7 (hL : ∀ u : Fin cfg0.N, (cfg0.win 7).flush u = true → (rd m c).Leaves 7 u (after 7 u)) :
    ((rd m c).withAfter after).arrAt 7 cfg0.N = G7 (arg m c) := by
  refine ((rd m c).withAfter after).arrAt_eq_of_covers 7 _ (by decide +kernel) fun t hf y => ?_
  have hp : P7 m c t (after 7 t) := Dat.toRRel_leaves (dats m 0 c) (show outs 7 = true from rfl) (hL t hf)
  have h15 := flush7 t hf
  blk_simp
  idx_vars y
  have e : (((cfg0.win 7).blk t).view.emb (ix3 y0 y1 y2) : S8x64x4096.Idx) = ix3 y0 y1 y2 := by blk_ext [idx t]
  have hq := y2.isLt
  refine (hp y0 y1 y2 (by omega)).trans ?_
  rw [h15, sum7 H]
  exact (congrArg (G7 (arg m c)) e).symm

theorem final8 (hL : ∀ u : Fin cfg0.N, (cfg0.win 8).flush u = true → (rd m c).Leaves 8 u (after 8 u)) :
    ((rd m c).withAfter after).arrAt 8 cfg0.N = G8 (arg m c) := by
  refine ((rd m c).withAfter after).arrAt_eq_of_covers 8 _ (by decide +kernel) fun t hf y => ?_
  have hp : P8 m c t (after 8 t) := Dat.toRRel_leaves (dats m 0 c) (show outs 8 = true from rfl) (hL t hf)
  have h3 := flush8 t hf
  have ht := lt16 t
  blk_simp
  idx_vars y
  have e : (((cfg0.win 8).blk t).view.emb (ix3 y0 y1 y2) : S2x64x4096.Idx) = ix3 y0 y1 (colAt t y2) := by
    unfold colAt
    blk_ext [idx t]
  refine (hp y0 y1 y2).trans ?_
  rw [sum8 H (t.val / 4) (by omega) t.val (by omega), ← colAt_eq]
  exact (congrArg (G8 (arg m c)) e).symm

theorem final9 (hL : ∀ u : Fin cfg0.N, (cfg0.win 9).flush u = true → (rd m c).Leaves 9 u (after 9 u)) :
    ((rd m c).withAfter after).arrAt 9 cfg0.N = G9 (arg m c) := by
  refine ((rd m c).withAfter after).arrAt_eq_of_covers 9 _ (by decide +kernel) fun t hf y => ?_
  have hp : P9 m c t (after 9 t) := Dat.toRRel_leaves (dats m 0 c) (show outs 9 = true from rfl) (hL t hf)
  have h3 := flush9 t hf
  have ht := lt16 t
  blk_simp
  idx_vars y
  have e : (((cfg0.win 9).blk t).view.emb (ix3 y0 y1 y2) : S2x64x4096.Idx) = ix3 y0 y1 (colAt t y2) := by
    unfold colAt
    blk_ext [idx t]
  refine (hp y0 y1 y2).trans ?_
  rw [sum9 H (t.val / 4) (by omega) t.val (by omega), ← colAt_eq]
  exact (congrArg (G9 (arg m c)) e).symm

end Cert.AttFinals
-- ==== Proof.AttClaim.lean ====
/- The attention's backward call computes the derivative, of real arguments. -/
module

public import proofs.«01_k».proof.Defs
public import proofs.«01_k».proof.Proof.Gen.Pre_finite_att
public import proofs.«01_k».proof.Proof.AttFinals
public import proofs.«01_k».proof.Proof.Finite

@[expose] public section

set_option maxRecDepth 16384

noncomputable section

open Idealize.ShloMosaic Idealize.ShloMosaic.TcCoe Idealize.SL.Sem

namespace Cert.AttClaim

open AttFinals AttHost AttFrames AttValue

section reference

variable (a0 a3 : FVec Ideal Cert.AttKernelIdeal.S4096x512 .f32) (a1 a2 : FVec Ideal Cert.AttKernelIdeal.S4096x128 .f32)

/-- What the precondition says of the arguments. -/
theorem finite (h : Cert.Pre_finite_att.fn (F := Ideal) a0 a1 a2 a3 = fun _ => 1#1) : Cert.AttReference.Real a0 a3 a1 a2 := by
  simp only [Cert.Pre_finite_att.fn, Cert.Pre_finite_att.fn_part1] at h
  obtain ⟨h, h3⟩ := Finite.split h
  obtain ⟨h, h2⟩ := Finite.split h
  obtain ⟨h, h1⟩ := Finite.split h
  obtain ⟨-, h0⟩ := Finite.split h
  exact
    { q := fun _ => Finite.all_real a0 _ _ _ h0 _
      k := fun _ => Finite.all_real a1 _ _ _ h1 _
      v := fun _ => Finite.all_real a2 _ _ _ h2 _
      g := fun _ => Finite.all_real a3 _ _ _ h3 _ }

end reference

/-- The run of the kernel, of real arguments. -/
theorem kernel (m : (ℓ : Loc Cert.AttKernelIdeal.nD Cert.AttKernelIdeal.τ Cert.AttKernelIdeal.sig) → Buf (Elt Ideal) ℓ) (ρ : Dev Cert.AttKernelIdeal.nD → PrngReg)
    (H : ∀ c, Cert.AttReference.Real (A0 m c) (A3 m c) (A1 m c) (A2 m c)) :
    θ_run (Cert.AttKernelIdeal.defs (F := Ideal)) (onTc (τ := Cert.AttKernelIdeal.τ) (Cert.AttKernelIdeal.main (F := Ideal))) ⟨m, fun _ => 0, ρ⟩
      (fun r => ∀ c : Dev Cert.AttKernelIdeal.nD,
        r.2.mem ((c.tc : Thread Cert.AttKernelIdeal.nD Cert.AttKernelIdeal.τ).loc Cert.AttKernelIdeal.main_v39_0) = G7 (arg m c)
        ∧ r.2.mem ((c.tc : Thread Cert.AttKernelIdeal.nD Cert.AttKernelIdeal.τ).loc Cert.AttKernelIdeal.main_v39_1) = G8 (arg m c)
        ∧ r.2.mem ((c.tc : Thread Cert.AttKernelIdeal.nD Cert.AttKernelIdeal.τ).loc Cert.AttKernelIdeal.main_v39_2) = G9 (arg m c)
        ∧ r.2.mem ((c.tc : Thread Cert.AttKernelIdeal.nD Cert.AttKernelIdeal.τ).loc Cert.AttKernelIdeal.main_arg0) = m ((c.tc : Thread Cert.AttKernelIdeal.nD Cert.AttKernelIdeal.τ).loc Cert.AttKernelIdeal.main_arg0)
        ∧ r.2.mem ((c.tc : Thread Cert.AttKernelIdeal.nD Cert.AttKernelIdeal.τ).loc Cert.AttKernelIdeal.main_arg1) = m ((c.tc : Thread Cert.AttKernelIdeal.nD Cert.AttKernelIdeal.τ).loc Cert.AttKernelIdeal.main_arg1)
        ∧ r.2.mem ((c.tc : Thread Cert.AttKernelIdeal.nD Cert.AttKernelIdeal.τ).loc Cert.AttKernelIdeal.main_arg2) = m ((c.tc : Thread Cert.AttKernelIdeal.nD Cert.AttKernelIdeal.τ).loc Cert.AttKernelIdeal.main_arg2)
        ∧ r.2.mem ((c.tc : Thread Cert.AttKernelIdeal.nD Cert.AttKernelIdeal.τ).loc Cert.AttKernelIdeal.main_arg3) = m ((c.tc : Thread Cert.AttKernelIdeal.nD Cert.AttKernelIdeal.τ).loc Cert.AttKernelIdeal.main_arg3)) := by
  refine (θ_run Cert.AttKernelIdeal.defs _ _).mono (fun r h c => ?_) (runs m ρ)
  obtain ⟨after, hL, hA⟩ := Pipeline.RDat.FramePost.exists_exact h.1 c
  exact ⟨(hA 7).trans (final7 (H c) after (hL 7)), (hA 8).trans (final8 (H c) after (hL 8)), (hA 9).trans (final9 (H c) after (hL 9)),
    ((h.1 c).2 Cert.AttKernelIdeal.main_arg0 (Pipeline.mem_restRefs_of Cert.AttKernelIdeal.main_arg0 (by decide) (by decide))).trans (V_arg m c _ (.inl rfl)),
    ((h.1 c).2 Cert.AttKernelIdeal.main_arg1 (Pipeline.mem_restRefs_of Cert.AttKernelIdeal.main_arg1 (by decide) (by decide))).trans (V_arg m c _ (.inr (.inl rfl))),
    ((h.1 c).2 Cert.AttKernelIdeal.main_arg2 (Pipeline.mem_restRefs_of Cert.AttKernelIdeal.main_arg2 (by decide) (by decide))).trans (V_arg m c _ (.inr (.inr (.inl rfl)))),
    ((h.1 c).2 Cert.AttKernelIdeal.main_arg3 (Pipeline.mem_restRefs_of Cert.AttKernelIdeal.main_arg3 (by decide) (by decide))).trans (V_arg m c _ (.inr (.inr (.inr rfl))))⟩

theorem value : Cert.algebraic_AttKernelIdeal_AttReferenceIdeal_pre_finite_att := by
  intro m g m' g' hpre hagree
  have H : ∀ c, Cert.AttReference.Real (A0 m c) (A3 m c) (A1 m c) (A2 m c) := fun c => finite _ _ _ _ (hpre c)
  refine ⟨fun c => G7 (arg m c), fun c => G8 (arg m c), fun c => G9 (arg m c), kernel m g H, ?_⟩
  refine (θ_run Cert.AttReferenceIdeal.defs _ _).mono (fun r h c => ?_) (Cert.AttReferenceIdeal.Value.run m' g')
  obtain ⟨h0, h1, h2, h3⟩ := hagree c
  obtain ⟨e0, e1, e2, er⟩ := h c
  refine ⟨e0.trans ?_, e1.trans ?_, e2.trans ?_, er⟩
  · rw [Cert.AttReferenceIdeal.Read.val_main_v62_eq, h0, h1, h2, h3]
    funext i; idx_vars i
    exact AttReference.v62_real (H c) _ _ _
  · rw [Cert.AttReferenceIdeal.Read.val_main_v68_eq, h0, h1, h2, h3]
    funext i; idx_vars i
    exact AttReference.v68_real (H c) _ _ _
  · refine (Cert.AttReferenceIdeal.Read.val_main_v70_eq (F := Ideal) _ _ _).trans ?_
    rw [h0, h1, h3]
    funext i; idx_vars i
    exact AttReference.v70_real (H c) _ _ _

end Cert.AttClaim

end
-- ==== Proof.FwdKernel.lean ====
/- The forward pass into the input projection: the modulated norm and the projected, reordered columns, block by block. -/
module

public import proofs.«01_k».proof.Proof.Gen.FwdKernelIdeal.Value
public import proofs.«01_k».proof.Proof.InKernel
public import proofs.«01_k».proof.Proof.InSpec
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.FwdValue

open Cert.FwdKernelIdeal Cert.FwdKernelIdeal.Gen
open FinValue (at2)
open InValue (col colN)
open HeadNorm (eps)
open RowNorm (c1024)

/-- The modulated norm of one token. -/
def hid (x : Fin 4096 → Fin 1024 → EReal) (mod : Fin 3072 → EReal) (g : Fin 1024 → EReal) (n : Fin 4096) (d : Fin 1024) : EReal :=
  x n d * RowNorm.rr (x n) * g d * InSpec.s1 mod d + mod ⟨d.val, by omega⟩

/-- Its projection, the columns in the order in which they are kept. -/
def proj (x : Fin 4096 → Fin 1024 → EReal) (mod : Fin 3072 → EReal) (g : Fin 1024 → EReal) (w : Fin 1024 → Fin 4864 → EReal)
    (n : Fin 4096) (j : Fin 4864) : EReal := ∑ d, hid x mod g n d * w d (col j)

/-! The vectors of the body. -/

theorem pay1_at (a b c d) (x : Fin 512) (j : Fin 1024) : k0_pay1 (F := Ideal) a b c d (ix2 x j) =
    a (ix2 x j) * Ideal.rsqrt (Ideal.div (∑ k : Fin 1024, a (ix2 x k) * a (ix2 x k)) c1024 + eps) * b (ix2 (0 : Fin 1) j) *
      (1 + c (ix2 (0 : Fin 1) j)) + d (ix2 (0 : Fin 1) j) := by
  pointwise [k0_pay1]

theorem pay2_at (a b c d e) (x : Fin 512) (j : Fin 4864) : k0_pay2 (F := Ideal) a b c d e (ix2 x j) =
    ∑ k : Fin 1024, k0_pay1 (F := Ideal) a b c d (ix2 x k) * e (ix2 k j) := by
  pointwise [k0_pay2]

variable (m : (ℓ : Loc nD τ sig) → Buf (Elt Ideal) ℓ)

/-- The arguments. -/
abbrev aX (c : Dev nD) : Fin 4096 → Fin 1024 → EReal := at2 (m ((c : Thread nD τ).loc main_arg0) : FVec Ideal S4096x1024 .f32)
abbrev aM (c : Dev nD) (e : Fin 3072) : EReal := (m ((c : Thread nD τ).loc main_arg1) : FVec Ideal S3072 .f32) (ix1 e)
abbrev aG (c : Dev nD) (e : Fin 1024) : EReal := (m ((c : Thread nD τ).loc main_arg2) : FVec Ideal S1024 .f32) (ix1 e)
abbrev aW (c : Dev nD) : Fin 1024 → Fin 4864 → EReal := at2 (m ((c : Thread nD τ).loc main_arg3) : FVec Ideal S1024x4864 .f32)

/-! The operands. -/

set_option maxHeartbeats 4000000 in
theorem colsW (c : Dev nD) (n : Fin 1024) (j : Fin 4864) :
    (V m c main_v12 : FVec Ideal S1024x4864 .bf16) (ix2 n j) = aW m c n (col j) := by
  have hj := j.isLt
  unfold V
  after_reads_at
  split_ifs <;> after_reads_at
  all_goals refine congrArg (fun q => (m ((c : Thread nD τ).loc main_arg3) : FVec Ideal S1024x4864 .f32) (ix2 n q)) (Fin.ext ?_)
  all_goals
    show (_ : ℕ) = colN _
    unfold colN
    dsimp only
    split_ifs <;> omega

theorem scaleR (c : Dev nD) (e : Fin 1024) : (V m c main_v0 : FVec Ideal S3x1024 .f32) (ix2 (1 : Fin 3) e) = aM m c ⟨1024 + e.val, by omega⟩ := by
  unfold V
  after_reads_at

theorem shiftR (c : Dev nD) (e : Fin 1024) : (V m c main_v0 : FVec Ideal S3x1024 .f32) (ix2 (0 : Fin 3) e) = aM m c ⟨e.val, by omega⟩ := by
  unfold V
  after_reads_at

theorem gainR (c : Dev nD) (e : Fin 1024) : (V m c main_v1 : FVec Ideal S1x1024 .f32) (ix2 (0 : Fin 1) e) = aG m c e := by
  unfold V
  after_reads_at

/-! The windows of a block. -/

theorem idx : ∀ t : Fin cfg0.N, win0_0.index t = ![t.val, 0] ∧ win0_1.index t = ![0, 0] ∧ win0_2.index t = ![0, 0] ∧
    win0_3.index t = ![0, 0] ∧ win0_4.index t = ![t.val, 0] ∧ win0_5.index t = ![t.val, 0] :=
  (by decide +kernel : ∀ t : Fin grid0.N, _)

/-- Row `x` of block `t`. -/
def row (t : Fin cfg0.N) (x : Fin 512) : Fin 4096 :=
  ⟨t.val * 512 + x.val, by have h : t.val < 8 := N_0 ▸ t.isLt; omega⟩

theorem rd0 (c : Dev nD) (t : Fin cfg0.N) (x : Fin 512) (j : Fin 1024) : iblk m c 0 t (ix2 x j) = aX m c (row t x) j := by
  simp only [iblk]
  rw [V_main_arg0]
  refine congrArg (m _) ?_
  unfold row
  blk_ext [idx t]

theorem rd1 (c : Dev nD) (t : Fin cfg0.N) (x : Fin 3) (j : Fin 1024) :
    iblk m c 1 t (ix2 x j) = (V m c main_v0 : FVec Ideal S3x1024 .f32) (ix2 x j) := by
  simp only [iblk]
  refine congrArg (V m c main_v0) ?_
  blk_ext [idx t]

theorem rd2 (c : Dev nD) (t : Fin cfg0.N) (j : Fin 1024) : iblk m c 2 t (ix2 (0 : Fin 1) j) = aG m c j := by
  rw [← gainR]
  simp only [iblk]
  refine congrArg (V m c main_v1) ?_
  blk_ext [idx t]

theorem rd3 (c : Dev nD) (t : Fin cfg0.N) (x : Fin 1024) (j : Fin 4864) : iblk m c 3 t (ix2 x j) = aW m c x (col j) := by
  rw [← colsW]
  simp only [iblk]
  refine congrArg (V m c main_v12) ?_
  blk_ext [idx t]

/-- A row of the modulation, read out of its block. -/
theorem modB (c : Dev nD) (t : Fin cfg0.N) (k : Fin 3) (i) (j : Fin 1024) :
    View.ld (iblk m c 1 t) (Rect.unit (s := S3x1024) ![k.val, 0] ![1, 1024] i) (ix2 (0 : Fin 1) j) =
      (V m c main_v0 : FVec Ideal S3x1024 .f32) (ix2 k j) := by
  refine Eq.trans ?_ (rd1 m c t k j)
  refine congrArg (iblk m c 1 t) ?_
  funext a
  refine Fin.ext ?_
  match a with
  | 0 => show k.val + 1 * 0 = k.val; omega
  | 1 => show 0 + 1 * j.val = j.val; omega

theorem scaleB (c : Dev nD) (t : Fin cfg0.N) (i) (j : Fin 1024) :
    (1 : EReal) + (View.ld (iblk m c 1 t) (Rect.unit (s := S3x1024) ![1, 0] ![1, 1024] i) (ix2 (0 : Fin 1) j) : EReal) = InSpec.s1 (aM m c) j :=
  congrArg (fun q : EReal => 1 + q) ((modB m c t 1 i j).trans (scaleR m c j))

theorem shiftB (c : Dev nD) (t : Fin cfg0.N) (i) (j : Fin 1024) :
    (View.ld (iblk m c 1 t) (Rect.unit (s := S3x1024) ![0, 0] ![1, 1024] i) (ix2 (0 : Fin 1) j) : EReal) = aM m c ⟨j.val, by omega⟩ :=
  (modB m c t 0 i j).trans (shiftR m c j)

/-- The modulated norm in block `t`. -/
theorem hidB (c : Dev nD) (t : Fin cfg0.N) (i i') (x : Fin 512) (j : Fin 1024) :
    k0_pay1 (F := Ideal) (iblk m c 0 t) (iblk m c 2 t) (View.ld (iblk m c 1 t) (Rect.unit (s := S3x1024) ![1, 0] ![1, 1024] i))
      (View.ld (iblk m c 1 t) (Rect.unit (s := S3x1024) ![0, 0] ![1, 1024] i')) (ix2 x j) = hid (aX m c) (aM m c) (aG m c) (row t x) j := by
  rw [pay1_at, scaleB, shiftB, rd2]
  simp only [rd0]
  rfl

/-- One block of either result. -/
theorem point5 (c : Dev nD) (t : Fin cfg0.N) (x : Fin 512) (j : Fin 1024) :
    out0_5 (iblk m c 0 t) (iblk m c 1 t) (iblk m c 2 t) (iblk m c 3 t) (ix2 x j) = hid (aX m c) (aM m c) (aG m c) (row t x) j := by
  frame_out
  exact hidB m c t _ _ x j

theorem point4 (c : Dev nD) (t : Fin cfg0.N) (x : Fin 512) (j : Fin 4864) :
    out0_4 (iblk m c 0 t) (iblk m c 1 t) (iblk m c 2 t) (iblk m c 3 t) (ix2 x j) = proj (aX m c) (aM m c) (aG m c) (aW m c) (row t x) j := by
  frame_out
  rw [pay2_at]
  simp only [hidB, rd3]
  rfl

theorem final4 (c : Dev nD) : (dats m 0 c).arrAt 4 (cfgs 0).N =
    (fun i => proj (aX m c) (aM m c) (aG m c) (aW m c) (i 0) (i 1) : FVec Ideal S4096x4864 .bf16) := by
  refine (dats m 0 c).arrAt_eq_of_covers 4 _ (by decide +kernel) fun t hf y => ?_
  blk_simp
  rw [after0_4]
  idx_vars y
  have e : (((cfg0.win 4).blk t).view.emb (ix2 y0 y1) : S4096x4864.Idx) = ix2 (row t y0) y1 := by
    unfold row
    blk_ext [idx t]
  rw [e]
  exact point4 m c t y0 y1

theorem final5 (c : Dev nD) : (dats m 0 c).arrAt 5 (cfgs 0).N =
    (fun i => hid (aX m c) (aM m c) (aG m c) (i 0) (i 1) : FVec Ideal S4096x1024 .bf16) := by
  refine (dats m 0 c).arrAt_eq_of_covers 5 _ (by decide +kernel) fun t hf y => ?_
  blk_simp
  rw [after0_5]
  idx_vars y
  have e : (((cfg0.win 5).blk t).view.emb (ix2 y0 y1) : S4096x1024.Idx) = ix2 (row t y0) y1 := by
    unfold row
    blk_ext [idx t]
  rw [e]
  exact point5 m c t y0 y1

end Cert.FwdValue

end
-- ==== Proof.FwdReference.lean ====
/- The reference of the forward pass into the input projection, one element at a time. -/
module

public import proofs.«01_k».proof.Proof.Gen.FwdReferenceIdeal.Read
public import proofs.«01_k».proof.Proof.FwdKernel

@[expose] public section

set_option maxRecDepth 16384

noncomputable section

open Idealize.ShloMosaic Idealize.ShloMosaic.TcCoe Idealize.SL.Sem

namespace Cert.FwdRef

open Cert.FwdReferenceIdeal Cert.FwdReferenceIdeal.Read
open FinValue (at2)
open InValue (col colN)
open FwdValue (hid proj)

variable (x0 : FVec Ideal S4096x1024 .f32) (x1 : FVec Ideal S3072 .f32) (x2 : FVec Ideal S1024 .f32) (x3 : FVec Ideal S1024x4864 .f32)

theorem v10_at (n : Fin 4096) : (val_main_v10 (F := Ideal) x0 : FVec Ideal S4096x1 .f32) (ix2 n (0 : Fin 1)) = RowNorm.rr (at2 x0 n) := by
  pointwise [val_main_cst, val_main_cst_0, val_main_cst_1, val_main_v3, val_main_v4, val_main_v5, val_main_v6, val_main_v7, val_main_v8,
    val_main_v9, val_main_v10]
  rfl

theorem v23_at (n : Fin 4096) (d : Fin 1024) : (val_main_v23 (F := Ideal) x0 x1 x2 : FVec Ideal S4096x1024 .f32) (ix2 n d) =
    hid (at2 x0) (fun e => x1 (ix1 e)) (fun e => x2 (ix1 e)) n d := by
  pointwise [val_main_cst_2, val_main_v0, val_main_v1, val_main_v11, val_main_v12, val_main_v13, val_main_v14, val_main_v15, val_main_v16,
    val_main_v17, val_main_v18, val_main_v19, val_main_v20, val_main_v21, val_main_v22, val_main_v23]
  rw [v10_at]
  rfl

theorem v36_at (n : Fin 4096) (d : Fin 1024) : (val_main_v36 (F := Ideal) x0 x1 x2 : FVec Ideal S4096x1024 .bf16) (ix2 n d) =
    hid (at2 x0) (fun e => x1 (ix1 e)) (fun e => x2 (ix1 e)) n d := by
  pointwise [val_main_v36]
  exact v23_at x0 x1 x2 n d

theorem v24_at (n : Fin 4096) (j : Fin 4864) : (val_main_v24 (F := Ideal) x0 x1 x2 x3 : FVec Ideal S4096x4864 .f32) (ix2 n j) =
    ∑ d, hid (at2 x0) (fun e => x1 (ix1 e)) (fun e => x2 (ix1 e)) n d * x3 (ix2 d j) := by
  pointwise [val_main_v24]
  simp only [v23_at]

set_option maxHeartbeats 4000000 in
theorem v35_at (n : Fin 4096) (j : Fin 4864) : (val_main_v35 (F := Ideal) x0 x1 x2 x3 : FVec Ideal S4096x4864 .bf16) (ix2 n j) =
    proj (at2 x0) (fun e => x1 (ix1 e)) (fun e => x2 (ix1 e)) (at2 x3) n j := by
  have hj := j.isLt
  refine Eq.trans ?_ (v24_at x0 x1 x2 x3 n (col j))
  pointwise [val_main_v25, val_main_v26, val_main_v27, val_main_v28, val_main_v29, val_main_v30, val_main_v31, val_main_v32, val_main_v33,
    val_main_v34, val_main_v35]
  split_ifs
  all_goals refine congrArg (fun q => (val_main_v24 (F := Ideal) x0 x1 x2 x3 : FVec Ideal S4096x4864 .f32) (ix2 n q)) (Fin.ext ?_)
  all_goals
    show (_ : ℕ) = colN _
    unfold colN
    dsimp only
    split_ifs <;> omega

end Cert.FwdRef

end
-- ==== Proof.FwdClaim.lean ====
/- The claims about the forward pass into the input projection. -/
module

public import proofs.«01_k».proof.Defs
public import proofs.«01_k».proof.Proof.Gen.FwdKernel.Frame
public import proofs.«01_k».proof.Proof.Gen.FwdReferenceIdeal.Run
public import proofs.«01_k».proof.Proof.FwdReference

@[expose] public section

set_option maxRecDepth 16384

noncomputable section

open Idealize.ShloMosaic Idealize.ShloMosaic.TcCoe Idealize.SL.Sem

namespace Cert.FwdClaim

open FinValue (at2)

theorem frame_kernel : Cert.quiescent_FwdKernel := fun m ρ _ => Cert.FwdKernel.Gen.frame m ρ

theorem frame_kernelIdeal : Cert.quiescent_FwdKernelIdeal := fun m ρ _ => Cert.FwdKernelIdeal.Gen.frame m ρ

theorem frame_reference : Cert.quiescent_FwdReferenceIdeal := by
  intro m ρ _
  exact (θ_run Cert.FwdReferenceIdeal.defs _ _).mono
    (fun r h => ⟨fun c => (h c).2.2, Idealize.ShloMosaic.sem_eq_zero_of_no_sems (by decide) r.2⟩)
    (Cert.FwdReferenceIdeal.Value.run (F := Ideal) m ρ)

section reference

variable (x0 : FVec Ideal Cert.FwdKernelIdeal.S4096x1024 .f32) (x1 : FVec Ideal Cert.FwdKernelIdeal.S3072 .f32)
  (x2 : FVec Ideal Cert.FwdKernelIdeal.S1024 .f32) (x3 : FVec Ideal Cert.FwdKernelIdeal.S1024x4864 .f32)

/-- The reference's results, written with the kernel's shapes. -/
theorem proj_eq : (Cert.FwdReferenceIdeal.Read.val_main_v35 (F := Ideal) x0 x1 x2 x3 : FVec Ideal Cert.FwdKernelIdeal.S4096x4864 .bf16) =
    fun i => FwdValue.proj (at2 x0) (fun e => x1 (ix1 e)) (fun e => x2 (ix1 e)) (at2 x3) (i 0) (i 1) := by
  funext i
  idx_vars i
  exact FwdRef.v35_at x0 x1 x2 x3 i0 i1

theorem hid_eq : (Cert.FwdReferenceIdeal.Read.val_main_v36 (F := Ideal) x0 x1 x2 : FVec Ideal Cert.FwdKernelIdeal.S4096x1024 .bf16) =
    fun i => FwdValue.hid (at2 x0) (fun e => x1 (ix1 e)) (fun e => x2 (ix1 e)) (i 0) (i 1) := by
  funext i
  idx_vars i
  exact FwdRef.v36_at x0 x1 x2 i0 i1

end reference

theorem value : Cert.algebraic_FwdKernelIdeal_FwdReferenceIdeal := by
  pair_intro
  · run_from Cert.FwdKernelIdeal.Gen.run_main m g
  · run_from Cert.FwdReferenceIdeal.Value.run m' g'
    all_goals obtain ⟨h0, h1, h2, h3⟩ := hagree c
    · rw [Cert.FwdReferenceIdeal.Read.val_main_v35_eq, FwdValue.final4 m c, h0, h1, h2, h3]
      exact proj_eq _ _ _ _
    · rw [Cert.FwdReferenceIdeal.Read.val_main_v36_eq, FwdValue.final5 m c]
      exact hid_eq _ _ _

end Cert.FwdClaim

end
-- ==== Proof.OptKernel.lean ====
/- The optimiser's step for one weight: the sum of the gradient's eight parts, the two moments and the change of the weight. -/
module

public import proofs.«01_k».proof.Proof.Gen.OptKernelIdeal.Value
public import proofs.«01_k».proof.Proof.FinKernel
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.OptValue

open Cert.OptKernelIdeal Cert.OptKernelIdeal.Gen
open FinValue (at2)

/-- The first moment: nine tenths of the old one, and a tenth of the gradient. -/
def mom1 (m g : EReal) : EReal := Ideal.ofBits FTy.f32 0x3F666666#32 * m + Ideal.ofBits FTy.f32 0x3DCCCCCD#32 * g

/-- The second moment, with the gradient's square. -/
def mom2 (v g : EReal) : EReal := Ideal.ofBits FTy.f32 0x3F7FBE77#32 * v + Ideal.ofBits FTy.f32 0x3A83126F#32 * (g * g)

/-- The change of the weight: the corrected moments' quotient, and the decay. -/
def delta (w m v g : EReal) : EReal :=
  Ideal.ofBits FTy.f32 0xBA83126F#32 *
    (Ideal.div (Ideal.div (mom1 m g) (Ideal.ofBits FTy.f32 0x3F26BD02#32))
        (Ideal.sqrt (Ideal.div (mom2 v g) (Ideal.ofBits FTy.f32 0x3C231ACC#32)) + Ideal.ofBits FTy.f32 0x322BCC77#32) +
      Ideal.ofBits FTy.f32 0x3C23D70A#32 * w)

/-! The vectors of the body. -/

theorem pay1_at (g m) (x : Fin 256) (j : Fin 608) : k0_pay1 (F := Ideal) g m (ix2 x j) = mom1 (m (ix2 x j)) (g (ix2 x j)) := by
  pointwise [k0_pay1]
  rfl

theorem pay2_at (g v) (x : Fin 256) (j : Fin 608) : k0_pay2 (F := Ideal) g v (ix2 x j) = mom2 (v (ix2 x j)) (g (ix2 x j)) := by
  pointwise [k0_pay2]
  rfl

theorem pay3_at (g m v w) (x : Fin 256) (j : Fin 608) :
    k0_pay3 (F := Ideal) g m v w (ix2 x j) = delta (w (ix2 x j)) (m (ix2 x j)) (v (ix2 x j)) (g (ix2 x j)) := by
  pointwise [k0_pay3]
  rw [pay1_at, pay2_at]
  rfl

theorem pay4_at (a b c d e f g h) (x : Fin 256) (j : Fin 608) : k0_pay4 (F := Ideal) a b c d e f g h (ix2 x j) =
    a (ix3 (0 : Fin 1) x j) + b (ix3 (0 : Fin 1) x j) + c (ix3 (0 : Fin 1) x j) + d (ix3 (0 : Fin 1) x j) +
      e (ix3 (0 : Fin 1) x j) + f (ix3 (0 : Fin 1) x j) + g (ix3 (0 : Fin 1) x j) + h (ix3 (0 : Fin 1) x j) := by
  pointwise [k0_pay4]

variable (m : (ℓ : Loc nD τ sig) → Buf (Elt Ideal) ℓ)

/-- The arguments. -/
abbrev aP (c : Dev nD) (k : Fin 8) (n : Fin 1024) (j : Fin 608) : EReal :=
  (m ((c : Thread nD τ).loc main_arg0) : FVec Ideal S8x1024x608 .f32) (ix3 k n j)
abbrev aW (c : Dev nD) : Fin 1024 → Fin 608 → EReal := at2 (m ((c : Thread nD τ).loc main_arg1) : FVec Ideal S1024x608 .f32)
abbrev aM (c : Dev nD) : Fin 1024 → Fin 608 → EReal := at2 (m ((c : Thread nD τ).loc main_arg2) : FVec Ideal S1024x608 .f32)
abbrev aV (c : Dev nD) : Fin 1024 → Fin 608 → EReal := at2 (m ((c : Thread nD τ).loc main_arg3) : FVec Ideal S1024x608 .f32)

/-- The gradient. -/
def grad (p : Fin 8 → Fin 1024 → Fin 608 → EReal) (n : Fin 1024) (j : Fin 608) : EReal := ∑ k, p k n j

theorem partR (c : Dev nD) (k : Fin 8) (n : Fin 1024) (j : Fin 608) : (V m c main_v0 : FVec Ideal S8x1024x608 .bf16) (ix3 k n j) = aP m c k n j := by
  unfold V
  after_reads_at

/-! The windows of a block. -/

theorem idx : ∀ t : Fin cfg0.N, win0_0.index t = ![0, t.val, 0] ∧ win0_1.index t = ![t.val, 0] ∧ win0_2.index t = ![t.val, 0] ∧
    win0_3.index t = ![t.val, 0] ∧ win0_4.index t = ![t.val, 0] ∧ win0_5.index t = ![t.val, 0] ∧ win0_6.index t = ![t.val, 0] ∧
    win0_7.index t = ![t.val, 0] :=
  (by decide +kernel : ∀ t : Fin grid0.N, _)

/-- Row `x` of block `t`. -/
def row (t : Fin cfg0.N) (x : Fin 256) : Fin 1024 :=
  ⟨t.val * 256 + x.val, by have h : t.val < 4 := N_0 ▸ t.isLt; omega⟩

theorem rd0 (c : Dev nD) (t : Fin cfg0.N) (k : Fin 8) (x : Fin 256) (j : Fin 608) : iblk m c 0 t (ix3 k x j) = aP m c k (row t x) j := by
  rw [← partR]
  simp only [iblk]
  refine congrArg (V m c main_v0) ?_
  unfold row
  blk_ext [idx t]

theorem rd1 (c : Dev nD) (t : Fin cfg0.N) (x : Fin 256) (j : Fin 608) : iblk m c 1 t (ix2 x j) = aW m c (row t x) j := by
  simp only [iblk]
  rw [V_main_arg1]
  refine congrArg (m _) ?_
  unfold row
  blk_ext [idx t]

theorem rd2 (c : Dev nD) (t : Fin cfg0.N) (x : Fin 256) (j : Fin 608) : iblk m c 2 t (ix2 x j) = aM m c (row t x) j := by
  simp only [iblk]
  rw [V_main_arg2]
  refine congrArg (m _) ?_
  unfold row
  blk_ext [idx t]

theorem rd3 (c : Dev nD) (t : Fin cfg0.N) (x : Fin 256) (j : Fin 608) : iblk m c 3 t (ix2 x j) = aV m c (row t x) j := by
  simp only [iblk]
  rw [V_main_arg3]
  refine congrArg (m _) ?_
  unfold row
  blk_ext [idx t]

/-- One part of the gradient, read out of its block. -/
theorem part_at (c : Dev nD) (t : Fin cfg0.N) (k : ℕ) (hk : k < 8) (i) (x : Fin 256) (j : Fin 608) :
    (View.ld (iblk m c 0 t) (Rect.unit (s := S8x256x608) ![k, 0, 0] ![1, 256, 608] i) (ix3 (0 : Fin 1) x j) : EReal) =
      aP m c ⟨k, hk⟩ (row t x) j := by
  refine Eq.trans ?_ (rd0 m c t ⟨k, hk⟩ x j)
  pointwise

theorem gradB (c : Dev nD) (t : Fin cfg0.N) (x : Fin 256) (j : Fin 608) :
    k0_pay5 (F := Ideal) (iblk m c 0 t) (iblk m c 1 t) (iblk m c 2 t) (iblk m c 3 t) (ix2 x j) = grad (aP m c) (row t x) j := by
  unfold k0_pay5 grad
  rw [pay4_at, Fin.sum_univ_eight]
  exact congrArg₂ (· + ·) (congrArg₂ (· + ·) (congrArg₂ (· + ·) (congrArg₂ (· + ·) (congrArg₂ (· + ·) (congrArg₂ (· + ·)
    (congrArg₂ (· + ·) (part_at m c t 0 (by decide) _ x j) (part_at m c t 1 (by decide) _ x j)) (part_at m c t 2 (by decide) _ x j))
    (part_at m c t 3 (by decide) _ x j)) (part_at m c t 4 (by decide) _ x j)) (part_at m c t 5 (by decide) _ x j))
    (part_at m c t 6 (by decide) _ x j)) (part_at m c t 7 (by decide) _ x j)

/-! One block of each result. -/

theorem point4 (c : Dev nD) (t : Fin cfg0.N) (x : Fin 256) (j : Fin 608) :
    out0_4 (iblk m c 0 t) (iblk m c 1 t) (iblk m c 2 t) (iblk m c 3 t) (ix2 x j) = grad (aP m c) (row t x) j := by
  frame_out
  exact gradB m c t x j

theorem point5 (c : Dev nD) (t : Fin cfg0.N) (x : Fin 256) (j : Fin 608) :
    out0_5 (iblk m c 0 t) (iblk m c 1 t) (iblk m c 2 t) (iblk m c 3 t) (ix2 x j) =
      delta (aW m c (row t x) j) (aM m c (row t x) j) (aV m c (row t x) j) (grad (aP m c) (row t x) j) := by
  frame_out
  rw [pay3_at, gradB, rd1, rd2, rd3]

theorem point6 (c : Dev nD) (t : Fin cfg0.N) (x : Fin 256) (j : Fin 608) :
    out0_6 (iblk m c 0 t) (iblk m c 1 t) (iblk m c 2 t) (iblk m c 3 t) (ix2 x j) = mom1 (aM m c (row t x) j) (grad (aP m c) (row t x) j) := by
  frame_out
  rw [pay1_at, gradB, rd2]

theorem point7 (c : Dev nD) (t : Fin cfg0.N) (x : Fin 256) (j : Fin 608) :
    out0_7 (iblk m c 0 t) (iblk m c 1 t) (iblk m c 2 t) (iblk m c 3 t) (ix2 x j) = mom2 (aV m c (row t x) j) (grad (aP m c) (row t x) j) := by
  frame_out
  rw [pay2_at, gradB, rd3]

theorem final4 (c : Dev nD) : (dats m 0 c).arrAt 4 (cfgs 0).N =
    (fun i => grad (aP m c) (i 0) (i 1) : FVec Ideal S1024x608 .f32) := by
  refine (dats m 0 c).arrAt_eq_of_covers 4 _ (by decide +kernel) fun t hf y => ?_
  blk_simp
  rw [after0_4]
  idx_vars y
  have e : (((cfg0.win 4).blk t).view.emb (ix2 y0 y1) : S1024x608.Idx) = ix2 (row t y0) y1 := by
    unfold row
    blk_ext [idx t]
  rw [e]
  exact point4 m c t y0 y1

theorem final5 (c : Dev nD) : (dats m 0 c).arrAt 5 (cfgs 0).N =
    (fun i => delta (aW m c (i 0) (i 1)) (aM m c (i 0) (i 1)) (aV m c (i 0) (i 1)) (grad (aP m c) (i 0) (i 1)) : FVec Ideal S1024x608 .f32) := by
  refine (dats m 0 c).arrAt_eq_of_covers 5 _ (by decide +kernel) fun t hf y => ?_
  blk_simp
  rw [after0_5]
  idx_vars y
  have e : (((cfg0.win 5).blk t).view.emb (ix2 y0 y1) : S1024x608.Idx) = ix2 (row t y0) y1 := by
    unfold row
    blk_ext [idx t]
  rw [e]
  exact point5 m c t y0 y1

theorem final6 (c : Dev nD) : (dats m 0 c).arrAt 6 (cfgs 0).N =
    (fun i => mom1 (aM m c (i 0) (i 1)) (grad (aP m c) (i 0) (i 1)) : FVec Ideal S1024x608 .f32) := by
  refine (dats m 0 c).arrAt_eq_of_covers 6 _ (by decide +kernel) fun t hf y => ?_
  blk_simp
  rw [after0_6]
  idx_vars y
  have e : (((cfg0.win 6).blk t).view.emb (ix2 y0 y1) : S1024x608.Idx) = ix2 (row t y0) y1 := by
    unfold row
    blk_ext [idx t]
  rw [e]
  exact point6 m c t y0 y1

theorem final7 (c : Dev nD) : (dats m 0 c).arrAt 7 (cfgs 0).N =
    (fun i => mom2 (aV m c (i 0) (i 1)) (grad (aP m c) (i 0) (i 1)) : FVec Ideal S1024x608 .f32) := by
  refine (dats m 0 c).arrAt_eq_of_covers 7 _ (by decide +kernel) fun t hf y => ?_
  blk_simp
  rw [after0_7]
  idx_vars y
  have e : (((cfg0.win 7).blk t).view.emb (ix2 y0 y1) : S1024x608.Idx) = ix2 (row t y0) y1 := by
    unfold row
    blk_ext [idx t]
  rw [e]
  exact point7 m c t y0 y1

end Cert.OptValue

end
-- ==== Proof.OptClaim.lean ====
/- The claims about the optimiser's step. -/
module

public import proofs.«01_k».proof.Defs
public import proofs.«01_k».proof.Proof.Gen.OptKernel.Frame
public import proofs.«01_k».proof.Proof.Gen.OptReferenceIdeal.Run
public import proofs.«01_k».proof.Proof.Gen.OptReferenceIdeal.Read
public import proofs.«01_k».proof.Proof.OptKernel

@[expose] public section

set_option maxRecDepth 16384

noncomputable section

open Idealize.ShloMosaic Idealize.ShloMosaic.TcCoe Idealize.SL.Sem

namespace Cert.OptClaim

open FinValue (at2)
open OptValue (grad mom1 mom2 delta)

theorem frame_kernel : Cert.quiescent_OptKernel := fun m ρ _ => Cert.OptKernel.Gen.frame m ρ

theorem frame_kernelIdeal : Cert.quiescent_OptKernelIdeal := fun m ρ _ => Cert.OptKernelIdeal.Gen.frame m ρ

theorem frame_reference : Cert.quiescent_OptReferenceIdeal := by
  intro m ρ _
  exact (θ_run Cert.OptReferenceIdeal.defs _ _).mono
    (fun r h => ⟨fun c => (h c).2.2.2.2, Idealize.ShloMosaic.sem_eq_zero_of_no_sems (by decide) r.2⟩)
    (Cert.OptReferenceIdeal.Value.run (F := Ideal) m ρ)

section reference

open Cert.OptReferenceIdeal.Read

variable (x0 : FVec Ideal Cert.OptKernelIdeal.S8x1024x608 .f32) (x1 x2 x3 : FVec Ideal Cert.OptKernelIdeal.S1024x608 .f32)

/-! The reference's results, written with the kernel's shapes. -/

theorem v0_at (n : Fin 1024) (j : Fin 608) :
    (val_main_v0 (F := Ideal) x0 : FVec Ideal Cert.OptKernelIdeal.S1024x608 .f32) (ix2 n j) = grad (fun k n j => x0 (ix3 k n j)) n j := by
  pointwise [val_main_cst, val_main_v0]
  rfl

theorem v5_at (n : Fin 1024) (j : Fin 608) : (val_main_v5 (F := Ideal) x0 x2 : FVec Ideal Cert.OptKernelIdeal.S1024x608 .f32) (ix2 n j) =
    mom1 (at2 x2 n j) (grad (fun k n j => x0 (ix3 k n j)) n j) := by
  rw [← v0_at]
  pointwise [val_main_cst_0, val_main_cst_1, val_main_v1, val_main_v2, val_main_v3, val_main_v4, val_main_v5]
  rfl

theorem v11_at (n : Fin 1024) (j : Fin 608) : (val_main_v11 (F := Ideal) x0 x3 : FVec Ideal Cert.OptKernelIdeal.S1024x608 .f32) (ix2 n j) =
    mom2 (at2 x3 n j) (grad (fun k n j => x0 (ix3 k n j)) n j) := by
  rw [← v0_at]
  pointwise [val_main_cst_2, val_main_cst_3, val_main_v6, val_main_v7, val_main_v8, val_main_v9, val_main_v10, val_main_v11]
  rfl

theorem v24_at (n : Fin 1024) (j : Fin 608) : (val_main_v24 (F := Ideal) x0 x1 x2 x3 : FVec Ideal Cert.OptKernelIdeal.S1024x608 .f32) (ix2 n j) =
    delta (at2 x1 n j) (at2 x2 n j) (at2 x3 n j) (grad (fun k n j => x0 (ix3 k n j)) n j) := by
  unfold delta
  rw [← v5_at, ← v11_at]
  pointwise [val_main_cst_4, val_main_cst_5, val_main_cst_6, val_main_cst_7, val_main_cst_8, val_main_v12, val_main_v13, val_main_v14,
    val_main_v15, val_main_v16, val_main_v17, val_main_v18, val_main_v19, val_main_v20, val_main_v21, val_main_v22, val_main_v23, val_main_v24]

theorem grad_eq : (val_main_v0 (F := Ideal) x0 : FVec Ideal Cert.OptKernelIdeal.S1024x608 .f32) =
    fun i => grad (fun k n j => x0 (ix3 k n j)) (i 0) (i 1) := by
  funext i
  idx_vars i
  exact v0_at x0 i0 i1

theorem delta_eq : (val_main_v24 (F := Ideal) x0 x1 x2 x3 : FVec Ideal Cert.OptKernelIdeal.S1024x608 .f32) =
    fun i => delta (at2 x1 (i 0) (i 1)) (at2 x2 (i 0) (i 1)) (at2 x3 (i 0) (i 1)) (grad (fun k n j => x0 (ix3 k n j)) (i 0) (i 1)) := by
  funext i
  idx_vars i
  exact v24_at x0 x1 x2 x3 i0 i1

theorem mom1_eq : (val_main_v5 (F := Ideal) x0 x2 : FVec Ideal Cert.OptKernelIdeal.S1024x608 .f32) =
    fun i => mom1 (at2 x2 (i 0) (i 1)) (grad (fun k n j => x0 (ix3 k n j)) (i 0) (i 1)) := by
  funext i
  idx_vars i
  exact v5_at x0 x2 i0 i1

theorem mom2_eq : (val_main_v11 (F := Ideal) x0 x3 : FVec Ideal Cert.OptKernelIdeal.S1024x608 .f32) =
    fun i => mom2 (at2 x3 (i 0) (i 1)) (grad (fun k n j => x0 (ix3 k n j)) (i 0) (i 1)) := by
  funext i
  idx_vars i
  exact v11_at x0 x3 i0 i1

end reference

set_option maxHeartbeats 4000000 in
theorem value : Cert.algebraic_OptKernelIdeal_OptReferenceIdeal := by
  pair_intro
  · run_from Cert.OptKernelIdeal.Gen.run_main m g
  · run_from Cert.OptReferenceIdeal.Value.run m' g'
    · rw [OptValue.final4 m c]
      exact grad_eq _
    · rw [Cert.OptReferenceIdeal.Read.val_main_v24_eq, OptValue.final5 m c]
      exact delta_eq _ _ _ _
    · rw [Cert.OptReferenceIdeal.Read.val_main_v5_eq, OptValue.final6 m c]
      exact mom1_eq _ _
    · rw [Cert.OptReferenceIdeal.Read.val_main_v11_eq, OptValue.final7 m c]
      exact mom2_eq _ _

end Cert.OptClaim

end
-- ==== Proof.MmKernel.lean ====
/- A weight's gradient as a product over the tokens: the columns of the cotangent in four blocks, each against the whole of the layer's input. -/
module

public import proofs.«01_k».proof.Proof.Gen.MmKernelIdeal.Value
public import proofs.«01_k».proof.Proof.FinKernel
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.MmValue

open Cert.MmKernelIdeal Cert.MmKernelIdeal.Gen
open FinValue (at2)

/-- The product of the transpose with the cotangent. -/
def dw (h : Fin 4096 → Fin 1024 → EReal) (d : Fin 4096 → Fin 2560 → EReal) (a : Fin 1024) (b : Fin 2560) : EReal := ∑ n, h n a * d n b

theorem pay1_at (a b) (x : Fin 1024) (j : Fin 640) : k0_pay1 (F := Ideal) a b (ix2 x j) =
    ∑ n : Fin 4096, a (ix2 n x) * b (ix2 n j) := by
  pointwise [k0_pay1]

theorem pay3_at (a) (x : Fin 1024) (j : Fin 640) : k0_pay3 (F := Ideal) a (ix2 x j) = a (ix2 x j) := by
  pointwise [k0_pay3]

variable (m : (ℓ : Loc nD τ sig) → Buf (Elt Ideal) ℓ)

/-- The arguments. -/
abbrev aH (c : Dev nD) : Fin 4096 → Fin 1024 → EReal := at2 (m ((c : Thread nD τ).loc main_arg0) : FVec Ideal S4096x1024 .f32)
abbrev aD (c : Dev nD) : Fin 4096 → Fin 2560 → EReal := at2 (m ((c : Thread nD τ).loc main_arg1) : FVec Ideal S4096x2560 .f32)

theorem inR (c : Dev nD) (n : Fin 4096) (j : Fin 1024) : (V m c main_v0 : FVec Ideal S4096x1024 .bf16) (ix2 n j) = aH m c n j := by
  unfold V
  after_reads_at

theorem cotR (c : Dev nD) (n : Fin 4096) (j : Fin 2560) : (V m c main_v1 : FVec Ideal S4096x2560 .bf16) (ix2 n j) = aD m c n j := by
  unfold V
  after_reads_at

/-! The windows of a block. -/

theorem idx : ∀ t : Fin cfg0.N, win0_0.index t = ![0, 0] ∧ win0_1.index t = ![0, t.val] ∧ win0_2.index t = ![0, t.val] :=
  (by decide +kernel : ∀ t : Fin grid0.N, _)

/-- Column `j` of block `t`. -/
def colB (t : Fin cfg0.N) (j : Fin 640) : Fin 2560 :=
  ⟨t.val * 640 + j.val, by have h : t.val < 4 := N_0 ▸ t.isLt; omega⟩

theorem rd0 (c : Dev nD) (t : Fin cfg0.N) (n : Fin 4096) (j : Fin 1024) : iblk m c 0 t (ix2 n j) = aH m c n j := by
  rw [← inR]
  simp only [iblk]
  refine congrArg (V m c main_v0) ?_
  blk_ext [idx t]

theorem rd1 (c : Dev nD) (t : Fin cfg0.N) (n : Fin 4096) (j : Fin 640) : iblk m c 1 t (ix2 n j) = aD m c n (colB t j) := by
  rw [← cotR]
  simp only [iblk]
  refine congrArg (V m c main_v1) ?_
  unfold colB
  blk_ext [idx t]

/-- One block of the result: the scratch holds the block's sum once, and is then copied out. -/
theorem point (c : Dev nD) (t : Fin cfg0.N) (x : Fin 1024) (j : Fin 640) : outsAt0 m c t (ix2 x j) = dw (aH m c) (aD m c) x (colB t j) := by
  have e : k0_pay1 (F := Ideal) (iblk m c 0 t) (iblk m c 1 t) (ix2 x j) = dw (aH m c) (aD m c) x (colB t j) := by
    rw [pay1_at]
    simp only [rd0, rd1]
    rfl
  unfold outsAt0
  frame_out
  refine Eq.trans ?_ e
  rfl

theorem final2 (c : Dev nD) : (dats m 0 c).arrAt 2 (cfgs 0).N =
    (fun i => dw (aH m c) (aD m c) (i 0) (i 1) : FVec Ideal S1024x2560 .bf16) := by
  refine (dats m 0 c).arrAt_eq_of_covers 2 _ (by decide +kernel) fun t hf y => ?_
  blk_simp
  rw [after0_2]
  idx_vars y
  have e : (((cfg0.win 2).blk t).view.emb (ix2 y0 y1) : S1024x2560.Idx) = ix2 y0 (colB t y1) := by
    unfold colB
    blk_ext [idx t]
  rw [e]
  exact point m c t y0 y1

end Cert.MmValue

end
-- ==== Proof.MmClaim.lean ====
/- The claims about a weight's gradient as a plain product. -/
module

public import proofs.«01_k».proof.Defs
public import proofs.«01_k».proof.Proof.Gen.MmKernel.Frame
public import proofs.«01_k».proof.Proof.Gen.MmReferenceIdeal.Run
public import proofs.«01_k».proof.Proof.Gen.MmReferenceIdeal.Read
public import proofs.«01_k».proof.Proof.MmKernel

@[expose] public section

set_option maxRecDepth 16384

noncomputable section

open Idealize.ShloMosaic Idealize.ShloMosaic.TcCoe Idealize.SL.Sem

namespace Cert.MmClaim

open FinValue (at2)
open MmValue (dw)

theorem frame_kernel : Cert.quiescent_MmKernel := fun m ρ _ => Cert.MmKernel.Gen.frame m ρ

theorem frame_kernelIdeal : Cert.quiescent_MmKernelIdeal := fun m ρ _ => Cert.MmKernelIdeal.Gen.frame m ρ

theorem frame_reference : Cert.quiescent_MmReferenceIdeal := by
  intro m ρ _
  exact (θ_run Cert.MmReferenceIdeal.defs _ _).mono
    (fun r h => ⟨fun c => (h c).2, Idealize.ShloMosaic.sem_eq_zero_of_no_sems (by decide) r.2⟩)
    (Cert.MmReferenceIdeal.Value.run (F := Ideal) m ρ)

/-- The reference's product, written with the kernel's shapes. -/
theorem dw_eq (x0 : FVec Ideal Cert.MmKernelIdeal.S4096x1024 .f32) (x1 : FVec Ideal Cert.MmKernelIdeal.S4096x2560 .f32) :
    (Cert.MmReferenceIdeal.Read.val_main_v2 (F := Ideal) x0 x1 : FVec Ideal Cert.MmKernelIdeal.S1024x2560 .bf16) =
      fun i => dw (at2 x0) (at2 x1) (i 0) (i 1) := by
  funext i
  idx_vars i
  pointwise [Cert.MmReferenceIdeal.Read.val_main_v0, Cert.MmReferenceIdeal.Read.val_main_v1, Cert.MmReferenceIdeal.Read.val_main_v2]
  rfl

theorem value : Cert.algebraic_MmKernelIdeal_MmReferenceIdeal := by
  pair_intro
  · run_from Cert.MmKernelIdeal.Gen.run_main m g
  · run_from Cert.MmReferenceIdeal.Value.run m' g'
    rw [Cert.MmReferenceIdeal.Read.val_main_v2_eq, MmValue.final2 m c]
    exact dw_eq _ _

end Cert.MmClaim

end
-- ==== Proof.lean ====
/- All the claims, put together from the modules that prove them. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.FinClaim
public import proofs.«01_k».proof.Proof.Gen.PrepKernel
public import proofs.«01_k».proof.Proof.Gen.PrepKernelIdeal
public import proofs.«01_k».proof.Proof.Gen.PrepReferenceIdeal
public import proofs.«01_k».proof.Proof.Gen.PrepKernelIdeal.Value
public import proofs.«01_k».proof.Proof.Gen.PrepReferenceIdeal.Run
public import proofs.«01_k».proof.Proof.Gen.PrepReferenceIdeal.Read
public import proofs.«01_k».proof.Proof.PrepFrames
public import proofs.«01_k».proof.Proof.PrepClaim
public import proofs.«01_k».proof.Proof.Gen.InKernel
public import proofs.«01_k».proof.Proof.Gen.InKernelIdeal
public import proofs.«01_k».proof.Proof.Gen.InReferenceIdeal
public import proofs.«01_k».proof.Proof.Gen.InKernelIdeal.Value
public import proofs.«01_k».proof.Proof.Gen.InReferenceIdeal.Run
public import proofs.«01_k».proof.Proof.Gen.InReferenceIdeal.Read
public import proofs.«01_k».proof.Proof.InFrames
public import proofs.«01_k».proof.Proof.InClaim
public import proofs.«01_k».proof.Proof.Gen.MidKernel
public import proofs.«01_k».proof.Proof.Gen.MidKernelIdeal
public import proofs.«01_k».proof.Proof.Gen.MidReferenceIdeal
public import proofs.«01_k».proof.Proof.Gen.MidKernelIdeal.Value
public import proofs.«01_k».proof.Proof.Gen.MidReferenceIdeal.Run
public import proofs.«01_k».proof.Proof.Gen.MidReferenceIdeal.Read
public import proofs.«01_k».proof.Proof.MidFrames
public import proofs.«01_k».proof.Proof.MidClaim
public import proofs.«01_k».proof.Proof.Gen.AttKernel
public import proofs.«01_k».proof.Proof.Gen.AttKernelIdeal
public import proofs.«01_k».proof.Proof.Gen.AttReferenceIdeal
public import proofs.«01_k».proof.Proof.Gen.AttReferenceIdeal.Run
public import proofs.«01_k».proof.Proof.Gen.AttReferenceIdeal.Read
public import proofs.«01_k».proof.Proof.AttFrames
public import proofs.«01_k».proof.Proof.AttClaim
public import proofs.«01_k».proof.Proof.Gen.FwdKernel
public import proofs.«01_k».proof.Proof.Gen.FwdKernelIdeal
public import proofs.«01_k».proof.Proof.Gen.FwdReferenceIdeal
public import proofs.«01_k».proof.Proof.Gen.FwdKernelIdeal.Value
public import proofs.«01_k».proof.Proof.Gen.FwdReferenceIdeal.Run
public import proofs.«01_k».proof.Proof.Gen.FwdReferenceIdeal.Read
public import proofs.«01_k».proof.Proof.FwdClaim
public import proofs.«01_k».proof.Proof.Gen.OptKernel
public import proofs.«01_k».proof.Proof.Gen.OptKernelIdeal
public import proofs.«01_k».proof.Proof.Gen.OptReferenceIdeal
public import proofs.«01_k».proof.Proof.Gen.OptKernelIdeal.Value
public import proofs.«01_k».proof.Proof.Gen.OptReferenceIdeal.Run
public import proofs.«01_k».proof.Proof.Gen.OptReferenceIdeal.Read
public import proofs.«01_k».proof.Proof.OptClaim
public import proofs.«01_k».proof.Proof.Gen.MmKernel
public import proofs.«01_k».proof.Proof.Gen.MmKernelIdeal
public import proofs.«01_k».proof.Proof.Gen.MmReferenceIdeal
public import proofs.«01_k».proof.Proof.Gen.MmKernelIdeal.Value
public import proofs.«01_k».proof.Proof.Gen.MmReferenceIdeal.Run
public import proofs.«01_k».proof.Proof.Gen.MmReferenceIdeal.Read
public import proofs.«01_k».proof.Proof.MmClaim

@[expose] public section

noncomputable section

namespace Cert.Proof

theorem claim : Cert.Claim :=
  ⟨Cert.Kernel.Gen.facts,
    Cert.KernelIdeal.Gen.facts,
    Cert.ReferenceIdeal.Gen.facts,
    Cert.PrepKernel.Gen.facts,
    Cert.PrepKernelIdeal.Gen.facts,
    Cert.PrepReferenceIdeal.Gen.facts,
    Cert.InKernel.Gen.facts,
    Cert.InKernelIdeal.Gen.facts,
    Cert.InReferenceIdeal.Gen.facts,
    Cert.MidKernel.Gen.facts,
    Cert.MidKernelIdeal.Gen.facts,
    Cert.MidReferenceIdeal.Gen.facts,
    Cert.AttKernel.Gen.facts,
    Cert.AttKernelIdeal.Gen.facts,
    Cert.AttReferenceIdeal.Gen.facts,
    Cert.FwdKernel.Gen.facts,
    Cert.FwdKernelIdeal.Gen.facts,
    Cert.FwdReferenceIdeal.Gen.facts,
    Cert.OptKernel.Gen.facts,
    Cert.OptKernelIdeal.Gen.facts,
    Cert.OptReferenceIdeal.Gen.facts,
    Cert.MmKernel.Gen.facts,
    Cert.MmKernelIdeal.Gen.facts,
    Cert.MmReferenceIdeal.Gen.facts,
    Cert.Pre_finite_prep.Gen.facts,
    Cert.Pre_finite_in.Gen.facts,
    Cert.Pre_finite_mid.Gen.facts,
    Cert.Pre_finite_att.Gen.facts,
    FinClaim.frame_kernel,
    FinClaim.frame_kernelIdeal,
    FinClaim.frame_reference,
    PrepFrames.kernel,
    PrepFrames.kernelIdeal,
    fun m g _ => PrepFrames.kernelIdeal m g trivial,
    PrepFrames.reference,
    fun m g _ => PrepFrames.reference m g trivial,
    InFrames.kernel,
    InFrames.kernelIdeal,
    fun m g _ => InFrames.kernelIdeal m g trivial,
    InFrames.reference,
    fun m g _ => InFrames.reference m g trivial,
    MidFrames.kernel,
    MidFrames.kernelIdeal,
    fun m g _ => MidFrames.kernelIdeal m g trivial,
    MidFrames.reference,
    fun m g _ => MidFrames.reference m g trivial,
    AttFrames.kernel,
    AttFrames.kernelIdeal,
    fun m g _ => AttFrames.kernelIdeal m g trivial,
    AttFrames.reference,
    fun m g _ => AttFrames.reference m g trivial,
    FwdClaim.frame_kernel,
    FwdClaim.frame_kernelIdeal,
    FwdClaim.frame_reference,
    OptClaim.frame_kernel,
    OptClaim.frame_kernelIdeal,
    OptClaim.frame_reference,
    MmClaim.frame_kernel,
    MmClaim.frame_kernelIdeal,
    MmClaim.frame_reference,
    trivial,
    FinClaim.value,
    Idealize.ShloMosaic.IdealRules.named_const.statement _ _ _ _ _ rfl,
    PrepClaim.value,
    trivial,
    InClaim.value,
    trivial,
    MidClaim.value,
    trivial,
    AttClaim.value,
    trivial,
    FwdClaim.value,
    trivial,
    OptClaim.value,
    trivial,
    MmClaim.value⟩

end Cert.Proof

end
